-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MoeUp [hPre_tiles_named : Cert.Pre_tiles_named.Facts] (m : (ℓ : Loc Cert.MoeUp.nD Cert.MoeUp.τ Cert.MoeUp.sig) → Buf (Elt Bits) ℓ) : Prop :=
  ∀ c : Dev Cert.MoeUp.nD,
    (Cert.Pre_tiles_named.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_tiles_named : Cert.Pre_tiles_named.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_tiles_named.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_tiles_named [hPre_tiles_named : Cert.Pre_tiles_named.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_tiles_named.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))) = (fun _ => 1#1)

def Pre_MoeUpLast [hPre_tiles_named_last : Cert.Pre_tiles_named_last.Facts] (m : (ℓ : Loc Cert.MoeUpLast.nD Cert.MoeUpLast.τ Cert.MoeUpLast.sig) → Buf (Elt Bits) ℓ) : Prop :=
  ∀ c : Dev Cert.MoeUpLast.nD,
    (Cert.Pre_tiles_named_last.fn (F := Bits) (m ((c.tc : Thread Cert.MoeUpLast.nD Cert.MoeUpLast.τ).loc Cert.MoeUpLast.main_arg0)) (m ((c.tc : Thread Cert.MoeUpLast.nD Cert.MoeUpLast.τ).loc Cert.MoeUpLast.main_arg1)) (m ((c.tc : Thread Cert.MoeUpLast.nD Cert.MoeUpLast.τ).loc Cert.MoeUpLast.main_arg2)) (m ((c.tc : Thread Cert.MoeUpLast.nD Cert.MoeUpLast.τ).loc Cert.MoeUpLast.main_arg3)) (m ((c.tc : Thread Cert.MoeUpLast.nD Cert.MoeUpLast.τ).loc Cert.MoeUpLast.main_arg4))) = (fun _ => 1#1)

def Pre_MoeUpLastIdeal [hPre_tiles_named_last : Cert.Pre_tiles_named_last.Facts] (m : (ℓ : Loc Cert.MoeUpLastIdeal.nD Cert.MoeUpLastIdeal.τ Cert.MoeUpLastIdeal.sig) → Buf (Elt Ideal) ℓ) : Prop :=
  ∀ c : Dev Cert.MoeUpLastIdeal.nD,
    (Cert.Pre_tiles_named_last.fn (F := Ideal) (m ((c.tc : Thread Cert.MoeUpLastIdeal.nD Cert.MoeUpLastIdeal.τ).loc Cert.MoeUpLastIdeal.main_arg0)) (m ((c.tc : Thread Cert.MoeUpLastIdeal.nD Cert.MoeUpLastIdeal.τ).loc Cert.MoeUpLastIdeal.main_arg1)) (m ((c.tc : Thread Cert.MoeUpLastIdeal.nD Cert.MoeUpLastIdeal.τ).loc Cert.MoeUpLastIdeal.main_arg2)) (m ((c.tc : Thread Cert.MoeUpLastIdeal.nD Cert.MoeUpLastIdeal.τ).loc Cert.MoeUpLastIdeal.main_arg3)) (m ((c.tc : Thread Cert.MoeUpLastIdeal.nD Cert.MoeUpLastIdeal.τ).loc Cert.MoeUpLastIdeal.main_arg4))) = (fun _ => 1#1)

def Pre_MoeUpLastRefIdeal (m : (ℓ : Loc Cert.MoeUpLastRefIdeal.nD Cert.MoeUpLastRefIdeal.τ Cert.MoeUpLastRefIdeal.sig) → Buf (Elt Ideal) ℓ) : Prop :=
  True

def Pre_MoeUpLastRefIdeal_tiles_named_last [hPre_tiles_named_last : Cert.Pre_tiles_named_last.Facts] (m : (ℓ : Loc Cert.MoeUpLastRefIdeal.nD Cert.MoeUpLastRefIdeal.τ Cert.MoeUpLastRefIdeal.sig) → Buf (Elt Ideal) ℓ) : Prop :=
  ∀ c : Dev Cert.MoeUpLastRefIdeal.nD,
    (Cert.Pre_tiles_named_last.fn (F := Ideal) (m ((c.tc : Thread Cert.MoeUpLastRefIdeal.nD Cert.MoeUpLastRefIdeal.τ).loc Cert.MoeUpLastRefIdeal.main_arg0)) (m ((c.tc : Thread Cert.MoeUpLastRefIdeal.nD Cert.MoeUpLastRefIdeal.τ).loc Cert.MoeUpLastRefIdeal.main_arg1)) (m ((c.tc : Thread Cert.MoeUpLastRefIdeal.nD Cert.MoeUpLastRefIdeal.τ).loc Cert.MoeUpLastRefIdeal.main_arg2)) (m ((c.tc : Thread Cert.MoeUpLastRefIdeal.nD Cert.MoeUpLastRefIdeal.τ).loc Cert.MoeUpLastRefIdeal.main_arg3)) (m ((c.tc : Thread Cert.MoeUpLastRefIdeal.nD Cert.MoeUpLastRefIdeal.τ).loc Cert.MoeUpLastRefIdeal.main_arg4))) = (fun _ => 1#1)

def Pre_MoeDown [hPre_tiles_named_down : Cert.Pre_tiles_named_down.Facts] (m : (ℓ : Loc Cert.MoeDown.nD Cert.MoeDown.τ Cert.MoeDown.sig) → Buf (Elt Bits) ℓ) : Prop :=
  ∀ c : Dev Cert.MoeDown.nD,
    (Cert.Pre_tiles_named_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_tiles_named_down : Cert.Pre_tiles_named_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_tiles_named_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_tiles_named_down [hPre_tiles_named_down : Cert.Pre_tiles_named_down.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_tiles_named_down.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_MoeDownLast [hPre_tiles_named_down_last : Cert.Pre_tiles_named_down_last.Facts] (m : (ℓ : Loc Cert.MoeDownLast.nD Cert.MoeDownLast.τ Cert.MoeDownLast.sig) → Buf (Elt Bits) ℓ) : Prop :=
  ∀ c : Dev Cert.MoeDownLast.nD,
    (Cert.Pre_tiles_named_down_last.fn (F := Bits) (m ((c.tc : Thread Cert.MoeDownLast.nD Cert.MoeDownLast.τ).loc Cert.MoeDownLast.main_arg0)) (m ((c.tc : Thread Cert.MoeDownLast.nD Cert.MoeDownLast.τ).loc Cert.MoeDownLast.main_arg1)) (m ((c.tc : Thread Cert.MoeDownLast.nD Cert.MoeDownLast.τ).loc Cert.MoeDownLast.main_arg2)) (m ((c.tc : Thread Cert.MoeDownLast.nD Cert.MoeDownLast.τ).loc Cert.MoeDownLast.main_arg3))) = (fun _ => 1#1)

def Pre_MoeDownLastIdeal [hPre_tiles_named_down_last : Cert.Pre_tiles_named_down_last.Facts] (m : (ℓ : Loc Cert.MoeDownLastIdeal.nD Cert.MoeDownLastIdeal.τ Cert.MoeDownLastIdeal.sig) → Buf (Elt Ideal) ℓ) : Prop :=
  ∀ c : Dev Cert.MoeDownLastIdeal.nD,
    (Cert.Pre_tiles_named_down_last.fn (F := Ideal) (m ((c.tc : Thread Cert.MoeDownLastIdeal.nD Cert.MoeDownLastIdeal.τ).loc Cert.MoeDownLastIdeal.main_arg0)) (m ((c.tc : Thread Cert.MoeDownLastIdeal.nD Cert.MoeDownLastIdeal.τ).loc Cert.MoeDownLastIdeal.main_arg1)) (m ((c.tc : Thread Cert.MoeDownLastIdeal.nD Cert.MoeDownLastIdeal.τ).loc Cert.MoeDownLastIdeal.main_arg2)) (m ((c.tc : Thread Cert.MoeDownLastIdeal.nD Cert.MoeDownLastIdeal.τ).loc Cert.MoeDownLastIdeal.main_arg3))) = (fun _ => 1#1)

def Pre_MoeDownLastRefIdeal (m : (ℓ : Loc Cert.MoeDownLastRefIdeal.nD Cert.MoeDownLastRefIdeal.τ Cert.MoeDownLastRefIdeal.sig) → Buf (Elt Ideal) ℓ) : Prop :=
  True

def Pre_MoeDownLastRefIdeal_tiles_named_down_last [hPre_tiles_named_down_last : Cert.Pre_tiles_named_down_last.Facts] (m : (ℓ : Loc Cert.MoeDownLastRefIdeal.nD Cert.MoeDownLastRefIdeal.τ Cert.MoeDownLastRefIdeal.sig) → Buf (Elt Ideal) ℓ) : Prop :=
  ∀ c : Dev Cert.MoeDownLastRefIdeal.nD,
    (Cert.Pre_tiles_named_down_last.fn (F := Ideal) (m ((c.tc : Thread Cert.MoeDownLastRefIdeal.nD Cert.MoeDownLastRefIdeal.τ).loc Cert.MoeDownLastRefIdeal.main_arg0)) (m ((c.tc : Thread Cert.MoeDownLastRefIdeal.nD Cert.MoeDownLastRefIdeal.τ).loc Cert.MoeDownLastRefIdeal.main_arg1)) (m ((c.tc : Thread Cert.MoeDownLastRefIdeal.nD Cert.MoeDownLastRefIdeal.τ).loc Cert.MoeDownLastRefIdeal.main_arg2)) (m ((c.tc : Thread Cert.MoeDownLastRefIdeal.nD Cert.MoeDownLastRefIdeal.τ).loc Cert.MoeDownLastRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_MoeUp [hMoeUp : Cert.MoeUp.Facts] [hPre_tiles_named : Cert.Pre_tiles_named.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_tiles_named : Cert.Pre_tiles_named.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpRefIdeal_pre_tiles_named [hMoeUpRefIdeal : Cert.MoeUpRefIdeal.Facts] [hPre_tiles_named : Cert.Pre_tiles_named.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_tiles_named m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpLast [hMoeUpLast : Cert.MoeUpLast.Facts] [hPre_tiles_named_last : Cert.Pre_tiles_named_last.Facts] : Prop :=
  ∀ (m : (ℓ : Loc Cert.MoeUpLast.nD Cert.MoeUpLast.τ Cert.MoeUpLast.sig) → Buf (Elt Bits) ℓ) (g : Dev Cert.MoeUpLast.nD → PrngReg), Pre_MoeUpLast m →
    θ_run (Cert.MoeUpLast.defs (F := Bits)) (onTc (τ := Cert.MoeUpLast.τ) (Cert.MoeUpLast.main (F := Bits))) ⟨m, fun _ => 0, g⟩ (fun r => (∀ c : Dev Cert.MoeUpLast.nD,
      r.2.mem ((c.tc : Thread Cert.MoeUpLast.nD Cert.MoeUpLast.τ).loc Cert.MoeUpLast.main_arg0) = m ((c.tc : Thread Cert.MoeUpLast.nD Cert.MoeUpLast.τ).loc Cert.MoeUpLast.main_arg0)
      ∧ r.2.mem ((c.tc : Thread Cert.MoeUpLast.nD Cert.MoeUpLast.τ).loc Cert.MoeUpLast.main_arg1) = m ((c.tc : Thread Cert.MoeUpLast.nD Cert.MoeUpLast.τ).loc Cert.MoeUpLast.main_arg1)
      ∧ r.2.mem ((c.tc : Thread Cert.MoeUpLast.nD Cert.MoeUpLast.τ).loc Cert.MoeUpLast.main_arg2) = m ((c.tc : Thread Cert.MoeUpLast.nD Cert.MoeUpLast.τ).loc Cert.MoeUpLast.main_arg2)
      ∧ r.2.mem ((c.tc : Thread Cert.MoeUpLast.nD Cert.MoeUpLast.τ).loc Cert.MoeUpLast.main_arg3) = m ((c.tc : Thread Cert.MoeUpLast.nD Cert.MoeUpLast.τ).loc Cert.MoeUpLast.main_arg3)
      ∧ r.2.mem ((c.tc : Thread Cert.MoeUpLast.nD Cert.MoeUpLast.τ).loc Cert.MoeUpLast.main_arg4) = m ((c.tc : Thread Cert.MoeUpLast.nD Cert.MoeUpLast.τ).loc Cert.MoeUpLast.main_arg4))
      ∧ r.2.sem = fun _ => 0)

def quiescent_MoeUpLastIdeal [hMoeUpLastIdeal : Cert.MoeUpLastIdeal.Facts] [hPre_tiles_named_last : Cert.Pre_tiles_named_last.Facts] : Prop :=
  ∀ (m : (ℓ : Loc Cert.MoeUpLastIdeal.nD Cert.MoeUpLastIdeal.τ Cert.MoeUpLastIdeal.sig) → Buf (Elt Ideal) ℓ) (g : Dev Cert.MoeUpLastIdeal.nD → PrngReg), Pre_MoeUpLastIdeal m →
    θ_run (Cert.MoeUpLastIdeal.defs (F := Ideal)) (onTc (τ := Cert.MoeUpLastIdeal.τ) (Cert.MoeUpLastIdeal.main (F := Ideal))) ⟨m, fun _ => 0, g⟩ (fun r => (∀ c : Dev Cert.MoeUpLastIdeal.nD,
      r.2.mem ((c.tc : Thread Cert.MoeUpLastIdeal.nD Cert.MoeUpLastIdeal.τ).loc Cert.MoeUpLastIdeal.main_arg0) = m ((c.tc : Thread Cert.MoeUpLastIdeal.nD Cert.MoeUpLastIdeal.τ).loc Cert.MoeUpLastIdeal.main_arg0)
      ∧ r.2.mem ((c.tc : Thread Cert.MoeUpLastIdeal.nD Cert.MoeUpLastIdeal.τ).loc Cert.MoeUpLastIdeal.main_arg1) = m ((c.tc : Thread Cert.MoeUpLastIdeal.nD Cert.MoeUpLastIdeal.τ).loc Cert.MoeUpLastIdeal.main_arg1)
      ∧ r.2.mem ((c.tc : Thread Cert.MoeUpLastIdeal.nD Cert.MoeUpLastIdeal.τ).loc Cert.MoeUpLastIdeal.main_arg2) = m ((c.tc : Thread Cert.MoeUpLastIdeal.nD Cert.MoeUpLastIdeal.τ).loc Cert.MoeUpLastIdeal.main_arg2)
      ∧ r.2.mem ((c.tc : Thread Cert.MoeUpLastIdeal.nD Cert.MoeUpLastIdeal.τ).loc Cert.MoeUpLastIdeal.main_arg3) = m ((c.tc : Thread Cert.MoeUpLastIdeal.nD Cert.MoeUpLastIdeal.τ).loc Cert.MoeUpLastIdeal.main_arg3)
      ∧ r.2.mem ((c.tc : Thread Cert.MoeUpLastIdeal.nD Cert.MoeUpLastIdeal.τ).loc Cert.MoeUpLastIdeal.main_arg4) = m ((c.tc : Thread Cert.MoeUpLastIdeal.nD Cert.MoeUpLastIdeal.τ).loc Cert.MoeUpLastIdeal.main_arg4))
      ∧ r.2.sem = fun _ => 0)

def quiescent_MoeUpLastRefIdeal [hMoeUpLastRefIdeal : Cert.MoeUpLastRefIdeal.Facts] : Prop :=
  ∀ (m : (ℓ : Loc Cert.MoeUpLastRefIdeal.nD Cert.MoeUpLastRefIdeal.τ Cert.MoeUpLastRefIdeal.sig) → Buf (Elt Ideal) ℓ) (g : Dev Cert.MoeUpLastRefIdeal.nD → PrngReg), Pre_MoeUpLastRefIdeal m →
    θ_run (Cert.MoeUpLastRefIdeal.defs (F := Ideal)) (onTc (τ := Cert.MoeUpLastRefIdeal.τ) (Cert.MoeUpLastRefIdeal.main (F := Ideal))) ⟨m, fun _ => 0, g⟩ (fun r => (∀ c : Dev Cert.MoeUpLastRefIdeal.nD,
      r.2.mem ((c.tc : Thread Cert.MoeUpLastRefIdeal.nD Cert.MoeUpLastRefIdeal.τ).loc Cert.MoeUpLastRefIdeal.main_arg0) = m ((c.tc : Thread Cert.MoeUpLastRefIdeal.nD Cert.MoeUpLastRefIdeal.τ).loc Cert.MoeUpLastRefIdeal.main_arg0)
      ∧ r.2.mem ((c.tc : Thread Cert.MoeUpLastRefIdeal.nD Cert.MoeUpLastRefIdeal.τ).loc Cert.MoeUpLastRefIdeal.main_arg1) = m ((c.tc : Thread Cert.MoeUpLastRefIdeal.nD Cert.MoeUpLastRefIdeal.τ).loc Cert.MoeUpLastRefIdeal.main_arg1)
      ∧ r.2.mem ((c.tc : Thread Cert.MoeUpLastRefIdeal.nD Cert.MoeUpLastRefIdeal.τ).loc Cert.MoeUpLastRefIdeal.main_arg2) = m ((c.tc : Thread Cert.MoeUpLastRefIdeal.nD Cert.MoeUpLastRefIdeal.τ).loc Cert.MoeUpLastRefIdeal.main_arg2)
      ∧ r.2.mem ((c.tc : Thread Cert.MoeUpLastRefIdeal.nD Cert.MoeUpLastRefIdeal.τ).loc Cert.MoeUpLastRefIdeal.main_arg3) = m ((c.tc : Thread Cert.MoeUpLastRefIdeal.nD Cert.MoeUpLastRefIdeal.τ).loc Cert.MoeUpLastRefIdeal.main_arg3)
      ∧ r.2.mem ((c.tc : Thread Cert.MoeUpLastRefIdeal.nD Cert.MoeUpLastRefIdeal.τ).loc Cert.MoeUpLastRefIdeal.main_arg4) = m ((c.tc : Thread Cert.MoeUpLastRefIdeal.nD Cert.MoeUpLastRefIdeal.τ).loc Cert.MoeUpLastRefIdeal.main_arg4))
      ∧ r.2.sem = fun _ => 0)

def quiescent_MoeUpLastRefIdeal_pre_tiles_named_last [hMoeUpLastRefIdeal : Cert.MoeUpLastRefIdeal.Facts] [hPre_tiles_named_last : Cert.Pre_tiles_named_last.Facts] : Prop :=
  ∀ (m : (ℓ : Loc Cert.MoeUpLastRefIdeal.nD Cert.MoeUpLastRefIdeal.τ Cert.MoeUpLastRefIdeal.sig) → Buf (Elt Ideal) ℓ) (g : Dev Cert.MoeUpLastRefIdeal.nD → PrngReg), Pre_MoeUpLastRefIdeal_tiles_named_last m →
    θ_run (Cert.MoeUpLastRefIdeal.defs (F := Ideal)) (onTc (τ := Cert.MoeUpLastRefIdeal.τ) (Cert.MoeUpLastRefIdeal.main (F := Ideal))) ⟨m, fun _ => 0, g⟩ (fun r => (∀ c : Dev Cert.MoeUpLastRefIdeal.nD,
      r.2.mem ((c.tc : Thread Cert.MoeUpLastRefIdeal.nD Cert.MoeUpLastRefIdeal.τ).loc Cert.MoeUpLastRefIdeal.main_arg0) = m ((c.tc : Thread Cert.MoeUpLastRefIdeal.nD Cert.MoeUpLastRefIdeal.τ).loc Cert.MoeUpLastRefIdeal.main_arg0)
      ∧ r.2.mem ((c.tc : Thread Cert.MoeUpLastRefIdeal.nD Cert.MoeUpLastRefIdeal.τ).loc Cert.MoeUpLastRefIdeal.main_arg1) = m ((c.tc : Thread Cert.MoeUpLastRefIdeal.nD Cert.MoeUpLastRefIdeal.τ).loc Cert.MoeUpLastRefIdeal.main_arg1)
      ∧ r.2.mem ((c.tc : Thread Cert.MoeUpLastRefIdeal.nD Cert.MoeUpLastRefIdeal.τ).loc Cert.MoeUpLastRefIdeal.main_arg2) = m ((c.tc : Thread Cert.MoeUpLastRefIdeal.nD Cert.MoeUpLastRefIdeal.τ).loc Cert.MoeUpLastRefIdeal.main_arg2)
      ∧ r.2.mem ((c.tc : Thread Cert.MoeUpLastRefIdeal.nD Cert.MoeUpLastRefIdeal.τ).loc Cert.MoeUpLastRefIdeal.main_arg3) = m ((c.tc : Thread Cert.MoeUpLastRefIdeal.nD Cert.MoeUpLastRefIdeal.τ).loc Cert.MoeUpLastRefIdeal.main_arg3)
      ∧ r.2.mem ((c.tc : Thread Cert.MoeUpLastRefIdeal.nD Cert.MoeUpLastRefIdeal.τ).loc Cert.MoeUpLastRefIdeal.main_arg4) = m ((c.tc : Thread Cert.MoeUpLastRefIdeal.nD Cert.MoeUpLastRefIdeal.τ).loc Cert.MoeUpLastRefIdeal.main_arg4))
      ∧ r.2.sem = fun _ => 0)

def quiescent_MoeDown [hMoeDown : Cert.MoeDown.Facts] [hPre_tiles_named_down : Cert.Pre_tiles_named_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_tiles_named_down : Cert.Pre_tiles_named_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_tiles_named_down [hMoeDownRefIdeal : Cert.MoeDownRefIdeal.Facts] [hPre_tiles_named_down : Cert.Pre_tiles_named_down.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_tiles_named_down m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownLast [hMoeDownLast : Cert.MoeDownLast.Facts] [hPre_tiles_named_down_last : Cert.Pre_tiles_named_down_last.Facts] : Prop :=
  ∀ (m : (ℓ : Loc Cert.MoeDownLast.nD Cert.MoeDownLast.τ Cert.MoeDownLast.sig) → Buf (Elt Bits) ℓ) (g : Dev Cert.MoeDownLast.nD → PrngReg), Pre_MoeDownLast m →
    θ_run (Cert.MoeDownLast.defs (F := Bits)) (onTc (τ := Cert.MoeDownLast.τ) (Cert.MoeDownLast.main (F := Bits))) ⟨m, fun _ => 0, g⟩ (fun r => (∀ c : Dev Cert.MoeDownLast.nD,
      r.2.mem ((c.tc : Thread Cert.MoeDownLast.nD Cert.MoeDownLast.τ).loc Cert.MoeDownLast.main_arg0) = m ((c.tc : Thread Cert.MoeDownLast.nD Cert.MoeDownLast.τ).loc Cert.MoeDownLast.main_arg0)
      ∧ r.2.mem ((c.tc : Thread Cert.MoeDownLast.nD Cert.MoeDownLast.τ).loc Cert.MoeDownLast.main_arg1) = m ((c.tc : Thread Cert.MoeDownLast.nD Cert.MoeDownLast.τ).loc Cert.MoeDownLast.main_arg1)
      ∧ r.2.mem ((c.tc : Thread Cert.MoeDownLast.nD Cert.MoeDownLast.τ).loc Cert.MoeDownLast.main_arg2) = m ((c.tc : Thread Cert.MoeDownLast.nD Cert.MoeDownLast.τ).loc Cert.MoeDownLast.main_arg2)
      ∧ r.2.mem ((c.tc : Thread Cert.MoeDownLast.nD Cert.MoeDownLast.τ).loc Cert.MoeDownLast.main_arg3) = m ((c.tc : Thread Cert.MoeDownLast.nD Cert.MoeDownLast.τ).loc Cert.MoeDownLast.main_arg3))
      ∧ r.2.sem = fun _ => 0)

def quiescent_MoeDownLastIdeal [hMoeDownLastIdeal : Cert.MoeDownLastIdeal.Facts] [hPre_tiles_named_down_last : Cert.Pre_tiles_named_down_last.Facts] : Prop :=
  ∀ (m : (ℓ : Loc Cert.MoeDownLastIdeal.nD Cert.MoeDownLastIdeal.τ Cert.MoeDownLastIdeal.sig) → Buf (Elt Ideal) ℓ) (g : Dev Cert.MoeDownLastIdeal.nD → PrngReg), Pre_MoeDownLastIdeal m →
    θ_run (Cert.MoeDownLastIdeal.defs (F := Ideal)) (onTc (τ := Cert.MoeDownLastIdeal.τ) (Cert.MoeDownLastIdeal.main (F := Ideal))) ⟨m, fun _ => 0, g⟩ (fun r => (∀ c : Dev Cert.MoeDownLastIdeal.nD,
      r.2.mem ((c.tc : Thread Cert.MoeDownLastIdeal.nD Cert.MoeDownLastIdeal.τ).loc Cert.MoeDownLastIdeal.main_arg0) = m ((c.tc : Thread Cert.MoeDownLastIdeal.nD Cert.MoeDownLastIdeal.τ).loc Cert.MoeDownLastIdeal.main_arg0)
      ∧ r.2.mem ((c.tc : Thread Cert.MoeDownLastIdeal.nD Cert.MoeDownLastIdeal.τ).loc Cert.MoeDownLastIdeal.main_arg1) = m ((c.tc : Thread Cert.MoeDownLastIdeal.nD Cert.MoeDownLastIdeal.τ).loc Cert.MoeDownLastIdeal.main_arg1)
      ∧ r.2.mem ((c.tc : Thread Cert.MoeDownLastIdeal.nD Cert.MoeDownLastIdeal.τ).loc Cert.MoeDownLastIdeal.main_arg2) = m ((c.tc : Thread Cert.MoeDownLastIdeal.nD Cert.MoeDownLastIdeal.τ).loc Cert.MoeDownLastIdeal.main_arg2)
      ∧ r.2.mem ((c.tc : Thread Cert.MoeDownLastIdeal.nD Cert.MoeDownLastIdeal.τ).loc Cert.MoeDownLastIdeal.main_arg3) = m ((c.tc : Thread Cert.MoeDownLastIdeal.nD Cert.MoeDownLastIdeal.τ).loc Cert.MoeDownLastIdeal.main_arg3))
      ∧ r.2.sem = fun _ => 0)

def quiescent_MoeDownLastRefIdeal [hMoeDownLastRefIdeal : Cert.MoeDownLastRefIdeal.Facts] : Prop :=
  ∀ (m : (ℓ : Loc Cert.MoeDownLastRefIdeal.nD Cert.MoeDownLastRefIdeal.τ Cert.MoeDownLastRefIdeal.sig) → Buf (Elt Ideal) ℓ) (g : Dev Cert.MoeDownLastRefIdeal.nD → PrngReg), Pre_MoeDownLastRefIdeal m →
    θ_run (Cert.MoeDownLastRefIdeal.defs (F := Ideal)) (onTc (τ := Cert.MoeDownLastRefIdeal.τ) (Cert.MoeDownLastRefIdeal.main (F := Ideal))) ⟨m, fun _ => 0, g⟩ (fun r => (∀ c : Dev Cert.MoeDownLastRefIdeal.nD,
      r.2.mem ((c.tc : Thread Cert.MoeDownLastRefIdeal.nD Cert.MoeDownLastRefIdeal.τ).loc Cert.MoeDownLastRefIdeal.main_arg0) = m ((c.tc : Thread Cert.MoeDownLastRefIdeal.nD Cert.MoeDownLastRefIdeal.τ).loc Cert.MoeDownLastRefIdeal.main_arg0)
      ∧ r.2.mem ((c.tc : Thread Cert.MoeDownLastRefIdeal.nD Cert.MoeDownLastRefIdeal.τ).loc Cert.MoeDownLastRefIdeal.main_arg1) = m ((c.tc : Thread Cert.MoeDownLastRefIdeal.nD Cert.MoeDownLastRefIdeal.τ).loc Cert.MoeDownLastRefIdeal.main_arg1)
      ∧ r.2.mem ((c.tc : Thread Cert.MoeDownLastRefIdeal.nD Cert.MoeDownLastRefIdeal.τ).loc Cert.MoeDownLastRefIdeal.main_arg2) = m ((c.tc : Thread Cert.MoeDownLastRefIdeal.nD Cert.MoeDownLastRefIdeal.τ).loc Cert.MoeDownLastRefIdeal.main_arg2)
      ∧ r.2.mem ((c.tc : Thread Cert.MoeDownLastRefIdeal.nD Cert.MoeDownLastRefIdeal.τ).loc Cert.MoeDownLastRefIdeal.main_arg3) = m ((c.tc : Thread Cert.MoeDownLastRefIdeal.nD Cert.MoeDownLastRefIdeal.τ).loc Cert.MoeDownLastRefIdeal.main_arg3))
      ∧ r.2.sem = fun _ => 0)

def quiescent_MoeDownLastRefIdeal_pre_tiles_named_down_last [hMoeDownLastRefIdeal : Cert.MoeDownLastRefIdeal.Facts] [hPre_tiles_named_down_last : Cert.Pre_tiles_named_down_last.Facts] : Prop :=
  ∀ (m : (ℓ : Loc Cert.MoeDownLastRefIdeal.nD Cert.MoeDownLastRefIdeal.τ Cert.MoeDownLastRefIdeal.sig) → Buf (Elt Ideal) ℓ) (g : Dev Cert.MoeDownLastRefIdeal.nD → PrngReg), Pre_MoeDownLastRefIdeal_tiles_named_down_last m →
    θ_run (Cert.MoeDownLastRefIdeal.defs (F := Ideal)) (onTc (τ := Cert.MoeDownLastRefIdeal.τ) (Cert.MoeDownLastRefIdeal.main (F := Ideal))) ⟨m, fun _ => 0, g⟩ (fun r => (∀ c : Dev Cert.MoeDownLastRefIdeal.nD,
      r.2.mem ((c.tc : Thread Cert.MoeDownLastRefIdeal.nD Cert.MoeDownLastRefIdeal.τ).loc Cert.MoeDownLastRefIdeal.main_arg0) = m ((c.tc : Thread Cert.MoeDownLastRefIdeal.nD Cert.MoeDownLastRefIdeal.τ).loc Cert.MoeDownLastRefIdeal.main_arg0)
      ∧ r.2.mem ((c.tc : Thread Cert.MoeDownLastRefIdeal.nD Cert.MoeDownLastRefIdeal.τ).loc Cert.MoeDownLastRefIdeal.main_arg1) = m ((c.tc : Thread Cert.MoeDownLastRefIdeal.nD Cert.MoeDownLastRefIdeal.τ).loc Cert.MoeDownLastRefIdeal.main_arg1)
      ∧ r.2.mem ((c.tc : Thread Cert.MoeDownLastRefIdeal.nD Cert.MoeDownLastRefIdeal.τ).loc Cert.MoeDownLastRefIdeal.main_arg2) = m ((c.tc : Thread Cert.MoeDownLastRefIdeal.nD Cert.MoeDownLastRefIdeal.τ).loc Cert.MoeDownLastRefIdeal.main_arg2)
      ∧ r.2.mem ((c.tc : Thread Cert.MoeDownLastRefIdeal.nD Cert.MoeDownLastRefIdeal.τ).loc Cert.MoeDownLastRefIdeal.main_arg3) = m ((c.tc : Thread Cert.MoeDownLastRefIdeal.nD Cert.MoeDownLastRefIdeal.τ).loc Cert.MoeDownLastRefIdeal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v571)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v571) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v0)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v0) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v5) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_tiles_named : Cert.Pre_tiles_named.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v107) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4))

def preserves_MoeUpLast_MoeUpLastIdeal : Prop :=
  True

def algebraic_MoeUpLastIdeal_MoeUpLastRefIdeal [hMoeUpLastIdeal : Cert.MoeUpLastIdeal.Facts] [hMoeUpLastRefIdeal : Cert.MoeUpLastRefIdeal.Facts] [hPre_tiles_named_last : Cert.Pre_tiles_named_last.Facts] : Prop :=
  ∀ (m : (ℓ : Loc Cert.MoeUpLastIdeal.nD Cert.MoeUpLastIdeal.τ Cert.MoeUpLastIdeal.sig) → Buf (Elt Ideal) ℓ) (g : Dev Cert.MoeUpLastIdeal.nD → PrngReg)
    (m' : (ℓ : Loc Cert.MoeUpLastRefIdeal.nD Cert.MoeUpLastRefIdeal.τ Cert.MoeUpLastRefIdeal.sig) → Buf (Elt Ideal) ℓ) (g' : Dev Cert.MoeUpLastRefIdeal.nD → PrngReg), Pre_MoeUpLastIdeal m →
    (∀ c : Dev Cert.MoeUpLastIdeal.nD,
      m' ((c.tc : Thread Cert.MoeUpLastRefIdeal.nD Cert.MoeUpLastRefIdeal.τ).loc Cert.MoeUpLastRefIdeal.main_arg0) = m ((c.tc : Thread Cert.MoeUpLastIdeal.nD Cert.MoeUpLastIdeal.τ).loc Cert.MoeUpLastIdeal.main_arg0)
      ∧ m' ((c.tc : Thread Cert.MoeUpLastRefIdeal.nD Cert.MoeUpLastRefIdeal.τ).loc Cert.MoeUpLastRefIdeal.main_arg1) = m ((c.tc : Thread Cert.MoeUpLastIdeal.nD Cert.MoeUpLastIdeal.τ).loc Cert.MoeUpLastIdeal.main_arg1)
      ∧ m' ((c.tc : Thread Cert.MoeUpLastRefIdeal.nD Cert.MoeUpLastRefIdeal.τ).loc Cert.MoeUpLastRefIdeal.main_arg2) = m ((c.tc : Thread Cert.MoeUpLastIdeal.nD Cert.MoeUpLastIdeal.τ).loc Cert.MoeUpLastIdeal.main_arg2)
      ∧ m' ((c.tc : Thread Cert.MoeUpLastRefIdeal.nD Cert.MoeUpLastRefIdeal.τ).loc Cert.MoeUpLastRefIdeal.main_arg3) = m ((c.tc : Thread Cert.MoeUpLastIdeal.nD Cert.MoeUpLastIdeal.τ).loc Cert.MoeUpLastIdeal.main_arg3)
      ∧ m' ((c.tc : Thread Cert.MoeUpLastRefIdeal.nD Cert.MoeUpLastRefIdeal.τ).loc Cert.MoeUpLastRefIdeal.main_arg4) = m ((c.tc : Thread Cert.MoeUpLastIdeal.nD Cert.MoeUpLastIdeal.τ).loc Cert.MoeUpLastIdeal.main_arg4)) →
    ∃ (v0 : (c : Dev Cert.MoeUpLastIdeal.nD) → Buf (Elt Ideal) ((c.tc : Thread Cert.MoeUpLastIdeal.nD Cert.MoeUpLastIdeal.τ).loc Cert.MoeUpLastIdeal.main_v0)),
      θ_run (Cert.MoeUpLastIdeal.defs (F := Ideal)) (onTc (τ := Cert.MoeUpLastIdeal.τ) (Cert.MoeUpLastIdeal.main (F := Ideal))) ⟨m, fun _ => 0, g⟩ (fun r => ∀ c : Dev Cert.MoeUpLastIdeal.nD,
          r.2.mem ((c.tc : Thread Cert.MoeUpLastIdeal.nD Cert.MoeUpLastIdeal.τ).loc Cert.MoeUpLastIdeal.main_v0) = v0 c
          ∧ r.2.mem ((c.tc : Thread Cert.MoeUpLastIdeal.nD Cert.MoeUpLastIdeal.τ).loc Cert.MoeUpLastIdeal.main_arg0) = m ((c.tc : Thread Cert.MoeUpLastIdeal.nD Cert.MoeUpLastIdeal.τ).loc Cert.MoeUpLastIdeal.main_arg0)
          ∧ r.2.mem ((c.tc : Thread Cert.MoeUpLastIdeal.nD Cert.MoeUpLastIdeal.τ).loc Cert.MoeUpLastIdeal.main_arg1) = m ((c.tc : Thread Cert.MoeUpLastIdeal.nD Cert.MoeUpLastIdeal.τ).loc Cert.MoeUpLastIdeal.main_arg1)
          ∧ r.2.mem ((c.tc : Thread Cert.MoeUpLastIdeal.nD Cert.MoeUpLastIdeal.τ).loc Cert.MoeUpLastIdeal.main_arg2) = m ((c.tc : Thread Cert.MoeUpLastIdeal.nD Cert.MoeUpLastIdeal.τ).loc Cert.MoeUpLastIdeal.main_arg2)
          ∧ r.2.mem ((c.tc : Thread Cert.MoeUpLastIdeal.nD Cert.MoeUpLastIdeal.τ).loc Cert.MoeUpLastIdeal.main_arg3) = m ((c.tc : Thread Cert.MoeUpLastIdeal.nD Cert.MoeUpLastIdeal.τ).loc Cert.MoeUpLastIdeal.main_arg3)
          ∧ r.2.mem ((c.tc : Thread Cert.MoeUpLastIdeal.nD Cert.MoeUpLastIdeal.τ).loc Cert.MoeUpLastIdeal.main_arg4) = m ((c.tc : Thread Cert.MoeUpLastIdeal.nD Cert.MoeUpLastIdeal.τ).loc Cert.MoeUpLastIdeal.main_arg4))
      ∧ θ_run (Cert.MoeUpLastRefIdeal.defs (F := Ideal)) (onTc (τ := Cert.MoeUpLastRefIdeal.τ) (Cert.MoeUpLastRefIdeal.main (F := Ideal))) ⟨m', fun _ => 0, g'⟩ (fun r => ∀ c : Dev Cert.MoeUpLastRefIdeal.nD,
          r.2.mem ((c.tc : Thread Cert.MoeUpLastRefIdeal.nD Cert.MoeUpLastRefIdeal.τ).loc Cert.MoeUpLastRefIdeal.main_v107) = v0 c
          ∧ r.2.mem ((c.tc : Thread Cert.MoeUpLastRefIdeal.nD Cert.MoeUpLastRefIdeal.τ).loc Cert.MoeUpLastRefIdeal.main_arg0) = m' ((c.tc : Thread Cert.MoeUpLastRefIdeal.nD Cert.MoeUpLastRefIdeal.τ).loc Cert.MoeUpLastRefIdeal.main_arg0)
          ∧ r.2.mem ((c.tc : Thread Cert.MoeUpLastRefIdeal.nD Cert.MoeUpLastRefIdeal.τ).loc Cert.MoeUpLastRefIdeal.main_arg1) = m' ((c.tc : Thread Cert.MoeUpLastRefIdeal.nD Cert.MoeUpLastRefIdeal.τ).loc Cert.MoeUpLastRefIdeal.main_arg1)
          ∧ r.2.mem ((c.tc : Thread Cert.MoeUpLastRefIdeal.nD Cert.MoeUpLastRefIdeal.τ).loc Cert.MoeUpLastRefIdeal.main_arg2) = m' ((c.tc : Thread Cert.MoeUpLastRefIdeal.nD Cert.MoeUpLastRefIdeal.τ).loc Cert.MoeUpLastRefIdeal.main_arg2)
          ∧ r.2.mem ((c.tc : Thread Cert.MoeUpLastRefIdeal.nD Cert.MoeUpLastRefIdeal.τ).loc Cert.MoeUpLastRefIdeal.main_arg3) = m' ((c.tc : Thread Cert.MoeUpLastRefIdeal.nD Cert.MoeUpLastRefIdeal.τ).loc Cert.MoeUpLastRefIdeal.main_arg3)
          ∧ r.2.mem ((c.tc : Thread Cert.MoeUpLastRefIdeal.nD Cert.MoeUpLastRefIdeal.τ).loc Cert.MoeUpLastRefIdeal.main_arg4) = m' ((c.tc : Thread Cert.MoeUpLastRefIdeal.nD Cert.MoeUpLastRefIdeal.τ).loc Cert.MoeUpLastRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_tiles_named_down : Cert.Pre_tiles_named_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v72) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_MoeDownLast_MoeDownLastIdeal : Prop :=
  True

def algebraic_MoeDownLastIdeal_MoeDownLastRefIdeal [hMoeDownLastIdeal : Cert.MoeDownLastIdeal.Facts] [hMoeDownLastRefIdeal : Cert.MoeDownLastRefIdeal.Facts] [hPre_tiles_named_down_last : Cert.Pre_tiles_named_down_last.Facts] : Prop :=
  ∀ (m : (ℓ : Loc Cert.MoeDownLastIdeal.nD Cert.MoeDownLastIdeal.τ Cert.MoeDownLastIdeal.sig) → Buf (Elt Ideal) ℓ) (g : Dev Cert.MoeDownLastIdeal.nD → PrngReg)
    (m' : (ℓ : Loc Cert.MoeDownLastRefIdeal.nD Cert.MoeDownLastRefIdeal.τ Cert.MoeDownLastRefIdeal.sig) → Buf (Elt Ideal) ℓ) (g' : Dev Cert.MoeDownLastRefIdeal.nD → PrngReg), Pre_MoeDownLastIdeal m →
    (∀ c : Dev Cert.MoeDownLastIdeal.nD,
      m' ((c.tc : Thread Cert.MoeDownLastRefIdeal.nD Cert.MoeDownLastRefIdeal.τ).loc Cert.MoeDownLastRefIdeal.main_arg0) = m ((c.tc : Thread Cert.MoeDownLastIdeal.nD Cert.MoeDownLastIdeal.τ).loc Cert.MoeDownLastIdeal.main_arg0)
      ∧ m' ((c.tc : Thread Cert.MoeDownLastRefIdeal.nD Cert.MoeDownLastRefIdeal.τ).loc Cert.MoeDownLastRefIdeal.main_arg1) = m ((c.tc : Thread Cert.MoeDownLastIdeal.nD Cert.MoeDownLastIdeal.τ).loc Cert.MoeDownLastIdeal.main_arg1)
      ∧ m' ((c.tc : Thread Cert.MoeDownLastRefIdeal.nD Cert.MoeDownLastRefIdeal.τ).loc Cert.MoeDownLastRefIdeal.main_arg2) = m ((c.tc : Thread Cert.MoeDownLastIdeal.nD Cert.MoeDownLastIdeal.τ).loc Cert.MoeDownLastIdeal.main_arg2)
      ∧ m' ((c.tc : Thread Cert.MoeDownLastRefIdeal.nD Cert.MoeDownLastRefIdeal.τ).loc Cert.MoeDownLastRefIdeal.main_arg3) = m ((c.tc : Thread Cert.MoeDownLastIdeal.nD Cert.MoeDownLastIdeal.τ).loc Cert.MoeDownLastIdeal.main_arg3)) →
    ∃ (v0 : (c : Dev Cert.MoeDownLastIdeal.nD) → Buf (Elt Ideal) ((c.tc : Thread Cert.MoeDownLastIdeal.nD Cert.MoeDownLastIdeal.τ).loc Cert.MoeDownLastIdeal.main_v0)),
      θ_run (Cert.MoeDownLastIdeal.defs (F := Ideal)) (onTc (τ := Cert.MoeDownLastIdeal.τ) (Cert.MoeDownLastIdeal.main (F := Ideal))) ⟨m, fun _ => 0, g⟩ (fun r => ∀ c : Dev Cert.MoeDownLastIdeal.nD,
          r.2.mem ((c.tc : Thread Cert.MoeDownLastIdeal.nD Cert.MoeDownLastIdeal.τ).loc Cert.MoeDownLastIdeal.main_v0) = v0 c
          ∧ r.2.mem ((c.tc : Thread Cert.MoeDownLastIdeal.nD Cert.MoeDownLastIdeal.τ).loc Cert.MoeDownLastIdeal.main_arg0) = m ((c.tc : Thread Cert.MoeDownLastIdeal.nD Cert.MoeDownLastIdeal.τ).loc Cert.MoeDownLastIdeal.main_arg0)
          ∧ r.2.mem ((c.tc : Thread Cert.MoeDownLastIdeal.nD Cert.MoeDownLastIdeal.τ).loc Cert.MoeDownLastIdeal.main_arg1) = m ((c.tc : Thread Cert.MoeDownLastIdeal.nD Cert.MoeDownLastIdeal.τ).loc Cert.MoeDownLastIdeal.main_arg1)
          ∧ r.2.mem ((c.tc : Thread Cert.MoeDownLastIdeal.nD Cert.MoeDownLastIdeal.τ).loc Cert.MoeDownLastIdeal.main_arg2) = m ((c.tc : Thread Cert.MoeDownLastIdeal.nD Cert.MoeDownLastIdeal.τ).loc Cert.MoeDownLastIdeal.main_arg2)
          ∧ r.2.mem ((c.tc : Thread Cert.MoeDownLastIdeal.nD Cert.MoeDownLastIdeal.τ).loc Cert.MoeDownLastIdeal.main_arg3) = m ((c.tc : Thread Cert.MoeDownLastIdeal.nD Cert.MoeDownLastIdeal.τ).loc Cert.MoeDownLastIdeal.main_arg3))
      ∧ θ_run (Cert.MoeDownLastRefIdeal.defs (F := Ideal)) (onTc (τ := Cert.MoeDownLastRefIdeal.τ) (Cert.MoeDownLastRefIdeal.main (F := Ideal))) ⟨m', fun _ => 0, g'⟩ (fun r => ∀ c : Dev Cert.MoeDownLastRefIdeal.nD,
          r.2.mem ((c.tc : Thread Cert.MoeDownLastRefIdeal.nD Cert.MoeDownLastRefIdeal.τ).loc Cert.MoeDownLastRefIdeal.main_v72) = v0 c
          ∧ r.2.mem ((c.tc : Thread Cert.MoeDownLastRefIdeal.nD Cert.MoeDownLastRefIdeal.τ).loc Cert.MoeDownLastRefIdeal.main_arg0) = m' ((c.tc : Thread Cert.MoeDownLastRefIdeal.nD Cert.MoeDownLastRefIdeal.τ).loc Cert.MoeDownLastRefIdeal.main_arg0)
          ∧ r.2.mem ((c.tc : Thread Cert.MoeDownLastRefIdeal.nD Cert.MoeDownLastRefIdeal.τ).loc Cert.MoeDownLastRefIdeal.main_arg1) = m' ((c.tc : Thread Cert.MoeDownLastRefIdeal.nD Cert.MoeDownLastRefIdeal.τ).loc Cert.MoeDownLastRefIdeal.main_arg1)
          ∧ r.2.mem ((c.tc : Thread Cert.MoeDownLastRefIdeal.nD Cert.MoeDownLastRefIdeal.τ).loc Cert.MoeDownLastRefIdeal.main_arg2) = m' ((c.tc : Thread Cert.MoeDownLastRefIdeal.nD Cert.MoeDownLastRefIdeal.τ).loc Cert.MoeDownLastRefIdeal.main_arg2)
          ∧ r.2.mem ((c.tc : Thread Cert.MoeDownLastRefIdeal.nD Cert.MoeDownLastRefIdeal.τ).loc Cert.MoeDownLastRefIdeal.main_arg3) = m' ((c.tc : Thread Cert.MoeDownLastRefIdeal.nD Cert.MoeDownLastRefIdeal.τ).loc Cert.MoeDownLastRefIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hMm : Cert.Mm.Facts) (hMmIdeal : Cert.MmIdeal.Facts) (hMmRefIdeal : Cert.MmRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMoeUp : Cert.MoeUp.Facts) (hMoeUpIdeal : Cert.MoeUpIdeal.Facts) (hMoeUpRefIdeal : Cert.MoeUpRefIdeal.Facts) (hMoeUpLast : Cert.MoeUpLast.Facts) (hMoeUpLastIdeal : Cert.MoeUpLastIdeal.Facts) (hMoeUpLastRefIdeal : Cert.MoeUpLastRefIdeal.Facts) (hMoeDown : Cert.MoeDown.Facts) (hMoeDownIdeal : Cert.MoeDownIdeal.Facts) (hMoeDownRefIdeal : Cert.MoeDownRefIdeal.Facts) (hMoeDownLast : Cert.MoeDownLast.Facts) (hMoeDownLastIdeal : Cert.MoeDownLastIdeal.Facts) (hMoeDownLastRefIdeal : Cert.MoeDownLastRefIdeal.Facts) (hPre_finite : Cert.Pre_finite.Facts) (hPre_tiles_named : Cert.Pre_tiles_named.Facts) (hPre_tiles_named_last : Cert.Pre_tiles_named_last.Facts) (hPre_tiles_named_down : Cert.Pre_tiles_named_down.Facts) (hPre_tiles_named_down_last : Cert.Pre_tiles_named_down_last.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Mm (hMm := hMm)
    ∧ quiescent_MmIdeal (hMmIdeal := hMmIdeal)
    ∧ quiescent_MmRefIdeal (hMmRefIdeal := hMmRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_MoeUp (hMoeUp := hMoeUp) (hPre_tiles_named := hPre_tiles_named)
    ∧ quiescent_MoeUpIdeal (hMoeUpIdeal := hMoeUpIdeal) (hPre_tiles_named := hPre_tiles_named)
    ∧ quiescent_MoeUpRefIdeal (hMoeUpRefIdeal := hMoeUpRefIdeal)
    ∧ quiescent_MoeUpRefIdeal_pre_tiles_named (hMoeUpRefIdeal := hMoeUpRefIdeal) (hPre_tiles_named := hPre_tiles_named)
    ∧ quiescent_MoeUpLast (hMoeUpLast := hMoeUpLast) (hPre_tiles_named_last := hPre_tiles_named_last)
    ∧ quiescent_MoeUpLastIdeal (hMoeUpLastIdeal := hMoeUpLastIdeal) (hPre_tiles_named_last := hPre_tiles_named_last)
    ∧ quiescent_MoeUpLastRefIdeal (hMoeUpLastRefIdeal := hMoeUpLastRefIdeal)
    ∧ quiescent_MoeUpLastRefIdeal_pre_tiles_named_last (hMoeUpLastRefIdeal := hMoeUpLastRefIdeal) (hPre_tiles_named_last := hPre_tiles_named_last)
    ∧ quiescent_MoeDown (hMoeDown := hMoeDown) (hPre_tiles_named_down := hPre_tiles_named_down)
    ∧ quiescent_MoeDownIdeal (hMoeDownIdeal := hMoeDownIdeal) (hPre_tiles_named_down := hPre_tiles_named_down)
    ∧ quiescent_MoeDownRefIdeal (hMoeDownRefIdeal := hMoeDownRefIdeal)
    ∧ quiescent_MoeDownRefIdeal_pre_tiles_named_down (hMoeDownRefIdeal := hMoeDownRefIdeal) (hPre_tiles_named_down := hPre_tiles_named_down)
    ∧ quiescent_MoeDownLast (hMoeDownLast := hMoeDownLast) (hPre_tiles_named_down_last := hPre_tiles_named_down_last)
    ∧ quiescent_MoeDownLastIdeal (hMoeDownLastIdeal := hMoeDownLastIdeal) (hPre_tiles_named_down_last := hPre_tiles_named_down_last)
    ∧ quiescent_MoeDownLastRefIdeal (hMoeDownLastRefIdeal := hMoeDownLastRefIdeal)
    ∧ quiescent_MoeDownLastRefIdeal_pre_tiles_named_down_last (hMoeDownLastRefIdeal := hMoeDownLastRefIdeal) (hPre_tiles_named_down_last := hPre_tiles_named_down_last)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_Mm_MmIdeal
    ∧ algebraic_MmIdeal_MmRefIdeal (hMmIdeal := hMmIdeal) (hMmRefIdeal := hMmRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_MoeUp_MoeUpIdeal
    ∧ algebraic_MoeUpIdeal_MoeUpRefIdeal (hMoeUpIdeal := hMoeUpIdeal) (hMoeUpRefIdeal := hMoeUpRefIdeal) (hPre_tiles_named := hPre_tiles_named)
    ∧ preserves_MoeUpLast_MoeUpLastIdeal
    ∧ algebraic_MoeUpLastIdeal_MoeUpLastRefIdeal (hMoeUpLastIdeal := hMoeUpLastIdeal) (hMoeUpLastRefIdeal := hMoeUpLastRefIdeal) (hPre_tiles_named_last := hPre_tiles_named_last)
    ∧ preserves_MoeDown_MoeDownIdeal
    ∧ algebraic_MoeDownIdeal_MoeDownRefIdeal (hMoeDownIdeal := hMoeDownIdeal) (hMoeDownRefIdeal := hMoeDownRefIdeal) (hPre_tiles_named_down := hPre_tiles_named_down)
    ∧ preserves_MoeDownLast_MoeDownLastIdeal
    ∧ algebraic_MoeDownLastIdeal_MoeDownLastRefIdeal (hMoeDownLastIdeal := hMoeDownLastIdeal) (hMoeDownLastRefIdeal := hMoeDownLastRefIdeal) (hPre_tiles_named_down_last := hPre_tiles_named_down_last)
-- ==== Pre_finite.lean ====
abbrev S8x2304x6144 : Shape := ⟨3, ![8, 2304, 6144]⟩
abbrev S4x15x31 : Shape := ⟨3, ![4, 15, 31]⟩
abbrev S_ : Shape := ⟨0, ![]⟩

class Facts : Prop where
  bcast_S_S8x2304x6144 : S_.BroadcastsInDim S8x2304x6144 (![] : Fin 0 → Fin S8x2304x6144.rank)
  bcast_S_S4x15x31 : S_.BroadcastsInDim S4x15x31 (![] : Fin 0 → Fin S4x15x31.rank)

variable [Facts]

def fn {F : FTy → Type} [FloatOps F] (main_arg0 : FVec F S8x2304x6144 .bf16) (main_arg1 : FVec F S4x15x31 .f32) : IVec S8x2304x6144 1 × IVec S4x15x31 1 :=
  let main_v0 : FVec F S8x2304x6144 .bf16 := Host.absf main_arg0
  let main_cst : FVec F S_ .bf16 := constant S_ .bf16 0x7F80#16
  let main_v1 : FVec F S8x2304x6144 .bf16 := broadcastInDim S8x2304x6144 ![] bcast_S_S8x2304x6144 main_cst
  let main_v2 : IVec S8x2304x6144 1 := cmpf .olt main_v0 main_v1
  let main_v3 : FVec F S4x15x31 .f32 := Host.absf main_arg1
  let main_cst_0 : FVec F S_ .f32 := constant S_ .f32 0x7F800000#32
  let main_v4 : FVec F S4x15x31 .f32 := broadcastInDim S4x15x31 ![] bcast_S_S4x15x31 main_cst_0
  let main_v5 : IVec S4x15x31 1 := cmpf .olt main_v3 main_v4
  (main_v2, main_v5)
-- ==== Pre_tiles_named.lean ====
abbrev S80 : Shape := ⟨1, ![80]⟩
abbrev S1 : Shape := ⟨1, ![1]⟩
abbrev S40960x2048 : Shape := ⟨2, ![40960, 2048]⟩
abbrev S2x8x2048x4096 : Shape := ⟨4, ![2, 8, 2048, 4096]⟩
abbrev S_ : Shape := ⟨0, ![]⟩

class Facts : Prop where
  bcast_S_S80 : S_.BroadcastsInDim S80 (![] : Fin 0 → Fin S80.rank)

variable [Facts]

def fn {F : FTy → Type} [FloatOps F] (main_arg0 : IVec S80 32) (main_arg1 : IVec S1 32) (main_arg2 : FVec F S40960x2048 .bf16) (main_arg3 : FVec F S2x8x2048x4096 .f32) (main_arg4 : FVec F S2x8x2048x4096 .f32) : IVec S80 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 8#32
  let main_v2 : IVec S80 32 := broadcastInDim S80 ![] bcast_S_S80 main_c_0
  let main_v3 : IVec S80 1 := cmpi .slt main_arg0 main_v2
  let main_v4 : IVec S80 1 := andi main_v1 main_v3
  main_v4
-- ==== Pre_tiles_named_down.lean ====
abbrev S80 : Shape := ⟨1, ![80]⟩
abbrev S1 : Shape := ⟨1, ![1]⟩
abbrev S40960x4096 : Shape := ⟨2, ![40960, 4096]⟩
abbrev S2x8x4096x2048 : Shape := ⟨4, ![2, 8, 4096, 2048]⟩
abbrev S_ : Shape := ⟨0, ![]⟩

class Facts : Prop where
  bcast_S_S80 : S_.BroadcastsInDim S80 (![] : Fin 0 → Fin S80.rank)

variable [Facts]

def fn {F : FTy → Type} [FloatOps F] (main_arg0 : IVec S80 32) (main_arg1 : IVec S1 32) (main_arg2 : FVec F S40960x4096 .bf16) (main_arg3 : FVec F S2x8x4096x2048 .f32) : IVec S80 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 8#32
  let main_v2 : IVec S80 32 := broadcastInDim S80 ![] bcast_S_S80 main_c_0
  let main_v3 : IVec S80 1 := cmpi .slt main_arg0 main_v2
  let main_v4 : IVec S80 1 := andi main_v1 main_v3
  main_v4
-- ==== Pre_tiles_named_down_last.lean ====
abbrev S72 : Shape := ⟨1, ![72]⟩
abbrev S1 : Shape := ⟨1, ![1]⟩
abbrev S36864x4096 : Shape := ⟨2, ![36864, 4096]⟩
abbrev S2x8x4096x2048 : Shape := ⟨4, ![2, 8, 4096, 2048]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x4096 .bf16) (main_arg3 : FVec F S2x8x4096x2048 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_tiles_named_last.lean ====
abbrev S72 : Shape := ⟨1, ![72]⟩
abbrev S1 : Shape := ⟨1, ![1]⟩
abbrev S36864x2048 : Shape := ⟨2, ![36864, 2048]⟩
abbrev S2x8x2048x4096 : Shape := ⟨4, ![2, 8, 2048, 4096]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S36864x2048 .bf16) (main_arg3 : FVec F S2x8x2048x4096 .f32) (main_arg4 : FVec F S2x8x2048x4096 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Kernel.lean ====
abbrev S8x2304x6144 : Shape := ⟨3, ![8, 2304, 6144]⟩
abbrev S4x15x31 : Shape := ⟨3, ![4, 15, 31]⟩
abbrev S64x64 : Shape := ⟨2, ![64, 64]⟩
abbrev S1x1x64x64 : Shape := ⟨4, ![1, 1, 64, 64]⟩
abbrev S_ : Shape := ⟨0, ![]⟩
abbrev S64x64x1 : Shape := ⟨3, ![64, 64, 1]⟩
abbrev S4x15x64x64 : Shape := ⟨4, ![4, 15, 64, 64]⟩
abbrev S4x64x64 : Shape := ⟨3, ![4, 64, 64]⟩
abbrev S4x256x768 : Shape := ⟨3, ![4, 256, 768]⟩
abbrev S4x1x64x64 : Shape := ⟨4, ![4, 1, 64, 64]⟩
abbrev S4x64x768 : Shape := ⟨3, ![4, 64, 768]⟩
abbrev S4x1x256x768 : Shape := ⟨4, ![4, 1, 256, 768]⟩
abbrev S4x9x256x768 : Shape := ⟨4, ![4, 9, 256, 768]⟩
abbrev S8x2304x512 : Shape := ⟨3, ![8, 2304, 512]⟩
abbrev S1x256x512 : Shape := ⟨3, ![1, 256, 512]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩

abbrev nBuf : Space → Nat
  | .hbm => 584
  | .vmem => 22
  | .smem => 0
  | _ => 0

abbrev hbmTy0_0 (i : Nat) : BufTy := match i % 128 with
  | 0 => ⟨S8x2304x6144, .bf16⟩
  | 1 => ⟨S4x15x31, .f32⟩
  | 2 => ⟨S64x64, .i32⟩
  | 3 => ⟨S64x64, .i1⟩
  | 4 => ⟨S64x64, .i1⟩
  | 5 => ⟨S1x1x64x64, .i1⟩
  | 6 => ⟨S_, .i32⟩
  | 7 => ⟨S64x64, .i32⟩
  | 8 => ⟨S64x64, .i32⟩
  | 9 => ⟨S64x64, .i32⟩
  | 10 => ⟨S64x64x1, .i32⟩
  | 11 => ⟨S4x15x64x64, .f32⟩
  | 12 => ⟨S_, .f32⟩
  | 13 => ⟨S_, .f32⟩
  | 14 => ⟨S4x15x64x64, .i1⟩
  | 15 => ⟨S4x15x64x64, .f32⟩
  | 16 => ⟨S4x15x64x64, .f32⟩
  | 17 => ⟨S_, .f32⟩
  | 18 => ⟨S4x64x64, .f32⟩
  | 19 => ⟨S_, .f32⟩
  | 20 => ⟨S4x256x768, .f32⟩
  | 21 => ⟨S4x1x64x64, .f32⟩
  | 22 => ⟨S4x64x64, .f32⟩
  | 23 => ⟨S4x1x64x64, .f32⟩
  | 24 => ⟨S4x64x64, .f32⟩
  | 25 => ⟨S4x1x64x64, .f32⟩
  | 26 => ⟨S4x64x64, .f32⟩
  | 27 => ⟨S4x1x64x64, .f32⟩
  | 28 => ⟨S4x64x64, .f32⟩
  | 29 => ⟨S4x1x64x64, .f32⟩
  | 30 => ⟨S4x64x64, .f32⟩
  | 31 => ⟨S4x1x64x64, .f32⟩
  | 32 => ⟨S4x64x64, .f32⟩
  | 33 => ⟨S4x1x64x64, .f32⟩
  | 34 => ⟨S4x64x64, .f32⟩
  | 35 => ⟨S4x1x64x64, .f32⟩
  | 36 => ⟨S4x64x64, .f32⟩
  | 37 => ⟨S4x64x768, .f32⟩
  | 38 => ⟨S4x1x64x64, .f32⟩
  | 39 => ⟨S4x64x64, .f32⟩
  | 40 => ⟨S4x1x64x64, .f32⟩
  | 41 => ⟨S4x64x64, .f32⟩
  | 42 => ⟨S4x1x64x64, .f32⟩
  | 43 => ⟨S4x64x64, .f32⟩
  | 44 => ⟨S4x1x64x64, .f32⟩
  | 45 => ⟨S4x64x64, .f32⟩
  | 46 => ⟨S4x1x64x64, .f32⟩
  | 47 => ⟨S4x64x64, .f32⟩
  | 48 => ⟨S4x1x64x64, .f32⟩
  | 49 => ⟨S4x64x64, .f32⟩
  | 50 => ⟨S4x1x64x64, .f32⟩
  | 51 => ⟨S4x64x64, .f32⟩
  | 52 => ⟨S4x1x64x64, .f32⟩
  | 53 => ⟨S4x64x64, .f32⟩
  | 54 => ⟨S4x64x768, .f32⟩
  | 55 => ⟨S4x1x64x64, .f32⟩
  | 56 => ⟨S4x64x64, .f32⟩
  | 57 => ⟨S4x1x64x64, .f32⟩
  | 58 => ⟨S4x64x64, .f32⟩
  | 59 => ⟨S4x1x64x64, .f32⟩
  | 60 => ⟨S4x64x64, .f32⟩
  | 61 => ⟨S4x1x64x64, .f32⟩
  | 62 => ⟨S4x64x64, .f32⟩
  | 63 => ⟨S4x1x64x64, .f32⟩
  | 64 => ⟨S4x64x64, .f32⟩
  | 65 => ⟨S4x1x64x64, .f32⟩
  | 66 => ⟨S4x64x64, .f32⟩
  | 67 => ⟨S4x1x64x64, .f32⟩
  | 68 => ⟨S4x64x64, .f32⟩
  | 69 => ⟨S4x1x64x64, .f32⟩
  | 70 => ⟨S4x64x64, .f32⟩
  | 71 => ⟨S4x64x768, .f32⟩
  | 72 => ⟨S4x1x64x64, .f32⟩
  | 73 => ⟨S4x64x64, .f32⟩
  | 74 => ⟨S4x1x64x64, .f32⟩
  | 75 => ⟨S4x64x64, .f32⟩
  | 76 => ⟨S4x1x64x64, .f32⟩
  | 77 => ⟨S4x64x64, .f32⟩
  | 78 => ⟨S4x1x64x64, .f32⟩
  | 79 => ⟨S4x64x64, .f32⟩
  | 80 => ⟨S4x1x64x64, .f32⟩
  | 81 => ⟨S4x64x64, .f32⟩
  | 82 => ⟨S4x1x64x64, .f32⟩
  | 83 => ⟨S4x64x64, .f32⟩
  | 84 => ⟨S4x1x64x64, .f32⟩
  | 85 => ⟨S4x64x64, .f32⟩
  | 86 => ⟨S4x1x64x64, .f32⟩
  | 87 => ⟨S4x64x64, .f32⟩
  | 88 => ⟨S4x64x768, .f32⟩
  | 89 => ⟨S4x256x768, .f32⟩
  | 90 => ⟨S4x1x64x64, .f32⟩
  | 91 => ⟨S4x64x64, .f32⟩
  | 92 => ⟨S4x1x64x64, .f32⟩
  | 93 => ⟨S4x64x64, .f32⟩
  | 94 => ⟨S4x1x64x64, .f32⟩
  | 95 => ⟨S4x64x64, .f32⟩
  | 96 => ⟨S4x1x64x64, .f32⟩
  | 97 => ⟨S4x64x64, .f32⟩
  | 98 => ⟨S4x1x64x64, .f32⟩
  | 99 => ⟨S4x64x64, .f32⟩
  | 100 => ⟨S4x1x64x64, .f32⟩
  | 101 => ⟨S4x64x64, .f32⟩
  | 102 => ⟨S4x1x64x64, .f32⟩
  | 103 => ⟨S4x64x64, .f32⟩
  | 104 => ⟨S4x1x64x64, .f32⟩
  | 105 => ⟨S4x64x64, .f32⟩
  | 106 => ⟨S4x64x768, .f32⟩
  | 107 => ⟨S4x1x64x64, .f32⟩
  | 108 => ⟨S4x64x64, .f32⟩
  | 109 => ⟨S4x1x64x64, .f32⟩
  | 110 => ⟨S4x64x64, .f32⟩
  | 111 => ⟨S4x1x64x64, .f32⟩
  | 112 => ⟨S4x64x64, .f32⟩
  | 113 => ⟨S4x1x64x64, .f32⟩
  | 114 => ⟨S4x64x64, .f32⟩
  | 115 => ⟨S4x1x64x64, .f32⟩
  | 116 => ⟨S4x64x64, .f32⟩
  | 117 => ⟨S4x1x64x64, .f32⟩
  | 118 => ⟨S4x64x64, .f32⟩
  | 119 => ⟨S4x1x64x64, .f32⟩
  | 120 => ⟨S4x64x64, .f32⟩
  | 121 => ⟨S4x1x64x64, .f32⟩
  | 122 => ⟨S4x64x64, .f32⟩
  | 123 => ⟨S4x64x768, .f32⟩
  | 124 => ⟨S4x1x64x64, .f32⟩
  | 125 => ⟨S4x64x64, .f32⟩
  | 126 => ⟨S4x1x64x64, .f32⟩
  | 127 => ⟨S4x64x64, .f32⟩
  | _ => ⟨S8x2304x6144, .bf16⟩

abbrev hbmTy0_1 (i : Nat) : BufTy := match i % 128 with
  | 0 => ⟨S4x1x64x64, .f32⟩
  | 1 => ⟨S4x64x64, .f32⟩
  | 2 => ⟨S4x1x64x64, .f32⟩
  | 3 => ⟨S4x64x64, .f32⟩
  | 4 => ⟨S4x1x64x64, .f32⟩
  | 5 => ⟨S4x64x64, .f32⟩
  | 6 => ⟨S4x1x64x64, .f32⟩
  | 7 => ⟨S4x64x64, .f32⟩
  | 8 => ⟨S4x1x64x64, .f32⟩
  | 9 => ⟨S4x64x64, .f32⟩
  | 10 => ⟨S4x1x64x64, .f32⟩
  | 11 => ⟨S4x64x64, .f32⟩
  | 12 => ⟨S4x64x768, .f32⟩
  | 13 => ⟨S4x1x64x64, .f32⟩
  | 14 => ⟨S4x64x64, .f32⟩
  | 15 => ⟨S4x1x64x64, .f32⟩
  | 16 => ⟨S4x64x64, .f32⟩
  | 17 => ⟨S4x1x64x64, .f32⟩
  | 18 => ⟨S4x64x64, .f32⟩
  | 19 => ⟨S4x1x64x64, .f32⟩
  | 20 => ⟨S4x64x64, .f32⟩
  | 21 => ⟨S4x1x64x64, .f32⟩
  | 22 => ⟨S4x64x64, .f32⟩
  | 23 => ⟨S4x1x64x64, .f32⟩
  | 24 => ⟨S4x64x64, .f32⟩
  | 25 => ⟨S4x1x64x64, .f32⟩
  | 26 => ⟨S4x64x64, .f32⟩
  | 27 => ⟨S4x1x64x64, .f32⟩
  | 28 => ⟨S4x64x64, .f32⟩
  | 29 => ⟨S4x64x768, .f32⟩
  | 30 => ⟨S4x256x768, .f32⟩
  | 31 => ⟨S4x1x64x64, .f32⟩
  | 32 => ⟨S4x64x64, .f32⟩
  | 33 => ⟨S4x1x64x64, .f32⟩
  | 34 => ⟨S4x64x64, .f32⟩
  | 35 => ⟨S4x1x64x64, .f32⟩
  | 36 => ⟨S4x64x64, .f32⟩
  | 37 => ⟨S4x1x64x64, .f32⟩
  | 38 => ⟨S4x64x64, .f32⟩
  | 39 => ⟨S4x1x64x64, .f32⟩
  | 40 => ⟨S4x64x64, .f32⟩
  | 41 => ⟨S4x1x64x64, .f32⟩
  | 42 => ⟨S4x64x64, .f32⟩
  | 43 => ⟨S4x1x64x64, .f32⟩
  | 44 => ⟨S4x64x64, .f32⟩
  | 45 => ⟨S4x1x64x64, .f32⟩
  | 46 => ⟨S4x64x64, .f32⟩
  | 47 => ⟨S4x64x768, .f32⟩
  | 48 => ⟨S4x1x64x64, .f32⟩
  | 49 => ⟨S4x64x64, .f32⟩
  | 50 => ⟨S4x1x64x64, .f32⟩
  | 51 => ⟨S4x64x64, .f32⟩
  | 52 => ⟨S4x1x64x64, .f32⟩
  | 53 => ⟨S4x64x64, .f32⟩
  | 54 => ⟨S4x1x64x64, .f32⟩
  | 55 => ⟨S4x64x64, .f32⟩
  | 56 => ⟨S4x1x64x64, .f32⟩
  | 57 => ⟨S4x64x64, .f32⟩
  | 58 => ⟨S4x1x64x64, .f32⟩
  | 59 => ⟨S4x64x64, .f32⟩
  | 60 => ⟨S4x1x64x64, .f32⟩
  | 61 => ⟨S4x64x64, .f32⟩
  | 62 => ⟨S4x1x64x64, .f32⟩
  | 63 => ⟨S4x64x64, .f32⟩
  | 64 => ⟨S4x64x768, .f32⟩
  | 65 => ⟨S4x1x64x64, .f32⟩
  | 66 => ⟨S4x64x64, .f32⟩
  | 67 => ⟨S4x1x64x64, .f32⟩
  | 68 => ⟨S4x64x64, .f32⟩
  | 69 => ⟨S4x1x64x64, .f32⟩
  | 70 => ⟨S4x64x64, .f32⟩
  | 71 => ⟨S4x1x64x64, .f32⟩
  | 72 => ⟨S4x64x64, .f32⟩
  | 73 => ⟨S4x1x64x64, .f32⟩
  | 74 => ⟨S4x64x64, .f32⟩
  | 75 => ⟨S4x1x64x64, .f32⟩
  | 76 => ⟨S4x64x64, .f32⟩
  | 77 => ⟨S4x1x64x64, .f32⟩
  | 78 => ⟨S4x64x64, .f32⟩
  | 79 => ⟨S4x1x64x64, .f32⟩
  | 80 => ⟨S4x64x64, .f32⟩
  | 81 => ⟨S4x64x768, .f32⟩
  | 82 => ⟨S4x1x64x64, .f32⟩
  | 83 => ⟨S4x64x64, .f32⟩
  | 84 => ⟨S4x1x64x64, .f32⟩
  | 85 => ⟨S4x64x64, .f32⟩
  | 86 => ⟨S4x1x64x64, .f32⟩
  | 87 => ⟨S4x64x64, .f32⟩
  | 88 => ⟨S4x1x64x64, .f32⟩
  | 89 => ⟨S4x64x64, .f32⟩
  | 90 => ⟨S4x1x64x64, .f32⟩
  | 91 => ⟨S4x64x64, .f32⟩
  | 92 => ⟨S4x1x64x64, .f32⟩
  | 93 => ⟨S4x64x64, .f32⟩
  | 94 => ⟨S4x1x64x64, .f32⟩
  | 95 => ⟨S4x64x64, .f32⟩
  | 96 => ⟨S4x1x64x64, .f32⟩
  | 97 => ⟨S4x64x64, .f32⟩
  | 98 => ⟨S4x64x768, .f32⟩
  | 99 => ⟨S4x256x768, .f32⟩
  | 100 => ⟨S4x1x64x64, .f32⟩
  | 101 => ⟨S4x64x64, .f32⟩
  | 102 => ⟨S4x1x64x64, .f32⟩
  | 103 => ⟨S4x64x64, .f32⟩
  | 104 => ⟨S4x1x64x64, .f32⟩
  | 105 => ⟨S4x64x64, .f32⟩
  | 106 => ⟨S4x1x64x64, .f32⟩
  | 107 => ⟨S4x64x64, .f32⟩
  | 108 => ⟨S4x1x64x64, .f32⟩
  | 109 => ⟨S4x64x64, .f32⟩
  | 110 => ⟨S4x1x64x64, .f32⟩
  | 111 => ⟨S4x64x64, .f32⟩
  | 112 => ⟨S4x1x64x64, .f32⟩
  | 113 => ⟨S4x64x64, .f32⟩
  | 114 => ⟨S4x1x64x64, .f32⟩
  | 115 => ⟨S4x64x64, .f32⟩
  | 116 => ⟨S4x64x768, .f32⟩
  | 117 => ⟨S4x1x64x64, .f32⟩
  | 118 => ⟨S4x64x64, .f32⟩
  | 119 => ⟨S4x1x64x64, .f32⟩
  | 120 => ⟨S4x64x64, .f32⟩
  | 121 => ⟨S4x1x64x64, .f32⟩
  | 122 => ⟨S4x64x64, .f32⟩
  | 123 => ⟨S4x1x64x64, .f32⟩
  | 124 => ⟨S4x64x64, .f32⟩
  | 125 => ⟨S4x1x64x64, .f32⟩
  | 126 => ⟨S4x64x64, .f32⟩
  | 127 => ⟨S4x1x64x64, .f32⟩
  | _ => ⟨S8x2304x6144, .bf16⟩

abbrev hbmTy0_2 (i : Nat) : BufTy := match i % 128 with
  | 0 => ⟨S4x64x64, .f32⟩
  | 1 => ⟨S4x1x64x64, .f32⟩
  | 2 => ⟨S4x64x64, .f32⟩
  | 3 => ⟨S4x1x64x64, .f32⟩
  | 4 => ⟨S4x64x64, .f32⟩
  | 5 => ⟨S4x64x768, .f32⟩
  | 6 => ⟨S4x1x64x64, .f32⟩
  | 7 => ⟨S4x64x64, .f32⟩
  | 8 => ⟨S4x1x64x64, .f32⟩
  | 9 => ⟨S4x64x64, .f32⟩
  | 10 => ⟨S4x1x64x64, .f32⟩
  | 11 => ⟨S4x64x64, .f32⟩
  | 12 => ⟨S4x1x64x64, .f32⟩
  | 13 => ⟨S4x64x64, .f32⟩
  | 14 => ⟨S4x1x64x64, .f32⟩
  | 15 => ⟨S4x64x64, .f32⟩
  | 16 => ⟨S4x1x64x64, .f32⟩
  | 17 => ⟨S4x64x64, .f32⟩
  | 18 => ⟨S4x1x64x64, .f32⟩
  | 19 => ⟨S4x64x64, .f32⟩
  | 20 => ⟨S4x1x64x64, .f32⟩
  | 21 => ⟨S4x64x64, .f32⟩
  | 22 => ⟨S4x64x768, .f32⟩
  | 23 => ⟨S4x1x64x64, .f32⟩
  | 24 => ⟨S4x64x64, .f32⟩
  | 25 => ⟨S4x1x64x64, .f32⟩
  | 26 => ⟨S4x64x64, .f32⟩
  | 27 => ⟨S4x1x64x64, .f32⟩
  | 28 => ⟨S4x64x64, .f32⟩
  | 29 => ⟨S4x1x64x64, .f32⟩
  | 30 => ⟨S4x64x64, .f32⟩
  | 31 => ⟨S4x1x64x64, .f32⟩
  | 32 => ⟨S4x64x64, .f32⟩
  | 33 => ⟨S4x1x64x64, .f32⟩
  | 34 => ⟨S4x64x64, .f32⟩
  | 35 => ⟨S4x1x64x64, .f32⟩
  | 36 => ⟨S4x64x64, .f32⟩
  | 37 => ⟨S4x1x64x64, .f32⟩
  | 38 => ⟨S4x64x64, .f32⟩
  | 39 => ⟨S4x64x768, .f32⟩
  | 40 => ⟨S4x256x768, .f32⟩
  | 41 => ⟨S4x1x64x64, .f32⟩
  | 42 => ⟨S4x64x64, .f32⟩
  | 43 => ⟨S4x1x64x64, .f32⟩
  | 44 => ⟨S4x64x64, .f32⟩
  | 45 => ⟨S4x1x64x64, .f32⟩
  | 46 => ⟨S4x64x64, .f32⟩
  | 47 => ⟨S4x1x64x64, .f32⟩
  | 48 => ⟨S4x64x64, .f32⟩
  | 49 => ⟨S4x1x64x64, .f32⟩
  | 50 => ⟨S4x64x64, .f32⟩
  | 51 => ⟨S4x1x64x64, .f32⟩
  | 52 => ⟨S4x64x64, .f32⟩
  | 53 => ⟨S4x1x64x64, .f32⟩
  | 54 => ⟨S4x64x64, .f32⟩
  | 55 => ⟨S4x1x64x64, .f32⟩
  | 56 => ⟨S4x64x64, .f32⟩
  | 57 => ⟨S4x64x768, .f32⟩
  | 58 => ⟨S4x1x64x64, .f32⟩
  | 59 => ⟨S4x64x64, .f32⟩
  | 60 => ⟨S4x1x64x64, .f32⟩
  | 61 => ⟨S4x64x64, .f32⟩
  | 62 => ⟨S4x1x64x64, .f32⟩
  | 63 => ⟨S4x64x64, .f32⟩
  | 64 => ⟨S4x1x64x64, .f32⟩
  | 65 => ⟨S4x64x64, .f32⟩
  | 66 => ⟨S4x1x64x64, .f32⟩
  | 67 => ⟨S4x64x64, .f32⟩
  | 68 => ⟨S4x1x64x64, .f32⟩
  | 69 => ⟨S4x64x64, .f32⟩
  | 70 => ⟨S4x1x64x64, .f32⟩
  | 71 => ⟨S4x64x64, .f32⟩
  | 72 => ⟨S4x1x64x64, .f32⟩
  | 73 => ⟨S4x64x64, .f32⟩
  | 74 => ⟨S4x64x768, .f32⟩
  | 75 => ⟨S4x1x64x64, .f32⟩
  | 76 => ⟨S4x64x64, .f32⟩
  | 77 => ⟨S4x1x64x64, .f32⟩
  | 78 => ⟨S4x64x64, .f32⟩
  | 79 => ⟨S4x1x64x64, .f32⟩
  | 80 => ⟨S4x64x64, .f32⟩
  | 81 => ⟨S4x1x64x64, .f32⟩
  | 82 => ⟨S4x64x64, .f32⟩
  | 83 => ⟨S4x1x64x64, .f32⟩
  | 84 => ⟨S4x64x64, .f32⟩
  | 85 => ⟨S4x1x64x64, .f32⟩
  | 86 => ⟨S4x64x64, .f32⟩
  | 87 => ⟨S4x1x64x64, .f32⟩
  | 88 => ⟨S4x64x64, .f32⟩
  | 89 => ⟨S4x1x64x64, .f32⟩
  | 90 => ⟨S4x64x64, .f32⟩
  | 91 => ⟨S4x64x768, .f32⟩
  | 92 => ⟨S4x1x64x64, .f32⟩
  | 93 => ⟨S4x64x64, .f32⟩
  | 94 => ⟨S4x1x64x64, .f32⟩
  | 95 => ⟨S4x64x64, .f32⟩
  | 96 => ⟨S4x1x64x64, .f32⟩
  | 97 => ⟨S4x64x64, .f32⟩
  | 98 => ⟨S4x1x64x64, .f32⟩
  | 99 => ⟨S4x64x64, .f32⟩
  | 100 => ⟨S4x1x64x64, .f32⟩
  | 101 => ⟨S4x64x64, .f32⟩
  | 102 => ⟨S4x1x64x64, .f32⟩
  | 103 => ⟨S4x64x64, .f32⟩
  | 104 => ⟨S4x1x64x64, .f32⟩
  | 105 => ⟨S4x64x64, .f32⟩
  | 106 => ⟨S4x1x64x64, .f32⟩
  | 107 => ⟨S4x64x64, .f32⟩
  | 108 => ⟨S4x64x768, .f32⟩
  | 109 => ⟨S4x256x768, .f32⟩
  | 110 => ⟨S4x1x64x64, .f32⟩
  | 111 => ⟨S4x64x64, .f32⟩
  | 112 => ⟨S4x1x64x64, .f32⟩
  | 113 => ⟨S4x64x64, .f32⟩
  | 114 => ⟨S4x1x64x64, .f32⟩
  | 115 => ⟨S4x64x64, .f32⟩
  | 116 => ⟨S4x1x64x64, .f32⟩
  | 117 => ⟨S4x64x64, .f32⟩
  | 118 => ⟨S4x1x64x64, .f32⟩
  | 119 => ⟨S4x64x64, .f32⟩
  | 120 => ⟨S4x1x64x64, .f32⟩
  | 121 => ⟨S4x64x64, .f32⟩
  | 122 => ⟨S4x1x64x64, .f32⟩
  | 123 => ⟨S4x64x64, .f32⟩
  | 124 => ⟨S4x1x64x64, .f32⟩
  | 125 => ⟨S4x64x64, .f32⟩
  | 126 => ⟨S4x64x768, .f32⟩
  | 127 => ⟨S4x1x64x64, .f32⟩
  | _ => ⟨S8x2304x6144, .bf16⟩

abbrev hbmTy0_3 (i : Nat) : BufTy := match i % 128 with
  | 0 => ⟨S4x64x64, .f32⟩
  | 1 => ⟨S4x1x64x64, .f32⟩
  | 2 => ⟨S4x64x64, .f32⟩
  | 3 => ⟨S4x1x64x64, .f32⟩
  | 4 => ⟨S4x64x64, .f32⟩
  | 5 => ⟨S4x1x64x64, .f32⟩
  | 6 => ⟨S4x64x64, .f32⟩
  | 7 => ⟨S4x1x64x64, .f32⟩
  | 8 => ⟨S4x64x64, .f32⟩
  | 9 => ⟨S4x1x64x64, .f32⟩
  | 10 => ⟨S4x64x64, .f32⟩
  | 11 => ⟨S4x1x64x64, .f32⟩
  | 12 => ⟨S4x64x64, .f32⟩
  | 13 => ⟨S4x1x64x64, .f32⟩
  | 14 => ⟨S4x64x64, .f32⟩
  | 15 => ⟨S4x64x768, .f32⟩
  | 16 => ⟨S4x1x64x64, .f32⟩
  | 17 => ⟨S4x64x64, .f32⟩
  | 18 => ⟨S4x1x64x64, .f32⟩
  | 19 => ⟨S4x64x64, .f32⟩
  | 20 => ⟨S4x1x64x64, .f32⟩
  | 21 => ⟨S4x64x64, .f32⟩
  | 22 => ⟨S4x1x64x64, .f32⟩
  | 23 => ⟨S4x64x64, .f32⟩
  | 24 => ⟨S4x1x64x64, .f32⟩
  | 25 => ⟨S4x64x64, .f32⟩
  | 26 => ⟨S4x1x64x64, .f32⟩
  | 27 => ⟨S4x64x64, .f32⟩
  | 28 => ⟨S4x1x64x64, .f32⟩
  | 29 => ⟨S4x64x64, .f32⟩
  | 30 => ⟨S4x1x64x64, .f32⟩
  | 31 => ⟨S4x64x64, .f32⟩
  | 32 => ⟨S4x64x768, .f32⟩
  | 33 => ⟨S4x1x64x64, .f32⟩
  | 34 => ⟨S4x64x64, .f32⟩
  | 35 => ⟨S4x1x64x64, .f32⟩
  | 36 => ⟨S4x64x64, .f32⟩
  | 37 => ⟨S4x1x64x64, .f32⟩
  | 38 => ⟨S4x64x64, .f32⟩
  | 39 => ⟨S4x1x64x64, .f32⟩
  | 40 => ⟨S4x64x64, .f32⟩
  | 41 => ⟨S4x1x64x64, .f32⟩
  | 42 => ⟨S4x64x64, .f32⟩
  | 43 => ⟨S4x1x64x64, .f32⟩
  | 44 => ⟨S4x64x64, .f32⟩
  | 45 => ⟨S4x1x64x64, .f32⟩
  | 46 => ⟨S4x64x64, .f32⟩
  | 47 => ⟨S4x1x64x64, .f32⟩
  | 48 => ⟨S4x64x64, .f32⟩
  | 49 => ⟨S4x64x768, .f32⟩
  | 50 => ⟨S4x256x768, .f32⟩
  | 51 => ⟨S4x1x64x64, .f32⟩
  | 52 => ⟨S4x64x64, .f32⟩
  | 53 => ⟨S4x1x64x64, .f32⟩
  | 54 => ⟨S4x64x64, .f32⟩
  | 55 => ⟨S4x1x64x64, .f32⟩
  | 56 => ⟨S4x64x64, .f32⟩
  | 57 => ⟨S4x1x64x64, .f32⟩
  | 58 => ⟨S4x64x64, .f32⟩
  | 59 => ⟨S4x1x64x64, .f32⟩
  | 60 => ⟨S4x64x64, .f32⟩
  | 61 => ⟨S4x1x64x64, .f32⟩
  | 62 => ⟨S4x64x64, .f32⟩
  | 63 => ⟨S4x1x64x64, .f32⟩
  | 64 => ⟨S4x64x64, .f32⟩
  | 65 => ⟨S4x1x64x64, .f32⟩
  | 66 => ⟨S4x64x64, .f32⟩
  | 67 => ⟨S4x64x768, .f32⟩
  | 68 => ⟨S4x1x64x64, .f32⟩
  | 69 => ⟨S4x64x64, .f32⟩
  | 70 => ⟨S4x1x64x64, .f32⟩
  | 71 => ⟨S4x64x64, .f32⟩
  | 72 => ⟨S4x1x64x64, .f32⟩
  | 73 => ⟨S4x64x64, .f32⟩
  | 74 => ⟨S4x1x64x64, .f32⟩
  | 75 => ⟨S4x64x64, .f32⟩
  | 76 => ⟨S4x1x64x64, .f32⟩
  | 77 => ⟨S4x64x64, .f32⟩
  | 78 => ⟨S4x1x64x64, .f32⟩
  | 79 => ⟨S4x64x64, .f32⟩
  | 80 => ⟨S4x1x64x64, .f32⟩
  | 81 => ⟨S4x64x64, .f32⟩
  | 82 => ⟨S4x1x64x64, .f32⟩
  | 83 => ⟨S4x64x64, .f32⟩
  | 84 => ⟨S4x64x768, .f32⟩
  | 85 => ⟨S4x1x64x64, .f32⟩
  | 86 => ⟨S4x64x64, .f32⟩
  | 87 => ⟨S4x1x64x64, .f32⟩
  | 88 => ⟨S4x64x64, .f32⟩
  | 89 => ⟨S4x1x64x64, .f32⟩
  | 90 => ⟨S4x64x64, .f32⟩
  | 91 => ⟨S4x1x64x64, .f32⟩
  | 92 => ⟨S4x64x64, .f32⟩
  | 93 => ⟨S4x1x64x64, .f32⟩
  | 94 => ⟨S4x64x64, .f32⟩
  | 95 => ⟨S4x1x64x64, .f32⟩
  | 96 => ⟨S4x64x64, .f32⟩
  | 97 => ⟨S4x1x64x64, .f32⟩
  | 98 => ⟨S4x64x64, .f32⟩
  | 99 => ⟨S4x1x64x64, .f32⟩
  | 100 => ⟨S4x64x64, .f32⟩
  | 101 => ⟨S4x64x768, .f32⟩
  | 102 => ⟨S4x1x64x64, .f32⟩
  | 103 => ⟨S4x64x64, .f32⟩
  | 104 => ⟨S4x1x64x64, .f32⟩
  | 105 => ⟨S4x64x64, .f32⟩
  | 106 => ⟨S4x1x64x64, .f32⟩
  | 107 => ⟨S4x64x64, .f32⟩
  | 108 => ⟨S4x1x64x64, .f32⟩
  | 109 => ⟨S4x64x64, .f32⟩
  | 110 => ⟨S4x1x64x64, .f32⟩
  | 111 => ⟨S4x64x64, .f32⟩
  | 112 => ⟨S4x1x64x64, .f32⟩
  | 113 => ⟨S4x64x64, .f32⟩
  | 114 => ⟨S4x1x64x64, .f32⟩
  | 115 => ⟨S4x64x64, .f32⟩
  | 116 => ⟨S4x1x64x64, .f32⟩
  | 117 => ⟨S4x64x64, .f32⟩
  | 118 => ⟨S4x64x768, .f32⟩
  | 119 => ⟨S4x256x768, .f32⟩
  | 120 => ⟨S4x1x64x64, .f32⟩
  | 121 => ⟨S4x64x64, .f32⟩
  | 122 => ⟨S4x1x64x64, .f32⟩
  | 123 => ⟨S4x64x64, .f32⟩
  | 124 => ⟨S4x1x64x64, .f32⟩
  | 125 => ⟨S4x64x64, .f32⟩
  | 126 => ⟨S4x1x64x64, .f32⟩
  | 127 => ⟨S4x64x64, .f32⟩
  | _ => ⟨S8x2304x6144, .bf16⟩

abbrev hbmTy0_4 (i : Nat) : BufTy := match i % 128 with
  | 0 => ⟨S4x1x64x64, .f32⟩
  | 1 => ⟨S4x64x64, .f32⟩
  | 2 => ⟨S4x1x64x64, .f32⟩
  | 3 => ⟨S4x64x64, .f32⟩
  | 4 => ⟨S4x1x64x64, .f32⟩
  | 5 => ⟨S4x64x64, .f32⟩
  | 6 => ⟨S4x1x64x64, .f32⟩
  | 7 => ⟨S4x64x64, .f32⟩
  | 8 => ⟨S4x64x768, .f32⟩
  | 9 => ⟨S4x1x64x64, .f32⟩
  | 10 => ⟨S4x64x64, .f32⟩
  | 11 => ⟨S4x1x64x64, .f32⟩
  | 12 => ⟨S4x64x64, .f32⟩
  | 13 => ⟨S4x1x64x64, .f32⟩
  | 14 => ⟨S4x64x64, .f32⟩
  | 15 => ⟨S4x1x64x64, .f32⟩
  | 16 => ⟨S4x64x64, .f32⟩
  | 17 => ⟨S4x1x64x64, .f32⟩
  | 18 => ⟨S4x64x64, .f32⟩
  | 19 => ⟨S4x1x64x64, .f32⟩
  | 20 => ⟨S4x64x64, .f32⟩
  | 21 => ⟨S4x1x64x64, .f32⟩
  | 22 => ⟨S4x64x64, .f32⟩
  | 23 => ⟨S4x1x64x64, .f32⟩
  | 24 => ⟨S4x64x64, .f32⟩
  | 25 => ⟨S4x64x768, .f32⟩
  | 26 => ⟨S4x1x64x64, .f32⟩
  | 27 => ⟨S4x64x64, .f32⟩
  | 28 => ⟨S4x1x64x64, .f32⟩
  | 29 => ⟨S4x64x64, .f32⟩
  | 30 => ⟨S4x1x64x64, .f32⟩
  | 31 => ⟨S4x64x64, .f32⟩
  | 32 => ⟨S4x1x64x64, .f32⟩
  | 33 => ⟨S4x64x64, .f32⟩
  | 34 => ⟨S4x1x64x64, .f32⟩
  | 35 => ⟨S4x64x64, .f32⟩
  | 36 => ⟨S4x1x64x64, .f32⟩
  | 37 => ⟨S4x64x64, .f32⟩
  | 38 => ⟨S4x1x64x64, .f32⟩
  | 39 => ⟨S4x64x64, .f32⟩
  | 40 => ⟨S4x1x64x64, .f32⟩
  | 41 => ⟨S4x64x64, .f32⟩
  | 42 => ⟨S4x64x768, .f32⟩
  | 43 => ⟨S4x1x64x64, .f32⟩
  | 44 => ⟨S4x64x64, .f32⟩
  | 45 => ⟨S4x1x64x64, .f32⟩
  | 46 => ⟨S4x64x64, .f32⟩
  | 47 => ⟨S4x1x64x64, .f32⟩
  | 48 => ⟨S4x64x64, .f32⟩
  | 49 => ⟨S4x1x64x64, .f32⟩
  | 50 => ⟨S4x64x64, .f32⟩
  | 51 => ⟨S4x1x64x64, .f32⟩
  | 52 => ⟨S4x64x64, .f32⟩
  | 53 => ⟨S4x1x64x64, .f32⟩
  | 54 => ⟨S4x64x64, .f32⟩
  | 55 => ⟨S4x1x64x64, .f32⟩
  | 56 => ⟨S4x64x64, .f32⟩
  | 57 => ⟨S4x1x64x64, .f32⟩
  | 58 => ⟨S4x64x64, .f32⟩
  | 59 => ⟨S4x64x768, .f32⟩
  | 60 => ⟨S4x256x768, .f32⟩
  | 61 => ⟨S4x1x256x768, .f32⟩
  | 62 => ⟨S4x1x256x768, .f32⟩
  | 63 => ⟨S4x1x256x768, .f32⟩
  | 64 => ⟨S4x1x256x768, .f32⟩
  | 65 => ⟨S4x1x256x768, .f32⟩
  | 66 => ⟨S4x1x256x768, .f32⟩
  | 67 => ⟨S4x1x256x768, .f32⟩
  | 68 => ⟨S4x1x256x768, .f32⟩
  | 69 => ⟨S4x1x256x768, .f32⟩
  | 70 => ⟨S4x9x256x768, .f32⟩
  | 71 => ⟨S8x2304x512, .bf16⟩
  | _ => ⟨S8x2304x6144, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2304x6144, .bf16⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S4x1x256x768, .f32⟩
  | .local _ .vmem, ⟨19, _⟩ => ⟨S4x1x256x768, .f32⟩
  | .local _ .vmem, ⟨20, _⟩ => ⟨S1x256x512, .bf16⟩
  | .local _ .vmem, ⟨21, _⟩ => ⟨S1x256x512, .bf16⟩
  | _, _ => ⟨S8x2304x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_v260 : Ref sig .tc := ⟨.hbm, 272, rfl⟩
abbrev main_v261 : Ref sig .tc := ⟨.hbm, 273, rfl⟩
abbrev main_v262 : Ref sig .tc := ⟨.hbm, 274, rfl⟩
abbrev main_v263 : Ref sig .tc := ⟨.hbm, 275, rfl⟩
abbrev main_v264 : Ref sig .tc := ⟨.hbm, 276, rfl⟩
abbrev main_v265 : Ref sig .tc := ⟨.hbm, 277, rfl⟩
abbrev main_v266 : Ref sig .tc := ⟨.hbm, 278, rfl⟩
abbrev main_v267 : Ref sig .tc := ⟨.hbm, 279, rfl⟩
abbrev main_v268 : Ref sig .tc := ⟨.hbm, 280, rfl⟩
abbrev main_v269 : Ref sig .tc := ⟨.hbm, 281, rfl⟩
abbrev main_v270 : Ref sig .tc := ⟨.hbm, 282, rfl⟩
abbrev main_v271 : Ref sig .tc := ⟨.hbm, 283, rfl⟩
abbrev main_v272 : Ref sig .tc := ⟨.hbm, 284, rfl⟩
abbrev main_v273 : Ref sig .tc := ⟨.hbm, 285, rfl⟩
abbrev main_v274 : Ref sig .tc := ⟨.hbm, 286, rfl⟩
abbrev main_v275 : Ref sig .tc := ⟨.hbm, 287, rfl⟩
abbrev main_v276 : Ref sig .tc := ⟨.hbm, 288, rfl⟩
abbrev main_v277 : Ref sig .tc := ⟨.hbm, 289, rfl⟩
abbrev main_v278 : Ref sig .tc := ⟨.hbm, 290, rfl⟩
abbrev main_v279 : Ref sig .tc := ⟨.hbm, 291, rfl⟩
abbrev main_v280 : Ref sig .tc := ⟨.hbm, 292, rfl⟩
abbrev main_v281 : Ref sig .tc := ⟨.hbm, 293, rfl⟩
abbrev main_v282 : Ref sig .tc := ⟨.hbm, 294, rfl⟩
abbrev main_v283 : Ref sig .tc := ⟨.hbm, 295, rfl⟩
abbrev main_v284 : Ref sig .tc := ⟨.hbm, 296, rfl⟩
abbrev main_v285 : Ref sig .tc := ⟨.hbm, 297, rfl⟩
abbrev main_v286 : Ref sig .tc := ⟨.hbm, 298, rfl⟩
abbrev main_v287 : Ref sig .tc := ⟨.hbm, 299, rfl⟩
abbrev main_v288 : Ref sig .tc := ⟨.hbm, 300, rfl⟩
abbrev main_v289 : Ref sig .tc := ⟨.hbm, 301, rfl⟩
abbrev main_v290 : Ref sig .tc := ⟨.hbm, 302, rfl⟩
abbrev main_v291 : Ref sig .tc := ⟨.hbm, 303, rfl⟩
abbrev main_v292 : Ref sig .tc := ⟨.hbm, 304, rfl⟩
abbrev main_v293 : Ref sig .tc := ⟨.hbm, 305, rfl⟩
abbrev main_v294 : Ref sig .tc := ⟨.hbm, 306, rfl⟩
abbrev main_v295 : Ref sig .tc := ⟨.hbm, 307, rfl⟩
abbrev main_v296 : Ref sig .tc := ⟨.hbm, 308, rfl⟩
abbrev main_v297 : Ref sig .tc := ⟨.hbm, 309, rfl⟩
abbrev main_v298 : Ref sig .tc := ⟨.hbm, 310, rfl⟩
abbrev main_v299 : Ref sig .tc := ⟨.hbm, 311, rfl⟩
abbrev main_v300 : Ref sig .tc := ⟨.hbm, 312, rfl⟩
abbrev main_v301 : Ref sig .tc := ⟨.hbm, 313, rfl⟩
abbrev main_v302 : Ref sig .tc := ⟨.hbm, 314, rfl⟩
abbrev main_v303 : Ref sig .tc := ⟨.hbm, 315, rfl⟩
abbrev main_v304 : Ref sig .tc := ⟨.hbm, 316, rfl⟩
abbrev main_v305 : Ref sig .tc := ⟨.hbm, 317, rfl⟩
abbrev main_v306 : Ref sig .tc := ⟨.hbm, 318, rfl⟩
abbrev main_v307 : Ref sig .tc := ⟨.hbm, 319, rfl⟩
abbrev main_v308 : Ref sig .tc := ⟨.hbm, 320, rfl⟩
abbrev main_v309 : Ref sig .tc := ⟨.hbm, 321, rfl⟩
abbrev main_v310 : Ref sig .tc := ⟨.hbm, 322, rfl⟩
abbrev main_v311 : Ref sig .tc := ⟨.hbm, 323, rfl⟩
abbrev main_v312 : Ref sig .tc := ⟨.hbm, 324, rfl⟩
abbrev main_v313 : Ref sig .tc := ⟨.hbm, 325, rfl⟩
abbrev main_v314 : Ref sig .tc := ⟨.hbm, 326, rfl⟩
abbrev main_v315 : Ref sig .tc := ⟨.hbm, 327, rfl⟩
abbrev main_v316 : Ref sig .tc := ⟨.hbm, 328, rfl⟩
abbrev main_v317 : Ref sig .tc := ⟨.hbm, 329, rfl⟩
abbrev main_v318 : Ref sig .tc := ⟨.hbm, 330, rfl⟩
abbrev main_v319 : Ref sig .tc := ⟨.hbm, 331, rfl⟩
abbrev main_v320 : Ref sig .tc := ⟨.hbm, 332, rfl⟩
abbrev main_v321 : Ref sig .tc := ⟨.hbm, 333, rfl⟩
abbrev main_v322 : Ref sig .tc := ⟨.hbm, 334, rfl⟩
abbrev main_v323 : Ref sig .tc := ⟨.hbm, 335, rfl⟩
abbrev main_v324 : Ref sig .tc := ⟨.hbm, 336, rfl⟩
abbrev main_v325 : Ref sig .tc := ⟨.hbm, 337, rfl⟩
abbrev main_v326 : Ref sig .tc := ⟨.hbm, 338, rfl⟩
abbrev main_v327 : Ref sig .tc := ⟨.hbm, 339, rfl⟩
abbrev main_v328 : Ref sig .tc := ⟨.hbm, 340, rfl⟩
abbrev main_v329 : Ref sig .tc := ⟨.hbm, 341, rfl⟩
abbrev main_v330 : Ref sig .tc := ⟨.hbm, 342, rfl⟩
abbrev main_v331 : Ref sig .tc := ⟨.hbm, 343, rfl⟩
abbrev main_v332 : Ref sig .tc := ⟨.hbm, 344, rfl⟩
abbrev main_v333 : Ref sig .tc := ⟨.hbm, 345, rfl⟩
abbrev main_v334 : Ref sig .tc := ⟨.hbm, 346, rfl⟩
abbrev main_v335 : Ref sig .tc := ⟨.hbm, 347, rfl⟩
abbrev main_v336 : Ref sig .tc := ⟨.hbm, 348, rfl⟩
abbrev main_v337 : Ref sig .tc := ⟨.hbm, 349, rfl⟩
abbrev main_v338 : Ref sig .tc := ⟨.hbm, 350, rfl⟩
abbrev main_v339 : Ref sig .tc := ⟨.hbm, 351, rfl⟩
abbrev main_v340 : Ref sig .tc := ⟨.hbm, 352, rfl⟩
abbrev main_v341 : Ref sig .tc := ⟨.hbm, 353, rfl⟩
abbrev main_v342 : Ref sig .tc := ⟨.hbm, 354, rfl⟩
abbrev main_v343 : Ref sig .tc := ⟨.hbm, 355, rfl⟩
abbrev main_v344 : Ref sig .tc := ⟨.hbm, 356, rfl⟩
abbrev main_v345 : Ref sig .tc := ⟨.hbm, 357, rfl⟩
abbrev main_v346 : Ref sig .tc := ⟨.hbm, 358, rfl⟩
abbrev main_v347 : Ref sig .tc := ⟨.hbm, 359, rfl⟩
abbrev main_v348 : Ref sig .tc := ⟨.hbm, 360, rfl⟩
abbrev main_v349 : Ref sig .tc := ⟨.hbm, 361, rfl⟩
abbrev main_v350 : Ref sig .tc := ⟨.hbm, 362, rfl⟩
abbrev main_v351 : Ref sig .tc := ⟨.hbm, 363, rfl⟩
abbrev main_v352 : Ref sig .tc := ⟨.hbm, 364, rfl⟩
abbrev main_v353 : Ref sig .tc := ⟨.hbm, 365, rfl⟩
abbrev main_v354 : Ref sig .tc := ⟨.hbm, 366, rfl⟩
abbrev main_v355 : Ref sig .tc := ⟨.hbm, 367, rfl⟩
abbrev main_v356 : Ref sig .tc := ⟨.hbm, 368, rfl⟩
abbrev main_v357 : Ref sig .tc := ⟨.hbm, 369, rfl⟩
abbrev main_v358 : Ref sig .tc := ⟨.hbm, 370, rfl⟩
abbrev main_v359 : Ref sig .tc := ⟨.hbm, 371, rfl⟩
abbrev main_v360 : Ref sig .tc := ⟨.hbm, 372, rfl⟩
abbrev main_v361 : Ref sig .tc := ⟨.hbm, 373, rfl⟩
abbrev main_v362 : Ref sig .tc := ⟨.hbm, 374, rfl⟩
abbrev main_v363 : Ref sig .tc := ⟨.hbm, 375, rfl⟩
abbrev main_v364 : Ref sig .tc := ⟨.hbm, 376, rfl⟩
abbrev main_v365 : Ref sig .tc := ⟨.hbm, 377, rfl⟩
abbrev main_v366 : Ref sig .tc := ⟨.hbm, 378, rfl⟩
abbrev main_v367 : Ref sig .tc := ⟨.hbm, 379, rfl⟩
abbrev main_v368 : Ref sig .tc := ⟨.hbm, 380, rfl⟩
abbrev main_v369 : Ref sig .tc := ⟨.hbm, 381, rfl⟩
abbrev main_v370 : Ref sig .tc := ⟨.hbm, 382, rfl⟩
abbrev main_v371 : Ref sig .tc := ⟨.hbm, 383, rfl⟩
abbrev main_v372 : Ref sig .tc := ⟨.hbm, 384, rfl⟩
abbrev main_v373 : Ref sig .tc := ⟨.hbm, 385, rfl⟩
abbrev main_v374 : Ref sig .tc := ⟨.hbm, 386, rfl⟩
abbrev main_v375 : Ref sig .tc := ⟨.hbm, 387, rfl⟩
abbrev main_v376 : Ref sig .tc := ⟨.hbm, 388, rfl⟩
abbrev main_v377 : Ref sig .tc := ⟨.hbm, 389, rfl⟩
abbrev main_v378 : Ref sig .tc := ⟨.hbm, 390, rfl⟩
abbrev main_v379 : Ref sig .tc := ⟨.hbm, 391, rfl⟩
abbrev main_v380 : Ref sig .tc := ⟨.hbm, 392, rfl⟩
abbrev main_v381 : Ref sig .tc := ⟨.hbm, 393, rfl⟩
abbrev main_v382 : Ref sig .tc := ⟨.hbm, 394, rfl⟩
abbrev main_v383 : Ref sig .tc := ⟨.hbm, 395, rfl⟩
abbrev main_v384 : Ref sig .tc := ⟨.hbm, 396, rfl⟩
abbrev main_v385 : Ref sig .tc := ⟨.hbm, 397, rfl⟩
abbrev main_v386 : Ref sig .tc := ⟨.hbm, 398, rfl⟩
abbrev main_v387 : Ref sig .tc := ⟨.hbm, 399, rfl⟩
abbrev main_v388 : Ref sig .tc := ⟨.hbm, 400, rfl⟩
abbrev main_v389 : Ref sig .tc := ⟨.hbm, 401, rfl⟩
abbrev main_v390 : Ref sig .tc := ⟨.hbm, 402, rfl⟩
abbrev main_v391 : Ref sig .tc := ⟨.hbm, 403, rfl⟩
abbrev main_v392 : Ref sig .tc := ⟨.hbm, 404, rfl⟩
abbrev main_v393 : Ref sig .tc := ⟨.hbm, 405, rfl⟩
abbrev main_v394 : Ref sig .tc := ⟨.hbm, 406, rfl⟩
abbrev main_v395 : Ref sig .tc := ⟨.hbm, 407, rfl⟩
abbrev main_v396 : Ref sig .tc := ⟨.hbm, 408, rfl⟩
abbrev main_v397 : Ref sig .tc := ⟨.hbm, 409, rfl⟩
abbrev main_v398 : Ref sig .tc := ⟨.hbm, 410, rfl⟩
abbrev main_v399 : Ref sig .tc := ⟨.hbm, 411, rfl⟩
abbrev main_v400 : Ref sig .tc := ⟨.hbm, 412, rfl⟩
abbrev main_v401 : Ref sig .tc := ⟨.hbm, 413, rfl⟩
abbrev main_v402 : Ref sig .tc := ⟨.hbm, 414, rfl⟩
abbrev main_v403 : Ref sig .tc := ⟨.hbm, 415, rfl⟩
abbrev main_v404 : Ref sig .tc := ⟨.hbm, 416, rfl⟩
abbrev main_v405 : Ref sig .tc := ⟨.hbm, 417, rfl⟩
abbrev main_v406 : Ref sig .tc := ⟨.hbm, 418, rfl⟩
abbrev main_v407 : Ref sig .tc := ⟨.hbm, 419, rfl⟩
abbrev main_v408 : Ref sig .tc := ⟨.hbm, 420, rfl⟩
abbrev main_v409 : Ref sig .tc := ⟨.hbm, 421, rfl⟩
abbrev main_v410 : Ref sig .tc := ⟨.hbm, 422, rfl⟩
abbrev main_v411 : Ref sig .tc := ⟨.hbm, 423, rfl⟩
abbrev main_v412 : Ref sig .tc := ⟨.hbm, 424, rfl⟩
abbrev main_v413 : Ref sig .tc := ⟨.hbm, 425, rfl⟩
abbrev main_v414 : Ref sig .tc := ⟨.hbm, 426, rfl⟩
abbrev main_v415 : Ref sig .tc := ⟨.hbm, 427, rfl⟩
abbrev main_v416 : Ref sig .tc := ⟨.hbm, 428, rfl⟩
abbrev main_v417 : Ref sig .tc := ⟨.hbm, 429, rfl⟩
abbrev main_v418 : Ref sig .tc := ⟨.hbm, 430, rfl⟩
abbrev main_v419 : Ref sig .tc := ⟨.hbm, 431, rfl⟩
abbrev main_v420 : Ref sig .tc := ⟨.hbm, 432, rfl⟩
abbrev main_v421 : Ref sig .tc := ⟨.hbm, 433, rfl⟩
abbrev main_v422 : Ref sig .tc := ⟨.hbm, 434, rfl⟩
abbrev main_v423 : Ref sig .tc := ⟨.hbm, 435, rfl⟩
abbrev main_v424 : Ref sig .tc := ⟨.hbm, 436, rfl⟩
abbrev main_v425 : Ref sig .tc := ⟨.hbm, 437, rfl⟩
abbrev main_v426 : Ref sig .tc := ⟨.hbm, 438, rfl⟩
abbrev main_v427 : Ref sig .tc := ⟨.hbm, 439, rfl⟩
abbrev main_v428 : Ref sig .tc := ⟨.hbm, 440, rfl⟩
abbrev main_v429 : Ref sig .tc := ⟨.hbm, 441, rfl⟩
abbrev main_v430 : Ref sig .tc := ⟨.hbm, 442, rfl⟩
abbrev main_v431 : Ref sig .tc := ⟨.hbm, 443, rfl⟩
abbrev main_v432 : Ref sig .tc := ⟨.hbm, 444, rfl⟩
abbrev main_v433 : Ref sig .tc := ⟨.hbm, 445, rfl⟩
abbrev main_v434 : Ref sig .tc := ⟨.hbm, 446, rfl⟩
abbrev main_v435 : Ref sig .tc := ⟨.hbm, 447, rfl⟩
abbrev main_v436 : Ref sig .tc := ⟨.hbm, 448, rfl⟩
abbrev main_v437 : Ref sig .tc := ⟨.hbm, 449, rfl⟩
abbrev main_v438 : Ref sig .tc := ⟨.hbm, 450, rfl⟩
abbrev main_v439 : Ref sig .tc := ⟨.hbm, 451, rfl⟩
abbrev main_v440 : Ref sig .tc := ⟨.hbm, 452, rfl⟩
abbrev main_v441 : Ref sig .tc := ⟨.hbm, 453, rfl⟩
abbrev main_v442 : Ref sig .tc := ⟨.hbm, 454, rfl⟩
abbrev main_v443 : Ref sig .tc := ⟨.hbm, 455, rfl⟩
abbrev main_v444 : Ref sig .tc := ⟨.hbm, 456, rfl⟩
abbrev main_v445 : Ref sig .tc := ⟨.hbm, 457, rfl⟩
abbrev main_v446 : Ref sig .tc := ⟨.hbm, 458, rfl⟩
abbrev main_v447 : Ref sig .tc := ⟨.hbm, 459, rfl⟩
abbrev main_v448 : Ref sig .tc := ⟨.hbm, 460, rfl⟩
abbrev main_v449 : Ref sig .tc := ⟨.hbm, 461, rfl⟩
abbrev main_v450 : Ref sig .tc := ⟨.hbm, 462, rfl⟩
abbrev main_v451 : Ref sig .tc := ⟨.hbm, 463, rfl⟩
abbrev main_v452 : Ref sig .tc := ⟨.hbm, 464, rfl⟩
abbrev main_v453 : Ref sig .tc := ⟨.hbm, 465, rfl⟩
abbrev main_v454 : Ref sig .tc := ⟨.hbm, 466, rfl⟩
abbrev main_v455 : Ref sig .tc := ⟨.hbm, 467, rfl⟩
abbrev main_v456 : Ref sig .tc := ⟨.hbm, 468, rfl⟩
abbrev main_v457 : Ref sig .tc := ⟨.hbm, 469, rfl⟩
abbrev main_v458 : Ref sig .tc := ⟨.hbm, 470, rfl⟩
abbrev main_v459 : Ref sig .tc := ⟨.hbm, 471, rfl⟩
abbrev main_v460 : Ref sig .tc := ⟨.hbm, 472, rfl⟩
abbrev main_v461 : Ref sig .tc := ⟨.hbm, 473, rfl⟩
abbrev main_v462 : Ref sig .tc := ⟨.hbm, 474, rfl⟩
abbrev main_v463 : Ref sig .tc := ⟨.hbm, 475, rfl⟩
abbrev main_v464 : Ref sig .tc := ⟨.hbm, 476, rfl⟩
abbrev main_v465 : Ref sig .tc := ⟨.hbm, 477, rfl⟩
abbrev main_v466 : Ref sig .tc := ⟨.hbm, 478, rfl⟩
abbrev main_v467 : Ref sig .tc := ⟨.hbm, 479, rfl⟩
abbrev main_v468 : Ref sig .tc := ⟨.hbm, 480, rfl⟩
abbrev main_v469 : Ref sig .tc := ⟨.hbm, 481, rfl⟩
abbrev main_v470 : Ref sig .tc := ⟨.hbm, 482, rfl⟩
abbrev main_v471 : Ref sig .tc := ⟨.hbm, 483, rfl⟩
abbrev main_v472 : Ref sig .tc := ⟨.hbm, 484, rfl⟩
abbrev main_v473 : Ref sig .tc := ⟨.hbm, 485, rfl⟩
abbrev main_v474 : Ref sig .tc := ⟨.hbm, 486, rfl⟩
abbrev main_v475 : Ref sig .tc := ⟨.hbm, 487, rfl⟩
abbrev main_v476 : Ref sig .tc := ⟨.hbm, 488, rfl⟩
abbrev main_v477 : Ref sig .tc := ⟨.hbm, 489, rfl⟩
abbrev main_v478 : Ref sig .tc := ⟨.hbm, 490, rfl⟩
abbrev main_v479 : Ref sig .tc := ⟨.hbm, 491, rfl⟩
abbrev main_v480 : Ref sig .tc := ⟨.hbm, 492, rfl⟩
abbrev main_v481 : Ref sig .tc := ⟨.hbm, 493, rfl⟩
abbrev main_v482 : Ref sig .tc := ⟨.hbm, 494, rfl⟩
abbrev main_v483 : Ref sig .tc := ⟨.hbm, 495, rfl⟩
abbrev main_v484 : Ref sig .tc := ⟨.hbm, 496, rfl⟩
abbrev main_v485 : Ref sig .tc := ⟨.hbm, 497, rfl⟩
abbrev main_v486 : Ref sig .tc := ⟨.hbm, 498, rfl⟩
abbrev main_v487 : Ref sig .tc := ⟨.hbm, 499, rfl⟩
abbrev main_v488 : Ref sig .tc := ⟨.hbm, 500, rfl⟩
abbrev main_v489 : Ref sig .tc := ⟨.hbm, 501, rfl⟩
abbrev main_v490 : Ref sig .tc := ⟨.hbm, 502, rfl⟩
abbrev main_v491 : Ref sig .tc := ⟨.hbm, 503, rfl⟩
abbrev main_v492 : Ref sig .tc := ⟨.hbm, 504, rfl⟩
abbrev main_v493 : Ref sig .tc := ⟨.hbm, 505, rfl⟩
abbrev main_v494 : Ref sig .tc := ⟨.hbm, 506, rfl⟩
abbrev main_v495 : Ref sig .tc := ⟨.hbm, 507, rfl⟩
abbrev main_v496 : Ref sig .tc := ⟨.hbm, 508, rfl⟩
abbrev main_v497 : Ref sig .tc := ⟨.hbm, 509, rfl⟩
abbrev main_v498 : Ref sig .tc := ⟨.hbm, 510, rfl⟩
abbrev main_v499 : Ref sig .tc := ⟨.hbm, 511, rfl⟩
abbrev main_v500 : Ref sig .tc := ⟨.hbm, 512, rfl⟩
abbrev main_v501 : Ref sig .tc := ⟨.hbm, 513, rfl⟩
abbrev main_v502 : Ref sig .tc := ⟨.hbm, 514, rfl⟩
abbrev main_v503 : Ref sig .tc := ⟨.hbm, 515, rfl⟩
abbrev main_v504 : Ref sig .tc := ⟨.hbm, 516, rfl⟩
abbrev main_v505 : Ref sig .tc := ⟨.hbm, 517, rfl⟩
abbrev main_v506 : Ref sig .tc := ⟨.hbm, 518, rfl⟩
abbrev main_v507 : Ref sig .tc := ⟨.hbm, 519, rfl⟩
abbrev main_v508 : Ref sig .tc := ⟨.hbm, 520, rfl⟩
abbrev main_v509 : Ref sig .tc := ⟨.hbm, 521, rfl⟩
abbrev main_v510 : Ref sig .tc := ⟨.hbm, 522, rfl⟩
abbrev main_v511 : Ref sig .tc := ⟨.hbm, 523, rfl⟩
abbrev main_v512 : Ref sig .tc := ⟨.hbm, 524, rfl⟩
abbrev main_v513 : Ref sig .tc := ⟨.hbm, 525, rfl⟩
abbrev main_v514 : Ref sig .tc := ⟨.hbm, 526, rfl⟩
abbrev main_v515 : Ref sig .tc := ⟨.hbm, 527, rfl⟩
abbrev main_v516 : Ref sig .tc := ⟨.hbm, 528, rfl⟩
abbrev main_v517 : Ref sig .tc := ⟨.hbm, 529, rfl⟩
abbrev main_v518 : Ref sig .tc := ⟨.hbm, 530, rfl⟩
abbrev main_v519 : Ref sig .tc := ⟨.hbm, 531, rfl⟩
abbrev main_v520 : Ref sig .tc := ⟨.hbm, 532, rfl⟩
abbrev main_v521 : Ref sig .tc := ⟨.hbm, 533, rfl⟩
abbrev main_v522 : Ref sig .tc := ⟨.hbm, 534, rfl⟩
abbrev main_v523 : Ref sig .tc := ⟨.hbm, 535, rfl⟩
abbrev main_v524 : Ref sig .tc := ⟨.hbm, 536, rfl⟩
abbrev main_v525 : Ref sig .tc := ⟨.hbm, 537, rfl⟩
abbrev main_v526 : Ref sig .tc := ⟨.hbm, 538, rfl⟩
abbrev main_v527 : Ref sig .tc := ⟨.hbm, 539, rfl⟩
abbrev main_v528 : Ref sig .tc := ⟨.hbm, 540, rfl⟩
abbrev main_v529 : Ref sig .tc := ⟨.hbm, 541, rfl⟩
abbrev main_v530 : Ref sig .tc := ⟨.hbm, 542, rfl⟩
abbrev main_v531 : Ref sig .tc := ⟨.hbm, 543, rfl⟩
abbrev main_v532 : Ref sig .tc := ⟨.hbm, 544, rfl⟩
abbrev main_v533 : Ref sig .tc := ⟨.hbm, 545, rfl⟩
abbrev main_v534 : Ref sig .tc := ⟨.hbm, 546, rfl⟩
abbrev main_v535 : Ref sig .tc := ⟨.hbm, 547, rfl⟩
abbrev main_v536 : Ref sig .tc := ⟨.hbm, 548, rfl⟩
abbrev main_v537 : Ref sig .tc := ⟨.hbm, 549, rfl⟩
abbrev main_v538 : Ref sig .tc := ⟨.hbm, 550, rfl⟩
abbrev main_v539 : Ref sig .tc := ⟨.hbm, 551, rfl⟩
abbrev main_v540 : Ref sig .tc := ⟨.hbm, 552, rfl⟩
abbrev main_v541 : Ref sig .tc := ⟨.hbm, 553, rfl⟩
abbrev main_v542 : Ref sig .tc := ⟨.hbm, 554, rfl⟩
abbrev main_v543 : Ref sig .tc := ⟨.hbm, 555, rfl⟩
abbrev main_v544 : Ref sig .tc := ⟨.hbm, 556, rfl⟩
abbrev main_v545 : Ref sig .tc := ⟨.hbm, 557, rfl⟩
abbrev main_v546 : Ref sig .tc := ⟨.hbm, 558, rfl⟩
abbrev main_v547 : Ref sig .tc := ⟨.hbm, 559, rfl⟩
abbrev main_v548 : Ref sig .tc := ⟨.hbm, 560, rfl⟩
abbrev main_v549 : Ref sig .tc := ⟨.hbm, 561, rfl⟩
abbrev main_v550 : Ref sig .tc := ⟨.hbm, 562, rfl⟩
abbrev main_v551 : Ref sig .tc := ⟨.hbm, 563, rfl⟩
abbrev main_v552 : Ref sig .tc := ⟨.hbm, 564, rfl⟩
abbrev main_v553 : Ref sig .tc := ⟨.hbm, 565, rfl⟩
abbrev main_v554 : Ref sig .tc := ⟨.hbm, 566, rfl⟩
abbrev main_v555 : Ref sig .tc := ⟨.hbm, 567, rfl⟩
abbrev main_v556 : Ref sig .tc := ⟨.hbm, 568, rfl⟩
abbrev main_v557 : Ref sig .tc := ⟨.hbm, 569, rfl⟩
abbrev main_v558 : Ref sig .tc := ⟨.hbm, 570, rfl⟩
abbrev main_v559 : Ref sig .tc := ⟨.hbm, 571, rfl⟩
abbrev main_v560 : Ref sig .tc := ⟨.hbm, 572, rfl⟩
abbrev main_v561 : Ref sig .tc := ⟨.hbm, 573, rfl⟩
abbrev main_v562 : Ref sig .tc := ⟨.hbm, 574, rfl⟩
abbrev main_v563 : Ref sig .tc := ⟨.hbm, 575, rfl⟩
abbrev main_v564 : Ref sig .tc := ⟨.hbm, 576, rfl⟩
abbrev main_v565 : Ref sig .tc := ⟨.hbm, 577, rfl⟩
abbrev main_v566 : Ref sig .tc := ⟨.hbm, 578, rfl⟩
abbrev main_v567 : Ref sig .tc := ⟨.hbm, 579, rfl⟩
abbrev main_v568 : Ref sig .tc := ⟨.hbm, 580, rfl⟩
abbrev main_v569 : Ref sig .tc := ⟨.hbm, 581, rfl⟩
abbrev main_v570 : Ref sig .tc := ⟨.hbm, 582, rfl⟩
abbrev main_v571 : Ref sig .tc := ⟨.hbm, 583, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![9, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg1.toNat, c0_i32.toNat, c5_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c5_i32 : BitVec 32 := 5#32
  let v1 : BitVec 32 := Scalar.maxsi c0_i32 v0
  let v2 : BitVec 32 := Scalar.minsi c5_i32 v1
  let c1_i32 : BitVec 32 := 1#32
  let v3 : BitVec 32 := Scalar.addi c1_i32 v2
  let c0_i32_0 : BitVec 32 := 0#32
  let v4 : BitVec 32 := Scalar.addi v3 c0_i32_0
  let c5_i32_1 : BitVec 32 := 5#32
  let c0_i32_2 : BitVec 32 := 0#32
  ![arg1.toNat, v4.toNat, c5_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c5_i32 : BitVec 32 := 5#32
  let v1 : BitVec 32 := Scalar.maxsi c0_i32 v0
  let v2 : BitVec 32 := Scalar.minsi c5_i32 v1
  let c1_i32 : BitVec 32 := 1#32
  let v3 : BitVec 32 := Scalar.addi c1_i32 v2
  let c1_i32_0 : BitVec 32 := 1#32
  let v4 : BitVec 32 := Scalar.addi v3 c1_i32_0
  let c5_i32_1 : BitVec 32 := 5#32
  let c0_i32_2 : BitVec 32 := 0#32
  ![arg1.toNat, v4.toNat, c5_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c5_i32 : BitVec 32 := 5#32
  let v1 : BitVec 32 := Scalar.maxsi c0_i32 v0
  let v2 : BitVec 32 := Scalar.minsi c5_i32 v1
  let c1_i32 : BitVec 32 := 1#32
  let v3 : BitVec 32 := Scalar.addi c1_i32 v2
  let c2_i32_0 : BitVec 32 := 2#32
  let v4 : BitVec 32 := Scalar.addi v3 c2_i32_0
  let c5_i32_1 : BitVec 32 := 5#32
  let c0_i32_2 : BitVec 32 := 0#32
  ![arg1.toNat, v4.toNat, c5_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg1.toNat, c0_i32.toNat, c6_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c5_i32 : BitVec 32 := 5#32
  let v1 : BitVec 32 := Scalar.maxsi c0_i32 v0
  let v2 : BitVec 32 := Scalar.minsi c5_i32 v1
  let c1_i32 : BitVec 32 := 1#32
  let v3 : BitVec 32 := Scalar.addi c1_i32 v2
  let c0_i32_0 : BitVec 32 := 0#32
  let v4 : BitVec 32 := Scalar.addi v3 c0_i32_0
  let c6_i32 : BitVec 32 := 6#32
  let c0_i32_1 : BitVec 32 := 0#32
  ![arg1.toNat, v4.toNat, c6_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c5_i32 : BitVec 32 := 5#32
  let v1 : BitVec 32 := Scalar.maxsi c0_i32 v0
  let v2 : BitVec 32 := Scalar.minsi c5_i32 v1
  let c1_i32 : BitVec 32 := 1#32
  let v3 : BitVec 32 := Scalar.addi c1_i32 v2
  let c1_i32_0 : BitVec 32 := 1#32
  let v4 : BitVec 32 := Scalar.addi v3 c1_i32_0
  let c6_i32 : BitVec 32 := 6#32
  let c0_i32_1 : BitVec 32 := 0#32
  ![arg1.toNat, v4.toNat, c6_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c5_i32 : BitVec 32 := 5#32
  let v1 : BitVec 32 := Scalar.maxsi c0_i32 v0
  let v2 : BitVec 32 := Scalar.minsi c5_i32 v1
  let c1_i32 : BitVec 32 := 1#32
  let v3 : BitVec 32 := Scalar.addi c1_i32 v2
  let c2_i32_0 : BitVec 32 := 2#32
  let v4 : BitVec 32 := Scalar.addi v3 c2_i32_0
  let c6_i32 : BitVec 32 := 6#32
  let c0_i32_1 : BitVec 32 := 0#32
  ![arg1.toNat, v4.toNat, c6_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S8x2304x6144 : Shape := ⟨3, ![8, 2304, 6144]⟩
abbrev S4x15x31 : Shape := ⟨3, ![4, 15, 31]⟩
abbrev S8x2304x512 : Shape := ⟨3, ![8, 2304, 512]⟩
abbrev S8x2304x4x128 : Shape := ⟨4, ![8, 2304, 4, 128]⟩
abbrev S8x256x4x128 : Shape := ⟨4, ![8, 256, 4, 128]⟩
abbrev S8x2048x4x128 : Shape := ⟨4, ![8, 2048, 4, 128]⟩
abbrev S8x4x256x256 : Shape := ⟨4, ![8, 4, 256, 256]⟩
abbrev S_ : Shape := ⟨0, ![]⟩
abbrev S8x4x256 : Shape := ⟨3, ![8, 4, 256]⟩
abbrev S8x4x256x1 : Shape := ⟨4, ![8, 4, 256, 1]⟩
abbrev S8x4x128x256 : Shape := ⟨4, ![8, 4, 128, 256]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S32x1x1x8x1 : Shape := ⟨5, ![32, 1, 1, 8, 1]⟩
abbrev S1x4x16x1x32 : Shape := ⟨5, ![1, 4, 16, 1, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S4x32x4x16x8x32 : Shape := ⟨6, ![4, 32, 4, 16, 8, 32]⟩
abbrev S8x32x4x16x4x128 : Shape := ⟨6, ![8, 32, 4, 16, 4, 128]⟩
abbrev S8x32x64x4x128 : Shape := ⟨5, ![8, 32, 64, 4, 128]⟩
abbrev S32x1x8x1 : Shape := ⟨4, ![32, 1, 8, 1]⟩
abbrev S1x4x1x32 : Shape := ⟨4, ![1, 4, 1, 32]⟩
abbrev S32x4x8x32 : Shape := ⟨4, ![32, 4, 8, 32]⟩
abbrev S32x4x8x32x1 : Shape := ⟨5, ![32, 4, 8, 32, 1]⟩
abbrev S32x4x8x32x2 : Shape := ⟨5, ![32, 4, 8, 32, 2]⟩
abbrev S8x32x4x8x32x4x128 : Shape := ⟨7, ![8, 32, 4, 8, 32, 4, 128]⟩
abbrev S8x4x32x4x16x8x32 : Shape := ⟨7, ![8, 4, 32, 4, 16, 8, 32]⟩
abbrev S1x4x32x4x16x8x32 : Shape := ⟨7, ![1, 4, 32, 4, 16, 8, 32]⟩
abbrev S4x16x1x32 : Shape := ⟨4, ![4, 16, 1, 32]⟩
abbrev S8x4x32x4x16x256 : Shape := ⟨6, ![8, 4, 32, 4, 16, 256]⟩
abbrev S8x4x32x4x16x512 : Shape := ⟨6, ![8, 4, 32, 4, 16, 512]⟩
abbrev S8x4x32x4x16 : Shape := ⟨5, ![8, 4, 32, 4, 16]⟩
abbrev S8x4x32x4x16x1 : Shape := ⟨6, ![8, 4, 32, 4, 16, 1]⟩
abbrev S8x32x4x4x128x16 : Shape := ⟨6, ![8, 32, 4, 4, 128, 16]⟩
abbrev S8x4x128x32x4x16 : Shape := ⟨6, ![8, 4, 128, 32, 4, 16]⟩

abbrev nBuf : Space → Nat
  | .hbm => 247
  | .vmem => 0
  | .smem => 0
  | _ => 0

abbrev hbmTy0_0 (i : Nat) : BufTy := match i % 128 with
  | 0 => ⟨S8x2304x6144, .bf16⟩
  | 1 => ⟨S4x15x31, .f32⟩
  | 2 => ⟨S8x2304x6144, .f32⟩
  | 3 => ⟨S8x2304x512, .f32⟩
  | 4 => ⟨S8x2304x512, .f32⟩
  | 5 => ⟨S8x2304x512, .f32⟩
  | 6 => ⟨S8x2304x4x128, .f32⟩
  | 7 => ⟨S8x256x4x128, .f32⟩
  | 8 => ⟨S8x2048x4x128, .f32⟩
  | 9 => ⟨S8x2304x4x128, .f32⟩
  | 10 => ⟨S8x256x4x128, .f32⟩
  | 11 => ⟨S8x2048x4x128, .f32⟩
  | 12 => ⟨S8x2304x4x128, .f32⟩
  | 13 => ⟨S8x256x4x128, .f32⟩
  | 14 => ⟨S8x2048x4x128, .f32⟩
  | 15 => ⟨S8x4x256x256, .f32⟩
  | 16 => ⟨S_, .f32⟩
  | 17 => ⟨S_, .f32⟩
  | 18 => ⟨S8x4x256x256, .f32⟩
  | 19 => ⟨S8x4x256x256, .f32⟩
  | 20 => ⟨S_, .f32⟩
  | 21 => ⟨S8x4x256, .f32⟩
  | 22 => ⟨S_, .f32⟩
  | 23 => ⟨S8x4x256, .f32⟩
  | 24 => ⟨S8x4x256, .f32⟩
  | 25 => ⟨S8x4x256x1, .f32⟩
  | 26 => ⟨S8x4x256x256, .f32⟩
  | 27 => ⟨S8x4x256x256, .f32⟩
  | 28 => ⟨S8x4x256x256, .f32⟩
  | 29 => ⟨S_, .f32⟩
  | 30 => ⟨S8x4x256, .f32⟩
  | 31 => ⟨S8x4x256x1, .f32⟩
  | 32 => ⟨S8x4x256x256, .f32⟩
  | 33 => ⟨S8x4x256x256, .f32⟩
  | 34 => ⟨S8x4x128x256, .f32⟩
  | 35 => ⟨S8x256x4x128, .f32⟩
  | 36 => ⟨S32, .i32⟩
  | 37 => ⟨S_, .i32⟩
  | 38 => ⟨S32, .i32⟩
  | 39 => ⟨S32, .i32⟩
  | 40 => ⟨S_, .i32⟩
  | 41 => ⟨S_, .i32⟩
  | 42 => ⟨S_, .i32⟩
  | 43 => ⟨S32, .i32⟩
  | 44 => ⟨S32, .i32⟩
  | 45 => ⟨S_, .i32⟩
  | 46 => ⟨S32, .i32⟩
  | 47 => ⟨S32, .i32⟩
  | 48 => ⟨S32x1, .i32⟩
  | 49 => ⟨S8, .i32⟩
  | 50 => ⟨S1x8, .i32⟩
  | 51 => ⟨S32x8, .i32⟩
  | 52 => ⟨S32x8, .i32⟩
  | 53 => ⟨S32x8, .i32⟩
  | 54 => ⟨S4, .i32⟩
  | 55 => ⟨S_, .i32⟩
  | 56 => ⟨S4, .i32⟩
  | 57 => ⟨S4, .i32⟩
  | 58 => ⟨S_, .i32⟩
  | 59 => ⟨S4, .i32⟩
  | 60 => ⟨S4, .i32⟩
  | 61 => ⟨S_, .i32⟩
  | 62 => ⟨S_, .i32⟩
  | 63 => ⟨S_, .i32⟩
  | 64 => ⟨S4, .i32⟩
  | 65 => ⟨S4, .i32⟩
  | 66 => ⟨S_, .i32⟩
  | 67 => ⟨S4, .i32⟩
  | 68 => ⟨S4, .i32⟩
  | 69 => ⟨S4x1, .i32⟩
  | 70 => ⟨S32, .i32⟩
  | 71 => ⟨S1x32, .i32⟩
  | 72 => ⟨S4x32, .i32⟩
  | 73 => ⟨S4x32, .i32⟩
  | 74 => ⟨S4x32, .i32⟩
  | 75 => ⟨S4x1, .i32⟩
  | 76 => ⟨S_, .i32⟩
  | 77 => ⟨S4x1, .i32⟩
  | 78 => ⟨S4x1, .i32⟩
  | 79 => ⟨S16, .i32⟩
  | 80 => ⟨S1x16, .i32⟩
  | 81 => ⟨S4x16, .i32⟩
  | 82 => ⟨S4x16, .i32⟩
  | 83 => ⟨S4x16, .i32⟩
  | 84 => ⟨S_, .i32⟩
  | 85 => ⟨S4x16, .i32⟩
  | 86 => ⟨S4x16, .i32⟩
  | 87 => ⟨S_, .i32⟩
  | 88 => ⟨S_, .i32⟩
  | 89 => ⟨S_, .i32⟩
  | 90 => ⟨S4x16, .i32⟩
  | 91 => ⟨S4x16, .i32⟩
  | 92 => ⟨S_, .i32⟩
  | 93 => ⟨S4x16, .i32⟩
  | 94 => ⟨S4x16, .i32⟩
  | 95 => ⟨S4x1x32, .i32⟩
  | 96 => ⟨S4x16x1, .i32⟩
  | 97 => ⟨S4x16x32, .i32⟩
  | 98 => ⟨S4x16x32, .i32⟩
  | 99 => ⟨S4x16x32, .i1⟩
  | 100 => ⟨S4x16x1, .i32⟩
  | 101 => ⟨S_, .i32⟩
  | 102 => ⟨S4x16x1, .i32⟩
  | 103 => ⟨S4x16x1, .i32⟩
  | 104 => ⟨S4x16x32, .i32⟩
  | 105 => ⟨S4x16x32, .i32⟩
  | 106 => ⟨S4x16x32, .i1⟩
  | 107 => ⟨S4x16x32, .i1⟩
  | 108 => ⟨S32x1, .i32⟩
  | 109 => ⟨S32x8, .i32⟩
  | 110 => ⟨S32x8, .i32⟩
  | 111 => ⟨S_, .i32⟩
  | 112 => ⟨S32x8, .i32⟩
  | 113 => ⟨S32x8, .i32⟩
  | 114 => ⟨S_, .i32⟩
  | 115 => ⟨S32x8, .i32⟩
  | 116 => ⟨S32x8, .i32⟩
  | 117 => ⟨S4x16x1, .i32⟩
  | 118 => ⟨S4x16x32, .i32⟩
  | 119 => ⟨S4x16x32, .i32⟩
  | 120 => ⟨S4x16x32, .i32⟩
  | 121 => ⟨S_, .i32⟩
  | 122 => ⟨S_, .i32⟩
  | 123 => ⟨S_, .i32⟩
  | 124 => ⟨S4x16x32, .i32⟩
  | 125 => ⟨S4x16x32, .i32⟩
  | 126 => ⟨S_, .i32⟩
  | 127 => ⟨S4x16x32, .i32⟩
  | _ => ⟨S8x2304x6144, .bf16⟩

abbrev hbmTy0_1 (i : Nat) : BufTy := match i % 128 with
  | 0 => ⟨S4x16x32, .i32⟩
  | 1 => ⟨S_, .i32⟩
  | 2 => ⟨S4x16x32, .i32⟩
  | 3 => ⟨S4x16x32, .i32⟩
  | 4 => ⟨S_, .i32⟩
  | 5 => ⟨S4x16x32, .i32⟩
  | 6 => ⟨S4x16x32, .i32⟩
  | 7 => ⟨S32x1x1x8x1, .i32⟩
  | 8 => ⟨S1x4x16x1x32, .i32⟩
  | 9 => ⟨S_, .i32⟩
  | 10 => ⟨S32x1x1x8x1, .i32⟩
  | 11 => ⟨S32x1x1x8x1, .i1⟩
  | 12 => ⟨S_, .i32⟩
  | 13 => ⟨S32x1x1x8x1, .i32⟩
  | 14 => ⟨S32x1x1x8x1, .i32⟩
  | 15 => ⟨S32x1x1x8x1, .i32⟩
  | 16 => ⟨S_, .i32⟩
  | 17 => ⟨S1x4x16x1x32, .i32⟩
  | 18 => ⟨S1x4x16x1x32, .i1⟩
  | 19 => ⟨S_, .i32⟩
  | 20 => ⟨S1x4x16x1x32, .i32⟩
  | 21 => ⟨S1x4x16x1x32, .i32⟩
  | 22 => ⟨S1x4x16x1x32, .i32⟩
  | 23 => ⟨S32x4x16x8x32, .i32⟩
  | 24 => ⟨S32x4x16x8x32, .i32⟩
  | 25 => ⟨S32x4x16x8x32x1, .i32⟩
  | 26 => ⟨S32x4x16x8x32x1, .i32⟩
  | 27 => ⟨S32x4x16x8x32x2, .i32⟩
  | 28 => ⟨S4x32x4x16x8x32, .f32⟩
  | 29 => ⟨S8x32x4x16x4x128, .f32⟩
  | 30 => ⟨S8x32x64x4x128, .f32⟩
  | 31 => ⟨S8x32x64x4x128, .f32⟩
  | 32 => ⟨S32x1x8x1, .i32⟩
  | 33 => ⟨S1x4x1x32, .i32⟩
  | 34 => ⟨S_, .i32⟩
  | 35 => ⟨S32x1x8x1, .i32⟩
  | 36 => ⟨S32x1x8x1, .i1⟩
  | 37 => ⟨S_, .i32⟩
  | 38 => ⟨S32x1x8x1, .i32⟩
  | 39 => ⟨S32x1x8x1, .i32⟩
  | 40 => ⟨S32x1x8x1, .i32⟩
  | 41 => ⟨S_, .i32⟩
  | 42 => ⟨S1x4x1x32, .i32⟩
  | 43 => ⟨S1x4x1x32, .i1⟩
  | 44 => ⟨S_, .i32⟩
  | 45 => ⟨S1x4x1x32, .i32⟩
  | 46 => ⟨S1x4x1x32, .i32⟩
  | 47 => ⟨S1x4x1x32, .i32⟩
  | 48 => ⟨S32x4x8x32, .i32⟩
  | 49 => ⟨S32x4x8x32, .i32⟩
  | 50 => ⟨S32x4x8x32x1, .i32⟩
  | 51 => ⟨S32x4x8x32x1, .i32⟩
  | 52 => ⟨S32x4x8x32x2, .i32⟩
  | 53 => ⟨S8x32x4x8x32x4x128, .f32⟩
  | 54 => ⟨S_, .i32⟩
  | 55 => ⟨S32x1x8x1, .i32⟩
  | 56 => ⟨S32x1x8x1, .i1⟩
  | 57 => ⟨S_, .i32⟩
  | 58 => ⟨S32x1x8x1, .i32⟩
  | 59 => ⟨S32x1x8x1, .i32⟩
  | 60 => ⟨S32x1x8x1, .i32⟩
  | 61 => ⟨S_, .i32⟩
  | 62 => ⟨S1x4x1x32, .i32⟩
  | 63 => ⟨S1x4x1x32, .i1⟩
  | 64 => ⟨S_, .i32⟩
  | 65 => ⟨S1x4x1x32, .i32⟩
  | 66 => ⟨S1x4x1x32, .i32⟩
  | 67 => ⟨S1x4x1x32, .i32⟩
  | 68 => ⟨S32x4x8x32, .i32⟩
  | 69 => ⟨S32x4x8x32, .i32⟩
  | 70 => ⟨S32x4x8x32x1, .i32⟩
  | 71 => ⟨S32x4x8x32x1, .i32⟩
  | 72 => ⟨S32x4x8x32x2, .i32⟩
  | 73 => ⟨S8x32x4x8x32x4x128, .f32⟩
  | 74 => ⟨S_, .f32⟩
  | 75 => ⟨S_, .f32⟩
  | 76 => ⟨S8x4x32x4x16x8x32, .f32⟩
  | 77 => ⟨S8x4x32x4x16x8x32, .f32⟩
  | 78 => ⟨S8x4x32x4x16x8x32, .f32⟩
  | 79 => ⟨S1x4x32x4x16x8x32, .f32⟩
  | 80 => ⟨S8x4x32x4x16x8x32, .f32⟩
  | 81 => ⟨S8x4x32x4x16x8x32, .f32⟩
  | 82 => ⟨S4x16x1x32, .i1⟩
  | 83 => ⟨S_, .f32⟩
  | 84 => ⟨S_, .f32⟩
  | 85 => ⟨S8x4x32x4x16x8x32, .i1⟩
  | 86 => ⟨S8x4x32x4x16x8x32, .f32⟩
  | 87 => ⟨S8x4x32x4x16x8x32, .f32⟩
  | 88 => ⟨S8x4x32x4x16x256, .f32⟩
  | 89 => ⟨S8x4x32x4x16x256, .f32⟩
  | 90 => ⟨S8x4x32x4x16x256, .f32⟩
  | 91 => ⟨S8x4x32x4x16x256, .f32⟩
  | 92 => ⟨S8x4x32x4x16x512, .f32⟩
  | 93 => ⟨S_, .f32⟩
  | 94 => ⟨S8x4x32x4x16, .f32⟩
  | 95 => ⟨S_, .f32⟩
  | 96 => ⟨S8x4x32x4x16, .f32⟩
  | 97 => ⟨S8x4x32x4x16, .f32⟩
  | 98 => ⟨S8x4x32x4x16x1, .f32⟩
  | 99 => ⟨S8x4x32x4x16x512, .f32⟩
  | 100 => ⟨S8x4x32x4x16x512, .f32⟩
  | 101 => ⟨S8x4x32x4x16x512, .f32⟩
  | 102 => ⟨S_, .f32⟩
  | 103 => ⟨S8x4x32x4x16, .f32⟩
  | 104 => ⟨S8x4x32x4x16x1, .f32⟩
  | 105 => ⟨S8x4x32x4x16x512, .f32⟩
  | 106 => ⟨S8x4x32x4x16x512, .f32⟩
  | 107 => ⟨S8x4x32x4x16x256, .f32⟩
  | 108 => ⟨S8x4x32x4x16x8x32, .f32⟩
  | 109 => ⟨S8x4x32x4x16x256, .f32⟩
  | 110 => ⟨S8x32x4x4x128x16, .f32⟩
  | 111 => ⟨S8x32x4x16x4x128, .f32⟩
  | 112 => ⟨S8x4x128x32x4x16, .f32⟩
  | 113 => ⟨S8x32x4x16x4x128, .f32⟩
  | 114 => ⟨S8x32x4x16x4x128, .f32⟩
  | 115 => ⟨S8x2048x4x128, .f32⟩
  | 116 => ⟨S8x2304x4x128, .f32⟩
  | 117 => ⟨S8x2304x512, .f32⟩
  | 118 => ⟨S8x2304x512, .bf16⟩
  | _ => ⟨S8x2304x6144, .bf16⟩

abbrev hbmTy (i : Nat) : BufTy := match i / 128 with
  | 0 => hbmTy0_0 i
  | 1 => hbmTy0_1 i
  | _ => ⟨S8x2304x6144, .bf16⟩

abbrev bufTy : (tb : Table) → Fin (tcTables nBuf tb) → BufTy
  | .hbm, ⟨i, _⟩ => hbmTy i
  | _, _ => ⟨S8x2304x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_c_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_c_8 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_c_12 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_c_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_16 : Ref sig .tc := ⟨.hbm, 121, rfl⟩
abbrev main_c_17 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v86 : Ref sig .tc := ⟨.hbm, 128, rfl⟩
abbrev main_c_18 : Ref sig .tc := ⟨.hbm, 129, rfl⟩
abbrev main_v87 : Ref sig .tc := ⟨.hbm, 130, rfl⟩
abbrev main_v88 : Ref sig .tc := ⟨.hbm, 131, rfl⟩
abbrev main_c_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_20 : Ref sig .tc := ⟨.hbm, 137, rfl⟩
abbrev main_v93 : Ref sig .tc := ⟨.hbm, 138, rfl⟩
abbrev main_v94 : Ref sig .tc := ⟨.hbm, 139, rfl⟩
abbrev main_c_21 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_22 : Ref sig .tc := ⟨.hbm, 144, rfl⟩
abbrev main_v98 : Ref sig .tc := ⟨.hbm, 145, rfl⟩
abbrev main_v99 : Ref sig .tc := ⟨.hbm, 146, rfl⟩
abbrev main_c_23 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_24 : Ref sig .tc := ⟨.hbm, 162, rfl⟩
abbrev main_v114 : Ref sig .tc := ⟨.hbm, 163, rfl⟩
abbrev main_v115 : Ref sig .tc := ⟨.hbm, 164, rfl⟩
abbrev main_c_25 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_c_26 : Ref sig .tc := ⟨.hbm, 169, rfl⟩
abbrev main_v119 : Ref sig .tc := ⟨.hbm, 170, rfl⟩
abbrev main_v120 : Ref sig .tc := ⟨.hbm, 171, rfl⟩
abbrev main_c_27 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_28 : Ref sig .tc := ⟨.hbm, 182, rfl⟩
abbrev main_v130 : Ref sig .tc := ⟨.hbm, 183, rfl⟩
abbrev main_v131 : Ref sig .tc := ⟨.hbm, 184, rfl⟩
abbrev main_c_29 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_c_30 : Ref sig .tc := ⟨.hbm, 189, rfl⟩
abbrev main_v135 : Ref sig .tc := ⟨.hbm, 190, rfl⟩
abbrev main_v136 : Ref sig .tc := ⟨.hbm, 191, rfl⟩
abbrev main_c_31 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_32 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_33 : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_34 : Ref sig .tc := ⟨.hbm, 221, rfl⟩
abbrev main_v160 : Ref sig .tc := ⟨.hbm, 222, rfl⟩
abbrev main_cst_35 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_36 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩

abbrev nD : Nat := 1
abbrev τ : Topo := Topo.v7x

variable {F : FTy → Type} [FloatOps F]
-- ==== Merge.lean ====
abbrev S18432x2048 : Shape := ⟨2, ![18432, 2048]⟩
abbrev S18432x512 : Shape := ⟨2, ![18432, 512]⟩
abbrev S4x4x512x2048 : Shape := ⟨4, ![4, 4, 512, 2048]⟩
abbrev S4x2048x14336 : Shape := ⟨3, ![4, 2048, 14336]⟩
abbrev S1024x2048 : Shape := ⟨2, ![1024, 2048]⟩
abbrev S1024x512 : Shape := ⟨2, ![1024, 512]⟩
abbrev S1x4x512x512 : Shape := ⟨4, ![1, 4, 512, 512]⟩
abbrev S1x2048x512 : Shape := ⟨3, ![1, 2048, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 9
  | .vmem => 22
  | .smem => 0
  | _ => 0

abbrev bufTy : (tb : Table) → Fin (tcTables nBuf tb) → BufTy
  | .hbm, ⟨0, _⟩ => ⟨S18432x2048, .bf16⟩
  | .hbm, ⟨1, _⟩ => ⟨S18432x512, .bf16⟩
  | .hbm, ⟨2, _⟩ => ⟨S18432x512, .bf16⟩
  | .hbm, ⟨3, _⟩ => ⟨S18432x512, .bf16⟩
  | .hbm, ⟨4, _⟩ => ⟨S18432x512, .bf16⟩
  | .hbm, ⟨5, _⟩ => ⟨S4x4x512x2048, .f32⟩
  | .hbm, ⟨6, _⟩ => ⟨S4x2048x14336, .bf16⟩
  | .hbm, ⟨7, _⟩ => ⟨S4x4x512x2048, .bf16⟩
  | .hbm, ⟨8, _⟩ => ⟨S18432x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x4x512x512, .bf16⟩
  | .local _ .vmem, ⟨11, _⟩ => ⟨S1x4x512x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S1x2048x512, .bf16⟩
  | .local _ .vmem, ⟨20, _⟩ => ⟨S1024x512, .bf16⟩
  | .local _ .vmem, ⟨21, _⟩ => ⟨S1024x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S18432x2048 : Shape := ⟨2, ![18432, 2048]⟩
abbrev S18432x512 : Shape := ⟨2, ![18432, 512]⟩
abbrev S4x4x512x2048 : Shape := ⟨4, ![4, 4, 512, 2048]⟩
abbrev S4x2048x14336 : Shape := ⟨3, ![4, 2048, 14336]⟩
abbrev S1x2048x8192 : Shape := ⟨3, ![1, 2048, 8192]⟩
abbrev S2048x8192 : Shape := ⟨2, ![2048, 8192]⟩
abbrev S18432x8192 : Shape := ⟨2, ![18432, 8192]⟩
abbrev S_ : Shape := ⟨0, ![]⟩
abbrev S1x1x512x2048 : Shape := ⟨4, ![1, 1, 512, 2048]⟩
abbrev S512x2048 : Shape := ⟨2, ![512, 2048]⟩

abbrev nBuf : Space → Nat
  | .hbm => 75
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S18432x512, .bf16⟩
  | .hbm, ⟨2, _⟩ => ⟨S18432x512, .bf16⟩
  | .hbm, ⟨3, _⟩ => ⟨S18432x512, .bf16⟩
  | .hbm, ⟨4, _⟩ => ⟨S18432x512, .bf16⟩
  | .hbm, ⟨5, _⟩ => ⟨S4x4x512x2048, .f32⟩
  | .hbm, ⟨6, _⟩ => ⟨S4x2048x14336, .bf16⟩
  | .hbm, ⟨7, _⟩ => ⟨S18432x2048, .f32⟩
  | .hbm, ⟨8, _⟩ => ⟨S1x2048x8192, .bf16⟩
  | .hbm, ⟨9, _⟩ => ⟨S2048x8192, .bf16⟩
  | .hbm, ⟨10, _⟩ => ⟨S2048x8192, .f32⟩
  | .hbm, ⟨11, _⟩ => ⟨S18432x8192, .f32⟩
  | .hbm, ⟨12, _⟩ => ⟨S_, .f32⟩
  | .hbm, ⟨13, _⟩ => ⟨S18432x2048, .f32⟩
  | .hbm, ⟨14, _⟩ => ⟨S18432x2048, .f32⟩
  | .hbm, ⟨15, _⟩ => ⟨S18432x2048, .f32⟩
  | .hbm, ⟨16, _⟩ => ⟨S18432x2048, .f32⟩
  | .hbm, ⟨17, _⟩ => ⟨S_, .f32⟩
  | .hbm, ⟨18, _⟩ => ⟨S18432x2048, .f32⟩
  | .hbm, ⟨19, _⟩ => ⟨S18432x2048, .f32⟩
  | .hbm, ⟨20, _⟩ => ⟨S_, .f32⟩
  | .hbm, ⟨21, _⟩ => ⟨S18432x2048, .f32⟩
  | .hbm, ⟨22, _⟩ => ⟨S18432x2048, .f32⟩
  | .hbm, ⟨23, _⟩ => ⟨S18432x512, .f32⟩
  | .hbm, ⟨24, _⟩ => ⟨S1x1x512x2048, .f32⟩
  | .hbm, ⟨25, _⟩ => ⟨S512x2048, .f32⟩
  | .hbm, ⟨26, _⟩ => ⟨S18432x2048, .f32⟩
  | .hbm, ⟨27, _⟩ => ⟨S18432x2048, .f32⟩
  | .hbm, ⟨28, _⟩ => ⟨S18432x2048, .f32⟩
  | .hbm, ⟨29, _⟩ => ⟨S18432x2048, .f32⟩
  | .hbm, ⟨30, _⟩ => ⟨S18432x2048, .f32⟩
  | .hbm, ⟨31, _⟩ => ⟨S18432x2048, .f32⟩
  | .hbm, ⟨32, _⟩ => ⟨S_, .f32⟩
  | .hbm, ⟨33, _⟩ => ⟨S18432x2048, .f32⟩
  | .hbm, ⟨34, _⟩ => ⟨S18432x2048, .f32⟩
  | .hbm, ⟨35, _⟩ => ⟨S_, .f32⟩
  | .hbm, ⟨36, _⟩ => ⟨S18432x2048, .f32⟩
  | .hbm, ⟨37, _⟩ => ⟨S18432x2048, .f32⟩
  | .hbm, ⟨38, _⟩ => ⟨S18432x512, .f32⟩
  | .hbm, ⟨39, _⟩ => ⟨S1x1x512x2048, .f32⟩
  | .hbm, ⟨40, _⟩ => ⟨S512x2048, .f32⟩
  | .hbm, ⟨41, _⟩ => ⟨S18432x2048, .f32⟩
  | .hbm, ⟨42, _⟩ => ⟨S18432x2048, .f32⟩
  | .hbm, ⟨43, _⟩ => ⟨S18432x2048, .f32⟩
  | .hbm, ⟨44, _⟩ => ⟨S18432x2048, .f32⟩
  | .hbm, ⟨45, _⟩ => ⟨S18432x2048, .f32⟩
  | .hbm, ⟨46, _⟩ => ⟨S18432x2048, .f32⟩
  | .hbm, ⟨47, _⟩ => ⟨S_, .f32⟩
  | .hbm, ⟨48, _⟩ => ⟨S18432x2048, .f32⟩
  | .hbm, ⟨49, _⟩ => ⟨S18432x2048, .f32⟩
  | .hbm, ⟨50, _⟩ => ⟨S_, .f32⟩
  | .hbm, ⟨51, _⟩ => ⟨S18432x2048, .f32⟩
  | .hbm, ⟨52, _⟩ => ⟨S18432x2048, .f32⟩
  | .hbm, ⟨53, _⟩ => ⟨S18432x512, .f32⟩
  | .hbm, ⟨54, _⟩ => ⟨S1x1x512x2048, .f32⟩
  | .hbm, ⟨55, _⟩ => ⟨S512x2048, .f32⟩
  | .hbm, ⟨56, _⟩ => ⟨S18432x2048, .f32⟩
  | .hbm, ⟨57, _⟩ => ⟨S18432x2048, .f32⟩
  | .hbm, ⟨58, _⟩ => ⟨S18432x2048, .f32⟩
  | .hbm, ⟨59, _⟩ => ⟨S18432x2048, .f32⟩
  | .hbm, ⟨60, _⟩ => ⟨S18432x2048, .f32⟩
  | .hbm, ⟨61, _⟩ => ⟨S18432x2048, .f32⟩
  | .hbm, ⟨62, _⟩ => ⟨S_, .f32⟩
  | .hbm, ⟨63, _⟩ => ⟨S18432x2048, .f32⟩
  | .hbm, ⟨64, _⟩ => ⟨S18432x2048, .f32⟩
  | .hbm, ⟨65, _⟩ => ⟨S_, .f32⟩
  | .hbm, ⟨66, _⟩ => ⟨S18432x2048, .f32⟩
  | .hbm, ⟨67, _⟩ => ⟨S18432x2048, .f32⟩
  | .hbm, ⟨68, _⟩ => ⟨S18432x512, .f32⟩
  | .hbm, ⟨69, _⟩ => ⟨S1x1x512x2048, .f32⟩
  | .hbm, ⟨70, _⟩ => ⟨S512x2048, .f32⟩
  | .hbm, ⟨71, _⟩ => ⟨S18432x2048, .f32⟩
  | .hbm, ⟨72, _⟩ => ⟨S18432x2048, .f32⟩
  | .hbm, ⟨73, _⟩ => ⟨S18432x2048, .f32⟩
  | .hbm, ⟨74, _⟩ => ⟨S18432x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Mm.lean ====
abbrev S18432x2048 : Shape := ⟨2, ![18432, 2048]⟩
abbrev S4x2048x14336 : Shape := ⟨3, ![4, 2048, 14336]⟩
abbrev S18432x6144 : Shape := ⟨2, ![18432, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S18432x2048, .bf16⟩
  | .hbm, ⟨1, _⟩ => ⟨S4x2048x14336, .bf16⟩
  | .hbm, ⟨2, _⟩ => ⟨S18432x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmRefIdeal.lean ====
abbrev S18432x2048 : Shape := ⟨2, ![18432, 2048]⟩
abbrev S4x2048x14336 : Shape := ⟨3, ![4, 2048, 14336]⟩
abbrev S1x2048x6144 : Shape := ⟨3, ![1, 2048, 6144]⟩
abbrev S2048x6144 : Shape := ⟨2, ![2048, 6144]⟩
abbrev S18432x6144 : Shape := ⟨2, ![18432, 6144]⟩

abbrev nBuf : Space → Nat
  | .hbm => 8
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S4x2048x14336, .bf16⟩
  | .hbm, ⟨2, _⟩ => ⟨S18432x2048, .f32⟩
  | .hbm, ⟨3, _⟩ => ⟨S1x2048x6144, .bf16⟩
  | .hbm, ⟨4, _⟩ => ⟨S2048x6144, .bf16⟩
  | .hbm, ⟨5, _⟩ => ⟨S2048x6144, .f32⟩
  | .hbm, ⟨6, _⟩ => ⟨S18432x6144, .f32⟩
  | .hbm, ⟨7, _⟩ => ⟨S18432x6144, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up.lean ====
abbrev S18432x2048 : Shape := ⟨2, ![18432, 2048]⟩
abbrev S2x2048x5632 : Shape := ⟨3, ![2, 2048, 5632]⟩
abbrev S18432x5632 : Shape := ⟨2, ![18432, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S18432x2048, .bf16⟩
  | .hbm, ⟨1, _⟩ => ⟨S2x2048x5632, .f32⟩
  | .hbm, ⟨2, _⟩ => ⟨S2x2048x5632, .f32⟩
  | .hbm, ⟨3, _⟩ => ⟨S18432x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S18432x2048 : Shape := ⟨2, ![18432, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S18432x5632 : Shape := ⟨2, ![18432, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2x2048x5632, .f32⟩
  | .hbm, ⟨2, _⟩ => ⟨S2x2048x5632, .f32⟩
  | .hbm, ⟨3, _⟩ => ⟨S18432x2048, .f32⟩
  | .hbm, ⟨4, _⟩ => ⟨S1x2048x5632, .f32⟩
  | .hbm, ⟨5, _⟩ => ⟨S2048x5632, .f32⟩
  | .hbm, ⟨6, _⟩ => ⟨S18432x5632, .f32⟩
  | .hbm, ⟨7, _⟩ => ⟨S18432x5632, .f32⟩
  | .hbm, ⟨8, _⟩ => ⟨S18432x5632, .f32⟩
  | .hbm, ⟨9, _⟩ => ⟨S_, .f32⟩
  | .hbm, ⟨10, _⟩ => ⟨S18432x5632, .f32⟩
  | .hbm, ⟨11, _⟩ => ⟨S18432x5632, .f32⟩
  | .hbm, ⟨12, _⟩ => ⟨S_, .f32⟩
  | .hbm, ⟨13, _⟩ => ⟨S18432x5632, .f32⟩
  | .hbm, ⟨14, _⟩ => ⟨S18432x5632, .f32⟩
  | .hbm, ⟨15, _⟩ => ⟨S18432x5632, .f32⟩
  | .hbm, ⟨16, _⟩ => ⟨S1x2048x5632, .f32⟩
  | .hbm, ⟨17, _⟩ => ⟨S2048x5632, .f32⟩
  | .hbm, ⟨18, _⟩ => ⟨S18432x5632, .f32⟩
  | .hbm, ⟨19, _⟩ => ⟨S18432x5632, .f32⟩
  | .hbm, ⟨20, _⟩ => ⟨S18432x5632, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S18432x5632 : Shape := ⟨2, ![18432, 5632]⟩
abbrev S2x5632x2048 : Shape := ⟨3, ![2, 5632, 2048]⟩
abbrev S18432x2048 : Shape := ⟨2, ![18432, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S18432x5632, .bf16⟩
  | .hbm, ⟨1, _⟩ => ⟨S2x5632x2048, .f32⟩
  | .hbm, ⟨2, _⟩ => ⟨S18432x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .bf16⟩
  | .local _ .vmem, ⟨5, _⟩ => ⟨S512x512, .bf16⟩
  | .local _ .vmem, ⟨6, _⟩ => ⟨S5632x512, .bf16⟩
  | _, _ => ⟨S18432x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S18432x5632 : Shape := ⟨2, ![18432, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S18432x2048 : Shape := ⟨2, ![18432, 2048]⟩

abbrev nBuf : Space → Nat
  | .hbm => 7
  | .vmem => 0
  | .smem => 0
  | _ => 0

abbrev bufTy : (tb : Table) → Fin (tcTables nBuf tb) → BufTy
  | .hbm, ⟨0, _⟩ => ⟨S18432x5632, .bf16⟩
  | .hbm, ⟨1, _⟩ => ⟨S2x5632x2048, .f32⟩
  | .hbm, ⟨2, _⟩ => ⟨S18432x5632, .f32⟩
  | .hbm, ⟨3, _⟩ => ⟨S1x5632x2048, .f32⟩
  | .hbm, ⟨4, _⟩ => ⟨S5632x2048, .f32⟩
  | .hbm, ⟨5, _⟩ => ⟨S18432x2048, .f32⟩
  | .hbm, ⟨6, _⟩ => ⟨S18432x2048, .bf16⟩
  | _, _ => ⟨S18432x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MoeUp.lean ====
abbrev S80 : Shape := ⟨1, ![80]⟩
abbrev S1 : Shape := ⟨1, ![1]⟩
abbrev S40960x2048 : Shape := ⟨2, ![40960, 2048]⟩
abbrev S2x8x2048x4096 : Shape := ⟨4, ![2, 8, 2048, 4096]⟩
abbrev S40960x4096 : Shape := ⟨2, ![40960, 4096]⟩
abbrev S512x2048 : Shape := ⟨2, ![512, 2048]⟩
abbrev S1x1x2048x1024 : Shape := ⟨4, ![1, 1, 2048, 1024]⟩
abbrev S512x1024 : Shape := ⟨2, ![512, 1024]⟩
abbrev S2048x1024 : Shape := ⟨2, ![2048, 1024]⟩

abbrev nBuf : Space → Nat
  | .hbm => 4
  | .vmem => 10
  | .smem => 2
  | _ => 0

abbrev bufTy : (tb : Table) → Fin (tcTables nBuf tb) → BufTy
  | .hbm, ⟨0, _⟩ => ⟨S40960x2048, .bf16⟩
  | .hbm, ⟨1, _⟩ => ⟨S2x8x2048x4096, .f32⟩
  | .hbm, ⟨2, _⟩ => ⟨S2x8x2048x4096, .f32⟩
  | .hbm, ⟨3, _⟩ => ⟨S40960x4096, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S80, .i32⟩
  | .local _ .smem, ⟨1, _⟩ => ⟨S1, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 80], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpRefIdeal.lean ====
abbrev S80 : Shape := ⟨1, ![80]⟩
abbrev S1 : Shape := ⟨1, ![1]⟩
abbrev S40960x2048 : Shape := ⟨2, ![40960, 2048]⟩
abbrev S2x8x2048x4096 : Shape := ⟨4, ![2, 8, 2048, 4096]⟩
abbrev S_ : Shape := ⟨0, ![]⟩
abbrev S80x1 : Shape := ⟨2, ![80, 1]⟩
abbrev S80x512 : Shape := ⟨2, ![80, 512]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩
abbrev S40960x4096 : Shape := ⟨2, ![40960, 4096]⟩
abbrev S1x1x2048x4096 : Shape := ⟨4, ![1, 1, 2048, 4096]⟩
abbrev S2048x4096 : Shape := ⟨2, ![2048, 4096]⟩

abbrev nBuf : Space → Nat
  | .hbm => 186
  | .vmem => 0
  | .smem => 0
  | _ => 0

abbrev hbmTy0_0 (i : Nat) : BufTy := match i % 128 with
  | 0 => ⟨S80, .i32⟩
  | 1 => ⟨S1, .i32⟩
  | 2 => ⟨S40960x2048, .bf16⟩
  | 3 => ⟨S2x8x2048x4096, .f32⟩
  | 4 => ⟨S2x8x2048x4096, .f32⟩
  | 5 => ⟨S80, .i32⟩
  | 6 => ⟨S_, .i32⟩
  | 7 => ⟨S80, .i32⟩
  | 8 => ⟨S80, .i1⟩
  | 9 => ⟨S_, .i32⟩
  | 10 => ⟨S_, .i32⟩
  | 11 => ⟨S80, .i32⟩
  | 12 => ⟨S80, .i32⟩
  | 13 => ⟨S80x1, .i32⟩
  | 14 => ⟨S80x512, .i32⟩
  | 15 => ⟨S40960, .i32⟩
  | 16 => ⟨S40960x1, .i32⟩
  | 17 => ⟨S1x8, .i32⟩
  | 18 => ⟨S40960x8, .i32⟩
  | 19 => ⟨S40960x8, .i32⟩
  | 20 => ⟨S40960x8, .i1⟩
  | 21 => ⟨S40960x8, .f32⟩
  | 22 => ⟨S40960x2048, .f32⟩
  | 23 => ⟨S_, .f32⟩
  | 24 => ⟨S40960x4096, .f32⟩
  | 25 => ⟨S40960x1, .f32⟩
  | 26 => ⟨S1x1x2048x4096, .f32⟩
  | 27 => ⟨S2048x4096, .f32⟩
  | 28 => ⟨S40960x4096, .f32⟩
  | 29 => ⟨S40960x4096, .f32⟩
  | 30 => ⟨S40960x4096, .f32⟩
  | 31 => ⟨S_, .f32⟩
  | 32 => ⟨S40960x4096, .f32⟩
  | 33 => ⟨S40960x4096, .f32⟩
  | 34 => ⟨S_, .f32⟩
  | 35 => ⟨S40960x4096, .f32⟩
  | 36 => ⟨S40960x4096, .f32⟩
  | 37 => ⟨S40960x4096, .f32⟩
  | 38 => ⟨S1x1x2048x4096, .f32⟩
  | 39 => ⟨S2048x4096, .f32⟩
  | 40 => ⟨S40960x4096, .f32⟩
  | 41 => ⟨S40960x4096, .f32⟩
  | 42 => ⟨S40960x4096, .f32⟩
  | 43 => ⟨S40960x4096, .f32⟩
  | 44 => ⟨S40960x4096, .f32⟩
  | 45 => ⟨S40960x1, .f32⟩
  | 46 => ⟨S1x1x2048x4096, .f32⟩
  | 47 => ⟨S2048x4096, .f32⟩
  | 48 => ⟨S40960x4096, .f32⟩
  | 49 => ⟨S40960x4096, .f32⟩
  | 50 => ⟨S40960x4096, .f32⟩
  | 51 => ⟨S_, .f32⟩
  | 52 => ⟨S40960x4096, .f32⟩
  | 53 => ⟨S40960x4096, .f32⟩
  | 54 => ⟨S_, .f32⟩
  | 55 => ⟨S40960x4096, .f32⟩
  | 56 => ⟨S40960x4096, .f32⟩
  | 57 => ⟨S40960x4096, .f32⟩
  | 58 => ⟨S1x1x2048x4096, .f32⟩
  | 59 => ⟨S2048x4096, .f32⟩
  | 60 => ⟨S40960x4096, .f32⟩
  | 61 => ⟨S40960x4096, .f32⟩
  | 62 => ⟨S40960x4096, .f32⟩
  | 63 => ⟨S40960x4096, .f32⟩
  | 64 => ⟨S40960x4096, .f32⟩
  | 65 => ⟨S40960x1, .f32⟩
  | 66 => ⟨S1x1x2048x4096, .f32⟩
  | 67 => ⟨S2048x4096, .f32⟩
  | 68 => ⟨S40960x4096, .f32⟩
  | 69 => ⟨S40960x4096, .f32⟩
  | 70 => ⟨S40960x4096, .f32⟩
  | 71 => ⟨S_, .f32⟩
  | 72 => ⟨S40960x4096, .f32⟩
  | 73 => ⟨S40960x4096, .f32⟩
  | 74 => ⟨S_, .f32⟩
  | 75 => ⟨S40960x4096, .f32⟩
  | 76 => ⟨S40960x4096, .f32⟩
  | 77 => ⟨S40960x4096, .f32⟩
  | 78 => ⟨S1x1x2048x4096, .f32⟩
  | 79 => ⟨S2048x4096, .f32⟩
  | 80 => ⟨S40960x4096, .f32⟩
  | 81 => ⟨S40960x4096, .f32⟩
  | 82 => ⟨S40960x4096, .f32⟩
  | 83 => ⟨S40960x4096, .f32⟩
  | 84 => ⟨S40960x4096, .f32⟩
  | 85 => ⟨S40960x1, .f32⟩
  | 86 => ⟨S1x1x2048x4096, .f32⟩
  | 87 => ⟨S2048x4096, .f32⟩
  | 88 => ⟨S40960x4096, .f32⟩
  | 89 => ⟨S40960x4096, .f32⟩
  | 90 => ⟨S40960x4096, .f32⟩
  | 91 => ⟨S_, .f32⟩
  | 92 => ⟨S40960x4096, .f32⟩
  | 93 => ⟨S40960x4096, .f32⟩
  | 94 => ⟨S_, .f32⟩
  | 95 => ⟨S40960x4096, .f32⟩
  | 96 => ⟨S40960x4096, .f32⟩
  | 97 => ⟨S40960x4096, .f32⟩
  | 98 => ⟨S1x1x2048x4096, .f32⟩
  | 99 => ⟨S2048x4096, .f32⟩
  | 100 => ⟨S40960x4096, .f32⟩
  | 101 => ⟨S40960x4096, .f32⟩
  | 102 => ⟨S40960x4096, .f32⟩
  | 103 => ⟨S40960x4096, .f32⟩
  | 104 => ⟨S40960x4096, .f32⟩
  | 105 => ⟨S40960x1, .f32⟩
  | 106 => ⟨S1x1x2048x4096, .f32⟩
  | 107 => ⟨S2048x4096, .f32⟩
  | 108 => ⟨S40960x4096, .f32⟩
  | 109 => ⟨S40960x4096, .f32⟩
  | 110 => ⟨S40960x4096, .f32⟩
  | 111 => ⟨S_, .f32⟩
  | 112 => ⟨S40960x4096, .f32⟩
  | 113 => ⟨S40960x4096, .f32⟩
  | 114 => ⟨S_, .f32⟩
  | 115 => ⟨S40960x4096, .f32⟩
  | 116 => ⟨S40960x4096, .f32⟩
  | 117 => ⟨S40960x4096, .f32⟩
  | 118 => ⟨S1x1x2048x4096, .f32⟩
  | 119 => ⟨S2048x4096, .f32⟩
  | 120 => ⟨S40960x4096, .f32⟩
  | 121 => ⟨S40960x4096, .f32⟩
  | 122 => ⟨S40960x4096, .f32⟩
  | 123 => ⟨S40960x4096, .f32⟩
  | 124 => ⟨S40960x4096, .f32⟩
  | 125 => ⟨S40960x1, .f32⟩
  | 126 => ⟨S1x1x2048x4096, .f32⟩
  | 127 => ⟨S2048x4096, .f32⟩
  | _ => ⟨S80, .i32⟩

abbrev hbmTy0_1 (i : Nat) : BufTy := match i % 128 with
  | 0 => ⟨S40960x4096, .f32⟩
  | 1 => ⟨S40960x4096, .f32⟩
  | 2 => ⟨S40960x4096, .f32⟩
  | 3 => ⟨S_, .f32⟩
  | 4 => ⟨S40960x4096, .f32⟩
  | 5 => ⟨S40960x4096, .f32⟩
  | 6 => ⟨S_, .f32⟩
  | 7 => ⟨S40960x4096, .f32⟩
  | 8 => ⟨S40960x4096, .f32⟩
  | 9 => ⟨S40960x4096, .f32⟩
  | 10 => ⟨S1x1x2048x4096, .f32⟩
  | 11 => ⟨S2048x4096, .f32⟩
  | 12 => ⟨S40960x4096, .f32⟩
  | 13 => ⟨S40960x4096, .f32⟩
  | 14 => ⟨S40960x4096, .f32⟩
  | 15 => ⟨S40960x4096, .f32⟩
  | 16 => ⟨S40960x4096, .f32⟩
  | 17 => ⟨S40960x1, .f32⟩
  | 18 => ⟨S1x1x2048x4096, .f32⟩
  | 19 => ⟨S2048x4096, .f32⟩
  | 20 => ⟨S40960x4096, .f32⟩
  | 21 => ⟨S40960x4096, .f32⟩
  | 22 => ⟨S40960x4096, .f32⟩
  | 23 => ⟨S_, .f32⟩
  | 24 => ⟨S40960x4096, .f32⟩
  | 25 => ⟨S40960x4096, .f32⟩
  | 26 => ⟨S_, .f32⟩
  | 27 => ⟨S40960x4096, .f32⟩
  | 28 => ⟨S40960x4096, .f32⟩
  | 29 => ⟨S40960x4096, .f32⟩
  | 30 => ⟨S1x1x2048x4096, .f32⟩
  | 31 => ⟨S2048x4096, .f32⟩
  | 32 => ⟨S40960x4096, .f32⟩
  | 33 => ⟨S40960x4096, .f32⟩
  | 34 => ⟨S40960x4096, .f32⟩
  | 35 => ⟨S40960x4096, .f32⟩
  | 36 => ⟨S40960x4096, .f32⟩
  | 37 => ⟨S40960x1, .f32⟩
  | 38 => ⟨S1x1x2048x4096, .f32⟩
  | 39 => ⟨S2048x4096, .f32⟩
  | 40 => ⟨S40960x4096, .f32⟩
  | 41 => ⟨S40960x4096, .f32⟩
  | 42 => ⟨S40960x4096, .f32⟩
  | 43 => ⟨S_, .f32⟩
  | 44 => ⟨S40960x4096, .f32⟩
  | 45 => ⟨S40960x4096, .f32⟩
  | 46 => ⟨S_, .f32⟩
  | 47 => ⟨S40960x4096, .f32⟩
  | 48 => ⟨S40960x4096, .f32⟩
  | 49 => ⟨S40960x4096, .f32⟩
  | 50 => ⟨S1x1x2048x4096, .f32⟩
  | 51 => ⟨S2048x4096, .f32⟩
  | 52 => ⟨S40960x4096, .f32⟩
  | 53 => ⟨S40960x4096, .f32⟩
  | 54 => ⟨S40960x4096, .f32⟩
  | 55 => ⟨S40960x4096, .f32⟩
  | 56 => ⟨S40960x4096, .f32⟩
  | 57 => ⟨S40960x4096, .bf16⟩
  | _ => ⟨S80, .i32⟩

abbrev hbmTy (i : Nat) : BufTy := match i / 128 with
  | 0 => hbmTy0_0 i
  | 1 => hbmTy0_1 i
  | _ => ⟨S80, .i32⟩

abbrev bufTy : (tb : Table) → Fin (tcTables nBuf tb) → BufTy
  | .hbm, ⟨i, _⟩ => hbmTy i
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call3_v0 : Ref sig .tc := ⟨.hbm, 49, rfl⟩
abbrev main_call3_v1 : Ref sig .tc := ⟨.hbm, 50, rfl⟩
abbrev main_call3_cst : Ref sig .tc := ⟨.hbm, 51, rfl⟩
abbrev main_call3_v2 : Ref sig .tc := ⟨.hbm, 52, rfl⟩
abbrev main_call3_v3 : Ref sig .tc := ⟨.hbm, 53, rfl⟩
abbrev main_call3_cst_0 : Ref sig .tc := ⟨.hbm, 54, rfl⟩
abbrev main_call3_v4 : Ref sig .tc := ⟨.hbm, 55, rfl⟩
abbrev main_call3_v5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call4_v0 : Ref sig .tc := ⟨.hbm, 69, rfl⟩
abbrev main_call4_v1 : Ref sig .tc := ⟨.hbm, 70, rfl⟩
abbrev main_call4_cst : Ref sig .tc := ⟨.hbm, 71, rfl⟩
abbrev main_call4_v2 : Ref sig .tc := ⟨.hbm, 72, rfl⟩
abbrev main_call4_v3 : Ref sig .tc := ⟨.hbm, 73, rfl⟩
abbrev main_call4_cst_0 : Ref sig .tc := ⟨.hbm, 74, rfl⟩
abbrev main_call4_v4 : Ref sig .tc := ⟨.hbm, 75, rfl⟩
abbrev main_call4_v5 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call5_v0 : Ref sig .tc := ⟨.hbm, 89, rfl⟩
abbrev main_call5_v1 : Ref sig .tc := ⟨.hbm, 90, rfl⟩
abbrev main_call5_cst : Ref sig .tc := ⟨.hbm, 91, rfl⟩
abbrev main_call5_v2 : Ref sig .tc := ⟨.hbm, 92, rfl⟩
abbrev main_call5_v3 : Ref sig .tc := ⟨.hbm, 93, rfl⟩
abbrev main_call5_cst_0 : Ref sig .tc := ⟨.hbm, 94, rfl⟩
abbrev main_call5_v4 : Ref sig .tc := ⟨.hbm, 95, rfl⟩
abbrev main_call5_v5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_call6_v0 : Ref sig .tc := ⟨.hbm, 109, rfl⟩
abbrev main_call6_v1 : Ref sig .tc := ⟨.hbm, 110, rfl⟩
abbrev main_call6_cst : Ref sig .tc := ⟨.hbm, 111, rfl⟩
abbrev main_call6_v2 : Ref sig .tc := ⟨.hbm, 112, rfl⟩
abbrev main_call6_v3 : Ref sig .tc := ⟨.hbm, 113, rfl⟩
abbrev main_call6_cst_0 : Ref sig .tc := ⟨.hbm, 114, rfl⟩
abbrev main_call6_v4 : Ref sig .tc := ⟨.hbm, 115, rfl⟩
abbrev main_call6_v5 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_call7_v0 : Ref sig .tc := ⟨.hbm, 129, rfl⟩
abbrev main_call7_v1 : Ref sig .tc := ⟨.hbm, 130, rfl⟩
abbrev main_call7_cst : Ref sig .tc := ⟨.hbm, 131, rfl⟩
abbrev main_call7_v2 : Ref sig .tc := ⟨.hbm, 132, rfl⟩
abbrev main_call7_v3 : Ref sig .tc := ⟨.hbm, 133, rfl⟩
abbrev main_call7_cst_0 : Ref sig .tc := ⟨.hbm, 134, rfl⟩
abbrev main_call7_v4 : Ref sig .tc := ⟨.hbm, 135, rfl⟩
abbrev main_call7_v5 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_call8_v0 : Ref sig .tc := ⟨.hbm, 149, rfl⟩
abbrev main_call8_v1 : Ref sig .tc := ⟨.hbm, 150, rfl⟩
abbrev main_call8_cst : Ref sig .tc := ⟨.hbm, 151, rfl⟩
abbrev main_call8_v2 : Ref sig .tc := ⟨.hbm, 152, rfl⟩
abbrev main_call8_v3 : Ref sig .tc := ⟨.hbm, 153, rfl⟩
abbrev main_call8_cst_0 : Ref sig .tc := ⟨.hbm, 154, rfl⟩
abbrev main_call8_v4 : Ref sig .tc := ⟨.hbm, 155, rfl⟩
abbrev main_call8_v5 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_call9_v0 : Ref sig .tc := ⟨.hbm, 169, rfl⟩
abbrev main_call9_v1 : Ref sig .tc := ⟨.hbm, 170, rfl⟩
abbrev main_call9_cst : Ref sig .tc := ⟨.hbm, 171, rfl⟩
abbrev main_call9_v2 : Ref sig .tc := ⟨.hbm, 172, rfl⟩
abbrev main_call9_v3 : Ref sig .tc := ⟨.hbm, 173, rfl⟩
abbrev main_call9_cst_0 : Ref sig .tc := ⟨.hbm, 174, rfl⟩
abbrev main_call9_v4 : Ref sig .tc := ⟨.hbm, 175, rfl⟩
abbrev main_call9_v5 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩

abbrev nD : Nat := 1
abbrev τ : Topo := Topo.v7x

variable {F : FTy → Type} [FloatOps F]
-- ==== MoeUpLast.lean ====
abbrev S72 : Shape := ⟨1, ![72]⟩
abbrev S1 : Shape := ⟨1, ![1]⟩
abbrev S36864x2048 : Shape := ⟨2, ![36864, 2048]⟩
abbrev S2x8x2048x4096 : Shape := ⟨4, ![2, 8, 2048, 4096]⟩
abbrev S36864x4096 : Shape := ⟨2, ![36864, 4096]⟩
abbrev S512x2048 : Shape := ⟨2, ![512, 2048]⟩
abbrev S1x1x2048x1024 : Shape := ⟨4, ![1, 1, 2048, 1024]⟩
abbrev S512x1024 : Shape := ⟨2, ![512, 1024]⟩
abbrev S2048x1024 : Shape := ⟨2, ![2048, 1024]⟩

abbrev nBuf : Space → Nat
  | .hbm => 4
  | .vmem => 10
  | .smem => 2
  | _ => 0

abbrev bufTy : (tb : Table) → Fin (tcTables nBuf tb) → BufTy
  | .hbm, ⟨0, _⟩ => ⟨S36864x2048, .bf16⟩
  | .hbm, ⟨1, _⟩ => ⟨S2x8x2048x4096, .f32⟩
  | .hbm, ⟨2, _⟩ => ⟨S2x8x2048x4096, .f32⟩
  | .hbm, ⟨3, _⟩ => ⟨S36864x4096, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S72, .i32⟩
  | .local _ .smem, ⟨1, _⟩ => ⟨S1, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpLastRefIdeal.lean ====
abbrev S72 : Shape := ⟨1, ![72]⟩
abbrev S1 : Shape := ⟨1, ![1]⟩
abbrev S36864x2048 : Shape := ⟨2, ![36864, 2048]⟩
abbrev S2x8x2048x4096 : Shape := ⟨4, ![2, 8, 2048, 4096]⟩
abbrev S_ : Shape := ⟨0, ![]⟩
abbrev S72x1 : Shape := ⟨2, ![72, 1]⟩
abbrev S72x512 : Shape := ⟨2, ![72, 512]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S36864x4096 : Shape := ⟨2, ![36864, 4096]⟩
abbrev S1x1x2048x4096 : Shape := ⟨4, ![1, 1, 2048, 4096]⟩
abbrev S2048x4096 : Shape := ⟨2, ![2048, 4096]⟩

abbrev nBuf : Space → Nat
  | .hbm => 186
  | .vmem => 0
  | .smem => 0
  | _ => 0

abbrev hbmTy0_0 (i : Nat) : BufTy := match i % 128 with
  | 0 => ⟨S72, .i32⟩
  | 1 => ⟨S1, .i32⟩
  | 2 => ⟨S36864x2048, .bf16⟩
  | 3 => ⟨S2x8x2048x4096, .f32⟩
  | 4 => ⟨S2x8x2048x4096, .f32⟩
  | 5 => ⟨S72, .i32⟩
  | 6 => ⟨S_, .i32⟩
  | 7 => ⟨S72, .i32⟩
  | 8 => ⟨S72, .i1⟩
  | 9 => ⟨S_, .i32⟩
  | 10 => ⟨S_, .i32⟩
  | 11 => ⟨S72, .i32⟩
  | 12 => ⟨S72, .i32⟩
  | 13 => ⟨S72x1, .i32⟩
  | 14 => ⟨S72x512, .i32⟩
  | 15 => ⟨S36864, .i32⟩
  | 16 => ⟨S36864x1, .i32⟩
  | 17 => ⟨S1x8, .i32⟩
  | 18 => ⟨S36864x8, .i32⟩
  | 19 => ⟨S36864x8, .i32⟩
  | 20 => ⟨S36864x8, .i1⟩
  | 21 => ⟨S36864x8, .f32⟩
  | 22 => ⟨S36864x2048, .f32⟩
  | 23 => ⟨S_, .f32⟩
  | 24 => ⟨S36864x4096, .f32⟩
  | 25 => ⟨S36864x1, .f32⟩
  | 26 => ⟨S1x1x2048x4096, .f32⟩
  | 27 => ⟨S2048x4096, .f32⟩
  | 28 => ⟨S36864x4096, .f32⟩
  | 29 => ⟨S36864x4096, .f32⟩
  | 30 => ⟨S36864x4096, .f32⟩
  | 31 => ⟨S_, .f32⟩
  | 32 => ⟨S36864x4096, .f32⟩
  | 33 => ⟨S36864x4096, .f32⟩
  | 34 => ⟨S_, .f32⟩
  | 35 => ⟨S36864x4096, .f32⟩
  | 36 => ⟨S36864x4096, .f32⟩
  | 37 => ⟨S36864x4096, .f32⟩
  | 38 => ⟨S1x1x2048x4096, .f32⟩
  | 39 => ⟨S2048x4096, .f32⟩
  | 40 => ⟨S36864x4096, .f32⟩
  | 41 => ⟨S36864x4096, .f32⟩
  | 42 => ⟨S36864x4096, .f32⟩
  | 43 => ⟨S36864x4096, .f32⟩
  | 44 => ⟨S36864x4096, .f32⟩
  | 45 => ⟨S36864x1, .f32⟩
  | 46 => ⟨S1x1x2048x4096, .f32⟩
  | 47 => ⟨S2048x4096, .f32⟩
  | 48 => ⟨S36864x4096, .f32⟩
  | 49 => ⟨S36864x4096, .f32⟩
  | 50 => ⟨S36864x4096, .f32⟩
  | 51 => ⟨S_, .f32⟩
  | 52 => ⟨S36864x4096, .f32⟩
  | 53 => ⟨S36864x4096, .f32⟩
  | 54 => ⟨S_, .f32⟩
  | 55 => ⟨S36864x4096, .f32⟩
  | 56 => ⟨S36864x4096, .f32⟩
  | 57 => ⟨S36864x4096, .f32⟩
  | 58 => ⟨S1x1x2048x4096, .f32⟩
  | 59 => ⟨S2048x4096, .f32⟩
  | 60 => ⟨S36864x4096, .f32⟩
  | 61 => ⟨S36864x4096, .f32⟩
  | 62 => ⟨S36864x4096, .f32⟩
  | 63 => ⟨S36864x4096, .f32⟩
  | 64 => ⟨S36864x4096, .f32⟩
  | 65 => ⟨S36864x1, .f32⟩
  | 66 => ⟨S1x1x2048x4096, .f32⟩
  | 67 => ⟨S2048x4096, .f32⟩
  | 68 => ⟨S36864x4096, .f32⟩
  | 69 => ⟨S36864x4096, .f32⟩
  | 70 => ⟨S36864x4096, .f32⟩
  | 71 => ⟨S_, .f32⟩
  | 72 => ⟨S36864x4096, .f32⟩
  | 73 => ⟨S36864x4096, .f32⟩
  | 74 => ⟨S_, .f32⟩
  | 75 => ⟨S36864x4096, .f32⟩
  | 76 => ⟨S36864x4096, .f32⟩
  | 77 => ⟨S36864x4096, .f32⟩
  | 78 => ⟨S1x1x2048x4096, .f32⟩
  | 79 => ⟨S2048x4096, .f32⟩
  | 80 => ⟨S36864x4096, .f32⟩
  | 81 => ⟨S36864x4096, .f32⟩
  | 82 => ⟨S36864x4096, .f32⟩
  | 83 => ⟨S36864x4096, .f32⟩
  | 84 => ⟨S36864x4096, .f32⟩
  | 85 => ⟨S36864x1, .f32⟩
  | 86 => ⟨S1x1x2048x4096, .f32⟩
  | 87 => ⟨S2048x4096, .f32⟩
  | 88 => ⟨S36864x4096, .f32⟩
  | 89 => ⟨S36864x4096, .f32⟩
  | 90 => ⟨S36864x4096, .f32⟩
  | 91 => ⟨S_, .f32⟩
  | 92 => ⟨S36864x4096, .f32⟩
  | 93 => ⟨S36864x4096, .f32⟩
  | 94 => ⟨S_, .f32⟩
  | 95 => ⟨S36864x4096, .f32⟩
  | 96 => ⟨S36864x4096, .f32⟩
  | 97 => ⟨S36864x4096, .f32⟩
  | 98 => ⟨S1x1x2048x4096, .f32⟩
  | 99 => ⟨S2048x4096, .f32⟩
  | 100 => ⟨S36864x4096, .f32⟩
  | 101 => ⟨S36864x4096, .f32⟩
  | 102 => ⟨S36864x4096, .f32⟩
  | 103 => ⟨S36864x4096, .f32⟩
  | 104 => ⟨S36864x4096, .f32⟩
  | 105 => ⟨S36864x1, .f32⟩
  | 106 => ⟨S1x1x2048x4096, .f32⟩
  | 107 => ⟨S2048x4096, .f32⟩
  | 108 => ⟨S36864x4096, .f32⟩
  | 109 => ⟨S36864x4096, .f32⟩
  | 110 => ⟨S36864x4096, .f32⟩
  | 111 => ⟨S_, .f32⟩
  | 112 => ⟨S36864x4096, .f32⟩
  | 113 => ⟨S36864x4096, .f32⟩
  | 114 => ⟨S_, .f32⟩
  | 115 => ⟨S36864x4096, .f32⟩
  | 116 => ⟨S36864x4096, .f32⟩
  | 117 => ⟨S36864x4096, .f32⟩
  | 118 => ⟨S1x1x2048x4096, .f32⟩
  | 119 => ⟨S2048x4096, .f32⟩
  | 120 => ⟨S36864x4096, .f32⟩
  | 121 => ⟨S36864x4096, .f32⟩
  | 122 => ⟨S36864x4096, .f32⟩
  | 123 => ⟨S36864x4096, .f32⟩
  | 124 => ⟨S36864x4096, .f32⟩
  | 125 => ⟨S36864x1, .f32⟩
  | 126 => ⟨S1x1x2048x4096, .f32⟩
  | 127 => ⟨S2048x4096, .f32⟩
  | _ => ⟨S72, .i32⟩

abbrev hbmTy0_1 (i : Nat) : BufTy := match i % 128 with
  | 0 => ⟨S36864x4096, .f32⟩
  | 1 => ⟨S36864x4096, .f32⟩
  | 2 => ⟨S36864x4096, .f32⟩
  | 3 => ⟨S_, .f32⟩
  | 4 => ⟨S36864x4096, .f32⟩
  | 5 => ⟨S36864x4096, .f32⟩
  | 6 => ⟨S_, .f32⟩
  | 7 => ⟨S36864x4096, .f32⟩
  | 8 => ⟨S36864x4096, .f32⟩
  | 9 => ⟨S36864x4096, .f32⟩
  | 10 => ⟨S1x1x2048x4096, .f32⟩
  | 11 => ⟨S2048x4096, .f32⟩
  | 12 => ⟨S36864x4096, .f32⟩
  | 13 => ⟨S36864x4096, .f32⟩
  | 14 => ⟨S36864x4096, .f32⟩
  | 15 => ⟨S36864x4096, .f32⟩
  | 16 => ⟨S36864x4096, .f32⟩
  | 17 => ⟨S36864x1, .f32⟩
  | 18 => ⟨S1x1x2048x4096, .f32⟩
  | 19 => ⟨S2048x4096, .f32⟩
  | 20 => ⟨S36864x4096, .f32⟩
  | 21 => ⟨S36864x4096, .f32⟩
  | 22 => ⟨S36864x4096, .f32⟩
  | 23 => ⟨S_, .f32⟩
  | 24 => ⟨S36864x4096, .f32⟩
  | 25 => ⟨S36864x4096, .f32⟩
  | 26 => ⟨S_, .f32⟩
  | 27 => ⟨S36864x4096, .f32⟩
  | 28 => ⟨S36864x4096, .f32⟩
  | 29 => ⟨S36864x4096, .f32⟩
  | 30 => ⟨S1x1x2048x4096, .f32⟩
  | 31 => ⟨S2048x4096, .f32⟩
  | 32 => ⟨S36864x4096, .f32⟩
  | 33 => ⟨S36864x4096, .f32⟩
  | 34 => ⟨S36864x4096, .f32⟩
  | 35 => ⟨S36864x4096, .f32⟩
  | 36 => ⟨S36864x4096, .f32⟩
  | 37 => ⟨S36864x1, .f32⟩
  | 38 => ⟨S1x1x2048x4096, .f32⟩
  | 39 => ⟨S2048x4096, .f32⟩
  | 40 => ⟨S36864x4096, .f32⟩
  | 41 => ⟨S36864x4096, .f32⟩
  | 42 => ⟨S36864x4096, .f32⟩
  | 43 => ⟨S_, .f32⟩
  | 44 => ⟨S36864x4096, .f32⟩
  | 45 => ⟨S36864x4096, .f32⟩
  | 46 => ⟨S_, .f32⟩
  | 47 => ⟨S36864x4096, .f32⟩
  | 48 => ⟨S36864x4096, .f32⟩
  | 49 => ⟨S36864x4096, .f32⟩
  | 50 => ⟨S1x1x2048x4096, .f32⟩
  | 51 => ⟨S2048x4096, .f32⟩
  | 52 => ⟨S36864x4096, .f32⟩
  | 53 => ⟨S36864x4096, .f32⟩
  | 54 => ⟨S36864x4096, .f32⟩
  | 55 => ⟨S36864x4096, .f32⟩
  | 56 => ⟨S36864x4096, .f32⟩
  | 57 => ⟨S36864x4096, .bf16⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call3_v0 : Ref sig .tc := ⟨.hbm, 49, rfl⟩
abbrev main_call3_v1 : Ref sig .tc := ⟨.hbm, 50, rfl⟩
abbrev main_call3_cst : Ref sig .tc := ⟨.hbm, 51, rfl⟩
abbrev main_call3_v2 : Ref sig .tc := ⟨.hbm, 52, rfl⟩
abbrev main_call3_v3 : Ref sig .tc := ⟨.hbm, 53, rfl⟩
abbrev main_call3_cst_0 : Ref sig .tc := ⟨.hbm, 54, rfl⟩
abbrev main_call3_v4 : Ref sig .tc := ⟨.hbm, 55, rfl⟩
abbrev main_call3_v5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call4_v0 : Ref sig .tc := ⟨.hbm, 69, rfl⟩
abbrev main_call4_v1 : Ref sig .tc := ⟨.hbm, 70, rfl⟩
abbrev main_call4_cst : Ref sig .tc := ⟨.hbm, 71, rfl⟩
abbrev main_call4_v2 : Ref sig .tc := ⟨.hbm, 72, rfl⟩
abbrev main_call4_v3 : Ref sig .tc := ⟨.hbm, 73, rfl⟩
abbrev main_call4_cst_0 : Ref sig .tc := ⟨.hbm, 74, rfl⟩
abbrev main_call4_v4 : Ref sig .tc := ⟨.hbm, 75, rfl⟩
abbrev main_call4_v5 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call5_v0 : Ref sig .tc := ⟨.hbm, 89, rfl⟩
abbrev main_call5_v1 : Ref sig .tc := ⟨.hbm, 90, rfl⟩
abbrev main_call5_cst : Ref sig .tc := ⟨.hbm, 91, rfl⟩
abbrev main_call5_v2 : Ref sig .tc := ⟨.hbm, 92, rfl⟩
abbrev main_call5_v3 : Ref sig .tc := ⟨.hbm, 93, rfl⟩
abbrev main_call5_cst_0 : Ref sig .tc := ⟨.hbm, 94, rfl⟩
abbrev main_call5_v4 : Ref sig .tc := ⟨.hbm, 95, rfl⟩
abbrev main_call5_v5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_call6_v0 : Ref sig .tc := ⟨.hbm, 109, rfl⟩
abbrev main_call6_v1 : Ref sig .tc := ⟨.hbm, 110, rfl⟩
abbrev main_call6_cst : Ref sig .tc := ⟨.hbm, 111, rfl⟩
abbrev main_call6_v2 : Ref sig .tc := ⟨.hbm, 112, rfl⟩
abbrev main_call6_v3 : Ref sig .tc := ⟨.hbm, 113, rfl⟩
abbrev main_call6_cst_0 : Ref sig .tc := ⟨.hbm, 114, rfl⟩
abbrev main_call6_v4 : Ref sig .tc := ⟨.hbm, 115, rfl⟩
abbrev main_call6_v5 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_call7_v0 : Ref sig .tc := ⟨.hbm, 129, rfl⟩
abbrev main_call7_v1 : Ref sig .tc := ⟨.hbm, 130, rfl⟩
abbrev main_call7_cst : Ref sig .tc := ⟨.hbm, 131, rfl⟩
abbrev main_call7_v2 : Ref sig .tc := ⟨.hbm, 132, rfl⟩
abbrev main_call7_v3 : Ref sig .tc := ⟨.hbm, 133, rfl⟩
abbrev main_call7_cst_0 : Ref sig .tc := ⟨.hbm, 134, rfl⟩
abbrev main_call7_v4 : Ref sig .tc := ⟨.hbm, 135, rfl⟩
abbrev main_call7_v5 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_call8_v0 : Ref sig .tc := ⟨.hbm, 149, rfl⟩
abbrev main_call8_v1 : Ref sig .tc := ⟨.hbm, 150, rfl⟩
abbrev main_call8_cst : Ref sig .tc := ⟨.hbm, 151, rfl⟩
abbrev main_call8_v2 : Ref sig .tc := ⟨.hbm, 152, rfl⟩
abbrev main_call8_v3 : Ref sig .tc := ⟨.hbm, 153, rfl⟩
abbrev main_call8_cst_0 : Ref sig .tc := ⟨.hbm, 154, rfl⟩
abbrev main_call8_v4 : Ref sig .tc := ⟨.hbm, 155, rfl⟩
abbrev main_call8_v5 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_call9_v0 : Ref sig .tc := ⟨.hbm, 169, rfl⟩
abbrev main_call9_v1 : Ref sig .tc := ⟨.hbm, 170, rfl⟩
abbrev main_call9_cst : Ref sig .tc := ⟨.hbm, 171, rfl⟩
abbrev main_call9_v2 : Ref sig .tc := ⟨.hbm, 172, rfl⟩
abbrev main_call9_v3 : Ref sig .tc := ⟨.hbm, 173, rfl⟩
abbrev main_call9_cst_0 : Ref sig .tc := ⟨.hbm, 174, rfl⟩
abbrev main_call9_v4 : Ref sig .tc := ⟨.hbm, 175, rfl⟩
abbrev main_call9_v5 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩

abbrev nD : Nat := 1
abbrev τ : Topo := Topo.v7x

variable {F : FTy → Type} [FloatOps F]
-- ==== MoeDown.lean ====
abbrev S80 : Shape := ⟨1, ![80]⟩
abbrev S1 : Shape := ⟨1, ![1]⟩
abbrev S40960x4096 : Shape := ⟨2, ![40960, 4096]⟩
abbrev S2x8x4096x2048 : Shape := ⟨4, ![2, 8, 4096, 2048]⟩
abbrev S2x40960x1024 : Shape := ⟨3, ![2, 40960, 1024]⟩
abbrev S512x4096 : Shape := ⟨2, ![512, 4096]⟩
abbrev S1x1x4096x512 : Shape := ⟨4, ![1, 1, 4096, 512]⟩
abbrev S2x512x512 : Shape := ⟨3, ![2, 512, 512]⟩
abbrev S4096x512 : Shape := ⟨2, ![4096, 512]⟩
abbrev S512x512 : Shape := ⟨2, ![512, 512]⟩
abbrev S1x512x512 : Shape := ⟨3, ![1, 512, 512]⟩

abbrev nBuf : Space → Nat
  | .hbm => 3
  | .vmem => 10
  | .smem => 2
  | _ => 0

abbrev bufTy : (tb : Table) → Fin (tcTables nBuf tb) → BufTy
  | .hbm, ⟨0, _⟩ => ⟨S40960x4096, .bf16⟩
  | .hbm, ⟨1, _⟩ => ⟨S2x8x4096x2048, .f32⟩
  | .hbm, ⟨2, _⟩ => ⟨S2x40960x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S2x512x512, .bf16⟩
  | .local _ .vmem, ⟨7, _⟩ => ⟨S2x512x512, .bf16⟩
  | .local _ .vmem, ⟨8, _⟩ => ⟨S4096x512, .bf16⟩
  | .local _ .vmem, ⟨9, _⟩ => ⟨S4096x512, .bf16⟩
  | .local _ .smem, ⟨0, _⟩ => ⟨S80, .i32⟩
  | .local _ .smem, ⟨1, _⟩ => ⟨S1, .i32⟩
  | _, _ => ⟨S40960x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 80], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeDownRefIdeal.lean ====
abbrev S80 : Shape := ⟨1, ![80]⟩
abbrev S1 : Shape := ⟨1, ![1]⟩
abbrev S40960x4096 : Shape := ⟨2, ![40960, 4096]⟩
abbrev S2x8x4096x2048 : Shape := ⟨4, ![2, 8, 4096, 2048]⟩
abbrev S_ : Shape := ⟨0, ![]⟩
abbrev S80x1 : Shape := ⟨2, ![80, 1]⟩
abbrev S80x512 : Shape := ⟨2, ![80, 512]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩
abbrev S40960x2048 : Shape := ⟨2, ![40960, 2048]⟩
abbrev S1x1x4096x2048 : Shape := ⟨4, ![1, 1, 4096, 2048]⟩
abbrev S4096x2048 : Shape := ⟨2, ![4096, 2048]⟩
abbrev S40960x1024 : Shape := ⟨2, ![40960, 1024]⟩
abbrev S1x40960x1024 : Shape := ⟨3, ![1, 40960, 1024]⟩
abbrev S2x40960x1024 : Shape := ⟨3, ![2, 40960, 1024]⟩

abbrev nBuf : Space → Nat
  | .hbm => 86
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S40960x4096, .bf16⟩
  | .hbm, ⟨3, _⟩ => ⟨S2x8x4096x2048, .f32⟩
  | .hbm, ⟨4, _⟩ => ⟨S80, .i32⟩
  | .hbm, ⟨5, _⟩ => ⟨S_, .i32⟩
  | .hbm, ⟨6, _⟩ => ⟨S80, .i32⟩
  | .hbm, ⟨7, _⟩ => ⟨S80, .i1⟩
  | .hbm, ⟨8, _⟩ => ⟨S_, .i32⟩
  | .hbm, ⟨9, _⟩ => ⟨S_, .i32⟩
  | .hbm, ⟨10, _⟩ => ⟨S80, .i32⟩
  | .hbm, ⟨11, _⟩ => ⟨S80, .i32⟩
  | .hbm, ⟨12, _⟩ => ⟨S80x1, .i32⟩
  | .hbm, ⟨13, _⟩ => ⟨S80x512, .i32⟩
  | .hbm, ⟨14, _⟩ => ⟨S40960, .i32⟩
  | .hbm, ⟨15, _⟩ => ⟨S40960x1, .i32⟩
  | .hbm, ⟨16, _⟩ => ⟨S1x8, .i32⟩
  | .hbm, ⟨17, _⟩ => ⟨S40960x8, .i32⟩
  | .hbm, ⟨18, _⟩ => ⟨S40960x8, .i32⟩
  | .hbm, ⟨19, _⟩ => ⟨S40960x8, .i1⟩
  | .hbm, ⟨20, _⟩ => ⟨S40960x8, .f32⟩
  | .hbm, ⟨21, _⟩ => ⟨S40960x4096, .f32⟩
  | .hbm, ⟨22, _⟩ => ⟨S_, .f32⟩
  | .hbm, ⟨23, _⟩ => ⟨S40960x2048, .f32⟩
  | .hbm, ⟨24, _⟩ => ⟨S40960x1, .f32⟩
  | .hbm, ⟨25, _⟩ => ⟨S1x1x4096x2048, .f32⟩
  | .hbm, ⟨26, _⟩ => ⟨S4096x2048, .f32⟩
  | .hbm, ⟨27, _⟩ => ⟨S40960x2048, .f32⟩
  | .hbm, ⟨28, _⟩ => ⟨S40960x2048, .f32⟩
  | .hbm, ⟨29, _⟩ => ⟨S40960x2048, .f32⟩
  | .hbm, ⟨30, _⟩ => ⟨S40960x2048, .f32⟩
  | .hbm, ⟨31, _⟩ => ⟨S40960x1, .f32⟩
  | .hbm, ⟨32, _⟩ => ⟨S1x1x4096x2048, .f32⟩
  | .hbm, ⟨33, _⟩ => ⟨S4096x2048, .f32⟩
  | .hbm, ⟨34, _⟩ => ⟨S40960x2048, .f32⟩
  | .hbm, ⟨35, _⟩ => ⟨S40960x2048, .f32⟩
  | .hbm, ⟨36, _⟩ => ⟨S40960x2048, .f32⟩
  | .hbm, ⟨37, _⟩ => ⟨S40960x2048, .f32⟩
  | .hbm, ⟨38, _⟩ => ⟨S40960x1, .f32⟩
  | .hbm, ⟨39, _⟩ => ⟨S1x1x4096x2048, .f32⟩
  | .hbm, ⟨40, _⟩ => ⟨S4096x2048, .f32⟩
  | .hbm, ⟨41, _⟩ => ⟨S40960x2048, .f32⟩
  | .hbm, ⟨42, _⟩ => ⟨S40960x2048, .f32⟩
  | .hbm, ⟨43, _⟩ => ⟨S40960x2048, .f32⟩
  | .hbm, ⟨44, _⟩ => ⟨S40960x2048, .f32⟩
  | .hbm, ⟨45, _⟩ => ⟨S40960x1, .f32⟩
  | .hbm, ⟨46, _⟩ => ⟨S1x1x4096x2048, .f32⟩
  | .hbm, ⟨47, _⟩ => ⟨S4096x2048, .f32⟩
  | .hbm, ⟨48, _⟩ => ⟨S40960x2048, .f32⟩
  | .hbm, ⟨49, _⟩ => ⟨S40960x2048, .f32⟩
  | .hbm, ⟨50, _⟩ => ⟨S40960x2048, .f32⟩
  | .hbm, ⟨51, _⟩ => ⟨S40960x2048, .f32⟩
  | .hbm, ⟨52, _⟩ => ⟨S40960x1, .f32⟩
  | .hbm, ⟨53, _⟩ => ⟨S1x1x4096x2048, .f32⟩
  | .hbm, ⟨54, _⟩ => ⟨S4096x2048, .f32⟩
  | .hbm, ⟨55, _⟩ => ⟨S40960x2048, .f32⟩
  | .hbm, ⟨56, _⟩ => ⟨S40960x2048, .f32⟩
  | .hbm, ⟨57, _⟩ => ⟨S40960x2048, .f32⟩
  | .hbm, ⟨58, _⟩ => ⟨S40960x2048, .f32⟩
  | .hbm, ⟨59, _⟩ => ⟨S40960x1, .f32⟩
  | .hbm, ⟨60, _⟩ => ⟨S1x1x4096x2048, .f32⟩
  | .hbm, ⟨61, _⟩ => ⟨S4096x2048, .f32⟩
  | .hbm, ⟨62, _⟩ => ⟨S40960x2048, .f32⟩
  | .hbm, ⟨63, _⟩ => ⟨S40960x2048, .f32⟩
  | .hbm, ⟨64, _⟩ => ⟨S40960x2048, .f32⟩
  | .hbm, ⟨65, _⟩ => ⟨S40960x2048, .f32⟩
  | .hbm, ⟨66, _⟩ => ⟨S40960x1, .f32⟩
  | .hbm, ⟨67, _⟩ => ⟨S1x1x4096x2048, .f32⟩
  | .hbm, ⟨68, _⟩ => ⟨S4096x2048, .f32⟩
  | .hbm, ⟨69, _⟩ => ⟨S40960x2048, .f32⟩
  | .hbm, ⟨70, _⟩ => ⟨S40960x2048, .f32⟩
  | .hbm, ⟨71, _⟩ => ⟨S40960x2048, .f32⟩
  | .hbm, ⟨72, _⟩ => ⟨S40960x2048, .f32⟩
  | .hbm, ⟨73, _⟩ => ⟨S40960x1, .f32⟩
  | .hbm, ⟨74, _⟩ => ⟨S1x1x4096x2048, .f32⟩
  | .hbm, ⟨75, _⟩ => ⟨S4096x2048, .f32⟩
  | .hbm, ⟨76, _⟩ => ⟨S40960x2048, .f32⟩
  | .hbm, ⟨77, _⟩ => ⟨S40960x2048, .f32⟩
  | .hbm, ⟨78, _⟩ => ⟨S40960x2048, .f32⟩
  | .hbm, ⟨79, _⟩ => ⟨S40960x2048, .f32⟩
  | .hbm, ⟨80, _⟩ => ⟨S40960x2048, .bf16⟩
  | .hbm, ⟨81, _⟩ => ⟨S40960x1024, .bf16⟩
  | .hbm, ⟨82, _⟩ => ⟨S40960x1024, .bf16⟩
  | .hbm, ⟨83, _⟩ => ⟨S1x40960x1024, .bf16⟩
  | .hbm, ⟨84, _⟩ => ⟨S1x40960x1024, .bf16⟩
  | .hbm, ⟨85, _⟩ => ⟨S2x40960x1024, .bf16⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== MoeDownLast.lean ====
abbrev S72 : Shape := ⟨1, ![72]⟩
abbrev S1 : Shape := ⟨1, ![1]⟩
abbrev S36864x4096 : Shape := ⟨2, ![36864, 4096]⟩
abbrev S2x8x4096x2048 : Shape := ⟨4, ![2, 8, 4096, 2048]⟩
abbrev S2x36864x1024 : Shape := ⟨3, ![2, 36864, 1024]⟩
abbrev S512x4096 : Shape := ⟨2, ![512, 4096]⟩
abbrev S1x1x4096x512 : Shape := ⟨4, ![1, 1, 4096, 512]⟩
abbrev S2x512x512 : Shape := ⟨3, ![2, 512, 512]⟩
abbrev S4096x512 : Shape := ⟨2, ![4096, 512]⟩
abbrev S512x512 : Shape := ⟨2, ![512, 512]⟩
abbrev S1x512x512 : Shape := ⟨3, ![1, 512, 512]⟩

abbrev nBuf : Space → Nat
  | .hbm => 3
  | .vmem => 10
  | .smem => 2
  | _ => 0

abbrev bufTy : (tb : Table) → Fin (tcTables nBuf tb) → BufTy
  | .hbm, ⟨0, _⟩ => ⟨S36864x4096, .bf16⟩
  | .hbm, ⟨1, _⟩ => ⟨S2x8x4096x2048, .f32⟩
  | .hbm, ⟨2, _⟩ => ⟨S2x36864x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S2x512x512, .bf16⟩
  | .local _ .vmem, ⟨7, _⟩ => ⟨S2x512x512, .bf16⟩
  | .local _ .vmem, ⟨8, _⟩ => ⟨S4096x512, .bf16⟩
  | .local _ .vmem, ⟨9, _⟩ => ⟨S4096x512, .bf16⟩
  | .local _ .smem, ⟨0, _⟩ => ⟨S72, .i32⟩
  | .local _ .smem, ⟨1, _⟩ => ⟨S1, .i32⟩
  | _, _ => ⟨S36864x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c2_i32 : BitVec 32 := 2#32
  let v2 : BitVec 32 := Scalar.addi c2_i32 arg0
  let c1_i32 : BitVec 32 := 1#32
  let c0_i32 : BitVec 32 := 0#32
  let c0_i32_0 : BitVec 32 := 0#32
  ![c1_i32.toNat, v1.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeDownLastRefIdeal.lean ====
abbrev S72 : Shape := ⟨1, ![72]⟩
abbrev S1 : Shape := ⟨1, ![1]⟩
abbrev S36864x4096 : Shape := ⟨2, ![36864, 4096]⟩
abbrev S2x8x4096x2048 : Shape := ⟨4, ![2, 8, 4096, 2048]⟩
abbrev S_ : Shape := ⟨0, ![]⟩
abbrev S72x1 : Shape := ⟨2, ![72, 1]⟩
abbrev S72x512 : Shape := ⟨2, ![72, 512]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S36864x2048 : Shape := ⟨2, ![36864, 2048]⟩
abbrev S1x1x4096x2048 : Shape := ⟨4, ![1, 1, 4096, 2048]⟩
abbrev S4096x2048 : Shape := ⟨2, ![4096, 2048]⟩
abbrev S36864x1024 : Shape := ⟨2, ![36864, 1024]⟩
abbrev S1x36864x1024 : Shape := ⟨3, ![1, 36864, 1024]⟩
abbrev S2x36864x1024 : Shape := ⟨3, ![2, 36864, 1024]⟩

abbrev nBuf : Space → Nat
  | .hbm => 86
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x4096, .bf16⟩
  | .hbm, ⟨3, _⟩ => ⟨S2x8x4096x2048, .f32⟩
  | .hbm, ⟨4, _⟩ => ⟨S72, .i32⟩
  | .hbm, ⟨5, _⟩ => ⟨S_, .i32⟩
  | .hbm, ⟨6, _⟩ => ⟨S72, .i32⟩
  | .hbm, ⟨7, _⟩ => ⟨S72, .i1⟩
  | .hbm, ⟨8, _⟩ => ⟨S_, .i32⟩
  | .hbm, ⟨9, _⟩ => ⟨S_, .i32⟩
  | .hbm, ⟨10, _⟩ => ⟨S72, .i32⟩
  | .hbm, ⟨11, _⟩ => ⟨S72, .i32⟩
  | .hbm, ⟨12, _⟩ => ⟨S72x1, .i32⟩
  | .hbm, ⟨13, _⟩ => ⟨S72x512, .i32⟩
  | .hbm, ⟨14, _⟩ => ⟨S36864, .i32⟩
  | .hbm, ⟨15, _⟩ => ⟨S36864x1, .i32⟩
  | .hbm, ⟨16, _⟩ => ⟨S1x8, .i32⟩
  | .hbm, ⟨17, _⟩ => ⟨S36864x8, .i32⟩
  | .hbm, ⟨18, _⟩ => ⟨S36864x8, .i32⟩
  | .hbm, ⟨19, _⟩ => ⟨S36864x8, .i1⟩
  | .hbm, ⟨20, _⟩ => ⟨S36864x8, .f32⟩
  | .hbm, ⟨21, _⟩ => ⟨S36864x4096, .f32⟩
  | .hbm, ⟨22, _⟩ => ⟨S_, .f32⟩
  | .hbm, ⟨23, _⟩ => ⟨S36864x2048, .f32⟩
  | .hbm, ⟨24, _⟩ => ⟨S36864x1, .f32⟩
  | .hbm, ⟨25, _⟩ => ⟨S1x1x4096x2048, .f32⟩
  | .hbm, ⟨26, _⟩ => ⟨S4096x2048, .f32⟩
  | .hbm, ⟨27, _⟩ => ⟨S36864x2048, .f32⟩
  | .hbm, ⟨28, _⟩ => ⟨S36864x2048, .f32⟩
  | .hbm, ⟨29, _⟩ => ⟨S36864x2048, .f32⟩
  | .hbm, ⟨30, _⟩ => ⟨S36864x2048, .f32⟩
  | .hbm, ⟨31, _⟩ => ⟨S36864x1, .f32⟩
  | .hbm, ⟨32, _⟩ => ⟨S1x1x4096x2048, .f32⟩
  | .hbm, ⟨33, _⟩ => ⟨S4096x2048, .f32⟩
  | .hbm, ⟨34, _⟩ => ⟨S36864x2048, .f32⟩
  | .hbm, ⟨35, _⟩ => ⟨S36864x2048, .f32⟩
  | .hbm, ⟨36, _⟩ => ⟨S36864x2048, .f32⟩
  | .hbm, ⟨37, _⟩ => ⟨S36864x2048, .f32⟩
  | .hbm, ⟨38, _⟩ => ⟨S36864x1, .f32⟩
  | .hbm, ⟨39, _⟩ => ⟨S1x1x4096x2048, .f32⟩
  | .hbm, ⟨40, _⟩ => ⟨S4096x2048, .f32⟩
  | .hbm, ⟨41, _⟩ => ⟨S36864x2048, .f32⟩
  | .hbm, ⟨42, _⟩ => ⟨S36864x2048, .f32⟩
  | .hbm, ⟨43, _⟩ => ⟨S36864x2048, .f32⟩
  | .hbm, ⟨44, _⟩ => ⟨S36864x2048, .f32⟩
  | .hbm, ⟨45, _⟩ => ⟨S36864x1, .f32⟩
  | .hbm, ⟨46, _⟩ => ⟨S1x1x4096x2048, .f32⟩
  | .hbm, ⟨47, _⟩ => ⟨S4096x2048, .f32⟩
  | .hbm, ⟨48, _⟩ => ⟨S36864x2048, .f32⟩
  | .hbm, ⟨49, _⟩ => ⟨S36864x2048, .f32⟩
  | .hbm, ⟨50, _⟩ => ⟨S36864x2048, .f32⟩
  | .hbm, ⟨51, _⟩ => ⟨S36864x2048, .f32⟩
  | .hbm, ⟨52, _⟩ => ⟨S36864x1, .f32⟩
  | .hbm, ⟨53, _⟩ => ⟨S1x1x4096x2048, .f32⟩
  | .hbm, ⟨54, _⟩ => ⟨S4096x2048, .f32⟩
  | .hbm, ⟨55, _⟩ => ⟨S36864x2048, .f32⟩
  | .hbm, ⟨56, _⟩ => ⟨S36864x2048, .f32⟩
  | .hbm, ⟨57, _⟩ => ⟨S36864x2048, .f32⟩
  | .hbm, ⟨58, _⟩ => ⟨S36864x2048, .f32⟩
  | .hbm, ⟨59, _⟩ => ⟨S36864x1, .f32⟩
  | .hbm, ⟨60, _⟩ => ⟨S1x1x4096x2048, .f32⟩
  | .hbm, ⟨61, _⟩ => ⟨S4096x2048, .f32⟩
  | .hbm, ⟨62, _⟩ => ⟨S36864x2048, .f32⟩
  | .hbm, ⟨63, _⟩ => ⟨S36864x2048, .f32⟩
  | .hbm, ⟨64, _⟩ => ⟨S36864x2048, .f32⟩
  | .hbm, ⟨65, _⟩ => ⟨S36864x2048, .f32⟩
  | .hbm, ⟨66, _⟩ => ⟨S36864x1, .f32⟩
  | .hbm, ⟨67, _⟩ => ⟨S1x1x4096x2048, .f32⟩
  | .hbm, ⟨68, _⟩ => ⟨S4096x2048, .f32⟩
  | .hbm, ⟨69, _⟩ => ⟨S36864x2048, .f32⟩
  | .hbm, ⟨70, _⟩ => ⟨S36864x2048, .f32⟩
  | .hbm, ⟨71, _⟩ => ⟨S36864x2048, .f32⟩
  | .hbm, ⟨72, _⟩ => ⟨S36864x2048, .f32⟩
  | .hbm, ⟨73, _⟩ => ⟨S36864x1, .f32⟩
  | .hbm, ⟨74, _⟩ => ⟨S1x1x4096x2048, .f32⟩
  | .hbm, ⟨75, _⟩ => ⟨S4096x2048, .f32⟩
  | .hbm, ⟨76, _⟩ => ⟨S36864x2048, .f32⟩
  | .hbm, ⟨77, _⟩ => ⟨S36864x2048, .f32⟩
  | .hbm, ⟨78, _⟩ => ⟨S36864x2048, .f32⟩
  | .hbm, ⟨79, _⟩ => ⟨S36864x2048, .f32⟩
  | .hbm, ⟨80, _⟩ => ⟨S36864x2048, .bf16⟩
  | .hbm, ⟨81, _⟩ => ⟨S36864x1024, .bf16⟩
  | .hbm, ⟨82, _⟩ => ⟨S36864x1024, .bf16⟩
  | .hbm, ⟨83, _⟩ => ⟨S1x36864x1024, .bf16⟩
  | .hbm, ⟨84, _⟩ => ⟨S1x36864x1024, .bf16⟩
  | .hbm, ⟨85, _⟩ => ⟨S2x36864x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Proof.NaFrames.lean ====
/-
  The frames of the neighbourhood attention and of its reference, and the named score scale.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy

@[expose] public section

noncomputable section

namespace Cert.NaFrames

open Idealize.ShloMosaic Idealize.SL.Sem

/-- The kernel's frame, over bits. -/
theorem frame : Cert.quiescent_Kernel := fun m ρ _ => Cert.Kernel.Gen.frame m ρ

/-- The kernel's frame, over the extended reals. -/
theorem frame_ideal : Cert.quiescent_KernelIdeal := fun m ρ _ => Cert.KernelIdeal.Gen.frame m ρ

/-- The reference's frame. -/
theorem ref_frame : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The score scale is `1/√128`, rounded. -/
theorem preserved : Cert.preserves_Kernel_KernelIdeal :=
  IdealRules.named_const.statement Cert.KernelIdeal.κ "s" .f32 0x3DB504F3#32 (((Real.sqrt 128)⁻¹ : ℝ) : EReal) rfl

end Cert.NaFrames

end
-- ==== Proof.Common.lean ====
/-
  What the value proofs share: the three shapes of literal offsets that every whole-buffer access is at, and the
  block product of two staged blocks into a zero accumulator, read at an index as one sum.
-/
module

public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

namespace Cert.Common

open Idealize.ShloMosaic Idealize.ShloMosaic.ValueIdx

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- `[M,K] × [K,N]` into zeros, at an index. -/
theorem mm_apply {M K N : ℕ} {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant _ .f32 0x00000000#32) (ix2 r c)
      = ∑ k : Fin K, lhs (ix2 r k) * rhs (ix2 k c) := by
  rw [Ideal.matmul_plain_apply]
  have h : (constant (F := Ideal) ⟨2, ![M, N]⟩ .f32 0x00000000#32) (ix2 r c) = (0 : EReal) := by
    show Ideal.ofBits .f32 0x00000000#32 = 0
    simp
  rw [h, zero_add]

/-- A leading unit axis dropped, at an index. -/
theorem drop1_apply {a b : ℕ} {α : Type} (v : (⟨3, ![1, a, b]⟩ : Shape).Idx → α)
    (h : (⟨3, ![1, a, b]⟩ : Shape).ShapeCasts ⟨2, ![a, b]⟩) (r : Fin a) (c : Fin b) :
    shapeCast ⟨2, ![a, b]⟩ v h (ix2 r c) = v (ix3 0 r c) := by
  rw [shapeCast_apply v h (ix2 r c) (ix3 0 r c)]
  rw [Shape.rowMajor_val_three, Shape.rowMajor_val_two]
  show (0 * a + r.val) * b + c.val = r.val * b + c.val
  ring

/-- Two leading unit axes dropped, at an index. -/
theorem drop2_apply {a b : ℕ} {α : Type} (v : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ v h (ix2 r c) = v (ix4 0 0 r c) := by
  rw [shapeCast_apply v h (ix2 r c) (ix4 0 0 r c)]
  rw [Shape.rowMajor_val_four, Shape.rowMajor_val_two]
  show ((0 * 1 + 0) * a + r.val) * b + c.val = r.val * b + c.val
  ring

/-- The sigmoid by the hyperbolic tangent, at the infinities too. -/
theorem half_tanh (x : EReal) :
    Ideal.ofBits .f32 0x3F000000#32 * Ideal.tanh (Ideal.ofBits .f32 0x3F000000#32 * x) + Ideal.ofBits .f32 0x3F000000#32
      = Ideal.logistic x := by
  have hh : Ideal.ofBits .f32 0x3F000000#32 = ((1 / 2 : ℝ) : EReal) := by
    simp [Ideal.ofBits, Ideal.ieee, -EReal.coe_mul]; norm_num
  rw [hh]
  induction x with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    have hp : 0 < Real.exp (r / 2) := Real.exp_pos _
    have hq : Real.exp (-r) = (Real.exp (r / 2))⁻¹ * (Real.exp (r / 2))⁻¹ := by
      rw [← Real.exp_neg, ← Real.exp_add]; ring_nf
    rw [Real.tanh_eq_sinh_div_cosh, Real.sinh_eq, Real.cosh_eq, hq, show (1 / 2 * r : ℝ) = r / 2 by ring, Real.exp_neg]
    field_simp
    ring

end Cert.Common

end
-- ==== Proof.MergeValue.lean ====
/-
  The gated merge: at every point a (1024, 512) block of `Σ_e σ(h · W_gate,e) · (y_e · W_up,e)`, the four gate weights
  four column blocks of the one packed array, the four up weights the four slabs of one array the host casts. The
  blocks tile the result. The kernel takes the sigmoid by the hyperbolic tangent.
-/
module

public import proofs.«01_k».proof.Proof.Common
public import proofs.«01_k».proof.Proof.Gen.MergeIdeal.Value

@[expose] public section

set_option maxRecDepth 16384

noncomputable section

namespace Cert.MergeIdeal.RefValue

open Cert.MergeIdeal Cert.MergeIdeal.Gen Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Branch `e` of the merge at row `r` and column `j`: the gate times the projected branch output. -/
def branch (h : FVec Ideal S18432x2048 .bf16) (w : FVec Ideal S4x2048x14336 .bf16) (u : FVec Ideal S4x4x512x2048 .f32)
    (e : Fin 4) (y : FVec Ideal S18432x512 .bf16) (r : Fin 18432) (j : Fin 2048) : EReal :=
  Ideal.logistic (∑ k : Fin 2048, h (ix2 r k) * w (ix3 0 k ⟨6144 + 2048 * e.val + j.val, by omega⟩))
    * ∑ k : Fin 512, y (ix2 r k) * u (ix4 0 e k j)

/-- The merge: the four branches in order. -/
def merged (h : FVec Ideal S18432x2048 .bf16) (w : FVec Ideal S4x2048x14336 .bf16) (u : FVec Ideal S4x4x512x2048 .f32)
    (y₀ y₁ y₂ y₃ : FVec Ideal S18432x512 .bf16) (r : Fin 18432) (j : Fin 2048) : EReal :=
  branch h w u 0 y₀ r j + branch h w u 1 y₁ r j + branch h w u 2 y₂ r j + branch h w u 3 y₃ r j

/-- The result array: the merge at every index. -/
def G (c : Dev nD) : Buf (Elt Ideal) ((c : Thread nD τ).loc main_v1) := fun i =>
  merged (m ((c : Thread nD τ).loc main_arg0)) (m ((c : Thread nD τ).loc main_arg6)) (m ((c : Thread nD τ).loc main_arg5))
    (m ((c : Thread nD τ).loc main_arg1)) (m ((c : Thread nD τ).loc main_arg2)) (m ((c : Thread nD τ).loc main_arg3))
    (m ((c : Thread nD τ).loc main_arg4)) (i 0) (i 1)

/-- One branch of a block at an index: gate weights `w`, branch output `y`, the slab `u` of the up weights. -/
def piece (x : FVec Ideal S1024x2048 .bf16) (w : FVec Ideal S1x2048x512 .bf16) (y : FVec Ideal S1024x512 .bf16)
    (u : Fin 512 → Fin 512 → EReal) (r : Fin 1024) (q : Fin 512) : EReal :=
  Ideal.logistic (∑ k : Fin 2048, x (ix2 r k) * w (ix3 0 k q)) * ∑ k : Fin 512, y (ix2 r k) * u k q

/-- The gate, as the kernel computes it. -/
theorem gate_apply (x : FVec Ideal S1024x2048 .bf16) (w : FVec Ideal S1x2048x512 .bf16) (r : Fin 1024) (q : Fin 512) :
    k0_pay3 (F := Ideal) x w (ix2 r q) = Ideal.logistic (∑ k : Fin 2048, x (ix2 r k) * w (ix3 0 k q)) := by
  refine (half_tanh (FloatOps.matmul (F := Ideal) (φ₁ := .bf16) (φ₂ := .bf16) (DotDims.plain 1024 2048 512) none x
    (shapeCast S2048x512 w shapeCasts_S1x2048x512_S2048x512) (constant _ .f32 0x00000000#32) (ix2 r q))).trans ?_
  rw [mm_apply]
  exact congrArg _ (Finset.sum_congr rfl fun k _ => by rw [drop1_apply])

/-- The projected branch output, as the kernel computes it. -/
theorem up_apply (y : FVec Ideal S1024x512 .bf16) (u : FVec Ideal S1x1x512x512 .bf16) (r : Fin 1024) (q : Fin 512) :
    FloatOps.matmul (F := Ideal) (φ₁ := .bf16) (φ₂ := .bf16) (DotDims.plain 1024 512 512) none y
        (shapeCast S512x512 u shapeCasts_S1x1x512x512_S512x512) (constant _ .f32 0x00000000#32) (ix2 r q)
      = ∑ k : Fin 512, y (ix2 r k) * u (ix4 0 0 k q) := by
  rw [mm_apply]
  exact Finset.sum_congr rfl fun k _ => by rw [drop2_apply]

/-- The stored block at an index: the four branches in order. -/
theorem out_apply (x : FVec Ideal S1024x2048 .bf16) (y₀ y₁ y₂ y₃ : FVec Ideal S1024x512 .bf16) (u : FVec Ideal S1x4x512x512 .bf16)
    (w₀ w₁ w₂ w₃ : FVec Ideal S1x2048x512 .bf16) (r : Fin 1024) (q : Fin 512) :
    out0_10 (F := Ideal) x y₀ y₁ y₂ y₃ u w₀ w₁ w₂ w₃ (ix2 r q)
      = piece x w₀ y₀ (fun k q => u (ix4 0 0 k q)) r q + piece x w₁ y₁ (fun k q => u (ix4 0 1 k q)) r q
        + piece x w₂ y₂ (fun k q => u (ix4 0 2 k q)) r q + piece x w₃ y₃ (fun k q => u (ix4 0 3 k q)) r q := by
  unfold out0_10
  rw [View.canon_unit_zero off2]
  simp only [View.ld_unit_zero (S := S1024x2048) off2, View.ld_unit_zero (S := S1024x512) off2,
    View.ld_unit_zero (S := S1x2048x512) off3]
  show k0_pay3 (F := Ideal) x w₀ (ix2 r q) * FloatOps.matmul (F := Ideal) (φ₁ := .bf16) (φ₂ := .bf16) (DotDims.plain 1024 512 512) none y₀
        (shapeCast S512x512 (View.ld (Val := Elt Ideal) (e' := .bf16) u r0_3) shapeCasts_S1x1x512x512_S512x512) (constant _ .f32 0x00000000#32) (ix2 r q)
      + k0_pay3 (F := Ideal) x w₁ (ix2 r q) * FloatOps.matmul (F := Ideal) (φ₁ := .bf16) (φ₂ := .bf16) (DotDims.plain 1024 512 512) none y₁
        (shapeCast S512x512 (View.ld (Val := Elt Ideal) (e' := .bf16) u r0_4) shapeCasts_S1x1x512x512_S512x512) (constant _ .f32 0x00000000#32) (ix2 r q)
      + k0_pay3 (F := Ideal) x w₂ (ix2 r q) * FloatOps.matmul (F := Ideal) (φ₁ := .bf16) (φ₂ := .bf16) (DotDims.plain 1024 512 512) none y₂
        (shapeCast S512x512 (View.ld (Val := Elt Ideal) (e' := .bf16) u r0_5) shapeCasts_S1x1x512x512_S512x512) (constant _ .f32 0x00000000#32) (ix2 r q)
      + k0_pay3 (F := Ideal) x w₃ (ix2 r q) * FloatOps.matmul (F := Ideal) (φ₁ := .bf16) (φ₂ := .bf16) (DotDims.plain 1024 512 512) none y₃
        (shapeCast S512x512 (View.ld (Val := Elt Ideal) (e' := .bf16) u r0_6) shapeCasts_S1x1x512x512_S512x512) (constant _ .f32 0x00000000#32) (ix2 r q)
    = _
  have h₀ (k : Fin 512) : View.ld (Val := Elt Ideal) (e' := .bf16) u r0_3 (ix4 0 0 k q) = u (ix4 0 0 k q) := by
    refine congrArg u (funext fun a => Fin.ext ?_)
    match a with
    | ⟨0, _⟩ => rfl
    | ⟨1, _⟩ => rfl
    | ⟨2, _⟩ => show 0 + 1 * k.val = k.val; omega
    | ⟨3, _⟩ => show 0 + 1 * q.val = q.val; omega
  have h₁ (k : Fin 512) : View.ld (Val := Elt Ideal) (e' := .bf16) u r0_4 (ix4 0 0 k q) = u (ix4 0 1 k q) := by
    refine congrArg u (funext fun a => Fin.ext ?_)
    match a with
    | ⟨0, _⟩ => rfl
    | ⟨1, _⟩ => rfl
    | ⟨2, _⟩ => show 0 + 1 * k.val = k.val; omega
    | ⟨3, _⟩ => show 0 + 1 * q.val = q.val; omega
  have h₂ (k : Fin 512) : View.ld (Val := Elt Ideal) (e' := .bf16) u r0_5 (ix4 0 0 k q) = u (ix4 0 2 k q) := by
    refine congrArg u (funext fun a => Fin.ext ?_)
    match a with
    | ⟨0, _⟩ => rfl
    | ⟨1, _⟩ => rfl
    | ⟨2, _⟩ => show 0 + 1 * k.val = k.val; omega
    | ⟨3, _⟩ => show 0 + 1 * q.val = q.val; omega
  have h₃ (k : Fin 512) : View.ld (Val := Elt Ideal) (e' := .bf16) u r0_6 (ix4 0 0 k q) = u (ix4 0 3 k q) := by
    refine congrArg u (funext fun a => Fin.ext ?_)
    match a with
    | ⟨0, _⟩ => rfl
    | ⟨1, _⟩ => rfl
    | ⟨2, _⟩ => show 0 + 1 * k.val = k.val; omega
    | ⟨3, _⟩ => show 0 + 1 * q.val = q.val; omega
  simp only [up_apply, gate_apply, h₀, h₁, h₂, h₃]
  rfl

/-- The up weights the windows read are the argument's, cast. -/
theorem V_up (c : Dev nD) : V m c main_v0 = m ((c : Thread nD τ).loc main_arg5) := by
  unfold V
  rfl

/-- The block indices of the windows at a point. -/
theorem idx : ∀ t : Fin cfg0.N, (win0_0.index t 0 = t.val / 4 ∧ win0_0.index t 1 = 0)
    ∧ (win0_1.index t 0 = t.val / 4 ∧ win0_1.index t 1 = 0) ∧ (win0_2.index t 0 = t.val / 4 ∧ win0_2.index t 1 = 0)
    ∧ (win0_3.index t 0 = t.val / 4 ∧ win0_3.index t 1 = 0) ∧ (win0_4.index t 0 = t.val / 4 ∧ win0_4.index t 1 = 0)
    ∧ (win0_5.index t 0 = 0 ∧ win0_5.index t 1 = 0 ∧ win0_5.index t 2 = 0 ∧ win0_5.index t 3 = t.val % 4)
    ∧ (win0_10.index t 0 = t.val / 4 ∧ win0_10.index t 1 = t.val % 4) :=
  (by decide +kernel : ∀ t : Fin grid0.N, _)

/-- The column blocks of the four gates at a point. -/
theorem idxg : ∀ t : Fin cfg0.N, (win0_6.index t 0 = 0 ∧ win0_6.index t 1 = 0 ∧ win0_6.index t 2 = 12 + t.val % 4)
    ∧ (win0_7.index t 0 = 0 ∧ win0_7.index t 1 = 0 ∧ win0_7.index t 2 = 16 + t.val % 4)
    ∧ (win0_8.index t 0 = 0 ∧ win0_8.index t 1 = 0 ∧ win0_8.index t 2 = 20 + t.val % 4)
    ∧ (win0_9.index t 0 = 0 ∧ win0_9.index t 1 = 0 ∧ win0_9.index t 2 = 24 + t.val % 4) :=
  (by decide +kernel : ∀ t : Fin grid0.N, _)

/-- Two branches with the same entries are equal. -/
theorem piece_eq (h : FVec Ideal S18432x2048 .bf16) (w : FVec Ideal S4x2048x14336 .bf16) (u : FVec Ideal S4x4x512x2048 .f32)
    (e : Fin 4) (y : FVec Ideal S18432x512 .bf16) (r : Fin 18432) (j : Fin 2048)
    (x : FVec Ideal S1024x2048 .bf16) (w' : FVec Ideal S1x2048x512 .bf16) (y' : FVec Ideal S1024x512 .bf16)
    (u' : Fin 512 → Fin 512 → EReal) (r' : Fin 1024) (q : Fin 512)
    (hx : ∀ k, x (ix2 r' k) = h (ix2 r k)) (hw : ∀ k, w' (ix3 0 k q) = w (ix3 0 k ⟨6144 + 2048 * e.val + j.val, by omega⟩))
    (hy : ∀ k, y' (ix2 r' k) = y (ix2 r k)) (hu : ∀ k, u' k q = u (ix4 0 e k j)) :
    piece x w' y' u' r' q = branch h w u e y r j := by
  unfold piece branch
  simp only [hx, hw, hy, hu]

/-- The up-weight block at a point: slab `e`, the point's columns. -/
theorem up_entry (c : Dev nD) (t : Fin cfg0.N) (e : Fin 4) (k q : Fin 512) (h : win0_10.index t 1 * 512 + 1 * q.val < 2048) :
    iblk m c 5 t (ix4 0 e k q) = m ((c : Thread nD τ).loc main_arg5) (ix4 0 e k ⟨win0_10.index t 1 * 512 + 1 * q.val, h⟩) := by
  obtain ⟨-, -, -, -, -, ⟨u0, u1, u2, u3⟩, ⟨o0, o1⟩⟩ := idx t
  refine Eq.trans ?_ (congrFun (V_up m c) _)
  refine congrArg (V m c main_v0) (funext fun a => Fin.ext ?_)
  match a with
  | ⟨0, _⟩ => show win0_5.index t 0 * 1 + 1 * 0 = 0; rw [u0]
  | ⟨1, _⟩ => show win0_5.index t 1 * 4 + 1 * e.val = e.val; rw [u1]; omega
  | ⟨2, _⟩ => show win0_5.index t 2 * 512 + 1 * k.val = k.val; rw [u2]; omega
  | ⟨3, _⟩ => show win0_5.index t 3 * 512 + 1 * q.val = win0_10.index t 1 * 512 + 1 * q.val; rw [u3, o1]

/-- The row of the result that row `r` of a point's block is. -/
def row (t : Fin cfg0.N) (r : Fin 1024) : Fin 18432 :=
  ⟨win0_10.index t 0 * 1024 + 1 * r.val, by
    have hN : cfg0.N = 72 := N_0
    have := t.isLt
    obtain ⟨-, -, -, -, -, -, o0, -⟩ := idx t
    rw [o0]; omega⟩

/-- The column of the result that column `q` of a point's block is. -/
def col (t : Fin cfg0.N) (q : Fin 512) : Fin 2048 :=
  ⟨win0_10.index t 1 * 512 + 1 * q.val, by
    obtain ⟨-, -, -, -, -, -, -, o1⟩ := idx t
    rw [o1]; omega⟩

/-- The block of hidden rows at a point. -/
theorem rows_entry (c : Dev nD) (t : Fin cfg0.N) (r : Fin 1024) (k : Fin 2048) :
    (iblk m c 0 t : FVec Ideal S1024x2048 .bf16) (ix2 r k) = (m ((c : Thread nD τ).loc main_arg0) : FVec Ideal S18432x2048 .bf16) (ix2 (row t r) k) := by
  obtain ⟨⟨a0, a1⟩, -, -, -, -, -, ⟨o0, -⟩⟩ := idx t
  refine congrArg (m ((c : Thread nD τ).loc main_arg0)) (funext fun a => Fin.ext ?_)
  match a with
  | ⟨0, _⟩ => show win0_0.index t 0 * 1024 + 1 * r.val = win0_10.index t 0 * 1024 + 1 * r.val; rw [a0, o0]
  | ⟨1, _⟩ => show win0_0.index t 1 * 2048 + 1 * k.val = k.val; rw [a1]; omega

/-- Branch 0 of the block at a point is branch 0 of the result there. -/
theorem branch0 (c : Dev nD) (t : Fin cfg0.N) (r : Fin 1024) (q : Fin 512) :
    piece (iblk m c 0 t) (iblk m c 6 t) (iblk m c 1 t) (fun k q => (iblk m c 5 t : FVec Ideal S1x4x512x512 .bf16) (ix4 0 0 k q)) r q
      = branch (m ((c : Thread nD τ).loc main_arg0)) (m ((c : Thread nD τ).loc main_arg6)) (m ((c : Thread nD τ).loc main_arg5)) 0
          (m ((c : Thread nD τ).loc main_arg1)) (row t r) (col t q) := by
  obtain ⟨-, ⟨b0, b1⟩, -, -, -, -, ⟨o0, o1⟩⟩ := idx t
  obtain ⟨⟨f0, f1, f2⟩, -, -, -⟩ := idxg t
  refine piece_eq _ _ _ 0 _ (row t r) (col t q) _ _ _ _ r q (rows_entry m c t r) (fun k => ?_) (fun k => ?_) (fun k => up_entry m c t 0 k q _)
  · refine congrArg (m ((c : Thread nD τ).loc main_arg6)) (funext fun a => Fin.ext ?_)
    match a with
    | ⟨0, _⟩ => show win0_6.index t 0 * 1 + 1 * 0 = 0; rw [f0]
    | ⟨1, _⟩ => show win0_6.index t 1 * 2048 + 1 * k.val = k.val; rw [f1]; omega
    | ⟨2, _⟩ => show win0_6.index t 2 * 512 + 1 * q.val = 6144 + 2048 * 0 + (win0_10.index t 1 * 512 + 1 * q.val); rw [f2, o1]; omega
  · refine congrArg (m ((c : Thread nD τ).loc main_arg1)) (funext fun a => Fin.ext ?_)
    match a with
    | ⟨0, _⟩ => show win0_1.index t 0 * 1024 + 1 * r.val = win0_10.index t 0 * 1024 + 1 * r.val; rw [b0, o0]
    | ⟨1, _⟩ => show win0_1.index t 1 * 512 + 1 * k.val = k.val; rw [b1]; omega

/-- Branch 1 of the block at a point is branch 1 of the result there. -/
theorem branch1 (c : Dev nD) (t : Fin cfg0.N) (r : Fin 1024) (q : Fin 512) :
    piece (iblk m c 0 t) (iblk m c 7 t) (iblk m c 2 t) (fun k q => (iblk m c 5 t : FVec Ideal S1x4x512x512 .bf16) (ix4 0 1 k q)) r q
      = branch (m ((c : Thread nD τ).loc main_arg0)) (m ((c : Thread nD τ).loc main_arg6)) (m ((c : Thread nD τ).loc main_arg5)) 1
          (m ((c : Thread nD τ).loc main_arg2)) (row t r) (col t q) := by
  obtain ⟨-, -, ⟨b0, b1⟩, -, -, -, ⟨o0, o1⟩⟩ := idx t
  obtain ⟨-, ⟨f0, f1, f2⟩, -, -⟩ := idxg t
  refine piece_eq _ _ _ 1 _ (row t r) (col t q) _ _ _ _ r q (rows_entry m c t r) (fun k => ?_) (fun k => ?_) (fun k => up_entry m c t 1 k q _)
  · refine congrArg (m ((c : Thread nD τ).loc main_arg6)) (funext fun a => Fin.ext ?_)
    match a with
    | ⟨0, _⟩ => show win0_7.index t 0 * 1 + 1 * 0 = 0; rw [f0]
    | ⟨1, _⟩ => show win0_7.index t 1 * 2048 + 1 * k.val = k.val; rw [f1]; omega
    | ⟨2, _⟩ => show win0_7.index t 2 * 512 + 1 * q.val = 6144 + 2048 * 1 + (win0_10.index t 1 * 512 + 1 * q.val); rw [f2, o1]; omega
  · refine congrArg (m ((c : Thread nD τ).loc main_arg2)) (funext fun a => Fin.ext ?_)
    match a with
    | ⟨0, _⟩ => show win0_2.index t 0 * 1024 + 1 * r.val = win0_10.index t 0 * 1024 + 1 * r.val; rw [b0, o0]
    | ⟨1, _⟩ => show win0_2.index t 1 * 512 + 1 * k.val = k.val; rw [b1]; omega

/-- Branch 2 of the block at a point is branch 2 of the result there. -/
theorem branch2 (c : Dev nD) (t : Fin cfg0.N) (r : Fin 1024) (q : Fin 512) :
    piece (iblk m c 0 t) (iblk m c 8 t) (iblk m c 3 t) (fun k q => (iblk m c 5 t : FVec Ideal S1x4x512x512 .bf16) (ix4 0 2 k q)) r q
      = branch (m ((c : Thread nD τ).loc main_arg0)) (m ((c : Thread nD τ).loc main_arg6)) (m ((c : Thread nD τ).loc main_arg5)) 2
          (m ((c : Thread nD τ).loc main_arg3)) (row t r) (col t q) := by
  obtain ⟨-, -, -, ⟨b0, b1⟩, -, -, ⟨o0, o1⟩⟩ := idx t
  obtain ⟨-, -, ⟨f0, f1, f2⟩, -⟩ := idxg t
  refine piece_eq _ _ _ 2 _ (row t r) (col t q) _ _ _ _ r q (rows_entry m c t r) (fun k => ?_) (fun k => ?_) (fun k => up_entry m c t 2 k q _)
  · refine congrArg (m ((c : Thread nD τ).loc main_arg6)) (funext fun a => Fin.ext ?_)
    match a with
    | ⟨0, _⟩ => show win0_8.index t 0 * 1 + 1 * 0 = 0; rw [f0]
    | ⟨1, _⟩ => show win0_8.index t 1 * 2048 + 1 * k.val = k.val; rw [f1]; omega
    | ⟨2, _⟩ => show win0_8.index t 2 * 512 + 1 * q.val = 6144 + 2048 * 2 + (win0_10.index t 1 * 512 + 1 * q.val); rw [f2, o1]; omega
  · refine congrArg (m ((c : Thread nD τ).loc main_arg3)) (funext fun a => Fin.ext ?_)
    match a with
    | ⟨0, _⟩ => show win0_3.index t 0 * 1024 + 1 * r.val = win0_10.index t 0 * 1024 + 1 * r.val; rw [b0, o0]
    | ⟨1, _⟩ => show win0_3.index t 1 * 512 + 1 * k.val = k.val; rw [b1]; omega

/-- Branch 3 of the block at a point is branch 3 of the result there. -/
theorem branch3 (c : Dev nD) (t : Fin cfg0.N) (r : Fin 1024) (q : Fin 512) :
    piece (iblk m c 0 t) (iblk m c 9 t) (iblk m c 4 t) (fun k q => (iblk m c 5 t : FVec Ideal S1x4x512x512 .bf16) (ix4 0 3 k q)) r q
      = branch (m ((c : Thread nD τ).loc main_arg0)) (m ((c : Thread nD τ).loc main_arg6)) (m ((c : Thread nD τ).loc main_arg5)) 3
          (m ((c : Thread nD τ).loc main_arg4)) (row t r) (col t q) := by
  obtain ⟨-, -, -, -, ⟨b0, b1⟩, -, ⟨o0, o1⟩⟩ := idx t
  obtain ⟨-, -, -, ⟨f0, f1, f2⟩⟩ := idxg t
  refine piece_eq _ _ _ 3 _ (row t r) (col t q) _ _ _ _ r q (rows_entry m c t r) (fun k => ?_) (fun k => ?_) (fun k => up_entry m c t 3 k q _)
  · refine congrArg (m ((c : Thread nD τ).loc main_arg6)) (funext fun a => Fin.ext ?_)
    match a with
    | ⟨0, _⟩ => show win0_9.index t 0 * 1 + 1 * 0 = 0; rw [f0]
    | ⟨1, _⟩ => show win0_9.index t 1 * 2048 + 1 * k.val = k.val; rw [f1]; omega
    | ⟨2, _⟩ => show win0_9.index t 2 * 512 + 1 * q.val = 6144 + 2048 * 3 + (win0_10.index t 1 * 512 + 1 * q.val); rw [f2, o1]; omega
  · refine congrArg (m ((c : Thread nD τ).loc main_arg4)) (funext fun a => Fin.ext ?_)
    match a with
    | ⟨0, _⟩ => show win0_4.index t 0 * 1024 + 1 * r.val = win0_10.index t 0 * 1024 + 1 * r.val; rw [b0, o0]
    | ⟨1, _⟩ => show win0_4.index t 1 * 512 + 1 * k.val = k.val; rw [b1]; omega

theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  funext y
  obtain ⟨r, q, rfl⟩ : ∃ (r : Fin 1024) (q : Fin 512), y = ix2 r q := ⟨y 0, y 1, by funext a; fin_cases a <;> rfl⟩
  refine (out_apply (iblk m c 0 t) (iblk m c 1 t) (iblk m c 2 t) (iblk m c 3 t) (iblk m c 4 t) (iblk m c 5 t) (iblk m c 6 t)
    (iblk m c 7 t) (iblk m c 8 t) (iblk m c 9 t) r q).trans ?_
  rw [branch0, branch1, branch2, branch3]
  rfl

theorem mem_blk (t : Fin cfg0.N) (i : S18432x2048.Idx) :
    i ∈ ((cfg0.win 10).blk t).view.set
      ↔ ∀ a : Fin 2, win0_10.index t a * S1024x512.size a ≤ (i a).val ∧ (i a).val < win0_10.index t a * S1024x512.size a + S1024x512.size a := by
  show i ∈ ((View.whole main_v1).slice (win0_10.rect t)).set ↔ _
  rw [View.set_slice_whole, Rect.mem_set_unit]
  exact Iff.rfl

theorem cover (i : S18432x2048.Idx) : ∃ t : Fin cfg0.N, (cfg0.win 10).flush t = true ∧ i ∈ ((cfg0.win 10).blk t).view.set := by
  have h0 : (i 0).val < 18432 := (i 0).isLt
  have h1 : (i 1).val < 2048 := (i 1).isLt
  have hN : cfg0.N = 72 := N_0
  refine ⟨⟨(i 0).val / 1024 * 4 + (i 1).val / 512, by omega⟩, flush0_10 _, ?_⟩
  rw [mem_blk]
  obtain ⟨-, -, -, -, -, -, o0, o1⟩ := idx ⟨(i 0).val / 1024 * 4 + (i 1).val / 512, by omega⟩
  intro a
  match a with
  | ⟨0, _⟩ =>
    show win0_10.index _ 0 * 1024 ≤ (i 0).val ∧ (i 0).val < win0_10.index _ 0 * 1024 + 1024
    rw [o0]; dsimp only; omega
  | ⟨1, _⟩ =>
    show win0_10.index _ 1 * 512 ≤ (i 1).val ∧ (i 1).val < win0_10.index _ 1 * 512 + 512
    rw [o1]; dsimp only; omega

theorem final (c : Dev nD) : (dats m 0 c).arrAt 10 cfg0.N = G m c :=
  (dats m 0 c).arrAt_eq_of_cover 10 (G m c) (fun t _ => flushed_eq m c t) cover

/-- The run read: the merge everywhere, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.MergeIdeal.RefValue

end
-- ==== Proof.MergeClaim.lean ====
/-
  The gated merge: the reference read at an index is the sum of the same four branches.
-/
module

public import proofs.«01_k».proof.Defs
public import proofs.«01_k».proof.Proof.MergeValue
public import proofs.«01_k».proof.Proof.Gen.MergeRefIdeal.Run
public import proofs.«01_k».proof.Proof.Gen.MergeRefIdeal.Read
public import Idealize.ShloMosaic.Lib.IdealHost

@[expose] public section

set_option maxRecDepth 16384

noncomputable section

namespace Cert.MergeIdeal.RefValue

open Cert.Common Idealize.ShloMosaic Idealize.ShloMosaic.TcCoe Idealize.SL.Sem Idealize.ShloMosaic.ValueIdx
open Cert.MergeRefIdeal.Read

/-- The reference's gate logits at an index. -/
theorem ref_gate (h : FVec Ideal Cert.MergeRefIdeal.S18432x2048 .bf16) (w : FVec Ideal Cert.MergeRefIdeal.S4x2048x14336 .bf16)
    (i : Cert.MergeRefIdeal.S18432x8192.Idx) :
    val_main_v4 (F := Ideal) h w i
      = ∑ k : Fin 2048, h (ix2 (i 0) k) * w (ix3 0 k ⟨6144 + (i 1).val, by have h1 : (i 1).val < 8192 := (i 1).isLt; omega⟩) := by
  have h1 : (i 1).val < 8192 := (i 1).isLt
  refine (val_main_v4_apply h w i).trans (Finset.sum_congr rfl fun k _ => ?_)
  have hk : k.val < 2048 := k.isLt
  rw [val_main_v3_apply, val_main_v2_apply, val_main_v1_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => refine Fin.ext ?_; show (k.val * 8192 + (i 1).val) / 8192 % 2048 = k.val; omega
    | ⟨2, _⟩ => refine Fin.ext ?_; show 6144 + (k.val * 8192 + (i 1).val) % 8192 = 6144 + (i 1).val; omega

/-- Branch 0 of the reference at an index. -/
theorem ref_branch0 (h : FVec Ideal Cert.MergeRefIdeal.S18432x2048 .bf16) (y : FVec Ideal Cert.MergeRefIdeal.S18432x512 .bf16)
    (u : FVec Ideal Cert.MergeRefIdeal.S4x4x512x2048 .f32) (w : FVec Ideal Cert.MergeRefIdeal.S4x2048x14336 .bf16)
    (i : Cert.MergeRefIdeal.S18432x2048.Idx) :
    val_main_v17 (F := Ideal) h y u w i = branch h w u 0 y (i 0) (i 1) := by
  have h1 : (i 1).val < 2048 := (i 1).isLt
  refine (congrArg₂ (fun a b : EReal => a * b) ?_ ?_ : val_main_v12 (F := Ideal) h w i * val_main_v16 (F := Ideal) y u i = _)
  · show Ideal.div (Ideal.ofBits .f32 0x3F800000#32) (Ideal.ofBits .f32 0x3F800000#32 + Ideal.exp (-val_main_v6 (F := Ideal) h w i)) = _
    rw [Idealize.ShloMosaic.Ideal.ofBits_one_f32, val_main_v6_apply, ref_gate]
    refine congrArg Ideal.logistic (Finset.sum_congr rfl fun k _ => congrArg (h (ix2 (i 0) k) * ·) (congrArg w (funext fun a => ?_)))
    match a with
    | ⟨0, _⟩ => rfl
    | ⟨1, _⟩ => rfl
    | ⟨2, _⟩ => refine Fin.ext ?_; show 6144 + (i 1).val = 6144 + 2048 * 0 + (i 1).val; omega
  · refine (val_main_v16_apply y u i).trans (Finset.sum_congr rfl fun k _ => ?_)
    have hk : k.val < 512 := k.isLt
    rw [val_main_v15_apply, val_main_v14_apply]
    refine congrArg₂ (fun a b : EReal => a * b) (congrArg y (funext fun a => ?_)) (congrArg u (funext fun a => ?_))
    · match a with
      | ⟨0, _⟩ => rfl
      | ⟨1, _⟩ => rfl
    · match a with
      | ⟨0, _⟩ => rfl
      | ⟨1, _⟩ => rfl
      | ⟨2, _⟩ => refine Fin.ext ?_; show (k.val * 2048 + (i 1).val) / 2048 % 512 = k.val; omega
      | ⟨3, _⟩ => refine Fin.ext ?_; show (k.val * 2048 + (i 1).val) % 2048 = (i 1).val; omega

/-- Branch 1 of the reference at an index. -/
theorem ref_branch1 (h : FVec Ideal Cert.MergeRefIdeal.S18432x2048 .bf16) (y : FVec Ideal Cert.MergeRefIdeal.S18432x512 .bf16)
    (u : FVec Ideal Cert.MergeRefIdeal.S4x4x512x2048 .f32) (w : FVec Ideal Cert.MergeRefIdeal.S4x2048x14336 .bf16)
    (i : Cert.MergeRefIdeal.S18432x2048.Idx) :
    val_main_v30 (F := Ideal) h y u w i = branch h w u 1 y (i 0) (i 1) := by
  have h1 : (i 1).val < 2048 := (i 1).isLt
  refine (congrArg₂ (fun a b : EReal => a * b) ?_ ?_ : val_main_v25 (F := Ideal) h w i * val_main_v29 (F := Ideal) y u i = _)
  · show Ideal.div (Ideal.ofBits .f32 0x3F800000#32) (Ideal.ofBits .f32 0x3F800000#32 + Ideal.exp (-val_main_v19 (F := Ideal) h w i)) = _
    rw [Idealize.ShloMosaic.Ideal.ofBits_one_f32, val_main_v19_apply, ref_gate]
    refine congrArg Ideal.logistic (Finset.sum_congr rfl fun k _ => congrArg (h (ix2 (i 0) k) * ·) (congrArg w (funext fun a => ?_)))
    match a with
    | ⟨0, _⟩ => rfl
    | ⟨1, _⟩ => rfl
    | ⟨2, _⟩ => refine Fin.ext ?_; show 6144 + (2048 + (i 1).val) = 6144 + 2048 * 1 + (i 1).val; omega
  · refine (val_main_v29_apply y u i).trans (Finset.sum_congr rfl fun k _ => ?_)
    have hk : k.val < 512 := k.isLt
    rw [val_main_v28_apply, val_main_v27_apply]
    refine congrArg₂ (fun a b : EReal => a * b) (congrArg y (funext fun a => ?_)) (congrArg u (funext fun a => ?_))
    · match a with
      | ⟨0, _⟩ => rfl
      | ⟨1, _⟩ => rfl
    · match a with
      | ⟨0, _⟩ => rfl
      | ⟨1, _⟩ => rfl
      | ⟨2, _⟩ => refine Fin.ext ?_; show (k.val * 2048 + (i 1).val) / 2048 % 512 = k.val; omega
      | ⟨3, _⟩ => refine Fin.ext ?_; show (k.val * 2048 + (i 1).val) % 2048 = (i 1).val; omega

/-- Branch 2 of the reference at an index. -/
theorem ref_branch2 (h : FVec Ideal Cert.MergeRefIdeal.S18432x2048 .bf16) (y : FVec Ideal Cert.MergeRefIdeal.S18432x512 .bf16)
    (u : FVec Ideal Cert.MergeRefIdeal.S4x4x512x2048 .f32) (w : FVec Ideal Cert.MergeRefIdeal.S4x2048x14336 .bf16)
    (i : Cert.MergeRefIdeal.S18432x2048.Idx) :
    val_main_v43 (F := Ideal) h y u w i = branch h w u 2 y (i 0) (i 1) := by
  have h1 : (i 1).val < 2048 := (i 1).isLt
  refine (congrArg₂ (fun a b : EReal => a * b) ?_ ?_ : val_main_v38 (F := Ideal) h w i * val_main_v42 (F := Ideal) y u i = _)
  · show Ideal.div (Ideal.ofBits .f32 0x3F800000#32) (Ideal.ofBits .f32 0x3F800000#32 + Ideal.exp (-val_main_v32 (F := Ideal) h w i)) = _
    rw [Idealize.ShloMosaic.Ideal.ofBits_one_f32, val_main_v32_apply, ref_gate]
    refine congrArg Ideal.logistic (Finset.sum_congr rfl fun k _ => congrArg (h (ix2 (i 0) k) * ·) (congrArg w (funext fun a => ?_)))
    match a with
    | ⟨0, _⟩ => rfl
    | ⟨1, _⟩ => rfl
    | ⟨2, _⟩ => refine Fin.ext ?_; show 6144 + (4096 + (i 1).val) = 6144 + 2048 * 2 + (i 1).val; omega
  · refine (val_main_v42_apply y u i).trans (Finset.sum_congr rfl fun k _ => ?_)
    have hk : k.val < 512 := k.isLt
    rw [val_main_v41_apply, val_main_v40_apply]
    refine congrArg₂ (fun a b : EReal => a * b) (congrArg y (funext fun a => ?_)) (congrArg u (funext fun a => ?_))
    · match a with
      | ⟨0, _⟩ => rfl
      | ⟨1, _⟩ => rfl
    · match a with
      | ⟨0, _⟩ => rfl
      | ⟨1, _⟩ => rfl
      | ⟨2, _⟩ => refine Fin.ext ?_; show (k.val * 2048 + (i 1).val) / 2048 % 512 = k.val; omega
      | ⟨3, _⟩ => refine Fin.ext ?_; show (k.val * 2048 + (i 1).val) % 2048 = (i 1).val; omega

/-- Branch 3 of the reference at an index. -/
theorem ref_branch3 (h : FVec Ideal Cert.MergeRefIdeal.S18432x2048 .bf16) (y : FVec Ideal Cert.MergeRefIdeal.S18432x512 .bf16)
    (u : FVec Ideal Cert.MergeRefIdeal.S4x4x512x2048 .f32) (w : FVec Ideal Cert.MergeRefIdeal.S4x2048x14336 .bf16)
    (i : Cert.MergeRefIdeal.S18432x2048.Idx) :
    val_main_v56 (F := Ideal) h y u w i = branch h w u 3 y (i 0) (i 1) := by
  have h1 : (i 1).val < 2048 := (i 1).isLt
  refine (congrArg₂ (fun a b : EReal => a * b) ?_ ?_ : val_main_v51 (F := Ideal) h w i * val_main_v55 (F := Ideal) y u i = _)
  · show Ideal.div (Ideal.ofBits .f32 0x3F800000#32) (Ideal.ofBits .f32 0x3F800000#32 + Ideal.exp (-val_main_v45 (F := Ideal) h w i)) = _
    rw [Idealize.ShloMosaic.Ideal.ofBits_one_f32, val_main_v45_apply, ref_gate]
    refine congrArg Ideal.logistic (Finset.sum_congr rfl fun k _ => congrArg (h (ix2 (i 0) k) * ·) (congrArg w (funext fun a => ?_)))
    match a with
    | ⟨0, _⟩ => rfl
    | ⟨1, _⟩ => rfl
    | ⟨2, _⟩ => refine Fin.ext ?_; show 6144 + (6144 + (i 1).val) = 6144 + 2048 * 3 + (i 1).val; omega
  · refine (val_main_v55_apply y u i).trans (Finset.sum_congr rfl fun k _ => ?_)
    have hk : k.val < 512 := k.isLt
    rw [val_main_v54_apply, val_main_v53_apply]
    refine congrArg₂ (fun a b : EReal => a * b) (congrArg y (funext fun a => ?_)) (congrArg u (funext fun a => ?_))
    · match a with
      | ⟨0, _⟩ => rfl
      | ⟨1, _⟩ => rfl
    · match a with
      | ⟨0, _⟩ => rfl
      | ⟨1, _⟩ => rfl
      | ⟨2, _⟩ => refine Fin.ext ?_; show (k.val * 2048 + (i 1).val) / 2048 % 512 = k.val; omega
      | ⟨3, _⟩ => refine Fin.ext ?_; show (k.val * 2048 + (i 1).val) % 2048 = (i 1).val; omega

/-- The reference at an index. -/
theorem ref_apply (h : FVec Ideal Cert.MergeRefIdeal.S18432x2048 .bf16) (y₀ y₁ y₂ y₃ : FVec Ideal Cert.MergeRefIdeal.S18432x512 .bf16)
    (u : FVec Ideal Cert.MergeRefIdeal.S4x4x512x2048 .f32) (w : FVec Ideal Cert.MergeRefIdeal.S4x2048x14336 .bf16)
    (i : Cert.MergeRefIdeal.S18432x2048.Idx) :
    val_main_v58 (F := Ideal) h y₀ y₁ y₂ y₃ u w i = merged h w u y₀ y₁ y₂ y₃ (i 0) (i 1) := by
  show Ideal.ofBits .f32 0x00000000#32 + val_main_v17 (F := Ideal) h y₀ u w i + val_main_v30 (F := Ideal) h y₁ u w i
    + val_main_v43 (F := Ideal) h y₂ u w i + val_main_v56 (F := Ideal) h y₃ u w i = _
  rw [ref_branch0, ref_branch1, ref_branch2, ref_branch3]
  have hz : Ideal.ofBits .f32 0x00000000#32 = 0 := by simp
  rw [hz, zero_add]
  rfl

/-- Kernel and reference end with the same result. -/
theorem algebraic : Cert.algebraic_MergeIdeal_MergeRefIdeal := by
  intro m g m' g' _ hagree
  refine ⟨fun c => G m c, run m g, ?_⟩
  refine (θ_run Cert.MergeRefIdeal.defs _ _).mono (fun _ h c => ⟨(h c).1.trans ?_, (h c).2⟩) (Cert.MergeRefIdeal.Value.run (F := Ideal) m' g')
  obtain ⟨h0, h1, h2, h3, h4, h5, h6⟩ := hagree c
  refine (val_main_v58_eq (F := Ideal) m' c).trans ?_
  rw [h0, h1, h2, h3, h4, h5, h6]
  exact funext fun i => ref_apply _ _ _ _ _ _ _ i

/-- The reference's frame. -/
theorem ref_frame : Cert.quiescent_MergeRefIdeal := fun m ρ _ =>
  (θ_run Cert.MergeRefIdeal.defs _ _).mono (fun r h => ⟨fun c => (h c).2,
    Idealize.ShloMosaic.sem_eq_zero_of_no_sems (by decide) r.2⟩) (Cert.MergeRefIdeal.Value.run (F := Ideal) m ρ)

end Cert.MergeIdeal.RefValue

end
-- ==== Proof.MmValue.lean ====
/-
  The input projection (the columns below the gates): the grid's (1024, 1024) blocks of the product tile the result, each
  block the product of a block of rows of `h` and a block of columns of the packed weights of layer 0, so the result
  array ends at `∑ k, h[i, k] · w[0, k, j]`.
-/
module

public import proofs.«01_k».proof.Proof.Common
public import proofs.«01_k».proof.Proof.Gen.MmIdeal.Value

@[expose] public section

set_option maxRecDepth 16384

noncomputable section

namespace Cert.MmIdeal.RefValue

open Cert.MmIdeal Cert.MmIdeal.Gen Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Row `r` of `h` times column `j` of layer 0's packed weights. -/
def prod (h : FVec Ideal S18432x2048 .bf16) (w : FVec Ideal S4x2048x14336 .bf16) (r : Fin 18432) (j : Fin 6144) : EReal :=
  ∑ k : Fin 2048, h (ix2 r k) * w (ix3 0 k ⟨j.val, by omega⟩)

/-- The result array: that product at every index. -/
def G (c : Dev nD) : Buf (Elt Ideal) ((c : Thread nD τ).loc main_v0) := fun i =>
  prod (m ((c : Thread nD τ).loc main_arg0)) (m ((c : Thread nD τ).loc main_arg1)) (i 0) (i 1)

/-- The block indices of the three windows at a point. -/
theorem idx : ∀ t : Fin cfg0.N, (win0_0.index t 0 = t.val / 6 ∧ win0_0.index t 1 = 0)
    ∧ (win0_1.index t 0 = 0 ∧ win0_1.index t 1 = 0 ∧ win0_1.index t 2 = t.val % 6)
    ∧ (win0_2.index t 0 = t.val / 6 ∧ win0_2.index t 1 = t.val % 6) :=
  (by decide +kernel : ∀ t : Fin grid0.N, _)

theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero off2, View.ld_unit_zero off2, View.ld_unit_zero off3]
  obtain ⟨⟨a0, a1⟩, ⟨b0, b1, b2⟩, ⟨o0, o1⟩⟩ := idx t
  funext y
  obtain ⟨r, q, rfl⟩ : ∃ (r : Fin 1024) (q : Fin 1024), y = ix2 r q := ⟨y 0, y 1, by funext a; fin_cases a <;> rfl⟩
  show FloatOps.matmul (F := Ideal) (φ₁ := .bf16) (φ₂ := .bf16) (DotDims.plain 1024 2048 1024) none (iblk m c 0 t)
    (shapeCast S2048x1024 (iblk m c 1 t) shapeCasts_S1x2048x1024_S2048x1024) (constant _ .f32 0x00000000#32) (ix2 r q) = _
  rw [mm_apply]
  show _ = prod _ _ _ _
  unfold prod
  refine Finset.sum_congr rfl fun k _ => ?_
  have hk : k.val < 2048 := k.isLt
  rw [drop1_apply]
  congr 1
  · refine congrArg (m ((c : Thread nD τ).loc main_arg0)) (funext fun a => Fin.ext ?_)
    match a with
    | ⟨0, _⟩ => show win0_0.index t 0 * 1024 + 1 * r.val = win0_2.index t 0 * 1024 + 1 * r.val; rw [a0, o0]
    | ⟨1, _⟩ => show win0_0.index t 1 * 2048 + 1 * k.val = k.val; rw [a1]; omega
  · refine congrArg (m ((c : Thread nD τ).loc main_arg1)) (funext fun a => Fin.ext ?_)
    match a with
    | ⟨0, _⟩ => show win0_1.index t 0 * 1 + 1 * 0 = 0; rw [b0]
    | ⟨1, _⟩ => show win0_1.index t 1 * 2048 + 1 * k.val = k.val; rw [b1]; omega
    | ⟨2, _⟩ => show win0_1.index t 2 * 1024 + 1 * q.val = win0_2.index t 1 * 1024 + 1 * q.val; rw [b2, o1]

theorem mem_blk (t : Fin cfg0.N) (i : S18432x6144.Idx) :
    i ∈ ((cfg0.win 2).blk t).view.set
      ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

theorem cover (i : S18432x6144.Idx) : ∃ t : Fin cfg0.N, (cfg0.win 2).flush t = true ∧ i ∈ ((cfg0.win 2).blk t).view.set := by
  have h0 : (i 0).val < 18432 := (i 0).isLt
  have h1 : (i 1).val < 6144 := (i 1).isLt
  have hN : cfg0.N = 108 := N_0
  refine ⟨⟨(i 0).val / 1024 * 6 + (i 1).val / 1024, by omega⟩, flush0_2 _, ?_⟩
  rw [mem_blk]
  obtain ⟨-, -, o0, o1⟩ := idx ⟨(i 0).val / 1024 * 6 + (i 1).val / 1024, by omega⟩
  intro a
  match a with
  | ⟨0, _⟩ =>
    show win0_2.index _ 0 * 1024 ≤ (i 0).val ∧ (i 0).val < win0_2.index _ 0 * 1024 + 1024
    rw [o0]; dsimp only; omega
  | ⟨1, _⟩ =>
    show win0_2.index _ 1 * 1024 ≤ (i 1).val ∧ (i 1).val < win0_2.index _ 1 * 1024 + 1024
    rw [o1]; dsimp only; omega

theorem final (c : Dev nD) : (dats m 0 c).arrAt 2 cfg0.N = G m c :=
  (dats m 0 c).arrAt_eq_of_cover 2 (G m c) (fun t _ => flushed_eq m c t) cover

/-- The run read: the product everywhere, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.MmIdeal.RefValue

end
-- ==== Proof.MmClaim.lean ====
/-
  The input projection: the reference read at an index is the same sum as the kernel leaves.
-/
module

public import proofs.«01_k».proof.Defs
public import proofs.«01_k».proof.Proof.MmValue
public import proofs.«01_k».proof.Proof.Gen.MmRefIdeal.Run
public import proofs.«01_k».proof.Proof.Gen.MmRefIdeal.Read

@[expose] public section

set_option maxRecDepth 16384

noncomputable section

namespace Cert.MmIdeal.RefValue

open Cert.Common Idealize.ShloMosaic Idealize.ShloMosaic.TcCoe Idealize.SL.Sem Idealize.ShloMosaic.ValueIdx
open Cert.MmRefIdeal.Read

/-- The reference at an index. -/
theorem ref_apply (h : FVec Ideal Cert.MmRefIdeal.S18432x2048 .bf16) (w : FVec Ideal Cert.MmRefIdeal.S4x2048x14336 .bf16)
    (i : Cert.MmRefIdeal.S18432x6144.Idx) : val_main_v5 (F := Ideal) h w i = prod h w (i 0) (i 1) := by
  have h0 : (i 0).val < 18432 := (i 0).isLt
  have h1 : (i 1).val < 6144 := (i 1).isLt
  refine (val_main_v4_apply h w i).trans (Finset.sum_congr rfl fun k _ => ?_)
  have hk : k.val < 2048 := k.isLt
  rw [val_main_v3_apply, val_main_v2_apply, val_main_v1_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => refine Fin.ext ?_; show (k.val * 6144 + (i 1).val) / 6144 % 2048 = k.val; omega
    | ⟨2, _⟩ => refine Fin.ext ?_; show (k.val * 6144 + (i 1).val) % 6144 = (i 1).val; omega

/-- Kernel and reference end with the same result. -/
theorem algebraic : Cert.algebraic_MmIdeal_MmRefIdeal := by
  intro m g m' g' _ hagree
  refine ⟨fun c => G m c, run m g, ?_⟩
  refine (θ_run Cert.MmRefIdeal.defs _ _).mono (fun _ h c => ⟨(h c).1.trans ?_, (h c).2⟩) (Cert.MmRefIdeal.Value.run (F := Ideal) m' g')
  obtain ⟨h0, h1⟩ := hagree c
  refine (val_main_v5_eq (F := Ideal) _ _).trans ?_
  rw [h0, h1]
  exact funext fun i => ref_apply _ _ i

/-- The reference's frame. -/
theorem ref_frame : Cert.quiescent_MmRefIdeal := fun m ρ _ =>
  (θ_run Cert.MmRefIdeal.defs _ _).mono (fun r h => ⟨fun c => (h c).2,
    Idealize.ShloMosaic.sem_eq_zero_of_no_sems (by decide) r.2⟩) (Cert.MmRefIdeal.Value.run (F := Ideal) m ρ)

end Cert.MmIdeal.RefValue

end
-- ==== Proof.UpValue.lean ====
/-
  The dense feed-forward's first products with the SwiGLU: the grid walks the columns outermost, and the blocks of `w1`
  and `w3` that a run of 18 points shares are kept in two scratch buffers, filled at the run's first point. So at every
  point the scratches hold the point's own blocks of layer 0's `w1` and `w3`, and the result array ends at
  `silu a · b` of the two row-by-column products `a` and `b`.
-/
module

public import proofs.«01_k».proof.Proof.Common
public import proofs.«01_k».proof.Proof.Gen.UpIdeal.Value
public import Idealize.ShloMosaic.Lib.Tactic
public import Idealize.ShloMosaic.Lib.IdealHost

@[expose] public section

set_option maxRecDepth 16384

noncomputable section

namespace Cert.UpIdeal.RefValue

open Cert.UpIdeal Cert.UpIdeal.Gen Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

section Body

variable (c : Dev nD) (i : grid0.Coords) (a1 : Memref sig .tc .vmem S1024x2048 .bf16) (h1 : a1.IsWhole)
  (a2 : Memref sig .tc .vmem S1x2048x512 .f32) (h2 : a2.IsWhole) (a3 : Memref sig .tc .vmem S1x2048x512 .f32) (h3 : a3.IsWhole)
  (a4 : Memref sig .tc .vmem S1024x512 .bf16) (h4 : a4.IsWhole) (a5 : Memref sig .tc .vmem S2048x512 .bf16) (h5 : a5.IsWhole)
  (a6 : Memref sig .tc .vmem S2048x512 .bf16) (h6 : a6.IsWhole) (x : Vec Ideal S1024x2048 .bf16) (u v : Vec Ideal S1x2048x512 .f32)

/-- The first point of a run leaves the gated product with the blocks just cast. -/
theorem out_A (hc : cond0_0 i) :
    out0_A_3 c i a1 h1 a2 h2 a3 h3 a4 h4 a5 h5 a6 h6 hc x u v = k0_pay3 x (k0_pay1 u) (k0_pay2 v) := by
  unfold out0_A_3
  rw [View.read_writes_eq_canon _ _ _ (cover0_A_3 c i a1 h1 a2 h2 a3 h3 a4 h4 a5 h5 a6 h6 hc x u v)]
  unfold kernelRun0_A
  dsimp only
  sl_unfold_words
  rw [View.canon_unit_zero off2, View.readCov_unit_zero (S := S2048x512) _ off2, View.readCov_unit_zero (S := S2048x512) _ off2]
  simp only [View.readAt_eq_ld, h1.read_unread, h2.read_unread, h3.read_unread, View.ld_unit_zero (S := S1024x2048) off2,
    View.ld_unit_zero (S := S1x2048x512) off3]

/-- … the cast block of `w1` in the first scratch … -/
theorem sout_A0 (hc : cond0_0 i) : sout0_A_0 c i a1 h1 a2 h2 a3 h3 a4 h4 a5 h5 a6 h6 hc x u v = k0_pay1 u := by
  unfold sout0_A_0
  rw [View.read_writes_eq_canon _ _ _ (scover0_A_0 c i a1 h1 a2 h2 a3 h3 a4 h4 a5 h5 a6 h6 hc x u v)]
  unfold kernelRun0_A
  dsimp only
  sl_unfold_words
  rw [View.canon_unit_zero off2]
  simp only [View.readAt_eq_ld, h2.read_unread, View.ld_unit_zero (S := S1x2048x512) off3]

/-- … and that of `w3` in the second. -/
theorem sout_A1 (hc : cond0_0 i) : sout0_A_1 c i a1 h1 a2 h2 a3 h3 a4 h4 a5 h5 a6 h6 hc x u v = k0_pay2 v := by
  unfold sout0_A_1
  rw [View.read_writes_eq_canon _ _ _ (scover0_A_1 c i a1 h1 a2 h2 a3 h3 a4 h4 a5 h5 a6 h6 hc x u v)]
  unfold kernelRun0_A
  dsimp only
  sl_unfold_words
  rw [View.canon_unit_zero off2]
  simp only [View.readAt_eq_ld, h3.read_unread, View.ld_unit_zero (S := S1x2048x512) off3]

/-- A later point leaves the gated product with what the scratches hold. -/
theorem out_B (hc : ¬cond0_0 i) (s0 s1 : Vec Ideal S2048x512 .bf16) :
    out0_B_3 c i a1 h1 a2 h2 a3 h3 a4 h4 a5 h5 a6 h6 hc x u v s0 s1 = k0_pay3 x s0 s1 := by
  unfold out0_B_3
  rw [View.read_writes_eq_canon _ _ _ (cover0_B_3 c i a1 h1 a2 h2 a3 h3 a4 h4 a5 h5 a6 h6 hc x u v s0 s1)]
  unfold kernelRun0_B
  dsimp only
  rw [View.canon_unit_zero off2]
  simp only [View.readAt_eq_ld, h1.read_unread, h5.read_unread, h6.read_unread, View.ld_unit_zero (S := S1024x2048) off2,
    View.ld_unit_zero (S := S2048x512) off2]

end Body

/-- The block indices of the four windows at a point. -/
theorem idx : ∀ t : Fin cfg0.N, (win0_0.index t 0 = t.val % 18 ∧ win0_0.index t 1 = 0)
    ∧ (win0_1.index t 0 = 0 ∧ win0_1.index t 1 = 0 ∧ win0_1.index t 2 = t.val / 18)
    ∧ (win0_2.index t 0 = 0 ∧ win0_2.index t 1 = 0 ∧ win0_2.index t 2 = t.val / 18)
    ∧ (win0_3.index t 0 = t.val % 18 ∧ win0_3.index t 1 = t.val / 18) :=
  (by decide +kernel : ∀ t : Fin grid0.N, _)

/-- The column of the weights that column `q` of a point's block is. -/
def col (t : Fin cfg0.N) (q : Fin 512) : Fin 5632 := ⟨t.val / 18 * 512 + q.val, by
  have hN : cfg0.N = 198 := N_0
  have := t.isLt; have := q.isLt; omega⟩

/-- The block of `w1` a point stages, by coordinates. -/
theorem ublk_apply (c : Dev nD) (t : Fin cfg0.N) (k : Fin 2048) (q : Fin 512) :
    iblk m c 1 t (ix3 0 k q) = m ((c : Thread nD τ).loc main_arg1) (ix3 0 k (col t q)) := by
  obtain ⟨-, ⟨b0, b1, b2⟩, -, -⟩ := idx t
  refine congrArg (m ((c : Thread nD τ).loc main_arg1)) (funext fun a => Fin.ext ?_)
  match a with
  | ⟨0, _⟩ => show win0_1.index t 0 * 1 + 1 * 0 = 0; rw [b0]
  | ⟨1, _⟩ => show win0_1.index t 1 * 2048 + 1 * k.val = k.val; rw [b1]; omega
  | ⟨2, _⟩ => show win0_1.index t 2 * 512 + 1 * q.val = t.val / 18 * 512 + q.val; rw [b2]; omega

/-- … and of `w3`. -/
theorem vblk_apply (c : Dev nD) (t : Fin cfg0.N) (k : Fin 2048) (q : Fin 512) :
    iblk m c 2 t (ix3 0 k q) = m ((c : Thread nD τ).loc main_arg2) (ix3 0 k (col t q)) := by
  obtain ⟨-, -, ⟨b0, b1, b2⟩, -⟩ := idx t
  refine congrArg (m ((c : Thread nD τ).loc main_arg2)) (funext fun a => Fin.ext ?_)
  match a with
  | ⟨0, _⟩ => show win0_2.index t 0 * 1 + 1 * 0 = 0; rw [b0]
  | ⟨1, _⟩ => show win0_2.index t 1 * 2048 + 1 * k.val = k.val; rw [b1]; omega
  | ⟨2, _⟩ => show win0_2.index t 2 * 512 + 1 * q.val = t.val / 18 * 512 + q.val; rw [b2]; omega

/-- Inside a run the staged blocks of `w1` and `w3` do not change. -/
theorem blk_succ (c : Dev nD) (n : ℕ) (h : n + 1 < cfg0.N) (h0 : ¬(n + 1) % 18 = 0) :
    iblk m c 1 ⟨n, Nat.lt_of_succ_lt h⟩ = iblk m c 1 ⟨n + 1, h⟩ ∧ iblk m c 2 ⟨n, Nat.lt_of_succ_lt h⟩ = iblk m c 2 ⟨n + 1, h⟩ := by
  have hcol : ∀ q, col ⟨n, Nat.lt_of_succ_lt h⟩ q = col ⟨n + 1, h⟩ q := fun q => Fin.ext (by
    show n / 18 * 512 + q.val = (n + 1) / 18 * 512 + q.val
    omega)
  constructor
  all_goals
    funext y
    obtain ⟨z, k, q, rfl⟩ : ∃ (z : Fin 1) (k : Fin 2048) (q : Fin 512), y = ix3 z k q :=
      ⟨y 0, y 1, y 2, by funext a; fin_cases a <;> rfl⟩
    obtain rfl : z = 0 := Subsingleton.elim _ _
    first
      | rw [ublk_apply, ublk_apply, hcol]
      | rw [vblk_apply, vblk_apply, hcol]

set_option maxHeartbeats 800000 in
/-- Inside a run the scratches keep what they hold. -/
theorem keep (c : Dev nD) (n : ℕ) (h : n + 1 < cfg0.N) (h0 : ¬(n + 1) % 18 = 0) :
    (outsAt0 m c (n + 1) h).2 = (outsAt0 m c n (Nat.lt_of_succ_lt h)).2 := by
  rw [outsAt0_B m c ⟨n + 1, h⟩ h0]
  exact Prod.ext rfl rfl

/-- What the scratches hold after a point: the point's own blocks of `w1` and `w3`, cast. -/
theorem scratch (c : Dev nD) : ∀ (n : ℕ) (h : n < cfg0.N),
    (outsAt0 m c n h).2.1 = k0_pay1 (iblk m c 1 ⟨n, h⟩) ∧ (outsAt0 m c n h).2.2 = k0_pay2 (iblk m c 2 ⟨n, h⟩)
  | 0, h => by rw [outsAt0_A m c ⟨0, h⟩ rfl]; dsimp only; exact ⟨sout_A0 .., sout_A1 ..⟩
  | n + 1, h => by
    by_cases h0 : (n + 1) % 18 = 0
    · rw [outsAt0_A m c ⟨n + 1, h⟩ h0]; dsimp only; exact ⟨sout_A0 .., sout_A1 ..⟩
    · have hn := Nat.lt_of_succ_lt h
      have e := keep m c n h h0
      rw [e, ← (blk_succ m c n h h0).1, ← (blk_succ m c n h h0).2]
      exact scratch c n hn

/-- What a point leaves in the output's staging buffer. -/
theorem out_eq (c : Dev nD) (t : Fin cfg0.N) :
    (outsAt0 m c t.val t.isLt).1 = k0_pay3 (iblk m c 0 t) (k0_pay1 (iblk m c 1 t)) (k0_pay2 (iblk m c 2 t)) := by
  by_cases h0 : t.val % 18 = 0
  · rw [outsAt0_A m c t h0]; dsimp only; rw [out_A]
  · obtain ⟨hs, hs'⟩ := scratch m c t.val t.isLt
    rw [outsAt0_B m c t h0] at hs hs' ⊢
    dsimp only at hs hs' ⊢
    rw [out_B]
    exact congrArg₂ (k0_pay3 (iblk m c 0 t)) hs hs'

/-- Row `r` of `h` times column `j` of layer 0 of a weight. -/
def prod (h : FVec Ideal S18432x2048 .bf16) (w : FVec Ideal S2x2048x5632 .f32) (r : Fin 18432) (j : Fin 5632) : EReal :=
  ∑ k : Fin 2048, h (ix2 r k) * w (ix3 0 k j)

/-- The gated product: `silu a · b`. -/
def gated (a b : EReal) : EReal := a * Ideal.logistic a * b

/-- The result array: the gated product at every index. -/
def G (c : Dev nD) : Buf (Elt Ideal) ((c : Thread nD τ).loc main_v0) := fun i =>
  gated (prod (m ((c : Thread nD τ).loc main_arg0)) (m ((c : Thread nD τ).loc main_arg1)) (i 0) (i 1))
    (prod (m ((c : Thread nD τ).loc main_arg0)) (m ((c : Thread nD τ).loc main_arg2)) (i 0) (i 1))

/-- The stored block at an index, from its two products. -/
theorem pay_apply (x : FVec Ideal S1024x2048 .bf16) (u v : FVec Ideal S2048x512 .bf16) (y : S1024x512.Idx) :
    k0_pay3 (F := Ideal) x u v y
      = gated (FloatOps.matmul (F := Ideal) (φ₁ := .bf16) (φ₂ := .bf16) (DotDims.plain 1024 2048 512) none x u (constant _ .f32 0x00000000#32) y)
          (FloatOps.matmul (F := Ideal) (φ₁ := .bf16) (φ₂ := .bf16) (DotDims.plain 1024 2048 512) none x v (constant _ .f32 0x00000000#32) y) := by
  have h : ∀ a b : EReal, a * Ideal.div (Ideal.ofBits .f32 0x3F800000#32)
      (Ideal.ofBits .f32 0x3F800000#32 + Ideal.exp (Ideal.ofBits .f32 0x00000000#32 - a)) * b = gated a b := fun a b => by
    unfold gated Ideal.logistic
    rw [Ideal.ofBits_one_f32, show Ideal.ofBits .f32 0x00000000#32 = 0 by simp, zero_sub]
  exact h _ _

theorem flushed_eq (c : Dev nD) (t : Fin cfg0.N) :
    (dats m 0 c).flushed 3 t = ((cfg0.win 3).blk t).view.read (Elt Ideal) (G m c) := by
  rw [Value.flushed3, out_eq]
  obtain ⟨⟨a0, a1⟩, -, -, ⟨o0, o1⟩⟩ := idx t
  funext y
  obtain ⟨r, q, rfl⟩ : ∃ (r : Fin 1024) (q : Fin 512), y = ix2 r q := ⟨y 0, y 1, by funext a; fin_cases a <;> rfl⟩
  show k0_pay3 (iblk m c 0 t) (k0_pay1 (iblk m c 1 t)) (k0_pay2 (iblk m c 2 t)) (ix2 r q) = _
  rw [pay_apply, mm_apply, mm_apply]
  have ex : ∀ k : Fin 2048, iblk m c 0 t (ix2 r k)
      = m ((c : Thread nD τ).loc main_arg0) (ix2 (((cfg0.win 3).blk t).view.emb (ix2 r q) 0) k) := fun k => by
    refine congrArg (m ((c : Thread nD τ).loc main_arg0)) (funext fun a => Fin.ext ?_)
    match a with
    | ⟨0, _⟩ => show win0_0.index t 0 * 1024 + 1 * r.val = win0_3.index t 0 * 1024 + 1 * r.val; rw [a0, o0]
    | ⟨1, _⟩ => show win0_0.index t 1 * 2048 + 1 * k.val = k.val; rw [a1]; omega
  have ec : col t q = ((cfg0.win 3).blk t).view.emb (ix2 r q) 1 := Fin.ext (by
    show t.val / 18 * 512 + q.val = win0_3.index t 1 * 512 + 1 * q.val
    rw [o1]; omega)
  show _ = gated (prod _ _ _ _) (prod _ _ _ _)
  unfold prod k0_pay1 k0_pay2
  rw [shapeCast_self, shapeCast_self]
  congr 1
  · refine Finset.sum_congr rfl fun k _ => ?_
    rw [ex k]
    congr 1
    show shapeCast S2048x512 (iblk m c 1 t) shapeCasts_S1x2048x512_S2048x512 (ix2 k q) = _
    rw [drop1_apply, ublk_apply, ec]
  · refine Finset.sum_congr rfl fun k _ => ?_
    rw [ex k]
    congr 1
    show shapeCast S2048x512 (iblk m c 2 t) shapeCasts_S1x2048x512_S2048x512 (ix2 k q) = _
    rw [drop1_apply, vblk_apply, ec]

theorem mem_blk (t : Fin cfg0.N) (i : S18432x5632.Idx) :
    i ∈ ((cfg0.win 3).blk t).view.set
      ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

theorem cover (i : S18432x5632.Idx) : ∃ t : Fin cfg0.N, (cfg0.win 3).flush t = true ∧ i ∈ ((cfg0.win 3).blk t).view.set := by
  have h0 : (i 0).val < 18432 := (i 0).isLt
  have h1 : (i 1).val < 5632 := (i 1).isLt
  have hN : cfg0.N = 198 := N_0
  have ht : (i 1).val / 512 * 18 + (i 0).val / 1024 < cfg0.N := by omega
  refine ⟨⟨_, ht⟩, flush0_3 _, ?_⟩
  rw [mem_blk]
  obtain ⟨-, -, -, o0, o1⟩ := idx ⟨_, ht⟩
  intro a
  match a with
  | ⟨0, _⟩ =>
    show win0_3.index _ 0 * 1024 ≤ (i 0).val ∧ (i 0).val < win0_3.index _ 0 * 1024 + 1024
    rw [o0]; dsimp only; omega
  | ⟨1, _⟩ =>
    show win0_3.index _ 1 * 512 ≤ (i 1).val ∧ (i 1).val < win0_3.index _ 1 * 512 + 512
    rw [o1]; dsimp only; omega

theorem final (c : Dev nD) : (dats m 0 c).arrAt 3 cfg0.N = G m c :=
  (dats m 0 c).arrAt_eq_of_cover 3 (G m c) (fun t _ => flushed_eq m c t) cover

/-- The run read: the gated product everywhere, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.UpIdeal.RefValue

end
-- ==== Proof.UpClaim.lean ====
/-
  The gate and up projections: the reference read at an index is the gated product the kernel leaves.
-/
module

public import proofs.«01_k».proof.Defs
public import proofs.«01_k».proof.Proof.UpValue
public import proofs.«01_k».proof.Proof.Gen.UpRefIdeal.Run
public import proofs.«01_k».proof.Proof.Gen.UpRefIdeal.Read

@[expose] public section

set_option maxRecDepth 16384

noncomputable section

namespace Cert.UpIdeal.RefValue

open Cert.Common Idealize.ShloMosaic Idealize.ShloMosaic.TcCoe Idealize.SL.Sem Idealize.ShloMosaic.ValueIdx
open Cert.UpRefIdeal.Read

/-- The reference's product for the gate at an index. -/
theorem ref_prod3 (h : FVec Ideal Cert.UpRefIdeal.S18432x2048 .bf16) (w : FVec Ideal Cert.UpRefIdeal.S2x2048x5632 .f32)
    (i : Cert.UpRefIdeal.S18432x5632.Idx) : val_main_v3 (F := Ideal) h w i = prod h w (i 0) (i 1) := by
  have h1 : (i 1).val < 5632 := (i 1).isLt
  refine (val_main_v3_apply h w i).trans (Finset.sum_congr rfl fun k _ => ?_)
  have hk : k.val < 2048 := k.isLt
  rw [val_main_v2_apply, val_main_v1_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => refine Fin.ext ?_; show (k.val * 5632 + (i 1).val) / 5632 % 2048 = k.val; omega
    | ⟨2, _⟩ => refine Fin.ext ?_; show (k.val * 5632 + (i 1).val) % 5632 = (i 1).val; omega

/-- The reference's product for the up projection at an index. -/
theorem ref_prod7 (h : FVec Ideal Cert.UpRefIdeal.S18432x2048 .bf16) (w : FVec Ideal Cert.UpRefIdeal.S2x2048x5632 .f32)
    (i : Cert.UpRefIdeal.S18432x5632.Idx) : val_main_v7 (F := Ideal) h w i = prod h w (i 0) (i 1) := by
  have h1 : (i 1).val < 5632 := (i 1).isLt
  refine (val_main_v7_apply h w i).trans (Finset.sum_congr rfl fun k _ => ?_)
  have hk : k.val < 2048 := k.isLt
  rw [val_main_v6_apply, val_main_v5_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => refine Fin.ext ?_; show (k.val * 5632 + (i 1).val) / 5632 % 2048 = k.val; omega
    | ⟨2, _⟩ => refine Fin.ext ?_; show (k.val * 5632 + (i 1).val) % 5632 = (i 1).val; omega

/-- The reference at an index. -/
theorem ref_apply (h : FVec Ideal Cert.UpRefIdeal.S18432x2048 .bf16) (w₁ w₃ : FVec Ideal Cert.UpRefIdeal.S2x2048x5632 .f32)
    (i : Cert.UpRefIdeal.S18432x5632.Idx) :
    val_main_v9 (F := Ideal) h w₁ w₃ i = gated (prod h w₁ (i 0) (i 1)) (prod h w₃ (i 0) (i 1)) := by
  rw [← ref_prod3 h w₁ i, ← ref_prod7 h w₃ i]
  show val_main_v3 (F := Ideal) h w₁ i * Ideal.div (Ideal.ofBits .f32 0x3F800000#32) (Ideal.ofBits .f32 0x3F800000#32 + Ideal.exp (-val_main_v3 (F := Ideal) h w₁ i)) * val_main_v7 (F := Ideal) h w₃ i = _
  rw [Idealize.ShloMosaic.Ideal.ofBits_one_f32]
  rfl

/-- Kernel and reference end with the same result. -/
theorem algebraic : Cert.algebraic_UpIdeal_UpRefIdeal := by
  intro m g m' g' _ hagree
  refine ⟨fun c => G m c, run m g, ?_⟩
  refine (θ_run Cert.UpRefIdeal.defs _ _).mono (fun _ h c => ⟨(h c).1.trans ?_, (h c).2⟩) (Cert.UpRefIdeal.Value.run (F := Ideal) m' g')
  obtain ⟨h0, h1, h2⟩ := hagree c
  refine (val_main_v9_eq (F := Ideal) _ _ _).trans ?_
  rw [h0, h1, h2]
  exact funext fun i => ref_apply _ _ _ i

/-- The reference's frame. -/
theorem ref_frame : Cert.quiescent_UpRefIdeal := fun m ρ _ =>
  (θ_run Cert.UpRefIdeal.defs _ _).mono (fun r h => ⟨fun c => (h c).2,
    Idealize.ShloMosaic.sem_eq_zero_of_no_sems (by decide) r.2⟩) (Cert.UpRefIdeal.Value.run (F := Ideal) m ρ)

end Cert.UpIdeal.RefValue

end
-- ==== Proof.DownValue.lean ====
/-
  The dense feed-forward's second product: the grid walks the columns outermost, and the block of `w2` that a run of
  36 points shares is kept in a scratch buffer, filled at the run's first point. So at every point the scratch holds the
  point's own block of layer 0's `w2`, each output block is a plain product of blocks, and the result array ends at
  `∑ k, g[i, k] · w2[0, k, j]`.
-/
module

public import proofs.«01_k».proof.Proof.Common
public import proofs.«01_k».proof.Proof.Gen.DownIdeal.Value
public import Idealize.ShloMosaic.Lib.Tactic

@[expose] public section

set_option maxRecDepth 16384

noncomputable section

namespace Cert.DownIdeal.RefValue

open Cert.DownIdeal Cert.DownIdeal.Gen Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first point of a run leaves the product with the block just cast. -/
theorem out_A (c : Dev nD) (i : grid0.Coords) (a1 : Memref sig .tc .vmem S512x5632 .bf16) (h1 : a1.IsWhole)
    (a2 : Memref sig .tc .vmem S1x5632x512 .f32) (h2 : a2.IsWhole) (a3 : Memref sig .tc .vmem S512x512 .bf16) (h3 : a3.IsWhole)
    (a4 : Memref sig .tc .vmem S5632x512 .bf16) (h4 : a4.IsWhole) (hc : cond0_0 i) (x : Vec Ideal S512x5632 .bf16)
    (w : Vec Ideal S1x5632x512 .f32) :
    out0_A_2 c i a1 h1 a2 h2 a3 h3 a4 h4 hc x w = k0_pay2 x (k0_pay1 w) := by
  unfold out0_A_2
  rw [View.read_writes_eq_canon _ _ _ (cover0_A_2 c i a1 h1 a2 h2 a3 h3 a4 h4 hc x w)]
  unfold kernelRun0_A
  dsimp only
  sl_unfold_words
  rw [View.canon_unit_zero off2, View.readCov_unit_zero (S := S5632x512) _ off2]
  simp only [View.readAt_eq_ld, h1.read_unread, h2.read_unread, View.ld_unit_zero (S := S512x5632) off2,
    View.ld_unit_zero (S := S1x5632x512) off3]

/-- … and the cast block in the scratch. -/
theorem sout_A (c : Dev nD) (i : grid0.Coords) (a1 : Memref sig .tc .vmem S512x5632 .bf16) (h1 : a1.IsWhole)
    (a2 : Memref sig .tc .vmem S1x5632x512 .f32) (h2 : a2.IsWhole) (a3 : Memref sig .tc .vmem S512x512 .bf16) (h3 : a3.IsWhole)
    (a4 : Memref sig .tc .vmem S5632x512 .bf16) (h4 : a4.IsWhole) (hc : cond0_0 i) (x : Vec Ideal S512x5632 .bf16)
    (w : Vec Ideal S1x5632x512 .f32) :
    sout0_A_0 c i a1 h1 a2 h2 a3 h3 a4 h4 hc x w = k0_pay1 w := by
  unfold sout0_A_0
  rw [View.read_writes_eq_canon _ _ _ (scover0_A_0 c i a1 h1 a2 h2 a3 h3 a4 h4 hc x w)]
  unfold kernelRun0_A
  dsimp only
  sl_unfold_words
  rw [View.canon_unit_zero off2]
  simp only [View.readAt_eq_ld, h2.read_unread, View.ld_unit_zero (S := S1x5632x512) off3]

/-- A later point leaves the product with what the scratch holds. -/
theorem out_B (c : Dev nD) (i : grid0.Coords) (a1 : Memref sig .tc .vmem S512x5632 .bf16) (h1 : a1.IsWhole)
    (a2 : Memref sig .tc .vmem S1x5632x512 .f32) (h2 : a2.IsWhole) (a3 : Memref sig .tc .vmem S512x512 .bf16) (h3 : a3.IsWhole)
    (a4 : Memref sig .tc .vmem S5632x512 .bf16) (h4 : a4.IsWhole) (hc : ¬cond0_0 i) (x : Vec Ideal S512x5632 .bf16)
    (w : Vec Ideal S1x5632x512 .f32) (s : Vec Ideal S5632x512 .bf16) :
    out0_B_2 c i a1 h1 a2 h2 a3 h3 a4 h4 hc x w s = k0_pay2 x s := by
  unfold out0_B_2
  rw [View.read_writes_eq_canon _ _ _ (cover0_B_2 c i a1 h1 a2 h2 a3 h3 a4 h4 hc x w s)]
  unfold kernelRun0_B
  dsimp only
  rw [View.canon_unit_zero off2]
  simp only [View.readAt_eq_ld, h1.read_unread, h4.read_unread, View.ld_unit_zero (S := S512x5632) off2,
    View.ld_unit_zero (S := S5632x512) off2]

/-- The block indices of the three windows at a point. -/
theorem idx : ∀ t : Fin cfg0.N, (win0_0.index t 0 = t.val % 36 ∧ win0_0.index t 1 = 0)
    ∧ (win0_1.index t 0 = 0 ∧ win0_1.index t 1 = 0 ∧ win0_1.index t 2 = t.val / 36)
    ∧ (win0_2.index t 0 = t.val % 36 ∧ win0_2.index t 1 = t.val / 36) :=
  (by decide +kernel : ∀ t : Fin grid0.N, _)

/-- The block of `w2` a point stages, by coordinates. -/
theorem wblk_apply (c : Dev nD) (t : Fin cfg0.N) (k : Fin 5632) (q : Fin 512) :
    iblk m c 1 t (ix3 0 k q)
      = m ((c : Thread nD τ).loc main_arg1) (ix3 0 k ⟨t.val / 36 * 512 + q.val, by
          have hN : cfg0.N = 144 := N_0
          have := t.isLt; have := q.isLt; omega⟩) := by
  obtain ⟨-, ⟨b0, b1, b2⟩, -⟩ := idx t
  refine congrArg (m ((c : Thread nD τ).loc main_arg1)) (funext fun a => Fin.ext ?_)
  match a with
  | ⟨0, _⟩ => show win0_1.index t 0 * 1 + 1 * 0 = 0; rw [b0]
  | ⟨1, _⟩ => show win0_1.index t 1 * 5632 + 1 * k.val = k.val; rw [b1]; omega
  | ⟨2, _⟩ => show win0_1.index t 2 * 512 + 1 * q.val = t.val / 36 * 512 + q.val; rw [b2]; omega

/-- What the scratch holds after a point: the point's own block of `w2`, cast. -/
theorem scratch (c : Dev nD) : ∀ (n : ℕ) (h : n < cfg0.N), (outsAt0 m c n h).2 = k0_pay1 (iblk m c 1 ⟨n, h⟩)
  | 0, h => by rw [outsAt0_A m c ⟨0, h⟩ rfl]; dsimp only; rw [sout_A]
  | n + 1, h => by
    by_cases h0 : (n + 1) % 36 = 0
    · rw [outsAt0_A m c ⟨n + 1, h⟩ h0]; dsimp only; rw [sout_A]
    · rw [outsAt0_B m c ⟨n + 1, h⟩ h0]
      show (outsAt0 m c n _).2 = _
      rw [scratch c n]
      congr 1
      funext y
      obtain ⟨z, k, q, rfl⟩ : ∃ (z : Fin 1) (k : Fin 5632) (q : Fin 512), y = ix3 z k q :=
        ⟨y 0, y 1, y 2, by funext a; fin_cases a <;> rfl⟩
      obtain rfl : z = 0 := Subsingleton.elim _ _
      rw [wblk_apply, wblk_apply]
      congr 1
      funext a
      match a with
      | ⟨0, _⟩ => rfl
      | ⟨1, _⟩ => rfl
      | ⟨2, _⟩ =>
        refine Fin.ext ?_
        show n / 36 * 512 + q.val = (n + 1) / 36 * 512 + q.val
        omega

/-- What a point leaves in the output's staging buffer. -/
theorem out_eq (c : Dev nD) (t : Fin cfg0.N) :
    (outsAt0 m c t.val t.isLt).1 = k0_pay2 (iblk m c 0 t) (k0_pay1 (iblk m c 1 t)) := by
  by_cases h0 : t.val % 36 = 0
  · rw [outsAt0_A m c t h0]; dsimp only; rw [out_A]
  · have hs := scratch m c t.val t.isLt
    rw [outsAt0_B m c t h0] at hs ⊢
    dsimp only at hs ⊢
    rw [out_B]
    exact congrArg (k0_pay2 (iblk m c 0 t)) hs

/-- Row `r` of `g` times column `j` of layer 0's `w2`. -/
def prod (g : FVec Ideal S18432x5632 .bf16) (w : FVec Ideal S2x5632x2048 .f32) (r : Fin 18432) (j : Fin 2048) : EReal :=
  ∑ k : Fin 5632, g (ix2 r k) * w (ix3 0 k j)

/-- The result array: that product at every index. -/
def G (c : Dev nD) : Buf (Elt Ideal) ((c : Thread nD τ).loc main_v0) := fun i =>
  prod (m ((c : Thread nD τ).loc main_arg0)) (m ((c : Thread nD τ).loc main_arg1)) (i 0) (i 1)

theorem flushed_eq (c : Dev nD) (t : Fin cfg0.N) :
    (dats m 0 c).flushed 2 t = ((cfg0.win 2).blk t).view.read (Elt Ideal) (G m c) := by
  rw [Value.flushed2, out_eq]
  obtain ⟨⟨a0, a1⟩, -, ⟨o0, o1⟩⟩ := idx t
  funext y
  obtain ⟨r, q, rfl⟩ : ∃ (r : Fin 512) (q : Fin 512), y = ix2 r q := ⟨y 0, y 1, by funext a; fin_cases a <;> rfl⟩
  show FloatOps.matmul (F := Ideal) (φ₁ := .bf16) (φ₂ := .bf16) (DotDims.plain 512 5632 512) none (iblk m c 0 t)
    (k0_pay1 (iblk m c 1 t)) (constant _ .f32 0x00000000#32) (ix2 r q) = _
  rw [mm_apply]
  show _ = prod _ _ _ _
  unfold prod
  refine Finset.sum_congr rfl fun k _ => ?_
  have hk : k.val < 5632 := k.isLt
  congr 1
  · refine congrArg (m ((c : Thread nD τ).loc main_arg0)) (funext fun a => Fin.ext ?_)
    match a with
    | ⟨0, _⟩ => show win0_0.index t 0 * 512 + 1 * r.val = win0_2.index t 0 * 512 + 1 * r.val; rw [a0, o0]
    | ⟨1, _⟩ => show win0_0.index t 1 * 5632 + 1 * k.val = k.val; rw [a1]; omega
  · unfold k0_pay1
    rw [shapeCast_self]
    show shapeCast S5632x512 (iblk m c 1 t) shapeCasts_S1x5632x512_S5632x512 (ix2 k q) = _
    rw [drop1_apply, wblk_apply]
    refine congrArg (m ((c : Thread nD τ).loc main_arg1)) (funext fun a => Fin.ext ?_)
    match a with
    | ⟨0, _⟩ => rfl
    | ⟨1, _⟩ => rfl
    | ⟨2, _⟩ => show t.val / 36 * 512 + q.val = win0_2.index t 1 * 512 + 1 * q.val; rw [o1]; omega

theorem mem_blk (t : Fin cfg0.N) (i : S18432x2048.Idx) :
    i ∈ ((cfg0.win 2).blk t).view.set
      ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

theorem cover (i : S18432x2048.Idx) : ∃ t : Fin cfg0.N, (cfg0.win 2).flush t = true ∧ i ∈ ((cfg0.win 2).blk t).view.set := by
  have h0 : (i 0).val < 18432 := (i 0).isLt
  have h1 : (i 1).val < 2048 := (i 1).isLt
  have hN : cfg0.N = 144 := N_0
  have ht : (i 1).val / 512 * 36 + (i 0).val / 512 < cfg0.N := by omega
  refine ⟨⟨_, ht⟩, flush0_2 _, ?_⟩
  rw [mem_blk]
  obtain ⟨-, -, o0, o1⟩ := idx ⟨_, ht⟩
  intro a
  match a with
  | ⟨0, _⟩ =>
    show win0_2.index _ 0 * 512 ≤ (i 0).val ∧ (i 0).val < win0_2.index _ 0 * 512 + 512
    rw [o0]; dsimp only; omega
  | ⟨1, _⟩ =>
    show win0_2.index _ 1 * 512 ≤ (i 1).val ∧ (i 1).val < win0_2.index _ 1 * 512 + 512
    rw [o1]; dsimp only; omega

theorem final (c : Dev nD) : (dats m 0 c).arrAt 2 cfg0.N = G m c :=
  (dats m 0 c).arrAt_eq_of_cover 2 (G m c) (fun t _ => flushed_eq m c t) cover

/-- The run read: the product everywhere, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.DownIdeal.RefValue

end
-- ==== Proof.DownClaim.lean ====
/-
  The down projection: the reference read at an index is the same sum as the kernel leaves.
-/
module

public import proofs.«01_k».proof.Defs
public import proofs.«01_k».proof.Proof.DownValue
public import proofs.«01_k».proof.Proof.Gen.DownRefIdeal.Run
public import proofs.«01_k».proof.Proof.Gen.DownRefIdeal.Read

@[expose] public section

set_option maxRecDepth 16384

noncomputable section

namespace Cert.DownIdeal.RefValue

open Cert.Common Idealize.ShloMosaic Idealize.ShloMosaic.TcCoe Idealize.SL.Sem Idealize.ShloMosaic.ValueIdx
open Cert.DownRefIdeal.Read

/-- The reference at an index. -/
theorem ref_apply (h : FVec Ideal Cert.DownRefIdeal.S18432x5632 .bf16) (w : FVec Ideal Cert.DownRefIdeal.S2x5632x2048 .f32)
    (i : Cert.DownRefIdeal.S18432x2048.Idx) : val_main_v4 (F := Ideal) h w i = prod h w (i 0) (i 1) := by
  have h0 : (i 0).val < 18432 := (i 0).isLt
  have h1 : (i 1).val < 2048 := (i 1).isLt
  refine (val_main_v3_apply h w i).trans (Finset.sum_congr rfl fun k _ => ?_)
  have hk : k.val < 5632 := k.isLt
  rw [val_main_v2_apply, val_main_v1_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => refine Fin.ext ?_; show (k.val * 2048 + (i 1).val) / 2048 % 5632 = k.val; omega
    | ⟨2, _⟩ => refine Fin.ext ?_; show (k.val * 2048 + (i 1).val) % 2048 = (i 1).val; omega

/-- Kernel and reference end with the same result. -/
theorem algebraic : Cert.algebraic_DownIdeal_DownRefIdeal := by
  intro m g m' g' _ hagree
  refine ⟨fun c => G m c, run m g, ?_⟩
  refine (θ_run Cert.DownRefIdeal.defs _ _).mono (fun _ h c => ⟨(h c).1.trans ?_, (h c).2⟩) (Cert.DownRefIdeal.Value.run (F := Ideal) m' g')
  obtain ⟨h0, h1⟩ := hagree c
  refine (val_main_v4_eq (F := Ideal) _ _).trans ?_
  rw [h0, h1]
  exact funext fun i => ref_apply _ _ i

/-- The reference's frame. -/
theorem ref_frame : Cert.quiescent_DownRefIdeal := fun m ρ _ =>
  (θ_run Cert.DownRefIdeal.defs _ _).mono (fun r h => ⟨fun c => (h c).2,
    Idealize.ShloMosaic.sem_eq_zero_of_no_sems (by decide) r.2⟩) (Cert.DownRefIdeal.Value.run (F := Ideal) m ρ)

end Cert.DownIdeal.RefValue

end
-- ==== Proof.MoeUpIdealRuns.lean ====
/-
  The experts' first products with the SwiGLU: one run of the body per control path. Whether the two scratches are filled
  again is told by the row tiles' table, whether the tile is in use by the second table; the four paths are run once each,
  at any tables, and what each leaves is stated by the payloads.
-/
module

public import proofs.«01_k».proof.Proof.Common
public import proofs.«01_k».proof.Proof.Gen.MoeUpIdeal.Skeleton
public import proofs.«01_k».proof.Proof.Gen.MoeUpIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.MoeUpIdeal.Hand

open Cert.MoeUpIdeal Cert.MoeUpIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model the body's triples are stated in. -/
abbrev MM (F : FTy → Type) [FloatOps F] := MT nD τ sig Unit (Elt F) ℕ (UR sig nD τ) ℕ

/-- The tables and scratches the kernel is handed, whole, at their literal types. -/
abbrev tb0 : Memref sig .tc .smem S80 .i32 := Memref.whole main_arg0
abbrev tb1 : Memref sig .tc .smem S1 .i32 := Memref.whole main_arg1
abbrev sc0 : Memref sig .tc .vmem S2048x1024 .bf16 := Memref.whole cc0_scratch0
abbrev sc1 : Memref sig .tc .vmem S2048x1024 .bf16 := Memref.whole cc0_scratch1

/-- The words the body reads: its own tile's expert, the tile before's, and the number of tiles in use. -/
abbrev wCur (T0 : S80.Idx → Elt F .i32) (i : grid0.Coords) : BitVec 32 :=
  View.readAt (Elt F) (tb0).view (Rect.unit (s := S80) (k0_off1 i) S1.size (k0_off1_inb i)).toLoadRect T0 (Shape.Idx.first (numel1_S1.symm ▸ Nat.one_pos))
abbrev wPrev (T0 : S80.Idx → Elt F .i32) (i : grid0.Coords) : BitVec 32 :=
  View.readAt (Elt F) (tb0).view (Rect.unit (s := S80) (k0_off2 i) S1.size (k0_off2_inb i)).toLoadRect T0 (Shape.Idx.first (numel1_S1.symm ▸ Nat.one_pos))
abbrev wUsed (T1 : S1.Idx → Elt F .i32) : BitVec 32 :=
  View.readAt (Elt F) (tb1).view (Rect.unit (s := S1) ![0] S1.size inb_S1_S1_0).toLoadRect T1 (Shape.Idx.first (numel1_S1.symm ▸ Nat.one_pos))

/-- The body fills the scratches again. -/
abbrev fills (T0 : S80.Idx → Elt F .i32) (i : grid0.Coords) : Prop :=
  (Scalar.cmpi .ne (Scalar.extui (Scalar.ori (Scalar.cmpi .eq (BitVec.ofNat 32 (i 1).val) 0#32) (Scalar.cmpi .ne (wCur T0 i) (wPrev T0 i)))) 0#32) = 1#1
/-- The body finds its tile in use, -/
abbrev used (T1 : S1.Idx → Elt F .i32) (i : grid0.Coords) : Prop := k0_cond2 i (wUsed T1) = 1#1
/-- or not. -/
abbrev spare (T1 : S1.Idx → Elt F .i32) (i : grid0.Coords) : Prop := k0_cond3 i (wUsed T1) = 1#1

/-- A whole buffer written once at its literal rectangle reads back what was written. -/
theorem read_one {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon v f _ (fun y => ⟨_, List.mem_singleton.mpr rfl, by
    rw [Rect.mem_set_unit]; intro a; exact ⟨Nat.zero_le _, by have := (y a).isLt; simpa using this⟩⟩)]
  exact View.canon_unit_zero rfl inb w

set_option backward.proofsInPublic true in
set_option maxHeartbeats 8000000 in
/-- A: scratches filled, tile in use. -/
theorem run_A (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S80.Idx → Elt F .i32) (T1 : S1.Idx → Elt F .i32) (x0 : Vec F S512x2048 .bf16) (x1 x2 : Vec F S1x1x2048x1024 .f32)
    (hc0 : fills T0 i) (hc2 : used T1 i) (hc3 : ¬spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (k0_pay1 x1) (k0_pay2 x2)⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

set_option backward.proofsInPublic true in
set_option maxHeartbeats 8000000 in
/-- B: scratches kept, tile in use. -/
theorem run_B (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S80.Idx → Elt F .i32) (T1 : S1.Idx → Elt F .i32) (x0 : Vec F S512x2048 .bf16) (x1 x2 : Vec F S1x1x2048x1024 .f32) (s0 s1 : Vec F S2048x1024 .bf16)
    (hc0 : ¬fills T0 i) (hc2 : used T1 i) (hc3 : ¬spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (s0) (s1)⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

set_option backward.proofsInPublic true in
set_option maxHeartbeats 8000000 in
/-- C: scratches filled, tile not in use. -/
theorem run_C (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S80.Idx → Elt F .i32) (T1 : S1.Idx → Elt F .i32) (x0 : Vec F S512x2048 .bf16) (x1 x2 : Vec F S1x1x2048x1024 .f32)
    (hc0 : fills T0 i) (hc2 : ¬used T1 i) (hc3 : spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

set_option backward.proofsInPublic true in
set_option maxHeartbeats 8000000 in
/-- D: scratches kept, tile not in use. -/
theorem run_D (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S80.Idx → Elt F .i32) (T1 : S1.Idx → Elt F .i32) (x0 : Vec F S512x2048 .bf16) (x1 x2 : Vec F S1x1x2048x1024 .f32) (s0 s1 : Vec F S2048x1024 .bf16)
    (hc0 : ¬fills T0 i) (hc2 : ¬used T1 i) (hc3 : spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

end Cert.MoeUpIdeal.Hand

end
-- ==== Proof.MoeUpIdealFacts.lean ====
/-
  The experts' first products with the SwiGLU: the frame. Before a point that is no first of a run the scratches hold the
  cast blocks of the point before; where the body does not fill them again, its tile's expert is the tile before's, so
  these are the point's own blocks. From this every point's output block is known, and the run ends with the arguments as
  they were.
-/
module

public import proofs.«01_k».proof.Proof.MoeUpIdealRuns
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeUpIdeal.Hand

open Cert.MoeUpIdeal Cert.MoeUpIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]

/-! ## The tables' words -/

theorem off1_eq : ∀ i : grid0.Coords, k0_off1 i 0 = (i 1).val := by decide +kernel
theorem off2_eq : ∀ i : grid0.Coords, k0_off2 i 0 = (i 1).val - 1 := by decide +kernel
/-- The row tile and the column block of a point. -/
theorem crd_eq : ∀ t : Fin grid0.N, (grid0.coords t 0).val = t.val / 80 ∧ (grid0.coords t 1).val = t.val % 80 := by decide +kernel
theorem eq_zero : ∀ i : Fin 80, (Scalar.cmpi .eq (BitVec.ofNat 32 i.val) 0#32 = 1#1) ↔ i.val = 0 := by decide +kernel

theorem tile_lt (i : grid0.Coords) : (i 1).val < 80 := (i 1).isLt

theorem wCur_eq (T0 : S80.Idx → Elt F .i32) (i : grid0.Coords) : wCur T0 i = T0 (ix1 ⟨(i 1).val, tile_lt i⟩) :=
  congrArg T0 (funext fun a => Fin.ext (by
    match a with
    | ⟨0, _⟩ => show k0_off1 i 0 + 1 * 0 = (i 1).val; rw [off1_eq]; rfl))
theorem wPrev_eq (T0 : S80.Idx → Elt F .i32) (i : grid0.Coords) :
    wPrev T0 i = T0 (ix1 ⟨(i 1).val - 1, Nat.lt_of_le_of_lt (Nat.sub_le _ _) (tile_lt i)⟩) :=
  congrArg T0 (funext fun a => Fin.ext (by
    match a with
    | ⟨0, _⟩ => show k0_off2 i 0 + 1 * 0 = (i 1).val - 1; rw [off2_eq]; rfl))
theorem wUsed_eq (T1 : S1.Idx → Elt F .i32) : wUsed T1 = T1 (ix1 0) :=
  congrArg T1 (funext fun a => Fin.ext (by match a with | ⟨0, _⟩ => rfl))

theorem bit_ne (b : BitVec 1) : (Scalar.cmpi .ne (Scalar.extui b) 0#32 = 1#1) ↔ b = 1#1 := by
  revert b; decide

theorem used_iff (T1 : S1.Idx → Elt F .i32) (i : grid0.Coords) :
    used T1 i ↔ (BitVec.ofNat 32 (i 1).val).slt (wUsed T1) = true := by
  unfold used k0_cond2; dsimp only
  rw [bit_ne]
  unfold Scalar.cmpi IntOp.cmpi
  dsimp only
  cases (BitVec.ofNat 32 (i 1).val).slt (wUsed T1) <;> decide
theorem spare_iff (T1 : S1.Idx → Elt F .i32) (i : grid0.Coords) : spare T1 i ↔ ¬used T1 i := by
  rw [used_iff]
  unfold spare k0_cond3; dsimp only
  rw [bit_ne]
  unfold Scalar.cmpi IntOp.cmpi
  dsimp only
  rw [show (wUsed T1).sle (BitVec.ofNat 32 (i 1).val) = !(BitVec.ofNat 32 (i 1).val).slt (wUsed T1) from BitVec.sle_eq_not_slt]
  cases (BitVec.ofNat 32 (i 1).val).slt (wUsed T1) <;> decide

/-- Where the scratches are kept the tile is not the first, and its expert is the tile before's. -/
theorem kept (T0 : S80.Idx → Elt F .i32) (i : grid0.Coords) (h : ¬fills T0 i) : (i 1).val ≠ 0 ∧ wCur T0 i = wPrev T0 i := by
  rw [fills, bit_ne] at h
  have hor : ∀ x y : BitVec 1, ¬Scalar.ori x y = 1#1 → ¬x = 1#1 ∧ ¬y = 1#1 := by decide
  obtain ⟨h1, h2⟩ := hor _ _ h
  refine ⟨fun e => h1 ((eq_zero ⟨(i 1).val, tile_lt i⟩).mpr e), ?_⟩
  by_contra hne
  refine h2 ?_
  unfold Scalar.cmpi IntOp.cmpi
  dsimp only
  rw [show (wCur T0 i != wPrev T0 i) = true from by simpa using hne]
  rfl

/-! ## The tables at launch and the pipeline at them -/

variable (m : (ℓ : Loc nD τ sig) → Buf (Elt F) ℓ) (ρ : Dev nD → PrngReg)

/-- The tables at launch. -/
def tbl : pre0.Contents (Elt F) := fun j => m (((0 : Dev nD) : Thread nD τ).loc (pre0.ref j))
abbrev T0 : S80.Idx → Elt F .i32 := tbl m 0
abbrev T1 : S1.Idx → Elt F .i32 := tbl m 1

variable (ok : ok0 (tbl m))

def adm : (pcfg0 (F := F)).Adm := ⟨tbl m, ok⟩
abbrev cfgA : Cfg sig Λ₀ := cfg0 (F := F) (adm m ok)
abbrev pcs : Fin 1 → Cfg sig Λ₀ := Pipeline.pin (pcfgs (F := F)) fun _ => adm m ok

/-- Point `t`'s coordinates. -/
abbrev crd (t : Fin (cfgA m ok).N) : grid0.Coords := (cfgA m ok).grid.coords t

abbrev ms0_0 (t : Fin (cfgA m ok).N) : Memref sig .tc .vmem S512x2048 .bf16 := spec0_0.stage ((cfgA m ok).slots t (0 : Fin 4))
abbrev hs0_0 (t : Fin (cfgA m ok).N) : (ms0_0 m ok t).IsWhole := hstage0_0 (((cfgA m ok).slots t (0 : Fin 4)).cast nbuf0_0)
abbrev ms0_1 (t : Fin (cfgA m ok).N) : Memref sig .tc .vmem S1x1x2048x1024 .f32 := spec0_1.stage ((cfgA m ok).slots t (1 : Fin 4))
abbrev hs0_1 (t : Fin (cfgA m ok).N) : (ms0_1 m ok t).IsWhole := hstage0_1 (((cfgA m ok).slots t (1 : Fin 4)).cast nbuf0_1)
abbrev ms0_2 (t : Fin (cfgA m ok).N) : Memref sig .tc .vmem S1x1x2048x1024 .f32 := spec0_2.stage ((cfgA m ok).slots t (2 : Fin 4))
abbrev hs0_2 (t : Fin (cfgA m ok).N) : (ms0_2 m ok t).IsWhole := hstage0_2 (((cfgA m ok).slots t (2 : Fin 4)).cast nbuf0_2)
abbrev ms0_3 (t : Fin (cfgA m ok).N) : Memref sig .tc .vmem S512x1024 .bf16 := spec0_3.stage ((cfgA m ok).slots t (3 : Fin 4))
abbrev hs0_3 (t : Fin (cfgA m ok).N) : (ms0_3 m ok t).IsWhole := hstage0_3 (((cfgA m ok).slots t (3 : Fin 4)).cast nbuf0_3)

/-- Window `w`'s block at point `t`, read off its array at launch. -/
def iblk (c : Dev nD) (w : Fin (cfgA m ok).W) (t : Fin (cfgA m ok).N) : (((cfgA m ok).win w).xblock (crd m ok t)).Idx → Elt F ((cfgA m ok).win w).elt :=
  (((cfgA m ok).win w).blk t).view.read (Elt F) (m (((cfgA m ok).win w).arr.view.loc (c : Thread nD τ)))

/-- The expert of a tile. -/
def expert (n : Fin 80) : ℕ := BitVec.toNat (T0 m (ix1 n))

theorem index_w1 (i : grid0.Coords) :
    cc0_transform_1 k0_off1_inb numel1_S1 (tbl m) i = ![0, expert m ⟨(i 1).val, tile_lt i⟩, 0, (i 0).val] := by
  have h4 : (i 0).val < 4 := (i 0).isLt
  have e : cc0_transform_1 k0_off1_inb numel1_S1 (tbl m) i = ![0, BitVec.toNat (wCur (T0 m) i), 0, (BitVec.ofNat 32 (i 0).val).toNat] := rfl
  rw [e, wCur_eq, BitVec.toNat_ofNat, Nat.mod_eq_of_lt (by omega)]
  rfl
theorem index_w2 (i : grid0.Coords) :
    cc0_transform_2 k0_off1_inb numel1_S1 (tbl m) i = ![0, expert m ⟨(i 1).val, tile_lt i⟩, 0, (i 0).val] := index_w1 m i

include ok in
theorem expert_lt (n : Fin 80) : expert m n < 8 := by
  obtain ⟨h, -⟩ := ok.1 (fun a => match a with | ⟨0, _⟩ => (0 : Fin 4) | ⟨1, _⟩ => n)
  have h1 := h 1
  rw [index_w1] at h1
  have : (expert m n + 1) * 1 ≤ 8 := h1
  omega

/-- The tile and the first column of a point. -/
def tile (t : Fin (cfgA m ok).N) : Fin 80 := ⟨t.val % 80, Nat.mod_lt _ (by omega)⟩
def colW (t : Fin (cfgA m ok).N) (q : Fin 1024) : Fin 4096 := ⟨t.val / 80 * 1024 + q.val, by
  have hN : (cfgA m ok).N = 320 := N_0
  have := t.isLt; have := q.isLt; omega⟩

theorem crd_eq' (t : Fin (cfgA m ok).N) : (crd m ok t 0).val = t.val / 80 ∧ (crd m ok t 1).val = t.val % 80 := crd_eq t

theorem idx1 (t : Fin (cfgA m ok).N) : ((cfgA m ok).win (1 : Fin 4)).index t = ![0, expert m (tile m ok t), 0, t.val / 80] := by
  have e : ((cfgA m ok).win (1 : Fin 4)).index t = cc0_transform_1 k0_off1_inb numel1_S1 (tbl m) (crd m ok t) := rfl
  rw [e, index_w1]
  obtain ⟨a, b⟩ := crd_eq' m ok t
  have h : (⟨(crd m ok t 1).val, tile_lt _⟩ : Fin 80) = tile m ok t := Fin.ext b
  rw [h, a]
theorem idx2 (t : Fin (cfgA m ok).N) : ((cfgA m ok).win (2 : Fin 4)).index t = ![0, expert m (tile m ok t), 0, t.val / 80] := idx1 m ok t

/-- The block of `w1` a point stages, by coordinates: its tile's expert's. -/
theorem ublk_apply (c : Dev nD) (t : Fin (cfgA m ok).N) (k : Fin 2048) (q : Fin 1024) :
    iblk m ok c (1 : Fin 4) t (ix4 0 0 k q : S1x1x2048x1024.Idx)
      = m ((c : Thread nD τ).loc main_arg3) (ix4 0 ⟨expert m (tile m ok t), expert_lt m ok _⟩ k (colW m ok t q)) := by
  have b := idx1 m ok t
  refine congrArg (m ((c : Thread nD τ).loc main_arg3)) (funext fun a => Fin.ext ?_)
  match a with
  | ⟨0, _⟩ => show ((cfgA m ok).win (1 : Fin 4)).index t (0 : Fin 4) * 1 + 1 * 0 = 0; rw [b]; rfl
  | ⟨1, _⟩ => show ((cfgA m ok).win (1 : Fin 4)).index t (1 : Fin 4) * 1 + 1 * 0 = expert m (tile m ok t); rw [b]; show expert m (tile m ok t) * 1 + 1 * 0 = _; omega
  | ⟨2, _⟩ => show ((cfgA m ok).win (1 : Fin 4)).index t (2 : Fin 4) * 2048 + 1 * k.val = k.val; rw [b]; show 0 * 2048 + 1 * k.val = _; omega
  | ⟨3, _⟩ => show ((cfgA m ok).win (1 : Fin 4)).index t (3 : Fin 4) * 1024 + 1 * q.val = t.val / 80 * 1024 + q.val; rw [b]; show t.val / 80 * 1024 + 1 * q.val = _; omega
/-- … and of `w3`. -/
theorem vblk_apply (c : Dev nD) (t : Fin (cfgA m ok).N) (k : Fin 2048) (q : Fin 1024) :
    iblk m ok c (2 : Fin 4) t (ix4 0 0 k q : S1x1x2048x1024.Idx)
      = m ((c : Thread nD τ).loc main_arg4) (ix4 0 ⟨expert m (tile m ok t), expert_lt m ok _⟩ k (colW m ok t q)) := by
  have b := idx2 m ok t
  refine congrArg (m ((c : Thread nD τ).loc main_arg4)) (funext fun a => Fin.ext ?_)
  match a with
  | ⟨0, _⟩ => show ((cfgA m ok).win (2 : Fin 4)).index t (0 : Fin 4) * 1 + 1 * 0 = 0; rw [b]; rfl
  | ⟨1, _⟩ => show ((cfgA m ok).win (2 : Fin 4)).index t (1 : Fin 4) * 1 + 1 * 0 = expert m (tile m ok t); rw [b]; show expert m (tile m ok t) * 1 + 1 * 0 = _; omega
  | ⟨2, _⟩ => show ((cfgA m ok).win (2 : Fin 4)).index t (2 : Fin 4) * 2048 + 1 * k.val = k.val; rw [b]; show 0 * 2048 + 1 * k.val = _; omega
  | ⟨3, _⟩ => show ((cfgA m ok).win (2 : Fin 4)).index t (3 : Fin 4) * 1024 + 1 * q.val = t.val / 80 * 1024 + q.val; rw [b]; show t.val / 80 * 1024 + 1 * q.val = _; omega

/-- The point before. -/
abbrev pr (t : Fin (cfgA m ok).N) : Fin (cfgA m ok).N := ⟨t.val - 1, Nat.lt_of_le_of_lt (Nat.sub_le _ _) t.isLt⟩

/-- Where the scratches are kept, the blocks are the point before's. -/
theorem blk_kept (c : Dev nD) (t : Fin (cfgA m ok).N) (h : ¬fills (T0 m) (crd m ok t)) :
    t.val ≠ 0 ∧ iblk m ok c (1 : Fin 4) (pr m ok t) = iblk m ok c (1 : Fin 4) t ∧ iblk m ok c (2 : Fin 4) (pr m ok t) = iblk m ok c (2 : Fin 4) t := by
  obtain ⟨h0, hw⟩ := kept _ _ h
  rw [wCur_eq, wPrev_eq] at hw
  obtain ⟨-, b⟩ := crd_eq' m ok t
  rw [b] at h0
  have hx : expert m (tile m ok (pr m ok t)) = expert m (tile m ok t) := by
    unfold expert
    have e1 : (⟨(crd m ok t 1).val, tile_lt _⟩ : Fin 80) = tile m ok t := Fin.ext b
    have e2 : (⟨(crd m ok t 1).val - 1, Nat.lt_of_le_of_lt (Nat.sub_le _ _) (tile_lt _)⟩ : Fin 80) = tile m ok (pr m ok t) := Fin.ext (by
      show (crd m ok t 1).val - 1 = (t.val - 1) % 80
      rw [b]; omega)
    rw [e1, e2] at hw
    exact congrArg BitVec.toNat hw.symm
  have hc : ∀ q, colW m ok (pr m ok t) q = colW m ok t q := fun q => Fin.ext (by
    show (t.val - 1) / 80 * 1024 + q.val = t.val / 80 * 1024 + q.val
    omega)
  have hf : (⟨expert m (tile m ok (pr m ok t)), expert_lt m ok _⟩ : Fin 8) = ⟨expert m (tile m ok t), expert_lt m ok _⟩ := Fin.ext hx
  refine ⟨by omega, ?_, ?_⟩
  all_goals
    funext y
    obtain ⟨z, z', k, q, rfl⟩ : ∃ (z z' : Fin 1) (k : Fin 2048) (q : Fin 1024), y = (ix4 z z' k q : S1x1x2048x1024.Idx) :=
      ⟨y 0, y 1, y 2, y 3, by funext a; fin_cases a <;> rfl⟩
    obtain rfl : z = 0 := Subsingleton.elim _ _
    obtain rfl : z' = 0 := Subsingleton.elim _ _
    first
      | exact (ublk_apply m ok c (pr m ok t) k q).trans (by rw [hf, hc]; exact (ublk_apply m ok c t k q).symm)
      | exact (vblk_apply m ok c (pr m ok t) k q).trans (by rw [hf, hc]; exact (vblk_apply m ok c t k q).symm)

/-! ## The pipeline's proof data -/

/-- What a point leaves in the output's staging buffer: the gated products where the tile is in use, else zeros. -/
def outv (c : Dev nD) (t : Fin (cfgA m ok).N) : Vec F S512x1024 .bf16 :=
  if used (T1 m) (crd m ok t) then
    k0_pay3 (iblk m ok c (0 : Fin 4) t) (k0_pay1 (iblk m ok c (1 : Fin 4) t)) (k0_pay2 (iblk m ok c (2 : Fin 4) t))
  else k0_pay4

/-- What the scratches hold before position `n`, past the first point. -/
def held0 (c : Dev nD) (n : ℕ) (b : Buf (Elt F) ((c : Thread nD τ).loc cc0_scratch0)) : Prop :=
  ∀ (k : ℕ) (h : k < (cfgA m ok).N), n = k + 1 → sc0.view.read (Elt F) b = k0_pay1 (iblk m ok c (1 : Fin 4) ⟨k, h⟩)
def held1 (c : Dev nD) (n : ℕ) (b : Buf (Elt F) ((c : Thread nD τ).loc cc0_scratch1)) : Prop :=
  ∀ (k : ℕ) (h : k < (cfgA m ok).N), n = k + 1 → sc1.view.read (Elt F) b = k0_pay2 (iblk m ok c (2 : Fin 4) ⟨k, h⟩)

/-- The invariant before position `n`. -/
def Phi (c : Dev nD) (n : ℕ) : sProp (MM F) :=
  iprop((∃ a, ⌜held0 m ok c n a⌝ ∗ (sc0.view.loc (c : Thread nD τ) ↦{fullShare} a)) ∗ (∃ a, ⌜held1 m ok c n a⌝ ∗ (sc1.view.loc (c : Thread nD τ) ↦{fullShare} a))
    ∗ (tb0.view.loc (c : Thread nD τ) ↦{fullShare.right} T0 m) ∗ (tb1.view.loc (c : Thread nD τ) ↦{fullShare.right} T1 m))

def dats (_ : Fin 1) (c : Dev nD) : Dat τ (Elt F) Unit ℕ (UR sig nD τ) ℕ (cfgA m ok) c where
  A w := m (((cfgA m ok).win w).arr.view.loc (c : Thread nD τ))
  after w t := match w with
    | ⟨0, _⟩ => iblk m ok c (0 : Fin 4) t
    | ⟨1, _⟩ => iblk m ok c (1 : Fin 4) t
    | ⟨2, _⟩ => iblk m ok c (2 : Fin 4) t
    | ⟨3, _⟩ => outv m ok c t
  Φ t := Phi m ok c t.val
  q _ := fullShare
  owed _ := 0

theorem phi_eq (c : Dev nD) (t : Fin ((cfgA m ok).N + 1)) : (dats m ok 0 c).Φ t = Phi m ok c t.val := rfl

theorem after0_0 (c : Dev nD) (t : Fin (cfgA m ok).N) : (dats m ok 0 c).after (0 : Fin 4) t = iblk m ok c (0 : Fin 4) t := rfl
theorem after0_1 (c : Dev nD) (t : Fin (cfgA m ok).N) : (dats m ok 0 c).after (1 : Fin 4) t = iblk m ok c (1 : Fin 4) t := rfl
theorem after0_2 (c : Dev nD) (t : Fin (cfgA m ok).N) : (dats m ok 0 c).after (2 : Fin 4) t = iblk m ok c (2 : Fin 4) t := rfl
theorem after0_3 (c : Dev nD) (t : Fin (cfgA m ok).N) : (dats m ok 0 c).after (3 : Fin 4) t = outv m ok c t := rfl

theorem before0_0 (c : Dev nD) (t : Fin (cfgA m ok).N) (d) : (dats m ok 0 c).before (0 : Fin 4) t d = iblk m ok c (0 : Fin 4) t :=
  ((dats m ok 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m ok).N) (d) : (dats m ok 0 c).before (1 : Fin 4) t d = iblk m ok c (1 : Fin 4) t :=
  ((dats m ok 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m ok).N) (d) : (dats m ok 0 c).before (2 : Fin 4) t d = iblk m ok c (2 : Fin 4) t :=
  ((dats m ok 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Every point stores the output: a tile is in use or not. -/
theorem idle3 (t : Fin (cfgA m ok).N) : (cfgA m ok).idle (3 : Fin 4) ((cfgA m ok).grid.coords t) = false := by
  have e : (cfgA m ok).idle (3 : Fin 4) ((cfgA m ok).grid.coords t)
      = (!(k0_cond2 (crd m ok t) (wUsed (T1 m)) == 1#1) && !(k0_cond3 (crd m ok t) (wUsed (T1 m)) == 1#1)) := by
    rw [wUsed_eq]
    show (!(k0_cond2 (crd m ok t) ((tbl m).atD 1 ![0]) == 1#1) && !(k0_cond3 (crd m ok t) ((tbl m).atD 1 ![0]) == 1#1)) = _
    have h : (tbl m).atD 1 ![0] = T1 m (ix1 0) := by
      have hb : ∀ a : Fin 1, (![0] : Fin 1 → ℕ) a + 1 ≤ S1.size a := by decide
      refine (dif_pos hb).trans ?_
      exact congrArg (T1 m) (funext fun a => Fin.ext (by match a with | ⟨0, _⟩ => rfl))
    rw [h]
  rw [e]
  by_cases hu : used (T1 m) (crd m ok t)
  · rw [show k0_cond2 (crd m ok t) (wUsed (T1 m)) = 1#1 from hu]; rfl
  · rw [show k0_cond3 (crd m ok t) (wUsed (T1 m)) = 1#1 from (spare_iff _ _).mpr hu]; exact Bool.and_false _

end Cert.MoeUpIdeal.Hand

end
-- ==== Proof.MoeUpIdealFrame.lean ====
/-
  The experts' first products with the SwiGLU: the body at a point from its four runs, and the launch.
-/
module

public import proofs.«01_k».proof.Proof.MoeUpIdealFacts
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeUpIdeal.Hand

open Cert.MoeUpIdeal Cert.MoeUpIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]
variable (m : (ℓ : Loc nD τ sig) → Buf (Elt F) ℓ) (ρ : Dev nD → PrngReg) (ok : ok0 (tbl m))

/-! ## The body at a point -/

abbrev bodyAt0 (t : Fin (cfgA m ok).N) : Prog (TpuEff nD τ sig (Elt F) Λ₀ .tc) PUnit :=
  cc0_moe_up (crd m ok t) (Memref.whole main_arg0) (Memref.isWhole_whole _) (Memref.whole main_arg1) (Memref.isWhole_whole _) (ms0_0 m ok t) (hs0_0 m ok t) (ms0_1 m ok t) (hs0_1 m ok t) (ms0_2 m ok t) (hs0_2 m ok t) (ms0_3 m ok t) (hs0_3 m ok t) (Memref.whole cc0_scratch0) (Memref.isWhole_whole _) (Memref.whole cc0_scratch1) (Memref.isWhole_whole _)

set_option maxHeartbeats 4000000 in
theorem sound_body (c : Dev nD) (t : Fin (cfgA m ok).N) :
    iprop((dats m ok 0 c).Φ t.castSucc ∗ (dats m ok 0 c).owesAt () t.castSucc
        ∗ (∃ d, owns (c : Thread nD τ) (ms0_0 m ok t) fullShare ((dats m ok 0 c).before (0 : Fin 4) t d))
        ∗ (∃ d, owns (c : Thread nD τ) (ms0_1 m ok t) fullShare ((dats m ok 0 c).before (1 : Fin 4) t d))
        ∗ (∃ d, owns (c : Thread nD τ) (ms0_2 m ok t) fullShare ((dats m ok 0 c).before (2 : Fin 4) t d))
        ∗ (∃ d, owns (c : Thread nD τ) (ms0_3 m ok t) fullShare ((dats m ok 0 c).before (3 : Fin 4) t d)))
      ⊢ wp frame (wpE (defs₀ (F := F)) Variants.none c none) Set.univ (bodyAt0 m ok t) fun _ =>
          iprop((dats m ok 0 c).Φ t.succ ∗ (dats m ok 0 c).owesAt () t.succ
            ∗ bigSep Finset.univ fun w : Fin (cfgA m ok).W =>
                match (cfgA m ok).idle w ((cfgA m ok).grid.coords t) with
                | true =>
                  match ((cfgA m ok).win w).flush t with
                  | false => iprop(∃ d, owns (c : Thread nD τ) (((cfgA m ok).win w).stage ((cfgA m ok).slots t w)) fullShare ((dats m ok 0 c).before w t d))
                  | true => owns (c : Thread nD τ) (((cfgA m ok).win w).stage ((cfgA m ok).slots t w)) fullShare ((dats m ok 0 c).after w t)
                | false => owns (c : Thread nD τ) (((cfgA m ok).win w).stage ((cfgA m ok).slots t w)) fullShare ((dats m ok 0 c).after w t)) := by
  rw [bigSep_W0]
  have i3 := idle3 m ok t
  rewrite [i3]
  simp only [before0_0, before0_1, before0_2, after0_0, after0_1, after0_2, after0_3]
  rewrite [phi_eq, phi_eq, Fin.val_succ, Fin.val_castSucc, show (dats m ok 0 c).owesAt () t.succ = (dats m ok 0 c).owesAt () t.castSucc from rfl]
  unfold Phi
  by_cases hu : used (T1 m) (crd m ok t)
  · have hs : ¬spare (T1 m) (crd m ok t) := fun h => (spare_iff _ _).mp h hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_A c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_B c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
  · have hs : spare (T1 m) (crd m ok t) := (spare_iff _ _).mpr hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_C c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_D c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
theorem body_obligation (c : Dev nD) : BodyObligation (dats m ok 0 c) (defs₀ (F := F)) Variants.none () Set.univ := fun t => by
  rw [bigSep_W0]
  exact sound_body m ok c t

/-! ## The launch -/

def u₀ : UR sig nD τ :=
  initOf (Pipeline.cells (pcs m ok) ((launch0 (F := F)).cellOf_inj fun _ => adm m ok))
    (Pipeline.launchToks (pcs m ok) ((launch0 (F := F)).cellOf_inj fun _ => adm m ok))

theorem share_eq (c : Dev nD) (w : Fin (cfgA m ok).W) : (dats m ok 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m ok).1 ∗ Pipeline.scopedRest spec0 c) ⊢ (dats m ok 0 c).Φ 0 := by
  rw [prefHeld_eq, scopedRest0_eq, show (dats m ok 0 c).Φ 0 = Phi m ok c 0 from rfl]
  unfold Phi
  iintro ⟨-, ⟨HT0, HT1⟩, ⟨%a0, HS0⟩, ⟨%a1, HS1⟩⟩
  isplitl [HS0]
  · iexists a0; isplitr; swap
    · iexact HS0
    · ipureintro; intro k h e; exact absurd e (by omega)
  isplitl [HS1]
  · iexists a1; isplitr; swap
    · iexact HS1
    · ipureintro; intro k h e; exact absurd e (by omega)
  isplitl [HT0]
  · iexact HT0
  iexact HT1

theorem phiN_exit (c : Dev nD) : (dats m ok 0 c).Φ (Fin.last (cfgA m ok).N) ⊢ iprop(BI.emp ∗ Pipeline.scopedRest spec0 c) := by
  rw [scopedRest0_eq, show (dats m ok 0 c).Φ (Fin.last (cfgA m ok).N) = Phi m ok c (cfgA m ok).N from rfl]
  unfold Phi
  iintro ⟨⟨%a0, -, HS0⟩, ⟨%a1, -, HS1⟩, -, -⟩
  isplitr; · iempintro
  isplitl [HS0]
  · iexists a0; iexact HS0
  iexists a1; iexact HS1

/-- Every array at what its blocks make it, every table as it was. -/
def QC : PUnit × MemSt nD τ sig (Elt F) → Prop := fun r =>
  ∀ c : Dev nD, (∀ w : Fin (cfgA m ok).W, r.2.mem (((cfgA m ok).win w).arr.view.loc (c : Thread nD τ)) = (dats m ok 0 c).arrAt w (cfgA m ok).N)
    ∧ ∀ j, r.2.mem ((c : Thread nD τ).loc (pre0.ref j)) = (adm m ok).1 j

theorem V_pre (c : Dev nD) (j : Fin 2) : m ((c : Thread nD τ).loc (pre0.ref j)) = (adm m ok).1 j := by
  obtain rfl : c = 0 := Subsingleton.elim _ _
  rfl

set_option backward.isDefEq.respectTransparency.types false in
set_option maxHeartbeats 4000000 in
theorem run_main_quiescent : θ_run (defs (F := F)) (onTc (τ := τ) (main (F := F))) (s₀ m ρ) (fun r => QC m ok r ∧ r.2.sem = fun _ => 0) :=
  Pipeline.θ_run_region_noSem_pf_quiescent pcfgs (fun _ => adm m ok) (dats m ok) () ((launch0 (F := F)).cellOf_inj fun _ => adm m ok) (0 : Fin 1)
    (launch0 (F := F)).win.to₀ (launch0 (F := F)).pre (emb₁ : Emb (UR sig nD τ) (MM F)) defs₀ Variants.none m ρ main
    (hbody := fun c => (body_obligation m ok c).loose) (hne := (launch0 (F := F)).block_pos)
    (harr := (launch0 (F := F)).arr_whole) (hstage := (launch0 (F := F)).stage_whole) (howed := fun _ _ => rfl)
    (u₀ := u₀ m ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m ok) (dats m ok) 0 (launch0 (F := F)).win.arr_inj c (launch0 (F := F)).arr_whole
      (share_eq m ok c) _ _ fun _ => rfl)
    (hpf := V_pre m ok)
    (X := fun _ => iprop(emp)) (Y := fun _ => iprop(emp)) (Z := fun _ => iprop(emp))
    (hX := fun c => by rw [unscopedRestP0_eq]; iintro -; isplitr <;> iempintro)
    (hin := phi0_intro m ok)
    (hout := phiN_exit m ok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run read: the result array at what the points' blocks make it, the arguments unchanged. -/
theorem run_blocks :
    θ_run (defs (F := F)) (onTc (τ := τ) (main (F := F))) ⟨m, fun _ => 0, ρ⟩ (fun r => (∀ c : Dev nD,
      r.2.mem ((c.tc : Thread nD τ).loc main_v0) = (dats m ok 0 c).arrAt (3 : Fin 4) (cfgA m ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (3 : Fin 4), ((h.1 c).2 0).trans (V_pre m ok c 0).symm, ((h.1 c).2 1).trans (V_pre m ok c 1).symm,
    ((h.1 c).1 (0 : Fin 4)).trans ((dats m ok 0 c).arrAt_in (0 : Fin 4) rfl _), ((h.1 c).1 (1 : Fin 4)).trans ((dats m ok 0 c).arrAt_in (1 : Fin 4) rfl _),
    ((h.1 c).1 (2 : Fin 4)).trans ((dats m ok 0 c).arrAt_in (2 : Fin 4) rfl _)⟩, h.2⟩) (run_main_quiescent m ρ ok)

include ok in
/-- The frame. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_blocks m ρ ok)

end Cert.MoeUpIdeal.Hand

end
-- ==== Proof.MoeUpOk.lean ====
/-
  The experts' first products: every row tile naming an expert, the weights' blocks the tiles' words place lie inside the
  weights — what the launch takes of its tables; and the frame of the program over bits, whose text is the other's.
-/
module

public import proofs.«01_k».proof.Defs
public import proofs.«01_k».proof.Proof.MoeUpIdealFrame
public import proofs.«01_k».proof.Proof.Gen.MoeUp
public import proofs.«01_k».proof.Proof.Gen.Pre_tiles_named

@[expose] public section

set_option maxRecDepth 16384

noncomputable section

namespace Cert.MoeUpOk

open Idealize.ShloMosaic

/-- A word the precondition admits is a count below eight. -/
theorem word_lt (a : BitVec 32) (h : IntOp.andi (IntOp.cmpi .sge a 0#32) (IntOp.cmpi .slt a 8#32) = 1#1) : a.toNat < 8 := by
  have h' : (BitVec.ofBool ((0#32).sle a) &&& BitVec.ofBool (a.slt 8#32)) = 1#1 := h
  cases h1 : (0#32).sle a <;> cases h2 : a.slt 8#32 <;> rw [h1, h2] at h'
  · exact absurd h' (by decide)
  · exact absurd h' (by decide)
  · exact absurd h' (by decide)
  · simp only [BitVec.sle, BitVec.slt, decide_eq_true_eq] at h1 h2
    rw [BitVec.toInt_eq_toNat_cond] at h1 h2
    rw [BitVec.toInt_eq_toNat_cond] at h1 h2
    simp only [BitVec.toNat_ofNat] at h1 h2
    have := a.isLt
    split at h1 <;> omega

end Cert.MoeUpOk

namespace Cert.MoeUpIdeal.Hand

open Cert.MoeUpIdeal Cert.MoeUpIdeal.Gen Idealize.ShloMosaic Idealize.ShloMosaic.TcCoe Idealize.SL.Sem
open Idealize.ShloMosaic.ValueIdx (ix1)

/-- The side condition, of a table whose words are below eight. -/
theorem ok_of_lt {F : FTy → Type} [FloatOps F] (m : (ℓ : Loc nD τ sig) → Buf (Elt F) ℓ) (h : ∀ n : Fin 80, expert m n < 8) : ok0 (tbl m) := by
  have b : ∀ (i : grid0.Coords) (a : Fin 4),
      ((![0, expert m ⟨(i 1).val, tile_lt i⟩, 0, (i 0).val] : Fin 4 → ℕ) a + 1) * S1x1x2048x1024.size a ≤ S2x8x2048x4096.size a := fun i a => by
    have h4 : (i 0).val < 4 := (i 0).isLt
    have h8 := h ⟨(i 1).val, tile_lt i⟩
    match a with
    | ⟨0, _⟩ => show (0 + 1) * 1 ≤ 2; omega
    | ⟨1, _⟩ => show (expert m ⟨(i 1).val, tile_lt i⟩ + 1) * 1 ≤ 8; omega
    | ⟨2, _⟩ => show (0 + 1) * 2048 ≤ 2048; omega
    | ⟨3, _⟩ => show ((i 0).val + 1) * 1024 ≤ 4096; omega
  exact ⟨fun i => ⟨by rw [index_w1]; exact b i, .inl rfl⟩, fun i => ⟨by rw [index_w2]; exact b i, .inl rfl⟩⟩

/-- The side condition, under the precondition. -/
theorem ok_of_pre (m : (ℓ : Loc nD τ sig) → Buf (Elt Ideal) ℓ) (h : Cert.Pre_MoeUpIdeal m) : ok0 (tbl m) :=
  ok_of_lt m fun n => Cert.MoeUpOk.word_lt _ (congrFun (h 0) (ix1 n))

/-- The frame. -/
theorem frame_ideal : Cert.quiescent_MoeUpIdeal := fun m ρ h => frame (F := Ideal) m ρ (ok_of_pre m h)

/-- The two programs' bodies are one. -/
theorem defs₀_same {F : FTy → Type} [FloatOps F] : Cert.MoeUpIdeal.defs₀ (F := F) = Cert.MoeUp.defs₀ (F := F) := by
  unfold Cert.MoeUpIdeal.defs₀ Cert.MoeUp.defs₀
  refine congrArg Defs.onTc (funext fun ℓ => funext fun a => ?_)
  match ℓ, a with
  | 0, (t, s) => rfl
  | ⟨_ + 1, h⟩, _ => exact absurd h (Nat.not_lt.2 (Nat.le_add_left _ _))

theorem defs_same {F : FTy → Type} [FloatOps F] : Cert.MoeUpIdeal.defs (F := F) = Cert.MoeUp.defs (F := F) :=
  congrArg (Pipeline.defs Cert.MoeUpIdeal.pcfgs) defs₀_same

set_option maxHeartbeats 4000000 in
/-- The frame of the program over bits. -/
theorem frame_kernel : Cert.quiescent_MoeUp := fun m ρ h => by
  have q := frame (F := Bits) m ρ (ok_of_lt (F := Bits) m fun n => Cert.MoeUpOk.word_lt _ (congrFun (h 0) (ix1 n)))
  rw [defs_same] at q
  exact q

end Cert.MoeUpIdeal.Hand

end
-- ==== Proof.MoeUpValue.lean ====
/-
  The experts' first products with the SwiGLU: the result array. A row tile in use holds `silu a · b` of its rows' products
  with its own expert's `w1` and `w3`, a spare tile zeros.
-/
module

public import proofs.«01_k».proof.Proof.MoeUpIdealFrame
public import Idealize.ShloMosaic.Lib.IdealHost

@[expose] public section

set_option maxRecDepth 16384

noncomputable section

namespace Cert.MoeUpIdeal.RefValue

open Cert.MoeUpIdeal Cert.MoeUpIdeal.Gen Cert.MoeUpIdeal.Hand Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (ok : ok0 (tbl m))

/-- Row `r` of the rows times column `j` of expert `e`'s weight in layer 0. -/
def prod (h : FVec Ideal S40960x2048 .bf16) (w : FVec Ideal S2x8x2048x4096 .f32) (e : Fin 8) (r : Fin 40960) (j : Fin 4096) : EReal :=
  ∑ k : Fin 2048, h (ix2 r k) * w (ix4 0 e k j)

/-- The gated product: `silu a · b`. -/
def gated (a b : EReal) : EReal := a * Ideal.logistic a * b

/-- The tile of a row. -/
def rowTile (r : Fin 40960) : Fin 80 := ⟨r.val / 512, by have := r.isLt; omega⟩

/-- A tile is in use. -/
def inUse (n1 : S1.Idx → BitVec 32) (n : Fin 80) : Bool := (BitVec.ofNat 32 n.val).slt (n1 (ix1 0))

/-- The expert a tile's word names. -/
def named (n : Fin 80) : Fin 8 := ⟨expert m n, expert_lt m ok n⟩

/-- The result array. -/
def G (c : Dev nD) : Buf (Elt Ideal) ((c : Thread nD τ).loc main_v0) := fun i =>
  if inUse (T1 m) (rowTile (i 0)) = true then
    gated (prod (m ((c : Thread nD τ).loc main_arg2)) (m ((c : Thread nD τ).loc main_arg3)) (named m ok (rowTile (i 0))) (i 0) (i 1))
      (prod (m ((c : Thread nD τ).loc main_arg2)) (m ((c : Thread nD τ).loc main_arg4)) (named m ok (rowTile (i 0))) (i 0) (i 1))
  else (0 : EReal)

/-- The stored block at an index, from its two products. -/
theorem pay_apply (x : FVec Ideal S512x2048 .bf16) (u v : FVec Ideal S2048x1024 .bf16) (y : S512x1024.Idx) :
    k0_pay3 (F := Ideal) x u v y
      = gated (FloatOps.matmul (F := Ideal) (φ₁ := .bf16) (φ₂ := .bf16) (DotDims.plain 512 2048 1024) none x u (constant _ .f32 0x00000000#32) y)
          (FloatOps.matmul (F := Ideal) (φ₁ := .bf16) (φ₂ := .bf16) (DotDims.plain 512 2048 1024) none x v (constant _ .f32 0x00000000#32) y) := by
  have h : ∀ a b : EReal, a * Ideal.div (Ideal.ofBits .f32 0x3F800000#32)
      (Ideal.ofBits .f32 0x3F800000#32 + Ideal.exp (Ideal.ofBits .f32 0x00000000#32 - a)) * b = gated a b := fun a b => by
    unfold gated Ideal.logistic
    rw [Ideal.ofBits_one_f32, show Ideal.ofBits .f32 0x00000000#32 = 0 by simp, zero_sub]
  exact h _ _

theorem pay4_apply (y : S512x1024.Idx) : k0_pay4 (F := Ideal) y = 0 := by
  show Ideal.ofBits .bf16 0x0000#16 = 0
  simp

theorem idx0 (t : Fin (cfgA m ok).N) : ((cfgA m ok).win (0 : Fin 4)).index t = ![t.val % 80, 0] := by
  obtain ⟨a, b⟩ := crd_eq' m ok t
  have e : ((cfgA m ok).win (0 : Fin 4)).index t = ![(BitVec.ofNat 32 (crd m ok t 1).val).toNat, 0] := rfl
  rw [e, b, BitVec.toNat_ofNat, Nat.mod_eq_of_lt (show t.val % 80 < 2 ^ 32 by omega)]
theorem idx3 (t : Fin (cfgA m ok).N) : ((cfgA m ok).win (3 : Fin 4)).index t = ![t.val % 80, t.val / 80] := by
  obtain ⟨a, b⟩ := crd_eq' m ok t
  have hN : (cfgA m ok).N = 320 := N_0
  have ht := t.isLt
  have e : ((cfgA m ok).win (3 : Fin 4)).index t = ![(BitVec.ofNat 32 (crd m ok t 1).val).toNat, (BitVec.ofNat 32 (crd m ok t 0).val).toNat] := rfl
  rw [e, a, b, BitVec.toNat_ofNat, BitVec.toNat_ofNat, Nat.mod_eq_of_lt (show t.val % 80 < 2 ^ 32 by omega), Nat.mod_eq_of_lt (show t.val / 80 < 2 ^ 32 by omega)]

/-- Every point writes its block back: the next point's is another. -/
theorem flush3 (t : Fin (cfgA m ok).N) : ((cfgA m ok).win (3 : Fin 4)).flush t = true := by
  have hN : (cfgA m ok).N = 320 := N_0
  unfold Pipeline.Window.flush
  have ho : ((cfgA m ok).win (3 : Fin 4)).isOut = true := rfl
  rw [ho, Bool.true_and, Bool.or_eq_true]
  by_cases hl : t.val + 1 = 320
  · exact .inl (decide_eq_true (hl.trans N_0.symm))
  · have ht : t.val + 1 < (cfgA m ok).N := by have := t.isLt; omega
    refine .inr (decide_eq_true ⟨ht, fun h => ?_⟩)
    have h0 := congrFun h (0 : Fin 2)
    rw [idx3, idx3] at h0
    have h0' : (t.val + 1) % 80 = t.val % 80 := h0
    omega

theorem used_eq (t : Fin (cfgA m ok).N) : used (T1 m) (crd m ok t) ↔ inUse (T1 m) (tile m ok t) = true := by
  rw [used_iff, wUsed_eq, (crd_eq' m ok t).2]
  exact Iff.rfl

set_option maxHeartbeats 1600000 in
theorem flushed_eq (c : Dev nD) (t : Fin (cfgA m ok).N) :
    (dats m ok 0 c).flushed (3 : Fin 4) t = (((cfgA m ok).win (3 : Fin 4)).blk t).view.read (Elt Ideal) (G m ok c) := by
  have o := idx3 m ok t
  have ax := idx0 m ok t
  funext y
  obtain ⟨r, q, rfl⟩ : ∃ (r : Fin 512) (q : Fin 1024), y = (ix2 r q : S512x1024.Idx) := ⟨y 0, y 1, by funext a; fin_cases a <;> rfl⟩
  show outv m ok c t (ix2 r q) = G m ok c ((((cfgA m ok).win (3 : Fin 4)).blk t).view.emb (ix2 r q : S512x1024.Idx))
  set z : S40960x4096.Idx := (((cfgA m ok).win (3 : Fin 4)).blk t).view.emb (ix2 r q : S512x1024.Idx) with hz
  have hr := r.isLt
  have z0 : (z 0).val = t.val % 80 * 512 + r.val := by
    show ((cfgA m ok).win (3 : Fin 4)).index t (0 : Fin 2) * 512 + 1 * r.val = _
    rw [o]; show t.val % 80 * 512 + 1 * r.val = _; omega
  have z1 : z 1 = colW m ok t q := Fin.ext (by
    show ((cfgA m ok).win (3 : Fin 4)).index t (1 : Fin 2) * 1024 + 1 * q.val = t.val / 80 * 1024 + q.val
    rw [o]; show t.val / 80 * 1024 + 1 * q.val = _; omega)
  have zt : rowTile (z 0) = tile m ok t := Fin.ext (by
    show (z 0).val / 512 = t.val % 80
    rw [z0]; omega)
  unfold G outv
  rw [zt]
  by_cases hu : used (T1 m) (crd m ok t)
  · rw [if_pos hu, if_pos ((used_eq m ok t).mp hu), pay_apply, mm_apply, mm_apply]
    have ex : ∀ k : Fin 2048, iblk m ok c (0 : Fin 4) t (ix2 r k : S512x2048.Idx) = m ((c : Thread nD τ).loc main_arg2) (ix2 (z 0) k) := fun k => by
      refine congrArg (m ((c : Thread nD τ).loc main_arg2)) (funext fun a => Fin.ext ?_)
      match a with
      | ⟨0, _⟩ =>
        show ((cfgA m ok).win (0 : Fin 4)).index t (0 : Fin 2) * 512 + 1 * r.val = (z 0).val
        rw [ax, z0]; show t.val % 80 * 512 + 1 * r.val = _; omega
      | ⟨1, _⟩ =>
        show ((cfgA m ok).win (0 : Fin 4)).index t (1 : Fin 2) * 2048 + 1 * k.val = k.val
        rw [ax]; show 0 * 2048 + 1 * k.val = _; omega
    unfold prod k0_pay1 k0_pay2
    rw [shapeCast_self, shapeCast_self]
    congr 1
    · refine Finset.sum_congr rfl fun k _ => ?_
      refine congrArg₂ (fun a b : EReal => a * b) (ex k) ?_
      show shapeCast S2048x1024 (iblk m ok c (1 : Fin 4) t) shapeCasts_S1x1x2048x1024_S2048x1024 (ix2 k q) = _
      rw [drop2_apply, z1]
      exact ublk_apply m ok c t k q
    · refine Finset.sum_congr rfl fun k _ => ?_
      refine congrArg₂ (fun a b : EReal => a * b) (ex k) ?_
      show shapeCast S2048x1024 (iblk m ok c (2 : Fin 4) t) shapeCasts_S1x1x2048x1024_S2048x1024 (ix2 k q) = _
      rw [drop2_apply, z1]
      exact vblk_apply m ok c t k q
  · rw [if_neg hu, if_neg (fun h => hu ((used_eq m ok t).mpr h))]
    exact pay4_apply _

theorem mem_blk (t : Fin (cfgA m ok).N) (i : S40960x4096.Idx) :
    i ∈ (((cfgA m ok).win (3 : Fin 4)).blk t).view.set
      ↔ ∀ a : Fin 2, ((cfgA m ok).win (3 : Fin 4)).index t a * S512x1024.size a ≤ (i a).val ∧ (i a).val < ((cfgA m ok).win (3 : Fin 4)).index t a * S512x1024.size a + S512x1024.size a := by
  show i ∈ ((View.whole main_v0).slice (((cfgA m ok).win (3 : Fin 4)).rect t)).set ↔ _
  rw [View.set_slice_whole, Rect.mem_set_unit]
  exact Iff.rfl

theorem cover (i : S40960x4096.Idx) : ∃ t : Fin (cfgA m ok).N, ((cfgA m ok).win (3 : Fin 4)).flush t = true ∧ i ∈ (((cfgA m ok).win (3 : Fin 4)).blk t).view.set := by
  have h0 : (i 0).val < 40960 := (i 0).isLt
  have h1 : (i 1).val < 4096 := (i 1).isLt
  have hN : (cfgA m ok).N = 320 := N_0
  have ht : (i 1).val / 1024 * 80 + (i 0).val / 512 < (cfgA m ok).N := by omega
  refine ⟨⟨_, ht⟩, flush3 m ok _, ?_⟩
  rw [mem_blk, idx3]
  intro a
  match a with
  | ⟨0, _⟩ =>
    show ((i 1).val / 1024 * 80 + (i 0).val / 512) % 80 * 512 ≤ (i 0).val ∧ (i 0).val < ((i 1).val / 1024 * 80 + (i 0).val / 512) % 80 * 512 + 512
    omega
  | ⟨1, _⟩ =>
    show ((i 1).val / 1024 * 80 + (i 0).val / 512) / 80 * 1024 ≤ (i 1).val ∧ (i 1).val < ((i 1).val / 1024 * 80 + (i 0).val / 512) / 80 * 1024 + 1024
    omega

theorem final (c : Dev nD) : (dats m ok 0 c).arrAt (3 : Fin 4) (cfgA m ok).N = G m ok c :=
  (dats m ok 0 c).arrAt_eq_of_cover (3 : Fin 4) (G m ok c) (fun t _ => flushed_eq m ok c t) (cover m ok)

/-- The run read. -/
theorem run : θ_run defs (onTc (τ := τ) (main (F := Ideal))) ⟨m, fun _ => 0, ρ⟩ fun r => ∀ c : Dev nD,
      r.2.mem ((c : Thread nD τ).loc main_v0) = G m ok c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1.trans (final m ok c), (h.1 c).2⟩) (run_blocks m ρ ok)

end Cert.MoeUpIdeal.RefValue

end
-- ==== Proof.MoeUpRef.lean ====
/-
  The experts' first products: the reference read at an index. Its loop over the experts adds each expert's gated products
  where the row's tile names that expert; one does, or none where the tile is spare.
-/
module

public import proofs.«01_k».proof.Proof.MoeUpValue
public import proofs.«01_k».proof.Proof.Gen.MoeUpRefIdeal.Run
public import proofs.«01_k».proof.Proof.Gen.MoeUpRefIdeal.Read

@[expose] public section

set_option maxRecDepth 16384

noncomputable section

namespace Cert.MoeUpIdeal.RefValue

open Cert.Common Idealize.ShloMosaic Idealize.ShloMosaic.TcCoe Idealize.SL.Sem Idealize.ShloMosaic.ValueIdx
open Cert.MoeUpRefIdeal Cert.MoeUpRefIdeal.Read

variable (te : Cert.MoeUpRefIdeal.S80.Idx → BitVec 32) (nu : Cert.MoeUpRefIdeal.S1.Idx → BitVec 32)
variable (h : FVec Ideal Cert.MoeUpRefIdeal.S40960x2048 .bf16) (w w₁ w₃ : FVec Ideal Cert.MoeUpRefIdeal.S2x8x2048x4096 .f32)

/-- The tile's word, `-1` where the tile is spare. -/
theorem word_apply (n : Fin 80) : val_main_v4 (F := Ideal) te nu (ix1 n : Cert.MoeUpRefIdeal.S80.Idx) = if inUse nu n = true then te (ix1 n) else 4294967295#32 := by
  have e1 : val_main_v1 (F := Ideal) nu (idx_main_v2 (ix1 n)) = nu (ix1 0) :=
    shapeCast_apply nu _ (idx_main_v2 (ix1 n)) (ix1 0) rfl
  rw [val_main_v4_apply, val_main_v3_apply, val_main_v2_apply, val_main_v0_apply, val_main_call0_v1_apply, e1]
  have e : ∀ b : Bool, Scalar.select (BitVec.ofBool b) (te (ix1 n)) (4294967295#32) = if b = true then te (ix1 n) else 4294967295#32 := fun b => by
    cases b <;> rfl
  exact e _

/-- The weight of expert `e` at a row: whether its tile's word is `e`'s. -/
theorem comb_apply (r : Fin 40960) (e : Fin 8) : val_main_v8 (F := Ideal) te nu (ix2 r e : Cert.MoeUpRefIdeal.S40960x8.Idx)
    = if (if inUse nu (rowTile r) = true then te (ix1 (rowTile r)) else 4294967295#32) = BitVec.ofNat 32 e.val then (1 : EReal) else 0 := by
  rw [← word_apply te nu (rowTile r), val_main_v8_apply, val_main_call1_v4_apply, val_main_call1_v2_apply, val_main_call1_v0_apply, val_main_v7_apply, val_main_v6_apply,
    val_main_v5_apply, val_main_call1_v3_apply, val_main_call1_v1_apply]
  have e1 : ∀ a b : BitVec 32, (FloatOps.uitofp (F := Ideal) .f32 (IntOp.cmpi .eq a b) : EReal) = if a = b then (1 : EReal) else 0 := fun a b => by
    by_cases hab : a = b
    · subst hab
      have q : IntOp.cmpi .eq a a = 1#1 := by simp [IntOp.cmpi]
      rw [if_pos rfl, q]
      show (((1#1 : BitVec 1).toNat : ℝ) : EReal) = 1
      simp
    · have q : IntOp.cmpi .eq a b = 0#1 := by
        simp only [IntOp.cmpi]
        rw [beq_eq_false_iff_ne.mpr hab]; rfl
      rw [if_neg hab, q]
      show (((0#1 : BitVec 1).toNat : ℝ) : EReal) = 0
      simp
  refine (e1 _ _).trans ?_
  have e2 : (idx_main_v5 (idx_main_v6 (idx_main_v7 (idx_main_call1_v0 (idx_main_call1_v2 (ix2 r e))))) : Cert.MoeUpRefIdeal.S80.Idx) = ix1 (rowTile r) :=
    funext fun a => match a with | ⟨0, _⟩ => rfl
  rw [e2]

theorem ref_w1_0 (i : Cert.MoeUpRefIdeal.S40960x4096.Idx) : val_main_v14 (F := Ideal) h w i = prod h w 0 (i 0) (i 1) := by
  have h1 : (i 1).val < 4096 := (i 1).isLt
  refine (val_main_v14_apply h w i).trans (Finset.sum_congr rfl fun k _ => ?_)
  have hk : k.val < 2048 := k.isLt
  rw [val_main_v13_apply, val_main_v12_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_0 (i : Cert.MoeUpRefIdeal.S40960x4096.Idx) : val_main_v18 (F := Ideal) h w i = prod h w 0 (i 0) (i 1) := by
  have h1 : (i 1).val < 4096 := (i 1).isLt
  refine (val_main_v18_apply h w i).trans (Finset.sum_congr rfl fun k _ => ?_)
  have hk : k.val < 2048 := k.isLt
  rw [val_main_v17_apply, val_main_v16_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 0's term. -/
theorem ref_term_0 (i : Cert.MoeUpRefIdeal.S40960x4096.Idx) : val_main_v21 (F := Ideal) te nu h w₁ w₃ i
    = val_main_v8 (F := Ideal) te nu (ix2 (i 0) 0 : Cert.MoeUpRefIdeal.S40960x8.Idx) * gated (prod h w₁ 0 (i 0) (i 1)) (prod h w₃ 0 (i 0) (i 1)) := by
  rw [val_main_v21_apply]
  refine congrArg₂ (fun a b : EReal => a * b) ?_ ?_
  · rw [val_main_v20_apply, val_main_v11_apply]
    exact congrArg (val_main_v8 (F := Ideal) te nu) (funext fun a => match a with | ⟨0, _⟩ => rfl | ⟨1, _⟩ => rfl)
  · rw [← ref_w1_0 h w₁ i, ← ref_w3_0 h w₃ i]
    show val_main_v14 (F := Ideal) h w₁ i * Ideal.div (Ideal.ofBits .f32 0x3F800000#32) (Ideal.ofBits .f32 0x3F800000#32 + Ideal.exp (-val_main_v14 (F := Ideal) h w₁ i)) * val_main_v18 (F := Ideal) h w₃ i = _
    rw [Idealize.ShloMosaic.Ideal.ofBits_one_f32]
    rfl

theorem ref_w1_1 (i : Cert.MoeUpRefIdeal.S40960x4096.Idx) : val_main_v26 (F := Ideal) h w i = prod h w 1 (i 0) (i 1) := by
  have h1 : (i 1).val < 4096 := (i 1).isLt
  refine (val_main_v26_apply h w i).trans (Finset.sum_congr rfl fun k _ => ?_)
  have hk : k.val < 2048 := k.isLt
  rw [val_main_v25_apply, val_main_v24_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_1 (i : Cert.MoeUpRefIdeal.S40960x4096.Idx) : val_main_v30 (F := Ideal) h w i = prod h w 1 (i 0) (i 1) := by
  have h1 : (i 1).val < 4096 := (i 1).isLt
  refine (val_main_v30_apply h w i).trans (Finset.sum_congr rfl fun k _ => ?_)
  have hk : k.val < 2048 := k.isLt
  rw [val_main_v29_apply, val_main_v28_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 1's term. -/
theorem ref_term_1 (i : Cert.MoeUpRefIdeal.S40960x4096.Idx) : val_main_v33 (F := Ideal) te nu h w₁ w₃ i
    = val_main_v8 (F := Ideal) te nu (ix2 (i 0) 1 : Cert.MoeUpRefIdeal.S40960x8.Idx) * gated (prod h w₁ 1 (i 0) (i 1)) (prod h w₃ 1 (i 0) (i 1)) := by
  rw [val_main_v33_apply]
  refine congrArg₂ (fun a b : EReal => a * b) ?_ ?_
  · rw [val_main_v32_apply, val_main_v23_apply]
    exact congrArg (val_main_v8 (F := Ideal) te nu) (funext fun a => match a with | ⟨0, _⟩ => rfl | ⟨1, _⟩ => rfl)
  · rw [← ref_w1_1 h w₁ i, ← ref_w3_1 h w₃ i]
    show val_main_v26 (F := Ideal) h w₁ i * Ideal.div (Ideal.ofBits .f32 0x3F800000#32) (Ideal.ofBits .f32 0x3F800000#32 + Ideal.exp (-val_main_v26 (F := Ideal) h w₁ i)) * val_main_v30 (F := Ideal) h w₃ i = _
    rw [Idealize.ShloMosaic.Ideal.ofBits_one_f32]
    rfl

theorem ref_w1_2 (i : Cert.MoeUpRefIdeal.S40960x4096.Idx) : val_main_v38 (F := Ideal) h w i = prod h w 2 (i 0) (i 1) := by
  have h1 : (i 1).val < 4096 := (i 1).isLt
  refine (val_main_v38_apply h w i).trans (Finset.sum_congr rfl fun k _ => ?_)
  have hk : k.val < 2048 := k.isLt
  rw [val_main_v37_apply, val_main_v36_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_2 (i : Cert.MoeUpRefIdeal.S40960x4096.Idx) : val_main_v42 (F := Ideal) h w i = prod h w 2 (i 0) (i 1) := by
  have h1 : (i 1).val < 4096 := (i 1).isLt
  refine (val_main_v42_apply h w i).trans (Finset.sum_congr rfl fun k _ => ?_)
  have hk : k.val < 2048 := k.isLt
  rw [val_main_v41_apply, val_main_v40_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 2's term. -/
theorem ref_term_2 (i : Cert.MoeUpRefIdeal.S40960x4096.Idx) : val_main_v45 (F := Ideal) te nu h w₁ w₃ i
    = val_main_v8 (F := Ideal) te nu (ix2 (i 0) 2 : Cert.MoeUpRefIdeal.S40960x8.Idx) * gated (prod h w₁ 2 (i 0) (i 1)) (prod h w₃ 2 (i 0) (i 1)) := by
  rw [val_main_v45_apply]
  refine congrArg₂ (fun a b : EReal => a * b) ?_ ?_
  · rw [val_main_v44_apply, val_main_v35_apply]
    exact congrArg (val_main_v8 (F := Ideal) te nu) (funext fun a => match a with | ⟨0, _⟩ => rfl | ⟨1, _⟩ => rfl)
  · rw [← ref_w1_2 h w₁ i, ← ref_w3_2 h w₃ i]
    show val_main_v38 (F := Ideal) h w₁ i * Ideal.div (Ideal.ofBits .f32 0x3F800000#32) (Ideal.ofBits .f32 0x3F800000#32 + Ideal.exp (-val_main_v38 (F := Ideal) h w₁ i)) * val_main_v42 (F := Ideal) h w₃ i = _
    rw [Idealize.ShloMosaic.Ideal.ofBits_one_f32]
    rfl

theorem ref_w1_3 (i : Cert.MoeUpRefIdeal.S40960x4096.Idx) : val_main_v50 (F := Ideal) h w i = prod h w 3 (i 0) (i 1) := by
  have h1 : (i 1).val < 4096 := (i 1).isLt
  refine (val_main_v50_apply h w i).trans (Finset.sum_congr rfl fun k _ => ?_)
  have hk : k.val < 2048 := k.isLt
  rw [val_main_v49_apply, val_main_v48_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_3 (i : Cert.MoeUpRefIdeal.S40960x4096.Idx) : val_main_v54 (F := Ideal) h w i = prod h w 3 (i 0) (i 1) := by
  have h1 : (i 1).val < 4096 := (i 1).isLt
  refine (val_main_v54_apply h w i).trans (Finset.sum_congr rfl fun k _ => ?_)
  have hk : k.val < 2048 := k.isLt
  rw [val_main_v53_apply, val_main_v52_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 3's term. -/
theorem ref_term_3 (i : Cert.MoeUpRefIdeal.S40960x4096.Idx) : val_main_v57 (F := Ideal) te nu h w₁ w₃ i
    = val_main_v8 (F := Ideal) te nu (ix2 (i 0) 3 : Cert.MoeUpRefIdeal.S40960x8.Idx) * gated (prod h w₁ 3 (i 0) (i 1)) (prod h w₃ 3 (i 0) (i 1)) := by
  rw [val_main_v57_apply]
  refine congrArg₂ (fun a b : EReal => a * b) ?_ ?_
  · rw [val_main_v56_apply, val_main_v47_apply]
    exact congrArg (val_main_v8 (F := Ideal) te nu) (funext fun a => match a with | ⟨0, _⟩ => rfl | ⟨1, _⟩ => rfl)
  · rw [← ref_w1_3 h w₁ i, ← ref_w3_3 h w₃ i]
    show val_main_v50 (F := Ideal) h w₁ i * Ideal.div (Ideal.ofBits .f32 0x3F800000#32) (Ideal.ofBits .f32 0x3F800000#32 + Ideal.exp (-val_main_v50 (F := Ideal) h w₁ i)) * val_main_v54 (F := Ideal) h w₃ i = _
    rw [Idealize.ShloMosaic.Ideal.ofBits_one_f32]
    rfl

theorem ref_w1_4 (i : Cert.MoeUpRefIdeal.S40960x4096.Idx) : val_main_v62 (F := Ideal) h w i = prod h w 4 (i 0) (i 1) := by
  have h1 : (i 1).val < 4096 := (i 1).isLt
  refine (val_main_v62_apply h w i).trans (Finset.sum_congr rfl fun k _ => ?_)
  have hk : k.val < 2048 := k.isLt
  rw [val_main_v61_apply, val_main_v60_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_4 (i : Cert.MoeUpRefIdeal.S40960x4096.Idx) : val_main_v66 (F := Ideal) h w i = prod h w 4 (i 0) (i 1) := by
  have h1 : (i 1).val < 4096 := (i 1).isLt
  refine (val_main_v66_apply h w i).trans (Finset.sum_congr rfl fun k _ => ?_)
  have hk : k.val < 2048 := k.isLt
  rw [val_main_v65_apply, val_main_v64_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 4's term. -/
theorem ref_term_4 (i : Cert.MoeUpRefIdeal.S40960x4096.Idx) : val_main_v69 (F := Ideal) te nu h w₁ w₃ i
    = val_main_v8 (F := Ideal) te nu (ix2 (i 0) 4 : Cert.MoeUpRefIdeal.S40960x8.Idx) * gated (prod h w₁ 4 (i 0) (i 1)) (prod h w₃ 4 (i 0) (i 1)) := by
  rw [val_main_v69_apply]
  refine congrArg₂ (fun a b : EReal => a * b) ?_ ?_
  · rw [val_main_v68_apply, val_main_v59_apply]
    exact congrArg (val_main_v8 (F := Ideal) te nu) (funext fun a => match a with | ⟨0, _⟩ => rfl | ⟨1, _⟩ => rfl)
  · rw [← ref_w1_4 h w₁ i, ← ref_w3_4 h w₃ i]
    show val_main_v62 (F := Ideal) h w₁ i * Ideal.div (Ideal.ofBits .f32 0x3F800000#32) (Ideal.ofBits .f32 0x3F800000#32 + Ideal.exp (-val_main_v62 (F := Ideal) h w₁ i)) * val_main_v66 (F := Ideal) h w₃ i = _
    rw [Idealize.ShloMosaic.Ideal.ofBits_one_f32]
    rfl

theorem ref_w1_5 (i : Cert.MoeUpRefIdeal.S40960x4096.Idx) : val_main_v74 (F := Ideal) h w i = prod h w 5 (i 0) (i 1) := by
  have h1 : (i 1).val < 4096 := (i 1).isLt
  refine (val_main_v74_apply h w i).trans (Finset.sum_congr rfl fun k _ => ?_)
  have hk : k.val < 2048 := k.isLt
  rw [val_main_v73_apply, val_main_v72_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_5 (i : Cert.MoeUpRefIdeal.S40960x4096.Idx) : val_main_v78 (F := Ideal) h w i = prod h w 5 (i 0) (i 1) := by
  have h1 : (i 1).val < 4096 := (i 1).isLt
  refine (val_main_v78_apply h w i).trans (Finset.sum_congr rfl fun k _ => ?_)
  have hk : k.val < 2048 := k.isLt
  rw [val_main_v77_apply, val_main_v76_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 5's term. -/
theorem ref_term_5 (i : Cert.MoeUpRefIdeal.S40960x4096.Idx) : val_main_v81 (F := Ideal) te nu h w₁ w₃ i
    = val_main_v8 (F := Ideal) te nu (ix2 (i 0) 5 : Cert.MoeUpRefIdeal.S40960x8.Idx) * gated (prod h w₁ 5 (i 0) (i 1)) (prod h w₃ 5 (i 0) (i 1)) := by
  rw [val_main_v81_apply]
  refine congrArg₂ (fun a b : EReal => a * b) ?_ ?_
  · rw [val_main_v80_apply, val_main_v71_apply]
    exact congrArg (val_main_v8 (F := Ideal) te nu) (funext fun a => match a with | ⟨0, _⟩ => rfl | ⟨1, _⟩ => rfl)
  · rw [← ref_w1_5 h w₁ i, ← ref_w3_5 h w₃ i]
    show val_main_v74 (F := Ideal) h w₁ i * Ideal.div (Ideal.ofBits .f32 0x3F800000#32) (Ideal.ofBits .f32 0x3F800000#32 + Ideal.exp (-val_main_v74 (F := Ideal) h w₁ i)) * val_main_v78 (F := Ideal) h w₃ i = _
    rw [Idealize.ShloMosaic.Ideal.ofBits_one_f32]
    rfl

theorem ref_w1_6 (i : Cert.MoeUpRefIdeal.S40960x4096.Idx) : val_main_v86 (F := Ideal) h w i = prod h w 6 (i 0) (i 1) := by
  have h1 : (i 1).val < 4096 := (i 1).isLt
  refine (val_main_v86_apply h w i).trans (Finset.sum_congr rfl fun k _ => ?_)
  have hk : k.val < 2048 := k.isLt
  rw [val_main_v85_apply, val_main_v84_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_6 (i : Cert.MoeUpRefIdeal.S40960x4096.Idx) : val_main_v90 (F := Ideal) h w i = prod h w 6 (i 0) (i 1) := by
  have h1 : (i 1).val < 4096 := (i 1).isLt
  refine (val_main_v90_apply h w i).trans (Finset.sum_congr rfl fun k _ => ?_)
  have hk : k.val < 2048 := k.isLt
  rw [val_main_v89_apply, val_main_v88_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 6's term. -/
theorem ref_term_6 (i : Cert.MoeUpRefIdeal.S40960x4096.Idx) : val_main_v93 (F := Ideal) te nu h w₁ w₃ i
    = val_main_v8 (F := Ideal) te nu (ix2 (i 0) 6 : Cert.MoeUpRefIdeal.S40960x8.Idx) * gated (prod h w₁ 6 (i 0) (i 1)) (prod h w₃ 6 (i 0) (i 1)) := by
  rw [val_main_v93_apply]
  refine congrArg₂ (fun a b : EReal => a * b) ?_ ?_
  · rw [val_main_v92_apply, val_main_v83_apply]
    exact congrArg (val_main_v8 (F := Ideal) te nu) (funext fun a => match a with | ⟨0, _⟩ => rfl | ⟨1, _⟩ => rfl)
  · rw [← ref_w1_6 h w₁ i, ← ref_w3_6 h w₃ i]
    show val_main_v86 (F := Ideal) h w₁ i * Ideal.div (Ideal.ofBits .f32 0x3F800000#32) (Ideal.ofBits .f32 0x3F800000#32 + Ideal.exp (-val_main_v86 (F := Ideal) h w₁ i)) * val_main_v90 (F := Ideal) h w₃ i = _
    rw [Idealize.ShloMosaic.Ideal.ofBits_one_f32]
    rfl

theorem ref_w1_7 (i : Cert.MoeUpRefIdeal.S40960x4096.Idx) : val_main_v98 (F := Ideal) h w i = prod h w 7 (i 0) (i 1) := by
  have h1 : (i 1).val < 4096 := (i 1).isLt
  refine (val_main_v98_apply h w i).trans (Finset.sum_congr rfl fun k _ => ?_)
  have hk : k.val < 2048 := k.isLt
  rw [val_main_v97_apply, val_main_v96_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_7 (i : Cert.MoeUpRefIdeal.S40960x4096.Idx) : val_main_v102 (F := Ideal) h w i = prod h w 7 (i 0) (i 1) := by
  have h1 : (i 1).val < 4096 := (i 1).isLt
  refine (val_main_v102_apply h w i).trans (Finset.sum_congr rfl fun k _ => ?_)
  have hk : k.val < 2048 := k.isLt
  rw [val_main_v101_apply, val_main_v100_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 7's term. -/
theorem ref_term_7 (i : Cert.MoeUpRefIdeal.S40960x4096.Idx) : val_main_v105 (F := Ideal) te nu h w₁ w₃ i
    = val_main_v8 (F := Ideal) te nu (ix2 (i 0) 7 : Cert.MoeUpRefIdeal.S40960x8.Idx) * gated (prod h w₁ 7 (i 0) (i 1)) (prod h w₃ 7 (i 0) (i 1)) := by
  rw [val_main_v105_apply]
  refine congrArg₂ (fun a b : EReal => a * b) ?_ ?_
  · rw [val_main_v104_apply, val_main_v95_apply]
    exact congrArg (val_main_v8 (F := Ideal) te nu) (funext fun a => match a with | ⟨0, _⟩ => rfl | ⟨1, _⟩ => rfl)
  · rw [← ref_w1_7 h w₁ i, ← ref_w3_7 h w₃ i]
    show val_main_v98 (F := Ideal) h w₁ i * Ideal.div (Ideal.ofBits .f32 0x3F800000#32) (Ideal.ofBits .f32 0x3F800000#32 + Ideal.exp (-val_main_v98 (F := Ideal) h w₁ i)) * val_main_v102 (F := Ideal) h w₃ i = _
    rw [Idealize.ShloMosaic.Ideal.ofBits_one_f32]
    rfl

/-- One weight of the eight is one, the others zero. -/
theorem sum_one (E : Fin 8) (c f : Fin 8 → EReal) (hc : ∀ e, c e = if e = E then (1 : EReal) else 0) :
    (0 : EReal) + c 0 * f 0 + c 1 * f 1 + c 2 * f 2 + c 3 * f 3 + c 4 * f 4 + c 5 * f 5 + c 6 * f 6 + c 7 * f 7 = f E := by
  simp only [hc]
  fin_cases E <;> simp

theorem sum_none (c f : Fin 8 → EReal) (hc : ∀ e, c e = 0) : (0 : EReal) + c 0 * f 0 + c 1 * f 1 + c 2 * f 2 + c 3 * f 3 + c 4 * f 4 + c 5 * f 5 + c 6 * f 6 + c 7 * f 7 = 0 := by
  simp [hc]

/-- The reference at an index is the sum of the experts' terms. -/
theorem ref_sum (i : Cert.MoeUpRefIdeal.S40960x4096.Idx) (c f : Fin 8 → EReal)
    (hc : c = fun e => val_main_v8 (F := Ideal) te nu (ix2 (i 0) e : Cert.MoeUpRefIdeal.S40960x8.Idx))
    (hf : f = fun e => gated (prod h w₁ e (i 0) (i 1)) (prod h w₃ e (i 0) (i 1))) :
    val_main_v107 (F := Ideal) te nu h w₁ w₃ i = (0 : EReal) + c 0 * f 0 + c 1 * f 1 + c 2 * f 2 + c 3 * f 3 + c 4 * f 4 + c 5 * f 5 + c 6 * f 6 + c 7 * f 7 := by
  have z : val_main_v10 (F := Ideal) i = (0 : EReal) := by
    rw [val_main_v10_apply, val_main_cst_apply]
    show Ideal.ofBits .f32 0x00000000#32 = 0
    simp
  subst hc hf
  rw [val_main_v107_apply, val_main_v106_apply, val_main_v94_apply, val_main_v82_apply, val_main_v70_apply, val_main_v58_apply, val_main_v46_apply, val_main_v34_apply, val_main_v22_apply, z, ref_term_0, ref_term_1, ref_term_2, ref_term_3, ref_term_4, ref_term_5, ref_term_6, ref_term_7]
  rfl

/-- The reference at an index of a row whose tile names expert `E`. -/
theorem ref_apply (i : Cert.MoeUpRefIdeal.S40960x4096.Idx) (E : Fin 8) (hE : te (ix1 (rowTile (i 0))) = BitVec.ofNat 32 E.val) :
    val_main_v107 (F := Ideal) te nu h w₁ w₃ i
      = if inUse nu (rowTile (i 0)) = true then gated (prod h w₁ E (i 0) (i 1)) (prod h w₃ E (i 0) (i 1)) else (0 : EReal) := by
  obtain ⟨c, hc⟩ : ∃ c : Fin 8 → EReal, c = fun e => val_main_v8 (F := Ideal) te nu (ix2 (i 0) e : Cert.MoeUpRefIdeal.S40960x8.Idx) := ⟨_, rfl⟩
  obtain ⟨f, hf⟩ : ∃ f : Fin 8 → EReal, f = fun e => gated (prod h w₁ e (i 0) (i 1)) (prod h w₃ e (i 0) (i 1)) := ⟨_, rfl⟩
  refine (ref_sum te nu h w₁ w₃ i c f hc hf).trans ?_
  have ce : ∀ e : Fin 8, c e = if (if inUse nu (rowTile (i 0)) = true then te (ix1 (rowTile (i 0))) else 4294967295#32) = BitVec.ofNat 32 e.val then (1 : EReal) else 0 :=
    fun e => (congrFun hc e).trans (comb_apply te nu (i 0) e)
  have q : ∀ a b : Fin 8, (BitVec.ofNat 32 a.val = BitVec.ofNat 32 b.val) ↔ b = a := by decide +kernel
  have q' : ∀ b : Fin 8, ¬(4294967295#32 : BitVec 32) = BitVec.ofNat 32 b.val := by decide +kernel
  by_cases hu : inUse nu (rowTile (i 0)) = true
  · rw [if_pos hu, sum_one E c f fun e => ?_]
    · exact congrFun hf E
    · rw [ce e, if_pos hu, hE]
      exact if_congr (q E e) rfl rfl
  · rw [if_neg hu]
    refine sum_none c f fun e => ?_
    rw [ce e, if_neg hu, if_neg (q' e)]

end Cert.MoeUpIdeal.RefValue

end
-- ==== Proof.MoeUpClaim.lean ====
/-
  The experts' first products: kernel and reference end with the same result where every row tile names an expert.
-/
module

public import proofs.«01_k».proof.Proof.MoeUpOk
public import proofs.«01_k».proof.Proof.MoeUpRef

@[expose] public section

set_option maxRecDepth 16384

noncomputable section

namespace Cert.MoeUpIdeal.RefValue

open Cert.Common Idealize.ShloMosaic Idealize.ShloMosaic.TcCoe Idealize.SL.Sem Idealize.ShloMosaic.ValueIdx
open Cert.MoeUpRefIdeal.Read

/-- A tile's word is its expert's. -/
theorem word_named (m : (ℓ : Loc Cert.MoeUpIdeal.nD Cert.MoeUpIdeal.τ Cert.MoeUpIdeal.sig) → Buf (Elt Ideal) ℓ) (ok : Cert.MoeUpIdeal.ok0 (Cert.MoeUpIdeal.Hand.tbl m)) (n : Fin 80) :
    Cert.MoeUpIdeal.Hand.T0 m (ix1 n) = BitVec.ofNat 32 (named m ok n).val :=
  ((BitVec.ofNat_toNat 32 (Cert.MoeUpIdeal.Hand.T0 m (ix1 n))).trans (BitVec.setWidth_eq _)).symm

/-- Kernel and reference end with the same result. -/
theorem algebraic : Cert.algebraic_MoeUpIdeal_MoeUpRefIdeal := by
  intro m g m' g' hpre hagree
  have ok := Cert.MoeUpIdeal.Hand.ok_of_pre m hpre
  refine ⟨fun c => G m ok c, run m g ok, ?_⟩
  refine (θ_run Cert.MoeUpRefIdeal.defs _ _).mono (fun _ h c => ⟨(h c).1.trans ?_, (h c).2⟩) (Cert.MoeUpRefIdeal.Value.run (F := Ideal) m' g')
  obtain ⟨h0, h1, h2, h3, h4⟩ := hagree c
  refine (val_main_v107_eq (F := Ideal) _).trans ?_
  have hc : c = (0 : Dev Cert.MoeUpIdeal.nD) := Subsingleton.elim _ _
  subst hc
  refine Eq.trans (b := val_main_v107 (F := Ideal) (Cert.MoeUpIdeal.Hand.T0 m) (Cert.MoeUpIdeal.Hand.T1 m)
    (m (((0 : Dev Cert.MoeUpIdeal.nD).tc : Thread Cert.MoeUpIdeal.nD Cert.MoeUpIdeal.τ).loc Cert.MoeUpIdeal.main_arg2))
    (m (((0 : Dev Cert.MoeUpIdeal.nD).tc : Thread Cert.MoeUpIdeal.nD Cert.MoeUpIdeal.τ).loc Cert.MoeUpIdeal.main_arg3))
    (m (((0 : Dev Cert.MoeUpIdeal.nD).tc : Thread Cert.MoeUpIdeal.nD Cert.MoeUpIdeal.τ).loc Cert.MoeUpIdeal.main_arg4))) ?_ ?_
  · exact congr (congr (congr (congr (congrArg (val_main_v107 (F := Ideal)) h0) h1) h2) h3) h4
  · exact funext fun i => ref_apply _ _ _ _ _ i (named m ok (rowTile (i 0))) (word_named m ok _)

/-- The reference's frame. -/
theorem ref_frame : Cert.quiescent_MoeUpRefIdeal := fun m ρ _ =>
  (θ_run Cert.MoeUpRefIdeal.defs _ _).mono (fun r h => ⟨fun c => (h c).2,
    Idealize.ShloMosaic.sem_eq_zero_of_no_sems (by decide) r.2⟩) (Cert.MoeUpRefIdeal.Value.run (F := Ideal) m ρ)
theorem ref_frame_pre : Cert.quiescent_MoeUpRefIdeal_pre_tiles_named := fun m ρ _ => ref_frame m ρ trivial

end Cert.MoeUpIdeal.RefValue

end
-- ==== Proof.MoeUpLastIdealRuns.lean ====
/-
  The experts' first products with the SwiGLU: one run of the body per control path. Whether the two scratches are filled
  again is told by the row tiles' table, whether the tile is in use by the second table; the four paths are run once each,
  at any tables, and what each leaves is stated by the payloads.
-/
module

public import proofs.«01_k».proof.Proof.Common
public import proofs.«01_k».proof.Proof.Gen.MoeUpLastIdeal.Skeleton
public import proofs.«01_k».proof.Proof.Gen.MoeUpLastIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.MoeUpLastIdeal.Hand

open Cert.MoeUpLastIdeal Cert.MoeUpLastIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model the body's triples are stated in. -/
abbrev MM (F : FTy → Type) [FloatOps F] := MT nD τ sig Unit (Elt F) ℕ (UR sig nD τ) ℕ

/-- The tables and scratches the kernel is handed, whole, at their literal types. -/
abbrev tb0 : Memref sig .tc .smem S72 .i32 := Memref.whole main_arg0
abbrev tb1 : Memref sig .tc .smem S1 .i32 := Memref.whole main_arg1
abbrev sc0 : Memref sig .tc .vmem S2048x1024 .bf16 := Memref.whole cc0_scratch0
abbrev sc1 : Memref sig .tc .vmem S2048x1024 .bf16 := Memref.whole cc0_scratch1

/-- The words the body reads: its own tile's expert, the tile before's, and the number of tiles in use. -/
abbrev wCur (T0 : S72.Idx → Elt F .i32) (i : grid0.Coords) : BitVec 32 :=
  View.readAt (Elt F) (tb0).view (Rect.unit (s := S72) (k0_off1 i) S1.size (k0_off1_inb i)).toLoadRect T0 (Shape.Idx.first (numel1_S1.symm ▸ Nat.one_pos))
abbrev wPrev (T0 : S72.Idx → Elt F .i32) (i : grid0.Coords) : BitVec 32 :=
  View.readAt (Elt F) (tb0).view (Rect.unit (s := S72) (k0_off2 i) S1.size (k0_off2_inb i)).toLoadRect T0 (Shape.Idx.first (numel1_S1.symm ▸ Nat.one_pos))
abbrev wUsed (T1 : S1.Idx → Elt F .i32) : BitVec 32 :=
  View.readAt (Elt F) (tb1).view (Rect.unit (s := S1) ![0] S1.size inb_S1_S1_0).toLoadRect T1 (Shape.Idx.first (numel1_S1.symm ▸ Nat.one_pos))

/-- The body fills the scratches again. -/
abbrev fills (T0 : S72.Idx → Elt F .i32) (i : grid0.Coords) : Prop :=
  (Scalar.cmpi .ne (Scalar.extui (Scalar.ori (Scalar.cmpi .eq (BitVec.ofNat 32 (i 1).val) 0#32) (Scalar.cmpi .ne (wCur T0 i) (wPrev T0 i)))) 0#32) = 1#1
/-- The body finds its tile in use, -/
abbrev used (T1 : S1.Idx → Elt F .i32) (i : grid0.Coords) : Prop := k0_cond2 i (wUsed T1) = 1#1
/-- or not. -/
abbrev spare (T1 : S1.Idx → Elt F .i32) (i : grid0.Coords) : Prop := k0_cond3 i (wUsed T1) = 1#1

/-- A whole buffer written once at its literal rectangle reads back what was written. -/
theorem read_one {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon v f _ (fun y => ⟨_, List.mem_singleton.mpr rfl, by
    rw [Rect.mem_set_unit]; intro a; exact ⟨Nat.zero_le _, by have := (y a).isLt; simpa using this⟩⟩)]
  exact View.canon_unit_zero rfl inb w

set_option backward.proofsInPublic true in
set_option maxHeartbeats 8000000 in
/-- A: scratches filled, tile in use. -/
theorem run_A (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S72.Idx → Elt F .i32) (T1 : S1.Idx → Elt F .i32) (x0 : Vec F S512x2048 .bf16) (x1 x2 : Vec F S1x1x2048x1024 .f32)
    (hc0 : fills T0 i) (hc2 : used T1 i) (hc3 : ¬spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (k0_pay1 x1) (k0_pay2 x2)⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

set_option backward.proofsInPublic true in
set_option maxHeartbeats 8000000 in
/-- B: scratches kept, tile in use. -/
theorem run_B (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S72.Idx → Elt F .i32) (T1 : S1.Idx → Elt F .i32) (x0 : Vec F S512x2048 .bf16) (x1 x2 : Vec F S1x1x2048x1024 .f32) (s0 s1 : Vec F S2048x1024 .bf16)
    (hc0 : ¬fills T0 i) (hc2 : used T1 i) (hc3 : ¬spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (s0) (s1)⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

set_option backward.proofsInPublic true in
set_option maxHeartbeats 8000000 in
/-- C: scratches filled, tile not in use. -/
theorem run_C (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S72.Idx → Elt F .i32) (T1 : S1.Idx → Elt F .i32) (x0 : Vec F S512x2048 .bf16) (x1 x2 : Vec F S1x1x2048x1024 .f32)
    (hc0 : fills T0 i) (hc2 : ¬used T1 i) (hc3 : spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

set_option backward.proofsInPublic true in
set_option maxHeartbeats 8000000 in
/-- D: scratches kept, tile not in use. -/
theorem run_D (c : Dev nD) (i : grid0.Coords) (a4 : Memref sig .tc .vmem S512x2048 .bf16) (h4 : a4.IsWhole) (a5 : Memref sig .tc .vmem S1x1x2048x1024 .f32) (h5 : a5.IsWhole)
    (a6 : Memref sig .tc .vmem S1x1x2048x1024 .f32) (h6 : a6.IsWhole) (a7 : Memref sig .tc .vmem S512x1024 .bf16) (h7 : a7.IsWhole)
    (T0 : S72.Idx → Elt F .i32) (T1 : S1.Idx → Elt F .i32) (x0 : Vec F S512x2048 .bf16) (x1 x2 : Vec F S1x1x2048x1024 .f32) (s0 s1 : Vec F S2048x1024 .bf16)
    (hc0 : ¬fills T0 i) (hc2 : ¬used T1 i) (hc3 : spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_up i tb0 (Memref.isWhole_whole _) tb1 (Memref.isWhole_whole _) a4 h4 a5 h5 a6 h6 a7 h7 sc0 (Memref.isWhole_whole _) sc1 (Memref.isWhole_whole _)) K := by
  unfold owns
  rw [cc0_moe_up_eq_skeleton]; unfold cc0_moe_up_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off2]
      try rw [View.readCov_unit_zero (S := S2048x1024) _ off2, View.readCov_unit_zero (S := S2048x1024) _ off2]
      try simp only [View.readAt_eq_ld, View.read_rep, View.ld_unit_zero (S := S512x2048) off2, View.ld_unit_zero (S := S2048x1024) off2, View.ld_unit_zero (S := S1x1x2048x1024) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x2048) off2, View.ld_unit_zero (S := S2048x1024) off2, View.ld_unit_zero (S := S1x1x2048x1024) off4])
  iexists _; isplitr; swap
  · iexact HS1
  · ipureintro
    first | exact e1 | (sl_unfold_words; rw [read_one _ _ off2]; simp only [View.readAt_eq_ld, View.read_rep, View.ld_unit_zero (S := S512x2048) off2, View.ld_unit_zero (S := S2048x1024) off2, View.ld_unit_zero (S := S1x1x2048x1024) off4])

end Cert.MoeUpLastIdeal.Hand

end
-- ==== Proof.MoeUpLastIdealFacts.lean ====
/-
  The experts' first products with the SwiGLU: the frame. Before a point that is no first of a run the scratches hold the
  cast blocks of the point before; where the body does not fill them again, its tile's expert is the tile before's, so
  these are the point's own blocks. From this every point's output block is known, and the run ends with the arguments as
  they were.
-/
module

public import proofs.«01_k».proof.Proof.MoeUpLastIdealRuns
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeUpLastIdeal.Hand

open Cert.MoeUpLastIdeal Cert.MoeUpLastIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]

/-! ## The tables' words -/

theorem off1_eq : ∀ i : grid0.Coords, k0_off1 i 0 = (i 1).val := by decide +kernel
theorem off2_eq : ∀ i : grid0.Coords, k0_off2 i 0 = (i 1).val - 1 := by decide +kernel
/-- The row tile and the column block of a point. -/
theorem crd_eq : ∀ t : Fin grid0.N, (grid0.coords t 0).val = t.val / 72 ∧ (grid0.coords t 1).val = t.val % 72 := by decide +kernel
theorem eq_zero : ∀ i : Fin 72, (Scalar.cmpi .eq (BitVec.ofNat 32 i.val) 0#32 = 1#1) ↔ i.val = 0 := by decide +kernel

theorem tile_lt (i : grid0.Coords) : (i 1).val < 72 := (i 1).isLt

theorem wCur_eq (T0 : S72.Idx → Elt F .i32) (i : grid0.Coords) : wCur T0 i = T0 (ix1 ⟨(i 1).val, tile_lt i⟩) :=
  congrArg T0 (funext fun a => Fin.ext (by
    match a with
    | ⟨0, _⟩ => show k0_off1 i 0 + 1 * 0 = (i 1).val; rw [off1_eq]; rfl))
theorem wPrev_eq (T0 : S72.Idx → Elt F .i32) (i : grid0.Coords) :
    wPrev T0 i = T0 (ix1 ⟨(i 1).val - 1, Nat.lt_of_le_of_lt (Nat.sub_le _ _) (tile_lt i)⟩) :=
  congrArg T0 (funext fun a => Fin.ext (by
    match a with
    | ⟨0, _⟩ => show k0_off2 i 0 + 1 * 0 = (i 1).val - 1; rw [off2_eq]; rfl))
theorem wUsed_eq (T1 : S1.Idx → Elt F .i32) : wUsed T1 = T1 (ix1 0) :=
  congrArg T1 (funext fun a => Fin.ext (by match a with | ⟨0, _⟩ => rfl))

theorem bit_ne (b : BitVec 1) : (Scalar.cmpi .ne (Scalar.extui b) 0#32 = 1#1) ↔ b = 1#1 := by
  revert b; decide

theorem used_iff (T1 : S1.Idx → Elt F .i32) (i : grid0.Coords) :
    used T1 i ↔ (BitVec.ofNat 32 (i 1).val).slt (wUsed T1) = true := by
  unfold used k0_cond2; dsimp only
  rw [bit_ne]
  unfold Scalar.cmpi IntOp.cmpi
  dsimp only
  cases (BitVec.ofNat 32 (i 1).val).slt (wUsed T1) <;> decide
theorem spare_iff (T1 : S1.Idx → Elt F .i32) (i : grid0.Coords) : spare T1 i ↔ ¬used T1 i := by
  rw [used_iff]
  unfold spare k0_cond3; dsimp only
  rw [bit_ne]
  unfold Scalar.cmpi IntOp.cmpi
  dsimp only
  rw [show (wUsed T1).sle (BitVec.ofNat 32 (i 1).val) = !(BitVec.ofNat 32 (i 1).val).slt (wUsed T1) from BitVec.sle_eq_not_slt]
  cases (BitVec.ofNat 32 (i 1).val).slt (wUsed T1) <;> decide

/-- Where the scratches are kept the tile is not the first, and its expert is the tile before's. -/
theorem kept (T0 : S72.Idx → Elt F .i32) (i : grid0.Coords) (h : ¬fills T0 i) : (i 1).val ≠ 0 ∧ wCur T0 i = wPrev T0 i := by
  rw [fills, bit_ne] at h
  have hor : ∀ x y : BitVec 1, ¬Scalar.ori x y = 1#1 → ¬x = 1#1 ∧ ¬y = 1#1 := by decide
  obtain ⟨h1, h2⟩ := hor _ _ h
  refine ⟨fun e => h1 ((eq_zero ⟨(i 1).val, tile_lt i⟩).mpr e), ?_⟩
  by_contra hne
  refine h2 ?_
  unfold Scalar.cmpi IntOp.cmpi
  dsimp only
  rw [show (wCur T0 i != wPrev T0 i) = true from by simpa using hne]
  rfl

/-! ## The tables at launch and the pipeline at them -/

variable (m : (ℓ : Loc nD τ sig) → Buf (Elt F) ℓ) (ρ : Dev nD → PrngReg)

/-- The tables at launch. -/
def tbl : pre0.Contents (Elt F) := fun j => m (((0 : Dev nD) : Thread nD τ).loc (pre0.ref j))
abbrev T0 : S72.Idx → Elt F .i32 := tbl m 0
abbrev T1 : S1.Idx → Elt F .i32 := tbl m 1

variable (ok : ok0 (tbl m))

def adm : (pcfg0 (F := F)).Adm := ⟨tbl m, ok⟩
abbrev cfgA : Cfg sig Λ₀ := cfg0 (F := F) (adm m ok)
abbrev pcs : Fin 1 → Cfg sig Λ₀ := Pipeline.pin (pcfgs (F := F)) fun _ => adm m ok

/-- Point `t`'s coordinates. -/
abbrev crd (t : Fin (cfgA m ok).N) : grid0.Coords := (cfgA m ok).grid.coords t

abbrev ms0_0 (t : Fin (cfgA m ok).N) : Memref sig .tc .vmem S512x2048 .bf16 := spec0_0.stage ((cfgA m ok).slots t (0 : Fin 4))
abbrev hs0_0 (t : Fin (cfgA m ok).N) : (ms0_0 m ok t).IsWhole := hstage0_0 (((cfgA m ok).slots t (0 : Fin 4)).cast nbuf0_0)
abbrev ms0_1 (t : Fin (cfgA m ok).N) : Memref sig .tc .vmem S1x1x2048x1024 .f32 := spec0_1.stage ((cfgA m ok).slots t (1 : Fin 4))
abbrev hs0_1 (t : Fin (cfgA m ok).N) : (ms0_1 m ok t).IsWhole := hstage0_1 (((cfgA m ok).slots t (1 : Fin 4)).cast nbuf0_1)
abbrev ms0_2 (t : Fin (cfgA m ok).N) : Memref sig .tc .vmem S1x1x2048x1024 .f32 := spec0_2.stage ((cfgA m ok).slots t (2 : Fin 4))
abbrev hs0_2 (t : Fin (cfgA m ok).N) : (ms0_2 m ok t).IsWhole := hstage0_2 (((cfgA m ok).slots t (2 : Fin 4)).cast nbuf0_2)
abbrev ms0_3 (t : Fin (cfgA m ok).N) : Memref sig .tc .vmem S512x1024 .bf16 := spec0_3.stage ((cfgA m ok).slots t (3 : Fin 4))
abbrev hs0_3 (t : Fin (cfgA m ok).N) : (ms0_3 m ok t).IsWhole := hstage0_3 (((cfgA m ok).slots t (3 : Fin 4)).cast nbuf0_3)

/-- Window `w`'s block at point `t`, read off its array at launch. -/
def iblk (c : Dev nD) (w : Fin (cfgA m ok).W) (t : Fin (cfgA m ok).N) : (((cfgA m ok).win w).xblock (crd m ok t)).Idx → Elt F ((cfgA m ok).win w).elt :=
  (((cfgA m ok).win w).blk t).view.read (Elt F) (m (((cfgA m ok).win w).arr.view.loc (c : Thread nD τ)))

/-- The expert of a tile. -/
def expert (n : Fin 72) : ℕ := BitVec.toNat (T0 m (ix1 n))

theorem index_w1 (i : grid0.Coords) :
    cc0_transform_1 k0_off1_inb numel1_S1 (tbl m) i = ![1, expert m ⟨(i 1).val, tile_lt i⟩, 0, (i 0).val] := by
  have h4 : (i 0).val < 4 := (i 0).isLt
  have e : cc0_transform_1 k0_off1_inb numel1_S1 (tbl m) i = ![1, BitVec.toNat (wCur (T0 m) i), 0, (BitVec.ofNat 32 (i 0).val).toNat] := rfl
  rw [e, wCur_eq, BitVec.toNat_ofNat, Nat.mod_eq_of_lt (by omega)]
  rfl
theorem index_w2 (i : grid0.Coords) :
    cc0_transform_2 k0_off1_inb numel1_S1 (tbl m) i = ![1, expert m ⟨(i 1).val, tile_lt i⟩, 0, (i 0).val] := index_w1 m i

include ok in
theorem expert_lt (n : Fin 72) : expert m n < 8 := by
  obtain ⟨h, -⟩ := ok.1 (fun a => match a with | ⟨0, _⟩ => (0 : Fin 4) | ⟨1, _⟩ => n)
  have h1 := h 1
  rw [index_w1] at h1
  have : (expert m n + 1) * 1 ≤ 8 := h1
  omega

/-- The tile and the first column of a point. -/
def tile (t : Fin (cfgA m ok).N) : Fin 72 := ⟨t.val % 72, Nat.mod_lt _ (by omega)⟩
def colW (t : Fin (cfgA m ok).N) (q : Fin 1024) : Fin 4096 := ⟨t.val / 72 * 1024 + q.val, by
  have hN : (cfgA m ok).N = 288 := N_0
  have := t.isLt; have := q.isLt; omega⟩

theorem crd_eq' (t : Fin (cfgA m ok).N) : (crd m ok t 0).val = t.val / 72 ∧ (crd m ok t 1).val = t.val % 72 := crd_eq t

theorem idx1 (t : Fin (cfgA m ok).N) : ((cfgA m ok).win (1 : Fin 4)).index t = ![1, expert m (tile m ok t), 0, t.val / 72] := by
  have e : ((cfgA m ok).win (1 : Fin 4)).index t = cc0_transform_1 k0_off1_inb numel1_S1 (tbl m) (crd m ok t) := rfl
  rw [e, index_w1]
  obtain ⟨a, b⟩ := crd_eq' m ok t
  have h : (⟨(crd m ok t 1).val, tile_lt _⟩ : Fin 72) = tile m ok t := Fin.ext b
  rw [h, a]
theorem idx2 (t : Fin (cfgA m ok).N) : ((cfgA m ok).win (2 : Fin 4)).index t = ![1, expert m (tile m ok t), 0, t.val / 72] := idx1 m ok t

/-- The block of `w1` a point stages, by coordinates: its tile's expert's. -/
theorem ublk_apply (c : Dev nD) (t : Fin (cfgA m ok).N) (k : Fin 2048) (q : Fin 1024) :
    iblk m ok c (1 : Fin 4) t (ix4 0 0 k q : S1x1x2048x1024.Idx)
      = m ((c : Thread nD τ).loc main_arg3) (ix4 1 ⟨expert m (tile m ok t), expert_lt m ok _⟩ k (colW m ok t q)) := by
  have b := idx1 m ok t
  refine congrArg (m ((c : Thread nD τ).loc main_arg3)) (funext fun a => Fin.ext ?_)
  match a with
  | ⟨0, _⟩ => show ((cfgA m ok).win (1 : Fin 4)).index t (0 : Fin 4) * 1 + 1 * 0 = 1; rw [b]; rfl
  | ⟨1, _⟩ => show ((cfgA m ok).win (1 : Fin 4)).index t (1 : Fin 4) * 1 + 1 * 0 = expert m (tile m ok t); rw [b]; show expert m (tile m ok t) * 1 + 1 * 0 = _; omega
  | ⟨2, _⟩ => show ((cfgA m ok).win (1 : Fin 4)).index t (2 : Fin 4) * 2048 + 1 * k.val = k.val; rw [b]; show 0 * 2048 + 1 * k.val = _; omega
  | ⟨3, _⟩ => show ((cfgA m ok).win (1 : Fin 4)).index t (3 : Fin 4) * 1024 + 1 * q.val = t.val / 72 * 1024 + q.val; rw [b]; show t.val / 72 * 1024 + 1 * q.val = _; omega
/-- … and of `w3`. -/
theorem vblk_apply (c : Dev nD) (t : Fin (cfgA m ok).N) (k : Fin 2048) (q : Fin 1024) :
    iblk m ok c (2 : Fin 4) t (ix4 0 0 k q : S1x1x2048x1024.Idx)
      = m ((c : Thread nD τ).loc main_arg4) (ix4 1 ⟨expert m (tile m ok t), expert_lt m ok _⟩ k (colW m ok t q)) := by
  have b := idx2 m ok t
  refine congrArg (m ((c : Thread nD τ).loc main_arg4)) (funext fun a => Fin.ext ?_)
  match a with
  | ⟨0, _⟩ => show ((cfgA m ok).win (2 : Fin 4)).index t (0 : Fin 4) * 1 + 1 * 0 = 1; rw [b]; rfl
  | ⟨1, _⟩ => show ((cfgA m ok).win (2 : Fin 4)).index t (1 : Fin 4) * 1 + 1 * 0 = expert m (tile m ok t); rw [b]; show expert m (tile m ok t) * 1 + 1 * 0 = _; omega
  | ⟨2, _⟩ => show ((cfgA m ok).win (2 : Fin 4)).index t (2 : Fin 4) * 2048 + 1 * k.val = k.val; rw [b]; show 0 * 2048 + 1 * k.val = _; omega
  | ⟨3, _⟩ => show ((cfgA m ok).win (2 : Fin 4)).index t (3 : Fin 4) * 1024 + 1 * q.val = t.val / 72 * 1024 + q.val; rw [b]; show t.val / 72 * 1024 + 1 * q.val = _; omega

/-- The point before. -/
abbrev pr (t : Fin (cfgA m ok).N) : Fin (cfgA m ok).N := ⟨t.val - 1, Nat.lt_of_le_of_lt (Nat.sub_le _ _) t.isLt⟩

/-- Where the scratches are kept, the blocks are the point before's. -/
theorem blk_kept (c : Dev nD) (t : Fin (cfgA m ok).N) (h : ¬fills (T0 m) (crd m ok t)) :
    t.val ≠ 0 ∧ iblk m ok c (1 : Fin 4) (pr m ok t) = iblk m ok c (1 : Fin 4) t ∧ iblk m ok c (2 : Fin 4) (pr m ok t) = iblk m ok c (2 : Fin 4) t := by
  obtain ⟨h0, hw⟩ := kept _ _ h
  rw [wCur_eq, wPrev_eq] at hw
  obtain ⟨-, b⟩ := crd_eq' m ok t
  rw [b] at h0
  have hx : expert m (tile m ok (pr m ok t)) = expert m (tile m ok t) := by
    unfold expert
    have e1 : (⟨(crd m ok t 1).val, tile_lt _⟩ : Fin 72) = tile m ok t := Fin.ext b
    have e2 : (⟨(crd m ok t 1).val - 1, Nat.lt_of_le_of_lt (Nat.sub_le _ _) (tile_lt _)⟩ : Fin 72) = tile m ok (pr m ok t) := Fin.ext (by
      show (crd m ok t 1).val - 1 = (t.val - 1) % 72
      rw [b]; omega)
    rw [e1, e2] at hw
    exact congrArg BitVec.toNat hw.symm
  have hc : ∀ q, colW m ok (pr m ok t) q = colW m ok t q := fun q => Fin.ext (by
    show (t.val - 1) / 72 * 1024 + q.val = t.val / 72 * 1024 + q.val
    omega)
  have hf : (⟨expert m (tile m ok (pr m ok t)), expert_lt m ok _⟩ : Fin 8) = ⟨expert m (tile m ok t), expert_lt m ok _⟩ := Fin.ext hx
  refine ⟨by omega, ?_, ?_⟩
  all_goals
    funext y
    obtain ⟨z, z', k, q, rfl⟩ : ∃ (z z' : Fin 1) (k : Fin 2048) (q : Fin 1024), y = (ix4 z z' k q : S1x1x2048x1024.Idx) :=
      ⟨y 0, y 1, y 2, y 3, by funext a; fin_cases a <;> rfl⟩
    obtain rfl : z = 0 := Subsingleton.elim _ _
    obtain rfl : z' = 0 := Subsingleton.elim _ _
    first
      | exact (ublk_apply m ok c (pr m ok t) k q).trans (by rw [hf, hc]; exact (ublk_apply m ok c t k q).symm)
      | exact (vblk_apply m ok c (pr m ok t) k q).trans (by rw [hf, hc]; exact (vblk_apply m ok c t k q).symm)

/-! ## The pipeline's proof data -/

/-- What a point leaves in the output's staging buffer: the gated products where the tile is in use, else zeros. -/
def outv (c : Dev nD) (t : Fin (cfgA m ok).N) : Vec F S512x1024 .bf16 :=
  if used (T1 m) (crd m ok t) then
    k0_pay3 (iblk m ok c (0 : Fin 4) t) (k0_pay1 (iblk m ok c (1 : Fin 4) t)) (k0_pay2 (iblk m ok c (2 : Fin 4) t))
  else k0_pay4

/-- What the scratches hold before position `n`, past the first point. -/
def held0 (c : Dev nD) (n : ℕ) (b : Buf (Elt F) ((c : Thread nD τ).loc cc0_scratch0)) : Prop :=
  ∀ (k : ℕ) (h : k < (cfgA m ok).N), n = k + 1 → sc0.view.read (Elt F) b = k0_pay1 (iblk m ok c (1 : Fin 4) ⟨k, h⟩)
def held1 (c : Dev nD) (n : ℕ) (b : Buf (Elt F) ((c : Thread nD τ).loc cc0_scratch1)) : Prop :=
  ∀ (k : ℕ) (h : k < (cfgA m ok).N), n = k + 1 → sc1.view.read (Elt F) b = k0_pay2 (iblk m ok c (2 : Fin 4) ⟨k, h⟩)

/-- The invariant before position `n`. -/
def Phi (c : Dev nD) (n : ℕ) : sProp (MM F) :=
  iprop((∃ a, ⌜held0 m ok c n a⌝ ∗ (sc0.view.loc (c : Thread nD τ) ↦{fullShare} a)) ∗ (∃ a, ⌜held1 m ok c n a⌝ ∗ (sc1.view.loc (c : Thread nD τ) ↦{fullShare} a))
    ∗ (tb0.view.loc (c : Thread nD τ) ↦{fullShare.right} T0 m) ∗ (tb1.view.loc (c : Thread nD τ) ↦{fullShare.right} T1 m))

def dats (_ : Fin 1) (c : Dev nD) : Dat τ (Elt F) Unit ℕ (UR sig nD τ) ℕ (cfgA m ok) c where
  A w := m (((cfgA m ok).win w).arr.view.loc (c : Thread nD τ))
  after w t := match w with
    | ⟨0, _⟩ => iblk m ok c (0 : Fin 4) t
    | ⟨1, _⟩ => iblk m ok c (1 : Fin 4) t
    | ⟨2, _⟩ => iblk m ok c (2 : Fin 4) t
    | ⟨3, _⟩ => outv m ok c t
  Φ t := Phi m ok c t.val
  q _ := fullShare
  owed _ := 0

theorem phi_eq (c : Dev nD) (t : Fin ((cfgA m ok).N + 1)) : (dats m ok 0 c).Φ t = Phi m ok c t.val := rfl

theorem after0_0 (c : Dev nD) (t : Fin (cfgA m ok).N) : (dats m ok 0 c).after (0 : Fin 4) t = iblk m ok c (0 : Fin 4) t := rfl
theorem after0_1 (c : Dev nD) (t : Fin (cfgA m ok).N) : (dats m ok 0 c).after (1 : Fin 4) t = iblk m ok c (1 : Fin 4) t := rfl
theorem after0_2 (c : Dev nD) (t : Fin (cfgA m ok).N) : (dats m ok 0 c).after (2 : Fin 4) t = iblk m ok c (2 : Fin 4) t := rfl
theorem after0_3 (c : Dev nD) (t : Fin (cfgA m ok).N) : (dats m ok 0 c).after (3 : Fin 4) t = outv m ok c t := rfl

theorem before0_0 (c : Dev nD) (t : Fin (cfgA m ok).N) (d) : (dats m ok 0 c).before (0 : Fin 4) t d = iblk m ok c (0 : Fin 4) t :=
  ((dats m ok 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m ok).N) (d) : (dats m ok 0 c).before (1 : Fin 4) t d = iblk m ok c (1 : Fin 4) t :=
  ((dats m ok 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m ok).N) (d) : (dats m ok 0 c).before (2 : Fin 4) t d = iblk m ok c (2 : Fin 4) t :=
  ((dats m ok 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Every point stores the output: a tile is in use or not. -/
theorem idle3 (t : Fin (cfgA m ok).N) : (cfgA m ok).idle (3 : Fin 4) ((cfgA m ok).grid.coords t) = false := by
  have e : (cfgA m ok).idle (3 : Fin 4) ((cfgA m ok).grid.coords t)
      = (!(k0_cond2 (crd m ok t) (wUsed (T1 m)) == 1#1) && !(k0_cond3 (crd m ok t) (wUsed (T1 m)) == 1#1)) := by
    rw [wUsed_eq]
    show (!(k0_cond2 (crd m ok t) ((tbl m).atD 1 ![0]) == 1#1) && !(k0_cond3 (crd m ok t) ((tbl m).atD 1 ![0]) == 1#1)) = _
    have h : (tbl m).atD 1 ![0] = T1 m (ix1 0) := by
      have hb : ∀ a : Fin 1, (![0] : Fin 1 → ℕ) a + 1 ≤ S1.size a := by decide
      refine (dif_pos hb).trans ?_
      exact congrArg (T1 m) (funext fun a => Fin.ext (by match a with | ⟨0, _⟩ => rfl))
    rw [h]
  rw [e]
  by_cases hu : used (T1 m) (crd m ok t)
  · rw [show k0_cond2 (crd m ok t) (wUsed (T1 m)) = 1#1 from hu]; rfl
  · rw [show k0_cond3 (crd m ok t) (wUsed (T1 m)) = 1#1 from (spare_iff _ _).mpr hu]; exact Bool.and_false _

end Cert.MoeUpLastIdeal.Hand

end
-- ==== Proof.MoeUpLastIdealFrame.lean ====
/-
  The experts' first products with the SwiGLU: the body at a point from its four runs, and the launch.
-/
module

public import proofs.«01_k».proof.Proof.MoeUpLastIdealFacts
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeUpLastIdeal.Hand

open Cert.MoeUpLastIdeal Cert.MoeUpLastIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]
variable (m : (ℓ : Loc nD τ sig) → Buf (Elt F) ℓ) (ρ : Dev nD → PrngReg) (ok : ok0 (tbl m))

/-! ## The body at a point -/

abbrev bodyAt0 (t : Fin (cfgA m ok).N) : Prog (TpuEff nD τ sig (Elt F) Λ₀ .tc) PUnit :=
  cc0_moe_up (crd m ok t) (Memref.whole main_arg0) (Memref.isWhole_whole _) (Memref.whole main_arg1) (Memref.isWhole_whole _) (ms0_0 m ok t) (hs0_0 m ok t) (ms0_1 m ok t) (hs0_1 m ok t) (ms0_2 m ok t) (hs0_2 m ok t) (ms0_3 m ok t) (hs0_3 m ok t) (Memref.whole cc0_scratch0) (Memref.isWhole_whole _) (Memref.whole cc0_scratch1) (Memref.isWhole_whole _)

set_option maxHeartbeats 4000000 in
theorem sound_body (c : Dev nD) (t : Fin (cfgA m ok).N) :
    iprop((dats m ok 0 c).Φ t.castSucc ∗ (dats m ok 0 c).owesAt () t.castSucc
        ∗ (∃ d, owns (c : Thread nD τ) (ms0_0 m ok t) fullShare ((dats m ok 0 c).before (0 : Fin 4) t d))
        ∗ (∃ d, owns (c : Thread nD τ) (ms0_1 m ok t) fullShare ((dats m ok 0 c).before (1 : Fin 4) t d))
        ∗ (∃ d, owns (c : Thread nD τ) (ms0_2 m ok t) fullShare ((dats m ok 0 c).before (2 : Fin 4) t d))
        ∗ (∃ d, owns (c : Thread nD τ) (ms0_3 m ok t) fullShare ((dats m ok 0 c).before (3 : Fin 4) t d)))
      ⊢ wp frame (wpE (defs₀ (F := F)) Variants.none c none) Set.univ (bodyAt0 m ok t) fun _ =>
          iprop((dats m ok 0 c).Φ t.succ ∗ (dats m ok 0 c).owesAt () t.succ
            ∗ bigSep Finset.univ fun w : Fin (cfgA m ok).W =>
                match (cfgA m ok).idle w ((cfgA m ok).grid.coords t) with
                | true =>
                  match ((cfgA m ok).win w).flush t with
                  | false => iprop(∃ d, owns (c : Thread nD τ) (((cfgA m ok).win w).stage ((cfgA m ok).slots t w)) fullShare ((dats m ok 0 c).before w t d))
                  | true => owns (c : Thread nD τ) (((cfgA m ok).win w).stage ((cfgA m ok).slots t w)) fullShare ((dats m ok 0 c).after w t)
                | false => owns (c : Thread nD τ) (((cfgA m ok).win w).stage ((cfgA m ok).slots t w)) fullShare ((dats m ok 0 c).after w t)) := by
  rw [bigSep_W0]
  have i3 := idle3 m ok t
  rewrite [i3]
  simp only [before0_0, before0_1, before0_2, after0_0, after0_1, after0_2, after0_3]
  rewrite [phi_eq, phi_eq, Fin.val_succ, Fin.val_castSucc, show (dats m ok 0 c).owesAt () t.succ = (dats m ok 0 c).owesAt () t.castSucc from rfl]
  unfold Phi
  by_cases hu : used (T1 m) (crd m ok t)
  · have hs : ¬spare (T1 m) (crd m ok t) := fun h => (spare_iff _ _).mp h hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_A c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_B c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
  · have hs : spare (T1 m) (crd m ok t) := (spare_iff _ _).mpr hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_C c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_D c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
theorem body_obligation (c : Dev nD) : BodyObligation (dats m ok 0 c) (defs₀ (F := F)) Variants.none () Set.univ := fun t => by
  rw [bigSep_W0]
  exact sound_body m ok c t

/-! ## The launch -/

def u₀ : UR sig nD τ :=
  initOf (Pipeline.cells (pcs m ok) ((launch0 (F := F)).cellOf_inj fun _ => adm m ok))
    (Pipeline.launchToks (pcs m ok) ((launch0 (F := F)).cellOf_inj fun _ => adm m ok))

theorem share_eq (c : Dev nD) (w : Fin (cfgA m ok).W) : (dats m ok 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m ok).1 ∗ Pipeline.scopedRest spec0 c) ⊢ (dats m ok 0 c).Φ 0 := by
  rw [prefHeld_eq, scopedRest0_eq, show (dats m ok 0 c).Φ 0 = Phi m ok c 0 from rfl]
  unfold Phi
  iintro ⟨-, ⟨HT0, HT1⟩, ⟨%a0, HS0⟩, ⟨%a1, HS1⟩⟩
  isplitl [HS0]
  · iexists a0; isplitr; swap
    · iexact HS0
    · ipureintro; intro k h e; exact absurd e (by omega)
  isplitl [HS1]
  · iexists a1; isplitr; swap
    · iexact HS1
    · ipureintro; intro k h e; exact absurd e (by omega)
  isplitl [HT0]
  · iexact HT0
  iexact HT1

theorem phiN_exit (c : Dev nD) : (dats m ok 0 c).Φ (Fin.last (cfgA m ok).N) ⊢ iprop(BI.emp ∗ Pipeline.scopedRest spec0 c) := by
  rw [scopedRest0_eq, show (dats m ok 0 c).Φ (Fin.last (cfgA m ok).N) = Phi m ok c (cfgA m ok).N from rfl]
  unfold Phi
  iintro ⟨⟨%a0, -, HS0⟩, ⟨%a1, -, HS1⟩, -, -⟩
  isplitr; · iempintro
  isplitl [HS0]
  · iexists a0; iexact HS0
  iexists a1; iexact HS1

/-- Every array at what its blocks make it, every table as it was. -/
def QC : PUnit × MemSt nD τ sig (Elt F) → Prop := fun r =>
  ∀ c : Dev nD, (∀ w : Fin (cfgA m ok).W, r.2.mem (((cfgA m ok).win w).arr.view.loc (c : Thread nD τ)) = (dats m ok 0 c).arrAt w (cfgA m ok).N)
    ∧ ∀ j, r.2.mem ((c : Thread nD τ).loc (pre0.ref j)) = (adm m ok).1 j

theorem V_pre (c : Dev nD) (j : Fin 2) : m ((c : Thread nD τ).loc (pre0.ref j)) = (adm m ok).1 j := by
  obtain rfl : c = 0 := Subsingleton.elim _ _
  rfl

set_option backward.isDefEq.respectTransparency.types false in
set_option maxHeartbeats 4000000 in
theorem run_main_quiescent : θ_run (defs (F := F)) (onTc (τ := τ) (main (F := F))) (s₀ m ρ) (fun r => QC m ok r ∧ r.2.sem = fun _ => 0) :=
  Pipeline.θ_run_region_noSem_pf_quiescent pcfgs (fun _ => adm m ok) (dats m ok) () ((launch0 (F := F)).cellOf_inj fun _ => adm m ok) (0 : Fin 1)
    (launch0 (F := F)).win.to₀ (launch0 (F := F)).pre (emb₁ : Emb (UR sig nD τ) (MM F)) defs₀ Variants.none m ρ main
    (hbody := fun c => (body_obligation m ok c).loose) (hne := (launch0 (F := F)).block_pos)
    (harr := (launch0 (F := F)).arr_whole) (hstage := (launch0 (F := F)).stage_whole) (howed := fun _ _ => rfl)
    (u₀ := u₀ m ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m ok) (dats m ok) 0 (launch0 (F := F)).win.arr_inj c (launch0 (F := F)).arr_whole
      (share_eq m ok c) _ _ fun _ => rfl)
    (hpf := V_pre m ok)
    (X := fun _ => iprop(emp)) (Y := fun _ => iprop(emp)) (Z := fun _ => iprop(emp))
    (hX := fun c => by rw [unscopedRestP0_eq]; iintro -; isplitr <;> iempintro)
    (hin := phi0_intro m ok)
    (hout := phiN_exit m ok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run read: the result array at what the points' blocks make it, the arguments unchanged. -/
theorem run_blocks :
    θ_run (defs (F := F)) (onTc (τ := τ) (main (F := F))) ⟨m, fun _ => 0, ρ⟩ (fun r => (∀ c : Dev nD,
      r.2.mem ((c.tc : Thread nD τ).loc main_v0) = (dats m ok 0 c).arrAt (3 : Fin 4) (cfgA m ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (3 : Fin 4), ((h.1 c).2 0).trans (V_pre m ok c 0).symm, ((h.1 c).2 1).trans (V_pre m ok c 1).symm,
    ((h.1 c).1 (0 : Fin 4)).trans ((dats m ok 0 c).arrAt_in (0 : Fin 4) rfl _), ((h.1 c).1 (1 : Fin 4)).trans ((dats m ok 0 c).arrAt_in (1 : Fin 4) rfl _),
    ((h.1 c).1 (2 : Fin 4)).trans ((dats m ok 0 c).arrAt_in (2 : Fin 4) rfl _)⟩, h.2⟩) (run_main_quiescent m ρ ok)

include ok in
/-- The frame. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_blocks m ρ ok)

end Cert.MoeUpLastIdeal.Hand

end
-- ==== Proof.MoeUpLastOk.lean ====
/-
  The experts' first products: every row tile naming an expert, the weights' blocks the tiles' words place lie inside the
  weights — what the launch takes of its tables; and the frame of the program over bits, whose text is the other's.
-/
module

public import proofs.«01_k».proof.Defs
public import proofs.«01_k».proof.Proof.MoeUpLastIdealFrame
public import proofs.«01_k».proof.Proof.Gen.MoeUpLast
public import proofs.«01_k».proof.Proof.Gen.Pre_tiles_named_last

@[expose] public section

set_option maxRecDepth 16384

noncomputable section

namespace Cert.MoeUpLastOk

open Idealize.ShloMosaic

/-- A word the precondition admits is a count below eight. -/
theorem word_lt (a : BitVec 32) (h : IntOp.andi (IntOp.cmpi .sge a 0#32) (IntOp.cmpi .slt a 8#32) = 1#1) : a.toNat < 8 := by
  have h' : (BitVec.ofBool ((0#32).sle a) &&& BitVec.ofBool (a.slt 8#32)) = 1#1 := h
  cases h1 : (0#32).sle a <;> cases h2 : a.slt 8#32 <;> rw [h1, h2] at h'
  · exact absurd h' (by decide)
  · exact absurd h' (by decide)
  · exact absurd h' (by decide)
  · simp only [BitVec.sle, BitVec.slt, decide_eq_true_eq] at h1 h2
    rw [BitVec.toInt_eq_toNat_cond] at h1 h2
    rw [BitVec.toInt_eq_toNat_cond] at h1 h2
    simp only [BitVec.toNat_ofNat] at h1 h2
    have := a.isLt
    split at h1 <;> omega

end Cert.MoeUpLastOk

namespace Cert.MoeUpLastIdeal.Hand

open Cert.MoeUpLastIdeal Cert.MoeUpLastIdeal.Gen Idealize.ShloMosaic Idealize.ShloMosaic.TcCoe Idealize.SL.Sem
open Idealize.ShloMosaic.ValueIdx (ix1)

/-- The side condition, of a table whose words are below eight. -/
theorem ok_of_lt {F : FTy → Type} [FloatOps F] (m : (ℓ : Loc nD τ sig) → Buf (Elt F) ℓ) (h : ∀ n : Fin 72, expert m n < 8) : ok0 (tbl m) := by
  have b : ∀ (i : grid0.Coords) (a : Fin 4),
      ((![1, expert m ⟨(i 1).val, tile_lt i⟩, 0, (i 0).val] : Fin 4 → ℕ) a + 1) * S1x1x2048x1024.size a ≤ S2x8x2048x4096.size a := fun i a => by
    have h4 : (i 0).val < 4 := (i 0).isLt
    have h8 := h ⟨(i 1).val, tile_lt i⟩
    match a with
    | ⟨0, _⟩ => show (1 + 1) * 1 ≤ 2; omega
    | ⟨1, _⟩ => show (expert m ⟨(i 1).val, tile_lt i⟩ + 1) * 1 ≤ 8; omega
    | ⟨2, _⟩ => show (0 + 1) * 2048 ≤ 2048; omega
    | ⟨3, _⟩ => show ((i 0).val + 1) * 1024 ≤ 4096; omega
  exact ⟨fun i => ⟨by rw [index_w1]; exact b i, .inl rfl⟩, fun i => ⟨by rw [index_w2]; exact b i, .inl rfl⟩⟩

/-- The side condition, under the precondition. -/
theorem ok_of_pre (m : (ℓ : Loc nD τ sig) → Buf (Elt Ideal) ℓ) (h : Cert.Pre_MoeUpLastIdeal m) : ok0 (tbl m) :=
  ok_of_lt m fun n => Cert.MoeUpLastOk.word_lt _ (congrFun (h 0) (ix1 n))

/-- The frame. -/
theorem frame_ideal : Cert.quiescent_MoeUpLastIdeal := fun m ρ h => frame (F := Ideal) m ρ (ok_of_pre m h)

/-- The two programs' bodies are one. -/
theorem defs₀_same {F : FTy → Type} [FloatOps F] : Cert.MoeUpLastIdeal.defs₀ (F := F) = Cert.MoeUpLast.defs₀ (F := F) := by
  unfold Cert.MoeUpLastIdeal.defs₀ Cert.MoeUpLast.defs₀
  refine congrArg Defs.onTc (funext fun ℓ => funext fun a => ?_)
  match ℓ, a with
  | 0, (t, s) => rfl
  | ⟨_ + 1, h⟩, _ => exact absurd h (Nat.not_lt.2 (Nat.le_add_left _ _))

theorem defs_same {F : FTy → Type} [FloatOps F] : Cert.MoeUpLastIdeal.defs (F := F) = Cert.MoeUpLast.defs (F := F) :=
  congrArg (Pipeline.defs Cert.MoeUpLastIdeal.pcfgs) defs₀_same

set_option maxHeartbeats 4000000 in
/-- The frame of the program over bits. -/
theorem frame_kernel : Cert.quiescent_MoeUpLast := fun m ρ h => by
  have q := frame (F := Bits) m ρ (ok_of_lt (F := Bits) m fun n => Cert.MoeUpLastOk.word_lt _ (congrFun (h 0) (ix1 n)))
  rw [defs_same] at q
  exact q

end Cert.MoeUpLastIdeal.Hand

end
-- ==== Proof.MoeUpLastValue.lean ====
/-
  The experts' first products with the SwiGLU: the result array. A row tile in use holds `silu a · b` of its rows' products
  with its own expert's `w1` and `w3`, a spare tile zeros.
-/
module

public import proofs.«01_k».proof.Proof.MoeUpLastIdealFrame
public import Idealize.ShloMosaic.Lib.IdealHost

@[expose] public section

set_option maxRecDepth 16384

noncomputable section

namespace Cert.MoeUpLastIdeal.RefValue

open Cert.MoeUpLastIdeal Cert.MoeUpLastIdeal.Gen Cert.MoeUpLastIdeal.Hand Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (ok : ok0 (tbl m))

/-- Row `r` of the rows times column `j` of expert `e`'s weight in the last layer. -/
def prod (h : FVec Ideal S36864x2048 .bf16) (w : FVec Ideal S2x8x2048x4096 .f32) (e : Fin 8) (r : Fin 36864) (j : Fin 4096) : EReal :=
  ∑ k : Fin 2048, h (ix2 r k) * w (ix4 1 e k j)

/-- The gated product: `silu a · b`. -/
def gated (a b : EReal) : EReal := a * Ideal.logistic a * b

/-- The tile of a row. -/
def rowTile (r : Fin 36864) : Fin 72 := ⟨r.val / 512, by have := r.isLt; omega⟩

/-- A tile is in use. -/
def inUse (n1 : S1.Idx → BitVec 32) (n : Fin 72) : Bool := (BitVec.ofNat 32 n.val).slt (n1 (ix1 0))

/-- The expert a tile's word names. -/
def named (n : Fin 72) : Fin 8 := ⟨expert m n, expert_lt m ok n⟩

/-- The result array. -/
def G (c : Dev nD) : Buf (Elt Ideal) ((c : Thread nD τ).loc main_v0) := fun i =>
  if inUse (T1 m) (rowTile (i 0)) = true then
    gated (prod (m ((c : Thread nD τ).loc main_arg2)) (m ((c : Thread nD τ).loc main_arg3)) (named m ok (rowTile (i 0))) (i 0) (i 1))
      (prod (m ((c : Thread nD τ).loc main_arg2)) (m ((c : Thread nD τ).loc main_arg4)) (named m ok (rowTile (i 0))) (i 0) (i 1))
  else (0 : EReal)

/-- The stored block at an index, from its two products. -/
theorem pay_apply (x : FVec Ideal S512x2048 .bf16) (u v : FVec Ideal S2048x1024 .bf16) (y : S512x1024.Idx) :
    k0_pay3 (F := Ideal) x u v y
      = gated (FloatOps.matmul (F := Ideal) (φ₁ := .bf16) (φ₂ := .bf16) (DotDims.plain 512 2048 1024) none x u (constant _ .f32 0x00000000#32) y)
          (FloatOps.matmul (F := Ideal) (φ₁ := .bf16) (φ₂ := .bf16) (DotDims.plain 512 2048 1024) none x v (constant _ .f32 0x00000000#32) y) := by
  have h : ∀ a b : EReal, a * Ideal.div (Ideal.ofBits .f32 0x3F800000#32)
      (Ideal.ofBits .f32 0x3F800000#32 + Ideal.exp (Ideal.ofBits .f32 0x00000000#32 - a)) * b = gated a b := fun a b => by
    unfold gated Ideal.logistic
    rw [Ideal.ofBits_one_f32, show Ideal.ofBits .f32 0x00000000#32 = 0 by simp, zero_sub]
  exact h _ _

theorem pay4_apply (y : S512x1024.Idx) : k0_pay4 (F := Ideal) y = 0 := by
  show Ideal.ofBits .bf16 0x0000#16 = 0
  simp

theorem idx0 (t : Fin (cfgA m ok).N) : ((cfgA m ok).win (0 : Fin 4)).index t = ![t.val % 72, 0] := by
  obtain ⟨a, b⟩ := crd_eq' m ok t
  have e : ((cfgA m ok).win (0 : Fin 4)).index t = ![(BitVec.ofNat 32 (crd m ok t 1).val).toNat, 0] := rfl
  rw [e, b, BitVec.toNat_ofNat, Nat.mod_eq_of_lt (show t.val % 72 < 2 ^ 32 by omega)]
theorem idx3 (t : Fin (cfgA m ok).N) : ((cfgA m ok).win (3 : Fin 4)).index t = ![t.val % 72, t.val / 72] := by
  obtain ⟨a, b⟩ := crd_eq' m ok t
  have hN : (cfgA m ok).N = 288 := N_0
  have ht := t.isLt
  have e : ((cfgA m ok).win (3 : Fin 4)).index t = ![(BitVec.ofNat 32 (crd m ok t 1).val).toNat, (BitVec.ofNat 32 (crd m ok t 0).val).toNat] := rfl
  rw [e, a, b, BitVec.toNat_ofNat, BitVec.toNat_ofNat, Nat.mod_eq_of_lt (show t.val % 72 < 2 ^ 32 by omega), Nat.mod_eq_of_lt (show t.val / 72 < 2 ^ 32 by omega)]

/-- Every point writes its block back: the next point's is another. -/
theorem flush3 (t : Fin (cfgA m ok).N) : ((cfgA m ok).win (3 : Fin 4)).flush t = true := by
  have hN : (cfgA m ok).N = 288 := N_0
  unfold Pipeline.Window.flush
  have ho : ((cfgA m ok).win (3 : Fin 4)).isOut = true := rfl
  rw [ho, Bool.true_and, Bool.or_eq_true]
  by_cases hl : t.val + 1 = 288
  · exact .inl (decide_eq_true (hl.trans N_0.symm))
  · have ht : t.val + 1 < (cfgA m ok).N := by have := t.isLt; omega
    refine .inr (decide_eq_true ⟨ht, fun h => ?_⟩)
    have h0 := congrFun h (0 : Fin 2)
    rw [idx3, idx3] at h0
    have h0' : (t.val + 1) % 72 = t.val % 72 := h0
    omega

theorem used_eq (t : Fin (cfgA m ok).N) : used (T1 m) (crd m ok t) ↔ inUse (T1 m) (tile m ok t) = true := by
  rw [used_iff, wUsed_eq, (crd_eq' m ok t).2]
  exact Iff.rfl

set_option maxHeartbeats 1600000 in
theorem flushed_eq (c : Dev nD) (t : Fin (cfgA m ok).N) :
    (dats m ok 0 c).flushed (3 : Fin 4) t = (((cfgA m ok).win (3 : Fin 4)).blk t).view.read (Elt Ideal) (G m ok c) := by
  have o := idx3 m ok t
  have ax := idx0 m ok t
  funext y
  obtain ⟨r, q, rfl⟩ : ∃ (r : Fin 512) (q : Fin 1024), y = (ix2 r q : S512x1024.Idx) := ⟨y 0, y 1, by funext a; fin_cases a <;> rfl⟩
  show outv m ok c t (ix2 r q) = G m ok c ((((cfgA m ok).win (3 : Fin 4)).blk t).view.emb (ix2 r q : S512x1024.Idx))
  set z : S36864x4096.Idx := (((cfgA m ok).win (3 : Fin 4)).blk t).view.emb (ix2 r q : S512x1024.Idx) with hz
  have hr := r.isLt
  have z0 : (z 0).val = t.val % 72 * 512 + r.val := by
    show ((cfgA m ok).win (3 : Fin 4)).index t (0 : Fin 2) * 512 + 1 * r.val = _
    rw [o]; show t.val % 72 * 512 + 1 * r.val = _; omega
  have z1 : z 1 = colW m ok t q := Fin.ext (by
    show ((cfgA m ok).win (3 : Fin 4)).index t (1 : Fin 2) * 1024 + 1 * q.val = t.val / 72 * 1024 + q.val
    rw [o]; show t.val / 72 * 1024 + 1 * q.val = _; omega)
  have zt : rowTile (z 0) = tile m ok t := Fin.ext (by
    show (z 0).val / 512 = t.val % 72
    rw [z0]; omega)
  unfold G outv
  rw [zt]
  by_cases hu : used (T1 m) (crd m ok t)
  · rw [if_pos hu, if_pos ((used_eq m ok t).mp hu), pay_apply, mm_apply, mm_apply]
    have ex : ∀ k : Fin 2048, iblk m ok c (0 : Fin 4) t (ix2 r k : S512x2048.Idx) = m ((c : Thread nD τ).loc main_arg2) (ix2 (z 0) k) := fun k => by
      refine congrArg (m ((c : Thread nD τ).loc main_arg2)) (funext fun a => Fin.ext ?_)
      match a with
      | ⟨0, _⟩ =>
        show ((cfgA m ok).win (0 : Fin 4)).index t (0 : Fin 2) * 512 + 1 * r.val = (z 0).val
        rw [ax, z0]; show t.val % 72 * 512 + 1 * r.val = _; omega
      | ⟨1, _⟩ =>
        show ((cfgA m ok).win (0 : Fin 4)).index t (1 : Fin 2) * 2048 + 1 * k.val = k.val
        rw [ax]; show 0 * 2048 + 1 * k.val = _; omega
    unfold prod k0_pay1 k0_pay2
    rw [shapeCast_self, shapeCast_self]
    congr 1
    · refine Finset.sum_congr rfl fun k _ => ?_
      refine congrArg₂ (fun a b : EReal => a * b) (ex k) ?_
      show shapeCast S2048x1024 (iblk m ok c (1 : Fin 4) t) shapeCasts_S1x1x2048x1024_S2048x1024 (ix2 k q) = _
      rw [drop2_apply, z1]
      exact ublk_apply m ok c t k q
    · refine Finset.sum_congr rfl fun k _ => ?_
      refine congrArg₂ (fun a b : EReal => a * b) (ex k) ?_
      show shapeCast S2048x1024 (iblk m ok c (2 : Fin 4) t) shapeCasts_S1x1x2048x1024_S2048x1024 (ix2 k q) = _
      rw [drop2_apply, z1]
      exact vblk_apply m ok c t k q
  · rw [if_neg hu, if_neg (fun h => hu ((used_eq m ok t).mpr h))]
    exact pay4_apply _

theorem mem_blk (t : Fin (cfgA m ok).N) (i : S36864x4096.Idx) :
    i ∈ (((cfgA m ok).win (3 : Fin 4)).blk t).view.set
      ↔ ∀ a : Fin 2, ((cfgA m ok).win (3 : Fin 4)).index t a * S512x1024.size a ≤ (i a).val ∧ (i a).val < ((cfgA m ok).win (3 : Fin 4)).index t a * S512x1024.size a + S512x1024.size a := by
  show i ∈ ((View.whole main_v0).slice (((cfgA m ok).win (3 : Fin 4)).rect t)).set ↔ _
  rw [View.set_slice_whole, Rect.mem_set_unit]
  exact Iff.rfl

theorem cover (i : S36864x4096.Idx) : ∃ t : Fin (cfgA m ok).N, ((cfgA m ok).win (3 : Fin 4)).flush t = true ∧ i ∈ (((cfgA m ok).win (3 : Fin 4)).blk t).view.set := by
  have h0 : (i 0).val < 36864 := (i 0).isLt
  have h1 : (i 1).val < 4096 := (i 1).isLt
  have hN : (cfgA m ok).N = 288 := N_0
  have ht : (i 1).val / 1024 * 72 + (i 0).val / 512 < (cfgA m ok).N := by omega
  refine ⟨⟨_, ht⟩, flush3 m ok _, ?_⟩
  rw [mem_blk, idx3]
  intro a
  match a with
  | ⟨0, _⟩ =>
    show ((i 1).val / 1024 * 72 + (i 0).val / 512) % 72 * 512 ≤ (i 0).val ∧ (i 0).val < ((i 1).val / 1024 * 72 + (i 0).val / 512) % 72 * 512 + 512
    omega
  | ⟨1, _⟩ =>
    show ((i 1).val / 1024 * 72 + (i 0).val / 512) / 72 * 1024 ≤ (i 1).val ∧ (i 1).val < ((i 1).val / 1024 * 72 + (i 0).val / 512) / 72 * 1024 + 1024
    omega

theorem final (c : Dev nD) : (dats m ok 0 c).arrAt (3 : Fin 4) (cfgA m ok).N = G m ok c :=
  (dats m ok 0 c).arrAt_eq_of_cover (3 : Fin 4) (G m ok c) (fun t _ => flushed_eq m ok c t) (cover m ok)

/-- The run read. -/
theorem run : θ_run defs (onTc (τ := τ) (main (F := Ideal))) ⟨m, fun _ => 0, ρ⟩ fun r => ∀ c : Dev nD,
      r.2.mem ((c : Thread nD τ).loc main_v0) = G m ok c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1.trans (final m ok c), (h.1 c).2⟩) (run_blocks m ρ ok)

end Cert.MoeUpLastIdeal.RefValue

end
-- ==== Proof.MoeUpLastRef.lean ====
/-
  The experts' first products: the reference read at an index. Its loop over the experts adds each expert's gated products
  where the row's tile names that expert; one does, or none where the tile is spare.
-/
module

public import proofs.«01_k».proof.Proof.MoeUpLastValue
public import proofs.«01_k».proof.Proof.Gen.MoeUpLastRefIdeal.Run
public import proofs.«01_k».proof.Proof.Gen.MoeUpLastRefIdeal.Read

@[expose] public section

set_option maxRecDepth 16384

noncomputable section

namespace Cert.MoeUpLastIdeal.RefValue

open Cert.Common Idealize.ShloMosaic Idealize.ShloMosaic.TcCoe Idealize.SL.Sem Idealize.ShloMosaic.ValueIdx
open Cert.MoeUpLastRefIdeal Cert.MoeUpLastRefIdeal.Read

variable (te : Cert.MoeUpLastRefIdeal.S72.Idx → BitVec 32) (nu : Cert.MoeUpLastRefIdeal.S1.Idx → BitVec 32)
variable (h : FVec Ideal Cert.MoeUpLastRefIdeal.S36864x2048 .bf16) (w w₁ w₃ : FVec Ideal Cert.MoeUpLastRefIdeal.S2x8x2048x4096 .f32)

/-- The tile's word, `-1` where the tile is spare. -/
theorem word_apply (n : Fin 72) : val_main_v4 (F := Ideal) te nu (ix1 n : Cert.MoeUpLastRefIdeal.S72.Idx) = if inUse nu n = true then te (ix1 n) else 4294967295#32 := by
  have e1 : val_main_v1 (F := Ideal) nu (idx_main_v2 (ix1 n)) = nu (ix1 0) :=
    shapeCast_apply nu _ (idx_main_v2 (ix1 n)) (ix1 0) rfl
  rw [val_main_v4_apply, val_main_v3_apply, val_main_v2_apply, val_main_v0_apply, val_main_call0_v1_apply, e1]
  have e : ∀ b : Bool, Scalar.select (BitVec.ofBool b) (te (ix1 n)) (4294967295#32) = if b = true then te (ix1 n) else 4294967295#32 := fun b => by
    cases b <;> rfl
  exact e _

/-- The weight of expert `e` at a row: whether its tile's word is `e`'s. -/
theorem comb_apply (r : Fin 36864) (e : Fin 8) : val_main_v8 (F := Ideal) te nu (ix2 r e : Cert.MoeUpLastRefIdeal.S36864x8.Idx)
    = if (if inUse nu (rowTile r) = true then te (ix1 (rowTile r)) else 4294967295#32) = BitVec.ofNat 32 e.val then (1 : EReal) else 0 := by
  rw [← word_apply te nu (rowTile r), val_main_v8_apply, val_main_call1_v4_apply, val_main_call1_v2_apply, val_main_call1_v0_apply, val_main_v7_apply, val_main_v6_apply,
    val_main_v5_apply, val_main_call1_v3_apply, val_main_call1_v1_apply]
  have e1 : ∀ a b : BitVec 32, (FloatOps.uitofp (F := Ideal) .f32 (IntOp.cmpi .eq a b) : EReal) = if a = b then (1 : EReal) else 0 := fun a b => by
    by_cases hab : a = b
    · subst hab
      have q : IntOp.cmpi .eq a a = 1#1 := by simp [IntOp.cmpi]
      rw [if_pos rfl, q]
      show (((1#1 : BitVec 1).toNat : ℝ) : EReal) = 1
      simp
    · have q : IntOp.cmpi .eq a b = 0#1 := by
        simp only [IntOp.cmpi]
        rw [beq_eq_false_iff_ne.mpr hab]; rfl
      rw [if_neg hab, q]
      show (((0#1 : BitVec 1).toNat : ℝ) : EReal) = 0
      simp
  refine (e1 _ _).trans ?_
  have e2 : (idx_main_v5 (idx_main_v6 (idx_main_v7 (idx_main_call1_v0 (idx_main_call1_v2 (ix2 r e))))) : Cert.MoeUpLastRefIdeal.S72.Idx) = ix1 (rowTile r) :=
    funext fun a => match a with | ⟨0, _⟩ => rfl
  rw [e2]

theorem ref_w1_0 (i : Cert.MoeUpLastRefIdeal.S36864x4096.Idx) : val_main_v14 (F := Ideal) h w i = prod h w 0 (i 0) (i 1) := by
  have h1 : (i 1).val < 4096 := (i 1).isLt
  refine (val_main_v14_apply h w i).trans (Finset.sum_congr rfl fun k _ => ?_)
  have hk : k.val < 2048 := k.isLt
  rw [val_main_v13_apply, val_main_v12_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_0 (i : Cert.MoeUpLastRefIdeal.S36864x4096.Idx) : val_main_v18 (F := Ideal) h w i = prod h w 0 (i 0) (i 1) := by
  have h1 : (i 1).val < 4096 := (i 1).isLt
  refine (val_main_v18_apply h w i).trans (Finset.sum_congr rfl fun k _ => ?_)
  have hk : k.val < 2048 := k.isLt
  rw [val_main_v17_apply, val_main_v16_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 0's term. -/
theorem ref_term_0 (i : Cert.MoeUpLastRefIdeal.S36864x4096.Idx) : val_main_v21 (F := Ideal) te nu h w₁ w₃ i
    = val_main_v8 (F := Ideal) te nu (ix2 (i 0) 0 : Cert.MoeUpLastRefIdeal.S36864x8.Idx) * gated (prod h w₁ 0 (i 0) (i 1)) (prod h w₃ 0 (i 0) (i 1)) := by
  rw [val_main_v21_apply]
  refine congrArg₂ (fun a b : EReal => a * b) ?_ ?_
  · rw [val_main_v20_apply, val_main_v11_apply]
    exact congrArg (val_main_v8 (F := Ideal) te nu) (funext fun a => match a with | ⟨0, _⟩ => rfl | ⟨1, _⟩ => rfl)
  · rw [← ref_w1_0 h w₁ i, ← ref_w3_0 h w₃ i]
    show val_main_v14 (F := Ideal) h w₁ i * Ideal.div (Ideal.ofBits .f32 0x3F800000#32) (Ideal.ofBits .f32 0x3F800000#32 + Ideal.exp (-val_main_v14 (F := Ideal) h w₁ i)) * val_main_v18 (F := Ideal) h w₃ i = _
    rw [Idealize.ShloMosaic.Ideal.ofBits_one_f32]
    rfl

theorem ref_w1_1 (i : Cert.MoeUpLastRefIdeal.S36864x4096.Idx) : val_main_v26 (F := Ideal) h w i = prod h w 1 (i 0) (i 1) := by
  have h1 : (i 1).val < 4096 := (i 1).isLt
  refine (val_main_v26_apply h w i).trans (Finset.sum_congr rfl fun k _ => ?_)
  have hk : k.val < 2048 := k.isLt
  rw [val_main_v25_apply, val_main_v24_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_1 (i : Cert.MoeUpLastRefIdeal.S36864x4096.Idx) : val_main_v30 (F := Ideal) h w i = prod h w 1 (i 0) (i 1) := by
  have h1 : (i 1).val < 4096 := (i 1).isLt
  refine (val_main_v30_apply h w i).trans (Finset.sum_congr rfl fun k _ => ?_)
  have hk : k.val < 2048 := k.isLt
  rw [val_main_v29_apply, val_main_v28_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 1's term. -/
theorem ref_term_1 (i : Cert.MoeUpLastRefIdeal.S36864x4096.Idx) : val_main_v33 (F := Ideal) te nu h w₁ w₃ i
    = val_main_v8 (F := Ideal) te nu (ix2 (i 0) 1 : Cert.MoeUpLastRefIdeal.S36864x8.Idx) * gated (prod h w₁ 1 (i 0) (i 1)) (prod h w₃ 1 (i 0) (i 1)) := by
  rw [val_main_v33_apply]
  refine congrArg₂ (fun a b : EReal => a * b) ?_ ?_
  · rw [val_main_v32_apply, val_main_v23_apply]
    exact congrArg (val_main_v8 (F := Ideal) te nu) (funext fun a => match a with | ⟨0, _⟩ => rfl | ⟨1, _⟩ => rfl)
  · rw [← ref_w1_1 h w₁ i, ← ref_w3_1 h w₃ i]
    show val_main_v26 (F := Ideal) h w₁ i * Ideal.div (Ideal.ofBits .f32 0x3F800000#32) (Ideal.ofBits .f32 0x3F800000#32 + Ideal.exp (-val_main_v26 (F := Ideal) h w₁ i)) * val_main_v30 (F := Ideal) h w₃ i = _
    rw [Idealize.ShloMosaic.Ideal.ofBits_one_f32]
    rfl

theorem ref_w1_2 (i : Cert.MoeUpLastRefIdeal.S36864x4096.Idx) : val_main_v38 (F := Ideal) h w i = prod h w 2 (i 0) (i 1) := by
  have h1 : (i 1).val < 4096 := (i 1).isLt
  refine (val_main_v38_apply h w i).trans (Finset.sum_congr rfl fun k _ => ?_)
  have hk : k.val < 2048 := k.isLt
  rw [val_main_v37_apply, val_main_v36_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_2 (i : Cert.MoeUpLastRefIdeal.S36864x4096.Idx) : val_main_v42 (F := Ideal) h w i = prod h w 2 (i 0) (i 1) := by
  have h1 : (i 1).val < 4096 := (i 1).isLt
  refine (val_main_v42_apply h w i).trans (Finset.sum_congr rfl fun k _ => ?_)
  have hk : k.val < 2048 := k.isLt
  rw [val_main_v41_apply, val_main_v40_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 2's term. -/
theorem ref_term_2 (i : Cert.MoeUpLastRefIdeal.S36864x4096.Idx) : val_main_v45 (F := Ideal) te nu h w₁ w₃ i
    = val_main_v8 (F := Ideal) te nu (ix2 (i 0) 2 : Cert.MoeUpLastRefIdeal.S36864x8.Idx) * gated (prod h w₁ 2 (i 0) (i 1)) (prod h w₃ 2 (i 0) (i 1)) := by
  rw [val_main_v45_apply]
  refine congrArg₂ (fun a b : EReal => a * b) ?_ ?_
  · rw [val_main_v44_apply, val_main_v35_apply]
    exact congrArg (val_main_v8 (F := Ideal) te nu) (funext fun a => match a with | ⟨0, _⟩ => rfl | ⟨1, _⟩ => rfl)
  · rw [← ref_w1_2 h w₁ i, ← ref_w3_2 h w₃ i]
    show val_main_v38 (F := Ideal) h w₁ i * Ideal.div (Ideal.ofBits .f32 0x3F800000#32) (Ideal.ofBits .f32 0x3F800000#32 + Ideal.exp (-val_main_v38 (F := Ideal) h w₁ i)) * val_main_v42 (F := Ideal) h w₃ i = _
    rw [Idealize.ShloMosaic.Ideal.ofBits_one_f32]
    rfl

theorem ref_w1_3 (i : Cert.MoeUpLastRefIdeal.S36864x4096.Idx) : val_main_v50 (F := Ideal) h w i = prod h w 3 (i 0) (i 1) := by
  have h1 : (i 1).val < 4096 := (i 1).isLt
  refine (val_main_v50_apply h w i).trans (Finset.sum_congr rfl fun k _ => ?_)
  have hk : k.val < 2048 := k.isLt
  rw [val_main_v49_apply, val_main_v48_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_3 (i : Cert.MoeUpLastRefIdeal.S36864x4096.Idx) : val_main_v54 (F := Ideal) h w i = prod h w 3 (i 0) (i 1) := by
  have h1 : (i 1).val < 4096 := (i 1).isLt
  refine (val_main_v54_apply h w i).trans (Finset.sum_congr rfl fun k _ => ?_)
  have hk : k.val < 2048 := k.isLt
  rw [val_main_v53_apply, val_main_v52_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 3's term. -/
theorem ref_term_3 (i : Cert.MoeUpLastRefIdeal.S36864x4096.Idx) : val_main_v57 (F := Ideal) te nu h w₁ w₃ i
    = val_main_v8 (F := Ideal) te nu (ix2 (i 0) 3 : Cert.MoeUpLastRefIdeal.S36864x8.Idx) * gated (prod h w₁ 3 (i 0) (i 1)) (prod h w₃ 3 (i 0) (i 1)) := by
  rw [val_main_v57_apply]
  refine congrArg₂ (fun a b : EReal => a * b) ?_ ?_
  · rw [val_main_v56_apply, val_main_v47_apply]
    exact congrArg (val_main_v8 (F := Ideal) te nu) (funext fun a => match a with | ⟨0, _⟩ => rfl | ⟨1, _⟩ => rfl)
  · rw [← ref_w1_3 h w₁ i, ← ref_w3_3 h w₃ i]
    show val_main_v50 (F := Ideal) h w₁ i * Ideal.div (Ideal.ofBits .f32 0x3F800000#32) (Ideal.ofBits .f32 0x3F800000#32 + Ideal.exp (-val_main_v50 (F := Ideal) h w₁ i)) * val_main_v54 (F := Ideal) h w₃ i = _
    rw [Idealize.ShloMosaic.Ideal.ofBits_one_f32]
    rfl

theorem ref_w1_4 (i : Cert.MoeUpLastRefIdeal.S36864x4096.Idx) : val_main_v62 (F := Ideal) h w i = prod h w 4 (i 0) (i 1) := by
  have h1 : (i 1).val < 4096 := (i 1).isLt
  refine (val_main_v62_apply h w i).trans (Finset.sum_congr rfl fun k _ => ?_)
  have hk : k.val < 2048 := k.isLt
  rw [val_main_v61_apply, val_main_v60_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_4 (i : Cert.MoeUpLastRefIdeal.S36864x4096.Idx) : val_main_v66 (F := Ideal) h w i = prod h w 4 (i 0) (i 1) := by
  have h1 : (i 1).val < 4096 := (i 1).isLt
  refine (val_main_v66_apply h w i).trans (Finset.sum_congr rfl fun k _ => ?_)
  have hk : k.val < 2048 := k.isLt
  rw [val_main_v65_apply, val_main_v64_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 4's term. -/
theorem ref_term_4 (i : Cert.MoeUpLastRefIdeal.S36864x4096.Idx) : val_main_v69 (F := Ideal) te nu h w₁ w₃ i
    = val_main_v8 (F := Ideal) te nu (ix2 (i 0) 4 : Cert.MoeUpLastRefIdeal.S36864x8.Idx) * gated (prod h w₁ 4 (i 0) (i 1)) (prod h w₃ 4 (i 0) (i 1)) := by
  rw [val_main_v69_apply]
  refine congrArg₂ (fun a b : EReal => a * b) ?_ ?_
  · rw [val_main_v68_apply, val_main_v59_apply]
    exact congrArg (val_main_v8 (F := Ideal) te nu) (funext fun a => match a with | ⟨0, _⟩ => rfl | ⟨1, _⟩ => rfl)
  · rw [← ref_w1_4 h w₁ i, ← ref_w3_4 h w₃ i]
    show val_main_v62 (F := Ideal) h w₁ i * Ideal.div (Ideal.ofBits .f32 0x3F800000#32) (Ideal.ofBits .f32 0x3F800000#32 + Ideal.exp (-val_main_v62 (F := Ideal) h w₁ i)) * val_main_v66 (F := Ideal) h w₃ i = _
    rw [Idealize.ShloMosaic.Ideal.ofBits_one_f32]
    rfl

theorem ref_w1_5 (i : Cert.MoeUpLastRefIdeal.S36864x4096.Idx) : val_main_v74 (F := Ideal) h w i = prod h w 5 (i 0) (i 1) := by
  have h1 : (i 1).val < 4096 := (i 1).isLt
  refine (val_main_v74_apply h w i).trans (Finset.sum_congr rfl fun k _ => ?_)
  have hk : k.val < 2048 := k.isLt
  rw [val_main_v73_apply, val_main_v72_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_5 (i : Cert.MoeUpLastRefIdeal.S36864x4096.Idx) : val_main_v78 (F := Ideal) h w i = prod h w 5 (i 0) (i 1) := by
  have h1 : (i 1).val < 4096 := (i 1).isLt
  refine (val_main_v78_apply h w i).trans (Finset.sum_congr rfl fun k _ => ?_)
  have hk : k.val < 2048 := k.isLt
  rw [val_main_v77_apply, val_main_v76_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 5's term. -/
theorem ref_term_5 (i : Cert.MoeUpLastRefIdeal.S36864x4096.Idx) : val_main_v81 (F := Ideal) te nu h w₁ w₃ i
    = val_main_v8 (F := Ideal) te nu (ix2 (i 0) 5 : Cert.MoeUpLastRefIdeal.S36864x8.Idx) * gated (prod h w₁ 5 (i 0) (i 1)) (prod h w₃ 5 (i 0) (i 1)) := by
  rw [val_main_v81_apply]
  refine congrArg₂ (fun a b : EReal => a * b) ?_ ?_
  · rw [val_main_v80_apply, val_main_v71_apply]
    exact congrArg (val_main_v8 (F := Ideal) te nu) (funext fun a => match a with | ⟨0, _⟩ => rfl | ⟨1, _⟩ => rfl)
  · rw [← ref_w1_5 h w₁ i, ← ref_w3_5 h w₃ i]
    show val_main_v74 (F := Ideal) h w₁ i * Ideal.div (Ideal.ofBits .f32 0x3F800000#32) (Ideal.ofBits .f32 0x3F800000#32 + Ideal.exp (-val_main_v74 (F := Ideal) h w₁ i)) * val_main_v78 (F := Ideal) h w₃ i = _
    rw [Idealize.ShloMosaic.Ideal.ofBits_one_f32]
    rfl

theorem ref_w1_6 (i : Cert.MoeUpLastRefIdeal.S36864x4096.Idx) : val_main_v86 (F := Ideal) h w i = prod h w 6 (i 0) (i 1) := by
  have h1 : (i 1).val < 4096 := (i 1).isLt
  refine (val_main_v86_apply h w i).trans (Finset.sum_congr rfl fun k _ => ?_)
  have hk : k.val < 2048 := k.isLt
  rw [val_main_v85_apply, val_main_v84_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_6 (i : Cert.MoeUpLastRefIdeal.S36864x4096.Idx) : val_main_v90 (F := Ideal) h w i = prod h w 6 (i 0) (i 1) := by
  have h1 : (i 1).val < 4096 := (i 1).isLt
  refine (val_main_v90_apply h w i).trans (Finset.sum_congr rfl fun k _ => ?_)
  have hk : k.val < 2048 := k.isLt
  rw [val_main_v89_apply, val_main_v88_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 6's term. -/
theorem ref_term_6 (i : Cert.MoeUpLastRefIdeal.S36864x4096.Idx) : val_main_v93 (F := Ideal) te nu h w₁ w₃ i
    = val_main_v8 (F := Ideal) te nu (ix2 (i 0) 6 : Cert.MoeUpLastRefIdeal.S36864x8.Idx) * gated (prod h w₁ 6 (i 0) (i 1)) (prod h w₃ 6 (i 0) (i 1)) := by
  rw [val_main_v93_apply]
  refine congrArg₂ (fun a b : EReal => a * b) ?_ ?_
  · rw [val_main_v92_apply, val_main_v83_apply]
    exact congrArg (val_main_v8 (F := Ideal) te nu) (funext fun a => match a with | ⟨0, _⟩ => rfl | ⟨1, _⟩ => rfl)
  · rw [← ref_w1_6 h w₁ i, ← ref_w3_6 h w₃ i]
    show val_main_v86 (F := Ideal) h w₁ i * Ideal.div (Ideal.ofBits .f32 0x3F800000#32) (Ideal.ofBits .f32 0x3F800000#32 + Ideal.exp (-val_main_v86 (F := Ideal) h w₁ i)) * val_main_v90 (F := Ideal) h w₃ i = _
    rw [Idealize.ShloMosaic.Ideal.ofBits_one_f32]
    rfl

theorem ref_w1_7 (i : Cert.MoeUpLastRefIdeal.S36864x4096.Idx) : val_main_v98 (F := Ideal) h w i = prod h w 7 (i 0) (i 1) := by
  have h1 : (i 1).val < 4096 := (i 1).isLt
  refine (val_main_v98_apply h w i).trans (Finset.sum_congr rfl fun k _ => ?_)
  have hk : k.val < 2048 := k.isLt
  rw [val_main_v97_apply, val_main_v96_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

theorem ref_w3_7 (i : Cert.MoeUpLastRefIdeal.S36864x4096.Idx) : val_main_v102 (F := Ideal) h w i = prod h w 7 (i 0) (i 1) := by
  have h1 : (i 1).val < 4096 := (i 1).isLt
  refine (val_main_v102_apply h w i).trans (Finset.sum_congr rfl fun k _ => ?_)
  have hk : k.val < 2048 := k.isLt
  rw [val_main_v101_apply, val_main_v100_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 4096 + (i 1).val) / 4096 % 2048 = k.val; omega
    | ⟨3, _⟩ => refine Fin.ext ?_; show (k.val * 4096 + (i 1).val) % 4096 = (i 1).val; omega

/-- Expert 7's term. -/
theorem ref_term_7 (i : Cert.MoeUpLastRefIdeal.S36864x4096.Idx) : val_main_v105 (F := Ideal) te nu h w₁ w₃ i
    = val_main_v8 (F := Ideal) te nu (ix2 (i 0) 7 : Cert.MoeUpLastRefIdeal.S36864x8.Idx) * gated (prod h w₁ 7 (i 0) (i 1)) (prod h w₃ 7 (i 0) (i 1)) := by
  rw [val_main_v105_apply]
  refine congrArg₂ (fun a b : EReal => a * b) ?_ ?_
  · rw [val_main_v104_apply, val_main_v95_apply]
    exact congrArg (val_main_v8 (F := Ideal) te nu) (funext fun a => match a with | ⟨0, _⟩ => rfl | ⟨1, _⟩ => rfl)
  · rw [← ref_w1_7 h w₁ i, ← ref_w3_7 h w₃ i]
    show val_main_v98 (F := Ideal) h w₁ i * Ideal.div (Ideal.ofBits .f32 0x3F800000#32) (Ideal.ofBits .f32 0x3F800000#32 + Ideal.exp (-val_main_v98 (F := Ideal) h w₁ i)) * val_main_v102 (F := Ideal) h w₃ i = _
    rw [Idealize.ShloMosaic.Ideal.ofBits_one_f32]
    rfl

/-- One weight of the eight is one, the others zero. -/
theorem sum_one (E : Fin 8) (c f : Fin 8 → EReal) (hc : ∀ e, c e = if e = E then (1 : EReal) else 0) :
    (0 : EReal) + c 0 * f 0 + c 1 * f 1 + c 2 * f 2 + c 3 * f 3 + c 4 * f 4 + c 5 * f 5 + c 6 * f 6 + c 7 * f 7 = f E := by
  simp only [hc]
  fin_cases E <;> simp

theorem sum_none (c f : Fin 8 → EReal) (hc : ∀ e, c e = 0) : (0 : EReal) + c 0 * f 0 + c 1 * f 1 + c 2 * f 2 + c 3 * f 3 + c 4 * f 4 + c 5 * f 5 + c 6 * f 6 + c 7 * f 7 = 0 := by
  simp [hc]

/-- The reference at an index is the sum of the experts' terms. -/
theorem ref_sum (i : Cert.MoeUpLastRefIdeal.S36864x4096.Idx) (c f : Fin 8 → EReal)
    (hc : c = fun e => val_main_v8 (F := Ideal) te nu (ix2 (i 0) e : Cert.MoeUpLastRefIdeal.S36864x8.Idx))
    (hf : f = fun e => gated (prod h w₁ e (i 0) (i 1)) (prod h w₃ e (i 0) (i 1))) :
    val_main_v107 (F := Ideal) te nu h w₁ w₃ i = (0 : EReal) + c 0 * f 0 + c 1 * f 1 + c 2 * f 2 + c 3 * f 3 + c 4 * f 4 + c 5 * f 5 + c 6 * f 6 + c 7 * f 7 := by
  have z : val_main_v10 (F := Ideal) i = (0 : EReal) := by
    rw [val_main_v10_apply, val_main_cst_apply]
    show Ideal.ofBits .f32 0x00000000#32 = 0
    simp
  subst hc hf
  rw [val_main_v107_apply, val_main_v106_apply, val_main_v94_apply, val_main_v82_apply, val_main_v70_apply, val_main_v58_apply, val_main_v46_apply, val_main_v34_apply, val_main_v22_apply, z, ref_term_0, ref_term_1, ref_term_2, ref_term_3, ref_term_4, ref_term_5, ref_term_6, ref_term_7]
  rfl

/-- The reference at an index of a row whose tile names expert `E`. -/
theorem ref_apply (i : Cert.MoeUpLastRefIdeal.S36864x4096.Idx) (E : Fin 8) (hE : te (ix1 (rowTile (i 0))) = BitVec.ofNat 32 E.val) :
    val_main_v107 (F := Ideal) te nu h w₁ w₃ i
      = if inUse nu (rowTile (i 0)) = true then gated (prod h w₁ E (i 0) (i 1)) (prod h w₃ E (i 0) (i 1)) else (0 : EReal) := by
  obtain ⟨c, hc⟩ : ∃ c : Fin 8 → EReal, c = fun e => val_main_v8 (F := Ideal) te nu (ix2 (i 0) e : Cert.MoeUpLastRefIdeal.S36864x8.Idx) := ⟨_, rfl⟩
  obtain ⟨f, hf⟩ : ∃ f : Fin 8 → EReal, f = fun e => gated (prod h w₁ e (i 0) (i 1)) (prod h w₃ e (i 0) (i 1)) := ⟨_, rfl⟩
  refine (ref_sum te nu h w₁ w₃ i c f hc hf).trans ?_
  have ce : ∀ e : Fin 8, c e = if (if inUse nu (rowTile (i 0)) = true then te (ix1 (rowTile (i 0))) else 4294967295#32) = BitVec.ofNat 32 e.val then (1 : EReal) else 0 :=
    fun e => (congrFun hc e).trans (comb_apply te nu (i 0) e)
  have q : ∀ a b : Fin 8, (BitVec.ofNat 32 a.val = BitVec.ofNat 32 b.val) ↔ b = a := by decide +kernel
  have q' : ∀ b : Fin 8, ¬(4294967295#32 : BitVec 32) = BitVec.ofNat 32 b.val := by decide +kernel
  by_cases hu : inUse nu (rowTile (i 0)) = true
  · rw [if_pos hu, sum_one E c f fun e => ?_]
    · exact congrFun hf E
    · rw [ce e, if_pos hu, hE]
      exact if_congr (q E e) rfl rfl
  · rw [if_neg hu]
    refine sum_none c f fun e => ?_
    rw [ce e, if_neg hu, if_neg (q' e)]

end Cert.MoeUpLastIdeal.RefValue

end
-- ==== Proof.MoeUpLastClaim.lean ====
/-
  The experts' first products: kernel and reference end with the same result where every row tile names an expert.
-/
module

public import proofs.«01_k».proof.Proof.MoeUpLastOk
public import proofs.«01_k».proof.Proof.MoeUpLastRef

@[expose] public section

set_option maxRecDepth 16384

noncomputable section

namespace Cert.MoeUpLastIdeal.RefValue

open Cert.Common Idealize.ShloMosaic Idealize.ShloMosaic.TcCoe Idealize.SL.Sem Idealize.ShloMosaic.ValueIdx
open Cert.MoeUpLastRefIdeal.Read

/-- A tile's word is its expert's. -/
theorem word_named (m : (ℓ : Loc Cert.MoeUpLastIdeal.nD Cert.MoeUpLastIdeal.τ Cert.MoeUpLastIdeal.sig) → Buf (Elt Ideal) ℓ) (ok : Cert.MoeUpLastIdeal.ok0 (Cert.MoeUpLastIdeal.Hand.tbl m)) (n : Fin 72) :
    Cert.MoeUpLastIdeal.Hand.T0 m (ix1 n) = BitVec.ofNat 32 (named m ok n).val :=
  ((BitVec.ofNat_toNat 32 (Cert.MoeUpLastIdeal.Hand.T0 m (ix1 n))).trans (BitVec.setWidth_eq _)).symm

/-- Kernel and reference end with the same result. -/
theorem algebraic : Cert.algebraic_MoeUpLastIdeal_MoeUpLastRefIdeal := by
  intro m g m' g' hpre hagree
  have ok := Cert.MoeUpLastIdeal.Hand.ok_of_pre m hpre
  refine ⟨fun c => G m ok c, run m g ok, ?_⟩
  refine (θ_run Cert.MoeUpLastRefIdeal.defs _ _).mono (fun _ h c => ⟨(h c).1.trans ?_, (h c).2⟩) (Cert.MoeUpLastRefIdeal.Value.run (F := Ideal) m' g')
  obtain ⟨h0, h1, h2, h3, h4⟩ := hagree c
  refine (val_main_v107_eq (F := Ideal) _).trans ?_
  have hc : c = (0 : Dev Cert.MoeUpLastIdeal.nD) := Subsingleton.elim _ _
  subst hc
  refine Eq.trans (b := val_main_v107 (F := Ideal) (Cert.MoeUpLastIdeal.Hand.T0 m) (Cert.MoeUpLastIdeal.Hand.T1 m)
    (m (((0 : Dev Cert.MoeUpLastIdeal.nD).tc : Thread Cert.MoeUpLastIdeal.nD Cert.MoeUpLastIdeal.τ).loc Cert.MoeUpLastIdeal.main_arg2))
    (m (((0 : Dev Cert.MoeUpLastIdeal.nD).tc : Thread Cert.MoeUpLastIdeal.nD Cert.MoeUpLastIdeal.τ).loc Cert.MoeUpLastIdeal.main_arg3))
    (m (((0 : Dev Cert.MoeUpLastIdeal.nD).tc : Thread Cert.MoeUpLastIdeal.nD Cert.MoeUpLastIdeal.τ).loc Cert.MoeUpLastIdeal.main_arg4))) ?_ ?_
  · exact congr (congr (congr (congr (congrArg (val_main_v107 (F := Ideal)) h0) h1) h2) h3) h4
  · exact funext fun i => ref_apply _ _ _ _ _ i (named m ok (rowTile (i 0))) (word_named m ok _)

/-- The reference's frame. -/
theorem ref_frame : Cert.quiescent_MoeUpLastRefIdeal := fun m ρ _ =>
  (θ_run Cert.MoeUpLastRefIdeal.defs _ _).mono (fun r h => ⟨fun c => (h c).2,
    Idealize.ShloMosaic.sem_eq_zero_of_no_sems (by decide) r.2⟩) (Cert.MoeUpLastRefIdeal.Value.run (F := Ideal) m ρ)
theorem ref_frame_pre : Cert.quiescent_MoeUpLastRefIdeal_pre_tiles_named_last := fun m ρ _ => ref_frame m ρ trivial

end Cert.MoeUpLastIdeal.RefValue

end
-- ==== Proof.MoeDownIdealRuns.lean ====
/-
  The experts' products back to the model's width: one run of the body per control path. Whether the two scratches are filled
  again is told by the row tiles' table, whether the tile is in use by the second table; the four paths are run once each,
  at any tables, and what each leaves is stated by the payloads.
-/
module

public import proofs.«01_k».proof.Proof.Common
public import proofs.«01_k».proof.Proof.Gen.MoeDownIdeal.Skeleton
public import proofs.«01_k».proof.Proof.Gen.MoeDownIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.MoeDownIdeal.Hand

open Cert.MoeDownIdeal Cert.MoeDownIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model the body's triples are stated in. -/
abbrev MM (F : FTy → Type) [FloatOps F] := MT nD τ sig Unit (Elt F) ℕ (UR sig nD τ) ℕ

/-- The tables and scratches the kernel is handed, whole, at their literal types. -/
abbrev tb0 : Memref sig .tc .smem S80 .i32 := Memref.whole main_arg0
abbrev tb1 : Memref sig .tc .smem S1 .i32 := Memref.whole main_arg1
abbrev sc0 : Memref sig .tc .vmem S4096x512 .bf16 := Memref.whole cc0_scratch0
abbrev sc1 : Memref sig .tc .vmem S4096x512 .bf16 := Memref.whole cc0_scratch1

/-- The words the body reads: its own tile's expert, the tile before's, and the number of tiles in use. -/
abbrev wCur (T0 : S80.Idx → Elt F .i32) (i : grid0.Coords) : BitVec 32 :=
  View.readAt (Elt F) (tb0).view (Rect.unit (s := S80) (k0_off1 i) S1.size (k0_off1_inb i)).toLoadRect T0 (Shape.Idx.first (numel1_S1.symm ▸ Nat.one_pos))
abbrev wPrev (T0 : S80.Idx → Elt F .i32) (i : grid0.Coords) : BitVec 32 :=
  View.readAt (Elt F) (tb0).view (Rect.unit (s := S80) (k0_off2 i) S1.size (k0_off2_inb i)).toLoadRect T0 (Shape.Idx.first (numel1_S1.symm ▸ Nat.one_pos))
abbrev wUsed (T1 : S1.Idx → Elt F .i32) : BitVec 32 :=
  View.readAt (Elt F) (tb1).view (Rect.unit (s := S1) ![0] S1.size inb_S1_S1_0).toLoadRect T1 (Shape.Idx.first (numel1_S1.symm ▸ Nat.one_pos))

/-- The body fills the scratches again. -/
abbrev fills (T0 : S80.Idx → Elt F .i32) (i : grid0.Coords) : Prop :=
  (Scalar.cmpi .ne (Scalar.extui (Scalar.ori (Scalar.cmpi .eq (BitVec.ofNat 32 (i 1).val) 0#32) (Scalar.cmpi .ne (wCur T0 i) (wPrev T0 i)))) 0#32) = 1#1
/-- The body finds its tile in use, -/
abbrev used (T1 : S1.Idx → Elt F .i32) (i : grid0.Coords) : Prop := k0_cond2 i (wUsed T1) = 1#1
/-- or not. -/
abbrev spare (T1 : S1.Idx → Elt F .i32) (i : grid0.Coords) : Prop := k0_cond3 i (wUsed T1) = 1#1

/-- A whole buffer written once at its literal rectangle reads back what was written. -/
theorem read_one {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon v f _ (fun y => ⟨_, List.mem_singleton.mpr rfl, by
    rw [Rect.mem_set_unit]; intro a; exact ⟨Nat.zero_le _, by have := (y a).isLt; simpa using this⟩⟩)]
  exact View.canon_unit_zero rfl inb w

set_option backward.proofsInPublic true in
set_option maxHeartbeats 8000000 in
/-- A: scratches filled, tile in use. -/
theorem run_A (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S80.Idx → Elt F .i32) (T1 : S1.Idx → Elt F .i32) (x0 : Vec F S512x4096 .bf16) (x1 x2 : Vec F S1x1x4096x512 .f32)
    (hc0 : fills T0 i) (hc2 : used T1 i) (hc3 : ¬spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (k0_pay1 x1) (k0_pay2 x2)⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

set_option backward.proofsInPublic true in
set_option maxHeartbeats 8000000 in
/-- B: scratches kept, tile in use. -/
theorem run_B (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S80.Idx → Elt F .i32) (T1 : S1.Idx → Elt F .i32) (x0 : Vec F S512x4096 .bf16) (x1 x2 : Vec F S1x1x4096x512 .f32) (s0 s1 : Vec F S4096x512 .bf16)
    (hc0 : ¬fills T0 i) (hc2 : used T1 i) (hc3 : ¬spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (s0) (s1)⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

set_option backward.proofsInPublic true in
set_option maxHeartbeats 8000000 in
/-- C: scratches filled, tile not in use. -/
theorem run_C (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S80.Idx → Elt F .i32) (T1 : S1.Idx → Elt F .i32) (x0 : Vec F S512x4096 .bf16) (x1 x2 : Vec F S1x1x4096x512 .f32)
    (hc0 : fills T0 i) (hc2 : ¬used T1 i) (hc3 : spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

set_option backward.proofsInPublic true in
set_option maxHeartbeats 8000000 in
/-- D: scratches kept, tile not in use. -/
theorem run_D (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S80.Idx → Elt F .i32) (T1 : S1.Idx → Elt F .i32) (x0 : Vec F S512x4096 .bf16) (x1 x2 : Vec F S1x1x4096x512 .f32) (s0 s1 : Vec F S4096x512 .bf16)
    (hc0 : ¬fills T0 i) (hc2 : ¬used T1 i) (hc3 : spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

end Cert.MoeDownIdeal.Hand

end
-- ==== Proof.MoeDownIdealFacts.lean ====
/-
  The experts' products back to the model's width: the frame. Before a point that is no first of a run the scratches hold the
  cast blocks of the point before; where the body does not fill them again, its tile's expert is the tile before's, so
  these are the point's own blocks. From this every point's output block is known, and the run ends with the arguments as
  they were.
-/
module

public import proofs.«01_k».proof.Proof.MoeDownIdealRuns
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeDownIdeal.Hand

open Cert.MoeDownIdeal Cert.MoeDownIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]

/-! ## The tables' words -/

theorem off1_eq : ∀ i : grid0.Coords, k0_off1 i 0 = (i 1).val := by decide +kernel
theorem off2_eq : ∀ i : grid0.Coords, k0_off2 i 0 = (i 1).val - 1 := by decide +kernel
/-- The row tile and the column block of a point. -/
theorem crd_eq : ∀ t : Fin grid0.N, (grid0.coords t 0).val = t.val / 80 ∧ (grid0.coords t 1).val = t.val % 80 := by decide +kernel
theorem eq_zero : ∀ i : Fin 80, (Scalar.cmpi .eq (BitVec.ofNat 32 i.val) 0#32 = 1#1) ↔ i.val = 0 := by decide +kernel

theorem tile_lt (i : grid0.Coords) : (i 1).val < 80 := (i 1).isLt

theorem wCur_eq (T0 : S80.Idx → Elt F .i32) (i : grid0.Coords) : wCur T0 i = T0 (ix1 ⟨(i 1).val, tile_lt i⟩) :=
  congrArg T0 (funext fun a => Fin.ext (by
    match a with
    | ⟨0, _⟩ => show k0_off1 i 0 + 1 * 0 = (i 1).val; rw [off1_eq]; rfl))
theorem wPrev_eq (T0 : S80.Idx → Elt F .i32) (i : grid0.Coords) :
    wPrev T0 i = T0 (ix1 ⟨(i 1).val - 1, Nat.lt_of_le_of_lt (Nat.sub_le _ _) (tile_lt i)⟩) :=
  congrArg T0 (funext fun a => Fin.ext (by
    match a with
    | ⟨0, _⟩ => show k0_off2 i 0 + 1 * 0 = (i 1).val - 1; rw [off2_eq]; rfl))
theorem wUsed_eq (T1 : S1.Idx → Elt F .i32) : wUsed T1 = T1 (ix1 0) :=
  congrArg T1 (funext fun a => Fin.ext (by match a with | ⟨0, _⟩ => rfl))

theorem bit_ne (b : BitVec 1) : (Scalar.cmpi .ne (Scalar.extui b) 0#32 = 1#1) ↔ b = 1#1 := by
  revert b; decide

theorem used_iff (T1 : S1.Idx → Elt F .i32) (i : grid0.Coords) :
    used T1 i ↔ (BitVec.ofNat 32 (i 1).val).slt (wUsed T1) = true := by
  unfold used k0_cond2; dsimp only
  rw [bit_ne]
  unfold Scalar.cmpi IntOp.cmpi
  dsimp only
  cases (BitVec.ofNat 32 (i 1).val).slt (wUsed T1) <;> decide
theorem spare_iff (T1 : S1.Idx → Elt F .i32) (i : grid0.Coords) : spare T1 i ↔ ¬used T1 i := by
  rw [used_iff]
  unfold spare k0_cond3; dsimp only
  rw [bit_ne]
  unfold Scalar.cmpi IntOp.cmpi
  dsimp only
  rw [show (wUsed T1).sle (BitVec.ofNat 32 (i 1).val) = !(BitVec.ofNat 32 (i 1).val).slt (wUsed T1) from BitVec.sle_eq_not_slt]
  cases (BitVec.ofNat 32 (i 1).val).slt (wUsed T1) <;> decide

/-- Where the scratches are kept the tile is not the first, and its expert is the tile before's. -/
theorem kept (T0 : S80.Idx → Elt F .i32) (i : grid0.Coords) (h : ¬fills T0 i) : (i 1).val ≠ 0 ∧ wCur T0 i = wPrev T0 i := by
  rw [fills, bit_ne] at h
  have hor : ∀ x y : BitVec 1, ¬Scalar.ori x y = 1#1 → ¬x = 1#1 ∧ ¬y = 1#1 := by decide
  obtain ⟨h1, h2⟩ := hor _ _ h
  refine ⟨fun e => h1 ((eq_zero ⟨(i 1).val, tile_lt i⟩).mpr e), ?_⟩
  by_contra hne
  refine h2 ?_
  unfold Scalar.cmpi IntOp.cmpi
  dsimp only
  rw [show (wCur T0 i != wPrev T0 i) = true from by simpa using hne]
  rfl

/-! ## The tables at launch and the pipeline at them -/

variable (m : (ℓ : Loc nD τ sig) → Buf (Elt F) ℓ) (ρ : Dev nD → PrngReg)

/-- The tables at launch. -/
def tbl : pre0.Contents (Elt F) := fun j => m (((0 : Dev nD) : Thread nD τ).loc (pre0.ref j))
abbrev T0 : S80.Idx → Elt F .i32 := tbl m 0
abbrev T1 : S1.Idx → Elt F .i32 := tbl m 1

variable (ok : ok0 (tbl m))

def adm : (pcfg0 (F := F)).Adm := ⟨tbl m, ok⟩
abbrev cfgA : Cfg sig Λ₀ := cfg0 (F := F) (adm m ok)
abbrev pcs : Fin 1 → Cfg sig Λ₀ := Pipeline.pin (pcfgs (F := F)) fun _ => adm m ok

/-- Point `t`'s coordinates. -/
abbrev crd (t : Fin (cfgA m ok).N) : grid0.Coords := (cfgA m ok).grid.coords t

abbrev ms0_0 (t : Fin (cfgA m ok).N) : Memref sig .tc .vmem S512x4096 .bf16 := spec0_0.stage ((cfgA m ok).slots t (0 : Fin 4))
abbrev hs0_0 (t : Fin (cfgA m ok).N) : (ms0_0 m ok t).IsWhole := hstage0_0 (((cfgA m ok).slots t (0 : Fin 4)).cast nbuf0_0)
abbrev ms0_1 (t : Fin (cfgA m ok).N) : Memref sig .tc .vmem S1x1x4096x512 .f32 := spec0_1.stage ((cfgA m ok).slots t (1 : Fin 4))
abbrev hs0_1 (t : Fin (cfgA m ok).N) : (ms0_1 m ok t).IsWhole := hstage0_1 (((cfgA m ok).slots t (1 : Fin 4)).cast nbuf0_1)
abbrev ms0_2 (t : Fin (cfgA m ok).N) : Memref sig .tc .vmem S1x1x4096x512 .f32 := spec0_2.stage ((cfgA m ok).slots t (2 : Fin 4))
abbrev hs0_2 (t : Fin (cfgA m ok).N) : (ms0_2 m ok t).IsWhole := hstage0_2 (((cfgA m ok).slots t (2 : Fin 4)).cast nbuf0_2)
abbrev ms0_3 (t : Fin (cfgA m ok).N) : Memref sig .tc .vmem S2x512x512 .bf16 := spec0_3.stage ((cfgA m ok).slots t (3 : Fin 4))
abbrev hs0_3 (t : Fin (cfgA m ok).N) : (ms0_3 m ok t).IsWhole := hstage0_3 (((cfgA m ok).slots t (3 : Fin 4)).cast nbuf0_3)

/-- Window `w`'s block at point `t`, read off its array at launch. -/
def iblk (c : Dev nD) (w : Fin (cfgA m ok).W) (t : Fin (cfgA m ok).N) : (((cfgA m ok).win w).xblock (crd m ok t)).Idx → Elt F ((cfgA m ok).win w).elt :=
  (((cfgA m ok).win w).blk t).view.read (Elt F) (m (((cfgA m ok).win w).arr.view.loc (c : Thread nD τ)))

/-- The expert of a tile. -/
def expert (n : Fin 80) : ℕ := BitVec.toNat (T0 m (ix1 n))

theorem index_w1 (i : grid0.Coords) :
    cc0_transform_1 k0_off1_inb numel1_S1 (tbl m) i = ![0, expert m ⟨(i 1).val, tile_lt i⟩, 0, (i 0).val] := by
  have h2 : (i 0).val < 2 := (i 0).isLt
  have e : cc0_transform_1 k0_off1_inb numel1_S1 (tbl m) i = ![0, BitVec.toNat (wCur (T0 m) i), 0, (BitVec.ofNat 32 (i 0).val).toNat] := rfl
  rw [e, wCur_eq, BitVec.toNat_ofNat, Nat.mod_eq_of_lt (by omega)]
  rfl
theorem index_w2 (i : grid0.Coords) :
    cc0_transform_2 k0_off1_inb numel1_S1 (tbl m) i = ![0, expert m ⟨(i 1).val, tile_lt i⟩, 0, 2 + (i 0).val] := by
  have h2 : (i 0).val < 2 := (i 0).isLt
  have e : cc0_transform_2 k0_off1_inb numel1_S1 (tbl m) i = ![0, BitVec.toNat (wCur (T0 m) i), 0, (2#32 + BitVec.ofNat 32 (i 0).val).toNat] := rfl
  rw [e, wCur_eq, BitVec.toNat_add, BitVec.toNat_ofNat, BitVec.toNat_ofNat, Nat.mod_eq_of_lt (a := (i 0).val) (by omega), Nat.mod_eq_of_lt (by omega)]
  rfl

include ok in
theorem expert_lt (n : Fin 80) : expert m n < 8 := by
  obtain ⟨h, -⟩ := ok.1 (fun a => match a with | ⟨0, _⟩ => (0 : Fin 2) | ⟨1, _⟩ => n)
  have h1 := h 1
  rw [index_w1] at h1
  have : (expert m n + 1) * 1 ≤ 8 := h1
  omega

/-- The tile and the first column of a point. -/
def tile (t : Fin (cfgA m ok).N) : Fin 80 := ⟨t.val % 80, Nat.mod_lt _ (by omega)⟩
def colW (t : Fin (cfgA m ok).N) (q : Fin 512) : Fin 2048 := ⟨t.val / 80 * 512 + q.val, by
  have hN : (cfgA m ok).N = 160 := N_0
  have := t.isLt; have := q.isLt; omega⟩

/-- … and its first column in the weights' second half. -/
def colV (t : Fin (cfgA m ok).N) (q : Fin 512) : Fin 2048 := ⟨1024 + t.val / 80 * 512 + q.val, by
  have hN : (cfgA m ok).N = 160 := N_0
  have := t.isLt; have := q.isLt; omega⟩

theorem crd_eq' (t : Fin (cfgA m ok).N) : (crd m ok t 0).val = t.val / 80 ∧ (crd m ok t 1).val = t.val % 80 := crd_eq t

theorem idx1 (t : Fin (cfgA m ok).N) : ((cfgA m ok).win (1 : Fin 4)).index t = ![0, expert m (tile m ok t), 0, t.val / 80] := by
  have e : ((cfgA m ok).win (1 : Fin 4)).index t = cc0_transform_1 k0_off1_inb numel1_S1 (tbl m) (crd m ok t) := rfl
  rw [e, index_w1]
  obtain ⟨a, b⟩ := crd_eq' m ok t
  have h : (⟨(crd m ok t 1).val, tile_lt _⟩ : Fin 80) = tile m ok t := Fin.ext b
  rw [h, a]
theorem idx2 (t : Fin (cfgA m ok).N) : ((cfgA m ok).win (2 : Fin 4)).index t = ![0, expert m (tile m ok t), 0, 2 + t.val / 80] := by
  have e : ((cfgA m ok).win (2 : Fin 4)).index t = cc0_transform_2 k0_off1_inb numel1_S1 (tbl m) (crd m ok t) := rfl
  rw [e, index_w2]
  obtain ⟨a, b⟩ := crd_eq' m ok t
  have h : (⟨(crd m ok t 1).val, tile_lt _⟩ : Fin 80) = tile m ok t := Fin.ext b
  rw [h, a]

/-- The block of `w2`'s first half a point stages, by coordinates: its tile's expert's. -/
theorem ublk_apply (c : Dev nD) (t : Fin (cfgA m ok).N) (k : Fin 4096) (q : Fin 512) :
    iblk m ok c (1 : Fin 4) t (ix4 0 0 k q : S1x1x4096x512.Idx)
      = m ((c : Thread nD τ).loc main_arg3) (ix4 0 ⟨expert m (tile m ok t), expert_lt m ok _⟩ k (colW m ok t q)) := by
  have b := idx1 m ok t
  refine congrArg (m ((c : Thread nD τ).loc main_arg3)) (funext fun a => Fin.ext ?_)
  match a with
  | ⟨0, _⟩ => show ((cfgA m ok).win (1 : Fin 4)).index t (0 : Fin 4) * 1 + 1 * 0 = 0; rw [b]; rfl
  | ⟨1, _⟩ => show ((cfgA m ok).win (1 : Fin 4)).index t (1 : Fin 4) * 1 + 1 * 0 = expert m (tile m ok t); rw [b]; show expert m (tile m ok t) * 1 + 1 * 0 = _; omega
  | ⟨2, _⟩ => show ((cfgA m ok).win (1 : Fin 4)).index t (2 : Fin 4) * 4096 + 1 * k.val = k.val; rw [b]; show 0 * 4096 + 1 * k.val = _; omega
  | ⟨3, _⟩ => show ((cfgA m ok).win (1 : Fin 4)).index t (3 : Fin 4) * 512 + 1 * q.val = t.val / 80 * 512 + q.val; rw [b]; show t.val / 80 * 512 + 1 * q.val = _; omega
/-- … and of its second half. -/
theorem vblk_apply (c : Dev nD) (t : Fin (cfgA m ok).N) (k : Fin 4096) (q : Fin 512) :
    iblk m ok c (2 : Fin 4) t (ix4 0 0 k q : S1x1x4096x512.Idx)
      = m ((c : Thread nD τ).loc main_arg3) (ix4 0 ⟨expert m (tile m ok t), expert_lt m ok _⟩ k (colV m ok t q)) := by
  have b := idx2 m ok t
  refine congrArg (m ((c : Thread nD τ).loc main_arg3)) (funext fun a => Fin.ext ?_)
  match a with
  | ⟨0, _⟩ => show ((cfgA m ok).win (2 : Fin 4)).index t (0 : Fin 4) * 1 + 1 * 0 = 0; rw [b]; rfl
  | ⟨1, _⟩ => show ((cfgA m ok).win (2 : Fin 4)).index t (1 : Fin 4) * 1 + 1 * 0 = expert m (tile m ok t); rw [b]; show expert m (tile m ok t) * 1 + 1 * 0 = _; omega
  | ⟨2, _⟩ => show ((cfgA m ok).win (2 : Fin 4)).index t (2 : Fin 4) * 4096 + 1 * k.val = k.val; rw [b]; show 0 * 4096 + 1 * k.val = _; omega
  | ⟨3, _⟩ => show ((cfgA m ok).win (2 : Fin 4)).index t (3 : Fin 4) * 512 + 1 * q.val = 1024 + t.val / 80 * 512 + q.val; rw [b]; show (2 + t.val / 80) * 512 + 1 * q.val = _; omega

/-- The point before. -/
abbrev pr (t : Fin (cfgA m ok).N) : Fin (cfgA m ok).N := ⟨t.val - 1, Nat.lt_of_le_of_lt (Nat.sub_le _ _) t.isLt⟩

/-- Where the scratches are kept, the blocks are the point before's. -/
theorem blk_kept (c : Dev nD) (t : Fin (cfgA m ok).N) (h : ¬fills (T0 m) (crd m ok t)) :
    t.val ≠ 0 ∧ iblk m ok c (1 : Fin 4) (pr m ok t) = iblk m ok c (1 : Fin 4) t ∧ iblk m ok c (2 : Fin 4) (pr m ok t) = iblk m ok c (2 : Fin 4) t := by
  obtain ⟨h0, hw⟩ := kept _ _ h
  rw [wCur_eq, wPrev_eq] at hw
  obtain ⟨-, b⟩ := crd_eq' m ok t
  rw [b] at h0
  have hx : expert m (tile m ok (pr m ok t)) = expert m (tile m ok t) := by
    unfold expert
    have e1 : (⟨(crd m ok t 1).val, tile_lt _⟩ : Fin 80) = tile m ok t := Fin.ext b
    have e2 : (⟨(crd m ok t 1).val - 1, Nat.lt_of_le_of_lt (Nat.sub_le _ _) (tile_lt _)⟩ : Fin 80) = tile m ok (pr m ok t) := Fin.ext (by
      show (crd m ok t 1).val - 1 = (t.val - 1) % 80
      rw [b]; omega)
    rw [e1, e2] at hw
    exact congrArg BitVec.toNat hw.symm
  have hc : ∀ q, colW m ok (pr m ok t) q = colW m ok t q := fun q => Fin.ext (by
    show (t.val - 1) / 80 * 512 + q.val = t.val / 80 * 512 + q.val
    omega)
  have hd : ∀ q, colV m ok (pr m ok t) q = colV m ok t q := fun q => Fin.ext (by
    show 1024 + (t.val - 1) / 80 * 512 + q.val = 1024 + t.val / 80 * 512 + q.val
    omega)
  have hf : (⟨expert m (tile m ok (pr m ok t)), expert_lt m ok _⟩ : Fin 8) = ⟨expert m (tile m ok t), expert_lt m ok _⟩ := Fin.ext hx
  refine ⟨by omega, ?_, ?_⟩
  all_goals
    funext y
    obtain ⟨z, z', k, q, rfl⟩ : ∃ (z z' : Fin 1) (k : Fin 4096) (q : Fin 512), y = (ix4 z z' k q : S1x1x4096x512.Idx) :=
      ⟨y 0, y 1, y 2, y 3, by funext a; fin_cases a <;> rfl⟩
    obtain rfl : z = 0 := Subsingleton.elim _ _
    obtain rfl : z' = 0 := Subsingleton.elim _ _
    first
      | exact (ublk_apply m ok c (pr m ok t) k q).trans (by rw [hf, hc]; exact (ublk_apply m ok c t k q).symm)
      | exact (vblk_apply m ok c (pr m ok t) k q).trans (by rw [hf, hd]; exact (vblk_apply m ok c t k q).symm)

/-! ## The pipeline's proof data -/

/-- What a point leaves in the output's staging buffer: the products where the tile is in use, else zeros. -/
def outv (c : Dev nD) (t : Fin (cfgA m ok).N) : Vec F S2x512x512 .bf16 :=
  if used (T1 m) (crd m ok t) then
    k0_pay3 (iblk m ok c (0 : Fin 4) t) (k0_pay1 (iblk m ok c (1 : Fin 4) t)) (k0_pay2 (iblk m ok c (2 : Fin 4) t))
  else k0_pay4

/-- What the scratches hold before position `n`, past the first point. -/
def held0 (c : Dev nD) (n : ℕ) (b : Buf (Elt F) ((c : Thread nD τ).loc cc0_scratch0)) : Prop :=
  ∀ (k : ℕ) (h : k < (cfgA m ok).N), n = k + 1 → sc0.view.read (Elt F) b = k0_pay1 (iblk m ok c (1 : Fin 4) ⟨k, h⟩)
def held1 (c : Dev nD) (n : ℕ) (b : Buf (Elt F) ((c : Thread nD τ).loc cc0_scratch1)) : Prop :=
  ∀ (k : ℕ) (h : k < (cfgA m ok).N), n = k + 1 → sc1.view.read (Elt F) b = k0_pay2 (iblk m ok c (2 : Fin 4) ⟨k, h⟩)

/-- The invariant before position `n`. -/
def Phi (c : Dev nD) (n : ℕ) : sProp (MM F) :=
  iprop((∃ a, ⌜held0 m ok c n a⌝ ∗ (sc0.view.loc (c : Thread nD τ) ↦{fullShare} a)) ∗ (∃ a, ⌜held1 m ok c n a⌝ ∗ (sc1.view.loc (c : Thread nD τ) ↦{fullShare} a))
    ∗ (tb0.view.loc (c : Thread nD τ) ↦{fullShare.right} T0 m) ∗ (tb1.view.loc (c : Thread nD τ) ↦{fullShare.right} T1 m))

def dats (_ : Fin 1) (c : Dev nD) : Dat τ (Elt F) Unit ℕ (UR sig nD τ) ℕ (cfgA m ok) c where
  A w := m (((cfgA m ok).win w).arr.view.loc (c : Thread nD τ))
  after w t := match w with
    | ⟨0, _⟩ => iblk m ok c (0 : Fin 4) t
    | ⟨1, _⟩ => iblk m ok c (1 : Fin 4) t
    | ⟨2, _⟩ => iblk m ok c (2 : Fin 4) t
    | ⟨3, _⟩ => outv m ok c t
  Φ t := Phi m ok c t.val
  q w := Pipeline.shareOf spec0 w
  owed _ := 0

theorem phi_eq (c : Dev nD) (t : Fin ((cfgA m ok).N + 1)) : (dats m ok 0 c).Φ t = Phi m ok c t.val := rfl

theorem after0_0 (c : Dev nD) (t : Fin (cfgA m ok).N) : (dats m ok 0 c).after (0 : Fin 4) t = iblk m ok c (0 : Fin 4) t := rfl
theorem after0_1 (c : Dev nD) (t : Fin (cfgA m ok).N) : (dats m ok 0 c).after (1 : Fin 4) t = iblk m ok c (1 : Fin 4) t := rfl
theorem after0_2 (c : Dev nD) (t : Fin (cfgA m ok).N) : (dats m ok 0 c).after (2 : Fin 4) t = iblk m ok c (2 : Fin 4) t := rfl
theorem after0_3 (c : Dev nD) (t : Fin (cfgA m ok).N) : (dats m ok 0 c).after (3 : Fin 4) t = outv m ok c t := rfl

theorem before0_0 (c : Dev nD) (t : Fin (cfgA m ok).N) (d) : (dats m ok 0 c).before (0 : Fin 4) t d = iblk m ok c (0 : Fin 4) t :=
  ((dats m ok 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m ok).N) (d) : (dats m ok 0 c).before (1 : Fin 4) t d = iblk m ok c (1 : Fin 4) t :=
  ((dats m ok 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m ok).N) (d) : (dats m ok 0 c).before (2 : Fin 4) t d = iblk m ok c (2 : Fin 4) t :=
  ((dats m ok 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Every point stores the output: a tile is in use or not. -/
theorem idle3 (t : Fin (cfgA m ok).N) : (cfgA m ok).idle (3 : Fin 4) ((cfgA m ok).grid.coords t) = false := by
  have e : (cfgA m ok).idle (3 : Fin 4) ((cfgA m ok).grid.coords t)
      = (!(k0_cond2 (crd m ok t) (wUsed (T1 m)) == 1#1) && !(k0_cond3 (crd m ok t) (wUsed (T1 m)) == 1#1)) := by
    rw [wUsed_eq]
    show (!(k0_cond2 (crd m ok t) ((tbl m).atD 1 ![0]) == 1#1) && !(k0_cond3 (crd m ok t) ((tbl m).atD 1 ![0]) == 1#1)) = _
    have h : (tbl m).atD 1 ![0] = T1 m (ix1 0) := by
      have hb : ∀ a : Fin 1, (![0] : Fin 1 → ℕ) a + 1 ≤ S1.size a := by decide
      refine (dif_pos hb).trans ?_
      exact congrArg (T1 m) (funext fun a => Fin.ext (by match a with | ⟨0, _⟩ => rfl))
    rw [h]
  rw [e]
  by_cases hu : used (T1 m) (crd m ok t)
  · rw [show k0_cond2 (crd m ok t) (wUsed (T1 m)) = 1#1 from hu]; rfl
  · rw [show k0_cond3 (crd m ok t) (wUsed (T1 m)) = 1#1 from (spare_iff _ _).mpr hu]; exact Bool.and_false _

end Cert.MoeDownIdeal.Hand

end
-- ==== Proof.MoeDownIdealFrame.lean ====
/-
  The experts' products back to the model's width: the body at a point from its four runs, and the launch.
-/
module

public import proofs.«01_k».proof.Proof.MoeDownIdealFacts
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeDownIdeal.Hand

open Cert.MoeDownIdeal Cert.MoeDownIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]
variable (m : (ℓ : Loc nD τ sig) → Buf (Elt F) ℓ) (ρ : Dev nD → PrngReg) (ok : ok0 (tbl m))

/-! ## The body at a point -/

abbrev bodyAt0 (t : Fin (cfgA m ok).N) : Prog (TpuEff nD τ sig (Elt F) Λ₀ .tc) PUnit :=
  cc0_moe_down (crd m ok t) (Memref.whole main_arg0) (Memref.isWhole_whole _) (Memref.whole main_arg1) (Memref.isWhole_whole _) (ms0_0 m ok t) (hs0_0 m ok t) (ms0_1 m ok t) (hs0_1 m ok t) (ms0_2 m ok t) (hs0_2 m ok t) (ms0_3 m ok t) (hs0_3 m ok t) (Memref.whole cc0_scratch0) (Memref.isWhole_whole _) (Memref.whole cc0_scratch1) (Memref.isWhole_whole _)

set_option maxHeartbeats 4000000 in
theorem sound_body (c : Dev nD) (t : Fin (cfgA m ok).N) :
    iprop((dats m ok 0 c).Φ t.castSucc ∗ (dats m ok 0 c).owesAt () t.castSucc
        ∗ (∃ d, owns (c : Thread nD τ) (ms0_0 m ok t) fullShare ((dats m ok 0 c).before (0 : Fin 4) t d))
        ∗ (∃ d, owns (c : Thread nD τ) (ms0_1 m ok t) fullShare ((dats m ok 0 c).before (1 : Fin 4) t d))
        ∗ (∃ d, owns (c : Thread nD τ) (ms0_2 m ok t) fullShare ((dats m ok 0 c).before (2 : Fin 4) t d))
        ∗ (∃ d, owns (c : Thread nD τ) (ms0_3 m ok t) fullShare ((dats m ok 0 c).before (3 : Fin 4) t d)))
      ⊢ wp frame (wpE (defs₀ (F := F)) Variants.none c none) Set.univ (bodyAt0 m ok t) fun _ =>
          iprop((dats m ok 0 c).Φ t.succ ∗ (dats m ok 0 c).owesAt () t.succ
            ∗ bigSep Finset.univ fun w : Fin (cfgA m ok).W =>
                match (cfgA m ok).idle w ((cfgA m ok).grid.coords t) with
                | true =>
                  match ((cfgA m ok).win w).flush t with
                  | false => iprop(∃ d, owns (c : Thread nD τ) (((cfgA m ok).win w).stage ((cfgA m ok).slots t w)) fullShare ((dats m ok 0 c).before w t d))
                  | true => owns (c : Thread nD τ) (((cfgA m ok).win w).stage ((cfgA m ok).slots t w)) fullShare ((dats m ok 0 c).after w t)
                | false => owns (c : Thread nD τ) (((cfgA m ok).win w).stage ((cfgA m ok).slots t w)) fullShare ((dats m ok 0 c).after w t)) := by
  rw [bigSep_W0]
  have i3 := idle3 m ok t
  rewrite [i3]
  simp only [before0_0, before0_1, before0_2, after0_0, after0_1, after0_2, after0_3]
  rewrite [phi_eq, phi_eq, Fin.val_succ, Fin.val_castSucc, show (dats m ok 0 c).owesAt () t.succ = (dats m ok 0 c).owesAt () t.castSucc from rfl]
  unfold Phi
  by_cases hu : used (T1 m) (crd m ok t)
  · have hs : ¬spare (T1 m) (crd m ok t) := fun h => (spare_iff _ _).mp h hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_A c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_B c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
  · have hs : spare (T1 m) (crd m ok t) := (spare_iff _ _).mpr hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_C c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_D c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
theorem body_obligation (c : Dev nD) : BodyObligation (dats m ok 0 c) (defs₀ (F := F)) Variants.none () Set.univ := fun t => by
  rw [bigSep_W0]
  exact sound_body m ok c t

/-! ## The launch -/

def u₀ : UR sig nD τ :=
  initOf (Pipeline.cells (pcs m ok) ((launch₀0 (F := F)).cellOf_inj fun _ => adm m ok))
    (Pipeline.launchToks (pcs m ok) ((launch₀0 (F := F)).cellOf_inj fun _ => adm m ok))

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m ok).1 ∗ Pipeline.scopedRest spec0 c) ⊢ (dats m ok 0 c).Φ 0 := by
  rw [prefHeld_eq, scopedRest0_eq, show (dats m ok 0 c).Φ 0 = Phi m ok c 0 from rfl]
  unfold Phi
  iintro ⟨-, ⟨HT0, HT1⟩, ⟨%a0, HS0⟩, ⟨%a1, HS1⟩⟩
  isplitl [HS0]
  · iexists a0; isplitr; swap
    · iexact HS0
    · ipureintro; intro k h e; exact absurd e (by omega)
  isplitl [HS1]
  · iexists a1; isplitr; swap
    · iexact HS1
    · ipureintro; intro k h e; exact absurd e (by omega)
  isplitl [HT0]
  · iexact HT0
  iexact HT1

theorem phiN_exit (c : Dev nD) : (dats m ok 0 c).Φ (Fin.last (cfgA m ok).N) ⊢ iprop(BI.emp ∗ Pipeline.scopedRest spec0 c) := by
  rw [scopedRest0_eq, show (dats m ok 0 c).Φ (Fin.last (cfgA m ok).N) = Phi m ok c (cfgA m ok).N from rfl]
  unfold Phi
  iintro ⟨⟨%a0, -, HS0⟩, ⟨%a1, -, HS1⟩, -, -⟩
  isplitr; · iempintro
  isplitl [HS0]
  · iexists a0; iexact HS0
  iexists a1; iexact HS1

/-- Every array at what its blocks make it, every table as it was. -/
def QC : PUnit × MemSt nD τ sig (Elt F) → Prop := fun r =>
  ∀ c : Dev nD, (∀ w : Fin (cfgA m ok).W, r.2.mem (((cfgA m ok).win w).arr.view.loc (c : Thread nD τ)) = (dats m ok 0 c).arrAt w (cfgA m ok).N)
    ∧ ∀ j, r.2.mem ((c : Thread nD τ).loc (pre0.ref j)) = (adm m ok).1 j

theorem V_pre (c : Dev nD) (j : Fin 2) : m ((c : Thread nD τ).loc (pre0.ref j)) = (adm m ok).1 j := by
  obtain rfl : c = 0 := Subsingleton.elim _ _
  rfl

set_option backward.isDefEq.respectTransparency.types false in
set_option maxHeartbeats 4000000 in
theorem run_main_quiescent : θ_run (defs (F := F)) (onTc (τ := τ) (main (F := F))) (s₀ m ρ) (fun r => QC m ok r ∧ r.2.sem = fun _ => 0) :=
  Pipeline.θ_run_region_noSem_pf_quiescent pcfgs (fun _ => adm m ok) (dats m ok) () ((launch₀0 (F := F)).cellOf_inj fun _ => adm m ok) (0 : Fin 1)
    (launch₀0 (F := F)).win (launch₀0 (F := F)).pre (emb₁ : Emb (UR sig nD τ) (MM F)) defs₀ Variants.none m ρ main
    (hbody := fun c => (body_obligation m ok c).loose) (hne := (launch₀0 (F := F)).block_pos)
    (harr := (launch₀0 (F := F)).arr_whole) (hstage := (launch₀0 (F := F)).stage_whole) (howed := fun _ _ => rfl)
    (u₀ := u₀ m ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats m ok 0 c).arrays_split_shared (launch₀0 (F := F)).sharedIn (launch₀0 (F := F)).arr_whole
      (fun _ _ => rfl) _ _ fun _ => rfl)
    (hpf := V_pre m ok)
    (X := fun _ => iprop(emp)) (Y := fun _ => iprop(emp)) (Z := fun _ => iprop(emp))
    (hX := fun c => by rw [unscopedRestP0_eq]; iintro -; isplitr <;> iempintro)
    (hin := phi0_intro m ok)
    (hout := phiN_exit m ok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run read: the result array at what the points' blocks make it, the arguments unchanged. -/
theorem run_blocks :
    θ_run (defs (F := F)) (onTc (τ := τ) (main (F := F))) ⟨m, fun _ => 0, ρ⟩ (fun r => (∀ c : Dev nD,
      r.2.mem ((c.tc : Thread nD τ).loc main_v0) = (dats m ok 0 c).arrAt (3 : Fin 4) (cfgA m ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 (3 : Fin 4), ((h.1 c).2 0).trans (V_pre m ok c 0).symm, ((h.1 c).2 1).trans (V_pre m ok c 1).symm,
    ((h.1 c).1 (0 : Fin 4)).trans ((dats m ok 0 c).arrAt_in (0 : Fin 4) rfl _), ((h.1 c).1 (1 : Fin 4)).trans ((dats m ok 0 c).arrAt_in (1 : Fin 4) rfl _)⟩, h.2⟩) (run_main_quiescent m ρ ok)

include ok in
/-- The frame. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_blocks m ρ ok)

end Cert.MoeDownIdeal.Hand

end
-- ==== Proof.MoeDownOk.lean ====
/-
  The experts' products back to the model's width: every row tile naming an expert, the weights' blocks the tiles' words
  place lie inside the weights; and the frame of the program over bits, whose text is the other's.
-/
module

public import proofs.«01_k».proof.Defs
public import proofs.«01_k».proof.Proof.MoeUpOk
public import proofs.«01_k».proof.Proof.MoeDownIdealFrame
public import proofs.«01_k».proof.Proof.Gen.MoeDown
public import proofs.«01_k».proof.Proof.Gen.Pre_tiles_named_down

@[expose] public section

set_option maxRecDepth 16384

noncomputable section

namespace Cert.MoeDownIdeal.Hand

open Cert.MoeDownIdeal Cert.MoeDownIdeal.Gen Idealize.ShloMosaic Idealize.ShloMosaic.TcCoe Idealize.SL.Sem
open Idealize.ShloMosaic.ValueIdx (ix1)

/-- The side condition, of a table whose words are below eight. -/
theorem ok_of_lt {F : FTy → Type} [FloatOps F] (m : (ℓ : Loc nD τ sig) → Buf (Elt F) ℓ) (h : ∀ n : Fin 80, expert m n < 8) : ok0 (tbl m) := by
  have b : ∀ (i : grid0.Coords) (j : ℕ) (hj : j < 4) (a : Fin 4),
      ((![0, expert m ⟨(i 1).val, tile_lt i⟩, 0, j] : Fin 4 → ℕ) a + 1) * S1x1x4096x512.size a ≤ S2x8x4096x2048.size a := fun i j hj a => by
    have h8 := h ⟨(i 1).val, tile_lt i⟩
    match a with
    | ⟨0, _⟩ => show (0 + 1) * 1 ≤ 2; omega
    | ⟨1, _⟩ => show (expert m ⟨(i 1).val, tile_lt i⟩ + 1) * 1 ≤ 8; omega
    | ⟨2, _⟩ => show (0 + 1) * 4096 ≤ 4096; omega
    | ⟨3, _⟩ => show (j + 1) * 512 ≤ 2048; omega
  have h2 : ∀ i : grid0.Coords, (i 0).val < 2 := fun i => (i 0).isLt
  exact ⟨fun i => ⟨by rw [index_w1]; exact b i _ (by have := h2 i; omega), .inl rfl⟩,
    fun i => ⟨by rw [index_w2]; exact b i _ (by have := h2 i; omega), .inl rfl⟩⟩

/-- The side condition, under the precondition. -/
theorem ok_of_pre (m : (ℓ : Loc nD τ sig) → Buf (Elt Ideal) ℓ) (h : Cert.Pre_MoeDownIdeal m) : ok0 (tbl m) :=
  ok_of_lt m fun n => Cert.MoeUpOk.word_lt _ (congrFun (h 0) (ix1 n))

/-- The frame. -/
theorem frame_ideal : Cert.quiescent_MoeDownIdeal := fun m ρ h => frame (F := Ideal) m ρ (ok_of_pre m h)

/-- The two programs' bodies are one. -/
theorem defs₀_same {F : FTy → Type} [FloatOps F] : Cert.MoeDownIdeal.defs₀ (F := F) = Cert.MoeDown.defs₀ (F := F) := by
  unfold Cert.MoeDownIdeal.defs₀ Cert.MoeDown.defs₀
  refine congrArg Defs.onTc (funext fun ℓ => funext fun a => ?_)
  match ℓ, a with
  | 0, (t, s) => rfl
  | ⟨_ + 1, h⟩, _ => exact absurd h (Nat.not_lt.2 (Nat.le_add_left _ _))

theorem defs_same {F : FTy → Type} [FloatOps F] : Cert.MoeDownIdeal.defs (F := F) = Cert.MoeDown.defs (F := F) :=
  congrArg (Pipeline.defs Cert.MoeDownIdeal.pcfgs) defs₀_same

set_option maxHeartbeats 4000000 in
/-- The frame of the program over bits. -/
theorem frame_kernel : Cert.quiescent_MoeDown := fun m ρ h => by
  have q := frame (F := Bits) m ρ (ok_of_lt (F := Bits) m fun n => Cert.MoeUpOk.word_lt _ (congrFun (h 0) (ix1 n)))
  rw [defs_same] at q
  exact q

end Cert.MoeDownIdeal.Hand

end
-- ==== Proof.Stack.lean ====
/-
  Two blocks of rows stacked on a leading axis of extent two, at an index.
-/
module

public import proofs.«01_k».proof.Proof.Common
public import Idealize.ShloMosaic.Lib.Pipeline.Value

@[expose] public section

noncomputable section

namespace Cert.Common

open Idealize.ShloMosaic Idealize.ShloMosaic.ValueIdx

/-- A leading unit axis added, at an index. -/
theorem add1_apply {a b : ℕ} {α : Type} (v : (⟨2, ![a, b]⟩ : Shape).Idx → α)
    (h : (⟨2, ![a, b]⟩ : Shape).ShapeCasts ⟨3, ![1, a, b]⟩) (r : Fin a) (c : Fin b) :
    shapeCast ⟨3, ![1, a, b]⟩ v h (ix3 0 r c) = v (ix2 r c) := by
  rw [shapeCast_apply v h (ix3 0 r c) (ix2 r c)]
  rw [Shape.rowMajor_val_three, Shape.rowMajor_val_two]
  show r.val * b + c.val = (0 * a + r.val) * b + c.val
  ring

/-- Two blocks stacked, at an index. -/
theorem stack_apply {a b : ℕ} {α : Type} (x y : (⟨3, ![1, a, b]⟩ : Shape).Idx → α)
    (h : Shape.Concatenates [⟨3, ![1, a, b]⟩, ⟨3, ![1, a, b]⟩] ⟨3, ![2, a, b]⟩ 0) (p : Fin 2) (r : Fin a) (c : Fin b) :
    concatenate ⟨3, ![2, a, b]⟩ 0 [⟨⟨3, ![1, a, b]⟩, x⟩, ⟨⟨3, ![1, a, b]⟩, y⟩] h (ix3 p r c)
      = if p.val = 0 then x (ix3 0 r c) else y (ix3 0 r c) := by
  by_cases hp : p.val = 0
  · rw [if_pos hp]
    refine concatenate_pair_apply_left (t := ⟨3, ![2, a, b]⟩) 0 x y h (ix3 p r c) rfl (ix3 0 r c) fun d => ?_
    match d with
    | ⟨0, _⟩ => exact hp.symm
    | ⟨1, _⟩ => rfl
    | ⟨2, _⟩ => rfl
  · rw [if_neg hp]
    refine concatenate_pair_apply_right (t := ⟨3, ![2, a, b]⟩) 0 x y h (ix3 p r c) rfl rfl (ix3 0 r c) (fun d hd => ?_) ?_
    · match d with
      | ⟨0, _⟩ => exact absurd rfl hd
      | ⟨1, _⟩ => rfl
      | ⟨2, _⟩ => rfl
    · show 0 + 1 = p.val
      have := p.isLt; omega

end Cert.Common

end
-- ==== Proof.MoeDownValue.lean ====
/-
  The experts' products back to the model's width: the result array. A row tile in use holds its rows' products with its own
  expert's `w2`, a spare tile zeros; the first axis tells the half of the columns.
-/
module

public import proofs.«01_k».proof.Proof.MoeDownIdealFrame
public import proofs.«01_k».proof.Proof.Stack
public import Idealize.ShloMosaic.Lib.IdealHost

@[expose] public section

set_option maxRecDepth 16384

noncomputable section

namespace Cert.MoeDownIdeal.RefValue

open Cert.MoeDownIdeal Cert.MoeDownIdeal.Gen Cert.MoeDownIdeal.Hand Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (ok : ok0 (tbl m))

/-- Row `r` of the rows times column `j` of expert `e`'s weight in layer 0. -/
def prod (h : FVec Ideal S40960x4096 .bf16) (w : FVec Ideal S2x8x4096x2048 .f32) (e : Fin 8) (r : Fin 40960) (j : Fin 2048) : EReal :=
  ∑ k : Fin 4096, h (ix2 r k) * w (ix4 0 e k j)

/-- The column a half and a place in it make. -/
def col (p : Fin 2) (q : Fin 1024) : Fin 2048 := ⟨p.val * 1024 + q.val, by have := p.isLt; have := q.isLt; omega⟩

/-- The tile of a row. -/
def rowTile (r : Fin 40960) : Fin 80 := ⟨r.val / 512, by have := r.isLt; omega⟩

/-- A tile is in use. -/
def inUse (n1 : S1.Idx → BitVec 32) (n : Fin 80) : Bool := (BitVec.ofNat 32 n.val).slt (n1 (ix1 0))

/-- The expert a tile's word names. -/
def named (n : Fin 80) : Fin 8 := ⟨expert m n, expert_lt m ok n⟩

/-- The result array. -/
def G (c : Dev nD) : Buf (Elt Ideal) ((c : Thread nD τ).loc main_v0) := fun i =>
  if inUse (T1 m) (rowTile (i 1)) = true then
    prod (m ((c : Thread nD τ).loc main_arg2)) (m ((c : Thread nD τ).loc main_arg3)) (named m ok (rowTile (i 1))) (i 1) (col (i 0) (i 2))
  else (0 : EReal)

/-- The stored block at an index: the first half's product or the second's. -/
theorem pay_apply (x : FVec Ideal S512x4096 .bf16) (u v : FVec Ideal S4096x512 .bf16) (p : Fin 2) (r q : Fin 512) :
    k0_pay3 (F := Ideal) x u v (ix3 p r q : S2x512x512.Idx)
      = FloatOps.matmul (F := Ideal) (φ₁ := .bf16) (φ₂ := .bf16) (DotDims.plain 512 4096 512) none x (if p.val = 0 then u else v) (constant _ .f32 0x00000000#32) (ix2 r q) := by
  refine (stack_apply (a := 512) (b := 512) _ _ concatenates_S1x512x512_S1x512x512_S2x512x512_d0 p r q).trans ?_
  by_cases hp : p.val = 0
  · rw [if_pos hp, if_pos hp]
    exact add1_apply _ shapeCasts_S512x512_S1x512x512 r q
  · rw [if_neg hp, if_neg hp]
    exact add1_apply _ shapeCasts_S512x512_S1x512x512 r q

/-- The cast block of the weights, at an index. -/
theorem pay1_apply (x : FVec Ideal S1x1x4096x512 .f32) (k : Fin 4096) (q : Fin 512) :
    k0_pay1 (F := Ideal) x (ix2 k q : S4096x512.Idx) = x (ix4 0 0 k q) := by
  unfold k0_pay1
  rw [shapeCast_self]
  exact drop2_apply x shapeCasts_S1x1x4096x512_S4096x512 k q
theorem pay2_apply (x : FVec Ideal S1x1x4096x512 .f32) (k : Fin 4096) (q : Fin 512) :
    k0_pay2 (F := Ideal) x (ix2 k q : S4096x512.Idx) = x (ix4 0 0 k q) := pay1_apply x k q

theorem pay4_apply (y : S2x512x512.Idx) : k0_pay4 (F := Ideal) y = 0 := by
  show Ideal.ofBits .bf16 0x0000#16 = 0
  simp

theorem idx0 (t : Fin (cfgA m ok).N) : ((cfgA m ok).win (0 : Fin 4)).index t = ![t.val % 80, 0] := by
  obtain ⟨a, b⟩ := crd_eq' m ok t
  have e : ((cfgA m ok).win (0 : Fin 4)).index t = ![(BitVec.ofNat 32 (crd m ok t 1).val).toNat, 0] := rfl
  rw [e, b, BitVec.toNat_ofNat, Nat.mod_eq_of_lt (show t.val % 80 < 2 ^ 32 by omega)]
theorem idx3 (t : Fin (cfgA m ok).N) : ((cfgA m ok).win (3 : Fin 4)).index t = ![0, t.val % 80, t.val / 80] := by
  obtain ⟨a, b⟩ := crd_eq' m ok t
  have hN : (cfgA m ok).N = 160 := N_0
  have ht := t.isLt
  have e : ((cfgA m ok).win (3 : Fin 4)).index t = ![0, (BitVec.ofNat 32 (crd m ok t 1).val).toNat, (BitVec.ofNat 32 (crd m ok t 0).val).toNat] := rfl
  rw [e, a, b, BitVec.toNat_ofNat, BitVec.toNat_ofNat, Nat.mod_eq_of_lt (show t.val % 80 < 2 ^ 32 by omega), Nat.mod_eq_of_lt (show t.val / 80 < 2 ^ 32 by omega)]

/-- Every point writes its block back: the next point's is another. -/
theorem flush3 (t : Fin (cfgA m ok).N) : ((cfgA m ok).win (3 : Fin 4)).flush t = true := by
  have hN : (cfgA m ok).N = 160 := N_0
  unfold Pipeline.Window.flush
  have ho : ((cfgA m ok).win (3 : Fin 4)).isOut = true := rfl
  rw [ho, Bool.true_and, Bool.or_eq_true]
  by_cases hl : t.val + 1 = 160
  · exact .inl (decide_eq_true (hl.trans N_0.symm))
  · have ht : t.val + 1 < (cfgA m ok).N := by have := t.isLt; omega
    refine .inr (decide_eq_true ⟨ht, fun h => ?_⟩)
    have h0 := congrFun h (1 : Fin 3)
    rw [idx3, idx3] at h0
    have h0' : (t.val + 1) % 80 = t.val % 80 := h0
    omega

theorem used_eq (t : Fin (cfgA m ok).N) : used (T1 m) (crd m ok t) ↔ inUse (T1 m) (tile m ok t) = true := by
  rw [used_iff, wUsed_eq, (crd_eq' m ok t).2]
  exact Iff.rfl

set_option maxHeartbeats 1600000 in
theorem flushed_eq (c : Dev nD) (t : Fin (cfgA m ok).N) :
    (dats m ok 0 c).flushed (3 : Fin 4) t = (((cfgA m ok).win (3 : Fin 4)).blk t).view.read (Elt Ideal) (G m ok c) := by
  have o := idx3 m ok t
  have ax := idx0 m ok t
  funext y
  obtain ⟨p, r, q, rfl⟩ : ∃ (p : Fin 2) (r : Fin 512) (q : Fin 512), y = (ix3 p r q : S2x512x512.Idx) := ⟨y 0, y 1, y 2, by funext a; fin_cases a <;> rfl⟩
  show outv m ok c t (ix3 p r q) = G m ok c ((((cfgA m ok).win (3 : Fin 4)).blk t).view.emb (ix3 p r q : S2x512x512.Idx))
  set z : S2x40960x1024.Idx := (((cfgA m ok).win (3 : Fin 4)).blk t).view.emb (ix3 p r q : S2x512x512.Idx) with hz
  have hr := r.isLt
  have z0 : z 0 = p := Fin.ext (by
    show ((cfgA m ok).win (3 : Fin 4)).index t (0 : Fin 3) * 2 + 1 * p.val = p.val
    rw [o]; show 0 * 2 + 1 * p.val = _; omega)
  have z1 : (z 1).val = t.val % 80 * 512 + r.val := by
    show ((cfgA m ok).win (3 : Fin 4)).index t (1 : Fin 3) * 512 + 1 * r.val = _
    rw [o]; show t.val % 80 * 512 + 1 * r.val = _; omega
  have z2 : (z 2).val = t.val / 80 * 512 + q.val := by
    show ((cfgA m ok).win (3 : Fin 4)).index t (2 : Fin 3) * 512 + 1 * q.val = _
    rw [o]; show t.val / 80 * 512 + 1 * q.val = _; omega
  have zt : rowTile (z 1) = tile m ok t := Fin.ext (by
    show (z 1).val / 512 = t.val % 80
    rw [z1]; omega)
  unfold G outv
  rw [zt]
  by_cases hu : used (T1 m) (crd m ok t)
  · rw [if_pos hu, if_pos ((used_eq m ok t).mp hu), pay_apply, mm_apply]
    have ex : ∀ k : Fin 4096, iblk m ok c (0 : Fin 4) t (ix2 r k : S512x4096.Idx) = m ((c : Thread nD τ).loc main_arg2) (ix2 (z 1) k) := fun k => by
      refine congrArg (m ((c : Thread nD τ).loc main_arg2)) (funext fun a => Fin.ext ?_)
      match a with
      | ⟨0, _⟩ =>
        show ((cfgA m ok).win (0 : Fin 4)).index t (0 : Fin 2) * 512 + 1 * r.val = (z 1).val
        rw [ax, z1]; show t.val % 80 * 512 + 1 * r.val = _; omega
      | ⟨1, _⟩ =>
        show ((cfgA m ok).win (0 : Fin 4)).index t (1 : Fin 2) * 4096 + 1 * k.val = k.val
        rw [ax]; show 0 * 4096 + 1 * k.val = _; omega
    unfold prod
    refine Finset.sum_congr rfl fun k _ => ?_
    refine congrArg₂ (fun a b : EReal => a * b) (ex k) ?_
    by_cases hp : p.val = 0
    · have zc : col (z 0) (z 2) = colW m ok t q := Fin.ext (by
        show (z 0).val * 1024 + (z 2).val = t.val / 80 * 512 + q.val
        rw [z0, z2]; omega)
      rw [if_pos hp, zc]
      exact (pay1_apply _ k q).trans (ublk_apply m ok c t k q)
    · have hp2 := p.isLt
      have zc : col (z 0) (z 2) = colV m ok t q := Fin.ext (by
        show (z 0).val * 1024 + (z 2).val = 1024 + t.val / 80 * 512 + q.val
        rw [z0, z2]; omega)
      rw [if_neg hp, zc]
      exact (pay2_apply _ k q).trans (vblk_apply m ok c t k q)
  · rw [if_neg hu, if_neg (fun h => hu ((used_eq m ok t).mpr h))]
    exact pay4_apply _

theorem mem_blk (t : Fin (cfgA m ok).N) (i : S2x40960x1024.Idx) :
    i ∈ (((cfgA m ok).win (3 : Fin 4)).blk t).view.set
      ↔ ∀ a : Fin 3, ((cfgA m ok).win (3 : Fin 4)).index t a * S2x512x512.size a ≤ (i a).val ∧ (i a).val < ((cfgA m ok).win (3 : Fin 4)).index t a * S2x512x512.size a + S2x512x512.size a := by
  show i ∈ ((View.whole main_v0).slice (((cfgA m ok).win (3 : Fin 4)).rect t)).set ↔ _
  rw [View.set_slice_whole, Rect.mem_set_unit]
  exact Iff.rfl

theorem cover (i : S2x40960x1024.Idx) : ∃ t : Fin (cfgA m ok).N, ((cfgA m ok).win (3 : Fin 4)).flush t = true ∧ i ∈ (((cfgA m ok).win (3 : Fin 4)).blk t).view.set := by
  have h0 : (i 0).val < 2 := (i 0).isLt
  have h1 : (i 1).val < 40960 := (i 1).isLt
  have h2 : (i 2).val < 1024 := (i 2).isLt
  have hN : (cfgA m ok).N = 160 := N_0
  have ht : (i 2).val / 512 * 80 + (i 1).val / 512 < (cfgA m ok).N := by omega
  refine ⟨⟨_, ht⟩, flush3 m ok _, ?_⟩
  rw [mem_blk, idx3]
  intro a
  match a with
  | ⟨0, _⟩ =>
    show 0 * 2 ≤ (i 0).val ∧ (i 0).val < 0 * 2 + 2
    omega
  | ⟨1, _⟩ =>
    show ((i 2).val / 512 * 80 + (i 1).val / 512) % 80 * 512 ≤ (i 1).val ∧ (i 1).val < ((i 2).val / 512 * 80 + (i 1).val / 512) % 80 * 512 + 512
    omega
  | ⟨2, _⟩ =>
    show ((i 2).val / 512 * 80 + (i 1).val / 512) / 80 * 512 ≤ (i 2).val ∧ (i 2).val < ((i 2).val / 512 * 80 + (i 1).val / 512) / 80 * 512 + 512
    omega

theorem final (c : Dev nD) : (dats m ok 0 c).arrAt (3 : Fin 4) (cfgA m ok).N = G m ok c :=
  (dats m ok 0 c).arrAt_eq_of_cover (3 : Fin 4) (G m ok c) (fun t _ => flushed_eq m ok c t) (cover m ok)

/-- The run read. -/
theorem run : θ_run defs (onTc (τ := τ) (main (F := Ideal))) ⟨m, fun _ => 0, ρ⟩ fun r => ∀ c : Dev nD,
      r.2.mem ((c : Thread nD τ).loc main_v0) = G m ok c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1.trans (final m ok c), (h.1 c).2⟩) (run_blocks m ρ ok)

end Cert.MoeDownIdeal.RefValue

end
-- ==== Proof.MoeDownRef.lean ====
/-
  The experts' products back to the model's width: the reference read at an index. Its loop over the experts adds each expert's product
  where the row's tile names that expert; one does, or none where the tile is spare.
-/
module

public import proofs.«01_k».proof.Proof.MoeDownValue
public import proofs.«01_k».proof.Proof.Gen.MoeDownRefIdeal.Run
public import proofs.«01_k».proof.Proof.Gen.MoeDownRefIdeal.Read

@[expose] public section

set_option maxRecDepth 16384

noncomputable section

namespace Cert.MoeDownIdeal.RefValue

open Cert.Common Idealize.ShloMosaic Idealize.ShloMosaic.TcCoe Idealize.SL.Sem Idealize.ShloMosaic.ValueIdx
open Cert.MoeDownRefIdeal Cert.MoeDownRefIdeal.Read

variable (te : Cert.MoeDownRefIdeal.S80.Idx → BitVec 32) (nu : Cert.MoeDownRefIdeal.S1.Idx → BitVec 32)
variable (h : FVec Ideal Cert.MoeDownRefIdeal.S40960x4096 .bf16) (w : FVec Ideal Cert.MoeDownRefIdeal.S2x8x4096x2048 .f32)

/-- The tile's word, `-1` where the tile is spare. -/
theorem word_apply (n : Fin 80) : val_main_v4 (F := Ideal) te nu (ix1 n : Cert.MoeDownRefIdeal.S80.Idx) = if inUse nu n = true then te (ix1 n) else 4294967295#32 := by
  have e1 : val_main_v1 (F := Ideal) nu (idx_main_v2 (ix1 n)) = nu (ix1 0) :=
    shapeCast_apply nu _ (idx_main_v2 (ix1 n)) (ix1 0) rfl
  rw [val_main_v4_apply, val_main_v3_apply, val_main_v2_apply, val_main_v0_apply, val_main_call0_v1_apply, e1]
  have e : ∀ b : Bool, Scalar.select (BitVec.ofBool b) (te (ix1 n)) (4294967295#32) = if b = true then te (ix1 n) else 4294967295#32 := fun b => by
    cases b <;> rfl
  exact e _

/-- The weight of expert `e` at a row: whether its tile's word is `e`'s. -/
theorem comb_apply (r : Fin 40960) (e : Fin 8) : val_main_v8 (F := Ideal) te nu (ix2 r e : Cert.MoeDownRefIdeal.S40960x8.Idx)
    = if (if inUse nu (rowTile r) = true then te (ix1 (rowTile r)) else 4294967295#32) = BitVec.ofNat 32 e.val then (1 : EReal) else 0 := by
  rw [← word_apply te nu (rowTile r), val_main_v8_apply, val_main_call1_v4_apply, val_main_call1_v2_apply, val_main_call1_v0_apply, val_main_v7_apply, val_main_v6_apply,
    val_main_v5_apply, val_main_call1_v3_apply, val_main_call1_v1_apply]
  have e1 : ∀ a b : BitVec 32, (FloatOps.uitofp (F := Ideal) .f32 (IntOp.cmpi .eq a b) : EReal) = if a = b then (1 : EReal) else 0 := fun a b => by
    by_cases hab : a = b
    · subst hab
      have q : IntOp.cmpi .eq a a = 1#1 := by simp [IntOp.cmpi]
      rw [if_pos rfl, q]
      show (((1#1 : BitVec 1).toNat : ℝ) : EReal) = 1
      simp
    · have q : IntOp.cmpi .eq a b = 0#1 := by
        simp only [IntOp.cmpi]
        rw [beq_eq_false_iff_ne.mpr hab]; rfl
      rw [if_neg hab, q]
      show (((0#1 : BitVec 1).toNat : ℝ) : EReal) = 0
      simp
  refine (e1 _ _).trans ?_
  have e2 : (idx_main_v5 (idx_main_v6 (idx_main_v7 (idx_main_call1_v0 (idx_main_call1_v2 (ix2 r e))))) : Cert.MoeDownRefIdeal.S80.Idx) = ix1 (rowTile r) :=
    funext fun a => match a with | ⟨0, _⟩ => rfl
  rw [e2]

/-- Expert 0's product. -/
theorem ref_w2_0 (i : Cert.MoeDownRefIdeal.S40960x2048.Idx) : val_main_v14 (F := Ideal) h w i = prod h w 0 (i 0) (i 1) := by
  have h1 : (i 1).val < 2048 := (i 1).isLt
  refine (val_main_v14_apply h w i).trans (Finset.sum_congr rfl fun k _ => ?_)
  have hk : k.val < 4096 := k.isLt
  rw [val_main_v13_apply, val_main_v12_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 0's term. -/
theorem ref_term_0 (i : Cert.MoeDownRefIdeal.S40960x2048.Idx) : val_main_v16 (F := Ideal) te nu h w i
    = val_main_v8 (F := Ideal) te nu (ix2 (i 0) 0 : Cert.MoeDownRefIdeal.S40960x8.Idx) * prod h w 0 (i 0) (i 1) := by
  rw [val_main_v16_apply]
  refine congrArg₂ (fun a b : EReal => a * b) ?_ (ref_w2_0 h w i)
  rw [val_main_v15_apply, val_main_v11_apply]
  exact congrArg (val_main_v8 (F := Ideal) te nu) (funext fun a => match a with | ⟨0, _⟩ => rfl | ⟨1, _⟩ => rfl)

/-- Expert 1's product. -/
theorem ref_w2_1 (i : Cert.MoeDownRefIdeal.S40960x2048.Idx) : val_main_v21 (F := Ideal) h w i = prod h w 1 (i 0) (i 1) := by
  have h1 : (i 1).val < 2048 := (i 1).isLt
  refine (val_main_v21_apply h w i).trans (Finset.sum_congr rfl fun k _ => ?_)
  have hk : k.val < 4096 := k.isLt
  rw [val_main_v20_apply, val_main_v19_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 1's term. -/
theorem ref_term_1 (i : Cert.MoeDownRefIdeal.S40960x2048.Idx) : val_main_v23 (F := Ideal) te nu h w i
    = val_main_v8 (F := Ideal) te nu (ix2 (i 0) 1 : Cert.MoeDownRefIdeal.S40960x8.Idx) * prod h w 1 (i 0) (i 1) := by
  rw [val_main_v23_apply]
  refine congrArg₂ (fun a b : EReal => a * b) ?_ (ref_w2_1 h w i)
  rw [val_main_v22_apply, val_main_v18_apply]
  exact congrArg (val_main_v8 (F := Ideal) te nu) (funext fun a => match a with | ⟨0, _⟩ => rfl | ⟨1, _⟩ => rfl)

/-- Expert 2's product. -/
theorem ref_w2_2 (i : Cert.MoeDownRefIdeal.S40960x2048.Idx) : val_main_v28 (F := Ideal) h w i = prod h w 2 (i 0) (i 1) := by
  have h1 : (i 1).val < 2048 := (i 1).isLt
  refine (val_main_v28_apply h w i).trans (Finset.sum_congr rfl fun k _ => ?_)
  have hk : k.val < 4096 := k.isLt
  rw [val_main_v27_apply, val_main_v26_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 2's term. -/
theorem ref_term_2 (i : Cert.MoeDownRefIdeal.S40960x2048.Idx) : val_main_v30 (F := Ideal) te nu h w i
    = val_main_v8 (F := Ideal) te nu (ix2 (i 0) 2 : Cert.MoeDownRefIdeal.S40960x8.Idx) * prod h w 2 (i 0) (i 1) := by
  rw [val_main_v30_apply]
  refine congrArg₂ (fun a b : EReal => a * b) ?_ (ref_w2_2 h w i)
  rw [val_main_v29_apply, val_main_v25_apply]
  exact congrArg (val_main_v8 (F := Ideal) te nu) (funext fun a => match a with | ⟨0, _⟩ => rfl | ⟨1, _⟩ => rfl)

/-- Expert 3's product. -/
theorem ref_w2_3 (i : Cert.MoeDownRefIdeal.S40960x2048.Idx) : val_main_v35 (F := Ideal) h w i = prod h w 3 (i 0) (i 1) := by
  have h1 : (i 1).val < 2048 := (i 1).isLt
  refine (val_main_v35_apply h w i).trans (Finset.sum_congr rfl fun k _ => ?_)
  have hk : k.val < 4096 := k.isLt
  rw [val_main_v34_apply, val_main_v33_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 3's term. -/
theorem ref_term_3 (i : Cert.MoeDownRefIdeal.S40960x2048.Idx) : val_main_v37 (F := Ideal) te nu h w i
    = val_main_v8 (F := Ideal) te nu (ix2 (i 0) 3 : Cert.MoeDownRefIdeal.S40960x8.Idx) * prod h w 3 (i 0) (i 1) := by
  rw [val_main_v37_apply]
  refine congrArg₂ (fun a b : EReal => a * b) ?_ (ref_w2_3 h w i)
  rw [val_main_v36_apply, val_main_v32_apply]
  exact congrArg (val_main_v8 (F := Ideal) te nu) (funext fun a => match a with | ⟨0, _⟩ => rfl | ⟨1, _⟩ => rfl)

/-- Expert 4's product. -/
theorem ref_w2_4 (i : Cert.MoeDownRefIdeal.S40960x2048.Idx) : val_main_v42 (F := Ideal) h w i = prod h w 4 (i 0) (i 1) := by
  have h1 : (i 1).val < 2048 := (i 1).isLt
  refine (val_main_v42_apply h w i).trans (Finset.sum_congr rfl fun k _ => ?_)
  have hk : k.val < 4096 := k.isLt
  rw [val_main_v41_apply, val_main_v40_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 4's term. -/
theorem ref_term_4 (i : Cert.MoeDownRefIdeal.S40960x2048.Idx) : val_main_v44 (F := Ideal) te nu h w i
    = val_main_v8 (F := Ideal) te nu (ix2 (i 0) 4 : Cert.MoeDownRefIdeal.S40960x8.Idx) * prod h w 4 (i 0) (i 1) := by
  rw [val_main_v44_apply]
  refine congrArg₂ (fun a b : EReal => a * b) ?_ (ref_w2_4 h w i)
  rw [val_main_v43_apply, val_main_v39_apply]
  exact congrArg (val_main_v8 (F := Ideal) te nu) (funext fun a => match a with | ⟨0, _⟩ => rfl | ⟨1, _⟩ => rfl)

/-- Expert 5's product. -/
theorem ref_w2_5 (i : Cert.MoeDownRefIdeal.S40960x2048.Idx) : val_main_v49 (F := Ideal) h w i = prod h w 5 (i 0) (i 1) := by
  have h1 : (i 1).val < 2048 := (i 1).isLt
  refine (val_main_v49_apply h w i).trans (Finset.sum_congr rfl fun k _ => ?_)
  have hk : k.val < 4096 := k.isLt
  rw [val_main_v48_apply, val_main_v47_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 5's term. -/
theorem ref_term_5 (i : Cert.MoeDownRefIdeal.S40960x2048.Idx) : val_main_v51 (F := Ideal) te nu h w i
    = val_main_v8 (F := Ideal) te nu (ix2 (i 0) 5 : Cert.MoeDownRefIdeal.S40960x8.Idx) * prod h w 5 (i 0) (i 1) := by
  rw [val_main_v51_apply]
  refine congrArg₂ (fun a b : EReal => a * b) ?_ (ref_w2_5 h w i)
  rw [val_main_v50_apply, val_main_v46_apply]
  exact congrArg (val_main_v8 (F := Ideal) te nu) (funext fun a => match a with | ⟨0, _⟩ => rfl | ⟨1, _⟩ => rfl)

/-- Expert 6's product. -/
theorem ref_w2_6 (i : Cert.MoeDownRefIdeal.S40960x2048.Idx) : val_main_v56 (F := Ideal) h w i = prod h w 6 (i 0) (i 1) := by
  have h1 : (i 1).val < 2048 := (i 1).isLt
  refine (val_main_v56_apply h w i).trans (Finset.sum_congr rfl fun k _ => ?_)
  have hk : k.val < 4096 := k.isLt
  rw [val_main_v55_apply, val_main_v54_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 6's term. -/
theorem ref_term_6 (i : Cert.MoeDownRefIdeal.S40960x2048.Idx) : val_main_v58 (F := Ideal) te nu h w i
    = val_main_v8 (F := Ideal) te nu (ix2 (i 0) 6 : Cert.MoeDownRefIdeal.S40960x8.Idx) * prod h w 6 (i 0) (i 1) := by
  rw [val_main_v58_apply]
  refine congrArg₂ (fun a b : EReal => a * b) ?_ (ref_w2_6 h w i)
  rw [val_main_v57_apply, val_main_v53_apply]
  exact congrArg (val_main_v8 (F := Ideal) te nu) (funext fun a => match a with | ⟨0, _⟩ => rfl | ⟨1, _⟩ => rfl)

/-- Expert 7's product. -/
theorem ref_w2_7 (i : Cert.MoeDownRefIdeal.S40960x2048.Idx) : val_main_v63 (F := Ideal) h w i = prod h w 7 (i 0) (i 1) := by
  have h1 : (i 1).val < 2048 := (i 1).isLt
  refine (val_main_v63_apply h w i).trans (Finset.sum_congr rfl fun k _ => ?_)
  have hk : k.val < 4096 := k.isLt
  rw [val_main_v62_apply, val_main_v61_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 7's term. -/
theorem ref_term_7 (i : Cert.MoeDownRefIdeal.S40960x2048.Idx) : val_main_v65 (F := Ideal) te nu h w i
    = val_main_v8 (F := Ideal) te nu (ix2 (i 0) 7 : Cert.MoeDownRefIdeal.S40960x8.Idx) * prod h w 7 (i 0) (i 1) := by
  rw [val_main_v65_apply]
  refine congrArg₂ (fun a b : EReal => a * b) ?_ (ref_w2_7 h w i)
  rw [val_main_v64_apply, val_main_v60_apply]
  exact congrArg (val_main_v8 (F := Ideal) te nu) (funext fun a => match a with | ⟨0, _⟩ => rfl | ⟨1, _⟩ => rfl)

/-- One weight of the eight is one, the others zero. -/
theorem sum_one (E : Fin 8) (c f : Fin 8 → EReal) (hc : ∀ e, c e = if e = E then (1 : EReal) else 0) :
    (0 : EReal) + c 0 * f 0 + c 1 * f 1 + c 2 * f 2 + c 3 * f 3 + c 4 * f 4 + c 5 * f 5 + c 6 * f 6 + c 7 * f 7 = f E := by
  simp only [hc]
  fin_cases E <;> simp

theorem sum_none (c f : Fin 8 → EReal) (hc : ∀ e, c e = 0) : (0 : EReal) + c 0 * f 0 + c 1 * f 1 + c 2 * f 2 + c 3 * f 3 + c 4 * f 4 + c 5 * f 5 + c 6 * f 6 + c 7 * f 7 = 0 := by
  simp [hc]

/-- The sum over the experts at an index is the sum of their terms. -/
theorem ref_sum (i : Cert.MoeDownRefIdeal.S40960x2048.Idx) (c f : Fin 8 → EReal)
    (hc : c = fun e => val_main_v8 (F := Ideal) te nu (ix2 (i 0) e : Cert.MoeDownRefIdeal.S40960x8.Idx))
    (hf : f = fun e => prod h w e (i 0) (i 1)) :
    val_main_v67 (F := Ideal) te nu h w i = (0 : EReal) + c 0 * f 0 + c 1 * f 1 + c 2 * f 2 + c 3 * f 3 + c 4 * f 4 + c 5 * f 5 + c 6 * f 6 + c 7 * f 7 := by
  have z : val_main_v10 (F := Ideal) i = (0 : EReal) := by
    rw [val_main_v10_apply, val_main_cst_apply]
    show Ideal.ofBits .f32 0x00000000#32 = 0
    simp
  subst hc hf
  rw [val_main_v67_apply, val_main_v66_apply, val_main_v59_apply, val_main_v52_apply, val_main_v45_apply, val_main_v38_apply, val_main_v31_apply, val_main_v24_apply, val_main_v17_apply, z, ref_term_0, ref_term_1, ref_term_2, ref_term_3, ref_term_4, ref_term_5, ref_term_6, ref_term_7]
  rfl

/-- The sum at an index of a row whose tile names expert `E`. -/
theorem ref_row (i : Cert.MoeDownRefIdeal.S40960x2048.Idx) (E : Fin 8) (hE : te (ix1 (rowTile (i 0))) = BitVec.ofNat 32 E.val) :
    val_main_v67 (F := Ideal) te nu h w i
      = if inUse nu (rowTile (i 0)) = true then prod h w E (i 0) (i 1) else (0 : EReal) := by
  obtain ⟨c, hc⟩ : ∃ c : Fin 8 → EReal, c = fun e => val_main_v8 (F := Ideal) te nu (ix2 (i 0) e : Cert.MoeDownRefIdeal.S40960x8.Idx) := ⟨_, rfl⟩
  obtain ⟨f, hf⟩ : ∃ f : Fin 8 → EReal, f = fun e => prod h w e (i 0) (i 1) := ⟨_, rfl⟩
  refine (ref_sum te nu h w i c f hc hf).trans ?_
  have ce : ∀ e : Fin 8, c e = if (if inUse nu (rowTile (i 0)) = true then te (ix1 (rowTile (i 0))) else 4294967295#32) = BitVec.ofNat 32 e.val then (1 : EReal) else 0 :=
    fun e => (congrFun hc e).trans (comb_apply te nu (i 0) e)
  have q : ∀ a b : Fin 8, (BitVec.ofNat 32 a.val = BitVec.ofNat 32 b.val) ↔ b = a := by decide +kernel
  have q' : ∀ b : Fin 8, ¬(4294967295#32 : BitVec 32) = BitVec.ofNat 32 b.val := by decide +kernel
  by_cases hu : inUse nu (rowTile (i 0)) = true
  · rw [if_pos hu, sum_one E c f fun e => ?_]
    · exact congrFun hf E
    · rw [ce e, if_pos hu, hE]
      exact if_congr (q E e) rfl rfl
  · rw [if_neg hu]
    refine sum_none c f fun e => ?_
    rw [ce e, if_neg hu, if_neg (q' e)]

/-- The reference's result at an index: its two halves of columns stacked. -/
theorem ref_apply (p : Fin 2) (r : Fin 40960) (j : Fin 1024) (E : Fin 8) (hE : te (ix1 (rowTile r)) = BitVec.ofNat 32 E.val) :
    val_main_v72 (F := Ideal) te nu h w (ix3 p r j : Cert.MoeDownRefIdeal.S2x40960x1024.Idx)
      = if inUse nu (rowTile r) = true then prod h w E r (col p j) else (0 : EReal) := by
  refine (stack_apply (a := 40960) (b := 1024) _ _ Cert.MoeDownRefIdeal.Gen.concatenates_S1x40960x1024_S1x40960x1024_S2x40960x1024_d0 p r j).trans ?_
  by_cases hp : p.val = 0
  · rw [if_pos hp, val_main_v70_apply, val_main_v68_apply]
    have e : (idx_main_v68 (idx_main_v70 (ix3 0 r j)) : Cert.MoeDownRefIdeal.S40960x2048.Idx) = ix2 r (col p j) := funext fun a => match a with
      | ⟨0, _⟩ => rfl
      | ⟨1, _⟩ => Fin.ext (by show j.val = p.val * 1024 + j.val; omega)
    rw [e]
    exact ref_row te nu h w (ix2 r (col p j)) E hE
  · rw [if_neg hp, val_main_v71_apply, val_main_v69_apply]
    have hp2 := p.isLt
    have e : (idx_main_v69 (idx_main_v71 (ix3 0 r j)) : Cert.MoeDownRefIdeal.S40960x2048.Idx) = ix2 r (col p j) := funext fun a => match a with
      | ⟨0, _⟩ => rfl
      | ⟨1, _⟩ => Fin.ext (by show 1024 + j.val = p.val * 1024 + j.val; omega)
    rw [e]
    exact ref_row te nu h w (ix2 r (col p j)) E hE

end Cert.MoeDownIdeal.RefValue

end
-- ==== Proof.MoeDownClaim.lean ====
/-
  The experts' products back to the model's width: kernel and reference end with the same result where every row tile names an expert.
-/
module

public import proofs.«01_k».proof.Proof.MoeDownOk
public import proofs.«01_k».proof.Proof.MoeDownRef

@[expose] public section

set_option maxRecDepth 16384

noncomputable section

namespace Cert.MoeDownIdeal.RefValue

open Cert.Common Idealize.ShloMosaic Idealize.ShloMosaic.TcCoe Idealize.SL.Sem Idealize.ShloMosaic.ValueIdx
open Cert.MoeDownRefIdeal.Read

/-- A tile's word is its expert's. -/
theorem word_named (m : (ℓ : Loc Cert.MoeDownIdeal.nD Cert.MoeDownIdeal.τ Cert.MoeDownIdeal.sig) → Buf (Elt Ideal) ℓ) (ok : Cert.MoeDownIdeal.ok0 (Cert.MoeDownIdeal.Hand.tbl m)) (n : Fin 80) :
    Cert.MoeDownIdeal.Hand.T0 m (ix1 n) = BitVec.ofNat 32 (named m ok n).val :=
  ((BitVec.ofNat_toNat 32 (Cert.MoeDownIdeal.Hand.T0 m (ix1 n))).trans (BitVec.setWidth_eq _)).symm

/-- Kernel and reference end with the same result. -/
theorem algebraic : Cert.algebraic_MoeDownIdeal_MoeDownRefIdeal := by
  intro m g m' g' hpre hagree
  have ok := Cert.MoeDownIdeal.Hand.ok_of_pre m hpre
  refine ⟨fun c => G m ok c, run m g ok, ?_⟩
  refine (θ_run Cert.MoeDownRefIdeal.defs _ _).mono (fun _ h c => ⟨(h c).1.trans ?_, (h c).2⟩) (Cert.MoeDownRefIdeal.Value.run (F := Ideal) m' g')
  obtain ⟨h0, h1, h2, h3⟩ := hagree c
  refine (val_main_v72_eq (F := Ideal) _ _).trans ?_
  have hc : c = (0 : Dev Cert.MoeDownIdeal.nD) := Subsingleton.elim _ _
  subst hc
  refine Eq.trans (b := val_main_v72 (F := Ideal) (Cert.MoeDownIdeal.Hand.T0 m) (Cert.MoeDownIdeal.Hand.T1 m)
    (m (((0 : Dev Cert.MoeDownIdeal.nD).tc : Thread Cert.MoeDownIdeal.nD Cert.MoeDownIdeal.τ).loc Cert.MoeDownIdeal.main_arg2))
    (m (((0 : Dev Cert.MoeDownIdeal.nD).tc : Thread Cert.MoeDownIdeal.nD Cert.MoeDownIdeal.τ).loc Cert.MoeDownIdeal.main_arg3))) ?_ ?_
  · exact congr (congr (congr (congrArg (val_main_v72 (F := Ideal)) h0) h1) h2) h3
  · funext i
    obtain ⟨p, r, j, rfl⟩ : ∃ (p : Fin 2) (r : Fin 40960) (j : Fin 1024), i = (ix3 p r j : Cert.MoeDownRefIdeal.S2x40960x1024.Idx) :=
      ⟨i 0, i 1, i 2, by funext a; fin_cases a <;> rfl⟩
    exact ref_apply _ _ _ _ p r j (named m ok (rowTile r)) (word_named m ok _)

/-- The reference's frame. -/
theorem ref_frame : Cert.quiescent_MoeDownRefIdeal := fun m ρ _ =>
  (θ_run Cert.MoeDownRefIdeal.defs _ _).mono (fun r h => ⟨fun c => (h c).2,
    Idealize.ShloMosaic.sem_eq_zero_of_no_sems (by decide) r.2⟩) (Cert.MoeDownRefIdeal.Value.run (F := Ideal) m ρ)
theorem ref_frame_pre : Cert.quiescent_MoeDownRefIdeal_pre_tiles_named_down := fun m ρ _ => ref_frame m ρ trivial

end Cert.MoeDownIdeal.RefValue

end
-- ==== Proof.MoeDownLastIdealRuns.lean ====
/-
  The experts' products back to the model's width: one run of the body per control path. Whether the two scratches are filled
  again is told by the row tiles' table, whether the tile is in use by the second table; the four paths are run once each,
  at any tables, and what each leaves is stated by the payloads.
-/
module

public import proofs.«01_k».proof.Proof.Common
public import proofs.«01_k».proof.Proof.Gen.MoeDownLastIdeal.Skeleton
public import proofs.«01_k».proof.Proof.Gen.MoeDownLastIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.MoeDownLastIdeal.Hand

open Cert.MoeDownLastIdeal Cert.MoeDownLastIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model the body's triples are stated in. -/
abbrev MM (F : FTy → Type) [FloatOps F] := MT nD τ sig Unit (Elt F) ℕ (UR sig nD τ) ℕ

/-- The tables and scratches the kernel is handed, whole, at their literal types. -/
abbrev tb0 : Memref sig .tc .smem S72 .i32 := Memref.whole main_arg0
abbrev tb1 : Memref sig .tc .smem S1 .i32 := Memref.whole main_arg1
abbrev sc0 : Memref sig .tc .vmem S4096x512 .bf16 := Memref.whole cc0_scratch0
abbrev sc1 : Memref sig .tc .vmem S4096x512 .bf16 := Memref.whole cc0_scratch1

/-- The words the body reads: its own tile's expert, the tile before's, and the number of tiles in use. -/
abbrev wCur (T0 : S72.Idx → Elt F .i32) (i : grid0.Coords) : BitVec 32 :=
  View.readAt (Elt F) (tb0).view (Rect.unit (s := S72) (k0_off1 i) S1.size (k0_off1_inb i)).toLoadRect T0 (Shape.Idx.first (numel1_S1.symm ▸ Nat.one_pos))
abbrev wPrev (T0 : S72.Idx → Elt F .i32) (i : grid0.Coords) : BitVec 32 :=
  View.readAt (Elt F) (tb0).view (Rect.unit (s := S72) (k0_off2 i) S1.size (k0_off2_inb i)).toLoadRect T0 (Shape.Idx.first (numel1_S1.symm ▸ Nat.one_pos))
abbrev wUsed (T1 : S1.Idx → Elt F .i32) : BitVec 32 :=
  View.readAt (Elt F) (tb1).view (Rect.unit (s := S1) ![0] S1.size inb_S1_S1_0).toLoadRect T1 (Shape.Idx.first (numel1_S1.symm ▸ Nat.one_pos))

/-- The body fills the scratches again. -/
abbrev fills (T0 : S72.Idx → Elt F .i32) (i : grid0.Coords) : Prop :=
  (Scalar.cmpi .ne (Scalar.extui (Scalar.ori (Scalar.cmpi .eq (BitVec.ofNat 32 (i 1).val) 0#32) (Scalar.cmpi .ne (wCur T0 i) (wPrev T0 i)))) 0#32) = 1#1
/-- The body finds its tile in use, -/
abbrev used (T1 : S1.Idx → Elt F .i32) (i : grid0.Coords) : Prop := k0_cond2 i (wUsed T1) = 1#1
/-- or not. -/
abbrev spare (T1 : S1.Idx → Elt F .i32) (i : grid0.Coords) : Prop := k0_cond3 i (wUsed T1) = 1#1

/-- A whole buffer written once at its literal rectangle reads back what was written. -/
theorem read_one {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon v f _ (fun y => ⟨_, List.mem_singleton.mpr rfl, by
    rw [Rect.mem_set_unit]; intro a; exact ⟨Nat.zero_le _, by have := (y a).isLt; simpa using this⟩⟩)]
  exact View.canon_unit_zero rfl inb w

set_option backward.proofsInPublic true in
set_option maxHeartbeats 8000000 in
/-- A: scratches filled, tile in use. -/
theorem run_A (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S72.Idx → Elt F .i32) (T1 : S1.Idx → Elt F .i32) (x0 : Vec F S512x4096 .bf16) (x1 x2 : Vec F S1x1x4096x512 .f32)
    (hc0 : fills T0 i) (hc2 : used T1 i) (hc3 : ¬spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (k0_pay1 x1) (k0_pay2 x2)⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

set_option backward.proofsInPublic true in
set_option maxHeartbeats 8000000 in
/-- B: scratches kept, tile in use. -/
theorem run_B (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S72.Idx → Elt F .i32) (T1 : S1.Idx → Elt F .i32) (x0 : Vec F S512x4096 .bf16) (x1 x2 : Vec F S1x1x4096x512 .f32) (s0 s1 : Vec F S4096x512 .bf16)
    (hc0 : ¬fills T0 i) (hc2 : used T1 i) (hc3 : ¬spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay3 x0 (s0) (s1)⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

set_option backward.proofsInPublic true in
set_option maxHeartbeats 8000000 in
/-- C: scratches filled, tile not in use. -/
theorem run_C (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S72.Idx → Elt F .i32) (T1 : S1.Idx → Elt F .i32) (x0 : Vec F S512x4096 .bf16) (x1 x2 : Vec F S1x1x4096x512 .f32)
    (hc0 : fills T0 i) (hc2 : ¬used T1 i) (hc3 : spare T1 i) (b0 : Buf (Elt F) ((c : Thread nD τ).loc cc0_scratch0)) (b1 : Buf (Elt F) ((c : Thread nD τ).loc cc0_scratch1))
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = k0_pay1 x1⌝ ∗ (sc0.view.loc (c : Thread nD τ) ↦{fullShare} b))
          ∗ (∃ b, ⌜sc1.view.read (Elt F) b = k0_pay2 x2⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = Scalar.cmpi = _; exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

set_option backward.proofsInPublic true in
set_option maxHeartbeats 8000000 in
/-- D: scratches kept, tile not in use. -/
theorem run_D (c : Dev nD) (i : grid0.Coords) (a4 : Memref sig .tc .vmem S512x4096 .bf16) (h4 : a4.IsWhole) (a5 : Memref sig .tc .vmem S1x1x4096x512 .f32) (h5 : a5.IsWhole)
    (a6 : Memref sig .tc .vmem S1x1x4096x512 .f32) (h6 : a6.IsWhole) (a7 : Memref sig .tc .vmem S2x512x512 .bf16) (h7 : a7.IsWhole)
    (T0 : S72.Idx → Elt F .i32) (T1 : S1.Idx → Elt F .i32) (x0 : Vec F S512x4096 .bf16) (x1 x2 : Vec F S1x1x4096x512 .f32) (s0 s1 : Vec F S4096x512 .bf16)
    (hc0 : ¬fills T0 i) (hc2 : ¬used T1 i) (hc3 : spare T1 i) (b0 : Buf (Elt F) ((c : Thread nD τ).loc cc0_scratch0)) (b1 : Buf (Elt F) ((c : Thread nD τ).loc cc0_scratch1)) (e0 : sc0.view.read (Elt F) b0 = s0) (e1 : sc1.view.read (Elt F) b1 = s1)
    (K : PUnit → sProp (MM F)) :
    iprop((a4.view.loc (c : Thread nD τ) ↦[a4.view.set]{fullShare} a4.view.rep x0)
      ∗ (a5.view.loc (c : Thread nD τ) ↦[a5.view.set]{fullShare} a5.view.rep x1)
      ∗ (a6.view.loc (c : Thread nD τ) ↦[a6.view.set]{fullShare} a6.view.rep x2)
      ∗ (tb0.view.loc (c : Thread nD τ) ↦{fullShare.right} T0)
      ∗ (tb1.view.loc (c : Thread nD τ) ↦{fullShare.right} T1)
      ∗ (∃ d, owns (c : Thread nD τ) a7 fullShare d)
      ∗ (sc0.view.loc (c : Thread nD τ) ↦{fullShare} b0)
      ∗ (sc1.view.loc (c : Thread nD τ) ↦{fullShare} b1)
      ∗ (iprop((a4.view.loc (c : Thread nD τ) ↦[a4.view.set]{fullShare} a4.view.rep x0)
          ∗ (a5.view.loc (c : Thread nD τ) ↦[a5.view.set]{fullShare} a5.view.rep x1)
          ∗ (a6.view.loc (c : Thread nD τ) ↦[a6.view.set]{fullShare} a6.view.rep x2)
          ∗ (tb0.view.loc (c : Thread nD τ) ↦{fullShare.right} T0)
          ∗ (tb1.view.loc (c : Thread nD τ) ↦{fullShare.right} T1)
          ∗ (∃ f, ⌜a7.view.read (Elt F) f = k0_pay4⌝ ∗ (a7.view.loc (c : Thread nD τ) ↦[a7.view.set]{fullShare} f))
          ∗ (∃ b, ⌜sc0.view.read (Elt F) b = s0⌝ ∗ (sc0.view.loc (c : Thread nD τ) ↦{fullShare} b))
          ∗ (∃ b, ⌜sc1.view.read (Elt F) b = s1⌝ ∗ (sc1.view.loc (c : Thread nD τ) ↦{fullShare} b))) -∗ K ⟨⟩))
      ⊢ wp frame (wpE (defs₀ (F := F)) Variants.none c none) Set.univ (cc0_moe_down i tb0 (Memref.isWhole_whole _) tb1 (Memref.isWhole_whole _) a4 h4 a5 h5 a6 h6 a7 h7 sc0 (Memref.isWhole_whole _) sc1 (Memref.isWhole_whole _)) K := by
  unfold owns
  rw [cc0_moe_down_eq_skeleton]; unfold cc0_moe_down_skel
  iintro ⟨H0, H1, H2, HT0, HT1, ⟨%d3, %f3, -, HO3⟩, HS0, HS1, Hk⟩
  have hS0 : sc0.IsWhole := Memref.isWhole_whole _
  have hS1 : sc1.IsWhole := Memref.isWhole_whole _
  have hT0 : tb0.IsWhole := Memref.isWhole_whole _
  have hT1 : tb1.IsWhole := Memref.isWhole_whole _
  sl_exec! (disch := first | (guard_target = ¬(Scalar.cmpi = _); exact hc0) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      try sl_unfold_words
      rw [read_one _ _ off3]
      try rw [View.readCov_unit_zero (S := S4096x512) _ off2, View.readCov_unit_zero (S := S4096x512) _ off2]
      try simp only [View.readAt_eq_ld, View.read_rep, View.ld_unit_zero (S := S512x4096) off2, View.ld_unit_zero (S := S4096x512) off2, View.ld_unit_zero (S := S1x1x4096x512) off4]
      try rw [e0, e1]
  isplitl [HS0]
  · iexists _; isplitr; swap
    · iexact HS0
    · ipureintro
      first | exact e0 | (sl_unfold_words; rw [read_one _ _ off2]; simp only [View.readAt_eq_ld, View.read_rep, View.ld_unit_zero (S := S512x4096) off2, View.ld_unit_zero (S := S4096x512) off2, View.ld_unit_zero (S := S1x1x4096x512) off4])
  iexists _; isplitr; swap
  · iexact HS1
  · ipureintro
    first | exact e1 | (sl_unfold_words; rw [read_one _ _ off2]; simp only [View.readAt_eq_ld, View.read_rep, View.ld_unit_zero (S := S512x4096) off2, View.ld_unit_zero (S := S4096x512) off2, View.ld_unit_zero (S := S1x1x4096x512) off4])

end Cert.MoeDownLastIdeal.Hand

end
-- ==== Proof.MoeDownLastIdealFacts.lean ====
/-
  The experts' products back to the model's width: the frame. Before a point that is no first of a run the scratches hold the
  cast blocks of the point before; where the body does not fill them again, its tile's expert is the tile before's, so
  these are the point's own blocks. From this every point's output block is known, and the run ends with the arguments as
  they were.
-/
module

public import proofs.«01_k».proof.Proof.MoeDownLastIdealRuns
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeDownLastIdeal.Hand

open Cert.MoeDownLastIdeal Cert.MoeDownLastIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]

/-! ## The tables' words -/

theorem off1_eq : ∀ i : grid0.Coords, k0_off1 i 0 = (i 1).val := by decide +kernel
theorem off2_eq : ∀ i : grid0.Coords, k0_off2 i 0 = (i 1).val - 1 := by decide +kernel
/-- The row tile and the column block of a point. -/
theorem crd_eq : ∀ t : Fin grid0.N, (grid0.coords t 0).val = t.val / 72 ∧ (grid0.coords t 1).val = t.val % 72 := by decide +kernel
theorem eq_zero : ∀ i : Fin 72, (Scalar.cmpi .eq (BitVec.ofNat 32 i.val) 0#32 = 1#1) ↔ i.val = 0 := by decide +kernel

theorem tile_lt (i : grid0.Coords) : (i 1).val < 72 := (i 1).isLt

theorem wCur_eq (T0 : S72.Idx → Elt F .i32) (i : grid0.Coords) : wCur T0 i = T0 (ix1 ⟨(i 1).val, tile_lt i⟩) :=
  congrArg T0 (funext fun a => Fin.ext (by
    match a with
    | ⟨0, _⟩ => show k0_off1 i 0 + 1 * 0 = (i 1).val; rw [off1_eq]; rfl))
theorem wPrev_eq (T0 : S72.Idx → Elt F .i32) (i : grid0.Coords) :
    wPrev T0 i = T0 (ix1 ⟨(i 1).val - 1, Nat.lt_of_le_of_lt (Nat.sub_le _ _) (tile_lt i)⟩) :=
  congrArg T0 (funext fun a => Fin.ext (by
    match a with
    | ⟨0, _⟩ => show k0_off2 i 0 + 1 * 0 = (i 1).val - 1; rw [off2_eq]; rfl))
theorem wUsed_eq (T1 : S1.Idx → Elt F .i32) : wUsed T1 = T1 (ix1 0) :=
  congrArg T1 (funext fun a => Fin.ext (by match a with | ⟨0, _⟩ => rfl))

theorem bit_ne (b : BitVec 1) : (Scalar.cmpi .ne (Scalar.extui b) 0#32 = 1#1) ↔ b = 1#1 := by
  revert b; decide

theorem used_iff (T1 : S1.Idx → Elt F .i32) (i : grid0.Coords) :
    used T1 i ↔ (BitVec.ofNat 32 (i 1).val).slt (wUsed T1) = true := by
  unfold used k0_cond2; dsimp only
  rw [bit_ne]
  unfold Scalar.cmpi IntOp.cmpi
  dsimp only
  cases (BitVec.ofNat 32 (i 1).val).slt (wUsed T1) <;> decide
theorem spare_iff (T1 : S1.Idx → Elt F .i32) (i : grid0.Coords) : spare T1 i ↔ ¬used T1 i := by
  rw [used_iff]
  unfold spare k0_cond3; dsimp only
  rw [bit_ne]
  unfold Scalar.cmpi IntOp.cmpi
  dsimp only
  rw [show (wUsed T1).sle (BitVec.ofNat 32 (i 1).val) = !(BitVec.ofNat 32 (i 1).val).slt (wUsed T1) from BitVec.sle_eq_not_slt]
  cases (BitVec.ofNat 32 (i 1).val).slt (wUsed T1) <;> decide

/-- Where the scratches are kept the tile is not the first, and its expert is the tile before's. -/
theorem kept (T0 : S72.Idx → Elt F .i32) (i : grid0.Coords) (h : ¬fills T0 i) : (i 1).val ≠ 0 ∧ wCur T0 i = wPrev T0 i := by
  rw [fills, bit_ne] at h
  have hor : ∀ x y : BitVec 1, ¬Scalar.ori x y = 1#1 → ¬x = 1#1 ∧ ¬y = 1#1 := by decide
  obtain ⟨h1, h2⟩ := hor _ _ h
  refine ⟨fun e => h1 ((eq_zero ⟨(i 1).val, tile_lt i⟩).mpr e), ?_⟩
  by_contra hne
  refine h2 ?_
  unfold Scalar.cmpi IntOp.cmpi
  dsimp only
  rw [show (wCur T0 i != wPrev T0 i) = true from by simpa using hne]
  rfl

/-! ## The tables at launch and the pipeline at them -/

variable (m : (ℓ : Loc nD τ sig) → Buf (Elt F) ℓ) (ρ : Dev nD → PrngReg)

/-- The tables at launch. -/
def tbl : pre0.Contents (Elt F) := fun j => m (((0 : Dev nD) : Thread nD τ).loc (pre0.ref j))
abbrev T0 : S72.Idx → Elt F .i32 := tbl m 0
abbrev T1 : S1.Idx → Elt F .i32 := tbl m 1

variable (ok : ok0 (tbl m))

def adm : (pcfg0 (F := F)).Adm := ⟨tbl m, ok⟩
abbrev cfgA : Cfg sig Λ₀ := cfg0 (F := F) (adm m ok)
abbrev pcs : Fin 1 → Cfg sig Λ₀ := Pipeline.pin (pcfgs (F := F)) fun _ => adm m ok

/-- Point `t`'s coordinates. -/
abbrev crd (t : Fin (cfgA m ok).N) : grid0.Coords := (cfgA m ok).grid.coords t

abbrev ms0_0 (t : Fin (cfgA m ok).N) : Memref sig .tc .vmem S512x4096 .bf16 := spec0_0.stage ((cfgA m ok).slots t (0 : Fin 4))
abbrev hs0_0 (t : Fin (cfgA m ok).N) : (ms0_0 m ok t).IsWhole := hstage0_0 (((cfgA m ok).slots t (0 : Fin 4)).cast nbuf0_0)
abbrev ms0_1 (t : Fin (cfgA m ok).N) : Memref sig .tc .vmem S1x1x4096x512 .f32 := spec0_1.stage ((cfgA m ok).slots t (1 : Fin 4))
abbrev hs0_1 (t : Fin (cfgA m ok).N) : (ms0_1 m ok t).IsWhole := hstage0_1 (((cfgA m ok).slots t (1 : Fin 4)).cast nbuf0_1)
abbrev ms0_2 (t : Fin (cfgA m ok).N) : Memref sig .tc .vmem S1x1x4096x512 .f32 := spec0_2.stage ((cfgA m ok).slots t (2 : Fin 4))
abbrev hs0_2 (t : Fin (cfgA m ok).N) : (ms0_2 m ok t).IsWhole := hstage0_2 (((cfgA m ok).slots t (2 : Fin 4)).cast nbuf0_2)
abbrev ms0_3 (t : Fin (cfgA m ok).N) : Memref sig .tc .vmem S2x512x512 .bf16 := spec0_3.stage ((cfgA m ok).slots t (3 : Fin 4))
abbrev hs0_3 (t : Fin (cfgA m ok).N) : (ms0_3 m ok t).IsWhole := hstage0_3 (((cfgA m ok).slots t (3 : Fin 4)).cast nbuf0_3)

/-- Window `w`'s block at point `t`, read off its array at launch. -/
def iblk (c : Dev nD) (w : Fin (cfgA m ok).W) (t : Fin (cfgA m ok).N) : (((cfgA m ok).win w).xblock (crd m ok t)).Idx → Elt F ((cfgA m ok).win w).elt :=
  (((cfgA m ok).win w).blk t).view.read (Elt F) (m (((cfgA m ok).win w).arr.view.loc (c : Thread nD τ)))

/-- The expert of a tile. -/
def expert (n : Fin 72) : ℕ := BitVec.toNat (T0 m (ix1 n))

theorem index_w1 (i : grid0.Coords) :
    cc0_transform_1 k0_off1_inb numel1_S1 (tbl m) i = ![1, expert m ⟨(i 1).val, tile_lt i⟩, 0, (i 0).val] := by
  have h2 : (i 0).val < 2 := (i 0).isLt
  have e : cc0_transform_1 k0_off1_inb numel1_S1 (tbl m) i = ![1, BitVec.toNat (wCur (T0 m) i), 0, (BitVec.ofNat 32 (i 0).val).toNat] := rfl
  rw [e, wCur_eq, BitVec.toNat_ofNat, Nat.mod_eq_of_lt (by omega)]
  rfl
theorem index_w2 (i : grid0.Coords) :
    cc0_transform_2 k0_off1_inb numel1_S1 (tbl m) i = ![1, expert m ⟨(i 1).val, tile_lt i⟩, 0, 2 + (i 0).val] := by
  have h2 : (i 0).val < 2 := (i 0).isLt
  have e : cc0_transform_2 k0_off1_inb numel1_S1 (tbl m) i = ![1, BitVec.toNat (wCur (T0 m) i), 0, (2#32 + BitVec.ofNat 32 (i 0).val).toNat] := rfl
  rw [e, wCur_eq, BitVec.toNat_add, BitVec.toNat_ofNat, BitVec.toNat_ofNat, Nat.mod_eq_of_lt (a := (i 0).val) (by omega), Nat.mod_eq_of_lt (by omega)]
  rfl

include ok in
theorem expert_lt (n : Fin 72) : expert m n < 8 := by
  obtain ⟨h, -⟩ := ok.1 (fun a => match a with | ⟨0, _⟩ => (0 : Fin 2) | ⟨1, _⟩ => n)
  have h1 := h 1
  rw [index_w1] at h1
  have : (expert m n + 1) * 1 ≤ 8 := h1
  omega

/-- The tile and the first column of a point. -/
def tile (t : Fin (cfgA m ok).N) : Fin 72 := ⟨t.val % 72, Nat.mod_lt _ (by omega)⟩
def colW (t : Fin (cfgA m ok).N) (q : Fin 512) : Fin 2048 := ⟨t.val / 72 * 512 + q.val, by
  have hN : (cfgA m ok).N = 144 := N_0
  have := t.isLt; have := q.isLt; omega⟩

/-- … and its first column in the weights' second half. -/
def colV (t : Fin (cfgA m ok).N) (q : Fin 512) : Fin 2048 := ⟨1024 + t.val / 72 * 512 + q.val, by
  have hN : (cfgA m ok).N = 144 := N_0
  have := t.isLt; have := q.isLt; omega⟩

theorem crd_eq' (t : Fin (cfgA m ok).N) : (crd m ok t 0).val = t.val / 72 ∧ (crd m ok t 1).val = t.val % 72 := crd_eq t

theorem idx1 (t : Fin (cfgA m ok).N) : ((cfgA m ok).win (1 : Fin 4)).index t = ![1, expert m (tile m ok t), 0, t.val / 72] := by
  have e : ((cfgA m ok).win (1 : Fin 4)).index t = cc0_transform_1 k0_off1_inb numel1_S1 (tbl m) (crd m ok t) := rfl
  rw [e, index_w1]
  obtain ⟨a, b⟩ := crd_eq' m ok t
  have h : (⟨(crd m ok t 1).val, tile_lt _⟩ : Fin 72) = tile m ok t := Fin.ext b
  rw [h, a]
theorem idx2 (t : Fin (cfgA m ok).N) : ((cfgA m ok).win (2 : Fin 4)).index t = ![1, expert m (tile m ok t), 0, 2 + t.val / 72] := by
  have e : ((cfgA m ok).win (2 : Fin 4)).index t = cc0_transform_2 k0_off1_inb numel1_S1 (tbl m) (crd m ok t) := rfl
  rw [e, index_w2]
  obtain ⟨a, b⟩ := crd_eq' m ok t
  have h : (⟨(crd m ok t 1).val, tile_lt _⟩ : Fin 72) = tile m ok t := Fin.ext b
  rw [h, a]

/-- The block of `w2`'s first half a point stages, by coordinates: its tile's expert's. -/
theorem ublk_apply (c : Dev nD) (t : Fin (cfgA m ok).N) (k : Fin 4096) (q : Fin 512) :
    iblk m ok c (1 : Fin 4) t (ix4 0 0 k q : S1x1x4096x512.Idx)
      = m ((c : Thread nD τ).loc main_arg3) (ix4 1 ⟨expert m (tile m ok t), expert_lt m ok _⟩ k (colW m ok t q)) := by
  have b := idx1 m ok t
  refine congrArg (m ((c : Thread nD τ).loc main_arg3)) (funext fun a => Fin.ext ?_)
  match a with
  | ⟨0, _⟩ => show ((cfgA m ok).win (1 : Fin 4)).index t (0 : Fin 4) * 1 + 1 * 0 = 1; rw [b]; rfl
  | ⟨1, _⟩ => show ((cfgA m ok).win (1 : Fin 4)).index t (1 : Fin 4) * 1 + 1 * 0 = expert m (tile m ok t); rw [b]; show expert m (tile m ok t) * 1 + 1 * 0 = _; omega
  | ⟨2, _⟩ => show ((cfgA m ok).win (1 : Fin 4)).index t (2 : Fin 4) * 4096 + 1 * k.val = k.val; rw [b]; show 0 * 4096 + 1 * k.val = _; omega
  | ⟨3, _⟩ => show ((cfgA m ok).win (1 : Fin 4)).index t (3 : Fin 4) * 512 + 1 * q.val = t.val / 72 * 512 + q.val; rw [b]; show t.val / 72 * 512 + 1 * q.val = _; omega
/-- … and of its second half. -/
theorem vblk_apply (c : Dev nD) (t : Fin (cfgA m ok).N) (k : Fin 4096) (q : Fin 512) :
    iblk m ok c (2 : Fin 4) t (ix4 0 0 k q : S1x1x4096x512.Idx)
      = m ((c : Thread nD τ).loc main_arg3) (ix4 1 ⟨expert m (tile m ok t), expert_lt m ok _⟩ k (colV m ok t q)) := by
  have b := idx2 m ok t
  refine congrArg (m ((c : Thread nD τ).loc main_arg3)) (funext fun a => Fin.ext ?_)
  match a with
  | ⟨0, _⟩ => show ((cfgA m ok).win (2 : Fin 4)).index t (0 : Fin 4) * 1 + 1 * 0 = 1; rw [b]; rfl
  | ⟨1, _⟩ => show ((cfgA m ok).win (2 : Fin 4)).index t (1 : Fin 4) * 1 + 1 * 0 = expert m (tile m ok t); rw [b]; show expert m (tile m ok t) * 1 + 1 * 0 = _; omega
  | ⟨2, _⟩ => show ((cfgA m ok).win (2 : Fin 4)).index t (2 : Fin 4) * 4096 + 1 * k.val = k.val; rw [b]; show 0 * 4096 + 1 * k.val = _; omega
  | ⟨3, _⟩ => show ((cfgA m ok).win (2 : Fin 4)).index t (3 : Fin 4) * 512 + 1 * q.val = 1024 + t.val / 72 * 512 + q.val; rw [b]; show (2 + t.val / 72) * 512 + 1 * q.val = _; omega

/-- The point before. -/
abbrev pr (t : Fin (cfgA m ok).N) : Fin (cfgA m ok).N := ⟨t.val - 1, Nat.lt_of_le_of_lt (Nat.sub_le _ _) t.isLt⟩

/-- Where the scratches are kept, the blocks are the point before's. -/
theorem blk_kept (c : Dev nD) (t : Fin (cfgA m ok).N) (h : ¬fills (T0 m) (crd m ok t)) :
    t.val ≠ 0 ∧ iblk m ok c (1 : Fin 4) (pr m ok t) = iblk m ok c (1 : Fin 4) t ∧ iblk m ok c (2 : Fin 4) (pr m ok t) = iblk m ok c (2 : Fin 4) t := by
  obtain ⟨h0, hw⟩ := kept _ _ h
  rw [wCur_eq, wPrev_eq] at hw
  obtain ⟨-, b⟩ := crd_eq' m ok t
  rw [b] at h0
  have hx : expert m (tile m ok (pr m ok t)) = expert m (tile m ok t) := by
    unfold expert
    have e1 : (⟨(crd m ok t 1).val, tile_lt _⟩ : Fin 72) = tile m ok t := Fin.ext b
    have e2 : (⟨(crd m ok t 1).val - 1, Nat.lt_of_le_of_lt (Nat.sub_le _ _) (tile_lt _)⟩ : Fin 72) = tile m ok (pr m ok t) := Fin.ext (by
      show (crd m ok t 1).val - 1 = (t.val - 1) % 72
      rw [b]; omega)
    rw [e1, e2] at hw
    exact congrArg BitVec.toNat hw.symm
  have hc : ∀ q, colW m ok (pr m ok t) q = colW m ok t q := fun q => Fin.ext (by
    show (t.val - 1) / 72 * 512 + q.val = t.val / 72 * 512 + q.val
    omega)
  have hd : ∀ q, colV m ok (pr m ok t) q = colV m ok t q := fun q => Fin.ext (by
    show 1024 + (t.val - 1) / 72 * 512 + q.val = 1024 + t.val / 72 * 512 + q.val
    omega)
  have hf : (⟨expert m (tile m ok (pr m ok t)), expert_lt m ok _⟩ : Fin 8) = ⟨expert m (tile m ok t), expert_lt m ok _⟩ := Fin.ext hx
  refine ⟨by omega, ?_, ?_⟩
  all_goals
    funext y
    obtain ⟨z, z', k, q, rfl⟩ : ∃ (z z' : Fin 1) (k : Fin 4096) (q : Fin 512), y = (ix4 z z' k q : S1x1x4096x512.Idx) :=
      ⟨y 0, y 1, y 2, y 3, by funext a; fin_cases a <;> rfl⟩
    obtain rfl : z = 0 := Subsingleton.elim _ _
    obtain rfl : z' = 0 := Subsingleton.elim _ _
    first
      | exact (ublk_apply m ok c (pr m ok t) k q).trans (by rw [hf, hc]; exact (ublk_apply m ok c t k q).symm)
      | exact (vblk_apply m ok c (pr m ok t) k q).trans (by rw [hf, hd]; exact (vblk_apply m ok c t k q).symm)

/-! ## The pipeline's proof data -/

/-- What a point leaves in the output's staging buffer: the products where the tile is in use, else zeros. -/
def outv (c : Dev nD) (t : Fin (cfgA m ok).N) : Vec F S2x512x512 .bf16 :=
  if used (T1 m) (crd m ok t) then
    k0_pay3 (iblk m ok c (0 : Fin 4) t) (k0_pay1 (iblk m ok c (1 : Fin 4) t)) (k0_pay2 (iblk m ok c (2 : Fin 4) t))
  else k0_pay4

/-- What the scratches hold before position `n`, past the first point. -/
def held0 (c : Dev nD) (n : ℕ) (b : Buf (Elt F) ((c : Thread nD τ).loc cc0_scratch0)) : Prop :=
  ∀ (k : ℕ) (h : k < (cfgA m ok).N), n = k + 1 → sc0.view.read (Elt F) b = k0_pay1 (iblk m ok c (1 : Fin 4) ⟨k, h⟩)
def held1 (c : Dev nD) (n : ℕ) (b : Buf (Elt F) ((c : Thread nD τ).loc cc0_scratch1)) : Prop :=
  ∀ (k : ℕ) (h : k < (cfgA m ok).N), n = k + 1 → sc1.view.read (Elt F) b = k0_pay2 (iblk m ok c (2 : Fin 4) ⟨k, h⟩)

/-- The invariant before position `n`. -/
def Phi (c : Dev nD) (n : ℕ) : sProp (MM F) :=
  iprop((∃ a, ⌜held0 m ok c n a⌝ ∗ (sc0.view.loc (c : Thread nD τ) ↦{fullShare} a)) ∗ (∃ a, ⌜held1 m ok c n a⌝ ∗ (sc1.view.loc (c : Thread nD τ) ↦{fullShare} a))
    ∗ (tb0.view.loc (c : Thread nD τ) ↦{fullShare.right} T0 m) ∗ (tb1.view.loc (c : Thread nD τ) ↦{fullShare.right} T1 m))

def dats (_ : Fin 1) (c : Dev nD) : Dat τ (Elt F) Unit ℕ (UR sig nD τ) ℕ (cfgA m ok) c where
  A w := m (((cfgA m ok).win w).arr.view.loc (c : Thread nD τ))
  after w t := match w with
    | ⟨0, _⟩ => iblk m ok c (0 : Fin 4) t
    | ⟨1, _⟩ => iblk m ok c (1 : Fin 4) t
    | ⟨2, _⟩ => iblk m ok c (2 : Fin 4) t
    | ⟨3, _⟩ => outv m ok c t
  Φ t := Phi m ok c t.val
  q w := Pipeline.shareOf spec0 w
  owed _ := 0

theorem phi_eq (c : Dev nD) (t : Fin ((cfgA m ok).N + 1)) : (dats m ok 0 c).Φ t = Phi m ok c t.val := rfl

theorem after0_0 (c : Dev nD) (t : Fin (cfgA m ok).N) : (dats m ok 0 c).after (0 : Fin 4) t = iblk m ok c (0 : Fin 4) t := rfl
theorem after0_1 (c : Dev nD) (t : Fin (cfgA m ok).N) : (dats m ok 0 c).after (1 : Fin 4) t = iblk m ok c (1 : Fin 4) t := rfl
theorem after0_2 (c : Dev nD) (t : Fin (cfgA m ok).N) : (dats m ok 0 c).after (2 : Fin 4) t = iblk m ok c (2 : Fin 4) t := rfl
theorem after0_3 (c : Dev nD) (t : Fin (cfgA m ok).N) : (dats m ok 0 c).after (3 : Fin 4) t = outv m ok c t := rfl

theorem before0_0 (c : Dev nD) (t : Fin (cfgA m ok).N) (d) : (dats m ok 0 c).before (0 : Fin 4) t d = iblk m ok c (0 : Fin 4) t :=
  ((dats m ok 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m ok).N) (d) : (dats m ok 0 c).before (1 : Fin 4) t d = iblk m ok c (1 : Fin 4) t :=
  ((dats m ok 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m ok).N) (d) : (dats m ok 0 c).before (2 : Fin 4) t d = iblk m ok c (2 : Fin 4) t :=
  ((dats m ok 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Every point stores the output: a tile is in use or not. -/
theorem idle3 (t : Fin (cfgA m ok).N) : (cfgA m ok).idle (3 : Fin 4) ((cfgA m ok).grid.coords t) = false := by
  have e : (cfgA m ok).idle (3 : Fin 4) ((cfgA m ok).grid.coords t)
      = (!(k0_cond2 (crd m ok t) (wUsed (T1 m)) == 1#1) && !(k0_cond3 (crd m ok t) (wUsed (T1 m)) == 1#1)) := by
    rw [wUsed_eq]
    show (!(k0_cond2 (crd m ok t) ((tbl m).atD 1 ![0]) == 1#1) && !(k0_cond3 (crd m ok t) ((tbl m).atD 1 ![0]) == 1#1)) = _
    have h : (tbl m).atD 1 ![0] = T1 m (ix1 0) := by
      have hb : ∀ a : Fin 1, (![0] : Fin 1 → ℕ) a + 1 ≤ S1.size a := by decide
      refine (dif_pos hb).trans ?_
      exact congrArg (T1 m) (funext fun a => Fin.ext (by match a with | ⟨0, _⟩ => rfl))
    rw [h]
  rw [e]
  by_cases hu : used (T1 m) (crd m ok t)
  · rw [show k0_cond2 (crd m ok t) (wUsed (T1 m)) = 1#1 from hu]; rfl
  · rw [show k0_cond3 (crd m ok t) (wUsed (T1 m)) = 1#1 from (spare_iff _ _).mpr hu]; exact Bool.and_false _

end Cert.MoeDownLastIdeal.Hand

end
-- ==== Proof.MoeDownLastIdealFrame.lean ====
/-
  The experts' products back to the model's width: the body at a point from its four runs, and the launch.
-/
module

public import proofs.«01_k».proof.Proof.MoeDownLastIdealFacts
public import Idealize.ShloMosaic.Lib.Pipeline.Quiescent
public import Idealize.ShloMosaic.Lib.Claim
public import Idealize.ShloMosaic.Lib.ValueIdxCore
public import Idealize.ShloMosaic.Adequacy
public import Idealize.ShloMosaic.Init

@[expose] public section

set_option maxRecDepth 16384
set_option Elab.async false

noncomputable section

namespace Cert.MoeDownLastIdeal.Hand

open Cert.MoeDownLastIdeal Cert.MoeDownLastIdeal.Gen Cert.Common
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix4)

variable {F : FTy → Type} [FloatOps F]
variable (m : (ℓ : Loc nD τ sig) → Buf (Elt F) ℓ) (ρ : Dev nD → PrngReg) (ok : ok0 (tbl m))

/-! ## The body at a point -/

abbrev bodyAt0 (t : Fin (cfgA m ok).N) : Prog (TpuEff nD τ sig (Elt F) Λ₀ .tc) PUnit :=
  cc0_moe_down (crd m ok t) (Memref.whole main_arg0) (Memref.isWhole_whole _) (Memref.whole main_arg1) (Memref.isWhole_whole _) (ms0_0 m ok t) (hs0_0 m ok t) (ms0_1 m ok t) (hs0_1 m ok t) (ms0_2 m ok t) (hs0_2 m ok t) (ms0_3 m ok t) (hs0_3 m ok t) (Memref.whole cc0_scratch0) (Memref.isWhole_whole _) (Memref.whole cc0_scratch1) (Memref.isWhole_whole _)

set_option maxHeartbeats 4000000 in
theorem sound_body (c : Dev nD) (t : Fin (cfgA m ok).N) :
    iprop((dats m ok 0 c).Φ t.castSucc ∗ (dats m ok 0 c).owesAt () t.castSucc
        ∗ (∃ d, owns (c : Thread nD τ) (ms0_0 m ok t) fullShare ((dats m ok 0 c).before (0 : Fin 4) t d))
        ∗ (∃ d, owns (c : Thread nD τ) (ms0_1 m ok t) fullShare ((dats m ok 0 c).before (1 : Fin 4) t d))
        ∗ (∃ d, owns (c : Thread nD τ) (ms0_2 m ok t) fullShare ((dats m ok 0 c).before (2 : Fin 4) t d))
        ∗ (∃ d, owns (c : Thread nD τ) (ms0_3 m ok t) fullShare ((dats m ok 0 c).before (3 : Fin 4) t d)))
      ⊢ wp frame (wpE (defs₀ (F := F)) Variants.none c none) Set.univ (bodyAt0 m ok t) fun _ =>
          iprop((dats m ok 0 c).Φ t.succ ∗ (dats m ok 0 c).owesAt () t.succ
            ∗ bigSep Finset.univ fun w : Fin (cfgA m ok).W =>
                match (cfgA m ok).idle w ((cfgA m ok).grid.coords t) with
                | true =>
                  match ((cfgA m ok).win w).flush t with
                  | false => iprop(∃ d, owns (c : Thread nD τ) (((cfgA m ok).win w).stage ((cfgA m ok).slots t w)) fullShare ((dats m ok 0 c).before w t d))
                  | true => owns (c : Thread nD τ) (((cfgA m ok).win w).stage ((cfgA m ok).slots t w)) fullShare ((dats m ok 0 c).after w t)
                | false => owns (c : Thread nD τ) (((cfgA m ok).win w).stage ((cfgA m ok).slots t w)) fullShare ((dats m ok 0 c).after w t)) := by
  rw [bigSep_W0]
  have i3 := idle3 m ok t
  rewrite [i3]
  simp only [before0_0, before0_1, before0_2, after0_0, after0_1, after0_2, after0_3]
  rewrite [phi_eq, phi_eq, Fin.val_succ, Fin.val_castSucc, show (dats m ok 0 c).owesAt () t.succ = (dats m ok 0 c).owesAt () t.castSucc from rfl]
  unfold Phi
  by_cases hu : used (T1 m) (crd m ok t)
  · have hs : ¬spare (T1 m) (crd m ok t) := fun h => (spare_iff _ _).mp h hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_A c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_B c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_pos hu]; exact e3
  · have hs : spare (T1 m) (crd m ok t) := (spare_iff _ _).mpr hu
    by_cases q0 : fills (T0 m) (crd m ok t)
    · iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply (run_C c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) q0 hu hs a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
    · obtain ⟨hz, hb1, hb2⟩ := blk_kept m ok c t q0
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      have e0 := (ha0 (t.val - 1) (pr m ok t).isLt (by omega)).trans (congrArg k0_pay1 hb1)
      have e1 := (ha1 (t.val - 1) (pr m ok t).isLt (by omega)).trans (congrArg k0_pay2 hb2)
      iapply (run_D c (crd m ok t) (ms0_0 m ok t) (hs0_0 m ok t) (ms0_1 m ok t) (hs0_1 m ok t) (ms0_2 m ok t) (hs0_2 m ok t) (ms0_3 m ok t) (hs0_3 m ok t) (T0 m) (T1 m) (iblk m ok c (0 : Fin 4) t) (iblk m ok c (1 : Fin 4) t) (iblk m ok c (2 : Fin 4) t) (k0_pay1 (iblk m ok c (1 : Fin 4) t)) (k0_pay2 (iblk m ok c (2 : Fin 4) t)) q0 hu hs a0 a1 e0 e1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%f3, %e3, H3⟩, ⟨%b0, %g0, HS0⟩, ⟨%b1, %g1, HS1⟩⟩
      isplitl [HS0 HS1 HT0 HT1]
      · isplitl [HS0]
        · iexists b0; isplitr; swap
          · iexact HS0
          · ipureintro; intro k h e; obtain rfl : t.val = k := Nat.succ.inj e; exact g0
        isplitl [HS1]
        · iexists b1; isplitr; swap
          · iexact HS1
          · ipureintro; intro k h e; obtain rfl : t.val = k := Nat.succ.inj e; exact g1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists f3; isplitr; swap
      · iexact H3
      · ipureintro; unfold outv; rw [if_neg hu]; exact e3
theorem body_obligation (c : Dev nD) : BodyObligation (dats m ok 0 c) (defs₀ (F := F)) Variants.none () Set.univ := fun t => by
  rw [bigSep_W0]
  exact sound_body m ok c t

/-! ## The launch -/

def u₀ : UR sig nD τ :=
  initOf (Pipeline.cells (pcs m ok) ((launch₀0 (F := F)).cellOf_inj fun _ => adm m ok))
    (Pipeline.launchToks (pcs m ok) ((launch₀0 (F := F)).cellOf_inj fun _ => adm m ok))

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m ok).1 ∗ Pipeline.scopedRest spec0 c) ⊢ (dats m ok 0 c).Φ 0 := by
  rw [prefHeld_eq, scopedRest0_eq, show (dats m ok 0 c).Φ 0 = Phi m ok c 0 from rfl]
  unfold Phi
  iintro ⟨-, ⟨HT0, HT1⟩, ⟨%a0, HS0⟩, ⟨%a1, HS1⟩⟩
  isplitl [HS0]
  · iexists a0; isplitr; swap
    · iexact HS0
    · ipureintro; intro k h e; exact absurd e (by omega)
  isplitl [HS1]
  · iexists a1; isplitr; swap
    · iexact HS1
    · ipureintro; intro k h e; exact absurd e (by omega)
  isplitl [HT0]
  · iexact HT0
  iexact HT1

theorem phiN_exit (c : Dev nD) : (dats m ok 0 c).Φ (Fin.last (cfgA m ok).N) ⊢ iprop(BI.emp ∗ Pipeline.scopedRest spec0 c) := by
  rw [scopedRest0_eq, show (dats m ok 0 c).Φ (Fin.last (cfgA m ok).N) = Phi m ok c (cfgA m ok).N from rfl]
  unfold Phi
  iintro ⟨⟨%a0, -, HS0⟩, ⟨%a1, -, HS1⟩, -, -⟩
  isplitr; · iempintro
  isplitl [HS0]
  · iexists a0; iexact HS0
  iexists a1; iexact HS1

/-- Every array at what its blocks make it, every table as it was. -/
def QC : PUnit × MemSt nD τ sig (Elt F) → Prop := fun r =>
  ∀ c : Dev nD, (∀ w : Fin (cfgA m ok).W, r.2.mem (((cfgA m ok).win w).arr.view.loc (c : Thread nD τ)) = (dats m ok 0 c).arrAt w (cfgA m ok).N)
    ∧ ∀ j, r.2.mem ((c : Thread nD τ).loc (pre0.ref j)) = (adm m ok).1 j

theorem V_pre (c : Dev nD) (j : Fin 2) : m ((c : Thread nD τ).loc (pre0.ref j)) = (adm m ok).1 j := by
  obtain rfl : c = 0 := Subsingleton.elim _ _
  rfl

set_option backward.isDefEq.respectTransparency.types false in
set_option maxHeartbeats 4000000 in
theorem run_main_quiescent : θ_run (defs (F := F)) (onTc (τ := τ) (main (F := F))) (s₀ m ρ) (fun r => QC m ok r ∧ r.2.sem = fun _ => 0) :=
  Pipeline.θ_run_region_noSem_pf_quiescent pcfgs (fun _ => adm m ok) (dats m ok) () ((launch₀0 (F := F)).cellOf_inj fun _ => adm m ok) (0 : Fin 1)
    (launch₀0 (F := F)).win (launch₀0 (F := F)).pre (emb₁ : Emb (UR sig nD τ) (MM F)) defs₀ Variants.none m ρ main
    (hbody := fun c => (body_obligation m ok c).loose) (hne := (launch₀0 (F := F)).block_pos)
    (harr := (launch₀0 (F := F)).arr_whole) (hstage := (launch₀0 (F := F)).stage_whole) (howed := fun _ _ => rfl)
    (u₀ := u₀ m ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats m ok 0 c).arrays_split_shared (launch₀0 (F := F)).sharedIn (launch₀0 (F := F)).arr_whole
      (fun _ _ => rfl) _ _ fun _ => rfl)
    (hpf := V_pre m ok)
    (X := fun _ => iprop(emp)) (Y := fun _ => iprop(emp)) (Z := fun _ => iprop(emp))
    (hX := fun c => by rw [unscopedRestP0_eq]; iintro -; isplitr <;> iempintro)
    (hin := phi0_intro m ok)
    (hout := phiN_exit m ok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run read: the result array at what the points' blocks make it, the arguments unchanged. -/
theorem run_blocks :
    θ_run (defs (F := F)) (onTc (τ := τ) (main (F := F))) ⟨m, fun _ => 0, ρ⟩ (fun r => (∀ c : Dev nD,
      r.2.mem ((c.tc : Thread nD τ).loc main_v0) = (dats m ok 0 c).arrAt (3 : Fin 4) (cfgA m ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 (3 : Fin 4), ((h.1 c).2 0).trans (V_pre m ok c 0).symm, ((h.1 c).2 1).trans (V_pre m ok c 1).symm,
    ((h.1 c).1 (0 : Fin 4)).trans ((dats m ok 0 c).arrAt_in (0 : Fin 4) rfl _), ((h.1 c).1 (1 : Fin 4)).trans ((dats m ok 0 c).arrAt_in (1 : Fin 4) rfl _)⟩, h.2⟩) (run_main_quiescent m ρ ok)

include ok in
/-- The frame. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_blocks m ρ ok)

end Cert.MoeDownLastIdeal.Hand

end
-- ==== Proof.MoeDownLastOk.lean ====
/-
  The experts' products back to the model's width: every row tile naming an expert, the weights' blocks the tiles' words
  place lie inside the weights; and the frame of the program over bits, whose text is the other's.
-/
module

public import proofs.«01_k».proof.Defs
public import proofs.«01_k».proof.Proof.MoeUpOk
public import proofs.«01_k».proof.Proof.MoeDownLastIdealFrame
public import proofs.«01_k».proof.Proof.Gen.MoeDownLast
public import proofs.«01_k».proof.Proof.Gen.Pre_tiles_named_down_last

@[expose] public section

set_option maxRecDepth 16384

noncomputable section

namespace Cert.MoeDownLastIdeal.Hand

open Cert.MoeDownLastIdeal Cert.MoeDownLastIdeal.Gen Idealize.ShloMosaic Idealize.ShloMosaic.TcCoe Idealize.SL.Sem
open Idealize.ShloMosaic.ValueIdx (ix1)

/-- The side condition, of a table whose words are below eight. -/
theorem ok_of_lt {F : FTy → Type} [FloatOps F] (m : (ℓ : Loc nD τ sig) → Buf (Elt F) ℓ) (h : ∀ n : Fin 72, expert m n < 8) : ok0 (tbl m) := by
  have b : ∀ (i : grid0.Coords) (j : ℕ) (hj : j < 4) (a : Fin 4),
      ((![1, expert m ⟨(i 1).val, tile_lt i⟩, 0, j] : Fin 4 → ℕ) a + 1) * S1x1x4096x512.size a ≤ S2x8x4096x2048.size a := fun i j hj a => by
    have h8 := h ⟨(i 1).val, tile_lt i⟩
    match a with
    | ⟨0, _⟩ => show (1 + 1) * 1 ≤ 2; omega
    | ⟨1, _⟩ => show (expert m ⟨(i 1).val, tile_lt i⟩ + 1) * 1 ≤ 8; omega
    | ⟨2, _⟩ => show (0 + 1) * 4096 ≤ 4096; omega
    | ⟨3, _⟩ => show (j + 1) * 512 ≤ 2048; omega
  have h2 : ∀ i : grid0.Coords, (i 0).val < 2 := fun i => (i 0).isLt
  exact ⟨fun i => ⟨by rw [index_w1]; exact b i _ (by have := h2 i; omega), .inl rfl⟩,
    fun i => ⟨by rw [index_w2]; exact b i _ (by have := h2 i; omega), .inl rfl⟩⟩

/-- The side condition, under the precondition. -/
theorem ok_of_pre (m : (ℓ : Loc nD τ sig) → Buf (Elt Ideal) ℓ) (h : Cert.Pre_MoeDownLastIdeal m) : ok0 (tbl m) :=
  ok_of_lt m fun n => Cert.MoeUpOk.word_lt _ (congrFun (h 0) (ix1 n))

/-- The frame. -/
theorem frame_ideal : Cert.quiescent_MoeDownLastIdeal := fun m ρ h => frame (F := Ideal) m ρ (ok_of_pre m h)

/-- The two programs' bodies are one. -/
theorem defs₀_same {F : FTy → Type} [FloatOps F] : Cert.MoeDownLastIdeal.defs₀ (F := F) = Cert.MoeDownLast.defs₀ (F := F) := by
  unfold Cert.MoeDownLastIdeal.defs₀ Cert.MoeDownLast.defs₀
  refine congrArg Defs.onTc (funext fun ℓ => funext fun a => ?_)
  match ℓ, a with
  | 0, (t, s) => rfl
  | ⟨_ + 1, h⟩, _ => exact absurd h (Nat.not_lt.2 (Nat.le_add_left _ _))

theorem defs_same {F : FTy → Type} [FloatOps F] : Cert.MoeDownLastIdeal.defs (F := F) = Cert.MoeDownLast.defs (F := F) :=
  congrArg (Pipeline.defs Cert.MoeDownLastIdeal.pcfgs) defs₀_same

set_option maxHeartbeats 4000000 in
/-- The frame of the program over bits. -/
theorem frame_kernel : Cert.quiescent_MoeDownLast := fun m ρ h => by
  have q := frame (F := Bits) m ρ (ok_of_lt (F := Bits) m fun n => Cert.MoeUpOk.word_lt _ (congrFun (h 0) (ix1 n)))
  rw [defs_same] at q
  exact q

end Cert.MoeDownLastIdeal.Hand

end
-- ==== Proof.MoeDownLastValue.lean ====
/-
  The experts' products back to the model's width: the result array. A row tile in use holds its rows' products with its own
  expert's `w2`, a spare tile zeros; the first axis tells the half of the columns.
-/
module

public import proofs.«01_k».proof.Proof.MoeDownLastIdealFrame
public import proofs.«01_k».proof.Proof.Stack
public import Idealize.ShloMosaic.Lib.IdealHost

@[expose] public section

set_option maxRecDepth 16384

noncomputable section

namespace Cert.MoeDownLastIdeal.RefValue

open Cert.MoeDownLastIdeal Cert.MoeDownLastIdeal.Gen Cert.MoeDownLastIdeal.Hand Cert.Common Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (ok : ok0 (tbl m))

/-- Row `r` of the rows times column `j` of expert `e`'s weight in the last layer. -/
def prod (h : FVec Ideal S36864x4096 .bf16) (w : FVec Ideal S2x8x4096x2048 .f32) (e : Fin 8) (r : Fin 36864) (j : Fin 2048) : EReal :=
  ∑ k : Fin 4096, h (ix2 r k) * w (ix4 1 e k j)

/-- The column a half and a place in it make. -/
def col (p : Fin 2) (q : Fin 1024) : Fin 2048 := ⟨p.val * 1024 + q.val, by have := p.isLt; have := q.isLt; omega⟩

/-- The tile of a row. -/
def rowTile (r : Fin 36864) : Fin 72 := ⟨r.val / 512, by have := r.isLt; omega⟩

/-- A tile is in use. -/
def inUse (n1 : S1.Idx → BitVec 32) (n : Fin 72) : Bool := (BitVec.ofNat 32 n.val).slt (n1 (ix1 0))

/-- The expert a tile's word names. -/
def named (n : Fin 72) : Fin 8 := ⟨expert m n, expert_lt m ok n⟩

/-- The result array. -/
def G (c : Dev nD) : Buf (Elt Ideal) ((c : Thread nD τ).loc main_v0) := fun i =>
  if inUse (T1 m) (rowTile (i 1)) = true then
    prod (m ((c : Thread nD τ).loc main_arg2)) (m ((c : Thread nD τ).loc main_arg3)) (named m ok (rowTile (i 1))) (i 1) (col (i 0) (i 2))
  else (0 : EReal)

/-- The stored block at an index: the first half's product or the second's. -/
theorem pay_apply (x : FVec Ideal S512x4096 .bf16) (u v : FVec Ideal S4096x512 .bf16) (p : Fin 2) (r q : Fin 512) :
    k0_pay3 (F := Ideal) x u v (ix3 p r q : S2x512x512.Idx)
      = FloatOps.matmul (F := Ideal) (φ₁ := .bf16) (φ₂ := .bf16) (DotDims.plain 512 4096 512) none x (if p.val = 0 then u else v) (constant _ .f32 0x00000000#32) (ix2 r q) := by
  refine (stack_apply (a := 512) (b := 512) _ _ concatenates_S1x512x512_S1x512x512_S2x512x512_d0 p r q).trans ?_
  by_cases hp : p.val = 0
  · rw [if_pos hp, if_pos hp]
    exact add1_apply _ shapeCasts_S512x512_S1x512x512 r q
  · rw [if_neg hp, if_neg hp]
    exact add1_apply _ shapeCasts_S512x512_S1x512x512 r q

/-- The cast block of the weights, at an index. -/
theorem pay1_apply (x : FVec Ideal S1x1x4096x512 .f32) (k : Fin 4096) (q : Fin 512) :
    k0_pay1 (F := Ideal) x (ix2 k q : S4096x512.Idx) = x (ix4 0 0 k q) := by
  unfold k0_pay1
  rw [shapeCast_self]
  exact drop2_apply x shapeCasts_S1x1x4096x512_S4096x512 k q
theorem pay2_apply (x : FVec Ideal S1x1x4096x512 .f32) (k : Fin 4096) (q : Fin 512) :
    k0_pay2 (F := Ideal) x (ix2 k q : S4096x512.Idx) = x (ix4 0 0 k q) := pay1_apply x k q

theorem pay4_apply (y : S2x512x512.Idx) : k0_pay4 (F := Ideal) y = 0 := by
  show Ideal.ofBits .bf16 0x0000#16 = 0
  simp

theorem idx0 (t : Fin (cfgA m ok).N) : ((cfgA m ok).win (0 : Fin 4)).index t = ![t.val % 72, 0] := by
  obtain ⟨a, b⟩ := crd_eq' m ok t
  have e : ((cfgA m ok).win (0 : Fin 4)).index t = ![(BitVec.ofNat 32 (crd m ok t 1).val).toNat, 0] := rfl
  rw [e, b, BitVec.toNat_ofNat, Nat.mod_eq_of_lt (show t.val % 72 < 2 ^ 32 by omega)]
theorem idx3 (t : Fin (cfgA m ok).N) : ((cfgA m ok).win (3 : Fin 4)).index t = ![0, t.val % 72, t.val / 72] := by
  obtain ⟨a, b⟩ := crd_eq' m ok t
  have hN : (cfgA m ok).N = 144 := N_0
  have ht := t.isLt
  have e : ((cfgA m ok).win (3 : Fin 4)).index t = ![0, (BitVec.ofNat 32 (crd m ok t 1).val).toNat, (BitVec.ofNat 32 (crd m ok t 0).val).toNat] := rfl
  rw [e, a, b, BitVec.toNat_ofNat, BitVec.toNat_ofNat, Nat.mod_eq_of_lt (show t.val % 72 < 2 ^ 32 by omega), Nat.mod_eq_of_lt (show t.val / 72 < 2 ^ 32 by omega)]

/-- Every point writes its block back: the next point's is another. -/
theorem flush3 (t : Fin (cfgA m ok).N) : ((cfgA m ok).win (3 : Fin 4)).flush t = true := by
  have hN : (cfgA m ok).N = 144 := N_0
  unfold Pipeline.Window.flush
  have ho : ((cfgA m ok).win (3 : Fin 4)).isOut = true := rfl
  rw [ho, Bool.true_and, Bool.or_eq_true]
  by_cases hl : t.val + 1 = 144
  · exact .inl (decide_eq_true (hl.trans N_0.symm))
  · have ht : t.val + 1 < (cfgA m ok).N := by have := t.isLt; omega
    refine .inr (decide_eq_true ⟨ht, fun h => ?_⟩)
    have h0 := congrFun h (1 : Fin 3)
    rw [idx3, idx3] at h0
    have h0' : (t.val + 1) % 72 = t.val % 72 := h0
    omega

theorem used_eq (t : Fin (cfgA m ok).N) : used (T1 m) (crd m ok t) ↔ inUse (T1 m) (tile m ok t) = true := by
  rw [used_iff, wUsed_eq, (crd_eq' m ok t).2]
  exact Iff.rfl

set_option maxHeartbeats 1600000 in
theorem flushed_eq (c : Dev nD) (t : Fin (cfgA m ok).N) :
    (dats m ok 0 c).flushed (3 : Fin 4) t = (((cfgA m ok).win (3 : Fin 4)).blk t).view.read (Elt Ideal) (G m ok c) := by
  have o := idx3 m ok t
  have ax := idx0 m ok t
  funext y
  obtain ⟨p, r, q, rfl⟩ : ∃ (p : Fin 2) (r : Fin 512) (q : Fin 512), y = (ix3 p r q : S2x512x512.Idx) := ⟨y 0, y 1, y 2, by funext a; fin_cases a <;> rfl⟩
  show outv m ok c t (ix3 p r q) = G m ok c ((((cfgA m ok).win (3 : Fin 4)).blk t).view.emb (ix3 p r q : S2x512x512.Idx))
  set z : S2x36864x1024.Idx := (((cfgA m ok).win (3 : Fin 4)).blk t).view.emb (ix3 p r q : S2x512x512.Idx) with hz
  have hr := r.isLt
  have z0 : z 0 = p := Fin.ext (by
    show ((cfgA m ok).win (3 : Fin 4)).index t (0 : Fin 3) * 2 + 1 * p.val = p.val
    rw [o]; show 0 * 2 + 1 * p.val = _; omega)
  have z1 : (z 1).val = t.val % 72 * 512 + r.val := by
    show ((cfgA m ok).win (3 : Fin 4)).index t (1 : Fin 3) * 512 + 1 * r.val = _
    rw [o]; show t.val % 72 * 512 + 1 * r.val = _; omega
  have z2 : (z 2).val = t.val / 72 * 512 + q.val := by
    show ((cfgA m ok).win (3 : Fin 4)).index t (2 : Fin 3) * 512 + 1 * q.val = _
    rw [o]; show t.val / 72 * 512 + 1 * q.val = _; omega
  have zt : rowTile (z 1) = tile m ok t := Fin.ext (by
    show (z 1).val / 512 = t.val % 72
    rw [z1]; omega)
  unfold G outv
  rw [zt]
  by_cases hu : used (T1 m) (crd m ok t)
  · rw [if_pos hu, if_pos ((used_eq m ok t).mp hu), pay_apply, mm_apply]
    have ex : ∀ k : Fin 4096, iblk m ok c (0 : Fin 4) t (ix2 r k : S512x4096.Idx) = m ((c : Thread nD τ).loc main_arg2) (ix2 (z 1) k) := fun k => by
      refine congrArg (m ((c : Thread nD τ).loc main_arg2)) (funext fun a => Fin.ext ?_)
      match a with
      | ⟨0, _⟩ =>
        show ((cfgA m ok).win (0 : Fin 4)).index t (0 : Fin 2) * 512 + 1 * r.val = (z 1).val
        rw [ax, z1]; show t.val % 72 * 512 + 1 * r.val = _; omega
      | ⟨1, _⟩ =>
        show ((cfgA m ok).win (0 : Fin 4)).index t (1 : Fin 2) * 4096 + 1 * k.val = k.val
        rw [ax]; show 0 * 4096 + 1 * k.val = _; omega
    unfold prod
    refine Finset.sum_congr rfl fun k _ => ?_
    refine congrArg₂ (fun a b : EReal => a * b) (ex k) ?_
    by_cases hp : p.val = 0
    · have zc : col (z 0) (z 2) = colW m ok t q := Fin.ext (by
        show (z 0).val * 1024 + (z 2).val = t.val / 72 * 512 + q.val
        rw [z0, z2]; omega)
      rw [if_pos hp, zc]
      exact (pay1_apply _ k q).trans (ublk_apply m ok c t k q)
    · have hp2 := p.isLt
      have zc : col (z 0) (z 2) = colV m ok t q := Fin.ext (by
        show (z 0).val * 1024 + (z 2).val = 1024 + t.val / 72 * 512 + q.val
        rw [z0, z2]; omega)
      rw [if_neg hp, zc]
      exact (pay2_apply _ k q).trans (vblk_apply m ok c t k q)
  · rw [if_neg hu, if_neg (fun h => hu ((used_eq m ok t).mpr h))]
    exact pay4_apply _

theorem mem_blk (t : Fin (cfgA m ok).N) (i : S2x36864x1024.Idx) :
    i ∈ (((cfgA m ok).win (3 : Fin 4)).blk t).view.set
      ↔ ∀ a : Fin 3, ((cfgA m ok).win (3 : Fin 4)).index t a * S2x512x512.size a ≤ (i a).val ∧ (i a).val < ((cfgA m ok).win (3 : Fin 4)).index t a * S2x512x512.size a + S2x512x512.size a := by
  show i ∈ ((View.whole main_v0).slice (((cfgA m ok).win (3 : Fin 4)).rect t)).set ↔ _
  rw [View.set_slice_whole, Rect.mem_set_unit]
  exact Iff.rfl

theorem cover (i : S2x36864x1024.Idx) : ∃ t : Fin (cfgA m ok).N, ((cfgA m ok).win (3 : Fin 4)).flush t = true ∧ i ∈ (((cfgA m ok).win (3 : Fin 4)).blk t).view.set := by
  have h0 : (i 0).val < 2 := (i 0).isLt
  have h1 : (i 1).val < 36864 := (i 1).isLt
  have h2 : (i 2).val < 1024 := (i 2).isLt
  have hN : (cfgA m ok).N = 144 := N_0
  have ht : (i 2).val / 512 * 72 + (i 1).val / 512 < (cfgA m ok).N := by omega
  refine ⟨⟨_, ht⟩, flush3 m ok _, ?_⟩
  rw [mem_blk, idx3]
  intro a
  match a with
  | ⟨0, _⟩ =>
    show 0 * 2 ≤ (i 0).val ∧ (i 0).val < 0 * 2 + 2
    omega
  | ⟨1, _⟩ =>
    show ((i 2).val / 512 * 72 + (i 1).val / 512) % 72 * 512 ≤ (i 1).val ∧ (i 1).val < ((i 2).val / 512 * 72 + (i 1).val / 512) % 72 * 512 + 512
    omega
  | ⟨2, _⟩ =>
    show ((i 2).val / 512 * 72 + (i 1).val / 512) / 72 * 512 ≤ (i 2).val ∧ (i 2).val < ((i 2).val / 512 * 72 + (i 1).val / 512) / 72 * 512 + 512
    omega

theorem final (c : Dev nD) : (dats m ok 0 c).arrAt (3 : Fin 4) (cfgA m ok).N = G m ok c :=
  (dats m ok 0 c).arrAt_eq_of_cover (3 : Fin 4) (G m ok c) (fun t _ => flushed_eq m ok c t) (cover m ok)

/-- The run read. -/
theorem run : θ_run defs (onTc (τ := τ) (main (F := Ideal))) ⟨m, fun _ => 0, ρ⟩ fun r => ∀ c : Dev nD,
      r.2.mem ((c : Thread nD τ).loc main_v0) = G m ok c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1.trans (final m ok c), (h.1 c).2⟩) (run_blocks m ρ ok)

end Cert.MoeDownLastIdeal.RefValue

end
-- ==== Proof.MoeDownLastRef.lean ====
/-
  The experts' products back to the model's width: the reference read at an index. Its loop over the experts adds each expert's product
  where the row's tile names that expert; one does, or none where the tile is spare.
-/
module

public import proofs.«01_k».proof.Proof.MoeDownLastValue
public import proofs.«01_k».proof.Proof.Gen.MoeDownLastRefIdeal.Run
public import proofs.«01_k».proof.Proof.Gen.MoeDownLastRefIdeal.Read

@[expose] public section

set_option maxRecDepth 16384

noncomputable section

namespace Cert.MoeDownLastIdeal.RefValue

open Cert.Common Idealize.ShloMosaic Idealize.ShloMosaic.TcCoe Idealize.SL.Sem Idealize.ShloMosaic.ValueIdx
open Cert.MoeDownLastRefIdeal Cert.MoeDownLastRefIdeal.Read

variable (te : Cert.MoeDownLastRefIdeal.S72.Idx → BitVec 32) (nu : Cert.MoeDownLastRefIdeal.S1.Idx → BitVec 32)
variable (h : FVec Ideal Cert.MoeDownLastRefIdeal.S36864x4096 .bf16) (w : FVec Ideal Cert.MoeDownLastRefIdeal.S2x8x4096x2048 .f32)

/-- The tile's word, `-1` where the tile is spare. -/
theorem word_apply (n : Fin 72) : val_main_v4 (F := Ideal) te nu (ix1 n : Cert.MoeDownLastRefIdeal.S72.Idx) = if inUse nu n = true then te (ix1 n) else 4294967295#32 := by
  have e1 : val_main_v1 (F := Ideal) nu (idx_main_v2 (ix1 n)) = nu (ix1 0) :=
    shapeCast_apply nu _ (idx_main_v2 (ix1 n)) (ix1 0) rfl
  rw [val_main_v4_apply, val_main_v3_apply, val_main_v2_apply, val_main_v0_apply, val_main_call0_v1_apply, e1]
  have e : ∀ b : Bool, Scalar.select (BitVec.ofBool b) (te (ix1 n)) (4294967295#32) = if b = true then te (ix1 n) else 4294967295#32 := fun b => by
    cases b <;> rfl
  exact e _

/-- The weight of expert `e` at a row: whether its tile's word is `e`'s. -/
theorem comb_apply (r : Fin 36864) (e : Fin 8) : val_main_v8 (F := Ideal) te nu (ix2 r e : Cert.MoeDownLastRefIdeal.S36864x8.Idx)
    = if (if inUse nu (rowTile r) = true then te (ix1 (rowTile r)) else 4294967295#32) = BitVec.ofNat 32 e.val then (1 : EReal) else 0 := by
  rw [← word_apply te nu (rowTile r), val_main_v8_apply, val_main_call1_v4_apply, val_main_call1_v2_apply, val_main_call1_v0_apply, val_main_v7_apply, val_main_v6_apply,
    val_main_v5_apply, val_main_call1_v3_apply, val_main_call1_v1_apply]
  have e1 : ∀ a b : BitVec 32, (FloatOps.uitofp (F := Ideal) .f32 (IntOp.cmpi .eq a b) : EReal) = if a = b then (1 : EReal) else 0 := fun a b => by
    by_cases hab : a = b
    · subst hab
      have q : IntOp.cmpi .eq a a = 1#1 := by simp [IntOp.cmpi]
      rw [if_pos rfl, q]
      show (((1#1 : BitVec 1).toNat : ℝ) : EReal) = 1
      simp
    · have q : IntOp.cmpi .eq a b = 0#1 := by
        simp only [IntOp.cmpi]
        rw [beq_eq_false_iff_ne.mpr hab]; rfl
      rw [if_neg hab, q]
      show (((0#1 : BitVec 1).toNat : ℝ) : EReal) = 0
      simp
  refine (e1 _ _).trans ?_
  have e2 : (idx_main_v5 (idx_main_v6 (idx_main_v7 (idx_main_call1_v0 (idx_main_call1_v2 (ix2 r e))))) : Cert.MoeDownLastRefIdeal.S72.Idx) = ix1 (rowTile r) :=
    funext fun a => match a with | ⟨0, _⟩ => rfl
  rw [e2]

/-- Expert 0's product. -/
theorem ref_w2_0 (i : Cert.MoeDownLastRefIdeal.S36864x2048.Idx) : val_main_v14 (F := Ideal) h w i = prod h w 0 (i 0) (i 1) := by
  have h1 : (i 1).val < 2048 := (i 1).isLt
  refine (val_main_v14_apply h w i).trans (Finset.sum_congr rfl fun k _ => ?_)
  have hk : k.val < 4096 := k.isLt
  rw [val_main_v13_apply, val_main_v12_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 0's term. -/
theorem ref_term_0 (i : Cert.MoeDownLastRefIdeal.S36864x2048.Idx) : val_main_v16 (F := Ideal) te nu h w i
    = val_main_v8 (F := Ideal) te nu (ix2 (i 0) 0 : Cert.MoeDownLastRefIdeal.S36864x8.Idx) * prod h w 0 (i 0) (i 1) := by
  rw [val_main_v16_apply]
  refine congrArg₂ (fun a b : EReal => a * b) ?_ (ref_w2_0 h w i)
  rw [val_main_v15_apply, val_main_v11_apply]
  exact congrArg (val_main_v8 (F := Ideal) te nu) (funext fun a => match a with | ⟨0, _⟩ => rfl | ⟨1, _⟩ => rfl)

/-- Expert 1's product. -/
theorem ref_w2_1 (i : Cert.MoeDownLastRefIdeal.S36864x2048.Idx) : val_main_v21 (F := Ideal) h w i = prod h w 1 (i 0) (i 1) := by
  have h1 : (i 1).val < 2048 := (i 1).isLt
  refine (val_main_v21_apply h w i).trans (Finset.sum_congr rfl fun k _ => ?_)
  have hk : k.val < 4096 := k.isLt
  rw [val_main_v20_apply, val_main_v19_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 1's term. -/
theorem ref_term_1 (i : Cert.MoeDownLastRefIdeal.S36864x2048.Idx) : val_main_v23 (F := Ideal) te nu h w i
    = val_main_v8 (F := Ideal) te nu (ix2 (i 0) 1 : Cert.MoeDownLastRefIdeal.S36864x8.Idx) * prod h w 1 (i 0) (i 1) := by
  rw [val_main_v23_apply]
  refine congrArg₂ (fun a b : EReal => a * b) ?_ (ref_w2_1 h w i)
  rw [val_main_v22_apply, val_main_v18_apply]
  exact congrArg (val_main_v8 (F := Ideal) te nu) (funext fun a => match a with | ⟨0, _⟩ => rfl | ⟨1, _⟩ => rfl)

/-- Expert 2's product. -/
theorem ref_w2_2 (i : Cert.MoeDownLastRefIdeal.S36864x2048.Idx) : val_main_v28 (F := Ideal) h w i = prod h w 2 (i 0) (i 1) := by
  have h1 : (i 1).val < 2048 := (i 1).isLt
  refine (val_main_v28_apply h w i).trans (Finset.sum_congr rfl fun k _ => ?_)
  have hk : k.val < 4096 := k.isLt
  rw [val_main_v27_apply, val_main_v26_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 2's term. -/
theorem ref_term_2 (i : Cert.MoeDownLastRefIdeal.S36864x2048.Idx) : val_main_v30 (F := Ideal) te nu h w i
    = val_main_v8 (F := Ideal) te nu (ix2 (i 0) 2 : Cert.MoeDownLastRefIdeal.S36864x8.Idx) * prod h w 2 (i 0) (i 1) := by
  rw [val_main_v30_apply]
  refine congrArg₂ (fun a b : EReal => a * b) ?_ (ref_w2_2 h w i)
  rw [val_main_v29_apply, val_main_v25_apply]
  exact congrArg (val_main_v8 (F := Ideal) te nu) (funext fun a => match a with | ⟨0, _⟩ => rfl | ⟨1, _⟩ => rfl)

/-- Expert 3's product. -/
theorem ref_w2_3 (i : Cert.MoeDownLastRefIdeal.S36864x2048.Idx) : val_main_v35 (F := Ideal) h w i = prod h w 3 (i 0) (i 1) := by
  have h1 : (i 1).val < 2048 := (i 1).isLt
  refine (val_main_v35_apply h w i).trans (Finset.sum_congr rfl fun k _ => ?_)
  have hk : k.val < 4096 := k.isLt
  rw [val_main_v34_apply, val_main_v33_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 3's term. -/
theorem ref_term_3 (i : Cert.MoeDownLastRefIdeal.S36864x2048.Idx) : val_main_v37 (F := Ideal) te nu h w i
    = val_main_v8 (F := Ideal) te nu (ix2 (i 0) 3 : Cert.MoeDownLastRefIdeal.S36864x8.Idx) * prod h w 3 (i 0) (i 1) := by
  rw [val_main_v37_apply]
  refine congrArg₂ (fun a b : EReal => a * b) ?_ (ref_w2_3 h w i)
  rw [val_main_v36_apply, val_main_v32_apply]
  exact congrArg (val_main_v8 (F := Ideal) te nu) (funext fun a => match a with | ⟨0, _⟩ => rfl | ⟨1, _⟩ => rfl)

/-- Expert 4's product. -/
theorem ref_w2_4 (i : Cert.MoeDownLastRefIdeal.S36864x2048.Idx) : val_main_v42 (F := Ideal) h w i = prod h w 4 (i 0) (i 1) := by
  have h1 : (i 1).val < 2048 := (i 1).isLt
  refine (val_main_v42_apply h w i).trans (Finset.sum_congr rfl fun k _ => ?_)
  have hk : k.val < 4096 := k.isLt
  rw [val_main_v41_apply, val_main_v40_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 4's term. -/
theorem ref_term_4 (i : Cert.MoeDownLastRefIdeal.S36864x2048.Idx) : val_main_v44 (F := Ideal) te nu h w i
    = val_main_v8 (F := Ideal) te nu (ix2 (i 0) 4 : Cert.MoeDownLastRefIdeal.S36864x8.Idx) * prod h w 4 (i 0) (i 1) := by
  rw [val_main_v44_apply]
  refine congrArg₂ (fun a b : EReal => a * b) ?_ (ref_w2_4 h w i)
  rw [val_main_v43_apply, val_main_v39_apply]
  exact congrArg (val_main_v8 (F := Ideal) te nu) (funext fun a => match a with | ⟨0, _⟩ => rfl | ⟨1, _⟩ => rfl)

/-- Expert 5's product. -/
theorem ref_w2_5 (i : Cert.MoeDownLastRefIdeal.S36864x2048.Idx) : val_main_v49 (F := Ideal) h w i = prod h w 5 (i 0) (i 1) := by
  have h1 : (i 1).val < 2048 := (i 1).isLt
  refine (val_main_v49_apply h w i).trans (Finset.sum_congr rfl fun k _ => ?_)
  have hk : k.val < 4096 := k.isLt
  rw [val_main_v48_apply, val_main_v47_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 5's term. -/
theorem ref_term_5 (i : Cert.MoeDownLastRefIdeal.S36864x2048.Idx) : val_main_v51 (F := Ideal) te nu h w i
    = val_main_v8 (F := Ideal) te nu (ix2 (i 0) 5 : Cert.MoeDownLastRefIdeal.S36864x8.Idx) * prod h w 5 (i 0) (i 1) := by
  rw [val_main_v51_apply]
  refine congrArg₂ (fun a b : EReal => a * b) ?_ (ref_w2_5 h w i)
  rw [val_main_v50_apply, val_main_v46_apply]
  exact congrArg (val_main_v8 (F := Ideal) te nu) (funext fun a => match a with | ⟨0, _⟩ => rfl | ⟨1, _⟩ => rfl)

/-- Expert 6's product. -/
theorem ref_w2_6 (i : Cert.MoeDownLastRefIdeal.S36864x2048.Idx) : val_main_v56 (F := Ideal) h w i = prod h w 6 (i 0) (i 1) := by
  have h1 : (i 1).val < 2048 := (i 1).isLt
  refine (val_main_v56_apply h w i).trans (Finset.sum_congr rfl fun k _ => ?_)
  have hk : k.val < 4096 := k.isLt
  rw [val_main_v55_apply, val_main_v54_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 6's term. -/
theorem ref_term_6 (i : Cert.MoeDownLastRefIdeal.S36864x2048.Idx) : val_main_v58 (F := Ideal) te nu h w i
    = val_main_v8 (F := Ideal) te nu (ix2 (i 0) 6 : Cert.MoeDownLastRefIdeal.S36864x8.Idx) * prod h w 6 (i 0) (i 1) := by
  rw [val_main_v58_apply]
  refine congrArg₂ (fun a b : EReal => a * b) ?_ (ref_w2_6 h w i)
  rw [val_main_v57_apply, val_main_v53_apply]
  exact congrArg (val_main_v8 (F := Ideal) te nu) (funext fun a => match a with | ⟨0, _⟩ => rfl | ⟨1, _⟩ => rfl)

/-- Expert 7's product. -/
theorem ref_w2_7 (i : Cert.MoeDownLastRefIdeal.S36864x2048.Idx) : val_main_v63 (F := Ideal) h w i = prod h w 7 (i 0) (i 1) := by
  have h1 : (i 1).val < 2048 := (i 1).isLt
  refine (val_main_v63_apply h w i).trans (Finset.sum_congr rfl fun k _ => ?_)
  have hk : k.val < 4096 := k.isLt
  rw [val_main_v62_apply, val_main_v61_apply]
  refine congrArg₂ (fun a b : EReal => a * b) (congrArg h (funext fun a => ?_)) (congrArg w (funext fun a => ?_))
  · match a with
    | ⟨0, _⟩ => rfl
    | ⟨1, _⟩ => rfl
  · match a with
    | ⟨0, _⟩ => rfl
    | ⟨1, _⟩ => rfl
    | ⟨2, _⟩ => refine Fin.ext ?_; show (k.val * 2048 + (i 1).val) / 2048 % 4096 = k.val; omega
    | ⟨3, _⟩ => refine Fin.ext ?_; show (k.val * 2048 + (i 1).val) % 2048 = (i 1).val; omega

/-- Expert 7's term. -/
theorem ref_term_7 (i : Cert.MoeDownLastRefIdeal.S36864x2048.Idx) : val_main_v65 (F := Ideal) te nu h w i
    = val_main_v8 (F := Ideal) te nu (ix2 (i 0) 7 : Cert.MoeDownLastRefIdeal.S36864x8.Idx) * prod h w 7 (i 0) (i 1) := by
  rw [val_main_v65_apply]
  refine congrArg₂ (fun a b : EReal => a * b) ?_ (ref_w2_7 h w i)
  rw [val_main_v64_apply, val_main_v60_apply]
  exact congrArg (val_main_v8 (F := Ideal) te nu) (funext fun a => match a with | ⟨0, _⟩ => rfl | ⟨1, _⟩ => rfl)

/-- One weight of the eight is one, the others zero. -/
theorem sum_one (E : Fin 8) (c f : Fin 8 → EReal) (hc : ∀ e, c e = if e = E then (1 : EReal) else 0) :
    (0 : EReal) + c 0 * f 0 + c 1 * f 1 + c 2 * f 2 + c 3 * f 3 + c 4 * f 4 + c 5 * f 5 + c 6 * f 6 + c 7 * f 7 = f E := by
  simp only [hc]
  fin_cases E <;> simp

theorem sum_none (c f : Fin 8 → EReal) (hc : ∀ e, c e = 0) : (0 : EReal) + c 0 * f 0 + c 1 * f 1 + c 2 * f 2 + c 3 * f 3 + c 4 * f 4 + c 5 * f 5 + c 6 * f 6 + c 7 * f 7 = 0 := by
  simp [hc]

/-- The sum over the experts at an index is the sum of their terms. -/
theorem ref_sum (i : Cert.MoeDownLastRefIdeal.S36864x2048.Idx) (c f : Fin 8 → EReal)
    (hc : c = fun e => val_main_v8 (F := Ideal) te nu (ix2 (i 0) e : Cert.MoeDownLastRefIdeal.S36864x8.Idx))
    (hf : f = fun e => prod h w e (i 0) (i 1)) :
    val_main_v67 (F := Ideal) te nu h w i = (0 : EReal) + c 0 * f 0 + c 1 * f 1 + c 2 * f 2 + c 3 * f 3 + c 4 * f 4 + c 5 * f 5 + c 6 * f 6 + c 7 * f 7 := by
  have z : val_main_v10 (F := Ideal) i = (0 : EReal) := by
    rw [val_main_v10_apply, val_main_cst_apply]
    show Ideal.ofBits .f32 0x00000000#32 = 0
    simp
  subst hc hf
  rw [val_main_v67_apply, val_main_v66_apply, val_main_v59_apply, val_main_v52_apply, val_main_v45_apply, val_main_v38_apply, val_main_v31_apply, val_main_v24_apply, val_main_v17_apply, z, ref_term_0, ref_term_1, ref_term_2, ref_term_3, ref_term_4, ref_term_5, ref_term_6, ref_term_7]
  rfl

/-- The sum at an index of a row whose tile names expert `E`. -/
theorem ref_row (i : Cert.MoeDownLastRefIdeal.S36864x2048.Idx) (E : Fin 8) (hE : te (ix1 (rowTile (i 0))) = BitVec.ofNat 32 E.val) :
    val_main_v67 (F := Ideal) te nu h w i
      = if inUse nu (rowTile (i 0)) = true then prod h w E (i 0) (i 1) else (0 : EReal) := by
  obtain ⟨c, hc⟩ : ∃ c : Fin 8 → EReal, c = fun e => val_main_v8 (F := Ideal) te nu (ix2 (i 0) e : Cert.MoeDownLastRefIdeal.S36864x8.Idx) := ⟨_, rfl⟩
  obtain ⟨f, hf⟩ : ∃ f : Fin 8 → EReal, f = fun e => prod h w e (i 0) (i 1) := ⟨_, rfl⟩
  refine (ref_sum te nu h w i c f hc hf).trans ?_
  have ce : ∀ e : Fin 8, c e = if (if inUse nu (rowTile (i 0)) = true then te (ix1 (rowTile (i 0))) else 4294967295#32) = BitVec.ofNat 32 e.val then (1 : EReal) else 0 :=
    fun e => (congrFun hc e).trans (comb_apply te nu (i 0) e)
  have q : ∀ a b : Fin 8, (BitVec.ofNat 32 a.val = BitVec.ofNat 32 b.val) ↔ b = a := by decide +kernel
  have q' : ∀ b : Fin 8, ¬(4294967295#32 : BitVec 32) = BitVec.ofNat 32 b.val := by decide +kernel
  by_cases hu : inUse nu (rowTile (i 0)) = true
  · rw [if_pos hu, sum_one E c f fun e => ?_]
    · exact congrFun hf E
    · rw [ce e, if_pos hu, hE]
      exact if_congr (q E e) rfl rfl
  · rw [if_neg hu]
    refine sum_none c f fun e => ?_
    rw [ce e, if_neg hu, if_neg (q' e)]

/-- The reference's result at an index: its two halves of columns stacked. -/
theorem ref_apply (p : Fin 2) (r : Fin 36864) (j : Fin 1024) (E : Fin 8) (hE : te (ix1 (rowTile r)) = BitVec.ofNat 32 E.val) :
    val_main_v72 (F := Ideal) te nu h w (ix3 p r j : Cert.MoeDownLastRefIdeal.S2x36864x1024.Idx)
      = if inUse nu (rowTile r) = true then prod h w E r (col p j) else (0 : EReal) := by
  refine (stack_apply (a := 36864) (b := 1024) _ _ Cert.MoeDownLastRefIdeal.Gen.concatenates_S1x36864x1024_S1x36864x1024_S2x36864x1024_d0 p r j).trans ?_
  by_cases hp : p.val = 0
  · rw [if_pos hp, val_main_v70_apply, val_main_v68_apply]
    have e : (idx_main_v68 (idx_main_v70 (ix3 0 r j)) : Cert.MoeDownLastRefIdeal.S36864x2048.Idx) = ix2 r (col p j) := funext fun a => match a with
      | ⟨0, _⟩ => rfl
      | ⟨1, _⟩ => Fin.ext (by show j.val = p.val * 1024 + j.val; omega)
    rw [e]
    exact ref_row te nu h w (ix2 r (col p j)) E hE
  · rw [if_neg hp, val_main_v71_apply, val_main_v69_apply]
    have hp2 := p.isLt
    have e : (idx_main_v69 (idx_main_v71 (ix3 0 r j)) : Cert.MoeDownLastRefIdeal.S36864x2048.Idx) = ix2 r (col p j) := funext fun a => match a with
      | ⟨0, _⟩ => rfl
      | ⟨1, _⟩ => Fin.ext (by show 1024 + j.val = p.val * 1024 + j.val; omega)
    rw [e]
    exact ref_row te nu h w (ix2 r (col p j)) E hE

end Cert.MoeDownLastIdeal.RefValue

end
-- ==== Proof.MoeDownLastClaim.lean ====
/-
  The experts' products back to the model's width: kernel and reference end with the same result where every row tile names an expert.
-/
module

public import proofs.«01_k».proof.Proof.MoeDownLastOk
public import proofs.«01_k».proof.Proof.MoeDownLastRef

@[expose] public section

set_option maxRecDepth 16384

noncomputable section

namespace Cert.MoeDownLastIdeal.RefValue

open Cert.Common Idealize.ShloMosaic Idealize.ShloMosaic.TcCoe Idealize.SL.Sem Idealize.ShloMosaic.ValueIdx
open Cert.MoeDownLastRefIdeal.Read

/-- A tile's word is its expert's. -/
theorem word_named (m : (ℓ : Loc Cert.MoeDownLastIdeal.nD Cert.MoeDownLastIdeal.τ Cert.MoeDownLastIdeal.sig) → Buf (Elt Ideal) ℓ) (ok : Cert.MoeDownLastIdeal.ok0 (Cert.MoeDownLastIdeal.Hand.tbl m)) (n : Fin 72) :
    Cert.MoeDownLastIdeal.Hand.T0 m (ix1 n) = BitVec.ofNat 32 (named m ok n).val :=
  ((BitVec.ofNat_toNat 32 (Cert.MoeDownLastIdeal.Hand.T0 m (ix1 n))).trans (BitVec.setWidth_eq _)).symm

/-- Kernel and reference end with the same result. -/
theorem algebraic : Cert.algebraic_MoeDownLastIdeal_MoeDownLastRefIdeal := by
  intro m g m' g' hpre hagree
  have ok := Cert.MoeDownLastIdeal.Hand.ok_of_pre m hpre
  refine ⟨fun c => G m ok c, run m g ok, ?_⟩
  refine (θ_run Cert.MoeDownLastRefIdeal.defs _ _).mono (fun _ h c => ⟨(h c).1.trans ?_, (h c).2⟩) (Cert.MoeDownLastRefIdeal.Value.run (F := Ideal) m' g')
  obtain ⟨h0, h1, h2, h3⟩ := hagree c
  refine (val_main_v72_eq (F := Ideal) _ _).trans ?_
  have hc : c = (0 : Dev Cert.MoeDownLastIdeal.nD) := Subsingleton.elim _ _
  subst hc
  refine Eq.trans (b := val_main_v72 (F := Ideal) (Cert.MoeDownLastIdeal.Hand.T0 m) (Cert.MoeDownLastIdeal.Hand.T1 m)
    (m (((0 : Dev Cert.MoeDownLastIdeal.nD).tc : Thread Cert.MoeDownLastIdeal.nD Cert.MoeDownLastIdeal.τ).loc Cert.MoeDownLastIdeal.main_arg2))
    (m (((0 : Dev Cert.MoeDownLastIdeal.nD).tc : Thread Cert.MoeDownLastIdeal.nD Cert.MoeDownLastIdeal.τ).loc Cert.MoeDownLastIdeal.main_arg3))) ?_ ?_
  · exact congr (congr (congr (congrArg (val_main_v72 (F := Ideal)) h0) h1) h2) h3
  · funext i
    obtain ⟨p, r, j, rfl⟩ : ∃ (p : Fin 2) (r : Fin 36864) (j : Fin 1024), i = (ix3 p r j : Cert.MoeDownLastRefIdeal.S2x36864x1024.Idx) :=
      ⟨i 0, i 1, i 2, by funext a; fin_cases a <;> rfl⟩
    exact ref_apply _ _ _ _ p r j (named m ok (rowTile r)) (word_named m ok _)

/-- The reference's frame. -/
theorem ref_frame : Cert.quiescent_MoeDownLastRefIdeal := fun m ρ _ =>
  (θ_run Cert.MoeDownLastRefIdeal.defs _ _).mono (fun r h => ⟨fun c => (h c).2,
    Idealize.ShloMosaic.sem_eq_zero_of_no_sems (by decide) r.2⟩) (Cert.MoeDownLastRefIdeal.Value.run (F := Ideal) m ρ)
theorem ref_frame_pre : Cert.quiescent_MoeDownLastRefIdeal_pre_tiles_named_down_last := fun m ρ _ => ref_frame m ρ trivial

end Cert.MoeDownLastIdeal.RefValue

end
-- ==== Proof.NaMath.lean ====
/-
  Softmax attention over a finite set of keys, at the ideal values
  `att s v` is the attention of one query with scores `s` over values `v`, maximum subtracted. A key whose score is
  minus infinity weighs nothing, so the set of keys can be enlarged by such keys, and dividing each weight or the
  whole sum is the same.
-/
module

public import Idealize.ShloMosaic.PureOps.Ideal.Laws

@[expose] public section

namespace Cert.NaMath
open Idealize.ShloMosaic

/-- One query's attention: the weighted sum of the values over the sum of the weights. -/
noncomputable def att {ι : Type} [Fintype ι] (s v : ι → EReal) : EReal :=
  Ideal.div (∑ k, Ideal.exp (s k - ⨆ i, s i) * v k) (∑ k, Ideal.exp (s k - ⨆ i, s i))

theorem exp_nonneg (x : EReal) : 0 ≤ Ideal.exp x := by
  induction x with
  | bot => exact le_of_eq Ideal.exp_bot.symm
  | top => rw [Ideal.exp_top]; exact le_top
  | coe r => rw [Ideal.exp_coe]; exact EReal.coe_nonneg.mpr (Real.exp_pos r).le

/-- Keys outside the range of an injection weigh nothing when their score is minus infinity. -/
theorem att_comp {ι κ : Type} [Fintype ι] [Fintype κ] (f : κ → ι) (hf : Function.Injective f) (s v : ι → EReal)
    (hs : ∀ i, i ∉ Set.range f → s i = ⊥) : att (fun k => s (f k)) (fun k => v (f k)) = att s v := by
  have hm : (⨆ k, s (f k)) = ⨆ i, s i := by
    refine le_antisymm (iSup_comp_le s f) (iSup_le fun i => ?_)
    by_cases h : i ∈ Set.range f
    · obtain ⟨k, rfl⟩ := h; exact le_iSup (fun k => s (f k)) k
    · rw [hs i h]; exact bot_le
  have h0 : ∀ i, i ∉ Set.range f → Ideal.exp (s i - ⨆ i, s i) = 0 := fun i h => by
    rw [hs i h, EReal.bot_sub, Ideal.exp_bot]
  unfold att
  rw [hm]
  rw [Fintype.sum_of_injective f hf (fun k => Ideal.exp (s (f k) - ⨆ i, s i) * v (f k))
    (fun i => Ideal.exp (s i - ⨆ i, s i) * v i) (fun i h => by rw [h0 i h, zero_mul]) (fun _ => rfl)]
  rw [Fintype.sum_of_injective f hf (fun k => Ideal.exp (s (f k) - ⨆ i, s i))
    (fun i => Ideal.exp (s i - ⨆ i, s i)) h0 (fun _ => rfl)]

theorem inv_ne_top (x : EReal) : x⁻¹ ≠ ⊤ := by
  induction x with
  | bot => simp
  | top => simp
  | coe r => rw [← EReal.coe_inv]; exact EReal.coe_ne_top _

/-- A finite nonnegative factor moves out of a sum. -/
theorem sum_mul {ι : Type} (t : Finset ι) (g : ι → EReal) (c : EReal) (h0 : 0 ≤ c) (h1 : c ≠ ⊤) :
    (∑ k ∈ t, g k) * c = ∑ k ∈ t, g k * c := by
  classical
  induction t using Finset.induction_on with
  | empty => simp
  | insert a t ha ih => rw [Finset.sum_insert ha, Finset.sum_insert ha, EReal.right_distrib_of_nonneg_of_ne_top h0 h1, ih]

/-- Where no score is plus infinity and some score is not minus infinity, the weights do not sum to zero. -/
theorem den_ne_zero {ι : Type} [Fintype ι] (s : ι → EReal) (h1 : ∀ k, s k ≠ ⊤) (i : ι) (h2 : s i ≠ ⊥) :
    (∑ k, Ideal.exp (s k - ⨆ i, s i)) ≠ 0 := by
  haveI : Nonempty ι := ⟨i⟩
  obtain ⟨k, hk⟩ := exists_eq_ciSup_of_finite (f := s)
  have hb : s k ≠ ⊥ := fun h => h2 (le_bot_iff.mp (by rw [← h, hk]; exact le_iSup s i))
  have h : Ideal.exp (s k - ⨆ i, s i) = 1 := by
    rw [← hk]
    generalize hx : s k = x
    have ht := h1 k
    rw [hx] at hb ht
    induction x with
    | bot => exact absurd rfl hb
    | top => exact absurd rfl ht
    | coe r => rw [← EReal.coe_sub, sub_self, Ideal.exp_coe, Real.exp_zero]; rfl
  have hle : (1 : EReal) ≤ ∑ k, Ideal.exp (s k - ⨆ i, s i) := by
    rw [← h]
    exact Finset.single_le_sum (f := fun k => Ideal.exp (s k - ⨆ i, s i)) (fun k _ => exp_nonneg _) (Finset.mem_univ k)
  exact (lt_of_lt_of_le zero_lt_one hle).ne'

/-- Attention with each weight divided, where the weights do not sum to zero. -/
theorem att_eq {ι : Type} [Fintype ι] (s v : ι → EReal) (h1 : ∀ k, s k ≠ ⊤) (i : ι) (h2 : s i ≠ ⊥) :
    (∑ k, Ideal.div (Ideal.exp (s k - ⨆ i, s i)) (∑ k, Ideal.exp (s k - ⨆ i, s i)) * v k) = att s v := by
  have h0 := den_ne_zero s h1 i h2
  unfold att Ideal.div
  rw [if_neg h0, sum_mul _ _ _ (EReal.inv_nonneg_of_nonneg (Finset.sum_nonneg fun k _ => exp_nonneg _)) (inv_ne_top _)]
  exact Finset.sum_congr rfl fun k _ => by rw [if_neg h0, mul_assoc, mul_comm (_⁻¹), ← mul_assoc]

/-- The supremum over a context key or a key of one of three blocks, as a nested maximum. -/
theorem iSup_blocks {n : ℕ} (c : Fin n → EReal) (b : Fin 3 → Fin n → EReal) :
    (⨆ i : Fin n ⊕ (Fin 3 × Fin n), Sum.elim c (fun p => b p.1 p.2) i)
      = max (max (max (⨆ k, c k) (⨆ k, b 0 k)) (⨆ k, b 1 k)) (⨆ k, b 2 k) := by
  rw [iSup_sum, iSup_prod]
  have h3 : ∀ g : Fin 3 → EReal, (⨆ i, g i) = max (max (g 0) (g 1)) (g 2) := fun g =>
    le_antisymm (iSup_le fun i => by fin_cases i <;> simp)
      (max_le (max_le (le_iSup g 0) (le_iSup g 1)) (le_iSup g 2))
  rw [h3]
  show max (⨆ k, c k) _ = _
  rw [← max_assoc, ← max_assoc]
  rfl

/-- The sum over such keys, as a sum of four. -/
theorem sum_blocks {n : ℕ} (g : Fin n ⊕ (Fin 3 × Fin n) → EReal) :
    (∑ i, g i) = (∑ k, g (.inl k)) + (∑ k, g (.inr (0, k))) + (∑ k, g (.inr (1, k))) + ∑ k, g (.inr (2, k)) := by
  rw [Fintype.sum_sum_type, Fintype.sum_prod_type, Fin.sum_univ_three, ← add_assoc, ← add_assoc]

/-- A row's maximum from minus infinity is the supremum. -/
theorem fold_max {n : ℕ} (g : Fin n → EReal) : (Finset.univ : Finset (Fin n)).fold max ⊥ g = ⨆ k, g k :=
  Finset.sup_univ_eq_iSup g

end Cert.NaMath
-- ==== Proof.NaBias.lean ====
/-
  The bias the host prepares for the neighbourhood attention, block by block. For each of the eight latent row blocks the
  host lays the 31-column tiles of the relative bias table out over the twelve key rows of the block's slab, one query
  row at a time, with a tile of −∞ where a key row lies outside the query row's window. Here each block's line of host
  operations is read as that arrangement.
-/
module

public import proofs.«01_k».proof.Proof.Common
public import proofs.«01_k».proof.Proof.Gen.KernelIdeal.Frame
public import Idealize.ShloMosaic.Lib.StableHlo.RunRead

@[expose] public section

set_option maxRecDepth 20000

noncomputable section

namespace Cert.KernelIdeal.NaBias

open Idealize.ShloMosaic Idealize.ShloMosaic.TcCoe Idealize.ShloMosaic.StableHlo
open Idealize.ShloMosaic.ValueIdx Idealize.ShloMosaic.Pipeline
open Cert.KernelIdeal.Gen

/-- The host operations before the kernel, in order. -/
def ops : List (HloOp τ sig (Elt Ideal)) := List.flatten [hostOps0, hostOps0_1, hostOps0_2]

/-- The line of latent block `k`: 69 operations. -/
def blk (k : Nat) : List (HloOp τ sig (Elt Ideal)) := (ops.drop (19 + 69 * k)).take 69

/-- The first key row of the window of query row `r`. -/
def winRow (r : Nat) : Nat := min (r - 4) 24

/-- The first key row of the slab of latent block `k`. -/
def slabRow (k : Nat) : Nat := 4 * min (k - 1) 5

/-- Which tile of the table lies at key row `n` of the slab for query row `a` of block `k`; 15 where there is none. -/
def rel (k a n : Nat) : Nat :=
  if winRow (4 * k + a) ≤ slabRow k + n ∧ slabRow k + n < winRow (4 * k + a) + 8 then slabRow k + n + 7 - (4 * k + a) else 15

/-- Tile `r` of the tiles `w`, or the filler `z` where there is no such tile. -/
def tile (w : FVec Ideal S4x15x64x64 .f32) (z : FVec Ideal S4x64x64 .f32) (r : Nat) : FVec Ideal S4x64x64 .f32 :=
  if h : S4x15x64x64.Slices ![0, r, 0, 0] S4x1x64x64 then
    fun i => shapeCast S4x64x64 (extractStridedSlice S4x1x64x64 ![0, r, 0, 0] w h) shapeCasts_S4x1x64x64_S4x64x64 i
  else z

/-- The twelve tiles `x` side by side. -/
def cat12 (x : Fin 12 → FVec Ideal S4x64x64 .f32) : FVec Ideal S4x64x768 .f32 :=
  concatenate S4x64x768 2 [⟨S4x64x64, x 0⟩, ⟨S4x64x64, x 1⟩, ⟨S4x64x64, x 2⟩, ⟨S4x64x64, x 3⟩, ⟨S4x64x64, x 4⟩, ⟨S4x64x64, x 5⟩, ⟨S4x64x64, x 6⟩, ⟨S4x64x64, x 7⟩, ⟨S4x64x64, x 8⟩, ⟨S4x64x64, x 9⟩, ⟨S4x64x64, x 10⟩, ⟨S4x64x64, x 11⟩]
    concatenates_S4x64x64_S4x64x64_S4x64x64_S4x64x64_S4x64x64_S4x64x64_S4x64x64_S4x64x64_S4x64x64_S4x64x64_S4x64x64_S4x64x64_S4x64x768_d2

/-- The four rows of tiles `x` one under the other. -/
def cat4 (x : Fin 4 → FVec Ideal S4x64x768 .f32) : FVec Ideal S4x256x768 .f32 :=
  concatenate S4x256x768 1 [⟨S4x64x768, x 0⟩, ⟨S4x64x768, x 1⟩, ⟨S4x64x768, x 2⟩, ⟨S4x64x768, x 3⟩]
    concatenates_S4x64x768_S4x64x768_S4x64x768_S4x64x768_S4x256x768_d1

/-- Block `k`: its four query rows of twelve tiles each. -/
def block (w : FVec Ideal S4x15x64x64 .f32) (z : FVec Ideal S4x64x64 .f32) (k : Nat) : FVec Ideal S4x256x768 .f32 :=
  cat4 fun a => cat12 fun n => tile w z (rel k a.val n.val)

theorem tile_of (w : FVec Ideal S4x15x64x64 .f32) (z : FVec Ideal S4x64x64 .f32) (r : Nat)
    (h : S4x15x64x64.Slices ![0, r, 0, 0] S4x1x64x64) : tile w z r =
      fun i => shapeCast S4x64x64 (extractStridedSlice S4x1x64x64 ![0, r, 0, 0] w h) shapeCasts_S4x1x64x64_S4x64x64 i :=
  dif_pos h

theorem tile_none (w : FVec Ideal S4x15x64x64 .f32) (z : FVec Ideal S4x64x64 .f32) : tile w z 15 = z :=
  dif_neg (by decide)

/-- A row of tiles is known from its pieces. -/
theorem cat12_of (x : Fin 12 → FVec Ideal S4x64x64 .f32) {y0 y1 y2 y3 y4 y5 y6 y7 y8 y9 y10 y11 : FVec Ideal S4x64x64 .f32}
    (h0 : y0 = x 0) (h1 : y1 = x 1) (h2 : y2 = x 2) (h3 : y3 = x 3) (h4 : y4 = x 4) (h5 : y5 = x 5) (h6 : y6 = x 6) (h7 : y7 = x 7) (h8 : y8 = x 8) (h9 : y9 = x 9) (h10 : y10 = x 10) (h11 : y11 = x 11) :
    concatenate S4x64x768 2 [⟨S4x64x64, y0⟩, ⟨S4x64x64, y1⟩, ⟨S4x64x64, y2⟩, ⟨S4x64x64, y3⟩, ⟨S4x64x64, y4⟩, ⟨S4x64x64, y5⟩, ⟨S4x64x64, y6⟩, ⟨S4x64x64, y7⟩, ⟨S4x64x64, y8⟩, ⟨S4x64x64, y9⟩, ⟨S4x64x64, y10⟩, ⟨S4x64x64, y11⟩]
      concatenates_S4x64x64_S4x64x64_S4x64x64_S4x64x64_S4x64x64_S4x64x64_S4x64x64_S4x64x64_S4x64x64_S4x64x64_S4x64x64_S4x64x64_S4x64x768_d2 = cat12 x := by
  subst h0 h1 h2 h3 h4 h5 h6 h7 h8 h9 h10 h11; rfl

/-- A block is known from its rows. -/
theorem cat4_of (x : Fin 4 → FVec Ideal S4x64x768 .f32) {y0 y1 y2 y3 : FVec Ideal S4x64x768 .f32}
    (h0 : y0 = x 0) (h1 : y1 = x 1) (h2 : y2 = x 2) (h3 : y3 = x 3) :
    concatenate S4x256x768 1 [⟨S4x64x768, y0⟩, ⟨S4x64x768, y1⟩, ⟨S4x64x768, y2⟩, ⟨S4x64x768, y3⟩]
      concatenates_S4x64x768_S4x64x768_S4x64x768_S4x64x768_S4x256x768_d1 = cat4 x := by
  subst h0 h1 h2 h3; rfl

set_option maxHeartbeats 64000000 in
/-- What each block's line leaves in its result. -/
theorem blks (W : Valuation τ sig (Elt Ideal)) :
    after (blk 0) W (Proc.devRef .tc main_v77) = block (W (Proc.devRef .tc main_v6)) (W (Proc.devRef .tc main_v7)) 0 ∧
    after (blk 1) W (Proc.devRef .tc main_v146) = block (W (Proc.devRef .tc main_v6)) (W (Proc.devRef .tc main_v7)) 1 ∧
    after (blk 2) W (Proc.devRef .tc main_v215) = block (W (Proc.devRef .tc main_v6)) (W (Proc.devRef .tc main_v7)) 2 ∧
    after (blk 3) W (Proc.devRef .tc main_v284) = block (W (Proc.devRef .tc main_v6)) (W (Proc.devRef .tc main_v7)) 3 ∧
    after (blk 4) W (Proc.devRef .tc main_v353) = block (W (Proc.devRef .tc main_v6)) (W (Proc.devRef .tc main_v7)) 4 ∧
    after (blk 5) W (Proc.devRef .tc main_v422) = block (W (Proc.devRef .tc main_v6)) (W (Proc.devRef .tc main_v7)) 5 ∧
    after (blk 6) W (Proc.devRef .tc main_v491) = block (W (Proc.devRef .tc main_v6)) (W (Proc.devRef .tc main_v7)) 6 ∧
    after (blk 7) W (Proc.devRef .tc main_v560) = block (W (Proc.devRef .tc main_v6)) (W (Proc.devRef .tc main_v7)) 7 := by
  refine ⟨?_, ?_, ?_, ?_, ?_, ?_, ?_, ?_⟩
  all_goals
    after_reads_simp
    refine cat4_of _ ?_ ?_ ?_ ?_
  all_goals
    dsimp only [Matrix.cons_val]
    after_reads_simp
    refine cat12_of _ ?_ ?_ ?_ ?_ ?_ ?_ ?_ ?_ ?_ ?_ ?_ ?_
  all_goals
    dsimp only [Matrix.cons_val]
    after_reads_simp
    first
      | exact (tile_none _ _).symm
      | exact (tile_of _ _ _ _).symm

set_option maxHeartbeats 64000000 in
/-- The later blocks' lines leave a block's result alone. -/
theorem kept (W : Valuation τ sig (Elt Ideal)) :
    after ((ops.drop (19 + 69 * 1)).take (69 * 7)) W (Proc.devRef .tc main_v77) = W (Proc.devRef .tc main_v77) ∧
    after ((ops.drop (19 + 69 * 2)).take (69 * 6)) W (Proc.devRef .tc main_v146) = W (Proc.devRef .tc main_v146) ∧
    after ((ops.drop (19 + 69 * 3)).take (69 * 5)) W (Proc.devRef .tc main_v215) = W (Proc.devRef .tc main_v215) ∧
    after ((ops.drop (19 + 69 * 4)).take (69 * 4)) W (Proc.devRef .tc main_v284) = W (Proc.devRef .tc main_v284) ∧
    after ((ops.drop (19 + 69 * 5)).take (69 * 3)) W (Proc.devRef .tc main_v353) = W (Proc.devRef .tc main_v353) ∧
    after ((ops.drop (19 + 69 * 6)).take (69 * 2)) W (Proc.devRef .tc main_v422) = W (Proc.devRef .tc main_v422) ∧
    after ((ops.drop (19 + 69 * 7)).take (69 * 1)) W (Proc.devRef .tc main_v491) = W (Proc.devRef .tc main_v491) ∧
    after ((ops.drop (19 + 69 * 8)).take (69 * 0)) W (Proc.devRef .tc main_v560) = W (Proc.devRef .tc main_v560) := by
  refine ⟨?_, ?_, ?_, ?_, ?_, ?_, ?_, ?_⟩ <;> after_reads_simp

set_option maxHeartbeats 64000000 in
/-- The blocks' lines leave the tiles and the filler alone. -/
theorem kept_tiles (W : Valuation τ sig (Elt Ideal)) :
    after ((ops.drop 19).take (69 * 0)) W (Proc.devRef .tc main_v6) = W (Proc.devRef .tc main_v6) ∧
    after ((ops.drop 19).take (69 * 0)) W (Proc.devRef .tc main_v7) = W (Proc.devRef .tc main_v7) ∧
    after ((ops.drop 19).take (69 * 1)) W (Proc.devRef .tc main_v6) = W (Proc.devRef .tc main_v6) ∧
    after ((ops.drop 19).take (69 * 1)) W (Proc.devRef .tc main_v7) = W (Proc.devRef .tc main_v7) ∧
    after ((ops.drop 19).take (69 * 2)) W (Proc.devRef .tc main_v6) = W (Proc.devRef .tc main_v6) ∧
    after ((ops.drop 19).take (69 * 2)) W (Proc.devRef .tc main_v7) = W (Proc.devRef .tc main_v7) ∧
    after ((ops.drop 19).take (69 * 3)) W (Proc.devRef .tc main_v6) = W (Proc.devRef .tc main_v6) ∧
    after ((ops.drop 19).take (69 * 3)) W (Proc.devRef .tc main_v7) = W (Proc.devRef .tc main_v7) ∧
    after ((ops.drop 19).take (69 * 4)) W (Proc.devRef .tc main_v6) = W (Proc.devRef .tc main_v6) ∧
    after ((ops.drop 19).take (69 * 4)) W (Proc.devRef .tc main_v7) = W (Proc.devRef .tc main_v7) ∧
    after ((ops.drop 19).take (69 * 5)) W (Proc.devRef .tc main_v6) = W (Proc.devRef .tc main_v6) ∧
    after ((ops.drop 19).take (69 * 5)) W (Proc.devRef .tc main_v7) = W (Proc.devRef .tc main_v7) ∧
    after ((ops.drop 19).take (69 * 6)) W (Proc.devRef .tc main_v6) = W (Proc.devRef .tc main_v6) ∧
    after ((ops.drop 19).take (69 * 6)) W (Proc.devRef .tc main_v7) = W (Proc.devRef .tc main_v7) ∧
    after ((ops.drop 19).take (69 * 7)) W (Proc.devRef .tc main_v6) = W (Proc.devRef .tc main_v6) ∧
    after ((ops.drop 19).take (69 * 7)) W (Proc.devRef .tc main_v7) = W (Proc.devRef .tc main_v7) := by
  refine ⟨?_, ?_, ?_, ?_, ?_, ?_, ?_, ?_, ?_, ?_, ?_, ?_, ?_, ?_, ?_, ?_⟩ <;> after_reads_simp

/-- A layer of the bias, with its block axis. -/
def layer (x : FVec Ideal S4x256x768 .f32) : FVec Ideal S4x1x256x768 .f32 :=
  broadcastInDim S4x1x256x768 ![0, 2, 3] bcast_S4x256x768_S4x1x256x768_0_2_3 x

/-- The nine layers of the bias. -/
def cat9 (x : Fin 9 → FVec Ideal S4x256x768 .f32) : FVec Ideal S4x9x256x768 .f32 :=
  concatenate S4x9x256x768 1 [⟨S4x1x256x768, layer (x 0)⟩, ⟨S4x1x256x768, layer (x 1)⟩, ⟨S4x1x256x768, layer (x 2)⟩, ⟨S4x1x256x768, layer (x 3)⟩, ⟨S4x1x256x768, layer (x 4)⟩, ⟨S4x1x256x768, layer (x 5)⟩, ⟨S4x1x256x768, layer (x 6)⟩, ⟨S4x1x256x768, layer (x 7)⟩, ⟨S4x1x256x768, layer (x 8)⟩]
    concatenates_S4x1x256x768_S4x1x256x768_S4x1x256x768_S4x1x256x768_S4x1x256x768_S4x1x256x768_S4x1x256x768_S4x1x256x768_S4x1x256x768_S4x9x256x768_d1

/-- The bias is known from its layers. -/
theorem cat9_of (x : Fin 9 → FVec Ideal S4x256x768 .f32) {y0 y1 y2 y3 y4 y5 y6 y7 y8 : FVec Ideal S4x1x256x768 .f32}
    (h0 : y0 = layer (x 0)) (h1 : y1 = layer (x 1)) (h2 : y2 = layer (x 2)) (h3 : y3 = layer (x 3)) (h4 : y4 = layer (x 4)) (h5 : y5 = layer (x 5)) (h6 : y6 = layer (x 6)) (h7 : y7 = layer (x 7)) (h8 : y8 = layer (x 8)) :
    concatenate S4x9x256x768 1 [⟨S4x1x256x768, y0⟩, ⟨S4x1x256x768, y1⟩, ⟨S4x1x256x768, y2⟩, ⟨S4x1x256x768, y3⟩, ⟨S4x1x256x768, y4⟩, ⟨S4x1x256x768, y5⟩, ⟨S4x1x256x768, y6⟩, ⟨S4x1x256x768, y7⟩, ⟨S4x1x256x768, y8⟩]
      concatenates_S4x1x256x768_S4x1x256x768_S4x1x256x768_S4x1x256x768_S4x1x256x768_S4x1x256x768_S4x1x256x768_S4x1x256x768_S4x1x256x768_S4x9x256x768_d1 = cat9 x := by
  subst h0 h1 h2 h3 h4 h5 h6 h7 h8; rfl

/-- The layers from the blocks' results. -/
def layers (W : Valuation τ sig (Elt Ideal)) : Fin 9 → FVec Ideal S4x256x768 .f32 :=
  ![W (Proc.devRef .tc main_v8), W (Proc.devRef .tc main_v77), W (Proc.devRef .tc main_v146), W (Proc.devRef .tc main_v215), W (Proc.devRef .tc main_v284), W (Proc.devRef .tc main_v353), W (Proc.devRef .tc main_v422), W (Proc.devRef .tc main_v491), W (Proc.devRef .tc main_v560)]

set_option maxHeartbeats 64000000 in
/-- The last ten operations put the nine layers together. -/
theorem tail (W : Valuation τ sig (Elt Ideal)) :
    after (ops.drop 571) W (Proc.devRef .tc main_v570) = cat9 (layers W) := by
  after_reads_simp
  refine cat9_of _ ?_ ?_ ?_ ?_ ?_ ?_ ?_ ?_ ?_
  all_goals
    dsimp only [Matrix.cons_val]
    after_reads_simp
    rfl

end Cert.KernelIdeal.NaBias

end
-- ==== Proof.NaBiasAt.lean ====
/-
  The bias of the neighbourhood attention read at an index: for head `h`, query row block `b`, query `q` of the block and
  key `k` of the slab, −∞ where the key lies outside the query's window, and otherwise the relative bias table's entry
  at the two offsets.
-/
module

public import proofs.«01_k».proof.Proof.NaBias

@[expose] public section

set_option maxRecDepth 20000

noncomputable section

namespace Cert.KernelIdeal.NaBias

open Idealize.ShloMosaic Idealize.ShloMosaic.TcCoe Idealize.ShloMosaic.StableHlo
open Idealize.ShloMosaic.ValueIdx Idealize.ShloMosaic.Pipeline
open Cert.KernelIdeal.Gen

/-! ## The tiles -/

/-- The column window of query column `q` starts at this key column. -/
def winCol (q : Nat) : Nat := min (q - 8) 48

/-- The key column's offset from the query's, clipped to the table. -/
def relCol (q k : Nat) : Nat := min (k + 15 - q) 30

/-- The window's table, in words. -/
theorem lit1_at : ∀ q k : Fin 64, lit1 ⟨64 * q.val + k.val, by omega⟩
    = if winCol q.val ≤ k.val ∧ k.val < winCol q.val + 16 then 1#1 else 0#1 := by decide +kernel

/-- The table of column offsets. -/
theorem lit0_at : ∀ q k : Fin 64, lit0 ⟨64 * q.val + k.val, by omega⟩ = BitVec.ofNat 32 (relCol q.val k.val) := by
  decide +kernel

/-- The tiles gathered from the bias table at an index. -/
theorem gather_tiles (x : FVec Ideal S4x15x31 .f32) (idx : IVec S64x64x1 32) (h : Fin 4) (t : Fin 15) (q k : Fin 64) :
    Host.gather gather_S4x15x31_S64x64x1_S4x15x64x64_01_2_n_n_2_2_4151 x idx (ix4 h t q k)
      = x (ix3 h t ⟨min (idx (ix3 q k 0)).toInt.toNat 30, by omega⟩) := by
  unfold Host.gather
  congr 1
  funext a
  refine Fin.ext ?_
  match a with
  | ⟨0, _⟩ => show 0 + 0 + h.val = h.val; omega
  | ⟨1, _⟩ => show 0 + 0 + t.val = t.val; omega
  | ⟨2, _⟩ =>
    have e : gather_S4x15x31_S64x64x1_S4x15x64x64_01_2_n_n_2_2_4151.siIdx (ix4 h t q k) ⟨0, by decide⟩ = ix3 q k 0 := by
      funext b
      match b with
      | ⟨0, _⟩ => rfl
      | ⟨1, _⟩ => rfl
      | ⟨2, _⟩ => rfl
    show min (idx (gather_S4x15x31_S64x64x1_S4x15x64x64_01_2_n_n_2_2_4151.siIdx (ix4 h t q k) ⟨0, _⟩)).toInt.toNat (31 - 1) + 0 + 0 = _
    rw [e]; rfl

/-- The tiles the host makes of the bias table. -/
def tiles (x : FVec Ideal S4x15x31 .f32) : FVec Ideal S4x15x64x64 .f32 :=
  select (broadcastInDim S4x15x64x64 ![0, 1, 2, 3] bcast_S1x1x64x64_S4x15x64x64_0_1_2_3
      (broadcastInDim S1x1x64x64 ![2, 3] bcast_S64x64_S1x1x64x64_2_3 fun i => lit1 (S64x64.rowMajor i)))
    (Host.gather gather_S4x15x31_S64x64x1_S4x15x64x64_01_2_n_n_2_2_4151 x
      (broadcastInDim S64x64x1 ![0, 1] bcast_S64x64_S64x64x1_0_1
        (select (constantI S64x64 1 0#1) (addi (fun i => lit0 (S64x64.rowMajor i))
          (broadcastInDim S64x64 ![] bcast_S_S64x64 (constantI S_ 32 31#32))) fun i => lit0 (S64x64.rowMajor i))))
    (broadcastInDim S4x15x64x64 ![] bcast_S_S4x15x64x64 (constant S_ .f32 0xFF800000#32))

theorem rowMajor_64 (q k : Fin 64) : S64x64.rowMajor (ix2 q k) = (⟨64 * q.val + k.val, by omega⟩ : Fin 4096) := by
  refine Fin.ext ?_
  rw [Shape.rowMajor_val_two]
  show q.val * 64 + k.val = 64 * q.val + k.val
  omega

theorem bot_eq : Ideal.ofBits .f32 0xFF800000#32 = ⊥ := by simp [Ideal.ofBits, Ideal.ieee]

theorem relCol_toNat (q k : Fin 64) : min ((BitVec.ofNat 32 (relCol q.val k.val)).toInt.toNat) 30 = relCol q.val k.val := by
  revert q k; decide +kernel

/-- The tile of row offset `t` at query column `q` and key column `k`. -/
theorem tiles_apply (x : FVec Ideal S4x15x31 .f32) (h : Fin 4) (t : Fin 15) (q k : Fin 64) :
    tiles x (ix4 h t q k) = if winCol q.val ≤ k.val ∧ k.val < winCol q.val + 16
      then x (ix3 h t ⟨relCol q.val k.val, by unfold relCol; omega⟩) else ⊥ := by
  unfold tiles
  rw [select_apply, gather_tiles]
  have e1 : broadcastInDim S4x15x64x64 ![0, 1, 2, 3] bcast_S1x1x64x64_S4x15x64x64_0_1_2_3
      (broadcastInDim S1x1x64x64 ![2, 3] bcast_S64x64_S1x1x64x64_2_3 fun i => lit1 (S64x64.rowMajor i)) (ix4 h t q k)
      = lit1 (S64x64.rowMajor (ix2 q k)) := by
    rw [broadcastInDim_apply _ _ _ _ (ix4 (0 : Fin 1) (0 : Fin 1) q k) (fun a => match a with
      | ⟨0, _⟩ => rfl | ⟨1, _⟩ => rfl | ⟨2, _⟩ => rfl | ⟨3, _⟩ => rfl)]
    rw [broadcastInDim_apply _ _ _ _ (ix2 q k) (fun a => match a with | ⟨0, _⟩ => rfl | ⟨1, _⟩ => rfl)]
  have e2 : broadcastInDim S64x64x1 ![0, 1] bcast_S64x64_S64x64x1_0_1
        (select (constantI S64x64 1 0#1) (addi (fun i => lit0 (S64x64.rowMajor i))
          (broadcastInDim S64x64 ![] bcast_S_S64x64 (constantI S_ 32 31#32))) fun i => lit0 (S64x64.rowMajor i)) (ix3 q k 0)
      = lit0 (S64x64.rowMajor (ix2 q k)) := by
    rw [broadcastInDim_apply _ _ _ _ (ix2 q k) (fun a => match a with | ⟨0, _⟩ => rfl | ⟨1, _⟩ => rfl)]
    exact select_zero _ _
  have e3 : broadcastInDim S4x15x64x64 ![] bcast_S_S4x15x64x64 (constant (F := Ideal) S_ .f32 0xFF800000#32) (ix4 h t q k) = ⊥ :=
    bot_eq
  rw [e1, e3, rowMajor_64, lit1_at]
  have e4 : (⟨min ((broadcastInDim S64x64x1 ![0, 1] bcast_S64x64_S64x64x1_0_1
        (select (constantI S64x64 1 0#1) (addi (fun i => lit0 (S64x64.rowMajor i))
          (broadcastInDim S64x64 ![] bcast_S_S64x64 (constantI S_ 32 31#32))) fun i => lit0 (S64x64.rowMajor i)) (ix3 q k 0)).toInt.toNat) 30, by omega⟩ : Fin 31)
      = ⟨relCol q.val k.val, by unfold relCol; omega⟩ := by
    refine Fin.ext ?_
    show min _ 30 = relCol q.val k.val
    rw [e2, rowMajor_64, lit0_at, relCol_toNat]
  rw [e4]
  split
  · exact select_one _ _
  · exact select_zero _ _

/-- A tile at an index. -/
theorem tile_apply (w : FVec Ideal S4x15x64x64 .f32) (z : FVec Ideal S4x64x64 .f32) (r : Nat) (hr : r < 15) (h : Fin 4) (q k : Fin 64) :
    tile w z r (ix3 h q k) = w (ix4 h ⟨r, hr⟩ q k) := by
  have hs : S4x15x64x64.Slices ![0, r, 0, 0] S4x1x64x64 := by
    refine ⟨rfl, fun a => ?_⟩
    match a with
    | ⟨0, _⟩ => show 0 + 4 ≤ 4; omega
    | ⟨1, _⟩ => show r + 1 ≤ 15; omega
    | ⟨2, _⟩ => show 0 + 64 ≤ 64; omega
    | ⟨3, _⟩ => show 0 + 64 ≤ 64; omega
  rw [tile_of w z r hs]
  show shapeCast S4x64x64 _ _ (ix3 h q k) = _
  rw [shapeCast_apply _ _ (ix3 h q k) (ix4 h (0 : Fin 1) q k)
    (by rw [Shape.rowMajor_val_four, Shape.rowMajor_val_three]
        show ((h.val * 1 + 0) * 64 + q.val) * 64 + k.val = (h.val * 64 + q.val) * 64 + k.val; omega)]
  exact extractStridedSlice_apply _ _ _ _ (ix4 h ⟨r, hr⟩ q k) (fun a => match a with
    | ⟨0, _⟩ => by show h.val = 0 + h.val; omega
    | ⟨1, _⟩ => by show r = r + 0; omega
    | ⟨2, _⟩ => by show q.val = 0 + q.val; omega
    | ⟨3, _⟩ => by show k.val = 0 + k.val; omega)

/-! ## The concatenations -/

theorem cat12_apply (x : Fin 12 → FVec Ideal S4x64x64 .f32) (h : Fin 4) (q : Fin 64) (j : Fin 768) :
    cat12 x (ix3 h q j) = x ⟨j.val / 64, by omega⟩ (ix3 h q ⟨j.val % 64, by omega⟩) := by
  refine concatenate_ofFn_apply (t := S4x64x768) (s₁ := S4x64x64) 2 x
    concatenates_S4x64x64_S4x64x64_S4x64x64_S4x64x64_S4x64x64_S4x64x64_S4x64x64_S4x64x64_S4x64x64_S4x64x64_S4x64x64_S4x64x64_S4x64x768_d2
    rfl 64 rfl (ix3 h q j) ⟨j.val / 64, by omega⟩ rfl (ix3 h q ⟨j.val % 64, by omega⟩) rfl ?_
  intro b hb
  match b, hb with
  | ⟨0, _⟩, _ => rfl
  | ⟨1, _⟩, _ => rfl
  | ⟨2, _⟩, hb => exact absurd rfl hb

theorem cat4_apply (x : Fin 4 → FVec Ideal S4x64x768 .f32) (h : Fin 4) (q : Fin 256) (j : Fin 768) :
    cat4 x (ix3 h q j) = x ⟨q.val / 64, by omega⟩ (ix3 h ⟨q.val % 64, by omega⟩ j) := by
  refine concatenate_ofFn_apply (t := S4x256x768) (s₁ := S4x64x768) 1 x
    concatenates_S4x64x768_S4x64x768_S4x64x768_S4x64x768_S4x256x768_d1
    rfl 64 rfl (ix3 h q j) ⟨q.val / 64, by omega⟩ rfl (ix3 h ⟨q.val % 64, by omega⟩ j) rfl ?_
  intro b hb
  match b, hb with
  | ⟨0, _⟩, _ => rfl
  | ⟨1, _⟩, hb => exact absurd rfl hb
  | ⟨2, _⟩, _ => rfl

theorem cat9_apply (x : Fin 9 → FVec Ideal S4x256x768 .f32) (h : Fin 4) (b : Fin 9) (q : Fin 256) (j : Fin 768) :
    cat9 x (ix4 h b q j) = x b (ix3 h q j) := by
  refine (concatenate_ofFn_apply (t := S4x9x256x768) (s₁ := S4x1x256x768) 1 (fun n => layer (x n))
    concatenates_S4x1x256x768_S4x1x256x768_S4x1x256x768_S4x1x256x768_S4x1x256x768_S4x1x256x768_S4x1x256x768_S4x1x256x768_S4x1x256x768_S4x9x256x768_d1
    rfl 1 rfl (ix4 h b q j) b (by show b.val / 1 = b.val; omega) (ix4 h (0 : Fin 1) q j) (by show 0 = b.val % 1; omega) ?_).trans ?_
  · intro c hc
    match c, hc with
    | ⟨0, _⟩, _ => rfl
    | ⟨1, _⟩, hc => exact absurd rfl hc
    | ⟨2, _⟩, _ => rfl
    | ⟨3, _⟩, _ => rfl
  · exact broadcastInDim_apply _ _ _ _ (ix3 h q j) (fun a => match a with | ⟨0, _⟩ => rfl | ⟨1, _⟩ => rfl | ⟨2, _⟩ => rfl)

/-! ## The whole line -/

theorem after_take_add (a b : Nat) (W : Valuation τ sig (Elt Ideal)) :
    after (ops.take (a + b)) W = after ((ops.drop a).take b) (after (ops.take a) W) := by
  rw [List.take_add, after_append]

/-- The tiles and the filler before the blocks. -/
theorem head (W : Valuation τ sig (Elt Ideal)) :
    after (ops.take 19) W (Proc.devRef .tc main_v6) = tiles (W (Proc.devRef .tc main_arg1)) ∧
    after (ops.take 19) W (Proc.devRef .tc main_v7)
      = broadcastInDim S4x64x64 ![] bcast_S_S4x64x64 (constant (F := Ideal) S_ .f32 0xFF800000#32) ∧
    after (ops.take 571) W (Proc.devRef .tc main_v8)
      = broadcastInDim S4x256x768 ![] bcast_S_S4x256x768 (constant (F := Ideal) S_ .f32 0xFF800000#32) := by
  refine ⟨?_, ?_, ?_⟩ <;> after_reads_simp <;> rfl

/-- Block `k`'s result, from where it stands at the end of its line to the end of all. -/
theorem at_end (W : Valuation τ sig (Elt Ideal)) (k : Nat) (hk : k < 8) (r : Ref sig .tc) (x : r.ty.Contents (Elt Ideal))
    (h₁ : after (blk k) (after (ops.take (19 + 69 * k)) W) (Proc.devRef .tc r) = x)
    (h₂ : ∀ U : Valuation τ sig (Elt Ideal),
      after ((ops.drop (19 + 69 * (k + 1))).take (69 * (7 - k))) U (Proc.devRef .tc r) = U (Proc.devRef .tc r)) :
    after (ops.take 571) W (Proc.devRef .tc r) = x := by
  have e : 571 = 19 + 69 * (k + 1) + 69 * (7 - k) := by omega
  have e' : 19 + 69 * (k + 1) = 19 + 69 * k + 69 := by omega
  rw [e, after_take_add, h₂, e', after_take_add]
  exact h₁

/-- The tiles and the filler as block `k` finds them. -/
theorem found (W : Valuation τ sig (Elt Ideal)) (k : Fin 8) :
    after (ops.take (19 + 69 * k.val)) W (Proc.devRef .tc main_v6) = tiles (W (Proc.devRef .tc main_arg1)) ∧
    after (ops.take (19 + 69 * k.val)) W (Proc.devRef .tc main_v7)
      = broadcastInDim S4x64x64 ![] bcast_S_S4x64x64 (constant (F := Ideal) S_ .f32 0xFF800000#32) := by
  obtain ⟨a0, b0, a1, b1, a2, b2, a3, b3, a4, b4, a5, b5, a6, b6, a7, b7⟩ := kept_tiles (after (ops.take 19) W)
  rw [after_take_add]
  match k with
  | ⟨0, _⟩ => exact ⟨a0.trans (head W).1, b0.trans (head W).2.1⟩
  | ⟨1, _⟩ => exact ⟨a1.trans (head W).1, b1.trans (head W).2.1⟩
  | ⟨2, _⟩ => exact ⟨a2.trans (head W).1, b2.trans (head W).2.1⟩
  | ⟨3, _⟩ => exact ⟨a3.trans (head W).1, b3.trans (head W).2.1⟩
  | ⟨4, _⟩ => exact ⟨a4.trans (head W).1, b4.trans (head W).2.1⟩
  | ⟨5, _⟩ => exact ⟨a5.trans (head W).1, b5.trans (head W).2.1⟩
  | ⟨6, _⟩ => exact ⟨a6.trans (head W).1, b6.trans (head W).2.1⟩
  | ⟨7, _⟩ => exact ⟨a7.trans (head W).1, b7.trans (head W).2.1⟩

/-- Block `k` of the bias. -/
def latent (x : FVec Ideal S4x15x31 .f32) (k : Nat) : FVec Ideal S4x256x768 .f32 :=
  block (tiles x) (broadcastInDim S4x64x64 ![] bcast_S_S4x64x64 (constant (F := Ideal) S_ .f32 0xFF800000#32)) k

theorem block_found (W : Valuation τ sig (Elt Ideal)) (k : Nat) (hk : k < 8) :
    block (after (ops.take (19 + 69 * k)) W (Proc.devRef .tc main_v6))
      (after (ops.take (19 + 69 * k)) W (Proc.devRef .tc main_v7)) k = latent (W (Proc.devRef .tc main_arg1)) k := by
  rw [(found W ⟨k, hk⟩).1, (found W ⟨k, hk⟩).2]; rfl

/-- The layers, each known from its own buffer. -/
theorem layers_of (U : Valuation τ sig (Elt Ideal)) (z : FVec Ideal S4x256x768 .f32) (f : Fin 8 → FVec Ideal S4x256x768 .f32)
    (h : U (Proc.devRef .tc main_v8) = z) (h0 : U (Proc.devRef .tc main_v77) = f 0) (h1 : U (Proc.devRef .tc main_v146) = f 1)
    (h2 : U (Proc.devRef .tc main_v215) = f 2) (h3 : U (Proc.devRef .tc main_v284) = f 3) (h4 : U (Proc.devRef .tc main_v353) = f 4)
    (h5 : U (Proc.devRef .tc main_v422) = f 5) (h6 : U (Proc.devRef .tc main_v491) = f 6) (h7 : U (Proc.devRef .tc main_v560) = f 7) :
    layers U = Fin.cons z f := by
  funext b
  match b with
  | ⟨0, _⟩ => exact h
  | ⟨1, _⟩ => exact h0
  | ⟨2, _⟩ => exact h1
  | ⟨3, _⟩ => exact h2
  | ⟨4, _⟩ => exact h3
  | ⟨5, _⟩ => exact h4
  | ⟨6, _⟩ => exact h5
  | ⟨7, _⟩ => exact h6
  | ⟨8, _⟩ => exact h7

section Line

attribute [local irreducible] ops blk latent

/-- The whole bias: the nine layers. -/
theorem all (W : Valuation τ sig (Elt Ideal)) :
    after ops W (Proc.devRef .tc main_v570) = cat9 (Fin.cons
      (broadcastInDim S4x256x768 ![] bcast_S_S4x256x768 (constant (F := Ideal) S_ .f32 0xFF800000#32))
      fun k : Fin 8 => latent (W (Proc.devRef .tc main_arg1)) k.val) := by
  have e : after ops W = after (ops.drop 571) (after (ops.take 571) W) := by
    rw [← after_append, List.take_append_drop]
  rw [e, tail]
  exact congrArg cat9 (layers_of _ _ (fun k : Fin 8 => latent (W (Proc.devRef .tc main_arg1)) k.val) (head W).2.2
    (at_end W 0 (by decide) main_v77 (latent _ 0) ((blks (after (ops.take (19 + 69 * 0)) W)).1.trans (block_found W 0 (by decide))) fun U => (kept U).1)
    (at_end W 1 (by decide) main_v146 (latent _ 1) ((blks (after (ops.take (19 + 69 * 1)) W)).2.1.trans (block_found W 1 (by decide))) fun U => (kept U).2.1)
    (at_end W 2 (by decide) main_v215 (latent _ 2) ((blks (after (ops.take (19 + 69 * 2)) W)).2.2.1.trans (block_found W 2 (by decide))) fun U => (kept U).2.2.1)
    (at_end W 3 (by decide) main_v284 (latent _ 3) ((blks (after (ops.take (19 + 69 * 3)) W)).2.2.2.1.trans (block_found W 3 (by decide))) fun U => (kept U).2.2.2.1)
    (at_end W 4 (by decide) main_v353 (latent _ 4) ((blks (after (ops.take (19 + 69 * 4)) W)).2.2.2.2.1.trans (block_found W 4 (by decide))) fun U => (kept U).2.2.2.2.1)
    (at_end W 5 (by decide) main_v422 (latent _ 5) ((blks (after (ops.take (19 + 69 * 5)) W)).2.2.2.2.2.1.trans (block_found W 5 (by decide))) fun U => (kept U).2.2.2.2.2.1)
    (at_end W 6 (by decide) main_v491 (latent _ 6) ((blks (after (ops.take (19 + 69 * 6)) W)).2.2.2.2.2.2.1.trans (block_found W 6 (by decide))) fun U => (kept U).2.2.2.2.2.2.1)
    (at_end W 7 (by decide) main_v560 (latent _ 7) ((blks (after (ops.take (19 + 69 * 7)) W)).2.2.2.2.2.2.2.trans (block_found W 7 (by decide))) fun U => (kept U).2.2.2.2.2.2.2))

end Line

/-- Layer `b` of the bias read at a query `q` and a key `j` of the slab. -/
def biasAt (x : FVec Ideal S4x15x31 .f32) (h : Fin 4) (b : Fin 9) (q : Fin 256) (j : Fin 768) : EReal :=
  if hw : 0 < b.val ∧ winRow (4 * (b.val - 1) + q.val / 64) ≤ slabRow (b.val - 1) + j.val / 64
      ∧ slabRow (b.val - 1) + j.val / 64 < winRow (4 * (b.val - 1) + q.val / 64) + 8
      ∧ winCol (q.val % 64) ≤ j.val % 64 ∧ j.val % 64 < winCol (q.val % 64) + 16 then
    x (ix3 h ⟨slabRow (b.val - 1) + j.val / 64 + 7 - (4 * (b.val - 1) + q.val / 64), by unfold winRow slabRow at *; omega⟩
      ⟨relCol (q.val % 64) (j.val % 64), by unfold relCol; omega⟩)
  else ⊥

theorem latent_apply (x : FVec Ideal S4x15x31 .f32) (h : Fin 4) (k : Fin 8) (q : Fin 256) (j : Fin 768) :
    latent x k.val (ix3 h q j) = biasAt x h k.succ q j := by
  unfold latent block
  rw [cat4_apply, cat12_apply]
  show tile _ _ (rel k.val (q.val / 64) (j.val / 64)) (ix3 h ⟨q.val % 64, _⟩ ⟨j.val % 64, _⟩) = _
  have hs : (k.succ).val - 1 = k.val := by simp
  unfold biasAt
  by_cases hr : winRow (4 * k.val + q.val / 64) ≤ slabRow k.val + j.val / 64
      ∧ slabRow k.val + j.val / 64 < winRow (4 * k.val + q.val / 64) + 8
  · have er : rel k.val (q.val / 64) (j.val / 64) = slabRow k.val + j.val / 64 + 7 - (4 * k.val + q.val / 64) := if_pos hr
    rw [tile_apply _ _ _ (by rw [er]; unfold winRow at hr; omega), tiles_apply]
    by_cases hc : winCol (q.val % 64) ≤ j.val % 64 ∧ j.val % 64 < winCol (q.val % 64) + 16
    · rw [if_pos hc, dif_pos ⟨by simp, by rw [hs]; exact hr.1, by rw [hs]; exact hr.2, hc.1, hc.2⟩]
      congr 2
      refine Fin.ext ?_
      show rel k.val (q.val / 64) (j.val / 64) = slabRow (k.succ.val - 1) + j.val / 64 + 7 - (4 * (k.succ.val - 1) + q.val / 64)
      rw [er, hs]
    · rw [if_neg hc, dif_neg (fun hn => hc ⟨hn.2.2.2.1, hn.2.2.2.2⟩)]
  · have er : rel k.val (q.val / 64) (j.val / 64) = 15 := if_neg hr
    rw [er, tile_none, dif_neg (fun hn => hr ⟨by have := hn.2.1; rwa [hs] at this, by have := hn.2.2.1; rwa [hs] at this⟩)]
    exact bot_eq

/-- The bias as the kernel finds it. -/
theorem bias_apply (m : (ℓ : Loc nD τ sig) → Buf (Elt Ideal) ℓ) (c : Dev nD) (h : Fin 4) (b : Fin 9) (q : Fin 256) (j : Fin 768) :
    (V m c main_v570 : FVec Ideal S4x9x256x768 .f32) (ix4 h b q j)
      = biasAt (m ((c : Thread nD τ).loc main_arg1)) h b q j := by
  refine (congrFun (all fun b => m (c, b)) (ix4 h b q j)).trans ?_
  rw [cat9_apply]
  cases b using Fin.cases with
  | zero =>
    unfold biasAt
    rw [dif_neg (fun hn => absurd hn.1 (lt_irrefl 0))]
    exact bot_eq
  | succ k => exact latent_apply _ h k q j

end Cert.KernelIdeal.NaBias

end
-- ==== Proof.NaSpec.lean ====
/-
  The attention that the kernel and its reference both compute, as one formula. A query's keys are the 256 context keys
  and the 32 × 64 latent keys; a latent query scores the latent keys of its 8 × 16 window with the relative bias added,
  every other latent key at minus infinity, and a context query scores no latent key at all.
-/
module

public import proofs.«01_k».proof.Proof.NaMath
public import proofs.«01_k».proof.Proof.NaBiasAt

@[expose] public section

noncomputable section

namespace Cert.NaSpec

open Cert.NaMath Idealize.ShloMosaic Idealize.ShloMosaic.ValueIdx
open Cert.KernelIdeal.NaBias (winRow winCol relCol slabRow)

abbrev SP : Shape := ⟨3, ![8, 2304, 6144]⟩
abbrev SR : Shape := ⟨3, ![4, 15, 31]⟩

/-- A context key, or a latent key's row and column. -/
abbrev Key := Fin 256 ⊕ (Fin 32 × Fin 64)

/-- The scale, as the number it names. -/
def scale : EReal := (((Real.sqrt 128)⁻¹ : ℝ) : EReal)

/-- The sequence position of a key. -/
def pos : Key → Fin 2304
  | .inl k => ⟨k.val, by omega⟩
  | .inr (R, C) => ⟨256 + 64 * R.val + C.val, by omega⟩

/-- The columns of the queries, keys and values of a head. -/
def colQ (h : Fin 4) (e : Fin 128) : Fin 6144 := ⟨2048 + 128 * h.val + e.val, by omega⟩
def colK (h : Fin 4) (e : Fin 128) : Fin 6144 := ⟨2560 + 128 * h.val + e.val, by omega⟩
def colV (h : Fin 4) (e : Fin 128) : Fin 6144 := ⟨3072 + 128 * h.val + e.val, by omega⟩

variable (P : FVec Ideal SP .bf16) (B : FVec Ideal SR .f32)

/-- The scaled product of a query and a key. -/
def dot (b : Fin 8) (h : Fin 4) (L K : Fin 2304) : EReal :=
  (∑ e : Fin 128, P (ix3 b L (colQ h e)) * P (ix3 b K (colK h e))) * scale

/-- The latent key `(R, C)` is in the window of the query at position `L`. -/
def InWin (L R C : ℕ) : Prop :=
  256 ≤ L ∧ winRow ((L - 256) / 64) ≤ R ∧ R < winRow ((L - 256) / 64) + 8
    ∧ winCol ((L - 256) % 64) ≤ C ∧ C < winCol ((L - 256) % 64) + 16

instance (L R C : ℕ) : Decidable (InWin L R C) := by unfold InWin; infer_instance

/-- The relative bias of a latent key. -/
def bias (h : Fin 4) (L R C : ℕ) : EReal :=
  B (ix3 h ⟨min (R + 7 - (L - 256) / 64) 14, by omega⟩ ⟨relCol ((L - 256) % 64) C, by unfold relCol; omega⟩)

/-- The score of a key. -/
def score (b : Fin 8) (h : Fin 4) (L : Fin 2304) : Key → EReal
  | .inl k => dot P b h L (pos (.inl k))
  | .inr (R, C) => if InWin L.val R.val C.val then dot P b h L (pos (.inr (R, C))) + bias B h L.val R.val C.val else ⊥

/-- The value of a key. -/
def value (b : Fin 8) (h : Fin 4) (e : Fin 128) (k : Key) : EReal := P (ix3 b (pos k) (colV h e))

/-- The attention of one head at one query. -/
def attn (b : Fin 8) (L : Fin 2304) (h : Fin 4) (e : Fin 128) : EReal := att (score P B b h L) (value P b h e)

/-! ## Finite arguments give finite scores -/

/-- Every entry of both arguments is a real number. -/
def Fin' : Prop := (∀ i, P i ≠ ⊤ ∧ P i ≠ ⊥) ∧ ∀ i, B i ≠ ⊤ ∧ B i ≠ ⊥

theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

theorem add_real {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

theorem sum_real {ι : Type} (t : Finset ι) (g : ι → EReal) (hg : ∀ i, g i ≠ ⊤ ∧ g i ≠ ⊥) :
    (∑ i ∈ t, g i) ≠ ⊤ ∧ (∑ i ∈ t, g i) ≠ ⊥ := by
  classical
  induction t using Finset.induction_on with
  | empty => simp
  | insert a t ha ih => rw [Finset.sum_insert ha]; exact add_real (hg a) ih

theorem dot_real (hP : Fin' P B) (b : Fin 8) (h : Fin 4) (L K : Fin 2304) : dot P b h L K ≠ ⊤ ∧ dot P b h L K ≠ ⊥ :=
  mul_real (sum_real _ _ fun _ => mul_real (hP.1 _) (hP.1 _)) ⟨EReal.coe_ne_top _, EReal.coe_ne_bot _⟩

theorem score_ne_top (hP : Fin' P B) (b : Fin 8) (h : Fin 4) (L : Fin 2304) (k : Key) : score P B b h L k ≠ ⊤ := by
  match k with
  | .inl k => exact (dot_real P B hP b h L _).1
  | .inr (R, C) =>
    show (if InWin L.val R.val C.val then dot P b h L (pos (.inr (R, C))) + bias B h L.val R.val C.val else ⊥) ≠ ⊤
    split
    · exact (add_real (dot_real P B hP b h L _) (hP.2 _)).1
    · exact bot_ne_top

theorem score_ne_bot (hP : Fin' P B) (b : Fin 8) (h : Fin 4) (L : Fin 2304) (k : Fin 256) : score P B b h L (.inl k) ≠ ⊥ :=
  (dot_real P B hP b h L _).2

/-! ## The keys a grid point of the kernel sees -/

/-- The keys of the context block and the three slab blocks of query block `n`. -/
def slabKey (n : Fin 9) : Fin 256 ⊕ (Fin 3 × Fin 256) → Key
  | .inl k => .inl k
  | .inr (j, k) => .inr (⟨slabRow (n.val - 1) + 4 * j.val + k.val / 64, by unfold slabRow; omega⟩, ⟨k.val % 64, by omega⟩)

theorem slabKey_inj (n : Fin 9) : Function.Injective (slabKey n) := by
  intro x y hxy
  match x, y with
  | .inl a, .inl b => exact congrArg _ (Sum.inl.inj hxy)
  | .inl a, .inr b => exact absurd hxy (by simp [slabKey])
  | .inr a, .inl b => exact absurd hxy (by simp [slabKey])
  | .inr (i, a), .inr (j, b) =>
    have h := Sum.inr.inj hxy
    have h1 := congrArg (fun p => p.1.val) h
    have h2 := congrArg (fun p => p.2.val) h
    dsimp only at h1 h2
    have ei : i = j := Fin.ext (by omega)
    have ea : a = b := Fin.ext (by omega)
    rw [ei, ea]

/-- Every key outside them scores minus infinity for a query of the block. -/
theorem slabKey_out (n : Fin 9) (b : Fin 8) (h : Fin 4) (L : Fin 2304) (hL : L.val / 256 = n.val) (k : Key)
    (hk : k ∉ Set.range (slabKey n)) : score P B b h L k = ⊥ := by
  match k with
  | .inl k => exact absurd ⟨.inl k, rfl⟩ hk
  | .inr (R, C) =>
    refine if_neg fun hw => hk ?_
    obtain ⟨h0, h1, h2, -, -⟩ := hw
    have hr : slabRow (n.val - 1) ≤ R.val ∧ R.val < slabRow (n.val - 1) + 12 := by
      unfold winRow at h1 h2
      unfold slabRow
      have := L.isLt
      omega
    refine ⟨.inr (⟨(R.val - slabRow (n.val - 1)) / 4, by omega⟩, ⟨64 * ((R.val - slabRow (n.val - 1)) % 4) + C.val, by omega⟩), ?_⟩
    refine congrArg Sum.inr (Prod.ext ?_ ?_)
    · refine Fin.ext ?_
      show slabRow (n.val - 1) + 4 * ((R.val - slabRow (n.val - 1)) / 4) + (64 * ((R.val - slabRow (n.val - 1)) % 4) + C.val) / 64 = R.val
      omega
    · refine Fin.ext ?_
      show (64 * ((R.val - slabRow (n.val - 1)) % 4) + C.val) % 64 = C.val
      omega

/-- The attention over the keys of the grid point is the attention. -/
theorem attn_slab (n : Fin 9) (b : Fin 8) (L : Fin 2304) (hL : L.val / 256 = n.val) (h : Fin 4) (e : Fin 128) :
    att (fun k => score P B b h L (slabKey n k)) (fun k => value P b h e (slabKey n k)) = attn P B b L h e :=
  att_comp (slabKey n) (slabKey_inj n) (score P B b h L) (value P b h e) (slabKey_out P B n b h L hL)

end Cert.NaSpec

end
-- ==== Proof.NaHead.lean ====
/-
  The attention kernel's body at a grid point: each of the four heads' stores is one and the same function of the head's
  columns of the staged blocks, and that function at an index is the attention of `NaMath` over the context keys and the
  three slab blocks' keys.
-/
module

public import proofs.«01_k».proof.Proof.Common
public import proofs.«01_k».proof.Proof.NaSpec
public import proofs.«01_k».proof.Proof.Gen.KernelIdeal.Value
public import Idealize.ShloMosaic.Lib.MatmulPlain
public import Idealize.ShloMosaic.Lib.Pipeline.CanonAppend

@[expose] public section

set_option maxRecDepth 16384

noncomputable section

namespace Cert.KernelIdeal.NaHead

open Cert.KernelIdeal Cert.KernelIdeal.Gen Cert.Common Cert.NaMath Idealize.ShloMosaic Idealize.ShloMosaic.TcCoe
open Idealize.ShloMosaic.ValueIdx
open Cert.NaSpec (scale)

section Any
variable {F : FTy → Type} [FloatOps F] [Named F]

/-- Scaled scores. -/
def sc (q k : Vec F S1x256x128 .bf16) : FVec F S256x256 .f32 :=
  mulf (matmul (F := F) dot_S256x128_S256x128_S256x256_1_1_0_0_n_n none
    (shapeCast S256x128 q shapeCasts_S1x256x128_S256x128 : FVec F S256x128 .bf16)
    (shapeCast S256x128 k shapeCasts_S1x256x128_S256x128 : FVec F S256x128 .bf16) (constant S256x256 .f32 0x00000000#32))
    (broadcast S256x256 (Named.named κ "s" 0x3DB504F3#32 : F .f32))

/-- Scaled scores plus a block of the bias. -/
def scb (q k : Vec F S1x256x128 .bf16) (b : Vec F S1x1x256x256 .f32) : FVec F S256x256 .f32 :=
  addf (sc q k) (shapeCast S256x256 b shapeCasts_S1x1x256x256_S256x256)

/-- Each row's maximum. -/
def mx (x : FVec F S256x256 .f32) : FVec F S256x1 .f32 :=
  shapeCast S256x1 (multiReduction .maximumf [1] S256 x 0xFF800000#32 reduces_S256x256_S256 (.inl rfl) rfl : FVec F S256 .f32)
    shapeCasts_S256_S256x1

/-- Each row's sum. -/
def sm (x : FVec F S256x256 .f32) : FVec F S256x1 .f32 :=
  shapeCast S256x1 (multiReduction .add [1] S256 x 0x00000000#32 reduces_S256x256_S256 (.inl rfl) rfl : FVec F S256 .f32)
    shapeCasts_S256_S256x1

/-- The weights, the row's maximum subtracted. -/
def wt (x : FVec F S256x256 .f32) (M : FVec F S256x1 .f32) : FVec F S256x256 .f32 :=
  exp (subf x (broadcastTo S256x256 M broadcasts_S256x1_S256x256))

/-- The weights times a block of values. -/
def pv (p : FVec F S256x256 .f32) (v : Vec F S1x256x128 .bf16) : FVec F S256x128 .f32 :=
  matmul (F := F) dot_S256x256_S256x128_S256x128_1_0_0_1_n_n none (truncf .bf16 p bitsLt_bf16_f32)
    (shapeCast S256x128 v shapeCasts_S1x256x128_S256x128 : FVec F S256x128 .bf16) (constant S256x128 .f32 0x00000000#32)

/-- The attention from the four blocks of scores and of values. -/
def mix (c s0 s1 s2 : FVec F S256x256 .f32) (vc v0 v1 v2 : Vec F S1x256x128 .bf16) : FVec F S1x256x128 .bf16 :=
  have M : FVec F S256x1 .f32 := maximumf (maximumf (maximumf (mx c) (mx s0)) (mx s1)) (mx s2)
  have D : FVec F S256x1 .f32 := addf (addf (addf (sm (wt c M)) (sm (wt s0 M))) (sm (wt s1 M))) (sm (wt s2 M))
  have o : FVec F S256x128 .f32 :=
    addf (addf (addf (addf (broadcast S256x128 (Scalar.ofBits .f32 0x00000000#32)) (pv (wt c M) vc)) (pv (wt s0 M) v0))
      (pv (wt s1 M) v1)) (pv (wt s2 M) v2)
  shapeCast S1x256x128 (truncf .bf16 (divf o (broadcastTo S256x128 D broadcasts_S256x1_S256x128)) bitsLt_bf16_f32 : FVec F S256x128 .bf16)
    shapeCasts_S256x128_S1x256x128

/-- One head. -/
def head (q kc k0 k1 k2 vc v0 v1 v2 : Vec F S1x256x128 .bf16) (b0 b1 b2 : Vec F S1x1x256x256 .f32) : FVec F S1x256x128 .bf16 :=
  mix (sc q kc) (scb q k0 b0) (scb q k1 b1) (scb q k2 b2) vc v0 v1 v2

variable (x0 x1 x2 x3 x4 x5 x6 x7 x8 : Vec F S1x256x512 .bf16) (x9 : Vec F S4x1x256x768 .f32)

/-- What the body leaves, head by head. -/
theorem out_eq : out0_10 x0 x1 x2 x3 x4 x5 x6 x7 x8 x9
    = View.canon [
      ⟨r0_12, head (View.ld x0 r0_12) (View.ld x1 r0_12) (View.ld x2 r0_12) (View.ld x3 r0_12) (View.ld x4 r0_12)
        (View.ld x5 r0_12) (View.ld x6 r0_12) (View.ld x7 r0_12) (View.ld x8 r0_12) (View.ld x9 r0_13) (View.ld x9 r0_14) (View.ld x9 r0_15)⟩,
      ⟨r0_8, head (View.ld x0 r0_8) (View.ld x1 r0_8) (View.ld x2 r0_8) (View.ld x3 r0_8) (View.ld x4 r0_8)
        (View.ld x5 r0_8) (View.ld x6 r0_8) (View.ld x7 r0_8) (View.ld x8 r0_8) (View.ld x9 r0_9) (View.ld x9 r0_10) (View.ld x9 r0_11)⟩,
      ⟨r0_4, head (View.ld x0 r0_4) (View.ld x1 r0_4) (View.ld x2 r0_4) (View.ld x3 r0_4) (View.ld x4 r0_4)
        (View.ld x5 r0_4) (View.ld x6 r0_4) (View.ld x7 r0_4) (View.ld x8 r0_4) (View.ld x9 r0_5) (View.ld x9 r0_6) (View.ld x9 r0_7)⟩,
      ⟨r0_0, head (View.ld x0 r0_0) (View.ld x1 r0_0) (View.ld x2 r0_0) (View.ld x3 r0_0) (View.ld x4 r0_0)
        (View.ld x5 r0_0) (View.ld x6 r0_0) (View.ld x7 r0_0) (View.ld x8 r0_0) (View.ld x9 r0_1) (View.ld x9 r0_2) (View.ld x9 r0_3)⟩] := rfl

end Any

/-! ## At an index -/

theorem sc_apply (q k : Vec Ideal S1x256x128 .bf16) (r c : Fin 256) :
    sc (F := Ideal) q k (ix2 r c) = (∑ e : Fin 128, q (ix3 0 r e) * k (ix3 0 c e)) * scale := by
  show FloatOps.matmul (F := Ideal) (φ₁ := .bf16) (φ₂ := .bf16) (DotDims.transposedRhs 256 128 256) none _ _ _ (ix2 r c) * scale = _
  rw [Ideal.matmul_transposedRhs_apply]
  have h : (constant (F := Ideal) S256x256 .f32 0x00000000#32) (ix2 r c) = (0 : EReal) := by
    show Ideal.ofBits .f32 0x00000000#32 = 0
    simp
  rw [h, zero_add]
  refine congrArg (· * scale) (Finset.sum_congr rfl fun e _ => ?_)
  rw [drop1_apply, drop1_apply]

theorem scb_apply (q k : Vec Ideal S1x256x128 .bf16) (b : Vec Ideal S1x1x256x256 .f32) (r c : Fin 256) :
    scb (F := Ideal) q k b (ix2 r c) = (∑ e : Fin 128, q (ix3 0 r e) * k (ix3 0 c e)) * scale + b (ix4 0 0 r c) := by
  show sc (F := Ideal) q k (ix2 r c) + shapeCast S256x256 b shapeCasts_S1x1x256x256_S256x256 (ix2 r c) = _
  rw [sc_apply, drop2_apply]

/-- A column read back from its flat form. -/
theorem col_apply (v : FVec Ideal S256 .f32) (r : Fin 256) :
    shapeCast S256x1 v shapeCasts_S256_S256x1 (ix2 r 0) = v (ix1 r) := by
  rw [shapeCast_apply v _ (ix2 r 0) (ix1 r)]
  rw [Shape.rowMajor_val_two, Shape.rowMajor_val_one]
  show r.val = r.val * 1 + 0
  omega

theorem mx_apply (x : FVec Ideal S256x256 .f32) (r : Fin 256) : mx (F := Ideal) x (ix2 r 0) = ⨆ k : Fin 256, x (ix2 r k) := by
  unfold mx
  refine (col_apply _ r).trans ((Ideal.multiReduction_maximumf_single x _ _ _ _ _).trans ?_)
  rw [show (FloatOps.ofBits (F := Ideal) .f32 0xFF800000#32 : EReal) = ⊥ from NaBias.bot_eq]
  refine (fold_max (n := 256) _).trans (iSup_congr fun k => ?_)
  exact congrArg x (funext fun a => by match a with | ⟨0, _⟩ => rfl | ⟨1, _⟩ => rfl)

theorem sm_apply (x : FVec Ideal S256x256 .f32) (r : Fin 256) : sm (F := Ideal) x (ix2 r 0) = ∑ k : Fin 256, x (ix2 r k) := by
  unfold sm
  refine (col_apply _ r).trans ((Ideal.multiReduction_add_single x _ _ _ _ _).trans ?_)
  refine Finset.sum_congr rfl fun k _ => ?_
  exact congrArg x (funext fun a => by match a with | ⟨0, _⟩ => rfl | ⟨1, _⟩ => rfl)

theorem wt_apply (x : FVec Ideal S256x256 .f32) (M : FVec Ideal S256x1 .f32) (r c : Fin 256) :
    wt (F := Ideal) x M (ix2 r c) = Ideal.exp (x (ix2 r c) - M (ix2 r 0)) := by
  show Ideal.exp (x (ix2 r c) - broadcastTo S256x256 M broadcasts_S256x1_S256x256 (ix2 r c)) = _
  rw [broadcastTo_apply M _ (ix2 r c) (ix2 r 0) (fun a => by match a with | ⟨0, _⟩ => rfl | ⟨1, _⟩ => rfl)]

theorem pv_apply (p : FVec Ideal S256x256 .f32) (v : Vec Ideal S1x256x128 .bf16) (r : Fin 256) (e : Fin 128) :
    pv (F := Ideal) p v (ix2 r e) = ∑ k : Fin 256, p (ix2 r k) * v (ix3 0 k e) := by
  show FloatOps.matmul (F := Ideal) (φ₁ := .bf16) (φ₂ := .bf16) (DotDims.plain 256 256 128) none _ _ (constant _ .f32 0x00000000#32) (ix2 r e) = _
  rw [mm_apply]
  refine Finset.sum_congr rfl fun k _ => ?_
  rw [drop1_apply]
  rfl

/-- The four blocks' attention is the attention over the keys of the four. -/
theorem mix_apply (c s0 s1 s2 : FVec Ideal S256x256 .f32) (vc v0 v1 v2 : Vec Ideal S1x256x128 .bf16) (r : Fin 256) (e : Fin 128) :
    mix (F := Ideal) c s0 s1 s2 vc v0 v1 v2 (ix3 0 r e)
      = att (Sum.elim (fun k : Fin 256 => c (ix2 r k)) fun p : Fin 3 × Fin 256 => (![s0, s1, s2] p.1 : FVec Ideal S256x256 .f32) (ix2 r p.2))
          (Sum.elim (fun k : Fin 256 => vc (ix3 0 k e)) fun p : Fin 3 × Fin 256 => (![v0, v1, v2] p.1 : Vec Ideal S1x256x128 .bf16) (ix3 0 p.2 e)) := by
  unfold mix att
  rw [shapeCast_apply _ _ (ix3 0 r e) (ix2 r e) (by
    rw [Shape.rowMajor_val_three, Shape.rowMajor_val_two]
    show r.val * 128 + e.val = (0 * 256 + r.val) * 128 + e.val
    ring)]
  rw [iSup_blocks (fun k => c (ix2 r k)) (fun j k => (![s0, s1, s2] j : FVec Ideal S256x256 .f32) (ix2 r k)), sum_blocks, sum_blocks]
  dsimp only [Sum.elim_inl, Sum.elim_inr, Matrix.cons_val]
  have hM : (maximumf (maximumf (maximumf (mx c) (mx s0)) (mx s1)) (mx s2) : FVec Ideal S256x1 .f32) (ix2 r 0)
      = max (max (max (⨆ k, c (ix2 r k)) (⨆ k, s0 (ix2 r k))) (⨆ k, s1 (ix2 r k))) (⨆ k, s2 (ix2 r k)) := by
    show max (max (max (mx c (ix2 r 0)) (mx s0 (ix2 r 0))) (mx s1 (ix2 r 0))) (mx s2 (ix2 r 0)) = _
    rw [mx_apply, mx_apply, mx_apply, mx_apply]
  generalize (maximumf (maximumf (maximumf (mx c) (mx s0)) (mx s1)) (mx s2) : FVec Ideal S256x1 .f32) = M at hM ⊢
  generalize max (max (max (⨆ k, c (ix2 r k)) (⨆ k, s0 (ix2 r k))) (⨆ k, s1 (ix2 r k))) (⨆ k, s2 (ix2 r k)) = μ at hM ⊢
  show Ideal.div ((((Ideal.ofBits .f32 0x00000000#32 + pv (wt c M) vc (ix2 r e)) + pv (wt s0 M) v0 (ix2 r e)) + pv (wt s1 M) v1 (ix2 r e)) + pv (wt s2 M) v2 (ix2 r e))
    (broadcastTo S256x128 (addf (addf (addf (sm (wt c M)) (sm (wt s0 M))) (sm (wt s1 M))) (sm (wt s2 M)) : FVec Ideal S256x1 .f32) broadcasts_S256x1_S256x128 (ix2 r e)) = _
  rw [broadcastTo_apply _ _ (ix2 r e) (ix2 r 0) (fun a => by match a with | ⟨0, _⟩ => rfl | ⟨1, _⟩ => rfl)]
  show Ideal.div _ (((sm (wt c M) (ix2 r 0) + sm (wt s0 M) (ix2 r 0)) + sm (wt s1 M) (ix2 r 0)) + sm (wt s2 M) (ix2 r 0)) = _
  simp only [pv_apply, sm_apply, wt_apply, hM, Ideal.ofBits_zero_f32, zero_add]

end Cert.KernelIdeal.NaHead
-- ==== Proof.NaBlocks.lean ====
/-
  The blocks a grid point of the attention kernel stages, read at an index, and the scores and values they give: the ones
  `NaSpec` states of the keys the point sees.
-/
module

public import proofs.«01_k».proof.Proof.NaHead

@[expose] public section

set_option maxRecDepth 16384

noncomputable section

namespace Cert.KernelIdeal.RefValue

open Cert.KernelIdeal Cert.KernelIdeal.Gen Cert.KernelIdeal.NaHead Cert.KernelIdeal.NaBias Cert.Common Cert.NaMath Cert.NaSpec
open Idealize.ShloMosaic Idealize.ShloMosaic.TcCoe Idealize.SL.Sem
open Idealize.ShloMosaic.ValueIdx
open Idealize.ShloMosaic.Pipeline (Dat)

/-- The query block and the sequence of a point. -/
def qb (t : Fin cfg0.N) : Fin 9 := ⟨t.val / 8, by have hN : cfg0.N = 72 := N_0; have := t.isLt; omega⟩
def sq (t : Fin cfg0.N) : Fin 8 := ⟨t.val % 8, by omega⟩

/-- The position of query `r` of block `n`. -/
def qpos (n : Fin 9) (r : Fin 256) : Fin 2304 := ⟨256 * n.val + r.val, by omega⟩

/-- The block indices of the windows at a point. -/
theorem idx : ∀ t : Fin cfg0.N,
    (win0_0.index t 0 = t.val % 8 ∧ win0_0.index t 1 = t.val / 8 ∧ win0_0.index t 2 = 4)
    ∧ (win0_1.index t 0 = t.val % 8 ∧ win0_1.index t 1 = 0 ∧ win0_1.index t 2 = 5)
    ∧ (win0_2.index t 0 = t.val % 8 ∧ win0_2.index t 1 = 1 + min (t.val / 8 - 2) 5 + 0 ∧ win0_2.index t 2 = 5)
    ∧ (win0_3.index t 0 = t.val % 8 ∧ win0_3.index t 1 = 1 + min (t.val / 8 - 2) 5 + 1 ∧ win0_3.index t 2 = 5)
    ∧ (win0_4.index t 0 = t.val % 8 ∧ win0_4.index t 1 = 1 + min (t.val / 8 - 2) 5 + 2 ∧ win0_4.index t 2 = 5)
    ∧ (win0_5.index t 0 = t.val % 8 ∧ win0_5.index t 1 = 0 ∧ win0_5.index t 2 = 6)
    ∧ (win0_6.index t 0 = t.val % 8 ∧ win0_6.index t 1 = 1 + min (t.val / 8 - 2) 5 + 0 ∧ win0_6.index t 2 = 6)
    ∧ (win0_7.index t 0 = t.val % 8 ∧ win0_7.index t 1 = 1 + min (t.val / 8 - 2) 5 + 1 ∧ win0_7.index t 2 = 6)
    ∧ (win0_8.index t 0 = t.val % 8 ∧ win0_8.index t 1 = 1 + min (t.val / 8 - 2) 5 + 2 ∧ win0_8.index t 2 = 6)
    ∧ (win0_9.index t 0 = 0 ∧ win0_9.index t 1 = t.val / 8 ∧ win0_9.index t 2 = 0 ∧ win0_9.index t 3 = 0)
    ∧ (win0_10.index t 0 = t.val % 8 ∧ win0_10.index t 1 = t.val / 8 ∧ win0_10.index t 2 = 0) :=
  (by decide +kernel : ∀ t : Fin grid0.N, _)

/-! ## The staged blocks, read at an index -/

section Blocks
variable (A : FVec Ideal SP .bf16) (t : Fin cfg0.N)

/-- The windows of the queries, of the context keys and of the context values. -/
def qwin : Vec Ideal S1x256x512 .bf16 := ((cfg0.win 0).blk t).view.read (Elt Ideal) A
def kcwin : Vec Ideal S1x256x512 .bf16 := ((cfg0.win 1).blk t).view.read (Elt Ideal) A
def vcwin : Vec Ideal S1x256x512 .bf16 := ((cfg0.win 5).blk t).view.read (Elt Ideal) A

theorem q_read (r : Fin 256) (h : Fin 4) (e : Fin 128) :
    qwin A t (ix3 0 r ⟨128 * h.val + e.val, by omega⟩)
      = A (ix3 (sq t) (qpos (qb t) r) (colQ h e)) := by
  obtain ⟨⟨a0, a1, a2⟩, -⟩ := idx t
  refine congrArg A (funext fun a => Fin.ext ?_)
  match a with
  | ⟨0, _⟩ => show win0_0.index t 0 * 1 + 1 * 0 = t.val % 8; rw [a0]; omega
  | ⟨1, _⟩ => show win0_0.index t 1 * 256 + 1 * r.val = 256 * (t.val / 8) + r.val; rw [a1]; omega
  | ⟨2, _⟩ => show win0_0.index t 2 * 512 + 1 * (128 * h.val + e.val) = 2048 + 128 * h.val + e.val; rw [a2]; omega

theorem kc_read (k : Fin 256) (h : Fin 4) (e : Fin 128) :
    kcwin A t (ix3 0 k ⟨128 * h.val + e.val, by omega⟩)
      = A (ix3 (sq t) ⟨k.val, by omega⟩ (colK h e)) := by
  obtain ⟨-, ⟨a0, a1, a2⟩, -⟩ := idx t
  refine congrArg A (funext fun a => Fin.ext ?_)
  match a with
  | ⟨0, _⟩ => show win0_1.index t 0 * 1 + 1 * 0 = t.val % 8; rw [a0]; omega
  | ⟨1, _⟩ => show win0_1.index t 1 * 256 + 1 * k.val = k.val; rw [a1]; omega
  | ⟨2, _⟩ => show win0_1.index t 2 * 512 + 1 * (128 * h.val + e.val) = 2560 + 128 * h.val + e.val; rw [a2]; omega

theorem vc_read (k : Fin 256) (h : Fin 4) (e : Fin 128) :
    vcwin A t (ix3 0 k ⟨128 * h.val + e.val, by omega⟩)
      = A (ix3 (sq t) ⟨k.val, by omega⟩ (colV h e)) := by
  obtain ⟨-, -, -, -, -, ⟨a0, a1, a2⟩, -⟩ := idx t
  refine congrArg A (funext fun a => Fin.ext ?_)
  match a with
  | ⟨0, _⟩ => show win0_5.index t 0 * 1 + 1 * 0 = t.val % 8; rw [a0]; omega
  | ⟨1, _⟩ => show win0_5.index t 1 * 256 + 1 * k.val = k.val; rw [a1]; omega
  | ⟨2, _⟩ => show win0_5.index t 2 * 512 + 1 * (128 * h.val + e.val) = 3072 + 128 * h.val + e.val; rw [a2]; omega

/-- The three key windows of the slab, and its three value windows. -/
def kwin (j : Fin 3) : Vec Ideal S1x256x512 .bf16 :=
  (![((cfg0.win 2).blk t).view.read (Elt Ideal) A, ((cfg0.win 3).blk t).view.read (Elt Ideal) A,
    ((cfg0.win 4).blk t).view.read (Elt Ideal) A] : Fin 3 → Vec Ideal S1x256x512 .bf16) j
def vwin (j : Fin 3) : Vec Ideal S1x256x512 .bf16 :=
  (![((cfg0.win 6).blk t).view.read (Elt Ideal) A, ((cfg0.win 7).blk t).view.read (Elt Ideal) A,
    ((cfg0.win 8).blk t).view.read (Elt Ideal) A] : Fin 3 → Vec Ideal S1x256x512 .bf16) j

theorem slab_lt (n : Fin 9) (j : Fin 3) (k : Fin 256) : 256 * (1 + min (n.val - 2) 5 + j.val) + k.val < 2304 := by omega

theorem k_read (j : Fin 3) (k : Fin 256) (h : Fin 4) (e : Fin 128) :
    kwin A t j (ix3 0 k ⟨128 * h.val + e.val, by omega⟩)
      = A (ix3 (sq t) ⟨256 * (1 + min ((qb t).val - 2) 5 + j.val) + k.val, slab_lt _ _ _⟩ (colK h e)) := by
  obtain ⟨-, -, ⟨a0, a1, a2⟩, ⟨b0, b1, b2⟩, ⟨c0, c1, c2⟩, -⟩ := idx t
  match j with
  | ⟨0, _⟩ =>
    refine congrArg A (funext fun a => Fin.ext ?_)
    match a with
    | ⟨0, _⟩ => show win0_2.index t 0 * 1 + 1 * 0 = t.val % 8; rw [a0]; omega
    | ⟨1, _⟩ => show win0_2.index t 1 * 256 + 1 * k.val = 256 * (1 + min (t.val / 8 - 2) 5 + 0) + k.val; rw [a1]; omega
    | ⟨2, _⟩ => show win0_2.index t 2 * 512 + 1 * (128 * h.val + e.val) = 2560 + 128 * h.val + e.val; rw [a2]; omega
  | ⟨1, _⟩ =>
    refine congrArg A (funext fun a => Fin.ext ?_)
    match a with
    | ⟨0, _⟩ => show win0_3.index t 0 * 1 + 1 * 0 = t.val % 8; rw [b0]; omega
    | ⟨1, _⟩ => show win0_3.index t 1 * 256 + 1 * k.val = 256 * (1 + min (t.val / 8 - 2) 5 + 1) + k.val; rw [b1]; omega
    | ⟨2, _⟩ => show win0_3.index t 2 * 512 + 1 * (128 * h.val + e.val) = 2560 + 128 * h.val + e.val; rw [b2]; omega
  | ⟨2, _⟩ =>
    refine congrArg A (funext fun a => Fin.ext ?_)
    match a with
    | ⟨0, _⟩ => show win0_4.index t 0 * 1 + 1 * 0 = t.val % 8; rw [c0]; omega
    | ⟨1, _⟩ => show win0_4.index t 1 * 256 + 1 * k.val = 256 * (1 + min (t.val / 8 - 2) 5 + 2) + k.val; rw [c1]; omega
    | ⟨2, _⟩ => show win0_4.index t 2 * 512 + 1 * (128 * h.val + e.val) = 2560 + 128 * h.val + e.val; rw [c2]; omega

theorem v_read (j : Fin 3) (k : Fin 256) (h : Fin 4) (e : Fin 128) :
    vwin A t j (ix3 0 k ⟨128 * h.val + e.val, by omega⟩)
      = A (ix3 (sq t) ⟨256 * (1 + min ((qb t).val - 2) 5 + j.val) + k.val, slab_lt _ _ _⟩ (colV h e)) := by
  obtain ⟨-, -, -, -, -, -, ⟨a0, a1, a2⟩, ⟨b0, b1, b2⟩, ⟨c0, c1, c2⟩, -⟩ := idx t
  match j with
  | ⟨0, _⟩ =>
    refine congrArg A (funext fun a => Fin.ext ?_)
    match a with
    | ⟨0, _⟩ => show win0_6.index t 0 * 1 + 1 * 0 = t.val % 8; rw [a0]; omega
    | ⟨1, _⟩ => show win0_6.index t 1 * 256 + 1 * k.val = 256 * (1 + min (t.val / 8 - 2) 5 + 0) + k.val; rw [a1]; omega
    | ⟨2, _⟩ => show win0_6.index t 2 * 512 + 1 * (128 * h.val + e.val) = 3072 + 128 * h.val + e.val; rw [a2]; omega
  | ⟨1, _⟩ =>
    refine congrArg A (funext fun a => Fin.ext ?_)
    match a with
    | ⟨0, _⟩ => show win0_7.index t 0 * 1 + 1 * 0 = t.val % 8; rw [b0]; omega
    | ⟨1, _⟩ => show win0_7.index t 1 * 256 + 1 * k.val = 256 * (1 + min (t.val / 8 - 2) 5 + 1) + k.val; rw [b1]; omega
    | ⟨2, _⟩ => show win0_7.index t 2 * 512 + 1 * (128 * h.val + e.val) = 3072 + 128 * h.val + e.val; rw [b2]; omega
  | ⟨2, _⟩ =>
    refine congrArg A (funext fun a => Fin.ext ?_)
    match a with
    | ⟨0, _⟩ => show win0_8.index t 0 * 1 + 1 * 0 = t.val % 8; rw [c0]; omega
    | ⟨1, _⟩ => show win0_8.index t 1 * 256 + 1 * k.val = 256 * (1 + min (t.val / 8 - 2) 5 + 2) + k.val; rw [c1]; omega
    | ⟨2, _⟩ => show win0_8.index t 2 * 512 + 1 * (128 * h.val + e.val) = 3072 + 128 * h.val + e.val; rw [c2]; omega

/-- The window of the bias. -/
def bwin (A : FVec Ideal S4x9x256x768 .f32) : Vec Ideal S4x1x256x768 .f32 := ((cfg0.win 9).blk t).view.read (Elt Ideal) A

theorem b_read (A : FVec Ideal S4x9x256x768 .f32) (h : Fin 4) (r : Fin 256) (j : Fin 768) :
    bwin t A (ix4 h 0 r j) = A (ix4 h (qb t) r j) := by
  obtain ⟨-, -, -, -, -, -, -, -, -, ⟨a0, a1, a2, a3⟩, -⟩ := idx t
  refine congrArg A (funext fun a => Fin.ext ?_)
  match a with
  | ⟨0, _⟩ => show win0_9.index t 0 * 4 + 1 * h.val = h.val; rw [a0]; omega
  | ⟨1, _⟩ => show win0_9.index t 1 * 1 + 1 * 0 = t.val / 8; rw [a1]; omega
  | ⟨2, _⟩ => show win0_9.index t 2 * 256 + 1 * r.val = r.val; rw [a2]; omega
  | ⟨3, _⟩ => show win0_9.index t 3 * 768 + 1 * j.val = j.val; rw [a3]; omega

end Blocks

/-- The context scores of a point. -/
theorem sc_ctx (A : FVec Ideal SP .bf16) (B : FVec Ideal SR .f32) (t : Fin cfg0.N) (h : Fin 4) (r k : Fin 256) :
    (∑ e : Fin 128, qwin A t (ix3 0 r ⟨128 * h.val + e.val, by omega⟩)
        * kcwin A t (ix3 0 k ⟨128 * h.val + e.val, by omega⟩)) * NaSpec.scale
      = score A B (sq t) h (qpos (qb t) r) (slabKey (qb t) (.inl k)) := by
  refine congrArg (· * NaSpec.scale) (Finset.sum_congr rfl fun e _ => ?_)
  rw [q_read A t r h e, kc_read A t k h e]
  rfl

/-- The slab scores of a point: the bias is minus infinity outside the window. -/
theorem sc_slab (A : FVec Ideal SP .bf16) (B : FVec Ideal SR .f32) (t : Fin cfg0.N) (h : Fin 4) (r : Fin 256) (j : Fin 3) (k : Fin 256) :
    (∑ e : Fin 128, qwin A t (ix3 0 r ⟨128 * h.val + e.val, by omega⟩)
        * kwin A t j (ix3 0 k ⟨128 * h.val + e.val, by omega⟩)) * NaSpec.scale + biasAt B h (qb t) r ⟨256 * j.val + k.val, by omega⟩
      = score A B (sq t) h (qpos (qb t) r) (slabKey (qb t) (.inr (j, k))) := by
  have hd : (∑ e : Fin 128, qwin A t (ix3 0 r ⟨128 * h.val + e.val, by omega⟩)
      * kwin A t j (ix3 0 k ⟨128 * h.val + e.val, by omega⟩)) * NaSpec.scale
      = dot A (sq t) h (qpos (qb t) r) (pos (slabKey (qb t) (.inr (j, k)))) := by
    refine congrArg (· * NaSpec.scale) (Finset.sum_congr rfl fun e _ => ?_)
    rw [q_read A t r h e, k_read A t j k h e]
    congr 2
    congr 1
    refine Fin.ext ?_
    show 256 * (1 + min ((qb t).val - 2) 5 + j.val) + k.val
      = 256 + 64 * (slabRow ((qb t).val - 1) + 4 * j.val + k.val / 64) + k.val % 64
    unfold slabRow
    omega
  rw [hd]
  generalize qb t = n
  show _ = if InWin (256 * n.val + r.val) (slabRow (n.val - 1) + 4 * j.val + k.val / 64) (k.val % 64) then _ + bias B h (256 * n.val + r.val) (slabRow (n.val - 1) + 4 * j.val + k.val / 64) (k.val % 64) else ⊥
  have e1 : (256 * j.val + k.val) / 64 = 4 * j.val + k.val / 64 := by omega
  have e2 : (256 * j.val + k.val) % 64 = k.val % 64 := by omega
  have e3 : 0 < n.val → (256 * n.val + r.val - 256) / 64 = 4 * (n.val - 1) + r.val / 64 := by omega
  have e4 : 0 < n.val → (256 * n.val + r.val - 256) % 64 = r.val % 64 := by omega
  unfold biasAt
  dsimp only
  by_cases hw : InWin (256 * n.val + r.val) (slabRow (n.val - 1) + 4 * j.val + k.val / 64) (k.val % 64)
  · have hn : 0 < n.val := by have := hw.1; omega
    rw [if_pos hw]
    unfold InWin at hw
    rw [e3 hn, e4 hn] at hw
    rw [dif_pos ⟨hn, by rw [e1]; omega, by rw [e1]; omega, by rw [e2]; omega, by rw [e2]; omega⟩]
    congr 1
    unfold bias
    congr 2
    · refine Fin.ext ?_
      show slabRow (n.val - 1) + (256 * j.val + k.val) / 64 + 7 - (4 * (n.val - 1) + r.val / 64)
        = min (slabRow (n.val - 1) + 4 * j.val + k.val / 64 + 7 - (256 * n.val + r.val - 256) / 64) 14
      rw [e1, e3 hn]
      obtain ⟨-, h1, h2, -⟩ := hw
      unfold winRow at h1 h2
      omega
    · refine Fin.ext ?_
      show relCol (r.val % 64) ((256 * j.val + k.val) % 64) = relCol ((256 * n.val + r.val - 256) % 64) (k.val % 64)
      rw [e2, e4 hn]
  · rw [if_neg hw, dif_neg ?_, EReal.add_bot]
    rintro ⟨hn, h1, h2, h3, h4⟩
    refine hw ⟨by omega, ?_⟩
    rw [e3 hn, e4 hn]
    rw [e1] at h1 h2
    rw [e2] at h3 h4
    exact ⟨by omega, by omega, h3, h4⟩

/-- The values of a point. -/
theorem va_ctx (A : FVec Ideal SP .bf16) (t : Fin cfg0.N) (h : Fin 4) (e : Fin 128) (k : Fin 256) :
    vcwin A t (ix3 0 k ⟨128 * h.val + e.val, by omega⟩) = value A (sq t) h e (slabKey (qb t) (.inl k)) := by
  rw [vc_read A t k h e]
  rfl

theorem va_slab (A : FVec Ideal SP .bf16) (t : Fin cfg0.N) (h : Fin 4) (e : Fin 128) (j : Fin 3) (k : Fin 256) :
    vwin A t j (ix3 0 k ⟨128 * h.val + e.val, by omega⟩) = value A (sq t) h e (slabKey (qb t) (.inr (j, k))) := by
  rw [v_read A t j k h e]
  refine congrArg (fun z => A (ix3 (sq t) z (colV h e))) (Fin.ext ?_)
  show 256 * (1 + min ((qb t).val - 2) 5 + j.val) + k.val
    = 256 + 64 * (slabRow ((qb t).val - 1) + 4 * j.val + k.val / 64) + k.val % 64
  unfold slabRow
  omega

end Cert.KernelIdeal.RefValue

end
-- ==== Proof.NaValue.lean ====
/-
  The attention kernel: the grid's nine by eight points tile the result, each point writes one block of 256 queries of
  one sequence, all four heads, and the block holds the attention of `NaSpec`.
-/
module

public import proofs.«01_k».proof.Proof.NaBlocks

@[expose] public section

set_option maxRecDepth 16384

noncomputable section

namespace Cert.KernelIdeal.RefValue

open Cert.KernelIdeal Cert.KernelIdeal.Gen Cert.KernelIdeal.NaHead Cert.KernelIdeal.NaBias Cert.Common Cert.NaMath Cert.NaSpec
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two arguments. -/
abbrev PA (c : Dev nD) : FVec Ideal SP .bf16 := m ((c : Thread nD τ).loc main_arg0)
abbrev BA (c : Dev nD) : FVec Ideal SR .f32 := m ((c : Thread nD τ).loc main_arg1)

/-- The result array: the attention of head `col / 128` at every index. -/
def G (c : Dev nD) : Buf (Elt Ideal) ((c : Thread nD τ).loc main_v571) := fun i =>
  attn (PA m c) (BA m c) (i 0) (i 1) ⟨(i 2).val / 128, Nat.div_lt_of_lt_mul (i 2).isLt⟩ ⟨(i 2).val % 128, Nat.mod_lt _ (by decide)⟩

/-- Columns `o` to `o + 127` of a block. -/
theorem ld_col (x : Vec Ideal S1x256x512 .bf16) (h : Fin 4) (o : ℕ) (ho : o = 128 * h.val)
    (inb : ∀ a, (![0, 0, o] : Fin 3 → ℕ) a + S1x256x128.size a ≤ S1x256x512.size a) (r : Fin 256) (e : Fin 128) :
    View.ld (Val := Elt Ideal) (e' := .bf16) x (Rect.unit (s := S1x256x512) ![0, 0, o] S1x256x128.size inb) (ix3 0 r e)
      = x (ix3 0 r ⟨128 * h.val + e.val, by omega⟩) := by
  subst ho
  refine congrArg x (funext fun a => Fin.ext ?_)
  match a with
  | ⟨0, _⟩ => rfl
  | ⟨1, _⟩ => show 0 + 1 * r.val = r.val; omega
  | ⟨2, _⟩ => show 128 * h.val + 1 * e.val = 128 * h.val + e.val; omega

/-- Head `g`'s block of 256 slab keys of the bias. -/
theorem ld_bias (x : Vec Ideal S4x1x256x768 .f32) (h : Fin 4) (j : Fin 3) (g o : ℕ) (hg : g = h.val) (ho : o = 256 * j.val)
    (inb : ∀ a, (![g, 0, 0, o] : Fin 4 → ℕ) a + S1x1x256x256.size a ≤ S4x1x256x768.size a) (r k : Fin 256) :
    View.ld (Val := Elt Ideal) (e' := .f32) x (Rect.unit (s := S4x1x256x768) ![g, 0, 0, o] S1x1x256x256.size inb) (ix4 0 0 r k)
      = x (ix4 h 0 r ⟨256 * j.val + k.val, by omega⟩) := by
  subst hg ho
  refine congrArg x (funext fun a => Fin.ext ?_)
  match a with
  | ⟨0, _⟩ => show h.val + 1 * 0 = h.val; omega
  | ⟨1, _⟩ => rfl
  | ⟨2, _⟩ => show 0 + 1 * r.val = r.val; omega
  | ⟨3, _⟩ => show 256 * j.val + 1 * k.val = 256 * j.val + k.val; omega

/-- What one head's store holds. -/
theorem head_eq (A : FVec Ideal SP .bf16) (B : FVec Ideal SR .f32) (W : FVec Ideal S4x9x256x768 .f32)
    (hW : ∀ h b q j, W (ix4 h b q j) = biasAt B h b q j) (t : Fin cfg0.N) (h : Fin 4) (g o : ℕ) (hg : g = h.val) (ho : o = 128 * h.val)
    (inb : ∀ a, (![0, 0, o] : Fin 3 → ℕ) a + S1x256x128.size a ≤ S1x256x512.size a)
    (i0 : ∀ a, (![g, 0, 0, 0] : Fin 4 → ℕ) a + S1x1x256x256.size a ≤ S4x1x256x768.size a)
    (i1 : ∀ a, (![g, 0, 0, 256] : Fin 4 → ℕ) a + S1x1x256x256.size a ≤ S4x1x256x768.size a)
    (i2 : ∀ a, (![g, 0, 0, 512] : Fin 4 → ℕ) a + S1x1x256x256.size a ≤ S4x1x256x768.size a) (r : Fin 256) (e : Fin 128) :
    (NaHead.head (F := Ideal) (View.ld (qwin A t) (Rect.unit (s := S1x256x512) ![0, 0, o] S1x256x128.size inb))
      (View.ld (kcwin A t) (Rect.unit (s := S1x256x512) ![0, 0, o] S1x256x128.size inb))
      (View.ld (kwin A t 0) (Rect.unit (s := S1x256x512) ![0, 0, o] S1x256x128.size inb))
      (View.ld (kwin A t 1) (Rect.unit (s := S1x256x512) ![0, 0, o] S1x256x128.size inb))
      (View.ld (kwin A t 2) (Rect.unit (s := S1x256x512) ![0, 0, o] S1x256x128.size inb))
      (View.ld (vcwin A t) (Rect.unit (s := S1x256x512) ![0, 0, o] S1x256x128.size inb))
      (View.ld (vwin A t 0) (Rect.unit (s := S1x256x512) ![0, 0, o] S1x256x128.size inb))
      (View.ld (vwin A t 1) (Rect.unit (s := S1x256x512) ![0, 0, o] S1x256x128.size inb))
      (View.ld (vwin A t 2) (Rect.unit (s := S1x256x512) ![0, 0, o] S1x256x128.size inb))
      (View.ld (bwin t W) (Rect.unit (s := S4x1x256x768) ![g, 0, 0, 0] S1x1x256x256.size i0))
      (View.ld (bwin t W) (Rect.unit (s := S4x1x256x768) ![g, 0, 0, 256] S1x1x256x256.size i1))
      (View.ld (bwin t W) (Rect.unit (s := S4x1x256x768) ![g, 0, 0, 512] S1x1x256x256.size i2))) (ix3 0 r e)
      = attn A B (sq t) (qpos (qb t) r) h e := by
  unfold NaHead.head
  rw [mix_apply]
  rw [← attn_slab A B (qb t) (sq t) (qpos (qb t) r) (by show (256 * (qb t).val + r.val) / 256 = (qb t).val; omega) h e]
  congr 1
  · funext k
    match k with
    | .inl k =>
      dsimp only [Sum.elim_inl]
      rw [sc_apply, ← sc_ctx A B t h r k]
      exact congrArg (· * NaSpec.scale) (Finset.sum_congr rfl fun e _ =>
        congrArg₂ (fun x y : EReal => x * y) (ld_col _ h o ho inb r e) (ld_col _ h o ho inb k e))
    | .inr (⟨0, _⟩, k) =>
      dsimp only [Sum.elim_inr]
      refine (scb_apply _ _ _ r k).trans (Eq.trans ?_ (sc_slab A B t h r 0 k))
      rw [ld_bias _ h 0 g 0 hg rfl i0, b_read, hW]
      exact congrArg (fun z : EReal => z * NaSpec.scale + _) (Finset.sum_congr rfl fun e _ =>
        congrArg₂ (fun x y : EReal => x * y) (ld_col _ h o ho inb r e) (ld_col _ h o ho inb k e))
    | .inr (⟨1, _⟩, k) =>
      dsimp only [Sum.elim_inr]
      refine (scb_apply _ _ _ r k).trans (Eq.trans ?_ (sc_slab A B t h r 1 k))
      rw [ld_bias _ h 1 g 256 hg rfl i1, b_read, hW]
      exact congrArg (fun z : EReal => z * NaSpec.scale + _) (Finset.sum_congr rfl fun e _ =>
        congrArg₂ (fun x y : EReal => x * y) (ld_col _ h o ho inb r e) (ld_col _ h o ho inb k e))
    | .inr (⟨2, _⟩, k) =>
      dsimp only [Sum.elim_inr]
      refine (scb_apply _ _ _ r k).trans (Eq.trans ?_ (sc_slab A B t h r 2 k))
      rw [ld_bias _ h 2 g 512 hg rfl i2, b_read, hW]
      exact congrArg (fun z : EReal => z * NaSpec.scale + _) (Finset.sum_congr rfl fun e _ =>
        congrArg₂ (fun x y : EReal => x * y) (ld_col _ h o ho inb r e) (ld_col _ h o ho inb k e))
  · funext k
    match k with
    | .inl k => exact (ld_col _ h o ho inb k e).trans (va_ctx A t h e k)
    | .inr (⟨0, _⟩, k) => exact (ld_col _ h o ho inb k e).trans (va_slab A t h e 0 k)
    | .inr (⟨1, _⟩, k) => exact (ld_col _ h o ho inb k e).trans (va_slab A t h e 1 k)
    | .inr (⟨2, _⟩, k) => exact (ld_col _ h o ho inb k e).trans (va_slab A t h e 2 k)

/-- What a point leaves is the attention, at every index of its block. -/
theorem out_apply (A : FVec Ideal SP .bf16) (B : FVec Ideal SR .f32) (W : FVec Ideal S4x9x256x768 .f32)
    (hW : ∀ h b q j, W (ix4 h b q j) = biasAt B h b q j) (t : Fin cfg0.N) (y : S1x256x512.Idx) :
    out0_10 (F := Ideal) (qwin A t) (kcwin A t) (kwin A t 0) (kwin A t 1) (kwin A t 2) (vcwin A t) (vwin A t 0) (vwin A t 1) (vwin A t 2)
      (bwin t W) y
      = attn A B (sq t) (qpos (qb t) (y 1)) ⟨(y 2).val / 128, Nat.div_lt_of_lt_mul (y 2).isLt⟩ ⟨(y 2).val % 128, Nat.mod_lt _ (by decide)⟩ := by
  have piece : ∀ (h : Fin 4) (g o : ℕ) (hg : g = h.val) (ho : o = 128 * h.val) (inb i0 i1 i2) (x : S1x256x128.Idx), _ = _ :=
    fun h g o hg ho inb i0 i1 i2 x => head_eq A B W hW t h g o hg ho inb i0 i1 i2 (x 1) (x 2)
  have at_ix : ∀ x : S1x256x128.Idx, x = ix3 0 (x 1) (x 2) := fun x => by
    funext a
    match a with
    | ⟨0, _⟩ => exact Subsingleton.elim (α := Fin 1) _ _
    | ⟨1, _⟩ => rfl
    | ⟨2, _⟩ => rfl
  have back : ∀ (h : Fin 4) (o : ℕ) (ho : o = 128 * h.val)
      (inb : ∀ a, (![0, 0, o] : Fin 3 → ℕ) a + S1x256x128.size a ≤ S1x256x512.size a) (x : S1x256x128.Idx),
      attn A B (sq t) (qpos (qb t) (x 1)) h (x 2)
        = (fun y : S1x256x512.Idx => attn A B (sq t) (qpos (qb t) (y 1)) ⟨(y 2).val / 128, Nat.div_lt_of_lt_mul (y 2).isLt⟩
            ⟨(y 2).val % 128, Nat.mod_lt _ (by decide)⟩) ((Rect.unit (s := S1x256x512) ![0, 0, o] S1x256x128.size inb).emb x) := by
    intro h o ho inb x
    have hx : (x 2).val < 128 := (x 2).isLt
    have e1 : ((Rect.unit (s := S1x256x512) ![0, 0, o] S1x256x128.size inb).emb x) 1 = x 1 :=
      Fin.ext (by show 0 + 1 * (x 1).val = (x 1).val; omega)
    have e2 : (((Rect.unit (s := S1x256x512) ![0, 0, o] S1x256x128.size inb).emb x) 2).val = 128 * h.val + (x 2).val := by
      show o + 1 * (x 2).val = _; omega
    dsimp only
    rw [e1]
    congr 1
    · exact Fin.ext (by dsimp only; rw [e2]; omega)
    · exact Fin.ext (by dsimp only; rw [e2]; omega)
  rw [out_eq]
  refine (congrFun (congrArg View.canon (List.append_nil _).symm) y).trans
    (View.canon_append_of_pieces (Val := Elt Ideal) (e := .bf16)
      (fun y : S1x256x512.Idx => attn A B (sq t) (qpos (qb t) (y 1)) ⟨(y 2).val / 128, Nat.div_lt_of_lt_mul (y 2).isLt⟩
        ⟨(y 2).val % 128, Nat.mod_lt _ (by decide)⟩) [] _ ?_ y (cover0_10 _ _ _ _ y))
  intro p hp
  fin_cases hp
  · intro x
    rw [at_ix x]
    exact (piece 3 3 384 rfl rfl inb_S1x256x512_S1x256x128_0_0_384 inb_S4x1x256x768_S1x1x256x256_3_0_0_0
      inb_S4x1x256x768_S1x1x256x256_3_0_0_256 inb_S4x1x256x768_S1x1x256x256_3_0_0_512 x).trans (back 3 384 rfl inb_S1x256x512_S1x256x128_0_0_384 x)
  · intro x
    rw [at_ix x]
    exact (piece 2 2 256 rfl rfl inb_S1x256x512_S1x256x128_0_0_256 inb_S4x1x256x768_S1x1x256x256_2_0_0_0
      inb_S4x1x256x768_S1x1x256x256_2_0_0_256 inb_S4x1x256x768_S1x1x256x256_2_0_0_512 x).trans (back 2 256 rfl inb_S1x256x512_S1x256x128_0_0_256 x)
  · intro x
    rw [at_ix x]
    exact (piece 1 1 128 rfl rfl inb_S1x256x512_S1x256x128_0_0_128 inb_S4x1x256x768_S1x1x256x256_1_0_0_0
      inb_S4x1x256x768_S1x1x256x256_1_0_0_256 inb_S4x1x256x768_S1x1x256x256_1_0_0_512 x).trans (back 1 128 rfl inb_S1x256x512_S1x256x128_0_0_128 x)
  · intro x
    rw [at_ix x]
    exact (piece 0 0 0 rfl rfl inb_S1x256x512_S1x256x128_0_0_0 inb_S4x1x256x768_S1x1x256x256_0_0_0_0
      inb_S4x1x256x768_S1x1x256x256_0_0_0_256 inb_S4x1x256x768_S1x1x256x256_0_0_0_512 x).trans (back 0 0 rfl inb_S1x256x512_S1x256x128_0_0_0 x)

/-- The blocks of a point are the windows of the two arrays. -/
theorem blocks_eq (c : Dev nD) (t : Fin cfg0.N) :
    (dats m 0 c).after 10 t = out0_10 (F := Ideal) (qwin (PA m c) t) (kcwin (PA m c) t) (kwin (PA m c) t 0) (kwin (PA m c) t 1)
      (kwin (PA m c) t 2) (vcwin (PA m c) t) (vwin (PA m c) t 0) (vwin (PA m c) t 1) (vwin (PA m c) t 2) (bwin t (V m c main_v570)) := by
  have hb : ∀ w : Fin cfg0.W, iblk m c w t = ((cfg0.win w).blk t).view.read (Elt Ideal) (V m c (Pipeline.arrRef spec0 w)) := fun _ => rfl
  have e0 : iblk m c 0 t = qwin (PA m c) t := (hb 0).trans ((congrArg (fun A => ((cfg0.win 0).blk t).view.read (Elt Ideal) A) (V_main_arg0 m c)).trans rfl)
  have e1 : iblk m c 1 t = kcwin (PA m c) t := (hb 1).trans ((congrArg (fun A => ((cfg0.win 1).blk t).view.read (Elt Ideal) A) (V_main_arg0 m c)).trans rfl)
  have e2 : iblk m c 2 t = kwin (PA m c) t 0 := (hb 2).trans ((congrArg (fun A => ((cfg0.win 2).blk t).view.read (Elt Ideal) A) (V_main_arg0 m c)).trans rfl)
  have e3 : iblk m c 3 t = kwin (PA m c) t 1 := (hb 3).trans ((congrArg (fun A => ((cfg0.win 3).blk t).view.read (Elt Ideal) A) (V_main_arg0 m c)).trans rfl)
  have e4 : iblk m c 4 t = kwin (PA m c) t 2 := (hb 4).trans ((congrArg (fun A => ((cfg0.win 4).blk t).view.read (Elt Ideal) A) (V_main_arg0 m c)).trans rfl)
  have e5 : iblk m c 5 t = vcwin (PA m c) t := (hb 5).trans ((congrArg (fun A => ((cfg0.win 5).blk t).view.read (Elt Ideal) A) (V_main_arg0 m c)).trans rfl)
  have e6 : iblk m c 6 t = vwin (PA m c) t 0 := (hb 6).trans ((congrArg (fun A => ((cfg0.win 6).blk t).view.read (Elt Ideal) A) (V_main_arg0 m c)).trans rfl)
  have e7 : iblk m c 7 t = vwin (PA m c) t 1 := (hb 7).trans ((congrArg (fun A => ((cfg0.win 7).blk t).view.read (Elt Ideal) A) (V_main_arg0 m c)).trans rfl)
  have e8 : iblk m c 8 t = vwin (PA m c) t 2 := (hb 8).trans ((congrArg (fun A => ((cfg0.win 8).blk t).view.read (Elt Ideal) A) (V_main_arg0 m c)).trans rfl)
  have e9 : iblk m c 9 t = bwin t (V m c main_v570) := hb 9
  rw [after0_10, e0, e1, e2, e3, e4, e5, e6, e7, e8, e9]

theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [blocks_eq]
  funext y
  refine (out_apply (PA m c) (BA m c) (V m c main_v570) (NaBias.bias_apply m c) t y).trans ?_
  obtain ⟨-, -, -, -, -, -, -, -, -, -, o0, o1, o2⟩ := idx t
  have h0 : (y 0).val < 1 := (y 0).isLt
  have h1 : (y 1).val < 256 := (y 1).isLt
  have h2 : (y 2).val < 512 := (y 2).isLt
  have a0 : (((cfg0.win 10).blk t).view.emb y) 0 = sq t := Fin.ext (by show win0_10.index t 0 * 1 + 1 * (y 0).val = t.val % 8; rw [o0]; omega)
  have a1 : (((cfg0.win 10).blk t).view.emb y) 1 = qpos (qb t) (y 1) :=
    Fin.ext (by show win0_10.index t 1 * 256 + 1 * (y 1).val = 256 * (t.val / 8) + (y 1).val; rw [o1]; omega)
  have a2 : ((((cfg0.win 10).blk t).view.emb y) 2).val = (y 2).val := by
    show win0_10.index t 2 * 512 + 1 * (y 2).val = (y 2).val; rw [o2]; omega
  show _ = G m c (((cfg0.win 10).blk t).view.emb y)
  unfold G
  rw [a0, a1]
  congr 1
  · exact Fin.ext (by dsimp only; rw [a2])
  · exact Fin.ext (by dsimp only; rw [a2])

theorem mem_blk (t : Fin cfg0.N) (i : S8x2304x512.Idx) :
    i ∈ ((cfg0.win 10).blk t).view.set
      ↔ ∀ a : Fin 3, win0_10.index t a * S1x256x512.size a ≤ (i a).val ∧ (i a).val < win0_10.index t a * S1x256x512.size a + S1x256x512.size a := by
  show i ∈ ((View.whole main_v571).slice (win0_10.rect t)).set ↔ _
  rw [View.set_slice_whole, Rect.mem_set_unit]
  exact Iff.rfl

theorem cover (i : S8x2304x512.Idx) : ∃ t : Fin cfg0.N, (cfg0.win 10).flush t = true ∧ i ∈ ((cfg0.win 10).blk t).view.set := by
  have h0 : (i 0).val < 8 := (i 0).isLt
  have h1 : (i 1).val < 2304 := (i 1).isLt
  have h2 : (i 2).val < 512 := (i 2).isLt
  have hN : cfg0.N = 72 := N_0
  refine ⟨⟨(i 1).val / 256 * 8 + (i 0).val, by omega⟩, flush0_10 _, ?_⟩
  rw [mem_blk]
  obtain ⟨-, -, -, -, -, -, -, -, -, -, o0, o1, o2⟩ := idx ⟨(i 1).val / 256 * 8 + (i 0).val, by omega⟩
  intro a
  match a with
  | ⟨0, _⟩ =>
    show win0_10.index _ 0 * 1 ≤ (i 0).val ∧ (i 0).val < win0_10.index _ 0 * 1 + 1
    rw [o0]; dsimp only; omega
  | ⟨1, _⟩ =>
    show win0_10.index _ 1 * 256 ≤ (i 1).val ∧ (i 1).val < win0_10.index _ 1 * 256 + 256
    rw [o1]; dsimp only; omega
  | ⟨2, _⟩ =>
    show win0_10.index _ 2 * 512 ≤ (i 2).val ∧ (i 2).val < win0_10.index _ 2 * 512 + 512
    rw [o2]; omega

theorem final (c : Dev nD) : (dats m 0 c).arrAt 10 cfg0.N = G m c :=
  (dats m 0 c).arrAt_eq_of_cover 10 (G m c) (fun t _ => flushed_eq m c t) cover

/-- The run read: the attention everywhere, the arguments unchanged. -/
theorem run : θ_run defs (onTc (τ := τ) (main (F := Ideal))) ⟨m, fun _ => 0, ρ⟩ fun r => ∀ c : Dev nD,
      r.2.mem ((c : Thread nD τ).loc main_v571) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.RefValue

end
-- ==== Proof.NaRefTab.lean ====
/-
  The reference attention's index tables, and what its gathers read: the row and column of each key of a query's window,
  which of them the query sees, and the entry of the relative bias table each one takes.
-/
module

public import proofs.«01_k».proof.Proof.Gen.ReferenceIdeal.Read
public import proofs.«01_k».proof.Proof.NaSpec
public import Idealize.ShloMosaic.Lib.ValueIdxRank6

@[expose] public section

noncomputable section

namespace Cert.ReferenceIdeal.NaRef

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.KernelIdeal.NaBias (winRow winCol relCol)

/-- An index of rank seven by its coordinates. -/
abbrev ix7 {n0 n1 n2 n3 n4 n5 n6 : ℕ} (a : Fin n0) (b : Fin n1) (c : Fin n2) (d : Fin n3) (e : Fin n4) (f : Fin n5) (g : Fin n6) :
    (⟨7, ![n0, n1, n2, n3, n4, n5, n6]⟩ : Shape).Idx :=
  fun x => match x with | ⟨0, _⟩ => a | ⟨1, _⟩ => b | ⟨2, _⟩ => c | ⟨3, _⟩ => d | ⟨4, _⟩ => e | ⟨5, _⟩ => f | ⟨6, _⟩ => g

/-- The first key column of a block of sixteen query columns. -/
def keyCol (j : ℕ) : ℕ := min (16 * j - 8) 32

/-! ## The integer tables -/

theorem tab_row : ∀ (r : Fin 32) (i : Fin 8), (val_main_v118 (F := Ideal) (ix4 r 0 i 0) : BitVec 32).toInt.toNat = winRow r.val + i.val := by
  decide +kernel

theorem tab_col : ∀ (j : Fin 4) (k : Fin 32), (val_main_v123 (F := Ideal) (ix4 0 j 0 k) : BitVec 32).toInt.toNat = keyCol j.val + k.val := by
  decide +kernel

theorem tab_relRow : ∀ (r : Fin 32) (i : Fin 8),
    (val_main_v97 (F := Ideal) (ix5 r 0 0 i 0) : BitVec 32).toInt.toNat = winRow r.val + i.val + 7 - r.val := by
  decide +kernel

theorem tab_relCol : ∀ (j : Fin 4) (q : Fin 16) (k : Fin 32),
    (val_main_v102 (F := Ideal) (ix5 0 j q 0 k) : BitVec 32).toInt.toNat = relCol (16 * j.val + q.val) (keyCol j.val + k.val) := by
  decide +kernel

theorem tab_win : ∀ (j : Fin 4) (q : Fin 16) (k : Fin 32), (val_main_v74 (F := Ideal) (ix3 j q k) : BitVec 1)
    = if winCol (16 * j.val + q.val) ≤ keyCol j.val + k.val ∧ keyCol j.val + k.val < winCol (16 * j.val + q.val) + 16 then 1#1 else 0#1 := by
  decide +kernel

/-! ## The gathers' index arrays -/

theorem idx_keys0 (r : Fin 32) (j : Fin 4) (i : Fin 8) (k : Fin 32) :
    val_main_v128 (F := Ideal) (ix5 r j i k 0) = val_main_v118 (F := Ideal) (ix4 r 0 i 0) := by
  unfold val_main_v128
  refine (concatenate_pair_apply_left (t := S32x4x8x32x2) (s₁ := S32x4x8x32x1) (s₂ := S32x4x8x32x1) 4 _ _ _ _ rfl (ix5 r j i k 0)
    (fun b => match b with | ⟨0, _⟩ => rfl | ⟨1, _⟩ => rfl | ⟨2, _⟩ => rfl | ⟨3, _⟩ => rfl | ⟨4, _⟩ => rfl)).trans ?_
  rw [val_main_v126_apply, val_main_v124_apply]
  exact congrArg _ (funext fun a => match a with | ⟨0, _⟩ => rfl | ⟨1, _⟩ => rfl | ⟨2, _⟩ => rfl | ⟨3, _⟩ => rfl)

theorem idx_keys1 (r : Fin 32) (j : Fin 4) (i : Fin 8) (k : Fin 32) :
    val_main_v128 (F := Ideal) (ix5 r j i k 1) = val_main_v123 (F := Ideal) (ix4 0 j 0 k) := by
  unfold val_main_v128
  refine (concatenate_pair_apply_right (t := S32x4x8x32x2) (s₁ := S32x4x8x32x1) (s₂ := S32x4x8x32x1) 4 _ _ _ _ rfl rfl (ix5 r j i k 0)
    (fun b => match b with | ⟨0, _⟩ => (fun _ => rfl) | ⟨1, _⟩ => (fun _ => rfl) | ⟨2, _⟩ => (fun _ => rfl) | ⟨3, _⟩ => (fun _ => rfl) | ⟨4, _⟩ => fun h => absurd rfl h) rfl).trans ?_
  rw [val_main_v127_apply, val_main_v125_apply]
  exact congrArg _ (funext fun a => match a with | ⟨0, _⟩ => rfl | ⟨1, _⟩ => rfl | ⟨2, _⟩ => rfl | ⟨3, _⟩ => rfl)

theorem idx_bias0 (r : Fin 32) (j : Fin 4) (q : Fin 16) (i : Fin 8) (k : Fin 32) :
    val_main_v107 (F := Ideal) (ix6 r j q i k 0) = val_main_v97 (F := Ideal) (ix5 r 0 0 i 0) := by
  unfold val_main_v107
  refine (concatenate_pair_apply_left (t := S32x4x16x8x32x2) (s₁ := S32x4x16x8x32x1) (s₂ := S32x4x16x8x32x1) 5 _ _ _ _ rfl (ix6 r j q i k 0)
    (fun b => match b with | ⟨0, _⟩ => rfl | ⟨1, _⟩ => rfl | ⟨2, _⟩ => rfl | ⟨3, _⟩ => rfl | ⟨4, _⟩ => rfl | ⟨5, _⟩ => rfl)).trans ?_
  rw [val_main_v105_apply, val_main_v103_apply]
  exact congrArg _ (funext fun a => match a with | ⟨0, _⟩ => rfl | ⟨1, _⟩ => rfl | ⟨2, _⟩ => rfl | ⟨3, _⟩ => rfl | ⟨4, _⟩ => rfl)

theorem idx_bias1 (r : Fin 32) (j : Fin 4) (q : Fin 16) (i : Fin 8) (k : Fin 32) :
    val_main_v107 (F := Ideal) (ix6 r j q i k 1) = val_main_v102 (F := Ideal) (ix5 0 j q 0 k) := by
  unfold val_main_v107
  refine (concatenate_pair_apply_right (t := S32x4x16x8x32x2) (s₁ := S32x4x16x8x32x1) (s₂ := S32x4x16x8x32x1) 5 _ _ _ _ rfl rfl (ix6 r j q i k 0)
    (fun b => match b with | ⟨0, _⟩ => (fun _ => rfl) | ⟨1, _⟩ => (fun _ => rfl) | ⟨2, _⟩ => (fun _ => rfl) | ⟨3, _⟩ => (fun _ => rfl) | ⟨4, _⟩ => (fun _ => rfl) | ⟨5, _⟩ => fun h => absurd rfl h) rfl).trans ?_
  rw [val_main_v106_apply, val_main_v104_apply]
  exact congrArg _ (funext fun a => match a with | ⟨0, _⟩ => rfl | ⟨1, _⟩ => rfl | ⟨2, _⟩ => rfl | ⟨3, _⟩ => rfl | ⟨4, _⟩ => rfl)

/-- The values' index array is the keys'. -/
theorem idx_values : val_main_v144 (F := Ideal) = val_main_v128 (F := Ideal) := rfl

/-! ## The gathers -/

/-- The gathers of the keys and values, and of the bias. -/
abbrev GK := gather_S8x32x64x4x128_S32x4x8x32x2_S8x32x4x8x32x4x128_056_12_n_n_12_4_8114128
abbrev GB := gather_S4x15x31_S32x4x16x8x32x2_S4x32x4x16x8x32_0_12_n_n_12_5_411

/-- A gather of key rows and columns at an index. -/
theorem gather_keys (x : FVec Ideal S8x32x64x4x128 .f32) (idx : IVec S32x4x8x32x2 32) (b : Fin 8) (r : Fin 32) (j : Fin 4) (i : Fin 8)
    (k : Fin 32) (h : Fin 4) (e : Fin 128) : Host.gather GK x idx (ix7 b r j i k h e)
      = x (ix5 b ⟨min (idx (ix5 r j i k 0)).toInt.toNat 31, by omega⟩ ⟨min (idx (ix5 r j i k 1)).toInt.toNat 63, by omega⟩ h e) := by
  have e0 : GatherDims.siIdx GK (ix7 b r j i k h e) ⟨0, by decide⟩ = ix5 r j i k 0 := by
    funext a
    match a with | ⟨0, _⟩ => rfl | ⟨1, _⟩ => rfl | ⟨2, _⟩ => rfl | ⟨3, _⟩ => rfl | ⟨4, _⟩ => rfl
  have e1 : GatherDims.siIdx GK (ix7 b r j i k h e) ⟨1, by decide⟩ = ix5 r j i k 1 := by
    funext a
    match a with | ⟨0, _⟩ => rfl | ⟨1, _⟩ => rfl | ⟨2, _⟩ => rfl | ⟨3, _⟩ => rfl | ⟨4, _⟩ => rfl
  unfold Host.gather
  congr 1
  funext a
  refine Fin.ext ?_
  match a with
  | ⟨0, _⟩ => show 0 + 0 + b.val = b.val; omega
  | ⟨1, _⟩ =>
    show min (idx (GatherDims.siIdx GK (ix7 b r j i k h e) ⟨0, _⟩)).toInt.toNat (32 - 1) + 0 + 0 = _
    rw [e0]; rfl
  | ⟨2, _⟩ =>
    show min (idx (GatherDims.siIdx GK (ix7 b r j i k h e) ⟨1, _⟩)).toInt.toNat (64 - 1) + 0 + 0 = _
    rw [e1]; rfl
  | ⟨3, _⟩ => show 0 + 0 + h.val = h.val; omega
  | ⟨4, _⟩ => show 0 + 0 + e.val = e.val; omega

/-- A gather of the relative bias at an index. -/
theorem gather_bias (x : FVec Ideal S4x15x31 .f32) (idx : IVec S32x4x16x8x32x2 32) (h : Fin 4) (r : Fin 32) (j : Fin 4) (q : Fin 16) (i : Fin 8)
    (k : Fin 32) : Host.gather GB x idx (ix6 h r j q i k)
      = x (ix3 h ⟨min (idx (ix6 r j q i k 0)).toInt.toNat 14, by omega⟩ ⟨min (idx (ix6 r j q i k 1)).toInt.toNat 30, by omega⟩) := by
  have e0 : GatherDims.siIdx GB (ix6 h r j q i k) ⟨0, by decide⟩ = ix6 r j q i k 0 := by
    funext a
    match a with | ⟨0, _⟩ => rfl | ⟨1, _⟩ => rfl | ⟨2, _⟩ => rfl | ⟨3, _⟩ => rfl | ⟨4, _⟩ => rfl | ⟨5, _⟩ => rfl
  have e1 : GatherDims.siIdx GB (ix6 h r j q i k) ⟨1, by decide⟩ = ix6 r j q i k 1 := by
    funext a
    match a with | ⟨0, _⟩ => rfl | ⟨1, _⟩ => rfl | ⟨2, _⟩ => rfl | ⟨3, _⟩ => rfl | ⟨4, _⟩ => rfl | ⟨5, _⟩ => rfl
  unfold Host.gather
  congr 1
  funext a
  refine Fin.ext ?_
  match a with
  | ⟨0, _⟩ => show 0 + 0 + h.val = h.val; omega
  | ⟨1, _⟩ =>
    show min (idx (GatherDims.siIdx GB (ix6 h r j q i k) ⟨0, _⟩)).toInt.toNat (15 - 1) + 0 + 0 = _
    rw [e0]; rfl
  | ⟨2, _⟩ =>
    show min (idx (GatherDims.siIdx GB (ix6 h r j q i k) ⟨1, _⟩)).toInt.toNat (31 - 1) + 0 + 0 = _
    rw [e1]; rfl

/-- The row and the column of a key of the window of query row `r` and column block `j`. -/
def keyR (r : Fin 32) (i : Fin 8) : Fin 32 := ⟨winRow r.val + i.val, by unfold winRow; omega⟩
def keyC (j : Fin 4) (k : Fin 32) : Fin 64 := ⟨keyCol j.val + k.val, by unfold keyCol; omega⟩

theorem keys_apply (x : FVec Ideal S8x32x64x4x128 .f32) (b : Fin 8) (r : Fin 32) (j : Fin 4) (i : Fin 8) (k : Fin 32) (h : Fin 4) (e : Fin 128) :
    Host.gather GK x (val_main_v128 (F := Ideal)) (ix7 b r j i k h e) = x (ix5 b (keyR r i) (keyC j k) h e) := by
  refine (gather_keys x _ b r j i k h e).trans ?_
  have h0 := tab_row r i
  have h1 := tab_col j k
  have l0 := (keyR r i).isLt
  have l1 := (keyC j k).isLt
  refine congrArg x (funext fun a => ?_)
  match a with
  | ⟨0, _⟩ => rfl
  | ⟨1, _⟩ => exact Fin.ext (by show min (val_main_v128 (F := Ideal) (ix5 r j i k 0) : BitVec 32).toInt.toNat 31 = winRow r.val + i.val; rw [idx_keys0, h0]; exact min_eq_left (Nat.le_of_lt_succ l0))
  | ⟨2, _⟩ => exact Fin.ext (by show min (val_main_v128 (F := Ideal) (ix5 r j i k 1) : BitVec 32).toInt.toNat 63 = keyCol j.val + k.val; rw [idx_keys1, h1]; exact min_eq_left (Nat.le_of_lt_succ l1))
  | ⟨3, _⟩ => rfl
  | ⟨4, _⟩ => rfl

theorem bias_apply (x1 : FVec Ideal S4x15x31 .f32) (h : Fin 4) (r : Fin 32) (j : Fin 4) (q : Fin 16) (i : Fin 8) (k : Fin 32) :
    val_main_v108 (F := Ideal) x1 (ix6 h r j q i k)
      = x1 (ix3 h ⟨min (winRow r.val + i.val + 7 - r.val) 14, by omega⟩
          ⟨relCol (16 * j.val + q.val) (keyCol j.val + k.val), by unfold relCol; omega⟩) := by
  unfold val_main_v108
  have h0 := tab_relRow r i
  have h1 := tab_relCol j q k
  rw [← idx_bias0 r j q i k] at h0
  rw [← idx_bias1 r j q i k] at h1
  generalize val_main_v107 (F := Ideal) = I at h0 h1 ⊢
  refine (gather_bias x1 I h r j q i k).trans ?_
  refine congrArg x1 (funext fun a => ?_)
  match a with
  | ⟨0, _⟩ => rfl
  | ⟨1, _⟩ => exact Fin.ext (by show min (I (ix6 r j q i k 0) : BitVec 32).toInt.toNat 14 = min _ 14; rw [h0])
  | ⟨2, _⟩ => exact Fin.ext (by show min (I (ix6 r j q i k 1) : BitVec 32).toInt.toNat 30 = _; rw [h1]; exact min_eq_left (by unfold relCol; omega))

end Cert.ReferenceIdeal.NaRef

end
-- ==== Proof.NaRefCtx.lean ====
/-
  The reference attention's queries, keys and values at an index, and its context rows: the softmax over the context
  keys, whose weighted values are the attention because a context query scores no latent key.
-/
module

public import proofs.«01_k».proof.Proof.NaRefTab
public import Idealize.ShloMosaic.Lib.KernelVsHost

@[expose] public section

noncomputable section

namespace Cert.ReferenceIdeal.NaRef

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.NaMath Cert.NaSpec
open Cert.KernelIdeal.NaBias (winRow winCol relCol)

/-! ## Queries, keys and values -/

/-- A slice of columns, split into heads, at an index. -/
theorem heads (x : FVec Ideal S8x2304x6144 .f32) (off : ℕ) (hs : S8x2304x6144.Slices ![0, 0, off] S8x2304x512)
    (hc : S8x2304x512.ShapeCasts S8x2304x4x128) (b : Fin 8) (L : Fin 2304) (h : Fin 4) (e : Fin 128) (hb : off + 128 * h.val + e.val < 6144) :
    shapeCast S8x2304x4x128 (extractStridedSlice S8x2304x512 ![0, 0, off] x hs) hc (ix4 b L h e)
      = x (ix3 b L ⟨off + 128 * h.val + e.val, hb⟩) := by
  refine (shapeCast_apply _ hc (ix4 b L h e) (ix3 b L ⟨128 * h.val + e.val, by omega⟩) ?_).trans ?_
  · rewrite [Shape.rowMajor_val_three, Shape.rowMajor_val_four]
    show (b.val * 2304 + L.val) * 512 + (128 * h.val + e.val) = ((b.val * 2304 + L.val) * 4 + h.val) * 128 + e.val
    omega
  · exact extractStridedSlice_apply ![0, 0, off] x hs _ (ix3 b L ⟨off + 128 * h.val + e.val, hb⟩) (fun a => match a with
      | ⟨0, _⟩ => by show b.val = 0 + b.val; omega
      | ⟨1, _⟩ => by show L.val = 0 + L.val; omega
      | ⟨2, _⟩ => by show off + 128 * h.val + e.val = off + (128 * h.val + e.val); omega)

section Reads
variable (x0 : FVec Ideal S8x2304x6144 .bf16)

theorem headQ (b : Fin 8) (L : Fin 2304) (h : Fin 4) (e : Fin 128) :
    val_main_v4 (F := Ideal) x0 (ix4 b L h e) = x0 (ix3 b L (colQ h e)) :=
  heads (val_main_v0 (F := Ideal) x0) 2048 _ _ b L h e (by omega)

theorem headK (b : Fin 8) (L : Fin 2304) (h : Fin 4) (e : Fin 128) :
    val_main_v7 (F := Ideal) x0 (ix4 b L h e) = x0 (ix3 b L (colK h e)) :=
  heads (val_main_v0 (F := Ideal) x0) 2560 _ _ b L h e (by omega)

theorem headV (b : Fin 8) (L : Fin 2304) (h : Fin 4) (e : Fin 128) :
    val_main_v10 (F := Ideal) x0 (ix4 b L h e) = x0 (ix3 b L (colV h e)) :=
  heads (val_main_v0 (F := Ideal) x0) 3072 _ _ b L h e (by omega)

theorem ctxQ (b : Fin 8) (k : Fin 256) (h : Fin 4) (e : Fin 128) :
    val_main_v5 (F := Ideal) x0 (ix4 b k h e) = x0 (ix3 b (pos (.inl k)) (colQ h e)) := by
  rw [val_main_v5_apply, eq_ix4 (idx_main_v5 (ix4 b k h e))]
  refine (congrArg (fun l => val_main_v4 (F := Ideal) x0 (ix4 b l h e)) (Fin.ext ?_)).trans (headQ x0 b (pos (.inl k)) h e)
  rfl

theorem ctxK (b : Fin 8) (k : Fin 256) (h : Fin 4) (e : Fin 128) :
    val_main_v8 (F := Ideal) x0 (ix4 b k h e) = x0 (ix3 b (pos (.inl k)) (colK h e)) := by
  rw [val_main_v8_apply, eq_ix4 (idx_main_v8 (ix4 b k h e))]
  refine (congrArg (fun l => val_main_v7 (F := Ideal) x0 (ix4 b l h e)) (Fin.ext ?_)).trans (headK x0 b (pos (.inl k)) h e)
  rfl

theorem ctxV (b : Fin 8) (k : Fin 256) (h : Fin 4) (e : Fin 128) :
    val_main_v11 (F := Ideal) x0 (ix4 b k h e) = value x0 b h e (.inl k) := by
  rw [val_main_v11_apply, eq_ix4 (idx_main_v11 (ix4 b k h e))]
  refine (congrArg (fun l => val_main_v10 (F := Ideal) x0 (ix4 b l h e)) (Fin.ext ?_)).trans (headV x0 b (pos (.inl k)) h e)
  rfl

/-- The position of a latent query. -/
def latPos (r : Fin 32) (j : Fin 4) (q : Fin 16) : Fin 2304 := ⟨256 + 64 * r.val + 16 * j.val + q.val, by omega⟩

theorem latQ (b : Fin 8) (r : Fin 32) (j : Fin 4) (q : Fin 16) (h : Fin 4) (e : Fin 128) :
    val_main_v109 (F := Ideal) x0 (ix6 b r j q h e) = x0 (ix3 b (latPos r j q) (colQ h e)) := by
  unfold val_main_v109
  refine (shapeCast_apply _ _ (ix6 b r j q h e) (ix4 b ⟨64 * r.val + 16 * j.val + q.val, by omega⟩ h e) ?_).trans ?_
  · rewrite [Shape.rowMajor_val_four, Shape.rowMajor_val_six]
    show ((b.val * 2048 + (64 * r.val + 16 * j.val + q.val)) * 4 + h.val) * 128 + e.val
      = ((((b.val * 32 + r.val) * 4 + j.val) * 16 + q.val) * 4 + h.val) * 128 + e.val
    omega
  rw [val_main_v6_apply, eq_ix4 (idx_main_v6 _)]
  refine (congrArg (fun l => val_main_v4 (F := Ideal) x0 (ix4 b l h e)) (Fin.ext ?_)).trans (headQ x0 b (latPos r j q) h e)
  show 256 + (64 * r.val + 16 * j.val + q.val) = 256 + 64 * r.val + 16 * j.val + q.val
  omega

/-- Latent rows split by row and column, at an index. -/
theorem grid_apply (x : FVec Ideal S8x2048x4x128 .f32) (hc : S8x2048x4x128.ShapeCasts S8x32x64x4x128) (b : Fin 8) (R : Fin 32) (C : Fin 64)
    (h : Fin 4) (e : Fin 128) : shapeCast S8x32x64x4x128 x hc (ix5 b R C h e) = x (ix4 b ⟨64 * R.val + C.val, by omega⟩ h e) := by
  refine shapeCast_apply _ hc (ix5 b R C h e) (ix4 b ⟨64 * R.val + C.val, by omega⟩ h e) ?_
  rewrite [Shape.rowMajor_val_four, Shape.rowMajor_val_five]
  show ((b.val * 2048 + (64 * R.val + C.val)) * 4 + h.val) * 128 + e.val = (((b.val * 32 + R.val) * 64 + C.val) * 4 + h.val) * 128 + e.val
  omega

theorem gridK (b : Fin 8) (R : Fin 32) (C : Fin 64) (h : Fin 4) (e : Fin 128) :
    val_main_v110 (F := Ideal) x0 (ix5 b R C h e) = x0 (ix3 b (pos (.inr (R, C))) (colK h e)) := by
  refine (grid_apply _ _ b R C h e).trans ?_
  rw [val_main_v9_apply, eq_ix4 (idx_main_v9 _)]
  refine (congrArg (fun l => val_main_v7 (F := Ideal) x0 (ix4 b l h e)) (Fin.ext ?_)).trans (headK x0 b (pos (.inr (R, C))) h e)
  show 256 + (64 * R.val + C.val) = 256 + 64 * R.val + C.val
  omega

theorem gridV (b : Fin 8) (R : Fin 32) (C : Fin 64) (h : Fin 4) (e : Fin 128) :
    val_main_v111 (F := Ideal) x0 (ix5 b R C h e) = value x0 b h e (.inr (R, C)) := by
  refine (grid_apply _ _ b R C h e).trans ?_
  rw [val_main_v12_apply, eq_ix4 (idx_main_v12 _)]
  refine (congrArg (fun l => val_main_v10 (F := Ideal) x0 (ix4 b l h e)) (Fin.ext ?_)).trans (headV x0 b (pos (.inr (R, C))) h e)
  show 256 + (64 * R.val + C.val) = 256 + 64 * R.val + C.val
  omega

end Reads

/-! ## The scale -/

theorem scale_eq : (FloatOps.hostUnary (F := Ideal) (φ := .f32) .rsqrt (FloatOps.ofBits .f32 0x43000000#32) : EReal) = scale := by
  have h : (FloatOps.ofBits (F := Ideal) .f32 0x43000000#32 : EReal) = ((128 : ℝ) : EReal) := by
    show Ideal.ofBits .f32 0x43000000#32 = _
    simp [Ideal.ofBits, Ideal.ieee, -EReal.coe_mul]
    norm_num
  rw [h]
  show (if (128 : ℝ) < 0 then (⊥ : EReal) else if (128 : ℝ) = 0 then ⊤ else ((Real.sqrt 128)⁻¹ : ℝ)) = _
  rw [if_neg (by norm_num), if_neg (by norm_num)]
  rfl

/-! ## The context rows -/

/-- A row's maximum is its supremum. -/
theorem max_row (y : FVec Ideal S8x4x256x256 .f32) (b : Fin 8) (h : Fin 4) (q : Fin 256) :
    Host.reduce FloatOps.maximumf y (constant S_ .f32 0xFF800000#32) reducesTo_S8x4x256x256_S8x4x256_d3 h_S_ (ix3 b h q)
      = ⨆ k : Fin 256, y (ix4 b h q k) := by
  have hr : S8x4x256x256.Reduces [3] S8x4x256 := by decide
  refine (congrFun (hostReduce_maximumf_eq_multiReduction y 0xFF800000#32 reducesTo_S8x4x256x256_S8x4x256_d3 h_S_ hr (by decide) rfl)
    (ix3 b h q)).trans ((Ideal.multiReduction_maximumf_single y _ hr _ _ _).trans ?_)
  rw [show (FloatOps.ofBits (F := Ideal) .f32 0xFF800000#32 : EReal) = ⊥ from Cert.KernelIdeal.NaBias.bot_eq]
  refine (fold_max (n := 256) _).trans (iSup_congr fun k => ?_)
  exact congrArg y (funext fun a => by match a with | ⟨0, _⟩ => rfl | ⟨1, _⟩ => rfl | ⟨2, _⟩ => rfl | ⟨3, _⟩ => rfl)

section Ctx
variable (x0 : FVec Ideal S8x2304x6144 .bf16) (x1 : FVec Ideal S4x15x31 .f32)

theorem ctx_score (b : Fin 8) (h : Fin 4) (q k : Fin 256) :
    val_main_v16 (F := Ideal) x0 (ix4 b h q k) = score x0 x1 b h (pos (.inl q)) (.inl k) := by
  rw [val_main_v16_apply, val_main_v13_apply, val_main_v15_apply, val_main_v14_apply, val_main_cst_apply, scale_eq]
  refine congrArg (· * scale) (Finset.sum_congr rfl fun e _ => ?_)
  rw [eq_ix4 (lidx_main_v13 (ix4 b h q k) e), eq_ix4 (ridx_main_v13 (ix4 b h q k) e)]
  exact congrArg₂ (fun x y : EReal => x * y) (ctxQ x0 b q h e) (ctxK x0 b k h e)

theorem ctx_max (b : Fin 8) (h : Fin 4) (q : Fin 256) :
    val_main_v19 (F := Ideal) x0 (ix3 b h q) = ⨆ k : Fin 256, score x0 x1 b h (pos (.inl q)) (.inl k) := by
  have hm : val_main_v17 (F := Ideal) x0 (ix3 b h q) = ⨆ k : Fin 256, score x0 x1 b h (pos (.inl q)) (.inl k) :=
    (max_row (val_main_v16 (F := Ideal) x0) b h q).trans (iSup_congr fun k => ctx_score x0 x1 b h q k)
  rw [val_main_v19_apply, hm, val_main_v18_apply, val_main_cst_1_apply]
  show max (FloatOps.ofBits (F := Ideal) .f32 0xFF800000#32 : EReal) _ = _
  rw [show (FloatOps.ofBits (F := Ideal) .f32 0xFF800000#32 : EReal) = ⊥ from Cert.KernelIdeal.NaBias.bot_eq]
  exact max_eq_right bot_le

theorem ctx_exp (b : Fin 8) (h : Fin 4) (q k : Fin 256) : val_main_v23 (F := Ideal) x0 (ix4 b h q k)
    = Ideal.exp (score x0 x1 b h (pos (.inl q)) (.inl k) - ⨆ k : Fin 256, score x0 x1 b h (pos (.inl q)) (.inl k)) := by
  rw [val_main_v23_apply, val_main_v22_apply, val_main_v21_apply, val_main_v20_apply, ctx_score x0 x1]
  refine congrArg (fun z : EReal => Ideal.exp (score x0 x1 b h (pos (.inl q)) (.inl k) - z)) ?_
  rw [eq_ix3 (idx_main_v20 _)]
  exact ctx_max x0 x1 b h q

theorem ctx_div (b : Fin 8) (h : Fin 4) (q k : Fin 256) : val_main_v27 (F := Ideal) x0 (ix4 b h q k)
    = Ideal.div (Ideal.exp (score x0 x1 b h (pos (.inl q)) (.inl k) - ⨆ k : Fin 256, score x0 x1 b h (pos (.inl q)) (.inl k)))
      (∑ k : Fin 256, Ideal.exp (score x0 x1 b h (pos (.inl q)) (.inl k) - ⨆ k : Fin 256, score x0 x1 b h (pos (.inl q)) (.inl k))) := by
  rw [val_main_v27_apply, ctx_exp x0 x1, val_main_v26_apply, val_main_v25_apply, val_main_v24_apply]
  refine congrArg (fun z : EReal => Ideal.div _ z) ?_
  have h0 : val_main_cst_2 (F := Ideal) (Shape.Idx.first h_S_) = (0 : EReal) := by
    rw [val_main_cst_2_apply]
    exact Ideal.ofBits_zero_f32
  rw [h0, zero_add]
  refine Finset.sum_congr rfl fun k _ => ?_
  rw [eq_ix4 (idx_main_v24 _ k)]
  exact ctx_exp x0 x1 b h q k

theorem ctx_out (hf : Fin' x0 x1) (b : Fin 8) (q : Fin 256) (h : Fin 4) (e : Fin 128) :
    val_main_v29 (F := Ideal) x0 (ix4 b q h e) = attn x0 x1 b (pos (.inl q)) h e := by
  rw [val_main_v29_apply, val_main_v28_apply]
  refine Eq.trans ?_ ((att_eq (fun k : Fin 256 => score x0 x1 b h (pos (.inl q)) (.inl k)) (fun k => value x0 b h e (.inl k))
    (fun k => score_ne_top x0 x1 hf b h _ _) 0 (score_ne_bot x0 x1 hf b h _ 0)).trans
    (att_comp (Sum.inl : Fin 256 → Key) Sum.inl_injective (score x0 x1 b h (pos (.inl q))) (value x0 b h e) ?_))
  · refine Finset.sum_congr rfl fun k _ => ?_
    rw [eq_ix4 (lidx_main_v28 _ k), eq_ix4 (ridx_main_v28 _ k), mul_comm]
    exact congrArg₂ (fun x y : EReal => x * y) (ctx_div x0 x1 b h q k) (ctxV x0 b k h e)
  · intro i hi
    match i with
    | .inl k => exact absurd ⟨k, rfl⟩ hi
    | .inr (R, C) => exact if_neg fun hw => by have := hw.1; have hq : (pos (.inl q)).val = q.val := rfl; omega

end Ctx

end Cert.ReferenceIdeal.NaRef

end
-- ==== Proof.NaRefScore.lean ====
/-
  The reference attention's latent rows, up to their weights: a latent query's 512 scores are those of the 8 × 32 keys
  around it and the 256 context keys.
-/
module

public import proofs.«01_k».proof.Proof.NaRefCtx

@[expose] public section

noncomputable section

namespace Cert.ReferenceIdeal.NaRef

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.NaMath Cert.NaSpec
open Cert.KernelIdeal.NaBias (winRow winCol relCol)

/-! ## The keys of a latent query -/

/-- A key among the 8 × 32 around the query, or a context key. -/
abbrev Near := (Fin 8 × Fin 32) ⊕ Fin 256

/-- Its place in the row of 512. -/
def place : Near → Fin 512
  | .inl (i, k) => ⟨32 * i.val + k.val, by omega⟩
  | .inr c => ⟨256 + c.val, by omega⟩

theorem place_bij : Function.Bijective place := by
  constructor
  · intro x y hxy
    match x, y with
    | .inl (a, b), .inl (c, d) =>
      have h : 32 * a.val + b.val = 32 * c.val + d.val := congrArg Fin.val hxy
      exact congrArg Sum.inl (Prod.ext (Fin.ext (by show a.val = c.val; omega)) (Fin.ext (by show b.val = d.val; omega)))
    | .inl (a, b), .inr c => exact absurd (show 32 * a.val + b.val = 256 + c.val from congrArg Fin.val hxy) (by omega)
    | .inr c, .inl (a, b) => exact absurd (show 256 + c.val = 32 * a.val + b.val from congrArg Fin.val hxy) (by omega)
    | .inr c, .inr d =>
      have h : 256 + c.val = 256 + d.val := congrArg Fin.val hxy
      exact congrArg Sum.inr (Fin.ext (by omega))
  · intro n
    by_cases hn : n.val < 256
    · exact ⟨.inl (⟨n.val / 32, by omega⟩, ⟨n.val % 32, by omega⟩), Fin.ext (by show 32 * (n.val / 32) + n.val % 32 = n.val; omega)⟩
    · exact ⟨.inr ⟨n.val - 256, by omega⟩, Fin.ext (by show 256 + (n.val - 256) = n.val; omega)⟩

/-- The key itself. -/
def nearKey (r : Fin 32) (j : Fin 4) : Near → Key
  | .inl (i, k) => .inr (keyR r i, keyC j k)
  | .inr c => .inl c

theorem nearKey_inj (r : Fin 32) (j : Fin 4) : Function.Injective (nearKey r j) := by
  intro x y hxy
  match x, y with
  | .inl (a, b), .inl (c, d) =>
    have h := Sum.inr.inj hxy
    have h1 : winRow r.val + a.val = winRow r.val + c.val := congrArg (fun p => p.1.val) h
    have h2 : keyCol j.val + b.val = keyCol j.val + d.val := congrArg (fun p => p.2.val) h
    exact congrArg Sum.inl (Prod.ext (Fin.ext (by show a.val = c.val; omega)) (Fin.ext (by show b.val = d.val; omega)))
  | .inl (a, b), .inr c => exact absurd hxy (by simp [nearKey])
  | .inr c, .inl (a, b) => exact absurd hxy (by simp [nearKey])
  | .inr c, .inr d => exact congrArg Sum.inr (Sum.inl.inj hxy)

theorem lat_row (r : Fin 32) (j : Fin 4) (q : Fin 16) : ((latPos r j q).val - 256) / 64 = r.val := by
  show (256 + 64 * r.val + 16 * j.val + q.val - 256) / 64 = r.val
  omega

theorem lat_col (r : Fin 32) (j : Fin 4) (q : Fin 16) : ((latPos r j q).val - 256) % 64 = 16 * j.val + q.val := by
  show (256 + 64 * r.val + 16 * j.val + q.val - 256) % 64 = 16 * j.val + q.val
  omega

variable (x0 : FVec Ideal S8x2304x6144 .bf16) (x1 : FVec Ideal S4x15x31 .f32)

/-- Every other key scores minus infinity. -/
theorem nearKey_out (b : Fin 8) (h : Fin 4) (r : Fin 32) (j : Fin 4) (q : Fin 16) (k : Key) (hk : k ∉ Set.range (nearKey r j)) :
    score x0 x1 b h (latPos r j q) k = ⊥ := by
  match k with
  | .inl k => exact absurd ⟨.inr k, rfl⟩ hk
  | .inr (R, C) =>
    refine if_neg fun hw => hk ?_
    obtain ⟨-, h1, h2, h3, h4⟩ := hw
    rw [lat_row] at h1 h2
    rw [lat_col] at h3 h4
    have hc : keyCol j.val ≤ C.val ∧ C.val < keyCol j.val + 32 := by
      unfold Cert.KernelIdeal.NaBias.winCol at h3 h4
      unfold keyCol
      omega
    refine ⟨.inl (⟨R.val - winRow r.val, by omega⟩, ⟨C.val - keyCol j.val, by omega⟩), congrArg Sum.inr (Prod.ext (Fin.ext ?_) (Fin.ext ?_))⟩
    · show winRow r.val + (R.val - winRow r.val) = R.val
      omega
    · show keyCol j.val + (C.val - keyCol j.val) = C.val
      omega

/-- The attention over the near keys is the attention. -/
theorem attn_near (hf : Fin' x0 x1) (b : Fin 8) (r : Fin 32) (j : Fin 4) (q : Fin 16) (h : Fin 4) (e : Fin 128) :
    (∑ w, Ideal.div (Ideal.exp (score x0 x1 b h (latPos r j q) (nearKey r j w) - ⨆ w, score x0 x1 b h (latPos r j q) (nearKey r j w)))
        (∑ w, Ideal.exp (score x0 x1 b h (latPos r j q) (nearKey r j w) - ⨆ w, score x0 x1 b h (latPos r j q) (nearKey r j w)))
      * value x0 b h e (nearKey r j w)) = attn x0 x1 b (latPos r j q) h e :=
  (att_eq (fun w => score x0 x1 b h (latPos r j q) (nearKey r j w)) (fun w => value x0 b h e (nearKey r j w))
    (fun w => score_ne_top x0 x1 hf b h _ _) (.inr 0) (score_ne_bot x0 x1 hf b h _ 0)).trans
    (att_comp (nearKey r j) (nearKey_inj r j) (score x0 x1 b h (latPos r j q)) (value x0 b h e) (nearKey_out x0 x1 b h r j q))

/-! ## The scores -/

theorem eq_ix7 {n0 n1 n2 n3 n4 n5 n6 : ℕ} (i : (⟨7, ![n0, n1, n2, n3, n4, n5, n6]⟩ : Shape).Idx) :
    i = ix7 (i 0) (i 1) (i 2) (i 3) (i 4) (i 5) (i 6) := by
  funext a
  match a with | ⟨0, _⟩ => rfl | ⟨1, _⟩ => rfl | ⟨2, _⟩ => rfl | ⟨3, _⟩ => rfl | ⟨4, _⟩ => rfl | ⟨5, _⟩ => rfl | ⟨6, _⟩ => rfl

/-- The scaled product of a latent query and a near key. -/
theorem near_dot (b : Fin 8) (h : Fin 4) (r : Fin 32) (j : Fin 4) (q : Fin 16) (i : Fin 8) (k : Fin 32) :
    val_main_v149 (F := Ideal) x0 (ix7 b h r j q i k) = dot x0 b h (latPos r j q) (pos (.inr (keyR r i, keyC j k))) := by
  rw [val_main_v149_apply, val_main_v147_apply, val_main_v148_apply, val_main_v146_apply, val_main_cst_32_apply, scale_eq]
  refine congrArg (· * scale) (Finset.sum_congr rfl fun e _ => ?_)
  rw [eq_ix6 (lidx_main_v147 _ e), eq_ix7 (ridx_main_v147 _ e)]
  exact congrArg₂ (fun x y : EReal => x * y) (latQ x0 b r j q h e)
    ((keys_apply (val_main_v110 (F := Ideal) x0) b r j i k h e).trans (gridK x0 b (keyR r i) (keyC j k) h e))

/-- The bias of a latent query and a near key. -/
theorem near_bias (b : Fin 8) (h : Fin 4) (r : Fin 32) (j : Fin 4) (q : Fin 16) (i : Fin 8) (k : Fin 32) :
    val_main_v151 (F := Ideal) x1 (ix7 b h r j q i k) = bias x1 h (latPos r j q).val (keyR r i).val (keyC j k).val := by
  rw [val_main_v151_apply, val_main_v150_apply, eq_ix6 (idx_main_v150 _)]
  refine (bias_apply x1 h r j q i k).trans (congrArg₂ (fun a c => x1 (ix3 h a c)) (Fin.ext ?_) (Fin.ext ?_))
  · show min (winRow r.val + i.val + 7 - r.val) 14 = min (winRow r.val + i.val + 7 - ((latPos r j q).val - 256) / 64) 14
    rw [lat_row]
  · show relCol (16 * j.val + q.val) (keyCol j.val + k.val) = relCol (((latPos r j q).val - 256) % 64) (keyCol j.val + k.val)
    rw [lat_col]

/-- The window of a latent query among the near keys. -/
theorem near_win (r : Fin 32) (j : Fin 4) (q : Fin 16) (i : Fin 8) (k : Fin 32) :
    (winCol (16 * j.val + q.val) ≤ keyCol j.val + k.val ∧ keyCol j.val + k.val < winCol (16 * j.val + q.val) + 16)
      ↔ InWin (latPos r j q).val (keyR r i).val (keyC j k).val := by
  unfold InWin
  rw [lat_row, lat_col]
  have h0 : 256 ≤ (latPos r j q).val := by show 256 ≤ 256 + 64 * r.val + 16 * j.val + q.val; omega
  have h1 : (keyR r i).val = winRow r.val + i.val := rfl
  have h2 : (keyC j k).val = keyCol j.val + k.val := rfl
  omega

theorem near_score (b : Fin 8) (h : Fin 4) (r : Fin 32) (j : Fin 4) (q : Fin 16) (i : Fin 8) (k : Fin 32) :
    val_main_v154 (F := Ideal) x0 x1 (ix7 b h r j q i k) = score x0 x1 b h (latPos r j q) (nearKey r j (.inl (i, k))) := by
  rw [val_main_v154_apply, val_main_call4_v1_apply, val_main_v153_apply, val_main_call4_v2_apply, val_main_call4_v0_apply,
    val_main_cst_33_apply, val_main_v152_apply, near_dot, near_bias, eq_ix3 (idx_main_v153 _)]
  have hw := near_win r j q i k
  show Scalar.select (val_main_v74 (F := Ideal) (ix3 j q k)) _ (FloatOps.ofBits (F := Ideal) .f32 0xFF800000#32 : EReal)
    = if InWin (latPos r j q).val (keyR r i).val (keyC j k).val then _ else ⊥
  rw [tab_win j q k, show (FloatOps.ofBits (F := Ideal) .f32 0xFF800000#32 : EReal) = ⊥ from Cert.KernelIdeal.NaBias.bot_eq]
  by_cases hc : InWin (latPos r j q).val (keyR r i).val (keyC j k).val
  · rw [if_pos (hw.mpr hc), if_pos hc]
    rfl
  · rw [if_neg (fun h => hc (hw.mp h)), if_neg hc]
    rfl

theorem far_score (b : Fin 8) (h : Fin 4) (r : Fin 32) (j : Fin 4) (q : Fin 16) (c : Fin 256) :
    val_main_v157 (F := Ideal) x0 (ix6 b h r j q c) = score x0 x1 b h (latPos r j q) (nearKey r j (.inr c)) := by
  rw [val_main_v157_apply, val_main_v155_apply, val_main_v156_apply, val_main_v146_apply, val_main_cst_32_apply, scale_eq]
  refine congrArg (· * scale) (Finset.sum_congr rfl fun e _ => ?_)
  rw [eq_ix6 (lidx_main_v155 _ e), eq_ix4 (ridx_main_v155 _ e)]
  exact congrArg₂ (fun x y : EReal => x * y) (latQ x0 b r j q h e) (ctxK x0 b c h e)

/-- The place in memory of an element of a rank-7 array. -/
theorem rowMajor_seven (d : Fin 7 → ℕ) (i : (⟨7, d⟩ : Shape).Idx) :
    ((⟨7, d⟩ : Shape).rowMajor i).val = ((((((i 0).val * d 1 + (i 1).val) * d 2 + (i 2).val) * d 3 + (i 3).val) * d 4 + (i 4).val) * d 5
      + (i 5).val) * d 6 + (i 6).val := by
  show (Shape.rowMajorPi d i).val = _
  rw [Shape.rowMajorPi_succ_val, Shape.rowMajorPi_succ_val, Shape.rowMajorPi_succ_val, Shape.rowMajorPi_succ_val, Shape.rowMajorPi_succ_val,
    Shape.rowMajorPi_succ_val, Shape.rowMajorPi_succ_val]
  simp [Shape.rowMajorPi_zero, Fin.prod_univ_succ, Nat.add_mul, Nat.mul_assoc, Nat.add_assoc]

/-- The near keys in a row of 256 are the 8 × 32 ones. -/
theorem near_place (b : Fin 8) (h : Fin 4) (r : Fin 32) (j : Fin 4) (q : Fin 16) (i : Fin 8) (k : Fin 32) (hn : 32 * i.val + k.val < 256) :
    (S8x4x32x4x16x8x32.rowMajor (ix7 b h r j q i k)).val = (S8x4x32x4x16x256.rowMajor (ix6 b h r j q ⟨32 * i.val + k.val, hn⟩)).val := by
  rw [rowMajor_seven, Shape.rowMajor_val_six]
  show (((((b.val * 4 + h.val) * 32 + r.val) * 4 + j.val) * 16 + q.val) * 8 + i.val) * 32 + k.val
    = ((((b.val * 4 + h.val) * 32 + r.val) * 4 + j.val) * 16 + q.val) * 256 + (32 * i.val + k.val)
  omega

/-- Two rows of 256 side by side, at an index. -/
theorem row_left (y z : FVec Ideal S8x4x32x4x16x256 .f32) (b : Fin 8) (h : Fin 4) (r : Fin 32) (j : Fin 4) (q : Fin 16) (n : Fin 256) :
    concatenate S8x4x32x4x16x512 5 [⟨S8x4x32x4x16x256, y⟩, ⟨S8x4x32x4x16x256, z⟩] concatenates_S8x4x32x4x16x256_S8x4x32x4x16x256_S8x4x32x4x16x512_d5
      (ix6 b h r j q (⟨n.val, by omega⟩ : Fin 512)) = y (ix6 b h r j q n) :=
  concatenate_pair_apply_left (t := S8x4x32x4x16x512) (s₁ := S8x4x32x4x16x256) (s₂ := S8x4x32x4x16x256) 5 _ _ _ _ rfl (ix6 b h r j q n)
    (fun b => match b with | ⟨0, _⟩ => rfl | ⟨1, _⟩ => rfl | ⟨2, _⟩ => rfl | ⟨3, _⟩ => rfl | ⟨4, _⟩ => rfl | ⟨5, _⟩ => rfl)

theorem row_right (y z : FVec Ideal S8x4x32x4x16x256 .f32) (b : Fin 8) (h : Fin 4) (r : Fin 32) (j : Fin 4) (q : Fin 16) (n : Fin 256) :
    concatenate S8x4x32x4x16x512 5 [⟨S8x4x32x4x16x256, y⟩, ⟨S8x4x32x4x16x256, z⟩] concatenates_S8x4x32x4x16x256_S8x4x32x4x16x256_S8x4x32x4x16x512_d5
      (ix6 b h r j q (⟨256 + n.val, by omega⟩ : Fin 512)) = z (ix6 b h r j q n) :=
  concatenate_pair_apply_right (t := S8x4x32x4x16x512) (s₁ := S8x4x32x4x16x256) (s₂ := S8x4x32x4x16x256) 5 _ _ _ _ rfl rfl (ix6 b h r j q n)
    (fun b => match b with | ⟨0, _⟩ => (fun _ => rfl) | ⟨1, _⟩ => (fun _ => rfl) | ⟨2, _⟩ => (fun _ => rfl) | ⟨3, _⟩ => (fun _ => rfl) | ⟨4, _⟩ => (fun _ => rfl) | ⟨5, _⟩ => fun h => absurd rfl h)
    (by show n.val + 256 = 256 + n.val; omega)

theorem lat_score (b : Fin 8) (h : Fin 4) (r : Fin 32) (j : Fin 4) (q : Fin 16) (w : Near) :
    val_main_v159 (F := Ideal) x0 x1 (ix6 b h r j q (place w)) = score x0 x1 b h (latPos r j q) (nearKey r j w) := by
  unfold val_main_v159
  match w with
  | .inl (i, k) =>
    refine (row_left _ _ b h r j q ⟨32 * i.val + k.val, by omega⟩).trans ?_
    unfold val_main_v158
    exact (shapeCast_apply _ _ _ (ix7 b h r j q i k) (near_place b h r j q i k _)).trans (near_score x0 x1 b h r j q i k)
  | .inr c => exact (row_right _ _ b h r j q c).trans (far_score x0 x1 b h r j q c)

end Cert.ReferenceIdeal.NaRef

end
-- ==== Proof.NaRefLat.lean ====
/-
  The reference attention's latent rows: the softmax over a latent query's 512 near keys, and the two sums of weighted
  values, over the 8 × 32 keys and over the context keys, are the attention.
-/
module

public import proofs.«01_k».proof.Proof.NaRefScore
public import Idealize.ShloMosaic.Lib.TwoAxisContraction

@[expose] public section

noncomputable section

namespace Cert.ReferenceIdeal.NaRef

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.NaMath Cert.NaSpec

/-! ## The softmax -/

/-- A row's maximum is its supremum. -/
theorem max_row6 (y : FVec Ideal S8x4x32x4x16x512 .f32) (b : Fin 8) (h : Fin 4) (r : Fin 32) (j : Fin 4) (q : Fin 16) :
    Host.reduce FloatOps.maximumf y (constant S_ .f32 0xFF800000#32) reducesTo_S8x4x32x4x16x512_S8x4x32x4x16_d5 h_S_ (ix5 b h r j q)
      = ⨆ n : Fin 512, y (ix6 b h r j q n) := by
  have hr : S8x4x32x4x16x512.Reduces [5] S8x4x32x4x16 := by decide
  refine (congrFun (hostReduce_maximumf_eq_multiReduction y 0xFF800000#32 reducesTo_S8x4x32x4x16x512_S8x4x32x4x16_d5 h_S_ hr (by decide) rfl)
    (ix5 b h r j q)).trans ((Ideal.multiReduction_maximumf_single y _ hr _ _ _).trans ?_)
  rw [show (FloatOps.ofBits (F := Ideal) .f32 0xFF800000#32 : EReal) = ⊥ from Cert.KernelIdeal.NaBias.bot_eq]
  refine (fold_max (n := 512) _).trans (iSup_congr fun k => ?_)
  exact congrArg y (funext fun a => by match a with | ⟨0, _⟩ => rfl | ⟨1, _⟩ => rfl | ⟨2, _⟩ => rfl | ⟨3, _⟩ => rfl | ⟨4, _⟩ => rfl | ⟨5, _⟩ => rfl)

/-- The near keys in their row. -/
def placeEquiv : Near ≃ Fin 512 := Equiv.ofBijective place place_bij

theorem iSup_place (g : Fin 512 → EReal) : (⨆ n, g n) = ⨆ w, g (place w) := (placeEquiv.iSup_comp (g := g)).symm
theorem sum_place (g : Fin 512 → EReal) : (∑ n, g n) = ∑ w, g (place w) := (placeEquiv.sum_comp g).symm

section Softmax
variable (x0 : FVec Ideal S8x2304x6144 .bf16) (x1 : FVec Ideal S4x15x31 .f32)
variable (b : Fin 8) (h : Fin 4) (r : Fin 32) (j : Fin 4) (q : Fin 16)

/-- A near key's weight before the division. -/
def wexp (w : Near) : EReal :=
  Ideal.exp (score x0 x1 b h (latPos r j q) (nearKey r j w) - ⨆ w, score x0 x1 b h (latPos r j q) (nearKey r j w))

theorem lat_max : val_main_v162 (F := Ideal) x0 x1 (ix5 b h r j q) = ⨆ w, score x0 x1 b h (latPos r j q) (nearKey r j w) := by
  have hm : val_main_v160 (F := Ideal) x0 x1 (ix5 b h r j q) = ⨆ w, score x0 x1 b h (latPos r j q) (nearKey r j w) :=
    (max_row6 (val_main_v159 (F := Ideal) x0 x1) b h r j q).trans
      ((iSup_place _).trans (iSup_congr fun w => lat_score x0 x1 b h r j q w))
  rw [val_main_v162_apply, hm, val_main_v161_apply, val_main_cst_35_apply]
  show max (FloatOps.ofBits (F := Ideal) .f32 0xFF800000#32 : EReal) _ = _
  rw [show (FloatOps.ofBits (F := Ideal) .f32 0xFF800000#32 : EReal) = ⊥ from Cert.KernelIdeal.NaBias.bot_eq]
  exact max_eq_right bot_le

theorem lat_exp (w : Near) : val_main_v166 (F := Ideal) x0 x1 (ix6 b h r j q (place w)) = wexp x0 x1 b h r j q w := by
  rw [val_main_v166_apply, val_main_v165_apply, val_main_v164_apply, val_main_v163_apply, lat_score x0 x1]
  refine congrArg (fun z : EReal => Ideal.exp (score x0 x1 b h (latPos r j q) (nearKey r j w) - z)) ?_
  rw [eq_ix5 (idx_main_v163 _)]
  exact lat_max x0 x1 b h r j q

theorem lat_div (w : Near) : val_main_v170 (F := Ideal) x0 x1 (ix6 b h r j q (place w))
    = Ideal.div (wexp x0 x1 b h r j q w) (∑ w, wexp x0 x1 b h r j q w) := by
  rw [val_main_v170_apply, lat_exp x0 x1, val_main_v169_apply, val_main_v168_apply, val_main_v167_apply]
  refine congrArg (fun z : EReal => Ideal.div _ z) ?_
  have h0 : val_main_cst_36 (F := Ideal) (Shape.Idx.first h_S_) = (0 : EReal) := by
    rw [val_main_cst_36_apply]
    exact Ideal.ofBits_zero_f32
  rw [h0, zero_add]
  refine (sum_place _).trans (Finset.sum_congr rfl fun w _ => ?_)
  rw [eq_ix6 (idx_main_v167 _ _)]
  exact lat_exp x0 x1 b h r j q w

end Softmax

/-! ## The weighted values -/

/-- The sum over the 8 × 32 keys at an index. -/
abbrev DV := dot_S8x32x4x8x32x4x128_S8x4x32x4x16x8x32_S8x32x4x4x128x16_34_56_6_4_0125_0231

theorem dot_values (x : FVec Ideal S8x32x4x8x32x4x128 .f32) (y : FVec Ideal S8x4x32x4x16x8x32 .f32) (b : Fin 8) (r : Fin 32) (j : Fin 4)
    (h : Fin 4) (e : Fin 128) (q : Fin 16) : Host.dotGeneral DV none x y (ix6 b r j h e q)
      = ∑ i : Fin 8, ∑ k : Fin 32, x (ix7 b r j i k h e) * y (ix7 b h r j q i k) := by
  simp only [Host.dotGeneral]
  rw [Ideal.dotGeneral_apply, sum_contr2 DV 8 32 rfl rfl rfl]
  refine Finset.sum_congr rfl fun i _ => Finset.sum_congr rfl fun k _ => ?_
  have h0 := contrEquiv2_symm_val0 DV 8 32 rfl rfl rfl (i, k)
  have h1 := contrEquiv2_symm_val1 DV 8 32 rfl rfl rfl (i, k)
  refine congrArg₂ (fun u v : EReal => u * v) (congrArg x (funext fun a => Fin.ext ?_)) (congrArg y (funext fun a => Fin.ext ?_))
  · match a with | ⟨0, _⟩ => rfl | ⟨1, _⟩ => rfl | ⟨2, _⟩ => rfl | ⟨3, _⟩ => exact h0 | ⟨4, _⟩ => exact h1 | ⟨5, _⟩ => rfl | ⟨6, _⟩ => rfl
  · match a with | ⟨0, _⟩ => rfl | ⟨1, _⟩ => rfl | ⟨2, _⟩ => rfl | ⟨3, _⟩ => rfl | ⟨4, _⟩ => rfl | ⟨5, _⟩ => exact h0 | ⟨6, _⟩ => exact h1

section Out
variable (x0 : FVec Ideal S8x2304x6144 .bf16) (x1 : FVec Ideal S4x15x31 .f32)
variable (b : Fin 8) (h : Fin 4) (r : Fin 32) (j : Fin 4) (q : Fin 16)

theorem near_value (i : Fin 8) (k : Fin 32) (e : Fin 128) :
    val_main_v145 (F := Ideal) x0 (ix7 b r j i k h e) = value x0 b h e (nearKey r j (.inl (i, k))) := by
  unfold val_main_v145
  rw [idx_values]
  exact (keys_apply (val_main_v111 (F := Ideal) x0) b r j i k h e).trans (gridV x0 b (keyR r i) (keyC j k) h e)

theorem near_weight (i : Fin 8) (k : Fin 32) : val_main_v172 (F := Ideal) x0 x1 (ix7 b h r j q i k)
    = Ideal.div (wexp x0 x1 b h r j q (.inl (i, k))) (∑ w, wexp x0 x1 b h r j q w) := by
  unfold val_main_v172
  refine (shapeCast_apply _ _ _ (ix6 b h r j q ⟨32 * i.val + k.val, by omega⟩) (near_place b h r j q i k _).symm).trans ?_
  rw [val_main_v171_apply, eq_ix6 (idx_main_v171 _)]
  refine (congrArg (fun n => val_main_v170 (F := Ideal) x0 x1 (ix6 b h r j q n)) (Fin.ext ?_)).trans (lat_div x0 x1 b h r j q (.inl (i, k)))
  rfl

theorem far_weight (c : Fin 256) : val_main_v173 (F := Ideal) x0 x1 (ix6 b h r j q c)
    = Ideal.div (wexp x0 x1 b h r j q (.inr c)) (∑ w, wexp x0 x1 b h r j q w) := by
  rw [val_main_v173_apply, eq_ix6 (idx_main_v173 _)]
  refine (congrArg (fun n => val_main_v170 (F := Ideal) x0 x1 (ix6 b h r j q n)) (Fin.ext ?_)).trans (lat_div x0 x1 b h r j q (.inr c))
  rfl

theorem near_sum (e : Fin 128) : val_main_v175 (F := Ideal) x0 x1 (ix6 b r j q h e)
    = ∑ p : Fin 8 × Fin 32, Ideal.div (wexp x0 x1 b h r j q (.inl p)) (∑ w, wexp x0 x1 b h r j q w) * value x0 b h e (nearKey r j (.inl p)) := by
  rw [val_main_v175_apply, eq_ix6 (idx_main_v175 _)]
  refine (dot_values (val_main_v145 (F := Ideal) x0) (val_main_v172 (F := Ideal) x0 x1) b r j h e q).trans ?_
  rw [Fintype.sum_prod_type]
  refine Finset.sum_congr rfl fun i _ => Finset.sum_congr rfl fun k _ => ?_
  rw [near_value, near_weight, mul_comm]

theorem far_sum (e : Fin 128) : val_main_v177 (F := Ideal) x0 x1 (ix6 b r j q h e)
    = ∑ c : Fin 256, Ideal.div (wexp x0 x1 b h r j q (.inr c)) (∑ w, wexp x0 x1 b h r j q w) * value x0 b h e (nearKey r j (.inr c)) := by
  rw [val_main_v177_apply, val_main_v176_apply]
  refine Finset.sum_congr rfl fun c _ => ?_
  rw [eq_ix4 (lidx_main_v176 _ c), eq_ix6 (ridx_main_v176 _ c), mul_comm]
  exact congrArg₂ (fun x y : EReal => x * y) (far_weight x0 x1 b h r j q c) (ctxV x0 b c h e)

theorem lat_out (hf : Fin' x0 x1) (e : Fin 128) :
    val_main_v178 (F := Ideal) x0 x1 (ix6 b r j q h e) = attn x0 x1 b (latPos r j q) h e := by
  rw [val_main_v178_apply, near_sum, far_sum, ← attn_near x0 x1 hf b r j q h e]
  exact (Fintype.sum_sum_type (fun w : Near => Ideal.div (wexp x0 x1 b h r j q w) (∑ w, wexp x0 x1 b h r j q w)
    * value x0 b h e (nearKey r j w))).symm

end Out

/-! ## The result -/

section Result
variable (x0 : FVec Ideal S8x2304x6144 .bf16) (x1 : FVec Ideal S4x15x31 .f32)

/-- Context rows above latent rows, at an index. -/
theorem rows_top (y : FVec Ideal S8x256x4x128 .f32) (z : FVec Ideal S8x2048x4x128 .f32) (b : Fin 8) (n : Fin 256) (h : Fin 4) (e : Fin 128) :
    concatenate S8x2304x4x128 1 [⟨S8x256x4x128, y⟩, ⟨S8x2048x4x128, z⟩] concatenates_S8x256x4x128_S8x2048x4x128_S8x2304x4x128_d1
      (ix4 b (⟨n.val, by omega⟩ : Fin 2304) h e) = y (ix4 b n h e) :=
  concatenate_pair_apply_left (t := S8x2304x4x128) (s₁ := S8x256x4x128) (s₂ := S8x2048x4x128) 1 _ _ _ _ rfl (ix4 b n h e)
    (fun b => match b with | ⟨0, _⟩ => rfl | ⟨1, _⟩ => rfl | ⟨2, _⟩ => rfl | ⟨3, _⟩ => rfl)

theorem rows_rest (y : FVec Ideal S8x256x4x128 .f32) (z : FVec Ideal S8x2048x4x128 .f32) (b : Fin 8) (n : Fin 2048) (h : Fin 4) (e : Fin 128) :
    concatenate S8x2304x4x128 1 [⟨S8x256x4x128, y⟩, ⟨S8x2048x4x128, z⟩] concatenates_S8x256x4x128_S8x2048x4x128_S8x2304x4x128_d1
      (ix4 b (⟨256 + n.val, by omega⟩ : Fin 2304) h e) = z (ix4 b n h e) :=
  concatenate_pair_apply_right (t := S8x2304x4x128) (s₁ := S8x256x4x128) (s₂ := S8x2048x4x128) 1 _ _ _ _ rfl rfl (ix4 b n h e)
    (fun b => match b with | ⟨0, _⟩ => (fun _ => rfl) | ⟨1, _⟩ => (fun h => absurd rfl h) | ⟨2, _⟩ => (fun _ => rfl) | ⟨3, _⟩ => (fun _ => rfl))
    (by show n.val + 256 = 256 + n.val; omega)

theorem rows_out (hf : Fin' x0 x1) (b : Fin 8) (L : Fin 2304) (h : Fin 4) (e : Fin 128) :
    val_main_v180 (F := Ideal) x0 x1 (ix4 b L h e) = attn x0 x1 b L h e := by
  unfold val_main_v180
  by_cases hL : L.val < 256
  · exact (rows_top _ _ b ⟨L.val, hL⟩ h e).trans (ctx_out x0 x1 hf b ⟨L.val, hL⟩ h e)
  · have eL : (⟨256 + (⟨L.val - 256, by omega⟩ : Fin 2048).val, by show 256 + (L.val - 256) < 2304; omega⟩ : Fin 2304) = L :=
      Fin.ext (by show 256 + (L.val - 256) = L.val; omega)
    have eP : latPos ⟨(L.val - 256) / 64, by omega⟩ ⟨(L.val - 256) % 64 / 16, by omega⟩ ⟨(L.val - 256) % 16, by omega⟩ = L :=
      Fin.ext (by show 256 + 64 * ((L.val - 256) / 64) + 16 * ((L.val - 256) % 64 / 16) + (L.val - 256) % 16 = L.val; omega)
    have hr := rows_rest (val_main_v29 (F := Ideal) x0) (val_main_v179 (F := Ideal) x0 x1) b ⟨L.val - 256, by omega⟩ h e
    have hl := lat_out x0 x1 b h ⟨(L.val - 256) / 64, by omega⟩ ⟨(L.val - 256) % 64 / 16, by omega⟩ ⟨(L.val - 256) % 16, by omega⟩ hf e
    rw [eL] at hr
    rw [eP] at hl
    refine hr.trans (Eq.trans ?_ hl)
    unfold val_main_v179
    refine shapeCast_apply _ _ _ _ ?_
    rewrite [Shape.rowMajor_val_four, Shape.rowMajor_val_six]
    show ((((b.val * 32 + (L.val - 256) / 64) * 4 + (L.val - 256) % 64 / 16) * 16 + (L.val - 256) % 16) * 4 + h.val) * 128 + e.val
      = ((b.val * 2048 + (L.val - 256)) * 4 + h.val) * 128 + e.val
    omega

theorem ix4_congr {n0 n1 n2 n3 : ℕ} {a a' : Fin n0} {b b' : Fin n1} {c c' : Fin n2} {d d' : Fin n3} (ha : a = a') (hb : b = b')
    (hc : c = c') (hd : d = d') : ix4 a b c d = ix4 a' b' c' d' := by
  rw [ha, hb, hc, hd]

theorem ref_apply (hf : Fin' x0 x1) (i : S8x2304x512.Idx) : val_main_v182 (F := Ideal) x0 x1 i
    = attn x0 x1 (i 0) (i 1) ⟨(i 2).val / 128, by have := (i 2).isLt; show (i 2).val / 128 < 4; have h2 : (i 2).val < 512 := (i 2).isLt; omega⟩
      ⟨(i 2).val % 128, by omega⟩ := by
  have h0 : (i 0).val < 8 := (i 0).isLt
  have h1 : (i 1).val < 2304 := (i 1).isLt
  have h2 : (i 2).val < 512 := (i 2).isLt
  rw [val_main_v182_apply]
  refine (val_main_v181_apply (F := Ideal) x0 x1 i).trans ?_
  rw [eq_ix4 (idx_main_v181 i)]
  refine Eq.trans ?_ (rows_out x0 x1 hf (i 0) (i 1) ⟨(i 2).val / 128, by omega⟩ ⟨(i 2).val % 128, by omega⟩)
  refine congrArg (val_main_v180 (F := Ideal) x0 x1) ?_
  refine ix4_congr (Fin.ext ?_) (Fin.ext ?_) (Fin.ext ?_) (Fin.ext ?_)
  · show (((i 0).val * 2304 + (i 1).val) * 512 + (i 2).val) / 1179648 = (i 0).val
    omega
  · show (((i 0).val * 2304 + (i 1).val) * 512 + (i 2).val) / 512 % 2304 = (i 1).val
    omega
  · show (((i 0).val * 2304 + (i 1).val) * 512 + (i 2).val) / 128 % 4 = (i 2).val / 128
    omega
  · show (((i 0).val * 2304 + (i 1).val) * 512 + (i 2).val) % 128 = (i 2).val % 128
    omega

end Result

end Cert.ReferenceIdeal.NaRef

end
-- ==== Proof.NaClaim.lean ====
/-
  The neighbourhood attention: where every argument is finite, kernel and reference end with the same attention.
-/
module

public import proofs.«01_k».proof.Defs
public import proofs.«01_k».proof.Proof.NaFrames
public import proofs.«01_k».proof.Proof.NaValue
public import proofs.«01_k».proof.Proof.NaRefLat

@[expose] public section

set_option maxRecDepth 16384

noncomputable section

namespace Cert.NaClaim

open Idealize.ShloMosaic Idealize.ShloMosaic.TcCoe Idealize.SL.Sem Idealize.ShloMosaic.ValueIdx
open Cert.NaSpec

/-- The shape relations the precondition takes. -/
theorem facts : Cert.Pre_finite.Facts := ⟨by decide, by decide⟩

/-- An extended real whose magnitude is below plus infinity is a real number. -/
theorem real_of_abs {x : EReal} (h : Ideal.cmp .olt (max x (-x)) ⊤ = 1#1) : x ≠ ⊤ ∧ x ≠ ⊥ := by
  have hlt : max x (-x) < (⊤ : EReal) := by
    by_contra hc
    simp [Ideal.cmp, hc] at h
  refine ⟨fun hx => ?_, fun hx => ?_⟩
  · rw [hx] at hlt
    simp at hlt
  · rw [hx] at hlt
    simp at hlt

/-- The literal the precondition compares with is plus infinity. -/
theorem top_bf16 : (FloatOps.ofBits (F := Ideal) .bf16 0x7F80#16 : EReal) = ⊤ := by
  show Ideal.ofBits .bf16 0x7F80#16 = _
  simp [Ideal.ofBits, Ideal.ieee, -EReal.coe_mul]

theorem top_f32 : (FloatOps.ofBits (F := Ideal) .f32 0x7F800000#32 : EReal) = ⊤ := by
  show Ideal.ofBits .f32 0x7F800000#32 = _
  simp [Ideal.ofBits, Ideal.ieee, -EReal.coe_mul]

end Cert.NaClaim

namespace Cert.KernelIdeal.RefValue

open Idealize.ShloMosaic Idealize.ShloMosaic.TcCoe Idealize.SL.Sem Idealize.ShloMosaic.ValueIdx
open Cert.NaSpec Cert.NaClaim Cert.ReferenceIdeal.NaRef Cert.ReferenceIdeal.Read

/-- Under the precondition every entry of both arguments is a real number. -/
theorem finite_args [hp : Cert.Pre_finite.Facts] (m : (ℓ : Loc Cert.KernelIdeal.nD Cert.KernelIdeal.τ Cert.KernelIdeal.sig) → Buf (Elt Ideal) ℓ)
    (hm : Pre_KernelIdeal_finite m) (c : Dev Cert.KernelIdeal.nD) : Fin' (PA m c) (BA m c) := by
  obtain ⟨h0, h1⟩ := hm c
  refine ⟨fun i => real_of_abs ?_, fun i => real_of_abs ?_⟩
  · rw [← top_bf16]
    exact congrFun h0 i
  · rw [← top_f32]
    exact congrFun h1 i

/-- Kernel and reference end with the same result. -/
theorem algebraic [hp : Cert.Pre_finite.Facts] : Cert.algebraic_KernelIdeal_ReferenceIdeal_pre_finite := by
  intro m g m' g' hpre hagree
  refine ⟨fun c => G m c, run m g, ?_⟩
  refine (θ_run Cert.ReferenceIdeal.defs _ _).mono (fun _ h c => ⟨(h c).1.trans ?_, (h c).2⟩) (Cert.ReferenceIdeal.Value.run (F := Ideal) m' g')
  obtain ⟨h0, h1⟩ := hagree c
  refine (val_main_v182_eq (F := Ideal) _).trans ?_
  refine (congrArg₂ (val_main_v182 (F := Ideal)) h0 h1).trans ?_
  exact funext fun i => ref_apply _ _ (finite_args m hpre c) i

/-- The frames under the precondition. -/
theorem frame_pre [hp : Cert.Pre_finite.Facts] : Cert.quiescent_KernelIdeal_pre_finite := fun m ρ _ => Cert.KernelIdeal.Gen.frame m ρ

theorem ref_frame_pre [hp : Cert.Pre_finite.Facts] : Cert.quiescent_ReferenceIdeal_pre_finite := fun m ρ _ => Cert.NaFrames.ref_frame m ρ trivial

end Cert.KernelIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MmIdeal.Value
public import proofs.«01_k».proof.Proof.Gen.MmRefIdeal.Run
public import proofs.«01_k».proof.Proof.Gen.MmRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.MoeUp
public import proofs.«01_k».proof.Proof.Gen.MoeUp.Skeleton
public import proofs.«01_k».proof.Proof.Gen.MoeUp.Launch
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.Gen.MoeUpRefIdeal
public import proofs.«01_k».proof.Proof.Gen.MoeUpRefIdeal.Run
public import proofs.«01_k».proof.Proof.Gen.MoeUpRefIdeal.Read
public import proofs.«01_k».proof.Proof.Gen.Pre_tiles_named
public import proofs.«01_k».proof.Proof.NaFrames
public import proofs.«01_k».proof.Proof.MergeClaim
public import proofs.«01_k».proof.Proof.MmClaim
public import proofs.«01_k».proof.Proof.UpClaim
public import proofs.«01_k».proof.Proof.DownClaim
public import proofs.«01_k».proof.Proof.MoeUpClaim
public import proofs.«01_k».proof.Proof.MoeUpLastClaim
public import proofs.«01_k».proof.Proof.Gen.MoeUpLast
public import proofs.«01_k».proof.Proof.Gen.MoeUpLast.Skeleton
public import proofs.«01_k».proof.Proof.Gen.MoeUpLast.Launch
public import proofs.«01_k».proof.Proof.Gen.MoeUpLastIdeal
public import proofs.«01_k».proof.Proof.Gen.MoeUpLastIdeal.Skeleton
public import proofs.«01_k».proof.Proof.Gen.MoeUpLastIdeal.Launch
public import proofs.«01_k».proof.Proof.Gen.MoeUpLastRefIdeal
public import proofs.«01_k».proof.Proof.Gen.MoeUpLastRefIdeal.Run
public import proofs.«01_k».proof.Proof.Gen.MoeUpLastRefIdeal.Read
public import proofs.«01_k».proof.Proof.Gen.Pre_tiles_named_last
public import proofs.«01_k».proof.Proof.Gen.MoeDown
public import proofs.«01_k».proof.Proof.Gen.MoeDown.Skeleton
public import proofs.«01_k».proof.Proof.Gen.MoeDown.Launch
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownRefIdeal
public import proofs.«01_k».proof.Proof.Gen.MoeDownRefIdeal.Run
public import proofs.«01_k».proof.Proof.Gen.MoeDownRefIdeal.Read
public import proofs.«01_k».proof.Proof.Gen.Pre_tiles_named_down
public import proofs.«01_k».proof.Proof.Gen.MoeDownLast
public import proofs.«01_k».proof.Proof.Gen.MoeDownLast.Skeleton
public import proofs.«01_k».proof.Proof.Gen.MoeDownLast.Launch
public import proofs.«01_k».proof.Proof.Gen.MoeDownLastIdeal
public import proofs.«01_k».proof.Proof.Gen.MoeDownLastIdeal.Skeleton
public import proofs.«01_k».proof.Proof.Gen.MoeDownLastIdeal.Launch
public import proofs.«01_k».proof.Proof.Gen.MoeDownLastRefIdeal
public import proofs.«01_k».proof.Proof.Gen.MoeDownLastRefIdeal.Run
public import proofs.«01_k».proof.Proof.Gen.MoeDownLastRefIdeal.Read
public import proofs.«01_k».proof.Proof.Gen.Pre_tiles_named_down_last
public import proofs.«01_k».proof.Proof.MoeDownClaim
public import proofs.«01_k».proof.Proof.MoeDownLastClaim
public import proofs.«01_k».proof.Proof.NaClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Merge.Gen.facts, Cert.MergeIdeal.Gen.facts, Cert.MergeRefIdeal.Gen.facts, Cert.Mm.Gen.facts, Cert.MmIdeal.Gen.facts, Cert.MmRefIdeal.Gen.facts, Cert.Up.Gen.facts, Cert.UpIdeal.Gen.facts, Cert.UpRefIdeal.Gen.facts, Cert.Down.Gen.facts, Cert.DownIdeal.Gen.facts, Cert.DownRefIdeal.Gen.facts, Cert.MoeUp.Gen.facts, Cert.MoeUpIdeal.Gen.facts, Cert.MoeUpRefIdeal.Gen.facts, Cert.MoeUpLast.Gen.facts, Cert.MoeUpLastIdeal.Gen.facts, Cert.MoeUpLastRefIdeal.Gen.facts, Cert.MoeDown.Gen.facts, Cert.MoeDownIdeal.Gen.facts, Cert.MoeDownRefIdeal.Gen.facts, Cert.MoeDownLast.Gen.facts, Cert.MoeDownLastIdeal.Gen.facts, Cert.MoeDownLastRefIdeal.Gen.facts, Cert.NaClaim.facts, Cert.Pre_tiles_named.Gen.facts, Cert.Pre_tiles_named_last.Gen.facts, Cert.Pre_tiles_named_down.Gen.facts, Cert.Pre_tiles_named_down_last.Gen.facts,
    Cert.NaFrames.frame,
    Cert.NaFrames.frame_ideal,
    Cert.KernelIdeal.RefValue.frame_pre (hp := Cert.NaClaim.facts),
    Cert.NaFrames.ref_frame,
    Cert.KernelIdeal.RefValue.ref_frame_pre (hp := Cert.NaClaim.facts),
    fun m ρ _ => Cert.Merge.Gen.frame m ρ,
    fun m ρ _ => Cert.MergeIdeal.Gen.frame m ρ,
    Cert.MergeIdeal.RefValue.ref_frame,
    fun m ρ _ => Cert.Mm.Gen.frame m ρ,
    fun m ρ _ => Cert.MmIdeal.Gen.frame m ρ,
    Cert.MmIdeal.RefValue.ref_frame,
    fun m ρ _ => Cert.Up.Gen.frame m ρ,
    fun m ρ _ => Cert.UpIdeal.Gen.frame m ρ,
    Cert.UpIdeal.RefValue.ref_frame,
    fun m ρ _ => Cert.Down.Gen.frame m ρ,
    fun m ρ _ => Cert.DownIdeal.Gen.frame m ρ,
    Cert.DownIdeal.RefValue.ref_frame,
    Cert.MoeUpIdeal.Hand.frame_kernel,
    Cert.MoeUpIdeal.Hand.frame_ideal,
    Cert.MoeUpIdeal.RefValue.ref_frame,
    Cert.MoeUpIdeal.RefValue.ref_frame_pre,
    Cert.MoeUpLastIdeal.Hand.frame_kernel,
    Cert.MoeUpLastIdeal.Hand.frame_ideal,
    Cert.MoeUpLastIdeal.RefValue.ref_frame,
    Cert.MoeUpLastIdeal.RefValue.ref_frame_pre,
    Cert.MoeDownIdeal.Hand.frame_kernel,
    Cert.MoeDownIdeal.Hand.frame_ideal,
    Cert.MoeDownIdeal.RefValue.ref_frame,
    Cert.MoeDownIdeal.RefValue.ref_frame_pre,
    Cert.MoeDownLastIdeal.Hand.frame_kernel,
    Cert.MoeDownLastIdeal.Hand.frame_ideal,
    Cert.MoeDownLastIdeal.RefValue.ref_frame,
    Cert.MoeDownLastIdeal.RefValue.ref_frame_pre,
    Cert.NaFrames.preserved,
    Cert.KernelIdeal.RefValue.algebraic (hp := Cert.NaClaim.facts),
    trivial,
    Cert.MergeIdeal.RefValue.algebraic,
    trivial,
    Cert.MmIdeal.RefValue.algebraic,
    trivial,
    Cert.UpIdeal.RefValue.algebraic,
    trivial,
    Cert.DownIdeal.RefValue.algebraic,
    trivial,
    Cert.MoeUpIdeal.RefValue.algebraic,
    trivial,
    Cert.MoeUpLastIdeal.RefValue.algebraic,
    trivial,
    Cert.MoeDownIdeal.RefValue.algebraic,
    trivial,
    Cert.MoeDownLastIdeal.RefValue.algebraic⟩

end Cert.Proof

end
